-- ==== Defs.lean ====
def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_GateUpWeight (m : (ℓ : Loc Cert.GateUpWeight.nD Cert.GateUpWeight.τ Cert.GateUpWeight.sig) → Buf (Elt Bits) ℓ) : Prop :=
  True

def Pre_GateUpWeightIdeal (m : (ℓ : Loc Cert.GateUpWeightIdeal.nD Cert.GateUpWeightIdeal.τ Cert.GateUpWeightIdeal.sig) → Buf (Elt Ideal) ℓ) : Prop :=
  True

def Pre_GateUpWeightRefIdeal (m : (ℓ : Loc Cert.GateUpWeightRefIdeal.nD Cert.GateUpWeightRefIdeal.τ Cert.GateUpWeightRefIdeal.sig) → Buf (Elt Ideal) ℓ) : Prop :=
  True

def Pre_FfnInput (m : (ℓ : Loc Cert.FfnInput.nD Cert.FfnInput.τ Cert.FfnInput.sig) → Buf (Elt Bits) ℓ) : Prop :=
  True

def Pre_FfnInputIdeal (m : (ℓ : Loc Cert.FfnInputIdeal.nD Cert.FfnInputIdeal.τ Cert.FfnInputIdeal.sig) → Buf (Elt Ideal) ℓ) : Prop :=
  True

def Pre_FfnInputRefIdeal (m : (ℓ : Loc Cert.FfnInputRefIdeal.nD Cert.FfnInputRefIdeal.τ Cert.FfnInputRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_InInput (m : (ℓ : Loc Cert.InInput.nD Cert.InInput.τ Cert.InInput.sig) → Buf (Elt Bits) ℓ) : Prop :=
  True

def Pre_InInputIdeal (m : (ℓ : Loc Cert.InInputIdeal.nD Cert.InInputIdeal.τ Cert.InInputIdeal.sig) → Buf (Elt Ideal) ℓ) : Prop :=
  True

def Pre_InInputRefIdeal (m : (ℓ : Loc Cert.InInputRefIdeal.nD Cert.InInputRefIdeal.τ Cert.InInputRefIdeal.sig) → Buf (Elt Ideal) ℓ) : Prop :=
  True

def Pre_MixOutInput (m : (ℓ : Loc Cert.MixOutInput.nD Cert.MixOutInput.τ Cert.MixOutInput.sig) → Buf (Elt Bits) ℓ) : Prop :=
  True

def Pre_MixOutInputIdeal (m : (ℓ : Loc Cert.MixOutInputIdeal.nD Cert.MixOutInputIdeal.τ Cert.MixOutInputIdeal.sig) → Buf (Elt Ideal) ℓ) : Prop :=
  True

def Pre_MixOutInputRefIdeal (m : (ℓ : Loc Cert.MixOutInputRefIdeal.nD Cert.MixOutInputRefIdeal.τ Cert.MixOutInputRefIdeal.sig) → Buf (Elt Ideal) ℓ) : Prop :=
  True

def Pre_MixOutWeight (m : (ℓ : Loc Cert.MixOutWeight.nD Cert.MixOutWeight.τ Cert.MixOutWeight.sig) → Buf (Elt Bits) ℓ) : Prop :=
  True

def Pre_MixOutWeightIdeal (m : (ℓ : Loc Cert.MixOutWeightIdeal.nD Cert.MixOutWeightIdeal.τ Cert.MixOutWeightIdeal.sig) → Buf (Elt Ideal) ℓ) : Prop :=
  True

def Pre_MixOutWeightRefIdeal (m : (ℓ : Loc Cert.MixOutWeightRefIdeal.nD Cert.MixOutWeightRefIdeal.τ Cert.MixOutWeightRefIdeal.sig) → Buf (Elt Ideal) ℓ) : Prop :=
  True

def Pre_MergeInput (m : (ℓ : Loc Cert.MergeInput.nD Cert.MergeInput.τ Cert.MergeInput.sig) → Buf (Elt Bits) ℓ) : Prop :=
  True

def Pre_MergeInputIdeal (m : (ℓ : Loc Cert.MergeInputIdeal.nD Cert.MergeInputIdeal.τ Cert.MergeInputIdeal.sig) → Buf (Elt Ideal) ℓ) : Prop :=
  True

def Pre_MergeInputRefIdeal (m : (ℓ : Loc Cert.MergeInputRefIdeal.nD Cert.MergeInputRefIdeal.τ Cert.MergeInputRefIdeal.sig) → Buf (Elt Ideal) ℓ) : Prop :=
  True

def Pre_MergeWeight (m : (ℓ : Loc Cert.MergeWeight.nD Cert.MergeWeight.τ Cert.MergeWeight.sig) → Buf (Elt Bits) ℓ) : Prop :=
  True

def Pre_MergeWeightIdeal (m : (ℓ : Loc Cert.MergeWeightIdeal.nD Cert.MergeWeightIdeal.τ Cert.MergeWeightIdeal.sig) → Buf (Elt Ideal) ℓ) : Prop :=
  True

def Pre_MergeWeightRefIdeal (m : (ℓ : Loc Cert.MergeWeightRefIdeal.nD Cert.MergeWeightRefIdeal.τ Cert.MergeWeightRefIdeal.sig) → Buf (Elt Ideal) ℓ) : Prop :=
  True

def Pre_GluWeight (m : (ℓ : Loc Cert.GluWeight.nD Cert.GluWeight.τ Cert.GluWeight.sig) → Buf (Elt Bits) ℓ) : Prop :=
  True

def Pre_GluWeightIdeal (m : (ℓ : Loc Cert.GluWeightIdeal.nD Cert.GluWeightIdeal.τ Cert.GluWeightIdeal.sig) → Buf (Elt Ideal) ℓ) : Prop :=
  True

def Pre_GluWeightRefIdeal (m : (ℓ : Loc Cert.GluWeightRefIdeal.nD Cert.GluWeightRefIdeal.τ Cert.GluWeightRefIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateRefIdeal (m : (ℓ : Loc Cert.FfnGateRefIdeal.nD Cert.FfnGateRefIdeal.τ Cert.FfnGateRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixMerge (m : (ℓ : Loc Cert.MixMerge.nD Cert.MixMerge.τ Cert.MixMerge.sig) → Buf (Elt Bits) ℓ) : Prop :=
  True

def Pre_MixMergeIdeal (m : (ℓ : Loc Cert.MixMergeIdeal.nD Cert.MixMergeIdeal.τ Cert.MixMergeIdeal.sig) → Buf (Elt Ideal) ℓ) : Prop :=
  True

def Pre_MixMergeRefIdeal (m : (ℓ : Loc Cert.MixMergeRefIdeal.nD Cert.MixMergeRefIdeal.τ Cert.MixMergeRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActRefIdeal (m : (ℓ : Loc Cert.FfnActRefIdeal.nD Cert.FfnActRefIdeal.τ Cert.FfnActRefIdeal.sig) → Buf (Elt Ideal) ℓ) : Prop :=
  True

def Pre_AdamwConv (m : (ℓ : Loc Cert.AdamwConv.nD Cert.AdamwConv.τ Cert.AdamwConv.sig) → Buf (Elt Bits) ℓ) : Prop :=
  True

def Pre_AdamwConvIdeal (m : (ℓ : Loc Cert.AdamwConvIdeal.nD Cert.AdamwConvIdeal.τ Cert.AdamwConvIdeal.sig) → Buf (Elt Ideal) ℓ) : Prop :=
  True

def Pre_AdamwConvRefIdeal (m : (ℓ : Loc Cert.AdamwConvRefIdeal.nD Cert.AdamwConvRefIdeal.τ Cert.AdamwConvRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_AdamwFfn (m : (ℓ : Loc Cert.AdamwFfn.nD Cert.AdamwFfn.τ Cert.AdamwFfn.sig) → Buf (Elt Bits) ℓ) : Prop :=
  True

def Pre_AdamwFfnIdeal (m : (ℓ : Loc Cert.AdamwFfnIdeal.nD Cert.AdamwFfnIdeal.τ Cert.AdamwFfnIdeal.sig) → Buf (Elt Ideal) ℓ) : Prop :=
  True

def Pre_AdamwFfnRefIdeal (m : (ℓ : Loc Cert.AdamwFfnRefIdeal.nD Cert.AdamwFfnRefIdeal.τ Cert.AdamwFfnRefIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInRefIdeal (m : (ℓ : Loc Cert.AdamwInRefIdeal.nD Cert.AdamwInRefIdeal.τ Cert.AdamwInRefIdeal.sig) → Buf (Elt Ideal) ℓ) : Prop :=
  True

def Pre_AdamwGlu (m : (ℓ : Loc Cert.AdamwGlu.nD Cert.AdamwGlu.τ Cert.AdamwGlu.sig) → Buf (Elt Bits) ℓ) : Prop :=
  True

def Pre_AdamwGluIdeal (m : (ℓ : Loc Cert.AdamwGluIdeal.nD Cert.AdamwGluIdeal.τ Cert.AdamwGluIdeal.sig) → Buf (Elt Ideal) ℓ) : Prop :=
  True

def Pre_AdamwGluRefIdeal (m : (ℓ : Loc Cert.AdamwGluRefIdeal.nD Cert.AdamwGluRefIdeal.τ Cert.AdamwGluRefIdeal.sig) → Buf (Elt Ideal) ℓ) : Prop :=
  True

def Pre_AdamwBranch (m : (ℓ : Loc Cert.AdamwBranch.nD Cert.AdamwBranch.τ Cert.AdamwBranch.sig) → Buf (Elt Bits) ℓ) : Prop :=
  True

def Pre_AdamwBranchIdeal (m : (ℓ : Loc Cert.AdamwBranchIdeal.nD Cert.AdamwBranchIdeal.τ Cert.AdamwBranchIdeal.sig) → Buf (Elt Ideal) ℓ) : Prop :=
  True

def Pre_AdamwBranchRefIdeal (m : (ℓ : Loc Cert.AdamwBranchRefIdeal.nD Cert.AdamwBranchRefIdeal.τ Cert.AdamwBranchRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_GateUpWeight [hGateUpWeight : Cert.GateUpWeight.Facts] : Prop :=
  ∀ (m : (ℓ : Loc Cert.GateUpWeight.nD Cert.GateUpWeight.τ Cert.GateUpWeight.sig) → Buf (Elt Bits) ℓ) (g : Dev Cert.GateUpWeight.nD → PrngReg), Pre_GateUpWeight m →
    θ_run (Cert.GateUpWeight.defs (F := Bits)) (onTc (τ := Cert.GateUpWeight.τ) (Cert.GateUpWeight.main (F := Bits))) ⟨m, fun _ => 0, g⟩ (fun r => (∀ c : Dev Cert.GateUpWeight.nD,
      r.2.mem ((c.tc : Thread Cert.GateUpWeight.nD Cert.GateUpWeight.τ).loc Cert.GateUpWeight.main_arg0) = m ((c.tc : Thread Cert.GateUpWeight.nD Cert.GateUpWeight.τ).loc Cert.GateUpWeight.main_arg0)
      ∧ r.2.mem ((c.tc : Thread Cert.GateUpWeight.nD Cert.GateUpWeight.τ).loc Cert.GateUpWeight.main_arg1) = m ((c.tc : Thread Cert.GateUpWeight.nD Cert.GateUpWeight.τ).loc Cert.GateUpWeight.main_arg1)
      ∧ r.2.mem ((c.tc : Thread Cert.GateUpWeight.nD Cert.GateUpWeight.τ).loc Cert.GateUpWeight.main_arg2) = m ((c.tc : Thread Cert.GateUpWeight.nD Cert.GateUpWeight.τ).loc Cert.GateUpWeight.main_arg2))
      ∧ r.2.sem = fun _ => 0)

def quiescent_GateUpWeightIdeal [hGateUpWeightIdeal : Cert.GateUpWeightIdeal.Facts] : Prop :=
  ∀ (m : (ℓ : Loc Cert.GateUpWeightIdeal.nD Cert.GateUpWeightIdeal.τ Cert.GateUpWeightIdeal.sig) → Buf (Elt Ideal) ℓ) (g : Dev Cert.GateUpWeightIdeal.nD → PrngReg), Pre_GateUpWeightIdeal m →
    θ_run (Cert.GateUpWeightIdeal.defs (F := Ideal)) (onTc (τ := Cert.GateUpWeightIdeal.τ) (Cert.GateUpWeightIdeal.main (F := Ideal))) ⟨m, fun _ => 0, g⟩ (fun r => (∀ c : Dev Cert.GateUpWeightIdeal.nD,
      r.2.mem ((c.tc : Thread Cert.GateUpWeightIdeal.nD Cert.GateUpWeightIdeal.τ).loc Cert.GateUpWeightIdeal.main_arg0) = m ((c.tc : Thread Cert.GateUpWeightIdeal.nD Cert.GateUpWeightIdeal.τ).loc Cert.GateUpWeightIdeal.main_arg0)
      ∧ r.2.mem ((c.tc : Thread Cert.GateUpWeightIdeal.nD Cert.GateUpWeightIdeal.τ).loc Cert.GateUpWeightIdeal.main_arg1) = m ((c.tc : Thread Cert.GateUpWeightIdeal.nD Cert.GateUpWeightIdeal.τ).loc Cert.GateUpWeightIdeal.main_arg1)
      ∧ r.2.mem ((c.tc : Thread Cert.GateUpWeightIdeal.nD Cert.GateUpWeightIdeal.τ).loc Cert.GateUpWeightIdeal.main_arg2) = m ((c.tc : Thread Cert.GateUpWeightIdeal.nD Cert.GateUpWeightIdeal.τ).loc Cert.GateUpWeightIdeal.main_arg2))
      ∧ r.2.sem = fun _ => 0)

def quiescent_GateUpWeightRefIdeal [hGateUpWeightRefIdeal : Cert.GateUpWeightRefIdeal.Facts] : Prop :=
  ∀ (m : (ℓ : Loc Cert.GateUpWeightRefIdeal.nD Cert.GateUpWeightRefIdeal.τ Cert.GateUpWeightRefIdeal.sig) → Buf (Elt Ideal) ℓ) (g : Dev Cert.GateUpWeightRefIdeal.nD → PrngReg), Pre_GateUpWeightRefIdeal m →
    θ_run (Cert.GateUpWeightRefIdeal.defs (F := Ideal)) (onTc (τ := Cert.GateUpWeightRefIdeal.τ) (Cert.GateUpWeightRefIdeal.main (F := Ideal))) ⟨m, fun _ => 0, g⟩ (fun r => (∀ c : Dev Cert.GateUpWeightRefIdeal.nD,
      r.2.mem ((c.tc : Thread Cert.GateUpWeightRefIdeal.nD Cert.GateUpWeightRefIdeal.τ).loc Cert.GateUpWeightRefIdeal.main_arg0) = m ((c.tc : Thread Cert.GateUpWeightRefIdeal.nD Cert.GateUpWeightRefIdeal.τ).loc Cert.GateUpWeightRefIdeal.main_arg0)
      ∧ r.2.mem ((c.tc : Thread Cert.GateUpWeightRefIdeal.nD Cert.GateUpWeightRefIdeal.τ).loc Cert.GateUpWeightRefIdeal.main_arg1) = m ((c.tc : Thread Cert.GateUpWeightRefIdeal.nD Cert.GateUpWeightRefIdeal.τ).loc Cert.GateUpWeightRefIdeal.main_arg1)
      ∧ r.2.mem ((c.tc : Thread Cert.GateUpWeightRefIdeal.nD Cert.GateUpWeightRefIdeal.τ).loc Cert.GateUpWeightRefIdeal.main_arg2) = m ((c.tc : Thread Cert.GateUpWeightRefIdeal.nD Cert.GateUpWeightRefIdeal.τ).loc Cert.GateUpWeightRefIdeal.main_arg2))
      ∧ r.2.sem = fun _ => 0)

def quiescent_FfnInput [hFfnInput : Cert.FfnInput.Facts] : Prop :=
  ∀ (m : (ℓ : Loc Cert.FfnInput.nD Cert.FfnInput.τ Cert.FfnInput.sig) → Buf (Elt Bits) ℓ) (g : Dev Cert.FfnInput.nD → PrngReg), Pre_FfnInput m →
    θ_run (Cert.FfnInput.defs (F := Bits)) (onTc (τ := Cert.FfnInput.τ) (Cert.FfnInput.main (F := Bits))) ⟨m, fun _ => 0, g⟩ (fun r => (∀ c : Dev Cert.FfnInput.nD,
      r.2.mem ((c.tc : Thread Cert.FfnInput.nD Cert.FfnInput.τ).loc Cert.FfnInput.main_arg0) = m ((c.tc : Thread Cert.FfnInput.nD Cert.FfnInput.τ).loc Cert.FfnInput.main_arg0)
      ∧ r.2.mem ((c.tc : Thread Cert.FfnInput.nD Cert.FfnInput.τ).loc Cert.FfnInput.main_arg1) = m ((c.tc : Thread Cert.FfnInput.nD Cert.FfnInput.τ).loc Cert.FfnInput.main_arg1)
      ∧ r.2.mem ((c.tc : Thread Cert.FfnInput.nD Cert.FfnInput.τ).loc Cert.FfnInput.main_arg2) = m ((c.tc : Thread Cert.FfnInput.nD Cert.FfnInput.τ).loc Cert.FfnInput.main_arg2)
      ∧ r.2.mem ((c.tc : Thread Cert.FfnInput.nD Cert.FfnInput.τ).loc Cert.FfnInput.main_arg3) = m ((c.tc : Thread Cert.FfnInput.nD Cert.FfnInput.τ).loc Cert.FfnInput.main_arg3))
      ∧ r.2.sem = fun _ => 0)

def quiescent_FfnInputIdeal [hFfnInputIdeal : Cert.FfnInputIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg), Pre_FfnInputIdeal m →
    θ_run (Cert.FfnInputIdeal.defs (F := Ideal)) (onTc (τ := Cert.FfnInputIdeal.τ) (Cert.FfnInputIdeal.main (F := Ideal))) ⟨m, fun _ => 0, g⟩ (fun r => (∀ c : Dev Cert.FfnInputIdeal.nD,
      r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
      ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
      ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
      ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3))
      ∧ r.2.sem = fun _ => 0)

def quiescent_FfnInputRefIdeal [hFfnInputRefIdeal : Cert.FfnInputRefIdeal.Facts] : Prop :=
  ∀ (m : (ℓ : Loc Cert.FfnInputRefIdeal.nD Cert.FfnInputRefIdeal.τ Cert.FfnInputRefIdeal.sig) → Buf (Elt Ideal) ℓ) (g : Dev Cert.FfnInputRefIdeal.nD → PrngReg), Pre_FfnInputRefIdeal m →
    θ_run (Cert.FfnInputRefIdeal.defs (F := Ideal)) (onTc (τ := Cert.FfnInputRefIdeal.τ) (Cert.FfnInputRefIdeal.main (F := Ideal))) ⟨m, fun _ => 0, g⟩ (fun r => (∀ c : Dev Cert.FfnInputRefIdeal.nD,
      r.2.mem ((c.tc : Thread Cert.FfnInputRefIdeal.nD Cert.FfnInputRefIdeal.τ).loc Cert.FfnInputRefIdeal.main_arg0) = m ((c.tc : Thread Cert.FfnInputRefIdeal.nD Cert.FfnInputRefIdeal.τ).loc Cert.FfnInputRefIdeal.main_arg0)
      ∧ r.2.mem ((c.tc : Thread Cert.FfnInputRefIdeal.nD Cert.FfnInputRefIdeal.τ).loc Cert.FfnInputRefIdeal.main_arg1) = m ((c.tc : Thread Cert.FfnInputRefIdeal.nD Cert.FfnInputRefIdeal.τ).loc Cert.FfnInputRefIdeal.main_arg1)
      ∧ r.2.mem ((c.tc : Thread Cert.FfnInputRefIdeal.nD Cert.FfnInputRefIdeal.τ).loc Cert.FfnInputRefIdeal.main_arg2) = m ((c.tc : Thread Cert.FfnInputRefIdeal.nD Cert.FfnInputRefIdeal.τ).loc Cert.FfnInputRefIdeal.main_arg2)
      ∧ r.2.mem ((c.tc : Thread Cert.FfnInputRefIdeal.nD Cert.FfnInputRefIdeal.τ).loc Cert.FfnInputRefIdeal.main_arg3) = m ((c.tc : Thread Cert.FfnInputRefIdeal.nD Cert.FfnInputRefIdeal.τ).loc Cert.FfnInputRefIdeal.main_arg3))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_InInput [hInInput : Cert.InInput.Facts] : Prop :=
  ∀ (m : (ℓ : Loc Cert.InInput.nD Cert.InInput.τ Cert.InInput.sig) → Buf (Elt Bits) ℓ) (g : Dev Cert.InInput.nD → PrngReg), Pre_InInput m →
    θ_run (Cert.InInput.defs (F := Bits)) (onTc (τ := Cert.InInput.τ) (Cert.InInput.main (F := Bits))) ⟨m, fun _ => 0, g⟩ (fun r => (∀ c : Dev Cert.InInput.nD,
      r.2.mem ((c.tc : Thread Cert.InInput.nD Cert.InInput.τ).loc Cert.InInput.main_arg0) = m ((c.tc : Thread Cert.InInput.nD Cert.InInput.τ).loc Cert.InInput.main_arg0)
      ∧ r.2.mem ((c.tc : Thread Cert.InInput.nD Cert.InInput.τ).loc Cert.InInput.main_arg1) = m ((c.tc : Thread Cert.InInput.nD Cert.InInput.τ).loc Cert.InInput.main_arg1))
      ∧ r.2.sem = fun _ => 0)

def quiescent_InInputIdeal [hInInputIdeal : Cert.InInputIdeal.Facts] : Prop :=
  ∀ (m : (ℓ : Loc Cert.InInputIdeal.nD Cert.InInputIdeal.τ Cert.InInputIdeal.sig) → Buf (Elt Ideal) ℓ) (g : Dev Cert.InInputIdeal.nD → PrngReg), Pre_InInputIdeal m →
    θ_run (Cert.InInputIdeal.defs (F := Ideal)) (onTc (τ := Cert.InInputIdeal.τ) (Cert.InInputIdeal.main (F := Ideal))) ⟨m, fun _ => 0, g⟩ (fun r => (∀ c : Dev Cert.InInputIdeal.nD,
      r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
      ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ r.2.sem = fun _ => 0)

def quiescent_InInputRefIdeal [hInInputRefIdeal : Cert.InInputRefIdeal.Facts] : Prop :=
  ∀ (m : (ℓ : Loc Cert.InInputRefIdeal.nD Cert.InInputRefIdeal.τ Cert.InInputRefIdeal.sig) → Buf (Elt Ideal) ℓ) (g : Dev Cert.InInputRefIdeal.nD → PrngReg), Pre_InInputRefIdeal m →
    θ_run (Cert.InInputRefIdeal.defs (F := Ideal)) (onTc (τ := Cert.InInputRefIdeal.τ) (Cert.InInputRefIdeal.main (F := Ideal))) ⟨m, fun _ => 0, g⟩ (fun r => (∀ c : Dev Cert.InInputRefIdeal.nD,
      r.2.mem ((c.tc : Thread Cert.InInputRefIdeal.nD Cert.InInputRefIdeal.τ).loc Cert.InInputRefIdeal.main_arg0) = m ((c.tc : Thread Cert.InInputRefIdeal.nD Cert.InInputRefIdeal.τ).loc Cert.InInputRefIdeal.main_arg0)
      ∧ r.2.mem ((c.tc : Thread Cert.InInputRefIdeal.nD Cert.InInputRefIdeal.τ).loc Cert.InInputRefIdeal.main_arg1) = m ((c.tc : Thread Cert.InInputRefIdeal.nD Cert.InInputRefIdeal.τ).loc Cert.InInputRefIdeal.main_arg1))
      ∧ r.2.sem = fun _ => 0)

def quiescent_MixOutInput [hMixOutInput : Cert.MixOutInput.Facts] : Prop :=
  ∀ (m : (ℓ : Loc Cert.MixOutInput.nD Cert.MixOutInput.τ Cert.MixOutInput.sig) → Buf (Elt Bits) ℓ) (g : Dev Cert.MixOutInput.nD → PrngReg), Pre_MixOutInput m →
    θ_run (Cert.MixOutInput.defs (F := Bits)) (onTc (τ := Cert.MixOutInput.τ) (Cert.MixOutInput.main (F := Bits))) ⟨m, fun _ => 0, g⟩ (fun r => (∀ c : Dev Cert.MixOutInput.nD,
      r.2.mem ((c.tc : Thread Cert.MixOutInput.nD Cert.MixOutInput.τ).loc Cert.MixOutInput.main_arg0) = m ((c.tc : Thread Cert.MixOutInput.nD Cert.MixOutInput.τ).loc Cert.MixOutInput.main_arg0)
      ∧ r.2.mem ((c.tc : Thread Cert.MixOutInput.nD Cert.MixOutInput.τ).loc Cert.MixOutInput.main_arg1) = m ((c.tc : Thread Cert.MixOutInput.nD Cert.MixOutInput.τ).loc Cert.MixOutInput.main_arg1)
      ∧ r.2.mem ((c.tc : Thread Cert.MixOutInput.nD Cert.MixOutInput.τ).loc Cert.MixOutInput.main_arg2) = m ((c.tc : Thread Cert.MixOutInput.nD Cert.MixOutInput.τ).loc Cert.MixOutInput.main_arg2)
      ∧ r.2.mem ((c.tc : Thread Cert.MixOutInput.nD Cert.MixOutInput.τ).loc Cert.MixOutInput.main_arg3) = m ((c.tc : Thread Cert.MixOutInput.nD Cert.MixOutInput.τ).loc Cert.MixOutInput.main_arg3)
      ∧ r.2.mem ((c.tc : Thread Cert.MixOutInput.nD Cert.MixOutInput.τ).loc Cert.MixOutInput.main_arg4) = m ((c.tc : Thread Cert.MixOutInput.nD Cert.MixOutInput.τ).loc Cert.MixOutInput.main_arg4))
      ∧ r.2.sem = fun _ => 0)

def quiescent_MixOutInputIdeal [hMixOutInputIdeal : Cert.MixOutInputIdeal.Facts] : Prop :=
  ∀ (m : (ℓ : Loc Cert.MixOutInputIdeal.nD Cert.MixOutInputIdeal.τ Cert.MixOutInputIdeal.sig) → Buf (Elt Ideal) ℓ) (g : Dev Cert.MixOutInputIdeal.nD → PrngReg), Pre_MixOutInputIdeal m →
    θ_run (Cert.MixOutInputIdeal.defs (F := Ideal)) (onTc (τ := Cert.MixOutInputIdeal.τ) (Cert.MixOutInputIdeal.main (F := Ideal))) ⟨m, fun _ => 0, g⟩ (fun r => (∀ c : Dev Cert.MixOutInputIdeal.nD,
      r.2.mem ((c.tc : Thread Cert.MixOutInputIdeal.nD Cert.MixOutInputIdeal.τ).loc Cert.MixOutInputIdeal.main_arg0) = m ((c.tc : Thread Cert.MixOutInputIdeal.nD Cert.MixOutInputIdeal.τ).loc Cert.MixOutInputIdeal.main_arg0)
      ∧ r.2.mem ((c.tc : Thread Cert.MixOutInputIdeal.nD Cert.MixOutInputIdeal.τ).loc Cert.MixOutInputIdeal.main_arg1) = m ((c.tc : Thread Cert.MixOutInputIdeal.nD Cert.MixOutInputIdeal.τ).loc Cert.MixOutInputIdeal.main_arg1)
      ∧ r.2.mem ((c.tc : Thread Cert.MixOutInputIdeal.nD Cert.MixOutInputIdeal.τ).loc Cert.MixOutInputIdeal.main_arg2) = m ((c.tc : Thread Cert.MixOutInputIdeal.nD Cert.MixOutInputIdeal.τ).loc Cert.MixOutInputIdeal.main_arg2)
      ∧ r.2.mem ((c.tc : Thread Cert.MixOutInputIdeal.nD Cert.MixOutInputIdeal.τ).loc Cert.MixOutInputIdeal.main_arg3) = m ((c.tc : Thread Cert.MixOutInputIdeal.nD Cert.MixOutInputIdeal.τ).loc Cert.MixOutInputIdeal.main_arg3)
      ∧ r.2.mem ((c.tc : Thread Cert.MixOutInputIdeal.nD Cert.MixOutInputIdeal.τ).loc Cert.MixOutInputIdeal.main_arg4) = m ((c.tc : Thread Cert.MixOutInputIdeal.nD Cert.MixOutInputIdeal.τ).loc Cert.MixOutInputIdeal.main_arg4))
      ∧ r.2.sem = fun _ => 0)

def quiescent_MixOutInputRefIdeal [hMixOutInputRefIdeal : Cert.MixOutInputRefIdeal.Facts] : Prop :=
  ∀ (m : (ℓ : Loc Cert.MixOutInputRefIdeal.nD Cert.MixOutInputRefIdeal.τ Cert.MixOutInputRefIdeal.sig) → Buf (Elt Ideal) ℓ) (g : Dev Cert.MixOutInputRefIdeal.nD → PrngReg), Pre_MixOutInputRefIdeal m →
    θ_run (Cert.MixOutInputRefIdeal.defs (F := Ideal)) (onTc (τ := Cert.MixOutInputRefIdeal.τ) (Cert.MixOutInputRefIdeal.main (F := Ideal))) ⟨m, fun _ => 0, g⟩ (fun r => (∀ c : Dev Cert.MixOutInputRefIdeal.nD,
      r.2.mem ((c.tc : Thread Cert.MixOutInputRefIdeal.nD Cert.MixOutInputRefIdeal.τ).loc Cert.MixOutInputRefIdeal.main_arg0) = m ((c.tc : Thread Cert.MixOutInputRefIdeal.nD Cert.MixOutInputRefIdeal.τ).loc Cert.MixOutInputRefIdeal.main_arg0)
      ∧ r.2.mem ((c.tc : Thread Cert.MixOutInputRefIdeal.nD Cert.MixOutInputRefIdeal.τ).loc Cert.MixOutInputRefIdeal.main_arg1) = m ((c.tc : Thread Cert.MixOutInputRefIdeal.nD Cert.MixOutInputRefIdeal.τ).loc Cert.MixOutInputRefIdeal.main_arg1)
      ∧ r.2.mem ((c.tc : Thread Cert.MixOutInputRefIdeal.nD Cert.MixOutInputRefIdeal.τ).loc Cert.MixOutInputRefIdeal.main_arg2) = m ((c.tc : Thread Cert.MixOutInputRefIdeal.nD Cert.MixOutInputRefIdeal.τ).loc Cert.MixOutInputRefIdeal.main_arg2)
      ∧ r.2.mem ((c.tc : Thread Cert.MixOutInputRefIdeal.nD Cert.MixOutInputRefIdeal.τ).loc Cert.MixOutInputRefIdeal.main_arg3) = m ((c.tc : Thread Cert.MixOutInputRefIdeal.nD Cert.MixOutInputRefIdeal.τ).loc Cert.MixOutInputRefIdeal.main_arg3)
      ∧ r.2.mem ((c.tc : Thread Cert.MixOutInputRefIdeal.nD Cert.MixOutInputRefIdeal.τ).loc Cert.MixOutInputRefIdeal.main_arg4) = m ((c.tc : Thread Cert.MixOutInputRefIdeal.nD Cert.MixOutInputRefIdeal.τ).loc Cert.MixOutInputRefIdeal.main_arg4))
      ∧ r.2.sem = fun _ => 0)

def quiescent_MixOutWeight [hMixOutWeight : Cert.MixOutWeight.Facts] : Prop :=
  ∀ (m : (ℓ : Loc Cert.MixOutWeight.nD Cert.MixOutWeight.τ Cert.MixOutWeight.sig) → Buf (Elt Bits) ℓ) (g : Dev Cert.MixOutWeight.nD → PrngReg), Pre_MixOutWeight m →
    θ_run (Cert.MixOutWeight.defs (F := Bits)) (onTc (τ := Cert.MixOutWeight.τ) (Cert.MixOutWeight.main (F := Bits))) ⟨m, fun _ => 0, g⟩ (fun r => (∀ c : Dev Cert.MixOutWeight.nD,
      r.2.mem ((c.tc : Thread Cert.MixOutWeight.nD Cert.MixOutWeight.τ).loc Cert.MixOutWeight.main_arg0) = m ((c.tc : Thread Cert.MixOutWeight.nD Cert.MixOutWeight.τ).loc Cert.MixOutWeight.main_arg0)
      ∧ r.2.mem ((c.tc : Thread Cert.MixOutWeight.nD Cert.MixOutWeight.τ).loc Cert.MixOutWeight.main_arg1) = m ((c.tc : Thread Cert.MixOutWeight.nD Cert.MixOutWeight.τ).loc Cert.MixOutWeight.main_arg1))
      ∧ r.2.sem = fun _ => 0)

def quiescent_MixOutWeightIdeal [hMixOutWeightIdeal : Cert.MixOutWeightIdeal.Facts] : Prop :=
  ∀ (m : (ℓ : Loc Cert.MixOutWeightIdeal.nD Cert.MixOutWeightIdeal.τ Cert.MixOutWeightIdeal.sig) → Buf (Elt Ideal) ℓ) (g : Dev Cert.MixOutWeightIdeal.nD → PrngReg), Pre_MixOutWeightIdeal m →
    θ_run (Cert.MixOutWeightIdeal.defs (F := Ideal)) (onTc (τ := Cert.MixOutWeightIdeal.τ) (Cert.MixOutWeightIdeal.main (F := Ideal))) ⟨m, fun _ => 0, g⟩ (fun r => (∀ c : Dev Cert.MixOutWeightIdeal.nD,
      r.2.mem ((c.tc : Thread Cert.MixOutWeightIdeal.nD Cert.MixOutWeightIdeal.τ).loc Cert.MixOutWeightIdeal.main_arg0) = m ((c.tc : Thread Cert.MixOutWeightIdeal.nD Cert.MixOutWeightIdeal.τ).loc Cert.MixOutWeightIdeal.main_arg0)
      ∧ r.2.mem ((c.tc : Thread Cert.MixOutWeightIdeal.nD Cert.MixOutWeightIdeal.τ).loc Cert.MixOutWeightIdeal.main_arg1) = m ((c.tc : Thread Cert.MixOutWeightIdeal.nD Cert.MixOutWeightIdeal.τ).loc Cert.MixOutWeightIdeal.main_arg1))
      ∧ r.2.sem = fun _ => 0)

def quiescent_MixOutWeightRefIdeal [hMixOutWeightRefIdeal : Cert.MixOutWeightRefIdeal.Facts] : Prop :=
  ∀ (m : (ℓ : Loc Cert.MixOutWeightRefIdeal.nD Cert.MixOutWeightRefIdeal.τ Cert.MixOutWeightRefIdeal.sig) → Buf (Elt Ideal) ℓ) (g : Dev Cert.MixOutWeightRefIdeal.nD → PrngReg), Pre_MixOutWeightRefIdeal m →
    θ_run (Cert.MixOutWeightRefIdeal.defs (F := Ideal)) (onTc (τ := Cert.MixOutWeightRefIdeal.τ) (Cert.MixOutWeightRefIdeal.main (F := Ideal))) ⟨m, fun _ => 0, g⟩ (fun r => (∀ c : Dev Cert.MixOutWeightRefIdeal.nD,
      r.2.mem ((c.tc : Thread Cert.MixOutWeightRefIdeal.nD Cert.MixOutWeightRefIdeal.τ).loc Cert.MixOutWeightRefIdeal.main_arg0) = m ((c.tc : Thread Cert.MixOutWeightRefIdeal.nD Cert.MixOutWeightRefIdeal.τ).loc Cert.MixOutWeightRefIdeal.main_arg0)
      ∧ r.2.mem ((c.tc : Thread Cert.MixOutWeightRefIdeal.nD Cert.MixOutWeightRefIdeal.τ).loc Cert.MixOutWeightRefIdeal.main_arg1) = m ((c.tc : Thread Cert.MixOutWeightRefIdeal.nD Cert.MixOutWeightRefIdeal.τ).loc Cert.MixOutWeightRefIdeal.main_arg1))
      ∧ r.2.sem = fun _ => 0)

def quiescent_MergeInput [hMergeInput : Cert.MergeInput.Facts] : Prop :=
  ∀ (m : (ℓ : Loc Cert.MergeInput.nD Cert.MergeInput.τ Cert.MergeInput.sig) → Buf (Elt Bits) ℓ) (g : Dev Cert.MergeInput.nD → PrngReg), Pre_MergeInput m →
    θ_run (Cert.MergeInput.defs (F := Bits)) (onTc (τ := Cert.MergeInput.τ) (Cert.MergeInput.main (F := Bits))) ⟨m, fun _ => 0, g⟩ (fun r => (∀ c : Dev Cert.MergeInput.nD,
      r.2.mem ((c.tc : Thread Cert.MergeInput.nD Cert.MergeInput.τ).loc Cert.MergeInput.main_arg0) = m ((c.tc : Thread Cert.MergeInput.nD Cert.MergeInput.τ).loc Cert.MergeInput.main_arg0)
      ∧ r.2.mem ((c.tc : Thread Cert.MergeInput.nD Cert.MergeInput.τ).loc Cert.MergeInput.main_arg1) = m ((c.tc : Thread Cert.MergeInput.nD Cert.MergeInput.τ).loc Cert.MergeInput.main_arg1)
      ∧ r.2.mem ((c.tc : Thread Cert.MergeInput.nD Cert.MergeInput.τ).loc Cert.MergeInput.main_arg2) = m ((c.tc : Thread Cert.MergeInput.nD Cert.MergeInput.τ).loc Cert.MergeInput.main_arg2)
      ∧ r.2.mem ((c.tc : Thread Cert.MergeInput.nD Cert.MergeInput.τ).loc Cert.MergeInput.main_arg3) = m ((c.tc : Thread Cert.MergeInput.nD Cert.MergeInput.τ).loc Cert.MergeInput.main_arg3)
      ∧ r.2.mem ((c.tc : Thread Cert.MergeInput.nD Cert.MergeInput.τ).loc Cert.MergeInput.main_arg4) = m ((c.tc : Thread Cert.MergeInput.nD Cert.MergeInput.τ).loc Cert.MergeInput.main_arg4)
      ∧ r.2.mem ((c.tc : Thread Cert.MergeInput.nD Cert.MergeInput.τ).loc Cert.MergeInput.main_arg5) = m ((c.tc : Thread Cert.MergeInput.nD Cert.MergeInput.τ).loc Cert.MergeInput.main_arg5))
      ∧ r.2.sem = fun _ => 0)

def quiescent_MergeInputIdeal [hMergeInputIdeal : Cert.MergeInputIdeal.Facts] : Prop :=
  ∀ (m : (ℓ : Loc Cert.MergeInputIdeal.nD Cert.MergeInputIdeal.τ Cert.MergeInputIdeal.sig) → Buf (Elt Ideal) ℓ) (g : Dev Cert.MergeInputIdeal.nD → PrngReg), Pre_MergeInputIdeal m →
    θ_run (Cert.MergeInputIdeal.defs (F := Ideal)) (onTc (τ := Cert.MergeInputIdeal.τ) (Cert.MergeInputIdeal.main (F := Ideal))) ⟨m, fun _ => 0, g⟩ (fun r => (∀ c : Dev Cert.MergeInputIdeal.nD,
      r.2.mem ((c.tc : Thread Cert.MergeInputIdeal.nD Cert.MergeInputIdeal.τ).loc Cert.MergeInputIdeal.main_arg0) = m ((c.tc : Thread Cert.MergeInputIdeal.nD Cert.MergeInputIdeal.τ).loc Cert.MergeInputIdeal.main_arg0)
      ∧ r.2.mem ((c.tc : Thread Cert.MergeInputIdeal.nD Cert.MergeInputIdeal.τ).loc Cert.MergeInputIdeal.main_arg1) = m ((c.tc : Thread Cert.MergeInputIdeal.nD Cert.MergeInputIdeal.τ).loc Cert.MergeInputIdeal.main_arg1)
      ∧ r.2.mem ((c.tc : Thread Cert.MergeInputIdeal.nD Cert.MergeInputIdeal.τ).loc Cert.MergeInputIdeal.main_arg2) = m ((c.tc : Thread Cert.MergeInputIdeal.nD Cert.MergeInputIdeal.τ).loc Cert.MergeInputIdeal.main_arg2)
      ∧ r.2.mem ((c.tc : Thread Cert.MergeInputIdeal.nD Cert.MergeInputIdeal.τ).loc Cert.MergeInputIdeal.main_arg3) = m ((c.tc : Thread Cert.MergeInputIdeal.nD Cert.MergeInputIdeal.τ).loc Cert.MergeInputIdeal.main_arg3)
      ∧ r.2.mem ((c.tc : Thread Cert.MergeInputIdeal.nD Cert.MergeInputIdeal.τ).loc Cert.MergeInputIdeal.main_arg4) = m ((c.tc : Thread Cert.MergeInputIdeal.nD Cert.MergeInputIdeal.τ).loc Cert.MergeInputIdeal.main_arg4)
      ∧ r.2.mem ((c.tc : Thread Cert.MergeInputIdeal.nD Cert.MergeInputIdeal.τ).loc Cert.MergeInputIdeal.main_arg5) = m ((c.tc : Thread Cert.MergeInputIdeal.nD Cert.MergeInputIdeal.τ).loc Cert.MergeInputIdeal.main_arg5))
      ∧ r.2.sem = fun _ => 0)

def quiescent_MergeInputRefIdeal [hMergeInputRefIdeal : Cert.MergeInputRefIdeal.Facts] : Prop :=
  ∀ (m : (ℓ : Loc Cert.MergeInputRefIdeal.nD Cert.MergeInputRefIdeal.τ Cert.MergeInputRefIdeal.sig) → Buf (Elt Ideal) ℓ) (g : Dev Cert.MergeInputRefIdeal.nD → PrngReg), Pre_MergeInputRefIdeal m →
    θ_run (Cert.MergeInputRefIdeal.defs (F := Ideal)) (onTc (τ := Cert.MergeInputRefIdeal.τ) (Cert.MergeInputRefIdeal.main (F := Ideal))) ⟨m, fun _ => 0, g⟩ (fun r => (∀ c : Dev Cert.MergeInputRefIdeal.nD,
      r.2.mem ((c.tc : Thread Cert.MergeInputRefIdeal.nD Cert.MergeInputRefIdeal.τ).loc Cert.MergeInputRefIdeal.main_arg0) = m ((c.tc : Thread Cert.MergeInputRefIdeal.nD Cert.MergeInputRefIdeal.τ).loc Cert.MergeInputRefIdeal.main_arg0)
      ∧ r.2.mem ((c.tc : Thread Cert.MergeInputRefIdeal.nD Cert.MergeInputRefIdeal.τ).loc Cert.MergeInputRefIdeal.main_arg1) = m ((c.tc : Thread Cert.MergeInputRefIdeal.nD Cert.MergeInputRefIdeal.τ).loc Cert.MergeInputRefIdeal.main_arg1)
      ∧ r.2.mem ((c.tc : Thread Cert.MergeInputRefIdeal.nD Cert.MergeInputRefIdeal.τ).loc Cert.MergeInputRefIdeal.main_arg2) = m ((c.tc : Thread Cert.MergeInputRefIdeal.nD Cert.MergeInputRefIdeal.τ).loc Cert.MergeInputRefIdeal.main_arg2)
      ∧ r.2.mem ((c.tc : Thread Cert.MergeInputRefIdeal.nD Cert.MergeInputRefIdeal.τ).loc Cert.MergeInputRefIdeal.main_arg3) = m ((c.tc : Thread Cert.MergeInputRefIdeal.nD Cert.MergeInputRefIdeal.τ).loc Cert.MergeInputRefIdeal.main_arg3)
      ∧ r.2.mem ((c.tc : Thread Cert.MergeInputRefIdeal.nD Cert.MergeInputRefIdeal.τ).loc Cert.MergeInputRefIdeal.main_arg4) = m ((c.tc : Thread Cert.MergeInputRefIdeal.nD Cert.MergeInputRefIdeal.τ).loc Cert.MergeInputRefIdeal.main_arg4)
      ∧ r.2.mem ((c.tc : Thread Cert.MergeInputRefIdeal.nD Cert.MergeInputRefIdeal.τ).loc Cert.MergeInputRefIdeal.main_arg5) = m ((c.tc : Thread Cert.MergeInputRefIdeal.nD Cert.MergeInputRefIdeal.τ).loc Cert.MergeInputRefIdeal.main_arg5))
      ∧ r.2.sem = fun _ => 0)

def quiescent_MergeWeight [hMergeWeight : Cert.MergeWeight.Facts] : Prop :=
  ∀ (m : (ℓ : Loc Cert.MergeWeight.nD Cert.MergeWeight.τ Cert.MergeWeight.sig) → Buf (Elt Bits) ℓ) (g : Dev Cert.MergeWeight.nD → PrngReg), Pre_MergeWeight m →
    θ_run (Cert.MergeWeight.defs (F := Bits)) (onTc (τ := Cert.MergeWeight.τ) (Cert.MergeWeight.main (F := Bits))) ⟨m, fun _ => 0, g⟩ (fun r => (∀ c : Dev Cert.MergeWeight.nD,
      r.2.mem ((c.tc : Thread Cert.MergeWeight.nD Cert.MergeWeight.τ).loc Cert.MergeWeight.main_arg0) = m ((c.tc : Thread Cert.MergeWeight.nD Cert.MergeWeight.τ).loc Cert.MergeWeight.main_arg0)
      ∧ r.2.mem ((c.tc : Thread Cert.MergeWeight.nD Cert.MergeWeight.τ).loc Cert.MergeWeight.main_arg1) = m ((c.tc : Thread Cert.MergeWeight.nD Cert.MergeWeight.τ).loc Cert.MergeWeight.main_arg1)
      ∧ r.2.mem ((c.tc : Thread Cert.MergeWeight.nD Cert.MergeWeight.τ).loc Cert.MergeWeight.main_arg2) = m ((c.tc : Thread Cert.MergeWeight.nD Cert.MergeWeight.τ).loc Cert.MergeWeight.main_arg2)
      ∧ r.2.mem ((c.tc : Thread Cert.MergeWeight.nD Cert.MergeWeight.τ).loc Cert.MergeWeight.main_arg3) = m ((c.tc : Thread Cert.MergeWeight.nD Cert.MergeWeight.τ).loc Cert.MergeWeight.main_arg3))
      ∧ r.2.sem = fun _ => 0)

def quiescent_MergeWeightIdeal [hMergeWeightIdeal : Cert.MergeWeightIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg), Pre_MergeWeightIdeal m →
    θ_run (Cert.MergeWeightIdeal.defs (F := Ideal)) (onTc (τ := Cert.MergeWeightIdeal.τ) (Cert.MergeWeightIdeal.main (F := Ideal))) ⟨m, fun _ => 0, g⟩ (fun r => (∀ c : Dev Cert.MergeWeightIdeal.nD,
      r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
      ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1)
      ∧ r.2.mem ((c.tc : Thread Cert.MergeWeightIdeal.nD Cert.MergeWeightIdeal.τ).loc Cert.MergeWeightIdeal.main_arg2) = m ((c.tc : Thread Cert.MergeWeightIdeal.nD Cert.MergeWeightIdeal.τ).loc Cert.MergeWeightIdeal.main_arg2)
      ∧ r.2.mem ((c.tc : Thread Cert.MergeWeightIdeal.nD Cert.MergeWeightIdeal.τ).loc Cert.MergeWeightIdeal.main_arg3) = m ((c.tc : Thread Cert.MergeWeightIdeal.nD Cert.MergeWeightIdeal.τ).loc Cert.MergeWeightIdeal.main_arg3))
      ∧ r.2.sem = fun _ => 0)

def quiescent_MergeWeightRefIdeal [hMergeWeightRefIdeal : Cert.MergeWeightRefIdeal.Facts] : Prop :=
  ∀ (m : (ℓ : Loc Cert.MergeWeightRefIdeal.nD Cert.MergeWeightRefIdeal.τ Cert.MergeWeightRefIdeal.sig) → Buf (Elt Ideal) ℓ) (g : Dev Cert.MergeWeightRefIdeal.nD → PrngReg), Pre_MergeWeightRefIdeal m →
    θ_run (Cert.MergeWeightRefIdeal.defs (F := Ideal)) (onTc (τ := Cert.MergeWeightRefIdeal.τ) (Cert.MergeWeightRefIdeal.main (F := Ideal))) ⟨m, fun _ => 0, g⟩ (fun r => (∀ c : Dev Cert.MergeWeightRefIdeal.nD,
      r.2.mem ((c.tc : Thread Cert.MergeWeightRefIdeal.nD Cert.MergeWeightRefIdeal.τ).loc Cert.MergeWeightRefIdeal.main_arg0) = m ((c.tc : Thread Cert.MergeWeightRefIdeal.nD Cert.MergeWeightRefIdeal.τ).loc Cert.MergeWeightRefIdeal.main_arg0)
      ∧ r.2.mem ((c.tc : Thread Cert.MergeWeightRefIdeal.nD Cert.MergeWeightRefIdeal.τ).loc Cert.MergeWeightRefIdeal.main_arg1) = m ((c.tc : Thread Cert.MergeWeightRefIdeal.nD Cert.MergeWeightRefIdeal.τ).loc Cert.MergeWeightRefIdeal.main_arg1)
      ∧ r.2.mem ((c.tc : Thread Cert.MergeWeightRefIdeal.nD Cert.MergeWeightRefIdeal.τ).loc Cert.MergeWeightRefIdeal.main_arg2) = m ((c.tc : Thread Cert.MergeWeightRefIdeal.nD Cert.MergeWeightRefIdeal.τ).loc Cert.MergeWeightRefIdeal.main_arg2)
      ∧ r.2.mem ((c.tc : Thread Cert.MergeWeightRefIdeal.nD Cert.MergeWeightRefIdeal.τ).loc Cert.MergeWeightRefIdeal.main_arg3) = m ((c.tc : Thread Cert.MergeWeightRefIdeal.nD Cert.MergeWeightRefIdeal.τ).loc Cert.MergeWeightRefIdeal.main_arg3))
      ∧ r.2.sem = fun _ => 0)

def quiescent_GluWeight [hGluWeight : Cert.GluWeight.Facts] : Prop :=
  ∀ (m : (ℓ : Loc Cert.GluWeight.nD Cert.GluWeight.τ Cert.GluWeight.sig) → Buf (Elt Bits) ℓ) (g : Dev Cert.GluWeight.nD → PrngReg), Pre_GluWeight m →
    θ_run (Cert.GluWeight.defs (F := Bits)) (onTc (τ := Cert.GluWeight.τ) (Cert.GluWeight.main (F := Bits))) ⟨m, fun _ => 0, g⟩ (fun r => (∀ c : Dev Cert.GluWeight.nD,
      r.2.mem ((c.tc : Thread Cert.GluWeight.nD Cert.GluWeight.τ).loc Cert.GluWeight.main_arg0) = m ((c.tc : Thread Cert.GluWeight.nD Cert.GluWeight.τ).loc Cert.GluWeight.main_arg0)
      ∧ r.2.mem ((c.tc : Thread Cert.GluWeight.nD Cert.GluWeight.τ).loc Cert.GluWeight.main_arg1) = m ((c.tc : Thread Cert.GluWeight.nD Cert.GluWeight.τ).loc Cert.GluWeight.main_arg1))
      ∧ r.2.sem = fun _ => 0)

def quiescent_GluWeightIdeal [hGluWeightIdeal : Cert.GluWeightIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg), Pre_GluWeightIdeal m →
    θ_run (Cert.GluWeightIdeal.defs (F := Ideal)) (onTc (τ := Cert.GluWeightIdeal.τ) (Cert.GluWeightIdeal.main (F := Ideal))) ⟨m, fun _ => 0, g⟩ (fun r => (∀ c : Dev Cert.GluWeightIdeal.nD,
      r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0)
      ∧ r.2.mem ((c.tc : Thread Cert.GluWeightIdeal.nD Cert.GluWeightIdeal.τ).loc Cert.GluWeightIdeal.main_arg1) = m ((c.tc : Thread Cert.GluWeightIdeal.nD Cert.GluWeightIdeal.τ).loc Cert.GluWeightIdeal.main_arg1))
      ∧ r.2.sem = fun _ => 0)

def quiescent_GluWeightRefIdeal [hGluWeightRefIdeal : Cert.GluWeightRefIdeal.Facts] : Prop :=
  ∀ (m : (ℓ : Loc Cert.GluWeightRefIdeal.nD Cert.GluWeightRefIdeal.τ Cert.GluWeightRefIdeal.sig) → Buf (Elt Ideal) ℓ) (g : Dev Cert.GluWeightRefIdeal.nD → PrngReg), Pre_GluWeightRefIdeal m →
    θ_run (Cert.GluWeightRefIdeal.defs (F := Ideal)) (onTc (τ := Cert.GluWeightRefIdeal.τ) (Cert.GluWeightRefIdeal.main (F := Ideal))) ⟨m, fun _ => 0, g⟩ (fun r => (∀ c : Dev Cert.GluWeightRefIdeal.nD,
      r.2.mem ((c.tc : Thread Cert.GluWeightRefIdeal.nD Cert.GluWeightRefIdeal.τ).loc Cert.GluWeightRefIdeal.main_arg0) = m ((c.tc : Thread Cert.GluWeightRefIdeal.nD Cert.GluWeightRefIdeal.τ).loc Cert.GluWeightRefIdeal.main_arg0)
      ∧ r.2.mem ((c.tc : Thread Cert.GluWeightRefIdeal.nD Cert.GluWeightRefIdeal.τ).loc Cert.GluWeightRefIdeal.main_arg1) = m ((c.tc : Thread Cert.GluWeightRefIdeal.nD Cert.GluWeightRefIdeal.τ).loc Cert.GluWeightRefIdeal.main_arg1))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateRefIdeal [hFfnGateRefIdeal : Cert.FfnGateRefIdeal.Facts] : Prop :=
  ∀ (m : (ℓ : Loc Cert.FfnGateRefIdeal.nD Cert.FfnGateRefIdeal.τ Cert.FfnGateRefIdeal.sig) → Buf (Elt Ideal) ℓ) (g : Dev Cert.FfnGateRefIdeal.nD → PrngReg), Pre_FfnGateRefIdeal m →
    θ_run (Cert.FfnGateRefIdeal.defs (F := Ideal)) (onTc (τ := Cert.FfnGateRefIdeal.τ) (Cert.FfnGateRefIdeal.main (F := Ideal))) ⟨m, fun _ => 0, g⟩ (fun r => (∀ c : Dev Cert.FfnGateRefIdeal.nD,
      r.2.mem ((c.tc : Thread Cert.FfnGateRefIdeal.nD Cert.FfnGateRefIdeal.τ).loc Cert.FfnGateRefIdeal.main_arg0) = m ((c.tc : Thread Cert.FfnGateRefIdeal.nD Cert.FfnGateRefIdeal.τ).loc Cert.FfnGateRefIdeal.main_arg0)
      ∧ r.2.mem ((c.tc : Thread Cert.FfnGateRefIdeal.nD Cert.FfnGateRefIdeal.τ).loc Cert.FfnGateRefIdeal.main_arg1) = m ((c.tc : Thread Cert.FfnGateRefIdeal.nD Cert.FfnGateRefIdeal.τ).loc Cert.FfnGateRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_MixMerge [hMixMerge : Cert.MixMerge.Facts] : Prop :=
  ∀ (m : (ℓ : Loc Cert.MixMerge.nD Cert.MixMerge.τ Cert.MixMerge.sig) → Buf (Elt Bits) ℓ) (g : Dev Cert.MixMerge.nD → PrngReg), Pre_MixMerge m →
    θ_run (Cert.MixMerge.defs (F := Bits)) (onTc (τ := Cert.MixMerge.τ) (Cert.MixMerge.main (F := Bits))) ⟨m, fun _ => 0, g⟩ (fun r => (∀ c : Dev Cert.MixMerge.nD,
      r.2.mem ((c.tc : Thread Cert.MixMerge.nD Cert.MixMerge.τ).loc Cert.MixMerge.main_arg0) = m ((c.tc : Thread Cert.MixMerge.nD Cert.MixMerge.τ).loc Cert.MixMerge.main_arg0)
      ∧ r.2.mem ((c.tc : Thread Cert.MixMerge.nD Cert.MixMerge.τ).loc Cert.MixMerge.main_arg1) = m ((c.tc : Thread Cert.MixMerge.nD Cert.MixMerge.τ).loc Cert.MixMerge.main_arg1)
      ∧ r.2.mem ((c.tc : Thread Cert.MixMerge.nD Cert.MixMerge.τ).loc Cert.MixMerge.main_arg2) = m ((c.tc : Thread Cert.MixMerge.nD Cert.MixMerge.τ).loc Cert.MixMerge.main_arg2)
      ∧ r.2.mem ((c.tc : Thread Cert.MixMerge.nD Cert.MixMerge.τ).loc Cert.MixMerge.main_arg3) = m ((c.tc : Thread Cert.MixMerge.nD Cert.MixMerge.τ).loc Cert.MixMerge.main_arg3)
      ∧ r.2.mem ((c.tc : Thread Cert.MixMerge.nD Cert.MixMerge.τ).loc Cert.MixMerge.main_arg4) = m ((c.tc : Thread Cert.MixMerge.nD Cert.MixMerge.τ).loc Cert.MixMerge.main_arg4))
      ∧ r.2.sem = fun _ => 0)

def quiescent_MixMergeIdeal [hMixMergeIdeal : Cert.MixMergeIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg), Pre_MixMergeIdeal m →
    θ_run (Cert.MixMergeIdeal.defs (F := Ideal)) (onTc (τ := Cert.MixMergeIdeal.τ) (Cert.MixMergeIdeal.main (F := Ideal))) ⟨m, fun _ => 0, g⟩ (fun r => (∀ c : Dev Cert.MixMergeIdeal.nD,
      r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
      ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
      ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
      ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
      ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4))
      ∧ r.2.sem = fun _ => 0)

def quiescent_MixMergeRefIdeal [hMixMergeRefIdeal : Cert.MixMergeRefIdeal.Facts] : Prop :=
  ∀ (m : (ℓ : Loc Cert.MixMergeRefIdeal.nD Cert.MixMergeRefIdeal.τ Cert.MixMergeRefIdeal.sig) → Buf (Elt Ideal) ℓ) (g : Dev Cert.MixMergeRefIdeal.nD → PrngReg), Pre_MixMergeRefIdeal m →
    θ_run (Cert.MixMergeRefIdeal.defs (F := Ideal)) (onTc (τ := Cert.MixMergeRefIdeal.τ) (Cert.MixMergeRefIdeal.main (F := Ideal))) ⟨m, fun _ => 0, g⟩ (fun r => (∀ c : Dev Cert.MixMergeRefIdeal.nD,
      r.2.mem ((c.tc : Thread Cert.MixMergeRefIdeal.nD Cert.MixMergeRefIdeal.τ).loc Cert.MixMergeRefIdeal.main_arg0) = m ((c.tc : Thread Cert.MixMergeRefIdeal.nD Cert.MixMergeRefIdeal.τ).loc Cert.MixMergeRefIdeal.main_arg0)
      ∧ r.2.mem ((c.tc : Thread Cert.MixMergeRefIdeal.nD Cert.MixMergeRefIdeal.τ).loc Cert.MixMergeRefIdeal.main_arg1) = m ((c.tc : Thread Cert.MixMergeRefIdeal.nD Cert.MixMergeRefIdeal.τ).loc Cert.MixMergeRefIdeal.main_arg1)
      ∧ r.2.mem ((c.tc : Thread Cert.MixMergeRefIdeal.nD Cert.MixMergeRefIdeal.τ).loc Cert.MixMergeRefIdeal.main_arg2) = m ((c.tc : Thread Cert.MixMergeRefIdeal.nD Cert.MixMergeRefIdeal.τ).loc Cert.MixMergeRefIdeal.main_arg2)
      ∧ r.2.mem ((c.tc : Thread Cert.MixMergeRefIdeal.nD Cert.MixMergeRefIdeal.τ).loc Cert.MixMergeRefIdeal.main_arg3) = m ((c.tc : Thread Cert.MixMergeRefIdeal.nD Cert.MixMergeRefIdeal.τ).loc Cert.MixMergeRefIdeal.main_arg3)
      ∧ r.2.mem ((c.tc : Thread Cert.MixMergeRefIdeal.nD Cert.MixMergeRefIdeal.τ).loc Cert.MixMergeRefIdeal.main_arg4) = m ((c.tc : Thread Cert.MixMergeRefIdeal.nD Cert.MixMergeRefIdeal.τ).loc Cert.MixMergeRefIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3))
      ∧ r.2.sem = fun _ => 0)

def quiescent_AdamwConv [hAdamwConv : Cert.AdamwConv.Facts] : Prop :=
  ∀ (m : (ℓ : Loc Cert.AdamwConv.nD Cert.AdamwConv.τ Cert.AdamwConv.sig) → Buf (Elt Bits) ℓ) (g : Dev Cert.AdamwConv.nD → PrngReg), Pre_AdamwConv m →
    θ_run (Cert.AdamwConv.defs (F := Bits)) (onTc (τ := Cert.AdamwConv.τ) (Cert.AdamwConv.main (F := Bits))) ⟨m, fun _ => 0, g⟩ (fun r => (∀ c : Dev Cert.AdamwConv.nD,
      r.2.mem ((c.tc : Thread Cert.AdamwConv.nD Cert.AdamwConv.τ).loc Cert.AdamwConv.main_arg0) = m ((c.tc : Thread Cert.AdamwConv.nD Cert.AdamwConv.τ).loc Cert.AdamwConv.main_arg0)
      ∧ r.2.mem ((c.tc : Thread Cert.AdamwConv.nD Cert.AdamwConv.τ).loc Cert.AdamwConv.main_arg1) = m ((c.tc : Thread Cert.AdamwConv.nD Cert.AdamwConv.τ).loc Cert.AdamwConv.main_arg1)
      ∧ r.2.mem ((c.tc : Thread Cert.AdamwConv.nD Cert.AdamwConv.τ).loc Cert.AdamwConv.main_arg2) = m ((c.tc : Thread Cert.AdamwConv.nD Cert.AdamwConv.τ).loc Cert.AdamwConv.main_arg2)
      ∧ r.2.mem ((c.tc : Thread Cert.AdamwConv.nD Cert.AdamwConv.τ).loc Cert.AdamwConv.main_arg3) = m ((c.tc : Thread Cert.AdamwConv.nD Cert.AdamwConv.τ).loc Cert.AdamwConv.main_arg3))
      ∧ r.2.sem = fun _ => 0)

def quiescent_AdamwConvIdeal [hAdamwConvIdeal : Cert.AdamwConvIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg), Pre_AdamwConvIdeal m →
    θ_run (Cert.AdamwConvIdeal.defs (F := Ideal)) (onTc (τ := Cert.AdamwConvIdeal.τ) (Cert.AdamwConvIdeal.main (F := Ideal))) ⟨m, fun _ => 0, g⟩ (fun r => (∀ c : Dev Cert.AdamwConvIdeal.nD,
      r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
      ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
      ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
      ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ r.2.sem = fun _ => 0)

def quiescent_AdamwConvRefIdeal [hAdamwConvRefIdeal : Cert.AdamwConvRefIdeal.Facts] : Prop :=
  ∀ (m : (ℓ : Loc Cert.AdamwConvRefIdeal.nD Cert.AdamwConvRefIdeal.τ Cert.AdamwConvRefIdeal.sig) → Buf (Elt Ideal) ℓ) (g : Dev Cert.AdamwConvRefIdeal.nD → PrngReg), Pre_AdamwConvRefIdeal m →
    θ_run (Cert.AdamwConvRefIdeal.defs (F := Ideal)) (onTc (τ := Cert.AdamwConvRefIdeal.τ) (Cert.AdamwConvRefIdeal.main (F := Ideal))) ⟨m, fun _ => 0, g⟩ (fun r => (∀ c : Dev Cert.AdamwConvRefIdeal.nD,
      r.2.mem ((c.tc : Thread Cert.AdamwConvRefIdeal.nD Cert.AdamwConvRefIdeal.τ).loc Cert.AdamwConvRefIdeal.main_arg0) = m ((c.tc : Thread Cert.AdamwConvRefIdeal.nD Cert.AdamwConvRefIdeal.τ).loc Cert.AdamwConvRefIdeal.main_arg0)
      ∧ r.2.mem ((c.tc : Thread Cert.AdamwConvRefIdeal.nD Cert.AdamwConvRefIdeal.τ).loc Cert.AdamwConvRefIdeal.main_arg1) = m ((c.tc : Thread Cert.AdamwConvRefIdeal.nD Cert.AdamwConvRefIdeal.τ).loc Cert.AdamwConvRefIdeal.main_arg1)
      ∧ r.2.mem ((c.tc : Thread Cert.AdamwConvRefIdeal.nD Cert.AdamwConvRefIdeal.τ).loc Cert.AdamwConvRefIdeal.main_arg2) = m ((c.tc : Thread Cert.AdamwConvRefIdeal.nD Cert.AdamwConvRefIdeal.τ).loc Cert.AdamwConvRefIdeal.main_arg2)
      ∧ r.2.mem ((c.tc : Thread Cert.AdamwConvRefIdeal.nD Cert.AdamwConvRefIdeal.τ).loc Cert.AdamwConvRefIdeal.main_arg3) = m ((c.tc : Thread Cert.AdamwConvRefIdeal.nD Cert.AdamwConvRefIdeal.τ).loc Cert.AdamwConvRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_AdamwFfn [hAdamwFfn : Cert.AdamwFfn.Facts] : Prop :=
  ∀ (m : (ℓ : Loc Cert.AdamwFfn.nD Cert.AdamwFfn.τ Cert.AdamwFfn.sig) → Buf (Elt Bits) ℓ) (g : Dev Cert.AdamwFfn.nD → PrngReg), Pre_AdamwFfn m →
    θ_run (Cert.AdamwFfn.defs (F := Bits)) (onTc (τ := Cert.AdamwFfn.τ) (Cert.AdamwFfn.main (F := Bits))) ⟨m, fun _ => 0, g⟩ (fun r => (∀ c : Dev Cert.AdamwFfn.nD,
      r.2.mem ((c.tc : Thread Cert.AdamwFfn.nD Cert.AdamwFfn.τ).loc Cert.AdamwFfn.main_arg0) = m ((c.tc : Thread Cert.AdamwFfn.nD Cert.AdamwFfn.τ).loc Cert.AdamwFfn.main_arg0)
      ∧ r.2.mem ((c.tc : Thread Cert.AdamwFfn.nD Cert.AdamwFfn.τ).loc Cert.AdamwFfn.main_arg1) = m ((c.tc : Thread Cert.AdamwFfn.nD Cert.AdamwFfn.τ).loc Cert.AdamwFfn.main_arg1)
      ∧ r.2.mem ((c.tc : Thread Cert.AdamwFfn.nD Cert.AdamwFfn.τ).loc Cert.AdamwFfn.main_arg2) = m ((c.tc : Thread Cert.AdamwFfn.nD Cert.AdamwFfn.τ).loc Cert.AdamwFfn.main_arg2)
      ∧ r.2.mem ((c.tc : Thread Cert.AdamwFfn.nD Cert.AdamwFfn.τ).loc Cert.AdamwFfn.main_arg3) = m ((c.tc : Thread Cert.AdamwFfn.nD Cert.AdamwFfn.τ).loc Cert.AdamwFfn.main_arg3)
      ∧ r.2.mem ((c.tc : Thread Cert.AdamwFfn.nD Cert.AdamwFfn.τ).loc Cert.AdamwFfn.main_arg4) = m ((c.tc : Thread Cert.AdamwFfn.nD Cert.AdamwFfn.τ).loc Cert.AdamwFfn.main_arg4))
      ∧ r.2.sem = fun _ => 0)

def quiescent_AdamwFfnIdeal [hAdamwFfnIdeal : Cert.AdamwFfnIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg), Pre_AdamwFfnIdeal m →
    θ_run (Cert.AdamwFfnIdeal.defs (F := Ideal)) (onTc (τ := Cert.AdamwFfnIdeal.τ) (Cert.AdamwFfnIdeal.main (F := Ideal))) ⟨m, fun _ => 0, g⟩ (fun r => (∀ c : Dev Cert.AdamwFfnIdeal.nD,
      r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
      ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
      ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
      ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3)
      ∧ r.2.mem ((c.tc : Thread Cert.AdamwFfnIdeal.nD Cert.AdamwFfnIdeal.τ).loc Cert.AdamwFfnIdeal.main_arg4) = m ((c.tc : Thread Cert.AdamwFfnIdeal.nD Cert.AdamwFfnIdeal.τ).loc Cert.AdamwFfnIdeal.main_arg4))
      ∧ r.2.sem = fun _ => 0)

def quiescent_AdamwFfnRefIdeal [hAdamwFfnRefIdeal : Cert.AdamwFfnRefIdeal.Facts] : Prop :=
  ∀ (m : (ℓ : Loc Cert.AdamwFfnRefIdeal.nD Cert.AdamwFfnRefIdeal.τ Cert.AdamwFfnRefIdeal.sig) → Buf (Elt Ideal) ℓ) (g : Dev Cert.AdamwFfnRefIdeal.nD → PrngReg), Pre_AdamwFfnRefIdeal m →
    θ_run (Cert.AdamwFfnRefIdeal.defs (F := Ideal)) (onTc (τ := Cert.AdamwFfnRefIdeal.τ) (Cert.AdamwFfnRefIdeal.main (F := Ideal))) ⟨m, fun _ => 0, g⟩ (fun r => (∀ c : Dev Cert.AdamwFfnRefIdeal.nD,
      r.2.mem ((c.tc : Thread Cert.AdamwFfnRefIdeal.nD Cert.AdamwFfnRefIdeal.τ).loc Cert.AdamwFfnRefIdeal.main_arg0) = m ((c.tc : Thread Cert.AdamwFfnRefIdeal.nD Cert.AdamwFfnRefIdeal.τ).loc Cert.AdamwFfnRefIdeal.main_arg0)
      ∧ r.2.mem ((c.tc : Thread Cert.AdamwFfnRefIdeal.nD Cert.AdamwFfnRefIdeal.τ).loc Cert.AdamwFfnRefIdeal.main_arg1) = m ((c.tc : Thread Cert.AdamwFfnRefIdeal.nD Cert.AdamwFfnRefIdeal.τ).loc Cert.AdamwFfnRefIdeal.main_arg1)
      ∧ r.2.mem ((c.tc : Thread Cert.AdamwFfnRefIdeal.nD Cert.AdamwFfnRefIdeal.τ).loc Cert.AdamwFfnRefIdeal.main_arg2) = m ((c.tc : Thread Cert.AdamwFfnRefIdeal.nD Cert.AdamwFfnRefIdeal.τ).loc Cert.AdamwFfnRefIdeal.main_arg2)
      ∧ r.2.mem ((c.tc : Thread Cert.AdamwFfnRefIdeal.nD Cert.AdamwFfnRefIdeal.τ).loc Cert.AdamwFfnRefIdeal.main_arg3) = m ((c.tc : Thread Cert.AdamwFfnRefIdeal.nD Cert.AdamwFfnRefIdeal.τ).loc Cert.AdamwFfnRefIdeal.main_arg3)
      ∧ r.2.mem ((c.tc : Thread Cert.AdamwFfnRefIdeal.nD Cert.AdamwFfnRefIdeal.τ).loc Cert.AdamwFfnRefIdeal.main_arg4) = m ((c.tc : Thread Cert.AdamwFfnRefIdeal.nD Cert.AdamwFfnRefIdeal.τ).loc Cert.AdamwFfnRefIdeal.main_arg4))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3)
      ∧ r.2.mem ((c.tc : Thread Cert.AdamwIn.nD Cert.AdamwIn.τ).loc Cert.AdamwIn.main_arg4) = m ((c.tc : Thread Cert.AdamwIn.nD Cert.AdamwIn.τ).loc Cert.AdamwIn.main_arg4))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
      ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ r.2.sem = fun _ => 0)

def quiescent_AdamwInRefIdeal [hAdamwInRefIdeal : Cert.AdamwInRefIdeal.Facts] : Prop :=
  ∀ (m : (ℓ : Loc Cert.AdamwInRefIdeal.nD Cert.AdamwInRefIdeal.τ Cert.AdamwInRefIdeal.sig) → Buf (Elt Ideal) ℓ) (g : Dev Cert.AdamwInRefIdeal.nD → PrngReg), Pre_AdamwInRefIdeal m →
    θ_run (Cert.AdamwInRefIdeal.defs (F := Ideal)) (onTc (τ := Cert.AdamwInRefIdeal.τ) (Cert.AdamwInRefIdeal.main (F := Ideal))) ⟨m, fun _ => 0, g⟩ (fun r => (∀ c : Dev Cert.AdamwInRefIdeal.nD,
      r.2.mem ((c.tc : Thread Cert.AdamwInRefIdeal.nD Cert.AdamwInRefIdeal.τ).loc Cert.AdamwInRefIdeal.main_arg0) = m ((c.tc : Thread Cert.AdamwInRefIdeal.nD Cert.AdamwInRefIdeal.τ).loc Cert.AdamwInRefIdeal.main_arg0)
      ∧ r.2.mem ((c.tc : Thread Cert.AdamwInRefIdeal.nD Cert.AdamwInRefIdeal.τ).loc Cert.AdamwInRefIdeal.main_arg1) = m ((c.tc : Thread Cert.AdamwInRefIdeal.nD Cert.AdamwInRefIdeal.τ).loc Cert.AdamwInRefIdeal.main_arg1)
      ∧ r.2.mem ((c.tc : Thread Cert.AdamwInRefIdeal.nD Cert.AdamwInRefIdeal.τ).loc Cert.AdamwInRefIdeal.main_arg2) = m ((c.tc : Thread Cert.AdamwInRefIdeal.nD Cert.AdamwInRefIdeal.τ).loc Cert.AdamwInRefIdeal.main_arg2)
      ∧ r.2.mem ((c.tc : Thread Cert.AdamwInRefIdeal.nD Cert.AdamwInRefIdeal.τ).loc Cert.AdamwInRefIdeal.main_arg3) = m ((c.tc : Thread Cert.AdamwInRefIdeal.nD Cert.AdamwInRefIdeal.τ).loc Cert.AdamwInRefIdeal.main_arg3)
      ∧ r.2.mem ((c.tc : Thread Cert.AdamwInRefIdeal.nD Cert.AdamwInRefIdeal.τ).loc Cert.AdamwInRefIdeal.main_arg4) = m ((c.tc : Thread Cert.AdamwInRefIdeal.nD Cert.AdamwInRefIdeal.τ).loc Cert.AdamwInRefIdeal.main_arg4))
      ∧ r.2.sem = fun _ => 0)

def quiescent_AdamwGlu [hAdamwGlu : Cert.AdamwGlu.Facts] : Prop :=
  ∀ (m : (ℓ : Loc Cert.AdamwGlu.nD Cert.AdamwGlu.τ Cert.AdamwGlu.sig) → Buf (Elt Bits) ℓ) (g : Dev Cert.AdamwGlu.nD → PrngReg), Pre_AdamwGlu m →
    θ_run (Cert.AdamwGlu.defs (F := Bits)) (onTc (τ := Cert.AdamwGlu.τ) (Cert.AdamwGlu.main (F := Bits))) ⟨m, fun _ => 0, g⟩ (fun r => (∀ c : Dev Cert.AdamwGlu.nD,
      r.2.mem ((c.tc : Thread Cert.AdamwGlu.nD Cert.AdamwGlu.τ).loc Cert.AdamwGlu.main_arg0) = m ((c.tc : Thread Cert.AdamwGlu.nD Cert.AdamwGlu.τ).loc Cert.AdamwGlu.main_arg0)
      ∧ r.2.mem ((c.tc : Thread Cert.AdamwGlu.nD Cert.AdamwGlu.τ).loc Cert.AdamwGlu.main_arg1) = m ((c.tc : Thread Cert.AdamwGlu.nD Cert.AdamwGlu.τ).loc Cert.AdamwGlu.main_arg1)
      ∧ r.2.mem ((c.tc : Thread Cert.AdamwGlu.nD Cert.AdamwGlu.τ).loc Cert.AdamwGlu.main_arg2) = m ((c.tc : Thread Cert.AdamwGlu.nD Cert.AdamwGlu.τ).loc Cert.AdamwGlu.main_arg2)
      ∧ r.2.mem ((c.tc : Thread Cert.AdamwGlu.nD Cert.AdamwGlu.τ).loc Cert.AdamwGlu.main_arg3) = m ((c.tc : Thread Cert.AdamwGlu.nD Cert.AdamwGlu.τ).loc Cert.AdamwGlu.main_arg3)
      ∧ r.2.mem ((c.tc : Thread Cert.AdamwGlu.nD Cert.AdamwGlu.τ).loc Cert.AdamwGlu.main_arg4) = m ((c.tc : Thread Cert.AdamwGlu.nD Cert.AdamwGlu.τ).loc Cert.AdamwGlu.main_arg4))
      ∧ r.2.sem = fun _ => 0)

def quiescent_AdamwGluIdeal [hAdamwGluIdeal : Cert.AdamwGluIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg), Pre_AdamwGluIdeal m →
    θ_run (Cert.AdamwGluIdeal.defs (F := Ideal)) (onTc (τ := Cert.AdamwGluIdeal.τ) (Cert.AdamwGluIdeal.main (F := Ideal))) ⟨m, fun _ => 0, g⟩ (fun r => (∀ c : Dev Cert.AdamwGluIdeal.nD,
      r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
      ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
      ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
      ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3)
      ∧ r.2.mem ((c.tc : Thread Cert.AdamwGluIdeal.nD Cert.AdamwGluIdeal.τ).loc Cert.AdamwGluIdeal.main_arg4) = m ((c.tc : Thread Cert.AdamwGluIdeal.nD Cert.AdamwGluIdeal.τ).loc Cert.AdamwGluIdeal.main_arg4))
      ∧ r.2.sem = fun _ => 0)

def quiescent_AdamwGluRefIdeal [hAdamwGluRefIdeal : Cert.AdamwGluRefIdeal.Facts] : Prop :=
  ∀ (m : (ℓ : Loc Cert.AdamwGluRefIdeal.nD Cert.AdamwGluRefIdeal.τ Cert.AdamwGluRefIdeal.sig) → Buf (Elt Ideal) ℓ) (g : Dev Cert.AdamwGluRefIdeal.nD → PrngReg), Pre_AdamwGluRefIdeal m →
    θ_run (Cert.AdamwGluRefIdeal.defs (F := Ideal)) (onTc (τ := Cert.AdamwGluRefIdeal.τ) (Cert.AdamwGluRefIdeal.main (F := Ideal))) ⟨m, fun _ => 0, g⟩ (fun r => (∀ c : Dev Cert.AdamwGluRefIdeal.nD,
      r.2.mem ((c.tc : Thread Cert.AdamwGluRefIdeal.nD Cert.AdamwGluRefIdeal.τ).loc Cert.AdamwGluRefIdeal.main_arg0) = m ((c.tc : Thread Cert.AdamwGluRefIdeal.nD Cert.AdamwGluRefIdeal.τ).loc Cert.AdamwGluRefIdeal.main_arg0)
      ∧ r.2.mem ((c.tc : Thread Cert.AdamwGluRefIdeal.nD Cert.AdamwGluRefIdeal.τ).loc Cert.AdamwGluRefIdeal.main_arg1) = m ((c.tc : Thread Cert.AdamwGluRefIdeal.nD Cert.AdamwGluRefIdeal.τ).loc Cert.AdamwGluRefIdeal.main_arg1)
      ∧ r.2.mem ((c.tc : Thread Cert.AdamwGluRefIdeal.nD Cert.AdamwGluRefIdeal.τ).loc Cert.AdamwGluRefIdeal.main_arg2) = m ((c.tc : Thread Cert.AdamwGluRefIdeal.nD Cert.AdamwGluRefIdeal.τ).loc Cert.AdamwGluRefIdeal.main_arg2)
      ∧ r.2.mem ((c.tc : Thread Cert.AdamwGluRefIdeal.nD Cert.AdamwGluRefIdeal.τ).loc Cert.AdamwGluRefIdeal.main_arg3) = m ((c.tc : Thread Cert.AdamwGluRefIdeal.nD Cert.AdamwGluRefIdeal.τ).loc Cert.AdamwGluRefIdeal.main_arg3)
      ∧ r.2.mem ((c.tc : Thread Cert.AdamwGluRefIdeal.nD Cert.AdamwGluRefIdeal.τ).loc Cert.AdamwGluRefIdeal.main_arg4) = m ((c.tc : Thread Cert.AdamwGluRefIdeal.nD Cert.AdamwGluRefIdeal.τ).loc Cert.AdamwGluRefIdeal.main_arg4))
      ∧ r.2.sem = fun _ => 0)

def quiescent_AdamwBranch [hAdamwBranch : Cert.AdamwBranch.Facts] : Prop :=
  ∀ (m : (ℓ : Loc Cert.AdamwBranch.nD Cert.AdamwBranch.τ Cert.AdamwBranch.sig) → Buf (Elt Bits) ℓ) (g : Dev Cert.AdamwBranch.nD → PrngReg), Pre_AdamwBranch m →
    θ_run (Cert.AdamwBranch.defs (F := Bits)) (onTc (τ := Cert.AdamwBranch.τ) (Cert.AdamwBranch.main (F := Bits))) ⟨m, fun _ => 0, g⟩ (fun r => (∀ c : Dev Cert.AdamwBranch.nD,
      r.2.mem ((c.tc : Thread Cert.AdamwBranch.nD Cert.AdamwBranch.τ).loc Cert.AdamwBranch.main_arg0) = m ((c.tc : Thread Cert.AdamwBranch.nD Cert.AdamwBranch.τ).loc Cert.AdamwBranch.main_arg0)
      ∧ r.2.mem ((c.tc : Thread Cert.AdamwBranch.nD Cert.AdamwBranch.τ).loc Cert.AdamwBranch.main_arg1) = m ((c.tc : Thread Cert.AdamwBranch.nD Cert.AdamwBranch.τ).loc Cert.AdamwBranch.main_arg1)
      ∧ r.2.mem ((c.tc : Thread Cert.AdamwBranch.nD Cert.AdamwBranch.τ).loc Cert.AdamwBranch.main_arg2) = m ((c.tc : Thread Cert.AdamwBranch.nD Cert.AdamwBranch.τ).loc Cert.AdamwBranch.main_arg2)
      ∧ r.2.mem ((c.tc : Thread Cert.AdamwBranch.nD Cert.AdamwBranch.τ).loc Cert.AdamwBranch.main_arg3) = m ((c.tc : Thread Cert.AdamwBranch.nD Cert.AdamwBranch.τ).loc Cert.AdamwBranch.main_arg3)
      ∧ r.2.mem ((c.tc : Thread Cert.AdamwBranch.nD Cert.AdamwBranch.τ).loc Cert.AdamwBranch.main_arg4) = m ((c.tc : Thread Cert.AdamwBranch.nD Cert.AdamwBranch.τ).loc Cert.AdamwBranch.main_arg4))
      ∧ r.2.sem = fun _ => 0)

def quiescent_AdamwBranchIdeal [hAdamwBranchIdeal : Cert.AdamwBranchIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg), Pre_AdamwBranchIdeal m →
    θ_run (Cert.AdamwBranchIdeal.defs (F := Ideal)) (onTc (τ := Cert.AdamwBranchIdeal.τ) (Cert.AdamwBranchIdeal.main (F := Ideal))) ⟨m, fun _ => 0, g⟩ (fun r => (∀ c : Dev Cert.AdamwBranchIdeal.nD,
      r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
      ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
      ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
      ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3)
      ∧ r.2.mem ((c.tc : Thread Cert.AdamwBranchIdeal.nD Cert.AdamwBranchIdeal.τ).loc Cert.AdamwBranchIdeal.main_arg4) = m ((c.tc : Thread Cert.AdamwBranchIdeal.nD Cert.AdamwBranchIdeal.τ).loc Cert.AdamwBranchIdeal.main_arg4))
      ∧ r.2.sem = fun _ => 0)

def quiescent_AdamwBranchRefIdeal [hAdamwBranchRefIdeal : Cert.AdamwBranchRefIdeal.Facts] : Prop :=
  ∀ (m : (ℓ : Loc Cert.AdamwBranchRefIdeal.nD Cert.AdamwBranchRefIdeal.τ Cert.AdamwBranchRefIdeal.sig) → Buf (Elt Ideal) ℓ) (g : Dev Cert.AdamwBranchRefIdeal.nD → PrngReg), Pre_AdamwBranchRefIdeal m →
    θ_run (Cert.AdamwBranchRefIdeal.defs (F := Ideal)) (onTc (τ := Cert.AdamwBranchRefIdeal.τ) (Cert.AdamwBranchRefIdeal.main (F := Ideal))) ⟨m, fun _ => 0, g⟩ (fun r => (∀ c : Dev Cert.AdamwBranchRefIdeal.nD,
      r.2.mem ((c.tc : Thread Cert.AdamwBranchRefIdeal.nD Cert.AdamwBranchRefIdeal.τ).loc Cert.AdamwBranchRefIdeal.main_arg0) = m ((c.tc : Thread Cert.AdamwBranchRefIdeal.nD Cert.AdamwBranchRefIdeal.τ).loc Cert.AdamwBranchRefIdeal.main_arg0)
      ∧ r.2.mem ((c.tc : Thread Cert.AdamwBranchRefIdeal.nD Cert.AdamwBranchRefIdeal.τ).loc Cert.AdamwBranchRefIdeal.main_arg1) = m ((c.tc : Thread Cert.AdamwBranchRefIdeal.nD Cert.AdamwBranchRefIdeal.τ).loc Cert.AdamwBranchRefIdeal.main_arg1)
      ∧ r.2.mem ((c.tc : Thread Cert.AdamwBranchRefIdeal.nD Cert.AdamwBranchRefIdeal.τ).loc Cert.AdamwBranchRefIdeal.main_arg2) = m ((c.tc : Thread Cert.AdamwBranchRefIdeal.nD Cert.AdamwBranchRefIdeal.τ).loc Cert.AdamwBranchRefIdeal.main_arg2)
      ∧ r.2.mem ((c.tc : Thread Cert.AdamwBranchRefIdeal.nD Cert.AdamwBranchRefIdeal.τ).loc Cert.AdamwBranchRefIdeal.main_arg3) = m ((c.tc : Thread Cert.AdamwBranchRefIdeal.nD Cert.AdamwBranchRefIdeal.τ).loc Cert.AdamwBranchRefIdeal.main_arg3)
      ∧ r.2.mem ((c.tc : Thread Cert.AdamwBranchRefIdeal.nD Cert.AdamwBranchRefIdeal.τ).loc Cert.AdamwBranchRefIdeal.main_arg4) = m ((c.tc : Thread Cert.AdamwBranchRefIdeal.nD Cert.AdamwBranchRefIdeal.τ).loc Cert.AdamwBranchRefIdeal.main_arg4))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3)
      ∧ r.2.mem ((c.tc : Thread Cert.AdamwOut.nD Cert.AdamwOut.τ).loc Cert.AdamwOut.main_arg4) = m ((c.tc : Thread Cert.AdamwOut.nD Cert.AdamwOut.τ).loc Cert.AdamwOut.main_arg4))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
      ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3)
      ∧ r.2.mem ((c.tc : Thread Cert.AdamwOutRefIdeal.nD Cert.AdamwOutRefIdeal.τ).loc Cert.AdamwOutRefIdeal.main_arg4) = m ((c.tc : Thread Cert.AdamwOutRefIdeal.nD Cert.AdamwOutRefIdeal.τ).loc Cert.AdamwOutRefIdeal.main_arg4))
      ∧ r.2.sem = fun _ => 0)

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v6)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v6) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v9) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_GateUpWeight_GateUpWeightIdeal : Prop :=
  True

def algebraic_GateUpWeightIdeal_GateUpWeightRefIdeal [hGateUpWeightIdeal : Cert.GateUpWeightIdeal.Facts] [hGateUpWeightRefIdeal : Cert.GateUpWeightRefIdeal.Facts] : Prop :=
  ∀ (m : (ℓ : Loc Cert.GateUpWeightIdeal.nD Cert.GateUpWeightIdeal.τ Cert.GateUpWeightIdeal.sig) → Buf (Elt Ideal) ℓ) (g : Dev Cert.GateUpWeightIdeal.nD → PrngReg)
    (m' : (ℓ : Loc Cert.GateUpWeightRefIdeal.nD Cert.GateUpWeightRefIdeal.τ Cert.GateUpWeightRefIdeal.sig) → Buf (Elt Ideal) ℓ) (g' : Dev Cert.GateUpWeightRefIdeal.nD → PrngReg), Pre_GateUpWeightIdeal m →
    (∀ c : Dev Cert.GateUpWeightIdeal.nD,
      m' ((c.tc : Thread Cert.GateUpWeightRefIdeal.nD Cert.GateUpWeightRefIdeal.τ).loc Cert.GateUpWeightRefIdeal.main_arg0) = m ((c.tc : Thread Cert.GateUpWeightIdeal.nD Cert.GateUpWeightIdeal.τ).loc Cert.GateUpWeightIdeal.main_arg0)
      ∧ m' ((c.tc : Thread Cert.GateUpWeightRefIdeal.nD Cert.GateUpWeightRefIdeal.τ).loc Cert.GateUpWeightRefIdeal.main_arg1) = m ((c.tc : Thread Cert.GateUpWeightIdeal.nD Cert.GateUpWeightIdeal.τ).loc Cert.GateUpWeightIdeal.main_arg1)
      ∧ m' ((c.tc : Thread Cert.GateUpWeightRefIdeal.nD Cert.GateUpWeightRefIdeal.τ).loc Cert.GateUpWeightRefIdeal.main_arg2) = m ((c.tc : Thread Cert.GateUpWeightIdeal.nD Cert.GateUpWeightIdeal.τ).loc Cert.GateUpWeightIdeal.main_arg2)) →
    ∃ (v0 : (c : Dev Cert.GateUpWeightIdeal.nD) → Buf (Elt Ideal) ((c.tc : Thread Cert.GateUpWeightIdeal.nD Cert.GateUpWeightIdeal.τ).loc Cert.GateUpWeightIdeal.main_v7_0)) (v1 : (c : Dev Cert.GateUpWeightIdeal.nD) → Buf (Elt Ideal) ((c.tc : Thread Cert.GateUpWeightIdeal.nD Cert.GateUpWeightIdeal.τ).loc Cert.GateUpWeightIdeal.main_v7_1)),
      θ_run (Cert.GateUpWeightIdeal.defs (F := Ideal)) (onTc (τ := Cert.GateUpWeightIdeal.τ) (Cert.GateUpWeightIdeal.main (F := Ideal))) ⟨m, fun _ => 0, g⟩ (fun r => ∀ c : Dev Cert.GateUpWeightIdeal.nD,
          r.2.mem ((c.tc : Thread Cert.GateUpWeightIdeal.nD Cert.GateUpWeightIdeal.τ).loc Cert.GateUpWeightIdeal.main_v7_0) = v0 c
          ∧ r.2.mem ((c.tc : Thread Cert.GateUpWeightIdeal.nD Cert.GateUpWeightIdeal.τ).loc Cert.GateUpWeightIdeal.main_v7_1) = v1 c
          ∧ r.2.mem ((c.tc : Thread Cert.GateUpWeightIdeal.nD Cert.GateUpWeightIdeal.τ).loc Cert.GateUpWeightIdeal.main_arg0) = m ((c.tc : Thread Cert.GateUpWeightIdeal.nD Cert.GateUpWeightIdeal.τ).loc Cert.GateUpWeightIdeal.main_arg0)
          ∧ r.2.mem ((c.tc : Thread Cert.GateUpWeightIdeal.nD Cert.GateUpWeightIdeal.τ).loc Cert.GateUpWeightIdeal.main_arg1) = m ((c.tc : Thread Cert.GateUpWeightIdeal.nD Cert.GateUpWeightIdeal.τ).loc Cert.GateUpWeightIdeal.main_arg1)
          ∧ r.2.mem ((c.tc : Thread Cert.GateUpWeightIdeal.nD Cert.GateUpWeightIdeal.τ).loc Cert.GateUpWeightIdeal.main_arg2) = m ((c.tc : Thread Cert.GateUpWeightIdeal.nD Cert.GateUpWeightIdeal.τ).loc Cert.GateUpWeightIdeal.main_arg2))
      ∧ θ_run (Cert.GateUpWeightRefIdeal.defs (F := Ideal)) (onTc (τ := Cert.GateUpWeightRefIdeal.τ) (Cert.GateUpWeightRefIdeal.main (F := Ideal))) ⟨m', fun _ => 0, g'⟩ (fun r => ∀ c : Dev Cert.GateUpWeightRefIdeal.nD,
          r.2.mem ((c.tc : Thread Cert.GateUpWeightRefIdeal.nD Cert.GateUpWeightRefIdeal.τ).loc Cert.GateUpWeightRefIdeal.main_v9) = v0 c
          ∧ r.2.mem ((c.tc : Thread Cert.GateUpWeightRefIdeal.nD Cert.GateUpWeightRefIdeal.τ).loc Cert.GateUpWeightRefIdeal.main_v12) = v1 c
          ∧ r.2.mem ((c.tc : Thread Cert.GateUpWeightRefIdeal.nD Cert.GateUpWeightRefIdeal.τ).loc Cert.GateUpWeightRefIdeal.main_arg0) = m' ((c.tc : Thread Cert.GateUpWeightRefIdeal.nD Cert.GateUpWeightRefIdeal.τ).loc Cert.GateUpWeightRefIdeal.main_arg0)
          ∧ r.2.mem ((c.tc : Thread Cert.GateUpWeightRefIdeal.nD Cert.GateUpWeightRefIdeal.τ).loc Cert.GateUpWeightRefIdeal.main_arg1) = m' ((c.tc : Thread Cert.GateUpWeightRefIdeal.nD Cert.GateUpWeightRefIdeal.τ).loc Cert.GateUpWeightRefIdeal.main_arg1)
          ∧ r.2.mem ((c.tc : Thread Cert.GateUpWeightRefIdeal.nD Cert.GateUpWeightRefIdeal.τ).loc Cert.GateUpWeightRefIdeal.main_arg2) = m' ((c.tc : Thread Cert.GateUpWeightRefIdeal.nD Cert.GateUpWeightRefIdeal.τ).loc Cert.GateUpWeightRefIdeal.main_arg2))

def preserves_FfnInput_FfnInputIdeal : Prop :=
  True

def algebraic_FfnInputIdeal_FfnInputRefIdeal [hFfnInputIdeal : Cert.FfnInputIdeal.Facts] [hFfnInputRefIdeal : Cert.FfnInputRefIdeal.Facts] : Prop :=
  ∀ (m : (ℓ : Loc Cert.FfnInputIdeal.nD Cert.FfnInputIdeal.τ Cert.FfnInputIdeal.sig) → Buf (Elt Ideal) ℓ) (g : Dev Cert.FfnInputIdeal.nD → PrngReg)
    (m' : (ℓ : Loc Cert.FfnInputRefIdeal.nD Cert.FfnInputRefIdeal.τ Cert.FfnInputRefIdeal.sig) → Buf (Elt Ideal) ℓ) (g' : Dev Cert.FfnInputRefIdeal.nD → PrngReg), Pre_FfnInputIdeal m →
    (∀ c : Dev Cert.FfnInputIdeal.nD,
      m' ((c.tc : Thread Cert.FfnInputRefIdeal.nD Cert.FfnInputRefIdeal.τ).loc Cert.FfnInputRefIdeal.main_arg0) = m ((c.tc : Thread Cert.FfnInputIdeal.nD Cert.FfnInputIdeal.τ).loc Cert.FfnInputIdeal.main_arg0)
      ∧ m' ((c.tc : Thread Cert.FfnInputRefIdeal.nD Cert.FfnInputRefIdeal.τ).loc Cert.FfnInputRefIdeal.main_arg1) = m ((c.tc : Thread Cert.FfnInputIdeal.nD Cert.FfnInputIdeal.τ).loc Cert.FfnInputIdeal.main_arg1)
      ∧ m' ((c.tc : Thread Cert.FfnInputRefIdeal.nD Cert.FfnInputRefIdeal.τ).loc Cert.FfnInputRefIdeal.main_arg2) = m ((c.tc : Thread Cert.FfnInputIdeal.nD Cert.FfnInputIdeal.τ).loc Cert.FfnInputIdeal.main_arg2)
      ∧ m' ((c.tc : Thread Cert.FfnInputRefIdeal.nD Cert.FfnInputRefIdeal.τ).loc Cert.FfnInputRefIdeal.main_arg3) = m ((c.tc : Thread Cert.FfnInputIdeal.nD Cert.FfnInputIdeal.τ).loc Cert.FfnInputIdeal.main_arg3)) →
    ∃ (v0 : (c : Dev Cert.FfnInputIdeal.nD) → Buf (Elt Ideal) ((c.tc : Thread Cert.FfnInputIdeal.nD Cert.FfnInputIdeal.τ).loc Cert.FfnInputIdeal.main_v12)),
      θ_run (Cert.FfnInputIdeal.defs (F := Ideal)) (onTc (τ := Cert.FfnInputIdeal.τ) (Cert.FfnInputIdeal.main (F := Ideal))) ⟨m, fun _ => 0, g⟩ (fun r => ∀ c : Dev Cert.FfnInputIdeal.nD,
          r.2.mem ((c.tc : Thread Cert.FfnInputIdeal.nD Cert.FfnInputIdeal.τ).loc Cert.FfnInputIdeal.main_v12) = v0 c
          ∧ r.2.mem ((c.tc : Thread Cert.FfnInputIdeal.nD Cert.FfnInputIdeal.τ).loc Cert.FfnInputIdeal.main_arg0) = m ((c.tc : Thread Cert.FfnInputIdeal.nD Cert.FfnInputIdeal.τ).loc Cert.FfnInputIdeal.main_arg0)
          ∧ r.2.mem ((c.tc : Thread Cert.FfnInputIdeal.nD Cert.FfnInputIdeal.τ).loc Cert.FfnInputIdeal.main_arg1) = m ((c.tc : Thread Cert.FfnInputIdeal.nD Cert.FfnInputIdeal.τ).loc Cert.FfnInputIdeal.main_arg1)
          ∧ r.2.mem ((c.tc : Thread Cert.FfnInputIdeal.nD Cert.FfnInputIdeal.τ).loc Cert.FfnInputIdeal.main_arg2) = m ((c.tc : Thread Cert.FfnInputIdeal.nD Cert.FfnInputIdeal.τ).loc Cert.FfnInputIdeal.main_arg2)
          ∧ r.2.mem ((c.tc : Thread Cert.FfnInputIdeal.nD Cert.FfnInputIdeal.τ).loc Cert.FfnInputIdeal.main_arg3) = m ((c.tc : Thread Cert.FfnInputIdeal.nD Cert.FfnInputIdeal.τ).loc Cert.FfnInputIdeal.main_arg3))
      ∧ θ_run (Cert.FfnInputRefIdeal.defs (F := Ideal)) (onTc (τ := Cert.FfnInputRefIdeal.τ) (Cert.FfnInputRefIdeal.main (F := Ideal))) ⟨m', fun _ => 0, g'⟩ (fun r => ∀ c : Dev Cert.FfnInputRefIdeal.nD,
          r.2.mem ((c.tc : Thread Cert.FfnInputRefIdeal.nD Cert.FfnInputRefIdeal.τ).loc Cert.FfnInputRefIdeal.main_v5) = v0 c
          ∧ r.2.mem ((c.tc : Thread Cert.FfnInputRefIdeal.nD Cert.FfnInputRefIdeal.τ).loc Cert.FfnInputRefIdeal.main_arg0) = m' ((c.tc : Thread Cert.FfnInputRefIdeal.nD Cert.FfnInputRefIdeal.τ).loc Cert.FfnInputRefIdeal.main_arg0)
          ∧ r.2.mem ((c.tc : Thread Cert.FfnInputRefIdeal.nD Cert.FfnInputRefIdeal.τ).loc Cert.FfnInputRefIdeal.main_arg1) = m' ((c.tc : Thread Cert.FfnInputRefIdeal.nD Cert.FfnInputRefIdeal.τ).loc Cert.FfnInputRefIdeal.main_arg1)
          ∧ r.2.mem ((c.tc : Thread Cert.FfnInputRefIdeal.nD Cert.FfnInputRefIdeal.τ).loc Cert.FfnInputRefIdeal.main_arg2) = m' ((c.tc : Thread Cert.FfnInputRefIdeal.nD Cert.FfnInputRefIdeal.τ).loc Cert.FfnInputRefIdeal.main_arg2)
          ∧ r.2.mem ((c.tc : Thread Cert.FfnInputRefIdeal.nD Cert.FfnInputRefIdeal.τ).loc Cert.FfnInputRefIdeal.main_arg3) = m' ((c.tc : Thread Cert.FfnInputRefIdeal.nD Cert.FfnInputRefIdeal.τ).loc Cert.FfnInputRefIdeal.main_arg3))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v4)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v4) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v6) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_InInput_InInputIdeal : Prop :=
  True

def algebraic_InInputIdeal_InInputRefIdeal [hInInputIdeal : Cert.InInputIdeal.Facts] [hInInputRefIdeal : Cert.InInputRefIdeal.Facts] : Prop :=
  ∀ (m : (ℓ : Loc Cert.InInputIdeal.nD Cert.InInputIdeal.τ Cert.InInputIdeal.sig) → Buf (Elt Ideal) ℓ) (g : Dev Cert.InInputIdeal.nD → PrngReg)
    (m' : (ℓ : Loc Cert.InInputRefIdeal.nD Cert.InInputRefIdeal.τ Cert.InInputRefIdeal.sig) → Buf (Elt Ideal) ℓ) (g' : Dev Cert.InInputRefIdeal.nD → PrngReg), Pre_InInputIdeal m →
    (∀ c : Dev Cert.InInputIdeal.nD,
      m' ((c.tc : Thread Cert.InInputRefIdeal.nD Cert.InInputRefIdeal.τ).loc Cert.InInputRefIdeal.main_arg0) = m ((c.tc : Thread Cert.InInputIdeal.nD Cert.InInputIdeal.τ).loc Cert.InInputIdeal.main_arg0)
      ∧ m' ((c.tc : Thread Cert.InInputRefIdeal.nD Cert.InInputRefIdeal.τ).loc Cert.InInputRefIdeal.main_arg1) = m ((c.tc : Thread Cert.InInputIdeal.nD Cert.InInputIdeal.τ).loc Cert.InInputIdeal.main_arg1)) →
    ∃ (v0 : (c : Dev Cert.InInputIdeal.nD) → Buf (Elt Ideal) ((c.tc : Thread Cert.InInputIdeal.nD Cert.InInputIdeal.τ).loc Cert.InInputIdeal.main_v6)),
      θ_run (Cert.InInputIdeal.defs (F := Ideal)) (onTc (τ := Cert.InInputIdeal.τ) (Cert.InInputIdeal.main (F := Ideal))) ⟨m, fun _ => 0, g⟩ (fun r => ∀ c : Dev Cert.InInputIdeal.nD,
          r.2.mem ((c.tc : Thread Cert.InInputIdeal.nD Cert.InInputIdeal.τ).loc Cert.InInputIdeal.main_v6) = v0 c
          ∧ r.2.mem ((c.tc : Thread Cert.InInputIdeal.nD Cert.InInputIdeal.τ).loc Cert.InInputIdeal.main_arg0) = m ((c.tc : Thread Cert.InInputIdeal.nD Cert.InInputIdeal.τ).loc Cert.InInputIdeal.main_arg0)
          ∧ r.2.mem ((c.tc : Thread Cert.InInputIdeal.nD Cert.InInputIdeal.τ).loc Cert.InInputIdeal.main_arg1) = m ((c.tc : Thread Cert.InInputIdeal.nD Cert.InInputIdeal.τ).loc Cert.InInputIdeal.main_arg1))
      ∧ θ_run (Cert.InInputRefIdeal.defs (F := Ideal)) (onTc (τ := Cert.InInputRefIdeal.τ) (Cert.InInputRefIdeal.main (F := Ideal))) ⟨m', fun _ => 0, g'⟩ (fun r => ∀ c : Dev Cert.InInputRefIdeal.nD,
          r.2.mem ((c.tc : Thread Cert.InInputRefIdeal.nD Cert.InInputRefIdeal.τ).loc Cert.InInputRefIdeal.main_v2) = v0 c
          ∧ r.2.mem ((c.tc : Thread Cert.InInputRefIdeal.nD Cert.InInputRefIdeal.τ).loc Cert.InInputRefIdeal.main_arg0) = m' ((c.tc : Thread Cert.InInputRefIdeal.nD Cert.InInputRefIdeal.τ).loc Cert.InInputRefIdeal.main_arg0)
          ∧ r.2.mem ((c.tc : Thread Cert.InInputRefIdeal.nD Cert.InInputRefIdeal.τ).loc Cert.InInputRefIdeal.main_arg1) = m' ((c.tc : Thread Cert.InInputRefIdeal.nD Cert.InInputRefIdeal.τ).loc Cert.InInputRefIdeal.main_arg1))

def preserves_MixOutInput_MixOutInputIdeal : Prop :=
  True

def algebraic_MixOutInputIdeal_MixOutInputRefIdeal [hMixOutInputIdeal : Cert.MixOutInputIdeal.Facts] [hMixOutInputRefIdeal : Cert.MixOutInputRefIdeal.Facts] : Prop :=
  ∀ (m : (ℓ : Loc Cert.MixOutInputIdeal.nD Cert.MixOutInputIdeal.τ Cert.MixOutInputIdeal.sig) → Buf (Elt Ideal) ℓ) (g : Dev Cert.MixOutInputIdeal.nD → PrngReg)
    (m' : (ℓ : Loc Cert.MixOutInputRefIdeal.nD Cert.MixOutInputRefIdeal.τ Cert.MixOutInputRefIdeal.sig) → Buf (Elt Ideal) ℓ) (g' : Dev Cert.MixOutInputRefIdeal.nD → PrngReg), Pre_MixOutInputIdeal m →
    (∀ c : Dev Cert.MixOutInputIdeal.nD,
      m' ((c.tc : Thread Cert.MixOutInputRefIdeal.nD Cert.MixOutInputRefIdeal.τ).loc Cert.MixOutInputRefIdeal.main_arg0) = m ((c.tc : Thread Cert.MixOutInputIdeal.nD Cert.MixOutInputIdeal.τ).loc Cert.MixOutInputIdeal.main_arg0)
      ∧ m' ((c.tc : Thread Cert.MixOutInputRefIdeal.nD Cert.MixOutInputRefIdeal.τ).loc Cert.MixOutInputRefIdeal.main_arg1) = m ((c.tc : Thread Cert.MixOutInputIdeal.nD Cert.MixOutInputIdeal.τ).loc Cert.MixOutInputIdeal.main_arg1)
      ∧ m' ((c.tc : Thread Cert.MixOutInputRefIdeal.nD Cert.MixOutInputRefIdeal.τ).loc Cert.MixOutInputRefIdeal.main_arg2) = m ((c.tc : Thread Cert.MixOutInputIdeal.nD Cert.MixOutInputIdeal.τ).loc Cert.MixOutInputIdeal.main_arg2)
      ∧ m' ((c.tc : Thread Cert.MixOutInputRefIdeal.nD Cert.MixOutInputRefIdeal.τ).loc Cert.MixOutInputRefIdeal.main_arg3) = m ((c.tc : Thread Cert.MixOutInputIdeal.nD Cert.MixOutInputIdeal.τ).loc Cert.MixOutInputIdeal.main_arg3)
      ∧ m' ((c.tc : Thread Cert.MixOutInputRefIdeal.nD Cert.MixOutInputRefIdeal.τ).loc Cert.MixOutInputRefIdeal.main_arg4) = m ((c.tc : Thread Cert.MixOutInputIdeal.nD Cert.MixOutInputIdeal.τ).loc Cert.MixOutInputIdeal.main_arg4)) →
    ∃ (v0 : (c : Dev Cert.MixOutInputIdeal.nD) → Buf (Elt Ideal) ((c.tc : Thread Cert.MixOutInputIdeal.nD Cert.MixOutInputIdeal.τ).loc Cert.MixOutInputIdeal.main_v6_0)) (v1 : (c : Dev Cert.MixOutInputIdeal.nD) → Buf (Elt Ideal) ((c.tc : Thread Cert.MixOutInputIdeal.nD Cert.MixOutInputIdeal.τ).loc Cert.MixOutInputIdeal.main_v6_1)) (v2 : (c : Dev Cert.MixOutInputIdeal.nD) → Buf (Elt Ideal) ((c.tc : Thread Cert.MixOutInputIdeal.nD Cert.MixOutInputIdeal.τ).loc Cert.MixOutInputIdeal.main_v6_2)) (v3 : (c : Dev Cert.MixOutInputIdeal.nD) → Buf (Elt Ideal) ((c.tc : Thread Cert.MixOutInputIdeal.nD Cert.MixOutInputIdeal.τ).loc Cert.MixOutInputIdeal.main_v6_3)),
      θ_run (Cert.MixOutInputIdeal.defs (F := Ideal)) (onTc (τ := Cert.MixOutInputIdeal.τ) (Cert.MixOutInputIdeal.main (F := Ideal))) ⟨m, fun _ => 0, g⟩ (fun r => ∀ c : Dev Cert.MixOutInputIdeal.nD,
          r.2.mem ((c.tc : Thread Cert.MixOutInputIdeal.nD Cert.MixOutInputIdeal.τ).loc Cert.MixOutInputIdeal.main_v6_0) = v0 c
          ∧ r.2.mem ((c.tc : Thread Cert.MixOutInputIdeal.nD Cert.MixOutInputIdeal.τ).loc Cert.MixOutInputIdeal.main_v6_1) = v1 c
          ∧ r.2.mem ((c.tc : Thread Cert.MixOutInputIdeal.nD Cert.MixOutInputIdeal.τ).loc Cert.MixOutInputIdeal.main_v6_2) = v2 c
          ∧ r.2.mem ((c.tc : Thread Cert.MixOutInputIdeal.nD Cert.MixOutInputIdeal.τ).loc Cert.MixOutInputIdeal.main_v6_3) = v3 c
          ∧ r.2.mem ((c.tc : Thread Cert.MixOutInputIdeal.nD Cert.MixOutInputIdeal.τ).loc Cert.MixOutInputIdeal.main_arg0) = m ((c.tc : Thread Cert.MixOutInputIdeal.nD Cert.MixOutInputIdeal.τ).loc Cert.MixOutInputIdeal.main_arg0)
          ∧ r.2.mem ((c.tc : Thread Cert.MixOutInputIdeal.nD Cert.MixOutInputIdeal.τ).loc Cert.MixOutInputIdeal.main_arg1) = m ((c.tc : Thread Cert.MixOutInputIdeal.nD Cert.MixOutInputIdeal.τ).loc Cert.MixOutInputIdeal.main_arg1)
          ∧ r.2.mem ((c.tc : Thread Cert.MixOutInputIdeal.nD Cert.MixOutInputIdeal.τ).loc Cert.MixOutInputIdeal.main_arg2) = m ((c.tc : Thread Cert.MixOutInputIdeal.nD Cert.MixOutInputIdeal.τ).loc Cert.MixOutInputIdeal.main_arg2)
          ∧ r.2.mem ((c.tc : Thread Cert.MixOutInputIdeal.nD Cert.MixOutInputIdeal.τ).loc Cert.MixOutInputIdeal.main_arg3) = m ((c.tc : Thread Cert.MixOutInputIdeal.nD Cert.MixOutInputIdeal.τ).loc Cert.MixOutInputIdeal.main_arg3)
          ∧ r.2.mem ((c.tc : Thread Cert.MixOutInputIdeal.nD Cert.MixOutInputIdeal.τ).loc Cert.MixOutInputIdeal.main_arg4) = m ((c.tc : Thread Cert.MixOutInputIdeal.nD Cert.MixOutInputIdeal.τ).loc Cert.MixOutInputIdeal.main_arg4))
      ∧ θ_run (Cert.MixOutInputRefIdeal.defs (F := Ideal)) (onTc (τ := Cert.MixOutInputRefIdeal.τ) (Cert.MixOutInputRefIdeal.main (F := Ideal))) ⟨m', fun _ => 0, g'⟩ (fun r => ∀ c : Dev Cert.MixOutInputRefIdeal.nD,
          r.2.mem ((c.tc : Thread Cert.MixOutInputRefIdeal.nD Cert.MixOutInputRefIdeal.τ).loc Cert.MixOutInputRefIdeal.main_v31) = v0 c
          ∧ r.2.mem ((c.tc : Thread Cert.MixOutInputRefIdeal.nD Cert.MixOutInputRefIdeal.τ).loc Cert.MixOutInputRefIdeal.main_v32) = v1 c
          ∧ r.2.mem ((c.tc : Thread Cert.MixOutInputRefIdeal.nD Cert.MixOutInputRefIdeal.τ).loc Cert.MixOutInputRefIdeal.main_v36) = v2 c
          ∧ r.2.mem ((c.tc : Thread Cert.MixOutInputRefIdeal.nD Cert.MixOutInputRefIdeal.τ).loc Cert.MixOutInputRefIdeal.main_v38) = v3 c
          ∧ r.2.mem ((c.tc : Thread Cert.MixOutInputRefIdeal.nD Cert.MixOutInputRefIdeal.τ).loc Cert.MixOutInputRefIdeal.main_arg0) = m' ((c.tc : Thread Cert.MixOutInputRefIdeal.nD Cert.MixOutInputRefIdeal.τ).loc Cert.MixOutInputRefIdeal.main_arg0)
          ∧ r.2.mem ((c.tc : Thread Cert.MixOutInputRefIdeal.nD Cert.MixOutInputRefIdeal.τ).loc Cert.MixOutInputRefIdeal.main_arg1) = m' ((c.tc : Thread Cert.MixOutInputRefIdeal.nD Cert.MixOutInputRefIdeal.τ).loc Cert.MixOutInputRefIdeal.main_arg1)
          ∧ r.2.mem ((c.tc : Thread Cert.MixOutInputRefIdeal.nD Cert.MixOutInputRefIdeal.τ).loc Cert.MixOutInputRefIdeal.main_arg2) = m' ((c.tc : Thread Cert.MixOutInputRefIdeal.nD Cert.MixOutInputRefIdeal.τ).loc Cert.MixOutInputRefIdeal.main_arg2)
          ∧ r.2.mem ((c.tc : Thread Cert.MixOutInputRefIdeal.nD Cert.MixOutInputRefIdeal.τ).loc Cert.MixOutInputRefIdeal.main_arg3) = m' ((c.tc : Thread Cert.MixOutInputRefIdeal.nD Cert.MixOutInputRefIdeal.τ).loc Cert.MixOutInputRefIdeal.main_arg3)
          ∧ r.2.mem ((c.tc : Thread Cert.MixOutInputRefIdeal.nD Cert.MixOutInputRefIdeal.τ).loc Cert.MixOutInputRefIdeal.main_arg4) = m' ((c.tc : Thread Cert.MixOutInputRefIdeal.nD Cert.MixOutInputRefIdeal.τ).loc Cert.MixOutInputRefIdeal.main_arg4))

def preserves_MixOutWeight_MixOutWeightIdeal : Prop :=
  True

def algebraic_MixOutWeightIdeal_MixOutWeightRefIdeal [hMixOutWeightIdeal : Cert.MixOutWeightIdeal.Facts] [hMixOutWeightRefIdeal : Cert.MixOutWeightRefIdeal.Facts] : Prop :=
  ∀ (m : (ℓ : Loc Cert.MixOutWeightIdeal.nD Cert.MixOutWeightIdeal.τ Cert.MixOutWeightIdeal.sig) → Buf (Elt Ideal) ℓ) (g : Dev Cert.MixOutWeightIdeal.nD → PrngReg)
    (m' : (ℓ : Loc Cert.MixOutWeightRefIdeal.nD Cert.MixOutWeightRefIdeal.τ Cert.MixOutWeightRefIdeal.sig) → Buf (Elt Ideal) ℓ) (g' : Dev Cert.MixOutWeightRefIdeal.nD → PrngReg), Pre_MixOutWeightIdeal m →
    (∀ c : Dev Cert.MixOutWeightIdeal.nD,
      m' ((c.tc : Thread Cert.MixOutWeightRefIdeal.nD Cert.MixOutWeightRefIdeal.τ).loc Cert.MixOutWeightRefIdeal.main_arg0) = m ((c.tc : Thread Cert.MixOutWeightIdeal.nD Cert.MixOutWeightIdeal.τ).loc Cert.MixOutWeightIdeal.main_arg0)
      ∧ m' ((c.tc : Thread Cert.MixOutWeightRefIdeal.nD Cert.MixOutWeightRefIdeal.τ).loc Cert.MixOutWeightRefIdeal.main_arg1) = m ((c.tc : Thread Cert.MixOutWeightIdeal.nD Cert.MixOutWeightIdeal.τ).loc Cert.MixOutWeightIdeal.main_arg1)) →
    ∃ (v0 : (c : Dev Cert.MixOutWeightIdeal.nD) → Buf (Elt Ideal) ((c.tc : Thread Cert.MixOutWeightIdeal.nD Cert.MixOutWeightIdeal.τ).loc Cert.MixOutWeightIdeal.main_v2)),
      θ_run (Cert.MixOutWeightIdeal.defs (F := Ideal)) (onTc (τ := Cert.MixOutWeightIdeal.τ) (Cert.MixOutWeightIdeal.main (F := Ideal))) ⟨m, fun _ => 0, g⟩ (fun r => ∀ c : Dev Cert.MixOutWeightIdeal.nD,
          r.2.mem ((c.tc : Thread Cert.MixOutWeightIdeal.nD Cert.MixOutWeightIdeal.τ).loc Cert.MixOutWeightIdeal.main_v2) = v0 c
          ∧ r.2.mem ((c.tc : Thread Cert.MixOutWeightIdeal.nD Cert.MixOutWeightIdeal.τ).loc Cert.MixOutWeightIdeal.main_arg0) = m ((c.tc : Thread Cert.MixOutWeightIdeal.nD Cert.MixOutWeightIdeal.τ).loc Cert.MixOutWeightIdeal.main_arg0)
          ∧ r.2.mem ((c.tc : Thread Cert.MixOutWeightIdeal.nD Cert.MixOutWeightIdeal.τ).loc Cert.MixOutWeightIdeal.main_arg1) = m ((c.tc : Thread Cert.MixOutWeightIdeal.nD Cert.MixOutWeightIdeal.τ).loc Cert.MixOutWeightIdeal.main_arg1))
      ∧ θ_run (Cert.MixOutWeightRefIdeal.defs (F := Ideal)) (onTc (τ := Cert.MixOutWeightRefIdeal.τ) (Cert.MixOutWeightRefIdeal.main (F := Ideal))) ⟨m', fun _ => 0, g'⟩ (fun r => ∀ c : Dev Cert.MixOutWeightRefIdeal.nD,
          r.2.mem ((c.tc : Thread Cert.MixOutWeightRefIdeal.nD Cert.MixOutWeightRefIdeal.τ).loc Cert.MixOutWeightRefIdeal.main_v4) = v0 c
          ∧ r.2.mem ((c.tc : Thread Cert.MixOutWeightRefIdeal.nD Cert.MixOutWeightRefIdeal.τ).loc Cert.MixOutWeightRefIdeal.main_arg0) = m' ((c.tc : Thread Cert.MixOutWeightRefIdeal.nD Cert.MixOutWeightRefIdeal.τ).loc Cert.MixOutWeightRefIdeal.main_arg0)
          ∧ r.2.mem ((c.tc : Thread Cert.MixOutWeightRefIdeal.nD Cert.MixOutWeightRefIdeal.τ).loc Cert.MixOutWeightRefIdeal.main_arg1) = m' ((c.tc : Thread Cert.MixOutWeightRefIdeal.nD Cert.MixOutWeightRefIdeal.τ).loc Cert.MixOutWeightRefIdeal.main_arg1))

def preserves_MergeInput_MergeInputIdeal : Prop :=
  True

def algebraic_MergeInputIdeal_MergeInputRefIdeal [hMergeInputIdeal : Cert.MergeInputIdeal.Facts] [hMergeInputRefIdeal : Cert.MergeInputRefIdeal.Facts] : Prop :=
  ∀ (m : (ℓ : Loc Cert.MergeInputIdeal.nD Cert.MergeInputIdeal.τ Cert.MergeInputIdeal.sig) → Buf (Elt Ideal) ℓ) (g : Dev Cert.MergeInputIdeal.nD → PrngReg)
    (m' : (ℓ : Loc Cert.MergeInputRefIdeal.nD Cert.MergeInputRefIdeal.τ Cert.MergeInputRefIdeal.sig) → Buf (Elt Ideal) ℓ) (g' : Dev Cert.MergeInputRefIdeal.nD → PrngReg), Pre_MergeInputIdeal m →
    (∀ c : Dev Cert.MergeInputIdeal.nD,
      m' ((c.tc : Thread Cert.MergeInputRefIdeal.nD Cert.MergeInputRefIdeal.τ).loc Cert.MergeInputRefIdeal.main_arg0) = m ((c.tc : Thread Cert.MergeInputIdeal.nD Cert.MergeInputIdeal.τ).loc Cert.MergeInputIdeal.main_arg0)
      ∧ m' ((c.tc : Thread Cert.MergeInputRefIdeal.nD Cert.MergeInputRefIdeal.τ).loc Cert.MergeInputRefIdeal.main_arg1) = m ((c.tc : Thread Cert.MergeInputIdeal.nD Cert.MergeInputIdeal.τ).loc Cert.MergeInputIdeal.main_arg1)
      ∧ m' ((c.tc : Thread Cert.MergeInputRefIdeal.nD Cert.MergeInputRefIdeal.τ).loc Cert.MergeInputRefIdeal.main_arg2) = m ((c.tc : Thread Cert.MergeInputIdeal.nD Cert.MergeInputIdeal.τ).loc Cert.MergeInputIdeal.main_arg2)
      ∧ m' ((c.tc : Thread Cert.MergeInputRefIdeal.nD Cert.MergeInputRefIdeal.τ).loc Cert.MergeInputRefIdeal.main_arg3) = m ((c.tc : Thread Cert.MergeInputIdeal.nD Cert.MergeInputIdeal.τ).loc Cert.MergeInputIdeal.main_arg3)
      ∧ m' ((c.tc : Thread Cert.MergeInputRefIdeal.nD Cert.MergeInputRefIdeal.τ).loc Cert.MergeInputRefIdeal.main_arg4) = m ((c.tc : Thread Cert.MergeInputIdeal.nD Cert.MergeInputIdeal.τ).loc Cert.MergeInputIdeal.main_arg4)
      ∧ m' ((c.tc : Thread Cert.MergeInputRefIdeal.nD Cert.MergeInputRefIdeal.τ).loc Cert.MergeInputRefIdeal.main_arg5) = m ((c.tc : Thread Cert.MergeInputIdeal.nD Cert.MergeInputIdeal.τ).loc Cert.MergeInputIdeal.main_arg5)) →
    ∃ (v0 : (c : Dev Cert.MergeInputIdeal.nD) → Buf (Elt Ideal) ((c.tc : Thread Cert.MergeInputIdeal.nD Cert.MergeInputIdeal.τ).loc Cert.MergeInputIdeal.main_v8_0)) (v1 : (c : Dev Cert.MergeInputIdeal.nD) → Buf (Elt Ideal) ((c.tc : Thread Cert.MergeInputIdeal.nD Cert.MergeInputIdeal.τ).loc Cert.MergeInputIdeal.main_v8_1)) (v2 : (c : Dev Cert.MergeInputIdeal.nD) → Buf (Elt Ideal) ((c.tc : Thread Cert.MergeInputIdeal.nD Cert.MergeInputIdeal.τ).loc Cert.MergeInputIdeal.main_v8_2)),
      θ_run (Cert.MergeInputIdeal.defs (F := Ideal)) (onTc (τ := Cert.MergeInputIdeal.τ) (Cert.MergeInputIdeal.main (F := Ideal))) ⟨m, fun _ => 0, g⟩ (fun r => ∀ c : Dev Cert.MergeInputIdeal.nD,
          r.2.mem ((c.tc : Thread Cert.MergeInputIdeal.nD Cert.MergeInputIdeal.τ).loc Cert.MergeInputIdeal.main_v8_0) = v0 c
          ∧ r.2.mem ((c.tc : Thread Cert.MergeInputIdeal.nD Cert.MergeInputIdeal.τ).loc Cert.MergeInputIdeal.main_v8_1) = v1 c
          ∧ r.2.mem ((c.tc : Thread Cert.MergeInputIdeal.nD Cert.MergeInputIdeal.τ).loc Cert.MergeInputIdeal.main_v8_2) = v2 c
          ∧ r.2.mem ((c.tc : Thread Cert.MergeInputIdeal.nD Cert.MergeInputIdeal.τ).loc Cert.MergeInputIdeal.main_arg0) = m ((c.tc : Thread Cert.MergeInputIdeal.nD Cert.MergeInputIdeal.τ).loc Cert.MergeInputIdeal.main_arg0)
          ∧ r.2.mem ((c.tc : Thread Cert.MergeInputIdeal.nD Cert.MergeInputIdeal.τ).loc Cert.MergeInputIdeal.main_arg1) = m ((c.tc : Thread Cert.MergeInputIdeal.nD Cert.MergeInputIdeal.τ).loc Cert.MergeInputIdeal.main_arg1)
          ∧ r.2.mem ((c.tc : Thread Cert.MergeInputIdeal.nD Cert.MergeInputIdeal.τ).loc Cert.MergeInputIdeal.main_arg2) = m ((c.tc : Thread Cert.MergeInputIdeal.nD Cert.MergeInputIdeal.τ).loc Cert.MergeInputIdeal.main_arg2)
          ∧ r.2.mem ((c.tc : Thread Cert.MergeInputIdeal.nD Cert.MergeInputIdeal.τ).loc Cert.MergeInputIdeal.main_arg3) = m ((c.tc : Thread Cert.MergeInputIdeal.nD Cert.MergeInputIdeal.τ).loc Cert.MergeInputIdeal.main_arg3)
          ∧ r.2.mem ((c.tc : Thread Cert.MergeInputIdeal.nD Cert.MergeInputIdeal.τ).loc Cert.MergeInputIdeal.main_arg4) = m ((c.tc : Thread Cert.MergeInputIdeal.nD Cert.MergeInputIdeal.τ).loc Cert.MergeInputIdeal.main_arg4)
          ∧ r.2.mem ((c.tc : Thread Cert.MergeInputIdeal.nD Cert.MergeInputIdeal.τ).loc Cert.MergeInputIdeal.main_arg5) = m ((c.tc : Thread Cert.MergeInputIdeal.nD Cert.MergeInputIdeal.τ).loc Cert.MergeInputIdeal.main_arg5))
      ∧ θ_run (Cert.MergeInputRefIdeal.defs (F := Ideal)) (onTc (τ := Cert.MergeInputRefIdeal.τ) (Cert.MergeInputRefIdeal.main (F := Ideal))) ⟨m', fun _ => 0, g'⟩ (fun r => ∀ c : Dev Cert.MergeInputRefIdeal.nD,
          r.2.mem ((c.tc : Thread Cert.MergeInputRefIdeal.nD Cert.MergeInputRefIdeal.τ).loc Cert.MergeInputRefIdeal.main_v31) = v0 c
          ∧ r.2.mem ((c.tc : Thread Cert.MergeInputRefIdeal.nD Cert.MergeInputRefIdeal.τ).loc Cert.MergeInputRefIdeal.main_v29) = v1 c
          ∧ r.2.mem ((c.tc : Thread Cert.MergeInputRefIdeal.nD Cert.MergeInputRefIdeal.τ).loc Cert.MergeInputRefIdeal.main_v26) = v2 c
          ∧ r.2.mem ((c.tc : Thread Cert.MergeInputRefIdeal.nD Cert.MergeInputRefIdeal.τ).loc Cert.MergeInputRefIdeal.main_arg0) = m' ((c.tc : Thread Cert.MergeInputRefIdeal.nD Cert.MergeInputRefIdeal.τ).loc Cert.MergeInputRefIdeal.main_arg0)
          ∧ r.2.mem ((c.tc : Thread Cert.MergeInputRefIdeal.nD Cert.MergeInputRefIdeal.τ).loc Cert.MergeInputRefIdeal.main_arg1) = m' ((c.tc : Thread Cert.MergeInputRefIdeal.nD Cert.MergeInputRefIdeal.τ).loc Cert.MergeInputRefIdeal.main_arg1)
          ∧ r.2.mem ((c.tc : Thread Cert.MergeInputRefIdeal.nD Cert.MergeInputRefIdeal.τ).loc Cert.MergeInputRefIdeal.main_arg2) = m' ((c.tc : Thread Cert.MergeInputRefIdeal.nD Cert.MergeInputRefIdeal.τ).loc Cert.MergeInputRefIdeal.main_arg2)
          ∧ r.2.mem ((c.tc : Thread Cert.MergeInputRefIdeal.nD Cert.MergeInputRefIdeal.τ).loc Cert.MergeInputRefIdeal.main_arg3) = m' ((c.tc : Thread Cert.MergeInputRefIdeal.nD Cert.MergeInputRefIdeal.τ).loc Cert.MergeInputRefIdeal.main_arg3)
          ∧ r.2.mem ((c.tc : Thread Cert.MergeInputRefIdeal.nD Cert.MergeInputRefIdeal.τ).loc Cert.MergeInputRefIdeal.main_arg4) = m' ((c.tc : Thread Cert.MergeInputRefIdeal.nD Cert.MergeInputRefIdeal.τ).loc Cert.MergeInputRefIdeal.main_arg4)
          ∧ r.2.mem ((c.tc : Thread Cert.MergeInputRefIdeal.nD Cert.MergeInputRefIdeal.τ).loc Cert.MergeInputRefIdeal.main_arg5) = m' ((c.tc : Thread Cert.MergeInputRefIdeal.nD Cert.MergeInputRefIdeal.τ).loc Cert.MergeInputRefIdeal.main_arg5))

def preserves_MergeWeight_MergeWeightIdeal : Prop :=
  True

def algebraic_MergeWeightIdeal_MergeWeightRefIdeal [hMergeWeightIdeal : Cert.MergeWeightIdeal.Facts] [hMergeWeightRefIdeal : Cert.MergeWeightRefIdeal.Facts] : Prop :=
  ∀ (m : (ℓ : Loc Cert.MergeWeightIdeal.nD Cert.MergeWeightIdeal.τ Cert.MergeWeightIdeal.sig) → Buf (Elt Ideal) ℓ) (g : Dev Cert.MergeWeightIdeal.nD → PrngReg)
    (m' : (ℓ : Loc Cert.MergeWeightRefIdeal.nD Cert.MergeWeightRefIdeal.τ Cert.MergeWeightRefIdeal.sig) → Buf (Elt Ideal) ℓ) (g' : Dev Cert.MergeWeightRefIdeal.nD → PrngReg), Pre_MergeWeightIdeal m →
    (∀ c : Dev Cert.MergeWeightIdeal.nD,
      m' ((c.tc : Thread Cert.MergeWeightRefIdeal.nD Cert.MergeWeightRefIdeal.τ).loc Cert.MergeWeightRefIdeal.main_arg0) = m ((c.tc : Thread Cert.MergeWeightIdeal.nD Cert.MergeWeightIdeal.τ).loc Cert.MergeWeightIdeal.main_arg0)
      ∧ m' ((c.tc : Thread Cert.MergeWeightRefIdeal.nD Cert.MergeWeightRefIdeal.τ).loc Cert.MergeWeightRefIdeal.main_arg1) = m ((c.tc : Thread Cert.MergeWeightIdeal.nD Cert.MergeWeightIdeal.τ).loc Cert.MergeWeightIdeal.main_arg1)
      ∧ m' ((c.tc : Thread Cert.MergeWeightRefIdeal.nD Cert.MergeWeightRefIdeal.τ).loc Cert.MergeWeightRefIdeal.main_arg2) = m ((c.tc : Thread Cert.MergeWeightIdeal.nD Cert.MergeWeightIdeal.τ).loc Cert.MergeWeightIdeal.main_arg2)
      ∧ m' ((c.tc : Thread Cert.MergeWeightRefIdeal.nD Cert.MergeWeightRefIdeal.τ).loc Cert.MergeWeightRefIdeal.main_arg3) = m ((c.tc : Thread Cert.MergeWeightIdeal.nD Cert.MergeWeightIdeal.τ).loc Cert.MergeWeightIdeal.main_arg3)) →
    ∃ (v0 : (c : Dev Cert.MergeWeightIdeal.nD) → Buf (Elt Ideal) ((c.tc : Thread Cert.MergeWeightIdeal.nD Cert.MergeWeightIdeal.τ).loc Cert.MergeWeightIdeal.main_v4_0)) (v1 : (c : Dev Cert.MergeWeightIdeal.nD) → Buf (Elt Ideal) ((c.tc : Thread Cert.MergeWeightIdeal.nD Cert.MergeWeightIdeal.τ).loc Cert.MergeWeightIdeal.main_v4_1)),
      θ_run (Cert.MergeWeightIdeal.defs (F := Ideal)) (onTc (τ := Cert.MergeWeightIdeal.τ) (Cert.MergeWeightIdeal.main (F := Ideal))) ⟨m, fun _ => 0, g⟩ (fun r => ∀ c : Dev Cert.MergeWeightIdeal.nD,
          r.2.mem ((c.tc : Thread Cert.MergeWeightIdeal.nD Cert.MergeWeightIdeal.τ).loc Cert.MergeWeightIdeal.main_v4_0) = v0 c
          ∧ r.2.mem ((c.tc : Thread Cert.MergeWeightIdeal.nD Cert.MergeWeightIdeal.τ).loc Cert.MergeWeightIdeal.main_v4_1) = v1 c
          ∧ r.2.mem ((c.tc : Thread Cert.MergeWeightIdeal.nD Cert.MergeWeightIdeal.τ).loc Cert.MergeWeightIdeal.main_arg0) = m ((c.tc : Thread Cert.MergeWeightIdeal.nD Cert.MergeWeightIdeal.τ).loc Cert.MergeWeightIdeal.main_arg0)
          ∧ r.2.mem ((c.tc : Thread Cert.MergeWeightIdeal.nD Cert.MergeWeightIdeal.τ).loc Cert.MergeWeightIdeal.main_arg1) = m ((c.tc : Thread Cert.MergeWeightIdeal.nD Cert.MergeWeightIdeal.τ).loc Cert.MergeWeightIdeal.main_arg1)
          ∧ r.2.mem ((c.tc : Thread Cert.MergeWeightIdeal.nD Cert.MergeWeightIdeal.τ).loc Cert.MergeWeightIdeal.main_arg2) = m ((c.tc : Thread Cert.MergeWeightIdeal.nD Cert.MergeWeightIdeal.τ).loc Cert.MergeWeightIdeal.main_arg2)
          ∧ r.2.mem ((c.tc : Thread Cert.MergeWeightIdeal.nD Cert.MergeWeightIdeal.τ).loc Cert.MergeWeightIdeal.main_arg3) = m ((c.tc : Thread Cert.MergeWeightIdeal.nD Cert.MergeWeightIdeal.τ).loc Cert.MergeWeightIdeal.main_arg3))
      ∧ θ_run (Cert.MergeWeightRefIdeal.defs (F := Ideal)) (onTc (τ := Cert.MergeWeightRefIdeal.τ) (Cert.MergeWeightRefIdeal.main (F := Ideal))) ⟨m', fun _ => 0, g'⟩ (fun r => ∀ c : Dev Cert.MergeWeightRefIdeal.nD,
          r.2.mem ((c.tc : Thread Cert.MergeWeightRefIdeal.nD Cert.MergeWeightRefIdeal.τ).loc Cert.MergeWeightRefIdeal.main_v9) = v0 c
          ∧ r.2.mem ((c.tc : Thread Cert.MergeWeightRefIdeal.nD Cert.MergeWeightRefIdeal.τ).loc Cert.MergeWeightRefIdeal.main_v12) = v1 c
          ∧ r.2.mem ((c.tc : Thread Cert.MergeWeightRefIdeal.nD Cert.MergeWeightRefIdeal.τ).loc Cert.MergeWeightRefIdeal.main_arg0) = m' ((c.tc : Thread Cert.MergeWeightRefIdeal.nD Cert.MergeWeightRefIdeal.τ).loc Cert.MergeWeightRefIdeal.main_arg0)
          ∧ r.2.mem ((c.tc : Thread Cert.MergeWeightRefIdeal.nD Cert.MergeWeightRefIdeal.τ).loc Cert.MergeWeightRefIdeal.main_arg1) = m' ((c.tc : Thread Cert.MergeWeightRefIdeal.nD Cert.MergeWeightRefIdeal.τ).loc Cert.MergeWeightRefIdeal.main_arg1)
          ∧ r.2.mem ((c.tc : Thread Cert.MergeWeightRefIdeal.nD Cert.MergeWeightRefIdeal.τ).loc Cert.MergeWeightRefIdeal.main_arg2) = m' ((c.tc : Thread Cert.MergeWeightRefIdeal.nD Cert.MergeWeightRefIdeal.τ).loc Cert.MergeWeightRefIdeal.main_arg2)
          ∧ r.2.mem ((c.tc : Thread Cert.MergeWeightRefIdeal.nD Cert.MergeWeightRefIdeal.τ).loc Cert.MergeWeightRefIdeal.main_arg3) = m' ((c.tc : Thread Cert.MergeWeightRefIdeal.nD Cert.MergeWeightRefIdeal.τ).loc Cert.MergeWeightRefIdeal.main_arg3))

def preserves_GluWeight_GluWeightIdeal : Prop :=
  True

def algebraic_GluWeightIdeal_GluWeightRefIdeal [hGluWeightIdeal : Cert.GluWeightIdeal.Facts] [hGluWeightRefIdeal : Cert.GluWeightRefIdeal.Facts] : Prop :=
  ∀ (m : (ℓ : Loc Cert.GluWeightIdeal.nD Cert.GluWeightIdeal.τ Cert.GluWeightIdeal.sig) → Buf (Elt Ideal) ℓ) (g : Dev Cert.GluWeightIdeal.nD → PrngReg)
    (m' : (ℓ : Loc Cert.GluWeightRefIdeal.nD Cert.GluWeightRefIdeal.τ Cert.GluWeightRefIdeal.sig) → Buf (Elt Ideal) ℓ) (g' : Dev Cert.GluWeightRefIdeal.nD → PrngReg), Pre_GluWeightIdeal m →
    (∀ c : Dev Cert.GluWeightIdeal.nD,
      m' ((c.tc : Thread Cert.GluWeightRefIdeal.nD Cert.GluWeightRefIdeal.τ).loc Cert.GluWeightRefIdeal.main_arg0) = m ((c.tc : Thread Cert.GluWeightIdeal.nD Cert.GluWeightIdeal.τ).loc Cert.GluWeightIdeal.main_arg0)
      ∧ m' ((c.tc : Thread Cert.GluWeightRefIdeal.nD Cert.GluWeightRefIdeal.τ).loc Cert.GluWeightRefIdeal.main_arg1) = m ((c.tc : Thread Cert.GluWeightIdeal.nD Cert.GluWeightIdeal.τ).loc Cert.GluWeightIdeal.main_arg1)) →
    ∃ (v0 : (c : Dev Cert.GluWeightIdeal.nD) → Buf (Elt Ideal) ((c.tc : Thread Cert.GluWeightIdeal.nD Cert.GluWeightIdeal.τ).loc Cert.GluWeightIdeal.main_v2)),
      θ_run (Cert.GluWeightIdeal.defs (F := Ideal)) (onTc (τ := Cert.GluWeightIdeal.τ) (Cert.GluWeightIdeal.main (F := Ideal))) ⟨m, fun _ => 0, g⟩ (fun r => ∀ c : Dev Cert.GluWeightIdeal.nD,
          r.2.mem ((c.tc : Thread Cert.GluWeightIdeal.nD Cert.GluWeightIdeal.τ).loc Cert.GluWeightIdeal.main_v2) = v0 c
          ∧ r.2.mem ((c.tc : Thread Cert.GluWeightIdeal.nD Cert.GluWeightIdeal.τ).loc Cert.GluWeightIdeal.main_arg0) = m ((c.tc : Thread Cert.GluWeightIdeal.nD Cert.GluWeightIdeal.τ).loc Cert.GluWeightIdeal.main_arg0)
          ∧ r.2.mem ((c.tc : Thread Cert.GluWeightIdeal.nD Cert.GluWeightIdeal.τ).loc Cert.GluWeightIdeal.main_arg1) = m ((c.tc : Thread Cert.GluWeightIdeal.nD Cert.GluWeightIdeal.τ).loc Cert.GluWeightIdeal.main_arg1))
      ∧ θ_run (Cert.GluWeightRefIdeal.defs (F := Ideal)) (onTc (τ := Cert.GluWeightRefIdeal.τ) (Cert.GluWeightRefIdeal.main (F := Ideal))) ⟨m', fun _ => 0, g'⟩ (fun r => ∀ c : Dev Cert.GluWeightRefIdeal.nD,
          r.2.mem ((c.tc : Thread Cert.GluWeightRefIdeal.nD Cert.GluWeightRefIdeal.τ).loc Cert.GluWeightRefIdeal.main_v4) = v0 c
          ∧ r.2.mem ((c.tc : Thread Cert.GluWeightRefIdeal.nD Cert.GluWeightRefIdeal.τ).loc Cert.GluWeightRefIdeal.main_arg0) = m' ((c.tc : Thread Cert.GluWeightRefIdeal.nD Cert.GluWeightRefIdeal.τ).loc Cert.GluWeightRefIdeal.main_arg0)
          ∧ r.2.mem ((c.tc : Thread Cert.GluWeightRefIdeal.nD Cert.GluWeightRefIdeal.τ).loc Cert.GluWeightRefIdeal.main_arg1) = m' ((c.tc : Thread Cert.GluWeightRefIdeal.nD Cert.GluWeightRefIdeal.τ).loc Cert.GluWeightRefIdeal.main_arg1))

def preserves_FfnGate_FfnGateIdeal : Prop :=
  True

def algebraic_FfnGateIdeal_FfnGateRefIdeal [hFfnGateIdeal : Cert.FfnGateIdeal.Facts] [hFfnGateRefIdeal : Cert.FfnGateRefIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateRefIdeal.nD Cert.FfnGateRefIdeal.τ Cert.FfnGateRefIdeal.sig) → Buf (Elt Ideal) ℓ) (g' : Dev Cert.FfnGateRefIdeal.nD → PrngReg), Pre_FfnGateIdeal m →
    (∀ c : Dev Cert.FfnGateIdeal.nD,
      m' ((c.tc : Thread Cert.FfnGateRefIdeal.nD Cert.FfnGateRefIdeal.τ).loc Cert.FfnGateRefIdeal.main_arg0) = m ((c.tc : Thread Cert.FfnGateIdeal.nD Cert.FfnGateIdeal.τ).loc Cert.FfnGateIdeal.main_arg0)
      ∧ m' ((c.tc : Thread Cert.FfnGateRefIdeal.nD Cert.FfnGateRefIdeal.τ).loc Cert.FfnGateRefIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v4)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v4) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateRefIdeal.defs (F := Ideal)) (onTc (τ := Cert.FfnGateRefIdeal.τ) (Cert.FfnGateRefIdeal.main (F := Ideal))) ⟨m', fun _ => 0, g'⟩ (fun r => ∀ c : Dev Cert.FfnGateRefIdeal.nD,
          r.2.mem ((c.tc : Thread Cert.FfnGateRefIdeal.nD Cert.FfnGateRefIdeal.τ).loc Cert.FfnGateRefIdeal.main_v3) = v0 c
          ∧ r.2.mem ((c.tc : Thread Cert.FfnGateRefIdeal.nD Cert.FfnGateRefIdeal.τ).loc Cert.FfnGateRefIdeal.main_arg0) = m' ((c.tc : Thread Cert.FfnGateRefIdeal.nD Cert.FfnGateRefIdeal.τ).loc Cert.FfnGateRefIdeal.main_arg0)
          ∧ r.2.mem ((c.tc : Thread Cert.FfnGateRefIdeal.nD Cert.FfnGateRefIdeal.τ).loc Cert.FfnGateRefIdeal.main_arg1) = m' ((c.tc : Thread Cert.FfnGateRefIdeal.nD Cert.FfnGateRefIdeal.τ).loc Cert.FfnGateRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7_0)) (v1 : (c : Dev Cert.FfnUpIdeal.nD) → Buf (Elt Ideal) ((c.tc : Thread Cert.FfnUpIdeal.nD Cert.FfnUpIdeal.τ).loc Cert.FfnUpIdeal.main_v7_1)) (v2 : (c : Dev Cert.FfnUpIdeal.nD) → Buf (Elt Ideal) ((c.tc : Thread Cert.FfnUpIdeal.nD Cert.FfnUpIdeal.τ).loc Cert.FfnUpIdeal.main_v7_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7_0) = v0 c
          ∧ r.2.mem ((c.tc : Thread Cert.FfnUpIdeal.nD Cert.FfnUpIdeal.τ).loc Cert.FfnUpIdeal.main_v7_1) = v1 c
          ∧ r.2.mem ((c.tc : Thread Cert.FfnUpIdeal.nD Cert.FfnUpIdeal.τ).loc Cert.FfnUpIdeal.main_v7_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v18) = v0 c
          ∧ r.2.mem ((c.tc : Thread Cert.FfnUpRefIdeal.nD Cert.FfnUpRefIdeal.τ).loc Cert.FfnUpRefIdeal.main_v22) = v1 c
          ∧ r.2.mem ((c.tc : Thread Cert.FfnUpRefIdeal.nD Cert.FfnUpRefIdeal.τ).loc Cert.FfnUpRefIdeal.main_v27) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v5)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v5) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_MixMerge_MixMergeIdeal : Prop :=
  True

def algebraic_MixMergeIdeal_MixMergeRefIdeal [hMixMergeIdeal : Cert.MixMergeIdeal.Facts] [hMixMergeRefIdeal : Cert.MixMergeRefIdeal.Facts] : Prop :=
  ∀ (m : (ℓ : Loc Cert.MixMergeIdeal.nD Cert.MixMergeIdeal.τ Cert.MixMergeIdeal.sig) → Buf (Elt Ideal) ℓ) (g : Dev Cert.MixMergeIdeal.nD → PrngReg)
    (m' : (ℓ : Loc Cert.MixMergeRefIdeal.nD Cert.MixMergeRefIdeal.τ Cert.MixMergeRefIdeal.sig) → Buf (Elt Ideal) ℓ) (g' : Dev Cert.MixMergeRefIdeal.nD → PrngReg), Pre_MixMergeIdeal m →
    (∀ c : Dev Cert.MixMergeIdeal.nD,
      m' ((c.tc : Thread Cert.MixMergeRefIdeal.nD Cert.MixMergeRefIdeal.τ).loc Cert.MixMergeRefIdeal.main_arg0) = m ((c.tc : Thread Cert.MixMergeIdeal.nD Cert.MixMergeIdeal.τ).loc Cert.MixMergeIdeal.main_arg0)
      ∧ m' ((c.tc : Thread Cert.MixMergeRefIdeal.nD Cert.MixMergeRefIdeal.τ).loc Cert.MixMergeRefIdeal.main_arg1) = m ((c.tc : Thread Cert.MixMergeIdeal.nD Cert.MixMergeIdeal.τ).loc Cert.MixMergeIdeal.main_arg1)
      ∧ m' ((c.tc : Thread Cert.MixMergeRefIdeal.nD Cert.MixMergeRefIdeal.τ).loc Cert.MixMergeRefIdeal.main_arg2) = m ((c.tc : Thread Cert.MixMergeIdeal.nD Cert.MixMergeIdeal.τ).loc Cert.MixMergeIdeal.main_arg2)
      ∧ m' ((c.tc : Thread Cert.MixMergeRefIdeal.nD Cert.MixMergeRefIdeal.τ).loc Cert.MixMergeRefIdeal.main_arg3) = m ((c.tc : Thread Cert.MixMergeIdeal.nD Cert.MixMergeIdeal.τ).loc Cert.MixMergeIdeal.main_arg3)
      ∧ m' ((c.tc : Thread Cert.MixMergeRefIdeal.nD Cert.MixMergeRefIdeal.τ).loc Cert.MixMergeRefIdeal.main_arg4) = m ((c.tc : Thread Cert.MixMergeIdeal.nD Cert.MixMergeIdeal.τ).loc Cert.MixMergeIdeal.main_arg4)) →
    ∃ (v0 : (c : Dev Cert.MixMergeIdeal.nD) → Buf (Elt Ideal) ((c.tc : Thread Cert.MixMergeIdeal.nD Cert.MixMergeIdeal.τ).loc Cert.MixMergeIdeal.main_v10_0)) (v1 : (c : Dev Cert.MixMergeIdeal.nD) → Buf (Elt Ideal) ((c.tc : Thread Cert.MixMergeIdeal.nD Cert.MixMergeIdeal.τ).loc Cert.MixMergeIdeal.main_v10_1)) (v2 : (c : Dev Cert.MixMergeIdeal.nD) → Buf (Elt Ideal) ((c.tc : Thread Cert.MixMergeIdeal.nD Cert.MixMergeIdeal.τ).loc Cert.MixMergeIdeal.main_v10_2)),
      θ_run (Cert.MixMergeIdeal.defs (F := Ideal)) (onTc (τ := Cert.MixMergeIdeal.τ) (Cert.MixMergeIdeal.main (F := Ideal))) ⟨m, fun _ => 0, g⟩ (fun r => ∀ c : Dev Cert.MixMergeIdeal.nD,
          r.2.mem ((c.tc : Thread Cert.MixMergeIdeal.nD Cert.MixMergeIdeal.τ).loc Cert.MixMergeIdeal.main_v10_0) = v0 c
          ∧ r.2.mem ((c.tc : Thread Cert.MixMergeIdeal.nD Cert.MixMergeIdeal.τ).loc Cert.MixMergeIdeal.main_v10_1) = v1 c
          ∧ r.2.mem ((c.tc : Thread Cert.MixMergeIdeal.nD Cert.MixMergeIdeal.τ).loc Cert.MixMergeIdeal.main_v10_2) = v2 c
          ∧ r.2.mem ((c.tc : Thread Cert.MixMergeIdeal.nD Cert.MixMergeIdeal.τ).loc Cert.MixMergeIdeal.main_arg0) = m ((c.tc : Thread Cert.MixMergeIdeal.nD Cert.MixMergeIdeal.τ).loc Cert.MixMergeIdeal.main_arg0)
          ∧ r.2.mem ((c.tc : Thread Cert.MixMergeIdeal.nD Cert.MixMergeIdeal.τ).loc Cert.MixMergeIdeal.main_arg1) = m ((c.tc : Thread Cert.MixMergeIdeal.nD Cert.MixMergeIdeal.τ).loc Cert.MixMergeIdeal.main_arg1)
          ∧ r.2.mem ((c.tc : Thread Cert.MixMergeIdeal.nD Cert.MixMergeIdeal.τ).loc Cert.MixMergeIdeal.main_arg2) = m ((c.tc : Thread Cert.MixMergeIdeal.nD Cert.MixMergeIdeal.τ).loc Cert.MixMergeIdeal.main_arg2)
          ∧ r.2.mem ((c.tc : Thread Cert.MixMergeIdeal.nD Cert.MixMergeIdeal.τ).loc Cert.MixMergeIdeal.main_arg3) = m ((c.tc : Thread Cert.MixMergeIdeal.nD Cert.MixMergeIdeal.τ).loc Cert.MixMergeIdeal.main_arg3)
          ∧ r.2.mem ((c.tc : Thread Cert.MixMergeIdeal.nD Cert.MixMergeIdeal.τ).loc Cert.MixMergeIdeal.main_arg4) = m ((c.tc : Thread Cert.MixMergeIdeal.nD Cert.MixMergeIdeal.τ).loc Cert.MixMergeIdeal.main_arg4))
      ∧ θ_run (Cert.MixMergeRefIdeal.defs (F := Ideal)) (onTc (τ := Cert.MixMergeRefIdeal.τ) (Cert.MixMergeRefIdeal.main (F := Ideal))) ⟨m', fun _ => 0, g'⟩ (fun r => ∀ c : Dev Cert.MixMergeRefIdeal.nD,
          r.2.mem ((c.tc : Thread Cert.MixMergeRefIdeal.nD Cert.MixMergeRefIdeal.τ).loc Cert.MixMergeRefIdeal.main_v19) = v0 c
          ∧ r.2.mem ((c.tc : Thread Cert.MixMergeRefIdeal.nD Cert.MixMergeRefIdeal.τ).loc Cert.MixMergeRefIdeal.main_v20) = v1 c
          ∧ r.2.mem ((c.tc : Thread Cert.MixMergeRefIdeal.nD Cert.MixMergeRefIdeal.τ).loc Cert.MixMergeRefIdeal.main_v21) = v2 c
          ∧ r.2.mem ((c.tc : Thread Cert.MixMergeRefIdeal.nD Cert.MixMergeRefIdeal.τ).loc Cert.MixMergeRefIdeal.main_arg0) = m' ((c.tc : Thread Cert.MixMergeRefIdeal.nD Cert.MixMergeRefIdeal.τ).loc Cert.MixMergeRefIdeal.main_arg0)
          ∧ r.2.mem ((c.tc : Thread Cert.MixMergeRefIdeal.nD Cert.MixMergeRefIdeal.τ).loc Cert.MixMergeRefIdeal.main_arg1) = m' ((c.tc : Thread Cert.MixMergeRefIdeal.nD Cert.MixMergeRefIdeal.τ).loc Cert.MixMergeRefIdeal.main_arg1)
          ∧ r.2.mem ((c.tc : Thread Cert.MixMergeRefIdeal.nD Cert.MixMergeRefIdeal.τ).loc Cert.MixMergeRefIdeal.main_arg2) = m' ((c.tc : Thread Cert.MixMergeRefIdeal.nD Cert.MixMergeRefIdeal.τ).loc Cert.MixMergeRefIdeal.main_arg2)
          ∧ r.2.mem ((c.tc : Thread Cert.MixMergeRefIdeal.nD Cert.MixMergeRefIdeal.τ).loc Cert.MixMergeRefIdeal.main_arg3) = m' ((c.tc : Thread Cert.MixMergeRefIdeal.nD Cert.MixMergeRefIdeal.τ).loc Cert.MixMergeRefIdeal.main_arg3)
          ∧ r.2.mem ((c.tc : Thread Cert.MixMergeRefIdeal.nD Cert.MixMergeRefIdeal.τ).loc Cert.MixMergeRefIdeal.main_arg4) = m' ((c.tc : Thread Cert.MixMergeRefIdeal.nD Cert.MixMergeRefIdeal.τ).loc Cert.MixMergeRefIdeal.main_arg4))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v1) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
      ∧ m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)) →
    ∃ (v0 : (c : Dev Cert.ScanIdeal.nD) → Buf (Elt Ideal) ((c.tc : Thread Cert.ScanIdeal.nD Cert.ScanIdeal.τ).loc Cert.ScanIdeal.main_v1_0)) (v1 : (c : Dev Cert.ScanIdeal.nD) → Buf (Elt Ideal) ((c.tc : Thread Cert.ScanIdeal.nD Cert.ScanIdeal.τ).loc Cert.ScanIdeal.main_v1_1)) (v2 : (c : Dev Cert.ScanIdeal.nD) → Buf (Elt Ideal) ((c.tc : Thread Cert.ScanIdeal.nD Cert.ScanIdeal.τ).loc Cert.ScanIdeal.main_v1_2)) (v3 : (c : Dev Cert.ScanIdeal.nD) → Buf (Elt Ideal) ((c.tc : Thread Cert.ScanIdeal.nD Cert.ScanIdeal.τ).loc Cert.ScanIdeal.main_v1_3)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v1_0) = v0 c
          ∧ r.2.mem ((c.tc : Thread Cert.ScanIdeal.nD Cert.ScanIdeal.τ).loc Cert.ScanIdeal.main_v1_1) = v1 c
          ∧ r.2.mem ((c.tc : Thread Cert.ScanIdeal.nD Cert.ScanIdeal.τ).loc Cert.ScanIdeal.main_v1_2) = v2 c
          ∧ r.2.mem ((c.tc : Thread Cert.ScanIdeal.nD Cert.ScanIdeal.τ).loc Cert.ScanIdeal.main_v1_3) = v3 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
          ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v14_11) = v0 c
          ∧ r.2.mem ((c.tc : Thread Cert.ScanRefIdeal.nD Cert.ScanRefIdeal.τ).loc Cert.ScanRefIdeal.main_v14_12) = v1 c
          ∧ r.2.mem ((c.tc : Thread Cert.ScanRefIdeal.nD Cert.ScanRefIdeal.τ).loc Cert.ScanRefIdeal.main_v14_7) = v2 c
          ∧ r.2.mem ((c.tc : Thread Cert.ScanRefIdeal.nD Cert.ScanRefIdeal.τ).loc Cert.ScanRefIdeal.main_v14_8) = v3 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4)
          ∧ r.2.mem ((c.tc : Thread Cert.ScanRefIdeal.nD Cert.ScanRefIdeal.τ).loc Cert.ScanRefIdeal.main_arg5) = m' ((c.tc : Thread Cert.ScanRefIdeal.nD Cert.ScanRefIdeal.τ).loc Cert.ScanRefIdeal.main_arg5))

def preserves_FfnAct_FfnActIdeal : Prop :=
  True

def algebraic_FfnActIdeal_FfnActRefIdeal [hFfnActIdeal : Cert.FfnActIdeal.Facts] [hFfnActRefIdeal : Cert.FfnActRefIdeal.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)) →
    ∃ (v0 : (c : Dev Cert.FfnActIdeal.nD) → Buf (Elt Ideal) ((c.tc : Thread Cert.FfnActIdeal.nD Cert.FfnActIdeal.τ).loc Cert.FfnActIdeal.main_v11_0)) (v1 : (c : Dev Cert.FfnActIdeal.nD) → Buf (Elt Ideal) ((c.tc : Thread Cert.FfnActIdeal.nD Cert.FfnActIdeal.τ).loc Cert.FfnActIdeal.main_v11_1)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v11_0) = v0 c
          ∧ r.2.mem ((c.tc : Thread Cert.FfnActIdeal.nD Cert.FfnActIdeal.τ).loc Cert.FfnActIdeal.main_v11_1) = v1 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v10) = v0 c
          ∧ r.2.mem ((c.tc : Thread Cert.FfnActRefIdeal.nD Cert.FfnActRefIdeal.τ).loc Cert.FfnActRefIdeal.main_v14) = v1 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3))

def preserves_AdamwConv_AdamwConvIdeal : Prop :=
  True

def algebraic_AdamwConvIdeal_AdamwConvRefIdeal [hAdamwConvIdeal : Cert.AdamwConvIdeal.Facts] [hAdamwConvRefIdeal : Cert.AdamwConvRefIdeal.Facts] : Prop :=
  ∀ (m : (ℓ : Loc Cert.AdamwConvIdeal.nD Cert.AdamwConvIdeal.τ Cert.AdamwConvIdeal.sig) → Buf (Elt Ideal) ℓ) (g : Dev Cert.AdamwConvIdeal.nD → PrngReg)
    (m' : (ℓ : Loc Cert.AdamwConvRefIdeal.nD Cert.AdamwConvRefIdeal.τ Cert.AdamwConvRefIdeal.sig) → Buf (Elt Ideal) ℓ) (g' : Dev Cert.AdamwConvRefIdeal.nD → PrngReg), Pre_AdamwConvIdeal m →
    (∀ c : Dev Cert.AdamwConvIdeal.nD,
      m' ((c.tc : Thread Cert.AdamwConvRefIdeal.nD Cert.AdamwConvRefIdeal.τ).loc Cert.AdamwConvRefIdeal.main_arg0) = m ((c.tc : Thread Cert.AdamwConvIdeal.nD Cert.AdamwConvIdeal.τ).loc Cert.AdamwConvIdeal.main_arg0)
      ∧ m' ((c.tc : Thread Cert.AdamwConvRefIdeal.nD Cert.AdamwConvRefIdeal.τ).loc Cert.AdamwConvRefIdeal.main_arg1) = m ((c.tc : Thread Cert.AdamwConvIdeal.nD Cert.AdamwConvIdeal.τ).loc Cert.AdamwConvIdeal.main_arg1)
      ∧ m' ((c.tc : Thread Cert.AdamwConvRefIdeal.nD Cert.AdamwConvRefIdeal.τ).loc Cert.AdamwConvRefIdeal.main_arg2) = m ((c.tc : Thread Cert.AdamwConvIdeal.nD Cert.AdamwConvIdeal.τ).loc Cert.AdamwConvIdeal.main_arg2)
      ∧ m' ((c.tc : Thread Cert.AdamwConvRefIdeal.nD Cert.AdamwConvRefIdeal.τ).loc Cert.AdamwConvRefIdeal.main_arg3) = m ((c.tc : Thread Cert.AdamwConvIdeal.nD Cert.AdamwConvIdeal.τ).loc Cert.AdamwConvIdeal.main_arg3)) →
    ∃ (v0 : (c : Dev Cert.AdamwConvIdeal.nD) → Buf (Elt Ideal) ((c.tc : Thread Cert.AdamwConvIdeal.nD Cert.AdamwConvIdeal.τ).loc Cert.AdamwConvIdeal.main_v0_0)) (v1 : (c : Dev Cert.AdamwConvIdeal.nD) → Buf (Elt Ideal) ((c.tc : Thread Cert.AdamwConvIdeal.nD Cert.AdamwConvIdeal.τ).loc Cert.AdamwConvIdeal.main_v0_1)) (v2 : (c : Dev Cert.AdamwConvIdeal.nD) → Buf (Elt Ideal) ((c.tc : Thread Cert.AdamwConvIdeal.nD Cert.AdamwConvIdeal.τ).loc Cert.AdamwConvIdeal.main_v0_2)) (v3 : (c : Dev Cert.AdamwConvIdeal.nD) → Buf (Elt Ideal) ((c.tc : Thread Cert.AdamwConvIdeal.nD Cert.AdamwConvIdeal.τ).loc Cert.AdamwConvIdeal.main_v0_3)),
      θ_run (Cert.AdamwConvIdeal.defs (F := Ideal)) (onTc (τ := Cert.AdamwConvIdeal.τ) (Cert.AdamwConvIdeal.main (F := Ideal))) ⟨m, fun _ => 0, g⟩ (fun r => ∀ c : Dev Cert.AdamwConvIdeal.nD,
          r.2.mem ((c.tc : Thread Cert.AdamwConvIdeal.nD Cert.AdamwConvIdeal.τ).loc Cert.AdamwConvIdeal.main_v0_0) = v0 c
          ∧ r.2.mem ((c.tc : Thread Cert.AdamwConvIdeal.nD Cert.AdamwConvIdeal.τ).loc Cert.AdamwConvIdeal.main_v0_1) = v1 c
          ∧ r.2.mem ((c.tc : Thread Cert.AdamwConvIdeal.nD Cert.AdamwConvIdeal.τ).loc Cert.AdamwConvIdeal.main_v0_2) = v2 c
          ∧ r.2.mem ((c.tc : Thread Cert.AdamwConvIdeal.nD Cert.AdamwConvIdeal.τ).loc Cert.AdamwConvIdeal.main_v0_3) = v3 c
          ∧ r.2.mem ((c.tc : Thread Cert.AdamwConvIdeal.nD Cert.AdamwConvIdeal.τ).loc Cert.AdamwConvIdeal.main_arg0) = m ((c.tc : Thread Cert.AdamwConvIdeal.nD Cert.AdamwConvIdeal.τ).loc Cert.AdamwConvIdeal.main_arg0)
          ∧ r.2.mem ((c.tc : Thread Cert.AdamwConvIdeal.nD Cert.AdamwConvIdeal.τ).loc Cert.AdamwConvIdeal.main_arg1) = m ((c.tc : Thread Cert.AdamwConvIdeal.nD Cert.AdamwConvIdeal.τ).loc Cert.AdamwConvIdeal.main_arg1)
          ∧ r.2.mem ((c.tc : Thread Cert.AdamwConvIdeal.nD Cert.AdamwConvIdeal.τ).loc Cert.AdamwConvIdeal.main_arg2) = m ((c.tc : Thread Cert.AdamwConvIdeal.nD Cert.AdamwConvIdeal.τ).loc Cert.AdamwConvIdeal.main_arg2)
          ∧ r.2.mem ((c.tc : Thread Cert.AdamwConvIdeal.nD Cert.AdamwConvIdeal.τ).loc Cert.AdamwConvIdeal.main_arg3) = m ((c.tc : Thread Cert.AdamwConvIdeal.nD Cert.AdamwConvIdeal.τ).loc Cert.AdamwConvIdeal.main_arg3))
      ∧ θ_run (Cert.AdamwConvRefIdeal.defs (F := Ideal)) (onTc (τ := Cert.AdamwConvRefIdeal.τ) (Cert.AdamwConvRefIdeal.main (F := Ideal))) ⟨m', fun _ => 0, g'⟩ (fun r => ∀ c : Dev Cert.AdamwConvRefIdeal.nD,
          r.2.mem ((c.tc : Thread Cert.AdamwConvRefIdeal.nD Cert.AdamwConvRefIdeal.τ).loc Cert.AdamwConvRefIdeal.main_arg0) = v0 c
          ∧ r.2.mem ((c.tc : Thread Cert.AdamwConvRefIdeal.nD Cert.AdamwConvRefIdeal.τ).loc Cert.AdamwConvRefIdeal.main_v23) = v1 c
          ∧ r.2.mem ((c.tc : Thread Cert.AdamwConvRefIdeal.nD Cert.AdamwConvRefIdeal.τ).loc Cert.AdamwConvRefIdeal.main_v4) = v2 c
          ∧ r.2.mem ((c.tc : Thread Cert.AdamwConvRefIdeal.nD Cert.AdamwConvRefIdeal.τ).loc Cert.AdamwConvRefIdeal.main_v10) = v3 c
          ∧ r.2.mem ((c.tc : Thread Cert.AdamwConvRefIdeal.nD Cert.AdamwConvRefIdeal.τ).loc Cert.AdamwConvRefIdeal.main_arg0) = m' ((c.tc : Thread Cert.AdamwConvRefIdeal.nD Cert.AdamwConvRefIdeal.τ).loc Cert.AdamwConvRefIdeal.main_arg0)
          ∧ r.2.mem ((c.tc : Thread Cert.AdamwConvRefIdeal.nD Cert.AdamwConvRefIdeal.τ).loc Cert.AdamwConvRefIdeal.main_arg1) = m' ((c.tc : Thread Cert.AdamwConvRefIdeal.nD Cert.AdamwConvRefIdeal.τ).loc Cert.AdamwConvRefIdeal.main_arg1)
          ∧ r.2.mem ((c.tc : Thread Cert.AdamwConvRefIdeal.nD Cert.AdamwConvRefIdeal.τ).loc Cert.AdamwConvRefIdeal.main_arg2) = m' ((c.tc : Thread Cert.AdamwConvRefIdeal.nD Cert.AdamwConvRefIdeal.τ).loc Cert.AdamwConvRefIdeal.main_arg2)
          ∧ r.2.mem ((c.tc : Thread Cert.AdamwConvRefIdeal.nD Cert.AdamwConvRefIdeal.τ).loc Cert.AdamwConvRefIdeal.main_arg3) = m' ((c.tc : Thread Cert.AdamwConvRefIdeal.nD Cert.AdamwConvRefIdeal.τ).loc Cert.AdamwConvRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v0) = v0 c
          ∧ r.2.mem ((c.tc : Thread Cert.AdamwSmallRefIdeal.nD Cert.AdamwSmallRefIdeal.τ).loc Cert.AdamwSmallRefIdeal.main_v24) = v1 c
          ∧ r.2.mem ((c.tc : Thread Cert.AdamwSmallRefIdeal.nD Cert.AdamwSmallRefIdeal.τ).loc Cert.AdamwSmallRefIdeal.main_v5) = v2 c
          ∧ r.2.mem ((c.tc : Thread Cert.AdamwSmallRefIdeal.nD Cert.AdamwSmallRefIdeal.τ).loc Cert.AdamwSmallRefIdeal.main_v11) = v3 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_AdamwFfn_AdamwFfnIdeal : Prop :=
  True

def algebraic_AdamwFfnIdeal_AdamwFfnRefIdeal [hAdamwFfnIdeal : Cert.AdamwFfnIdeal.Facts] [hAdamwFfnRefIdeal : Cert.AdamwFfnRefIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg)
    (m' : (ℓ : Loc Cert.AdamwFfnRefIdeal.nD Cert.AdamwFfnRefIdeal.τ Cert.AdamwFfnRefIdeal.sig) → Buf (Elt Ideal) ℓ) (g' : Dev Cert.AdamwFfnRefIdeal.nD → PrngReg), Pre_AdamwFfnIdeal m →
    (∀ c : Dev Cert.AdamwFfnIdeal.nD,
      m' ((c.tc : Thread Cert.AdamwFfnRefIdeal.nD Cert.AdamwFfnRefIdeal.τ).loc Cert.AdamwFfnRefIdeal.main_arg0) = m ((c.tc : Thread Cert.AdamwFfnIdeal.nD Cert.AdamwFfnIdeal.τ).loc Cert.AdamwFfnIdeal.main_arg0)
      ∧ m' ((c.tc : Thread Cert.AdamwFfnRefIdeal.nD Cert.AdamwFfnRefIdeal.τ).loc Cert.AdamwFfnRefIdeal.main_arg1) = m ((c.tc : Thread Cert.AdamwFfnIdeal.nD Cert.AdamwFfnIdeal.τ).loc Cert.AdamwFfnIdeal.main_arg1)
      ∧ m' ((c.tc : Thread Cert.AdamwFfnRefIdeal.nD Cert.AdamwFfnRefIdeal.τ).loc Cert.AdamwFfnRefIdeal.main_arg2) = m ((c.tc : Thread Cert.AdamwFfnIdeal.nD Cert.AdamwFfnIdeal.τ).loc Cert.AdamwFfnIdeal.main_arg2)
      ∧ m' ((c.tc : Thread Cert.AdamwFfnRefIdeal.nD Cert.AdamwFfnRefIdeal.τ).loc Cert.AdamwFfnRefIdeal.main_arg3) = m ((c.tc : Thread Cert.AdamwFfnIdeal.nD Cert.AdamwFfnIdeal.τ).loc Cert.AdamwFfnIdeal.main_arg3)
      ∧ m' ((c.tc : Thread Cert.AdamwFfnRefIdeal.nD Cert.AdamwFfnRefIdeal.τ).loc Cert.AdamwFfnRefIdeal.main_arg4) = m ((c.tc : Thread Cert.AdamwFfnIdeal.nD Cert.AdamwFfnIdeal.τ).loc Cert.AdamwFfnIdeal.main_arg4)) →
    ∃ (v0 : (c : Dev Cert.AdamwFfnIdeal.nD) → Buf (Elt Ideal) ((c.tc : Thread Cert.AdamwFfnIdeal.nD Cert.AdamwFfnIdeal.τ).loc Cert.AdamwFfnIdeal.main_v1_0)) (v1 : (c : Dev Cert.AdamwFfnIdeal.nD) → Buf (Elt Ideal) ((c.tc : Thread Cert.AdamwFfnIdeal.nD Cert.AdamwFfnIdeal.τ).loc Cert.AdamwFfnIdeal.main_v1_1)) (v2 : (c : Dev Cert.AdamwFfnIdeal.nD) → Buf (Elt Ideal) ((c.tc : Thread Cert.AdamwFfnIdeal.nD Cert.AdamwFfnIdeal.τ).loc Cert.AdamwFfnIdeal.main_v1_2)) (v3 : (c : Dev Cert.AdamwFfnIdeal.nD) → Buf (Elt Ideal) ((c.tc : Thread Cert.AdamwFfnIdeal.nD Cert.AdamwFfnIdeal.τ).loc Cert.AdamwFfnIdeal.main_v1_3)),
      θ_run (Cert.AdamwFfnIdeal.defs (F := Ideal)) (onTc (τ := Cert.AdamwFfnIdeal.τ) (Cert.AdamwFfnIdeal.main (F := Ideal))) ⟨m, fun _ => 0, g⟩ (fun r => ∀ c : Dev Cert.AdamwFfnIdeal.nD,
          r.2.mem ((c.tc : Thread Cert.AdamwFfnIdeal.nD Cert.AdamwFfnIdeal.τ).loc Cert.AdamwFfnIdeal.main_v1_0) = v0 c
          ∧ r.2.mem ((c.tc : Thread Cert.AdamwFfnIdeal.nD Cert.AdamwFfnIdeal.τ).loc Cert.AdamwFfnIdeal.main_v1_1) = v1 c
          ∧ r.2.mem ((c.tc : Thread Cert.AdamwFfnIdeal.nD Cert.AdamwFfnIdeal.τ).loc Cert.AdamwFfnIdeal.main_v1_2) = v2 c
          ∧ r.2.mem ((c.tc : Thread Cert.AdamwFfnIdeal.nD Cert.AdamwFfnIdeal.τ).loc Cert.AdamwFfnIdeal.main_v1_3) = v3 c
          ∧ r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
          ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
          ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
          ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3)
          ∧ r.2.mem ((c.tc : Thread Cert.AdamwFfnIdeal.nD Cert.AdamwFfnIdeal.τ).loc Cert.AdamwFfnIdeal.main_arg4) = m ((c.tc : Thread Cert.AdamwFfnIdeal.nD Cert.AdamwFfnIdeal.τ).loc Cert.AdamwFfnIdeal.main_arg4))
      ∧ θ_run (Cert.AdamwFfnRefIdeal.defs (F := Ideal)) (onTc (τ := Cert.AdamwFfnRefIdeal.τ) (Cert.AdamwFfnRefIdeal.main (F := Ideal))) ⟨m', fun _ => 0, g'⟩ (fun r => ∀ c : Dev Cert.AdamwFfnRefIdeal.nD,
          r.2.mem ((c.tc : Thread Cert.AdamwFfnRefIdeal.nD Cert.AdamwFfnRefIdeal.τ).loc Cert.AdamwFfnRefIdeal.main_v5) = v0 c
          ∧ r.2.mem ((c.tc : Thread Cert.AdamwFfnRefIdeal.nD Cert.AdamwFfnRefIdeal.τ).loc Cert.AdamwFfnRefIdeal.main_v29) = v1 c
          ∧ r.2.mem ((c.tc : Thread Cert.AdamwFfnRefIdeal.nD Cert.AdamwFfnRefIdeal.τ).loc Cert.AdamwFfnRefIdeal.main_v10) = v2 c
          ∧ r.2.mem ((c.tc : Thread Cert.AdamwFfnRefIdeal.nD Cert.AdamwFfnRefIdeal.τ).loc Cert.AdamwFfnRefIdeal.main_v16) = v3 c
          ∧ r.2.mem ((c.tc : Thread Cert.AdamwFfnRefIdeal.nD Cert.AdamwFfnRefIdeal.τ).loc Cert.AdamwFfnRefIdeal.main_arg0) = m' ((c.tc : Thread Cert.AdamwFfnRefIdeal.nD Cert.AdamwFfnRefIdeal.τ).loc Cert.AdamwFfnRefIdeal.main_arg0)
          ∧ r.2.mem ((c.tc : Thread Cert.AdamwFfnRefIdeal.nD Cert.AdamwFfnRefIdeal.τ).loc Cert.AdamwFfnRefIdeal.main_arg1) = m' ((c.tc : Thread Cert.AdamwFfnRefIdeal.nD Cert.AdamwFfnRefIdeal.τ).loc Cert.AdamwFfnRefIdeal.main_arg1)
          ∧ r.2.mem ((c.tc : Thread Cert.AdamwFfnRefIdeal.nD Cert.AdamwFfnRefIdeal.τ).loc Cert.AdamwFfnRefIdeal.main_arg2) = m' ((c.tc : Thread Cert.AdamwFfnRefIdeal.nD Cert.AdamwFfnRefIdeal.τ).loc Cert.AdamwFfnRefIdeal.main_arg2)
          ∧ r.2.mem ((c.tc : Thread Cert.AdamwFfnRefIdeal.nD Cert.AdamwFfnRefIdeal.τ).loc Cert.AdamwFfnRefIdeal.main_arg3) = m' ((c.tc : Thread Cert.AdamwFfnRefIdeal.nD Cert.AdamwFfnRefIdeal.τ).loc Cert.AdamwFfnRefIdeal.main_arg3)
          ∧ r.2.mem ((c.tc : Thread Cert.AdamwFfnRefIdeal.nD Cert.AdamwFfnRefIdeal.τ).loc Cert.AdamwFfnRefIdeal.main_arg4) = m' ((c.tc : Thread Cert.AdamwFfnRefIdeal.nD Cert.AdamwFfnRefIdeal.τ).loc Cert.AdamwFfnRefIdeal.main_arg4))

def preserves_AdamwIn_AdamwInIdeal : Prop :=
  True

def algebraic_AdamwInIdeal_AdamwInRefIdeal [hAdamwInIdeal : Cert.AdamwInIdeal.Facts] [hAdamwInRefIdeal : Cert.AdamwInRefIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInRefIdeal.nD Cert.AdamwInRefIdeal.τ Cert.AdamwInRefIdeal.sig) → Buf (Elt Ideal) ℓ) (g' : Dev Cert.AdamwInRefIdeal.nD → PrngReg), Pre_AdamwInIdeal m →
    (∀ c : Dev Cert.AdamwInIdeal.nD,
      m' ((c.tc : Thread Cert.AdamwInRefIdeal.nD Cert.AdamwInRefIdeal.τ).loc Cert.AdamwInRefIdeal.main_arg0) = m ((c.tc : Thread Cert.AdamwInIdeal.nD Cert.AdamwInIdeal.τ).loc Cert.AdamwInIdeal.main_arg0)
      ∧ m' ((c.tc : Thread Cert.AdamwInRefIdeal.nD Cert.AdamwInRefIdeal.τ).loc Cert.AdamwInRefIdeal.main_arg1) = m ((c.tc : Thread Cert.AdamwInIdeal.nD Cert.AdamwInIdeal.τ).loc Cert.AdamwInIdeal.main_arg1)
      ∧ m' ((c.tc : Thread Cert.AdamwInRefIdeal.nD Cert.AdamwInRefIdeal.τ).loc Cert.AdamwInRefIdeal.main_arg2) = m ((c.tc : Thread Cert.AdamwInIdeal.nD Cert.AdamwInIdeal.τ).loc Cert.AdamwInIdeal.main_arg2)
      ∧ m' ((c.tc : Thread Cert.AdamwInRefIdeal.nD Cert.AdamwInRefIdeal.τ).loc Cert.AdamwInRefIdeal.main_arg3) = m ((c.tc : Thread Cert.AdamwInIdeal.nD Cert.AdamwInIdeal.τ).loc Cert.AdamwInIdeal.main_arg3)
      ∧ m' ((c.tc : Thread Cert.AdamwInRefIdeal.nD Cert.AdamwInRefIdeal.τ).loc Cert.AdamwInRefIdeal.main_arg4) = m ((c.tc : Thread Cert.AdamwInIdeal.nD Cert.AdamwInIdeal.τ).loc Cert.AdamwInIdeal.main_arg4)) →
    ∃ (v0 : (c : Dev Cert.AdamwInIdeal.nD) → Buf (Elt Ideal) ((c.tc : Thread Cert.AdamwInIdeal.nD Cert.AdamwInIdeal.τ).loc Cert.AdamwInIdeal.main_v1_0)) (v1 : (c : Dev Cert.AdamwInIdeal.nD) → Buf (Elt Ideal) ((c.tc : Thread Cert.AdamwInIdeal.nD Cert.AdamwInIdeal.τ).loc Cert.AdamwInIdeal.main_v1_1)) (v2 : (c : Dev Cert.AdamwInIdeal.nD) → Buf (Elt Ideal) ((c.tc : Thread Cert.AdamwInIdeal.nD Cert.AdamwInIdeal.τ).loc Cert.AdamwInIdeal.main_v1_2)) (v3 : (c : Dev Cert.AdamwInIdeal.nD) → Buf (Elt Ideal) ((c.tc : Thread Cert.AdamwInIdeal.nD Cert.AdamwInIdeal.τ).loc Cert.AdamwInIdeal.main_v1_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v1_0) = v0 c
          ∧ r.2.mem ((c.tc : Thread Cert.AdamwInIdeal.nD Cert.AdamwInIdeal.τ).loc Cert.AdamwInIdeal.main_v1_1) = v1 c
          ∧ r.2.mem ((c.tc : Thread Cert.AdamwInIdeal.nD Cert.AdamwInIdeal.τ).loc Cert.AdamwInIdeal.main_v1_2) = v2 c
          ∧ r.2.mem ((c.tc : Thread Cert.AdamwInIdeal.nD Cert.AdamwInIdeal.τ).loc Cert.AdamwInIdeal.main_v1_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3)
          ∧ r.2.mem ((c.tc : Thread Cert.AdamwInIdeal.nD Cert.AdamwInIdeal.τ).loc Cert.AdamwInIdeal.main_arg4) = m ((c.tc : Thread Cert.AdamwInIdeal.nD Cert.AdamwInIdeal.τ).loc Cert.AdamwInIdeal.main_arg4))
      ∧ θ_run (Cert.AdamwInRefIdeal.defs (F := Ideal)) (onTc (τ := Cert.AdamwInRefIdeal.τ) (Cert.AdamwInRefIdeal.main (F := Ideal))) ⟨m', fun _ => 0, g'⟩ (fun r => ∀ c : Dev Cert.AdamwInRefIdeal.nD,
          r.2.mem ((c.tc : Thread Cert.AdamwInRefIdeal.nD Cert.AdamwInRefIdeal.τ).loc Cert.AdamwInRefIdeal.main_v5) = v0 c
          ∧ r.2.mem ((c.tc : Thread Cert.AdamwInRefIdeal.nD Cert.AdamwInRefIdeal.τ).loc Cert.AdamwInRefIdeal.main_v29) = v1 c
          ∧ r.2.mem ((c.tc : Thread Cert.AdamwInRefIdeal.nD Cert.AdamwInRefIdeal.τ).loc Cert.AdamwInRefIdeal.main_v10) = v2 c
          ∧ r.2.mem ((c.tc : Thread Cert.AdamwInRefIdeal.nD Cert.AdamwInRefIdeal.τ).loc Cert.AdamwInRefIdeal.main_v16) = v3 c
          ∧ r.2.mem ((c.tc : Thread Cert.AdamwInRefIdeal.nD Cert.AdamwInRefIdeal.τ).loc Cert.AdamwInRefIdeal.main_arg0) = m' ((c.tc : Thread Cert.AdamwInRefIdeal.nD Cert.AdamwInRefIdeal.τ).loc Cert.AdamwInRefIdeal.main_arg0)
          ∧ r.2.mem ((c.tc : Thread Cert.AdamwInRefIdeal.nD Cert.AdamwInRefIdeal.τ).loc Cert.AdamwInRefIdeal.main_arg1) = m' ((c.tc : Thread Cert.AdamwInRefIdeal.nD Cert.AdamwInRefIdeal.τ).loc Cert.AdamwInRefIdeal.main_arg1)
          ∧ r.2.mem ((c.tc : Thread Cert.AdamwInRefIdeal.nD Cert.AdamwInRefIdeal.τ).loc Cert.AdamwInRefIdeal.main_arg2) = m' ((c.tc : Thread Cert.AdamwInRefIdeal.nD Cert.AdamwInRefIdeal.τ).loc Cert.AdamwInRefIdeal.main_arg2)
          ∧ r.2.mem ((c.tc : Thread Cert.AdamwInRefIdeal.nD Cert.AdamwInRefIdeal.τ).loc Cert.AdamwInRefIdeal.main_arg3) = m' ((c.tc : Thread Cert.AdamwInRefIdeal.nD Cert.AdamwInRefIdeal.τ).loc Cert.AdamwInRefIdeal.main_arg3)
          ∧ r.2.mem ((c.tc : Thread Cert.AdamwInRefIdeal.nD Cert.AdamwInRefIdeal.τ).loc Cert.AdamwInRefIdeal.main_arg4) = m' ((c.tc : Thread Cert.AdamwInRefIdeal.nD Cert.AdamwInRefIdeal.τ).loc Cert.AdamwInRefIdeal.main_arg4))

def preserves_AdamwGlu_AdamwGluIdeal : Prop :=
  True

def algebraic_AdamwGluIdeal_AdamwGluRefIdeal [hAdamwGluIdeal : Cert.AdamwGluIdeal.Facts] [hAdamwGluRefIdeal : Cert.AdamwGluRefIdeal.Facts] : Prop :=
  ∀ (m : (ℓ : Loc Cert.AdamwGluIdeal.nD Cert.AdamwGluIdeal.τ Cert.AdamwGluIdeal.sig) → Buf (Elt Ideal) ℓ) (g : Dev Cert.AdamwGluIdeal.nD → PrngReg)
    (m' : (ℓ : Loc Cert.AdamwGluRefIdeal.nD Cert.AdamwGluRefIdeal.τ Cert.AdamwGluRefIdeal.sig) → Buf (Elt Ideal) ℓ) (g' : Dev Cert.AdamwGluRefIdeal.nD → PrngReg), Pre_AdamwGluIdeal m →
    (∀ c : Dev Cert.AdamwGluIdeal.nD,
      m' ((c.tc : Thread Cert.AdamwGluRefIdeal.nD Cert.AdamwGluRefIdeal.τ).loc Cert.AdamwGluRefIdeal.main_arg0) = m ((c.tc : Thread Cert.AdamwGluIdeal.nD Cert.AdamwGluIdeal.τ).loc Cert.AdamwGluIdeal.main_arg0)
      ∧ m' ((c.tc : Thread Cert.AdamwGluRefIdeal.nD Cert.AdamwGluRefIdeal.τ).loc Cert.AdamwGluRefIdeal.main_arg1) = m ((c.tc : Thread Cert.AdamwGluIdeal.nD Cert.AdamwGluIdeal.τ).loc Cert.AdamwGluIdeal.main_arg1)
      ∧ m' ((c.tc : Thread Cert.AdamwGluRefIdeal.nD Cert.AdamwGluRefIdeal.τ).loc Cert.AdamwGluRefIdeal.main_arg2) = m ((c.tc : Thread Cert.AdamwGluIdeal.nD Cert.AdamwGluIdeal.τ).loc Cert.AdamwGluIdeal.main_arg2)
      ∧ m' ((c.tc : Thread Cert.AdamwGluRefIdeal.nD Cert.AdamwGluRefIdeal.τ).loc Cert.AdamwGluRefIdeal.main_arg3) = m ((c.tc : Thread Cert.AdamwGluIdeal.nD Cert.AdamwGluIdeal.τ).loc Cert.AdamwGluIdeal.main_arg3)
      ∧ m' ((c.tc : Thread Cert.AdamwGluRefIdeal.nD Cert.AdamwGluRefIdeal.τ).loc Cert.AdamwGluRefIdeal.main_arg4) = m ((c.tc : Thread Cert.AdamwGluIdeal.nD Cert.AdamwGluIdeal.τ).loc Cert.AdamwGluIdeal.main_arg4)) →
    ∃ (v0 : (c : Dev Cert.AdamwGluIdeal.nD) → Buf (Elt Ideal) ((c.tc : Thread Cert.AdamwGluIdeal.nD Cert.AdamwGluIdeal.τ).loc Cert.AdamwGluIdeal.main_v1_0)) (v1 : (c : Dev Cert.AdamwGluIdeal.nD) → Buf (Elt Ideal) ((c.tc : Thread Cert.AdamwGluIdeal.nD Cert.AdamwGluIdeal.τ).loc Cert.AdamwGluIdeal.main_v1_1)) (v2 : (c : Dev Cert.AdamwGluIdeal.nD) → Buf (Elt Ideal) ((c.tc : Thread Cert.AdamwGluIdeal.nD Cert.AdamwGluIdeal.τ).loc Cert.AdamwGluIdeal.main_v1_2)) (v3 : (c : Dev Cert.AdamwGluIdeal.nD) → Buf (Elt Ideal) ((c.tc : Thread Cert.AdamwGluIdeal.nD Cert.AdamwGluIdeal.τ).loc Cert.AdamwGluIdeal.main_v1_3)),
      θ_run (Cert.AdamwGluIdeal.defs (F := Ideal)) (onTc (τ := Cert.AdamwGluIdeal.τ) (Cert.AdamwGluIdeal.main (F := Ideal))) ⟨m, fun _ => 0, g⟩ (fun r => ∀ c : Dev Cert.AdamwGluIdeal.nD,
          r.2.mem ((c.tc : Thread Cert.AdamwGluIdeal.nD Cert.AdamwGluIdeal.τ).loc Cert.AdamwGluIdeal.main_v1_0) = v0 c
          ∧ r.2.mem ((c.tc : Thread Cert.AdamwGluIdeal.nD Cert.AdamwGluIdeal.τ).loc Cert.AdamwGluIdeal.main_v1_1) = v1 c
          ∧ r.2.mem ((c.tc : Thread Cert.AdamwGluIdeal.nD Cert.AdamwGluIdeal.τ).loc Cert.AdamwGluIdeal.main_v1_2) = v2 c
          ∧ r.2.mem ((c.tc : Thread Cert.AdamwGluIdeal.nD Cert.AdamwGluIdeal.τ).loc Cert.AdamwGluIdeal.main_v1_3) = v3 c
          ∧ r.2.mem ((c.tc : Thread Cert.AdamwGluIdeal.nD Cert.AdamwGluIdeal.τ).loc Cert.AdamwGluIdeal.main_arg0) = m ((c.tc : Thread Cert.AdamwGluIdeal.nD Cert.AdamwGluIdeal.τ).loc Cert.AdamwGluIdeal.main_arg0)
          ∧ r.2.mem ((c.tc : Thread Cert.AdamwGluIdeal.nD Cert.AdamwGluIdeal.τ).loc Cert.AdamwGluIdeal.main_arg1) = m ((c.tc : Thread Cert.AdamwGluIdeal.nD Cert.AdamwGluIdeal.τ).loc Cert.AdamwGluIdeal.main_arg1)
          ∧ r.2.mem ((c.tc : Thread Cert.AdamwGluIdeal.nD Cert.AdamwGluIdeal.τ).loc Cert.AdamwGluIdeal.main_arg2) = m ((c.tc : Thread Cert.AdamwGluIdeal.nD Cert.AdamwGluIdeal.τ).loc Cert.AdamwGluIdeal.main_arg2)
          ∧ r.2.mem ((c.tc : Thread Cert.AdamwGluIdeal.nD Cert.AdamwGluIdeal.τ).loc Cert.AdamwGluIdeal.main_arg3) = m ((c.tc : Thread Cert.AdamwGluIdeal.nD Cert.AdamwGluIdeal.τ).loc Cert.AdamwGluIdeal.main_arg3)
          ∧ r.2.mem ((c.tc : Thread Cert.AdamwGluIdeal.nD Cert.AdamwGluIdeal.τ).loc Cert.AdamwGluIdeal.main_arg4) = m ((c.tc : Thread Cert.AdamwGluIdeal.nD Cert.AdamwGluIdeal.τ).loc Cert.AdamwGluIdeal.main_arg4))
      ∧ θ_run (Cert.AdamwGluRefIdeal.defs (F := Ideal)) (onTc (τ := Cert.AdamwGluRefIdeal.τ) (Cert.AdamwGluRefIdeal.main (F := Ideal))) ⟨m', fun _ => 0, g'⟩ (fun r => ∀ c : Dev Cert.AdamwGluRefIdeal.nD,
          r.2.mem ((c.tc : Thread Cert.AdamwGluRefIdeal.nD Cert.AdamwGluRefIdeal.τ).loc Cert.AdamwGluRefIdeal.main_v5) = v0 c
          ∧ r.2.mem ((c.tc : Thread Cert.AdamwGluRefIdeal.nD Cert.AdamwGluRefIdeal.τ).loc Cert.AdamwGluRefIdeal.main_v29) = v1 c
          ∧ r.2.mem ((c.tc : Thread Cert.AdamwGluRefIdeal.nD Cert.AdamwGluRefIdeal.τ).loc Cert.AdamwGluRefIdeal.main_v10) = v2 c
          ∧ r.2.mem ((c.tc : Thread Cert.AdamwGluRefIdeal.nD Cert.AdamwGluRefIdeal.τ).loc Cert.AdamwGluRefIdeal.main_v16) = v3 c
          ∧ r.2.mem ((c.tc : Thread Cert.AdamwGluRefIdeal.nD Cert.AdamwGluRefIdeal.τ).loc Cert.AdamwGluRefIdeal.main_arg0) = m' ((c.tc : Thread Cert.AdamwGluRefIdeal.nD Cert.AdamwGluRefIdeal.τ).loc Cert.AdamwGluRefIdeal.main_arg0)
          ∧ r.2.mem ((c.tc : Thread Cert.AdamwGluRefIdeal.nD Cert.AdamwGluRefIdeal.τ).loc Cert.AdamwGluRefIdeal.main_arg1) = m' ((c.tc : Thread Cert.AdamwGluRefIdeal.nD Cert.AdamwGluRefIdeal.τ).loc Cert.AdamwGluRefIdeal.main_arg1)
          ∧ r.2.mem ((c.tc : Thread Cert.AdamwGluRefIdeal.nD Cert.AdamwGluRefIdeal.τ).loc Cert.AdamwGluRefIdeal.main_arg2) = m' ((c.tc : Thread Cert.AdamwGluRefIdeal.nD Cert.AdamwGluRefIdeal.τ).loc Cert.AdamwGluRefIdeal.main_arg2)
          ∧ r.2.mem ((c.tc : Thread Cert.AdamwGluRefIdeal.nD Cert.AdamwGluRefIdeal.τ).loc Cert.AdamwGluRefIdeal.main_arg3) = m' ((c.tc : Thread Cert.AdamwGluRefIdeal.nD Cert.AdamwGluRefIdeal.τ).loc Cert.AdamwGluRefIdeal.main_arg3)
          ∧ r.2.mem ((c.tc : Thread Cert.AdamwGluRefIdeal.nD Cert.AdamwGluRefIdeal.τ).loc Cert.AdamwGluRefIdeal.main_arg4) = m' ((c.tc : Thread Cert.AdamwGluRefIdeal.nD Cert.AdamwGluRefIdeal.τ).loc Cert.AdamwGluRefIdeal.main_arg4))

def preserves_AdamwBranch_AdamwBranchIdeal : Prop :=
  True

def algebraic_AdamwBranchIdeal_AdamwBranchRefIdeal [hAdamwBranchIdeal : Cert.AdamwBranchIdeal.Facts] [hAdamwBranchRefIdeal : Cert.AdamwBranchRefIdeal.Facts] : Prop :=
  ∀ (m : (ℓ : Loc Cert.AdamwBranchIdeal.nD Cert.AdamwBranchIdeal.τ Cert.AdamwBranchIdeal.sig) → Buf (Elt Ideal) ℓ) (g : Dev Cert.AdamwBranchIdeal.nD → PrngReg)
    (m' : (ℓ : Loc Cert.AdamwBranchRefIdeal.nD Cert.AdamwBranchRefIdeal.τ Cert.AdamwBranchRefIdeal.sig) → Buf (Elt Ideal) ℓ) (g' : Dev Cert.AdamwBranchRefIdeal.nD → PrngReg), Pre_AdamwBranchIdeal m →
    (∀ c : Dev Cert.AdamwBranchIdeal.nD,
      m' ((c.tc : Thread Cert.AdamwBranchRefIdeal.nD Cert.AdamwBranchRefIdeal.τ).loc Cert.AdamwBranchRefIdeal.main_arg0) = m ((c.tc : Thread Cert.AdamwBranchIdeal.nD Cert.AdamwBranchIdeal.τ).loc Cert.AdamwBranchIdeal.main_arg0)
      ∧ m' ((c.tc : Thread Cert.AdamwBranchRefIdeal.nD Cert.AdamwBranchRefIdeal.τ).loc Cert.AdamwBranchRefIdeal.main_arg1) = m ((c.tc : Thread Cert.AdamwBranchIdeal.nD Cert.AdamwBranchIdeal.τ).loc Cert.AdamwBranchIdeal.main_arg1)
      ∧ m' ((c.tc : Thread Cert.AdamwBranchRefIdeal.nD Cert.AdamwBranchRefIdeal.τ).loc Cert.AdamwBranchRefIdeal.main_arg2) = m ((c.tc : Thread Cert.AdamwBranchIdeal.nD Cert.AdamwBranchIdeal.τ).loc Cert.AdamwBranchIdeal.main_arg2)
      ∧ m' ((c.tc : Thread Cert.AdamwBranchRefIdeal.nD Cert.AdamwBranchRefIdeal.τ).loc Cert.AdamwBranchRefIdeal.main_arg3) = m ((c.tc : Thread Cert.AdamwBranchIdeal.nD Cert.AdamwBranchIdeal.τ).loc Cert.AdamwBranchIdeal.main_arg3)
      ∧ m' ((c.tc : Thread Cert.AdamwBranchRefIdeal.nD Cert.AdamwBranchRefIdeal.τ).loc Cert.AdamwBranchRefIdeal.main_arg4) = m ((c.tc : Thread Cert.AdamwBranchIdeal.nD Cert.AdamwBranchIdeal.τ).loc Cert.AdamwBranchIdeal.main_arg4)) →
    ∃ (v0 : (c : Dev Cert.AdamwBranchIdeal.nD) → Buf (Elt Ideal) ((c.tc : Thread Cert.AdamwBranchIdeal.nD Cert.AdamwBranchIdeal.τ).loc Cert.AdamwBranchIdeal.main_v1_0)) (v1 : (c : Dev Cert.AdamwBranchIdeal.nD) → Buf (Elt Ideal) ((c.tc : Thread Cert.AdamwBranchIdeal.nD Cert.AdamwBranchIdeal.τ).loc Cert.AdamwBranchIdeal.main_v1_1)) (v2 : (c : Dev Cert.AdamwBranchIdeal.nD) → Buf (Elt Ideal) ((c.tc : Thread Cert.AdamwBranchIdeal.nD Cert.AdamwBranchIdeal.τ).loc Cert.AdamwBranchIdeal.main_v1_2)) (v3 : (c : Dev Cert.AdamwBranchIdeal.nD) → Buf (Elt Ideal) ((c.tc : Thread Cert.AdamwBranchIdeal.nD Cert.AdamwBranchIdeal.τ).loc Cert.AdamwBranchIdeal.main_v1_3)),
      θ_run (Cert.AdamwBranchIdeal.defs (F := Ideal)) (onTc (τ := Cert.AdamwBranchIdeal.τ) (Cert.AdamwBranchIdeal.main (F := Ideal))) ⟨m, fun _ => 0, g⟩ (fun r => ∀ c : Dev Cert.AdamwBranchIdeal.nD,
          r.2.mem ((c.tc : Thread Cert.AdamwBranchIdeal.nD Cert.AdamwBranchIdeal.τ).loc Cert.AdamwBranchIdeal.main_v1_0) = v0 c
          ∧ r.2.mem ((c.tc : Thread Cert.AdamwBranchIdeal.nD Cert.AdamwBranchIdeal.τ).loc Cert.AdamwBranchIdeal.main_v1_1) = v1 c
          ∧ r.2.mem ((c.tc : Thread Cert.AdamwBranchIdeal.nD Cert.AdamwBranchIdeal.τ).loc Cert.AdamwBranchIdeal.main_v1_2) = v2 c
          ∧ r.2.mem ((c.tc : Thread Cert.AdamwBranchIdeal.nD Cert.AdamwBranchIdeal.τ).loc Cert.AdamwBranchIdeal.main_v1_3) = v3 c
          ∧ r.2.mem ((c.tc : Thread Cert.AdamwBranchIdeal.nD Cert.AdamwBranchIdeal.τ).loc Cert.AdamwBranchIdeal.main_arg0) = m ((c.tc : Thread Cert.AdamwBranchIdeal.nD Cert.AdamwBranchIdeal.τ).loc Cert.AdamwBranchIdeal.main_arg0)
          ∧ r.2.mem ((c.tc : Thread Cert.AdamwBranchIdeal.nD Cert.AdamwBranchIdeal.τ).loc Cert.AdamwBranchIdeal.main_arg1) = m ((c.tc : Thread Cert.AdamwBranchIdeal.nD Cert.AdamwBranchIdeal.τ).loc Cert.AdamwBranchIdeal.main_arg1)
          ∧ r.2.mem ((c.tc : Thread Cert.AdamwBranchIdeal.nD Cert.AdamwBranchIdeal.τ).loc Cert.AdamwBranchIdeal.main_arg2) = m ((c.tc : Thread Cert.AdamwBranchIdeal.nD Cert.AdamwBranchIdeal.τ).loc Cert.AdamwBranchIdeal.main_arg2)
          ∧ r.2.mem ((c.tc : Thread Cert.AdamwBranchIdeal.nD Cert.AdamwBranchIdeal.τ).loc Cert.AdamwBranchIdeal.main_arg3) = m ((c.tc : Thread Cert.AdamwBranchIdeal.nD Cert.AdamwBranchIdeal.τ).loc Cert.AdamwBranchIdeal.main_arg3)
          ∧ r.2.mem ((c.tc : Thread Cert.AdamwBranchIdeal.nD Cert.AdamwBranchIdeal.τ).loc Cert.AdamwBranchIdeal.main_arg4) = m ((c.tc : Thread Cert.AdamwBranchIdeal.nD Cert.AdamwBranchIdeal.τ).loc Cert.AdamwBranchIdeal.main_arg4))
      ∧ θ_run (Cert.AdamwBranchRefIdeal.defs (F := Ideal)) (onTc (τ := Cert.AdamwBranchRefIdeal.τ) (Cert.AdamwBranchRefIdeal.main (F := Ideal))) ⟨m', fun _ => 0, g'⟩ (fun r => ∀ c : Dev Cert.AdamwBranchRefIdeal.nD,
          r.2.mem ((c.tc : Thread Cert.AdamwBranchRefIdeal.nD Cert.AdamwBranchRefIdeal.τ).loc Cert.AdamwBranchRefIdeal.main_v5) = v0 c
          ∧ r.2.mem ((c.tc : Thread Cert.AdamwBranchRefIdeal.nD Cert.AdamwBranchRefIdeal.τ).loc Cert.AdamwBranchRefIdeal.main_v29) = v1 c
          ∧ r.2.mem ((c.tc : Thread Cert.AdamwBranchRefIdeal.nD Cert.AdamwBranchRefIdeal.τ).loc Cert.AdamwBranchRefIdeal.main_v10) = v2 c
          ∧ r.2.mem ((c.tc : Thread Cert.AdamwBranchRefIdeal.nD Cert.AdamwBranchRefIdeal.τ).loc Cert.AdamwBranchRefIdeal.main_v16) = v3 c
          ∧ r.2.mem ((c.tc : Thread Cert.AdamwBranchRefIdeal.nD Cert.AdamwBranchRefIdeal.τ).loc Cert.AdamwBranchRefIdeal.main_arg0) = m' ((c.tc : Thread Cert.AdamwBranchRefIdeal.nD Cert.AdamwBranchRefIdeal.τ).loc Cert.AdamwBranchRefIdeal.main_arg0)
          ∧ r.2.mem ((c.tc : Thread Cert.AdamwBranchRefIdeal.nD Cert.AdamwBranchRefIdeal.τ).loc Cert.AdamwBranchRefIdeal.main_arg1) = m' ((c.tc : Thread Cert.AdamwBranchRefIdeal.nD Cert.AdamwBranchRefIdeal.τ).loc Cert.AdamwBranchRefIdeal.main_arg1)
          ∧ r.2.mem ((c.tc : Thread Cert.AdamwBranchRefIdeal.nD Cert.AdamwBranchRefIdeal.τ).loc Cert.AdamwBranchRefIdeal.main_arg2) = m' ((c.tc : Thread Cert.AdamwBranchRefIdeal.nD Cert.AdamwBranchRefIdeal.τ).loc Cert.AdamwBranchRefIdeal.main_arg2)
          ∧ r.2.mem ((c.tc : Thread Cert.AdamwBranchRefIdeal.nD Cert.AdamwBranchRefIdeal.τ).loc Cert.AdamwBranchRefIdeal.main_arg3) = m' ((c.tc : Thread Cert.AdamwBranchRefIdeal.nD Cert.AdamwBranchRefIdeal.τ).loc Cert.AdamwBranchRefIdeal.main_arg3)
          ∧ r.2.mem ((c.tc : Thread Cert.AdamwBranchRefIdeal.nD Cert.AdamwBranchRefIdeal.τ).loc Cert.AdamwBranchRefIdeal.main_arg4) = m' ((c.tc : Thread Cert.AdamwBranchRefIdeal.nD Cert.AdamwBranchRefIdeal.τ).loc Cert.AdamwBranchRefIdeal.main_arg4))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)
      ∧ m' ((c.tc : Thread Cert.AdamwOutRefIdeal.nD Cert.AdamwOutRefIdeal.τ).loc Cert.AdamwOutRefIdeal.main_arg4) = m ((c.tc : Thread Cert.AdamwOutIdeal.nD Cert.AdamwOutIdeal.τ).loc Cert.AdamwOutIdeal.main_arg4)) →
    ∃ (v0 : (c : Dev Cert.AdamwOutIdeal.nD) → Buf (Elt Ideal) ((c.tc : Thread Cert.AdamwOutIdeal.nD Cert.AdamwOutIdeal.τ).loc Cert.AdamwOutIdeal.main_v1_0)) (v1 : (c : Dev Cert.AdamwOutIdeal.nD) → Buf (Elt Ideal) ((c.tc : Thread Cert.AdamwOutIdeal.nD Cert.AdamwOutIdeal.τ).loc Cert.AdamwOutIdeal.main_v1_1)) (v2 : (c : Dev Cert.AdamwOutIdeal.nD) → Buf (Elt Ideal) ((c.tc : Thread Cert.AdamwOutIdeal.nD Cert.AdamwOutIdeal.τ).loc Cert.AdamwOutIdeal.main_v1_2)) (v3 : (c : Dev Cert.AdamwOutIdeal.nD) → Buf (Elt Ideal) ((c.tc : Thread Cert.AdamwOutIdeal.nD Cert.AdamwOutIdeal.τ).loc Cert.AdamwOutIdeal.main_v1_3)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v1_0) = v0 c
          ∧ r.2.mem ((c.tc : Thread Cert.AdamwOutIdeal.nD Cert.AdamwOutIdeal.τ).loc Cert.AdamwOutIdeal.main_v1_1) = v1 c
          ∧ r.2.mem ((c.tc : Thread Cert.AdamwOutIdeal.nD Cert.AdamwOutIdeal.τ).loc Cert.AdamwOutIdeal.main_v1_2) = v2 c
          ∧ r.2.mem ((c.tc : Thread Cert.AdamwOutIdeal.nD Cert.AdamwOutIdeal.τ).loc Cert.AdamwOutIdeal.main_v1_3) = v3 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3)
          ∧ r.2.mem ((c.tc : Thread Cert.AdamwOutIdeal.nD Cert.AdamwOutIdeal.τ).loc Cert.AdamwOutIdeal.main_arg4) = m ((c.tc : Thread Cert.AdamwOutIdeal.nD Cert.AdamwOutIdeal.τ).loc Cert.AdamwOutIdeal.main_arg4))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v5) = v0 c
          ∧ r.2.mem ((c.tc : Thread Cert.AdamwOutRefIdeal.nD Cert.AdamwOutRefIdeal.τ).loc Cert.AdamwOutRefIdeal.main_v29) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_v16) = v3 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3)
          ∧ r.2.mem ((c.tc : Thread Cert.AdamwOutRefIdeal.nD Cert.AdamwOutRefIdeal.τ).loc Cert.AdamwOutRefIdeal.main_arg4) = m' ((c.tc : Thread Cert.AdamwOutRefIdeal.nD Cert.AdamwOutRefIdeal.τ).loc Cert.AdamwOutRefIdeal.main_arg4))

def Claim : Prop :=
  ∃ (hDownWeight : Cert.DownWeight.Facts) (hDownWeightIdeal : Cert.DownWeightIdeal.Facts) (hDownWeightRefIdeal : Cert.DownWeightRefIdeal.Facts) (hGateUpWeight : Cert.GateUpWeight.Facts) (hGateUpWeightIdeal : Cert.GateUpWeightIdeal.Facts) (hGateUpWeightRefIdeal : Cert.GateUpWeightRefIdeal.Facts) (hFfnInput : Cert.FfnInput.Facts) (hFfnInputIdeal : Cert.FfnInputIdeal.Facts) (hFfnInputRefIdeal : Cert.FfnInputRefIdeal.Facts) (hInWeight : Cert.InWeight.Facts) (hInWeightIdeal : Cert.InWeightIdeal.Facts) (hInWeightRefIdeal : Cert.InWeightRefIdeal.Facts) (hInInput : Cert.InInput.Facts) (hInInputIdeal : Cert.InInputIdeal.Facts) (hInInputRefIdeal : Cert.InInputRefIdeal.Facts) (hMixOutInput : Cert.MixOutInput.Facts) (hMixOutInputIdeal : Cert.MixOutInputIdeal.Facts) (hMixOutInputRefIdeal : Cert.MixOutInputRefIdeal.Facts) (hMixOutWeight : Cert.MixOutWeight.Facts) (hMixOutWeightIdeal : Cert.MixOutWeightIdeal.Facts) (hMixOutWeightRefIdeal : Cert.MixOutWeightRefIdeal.Facts) (hMergeInput : Cert.MergeInput.Facts) (hMergeInputIdeal : Cert.MergeInputIdeal.Facts) (hMergeInputRefIdeal : Cert.MergeInputRefIdeal.Facts) (hMergeWeight : Cert.MergeWeight.Facts) (hMergeWeightIdeal : Cert.MergeWeightIdeal.Facts) (hMergeWeightRefIdeal : Cert.MergeWeightRefIdeal.Facts) (hGluWeight : Cert.GluWeight.Facts) (hGluWeightIdeal : Cert.GluWeightIdeal.Facts) (hGluWeightRefIdeal : Cert.GluWeightRefIdeal.Facts) (hFfnGate : Cert.FfnGate.Facts) (hFfnGateIdeal : Cert.FfnGateIdeal.Facts) (hFfnGateRefIdeal : Cert.FfnGateRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hMixMerge : Cert.MixMerge.Facts) (hMixMergeIdeal : Cert.MixMergeIdeal.Facts) (hMixMergeRefIdeal : Cert.MixMergeRefIdeal.Facts) (hMixOut : Cert.MixOut.Facts) (hMixOutIdeal : Cert.MixOutIdeal.Facts) (hMixOutRefIdeal : Cert.MixOutRefIdeal.Facts) (hScan : Cert.Scan.Facts) (hScanIdeal : Cert.ScanIdeal.Facts) (hScanRefIdeal : Cert.ScanRefIdeal.Facts) (hFfnAct : Cert.FfnAct.Facts) (hFfnActIdeal : Cert.FfnActIdeal.Facts) (hFfnActRefIdeal : Cert.FfnActRefIdeal.Facts) (hAdamwConv : Cert.AdamwConv.Facts) (hAdamwConvIdeal : Cert.AdamwConvIdeal.Facts) (hAdamwConvRefIdeal : Cert.AdamwConvRefIdeal.Facts) (hAdamwSmall : Cert.AdamwSmall.Facts) (hAdamwSmallIdeal : Cert.AdamwSmallIdeal.Facts) (hAdamwSmallRefIdeal : Cert.AdamwSmallRefIdeal.Facts) (hAdamwFfn : Cert.AdamwFfn.Facts) (hAdamwFfnIdeal : Cert.AdamwFfnIdeal.Facts) (hAdamwFfnRefIdeal : Cert.AdamwFfnRefIdeal.Facts) (hAdamwIn : Cert.AdamwIn.Facts) (hAdamwInIdeal : Cert.AdamwInIdeal.Facts) (hAdamwInRefIdeal : Cert.AdamwInRefIdeal.Facts) (hAdamwGlu : Cert.AdamwGlu.Facts) (hAdamwGluIdeal : Cert.AdamwGluIdeal.Facts) (hAdamwGluRefIdeal : Cert.AdamwGluRefIdeal.Facts) (hAdamwBranch : Cert.AdamwBranch.Facts) (hAdamwBranchIdeal : Cert.AdamwBranchIdeal.Facts) (hAdamwBranchRefIdeal : Cert.AdamwBranchRefIdeal.Facts) (hAdamwOut : Cert.AdamwOut.Facts) (hAdamwOutIdeal : Cert.AdamwOutIdeal.Facts) (hAdamwOutRefIdeal : Cert.AdamwOutRefIdeal.Facts),
    quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_GateUpWeight (hGateUpWeight := hGateUpWeight)
    ∧ quiescent_GateUpWeightIdeal (hGateUpWeightIdeal := hGateUpWeightIdeal)
    ∧ quiescent_GateUpWeightRefIdeal (hGateUpWeightRefIdeal := hGateUpWeightRefIdeal)
    ∧ quiescent_FfnInput (hFfnInput := hFfnInput)
    ∧ quiescent_FfnInputIdeal (hFfnInputIdeal := hFfnInputIdeal)
    ∧ quiescent_FfnInputRefIdeal (hFfnInputRefIdeal := hFfnInputRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_InInput (hInInput := hInInput)
    ∧ quiescent_InInputIdeal (hInInputIdeal := hInInputIdeal)
    ∧ quiescent_InInputRefIdeal (hInInputRefIdeal := hInInputRefIdeal)
    ∧ quiescent_MixOutInput (hMixOutInput := hMixOutInput)
    ∧ quiescent_MixOutInputIdeal (hMixOutInputIdeal := hMixOutInputIdeal)
    ∧ quiescent_MixOutInputRefIdeal (hMixOutInputRefIdeal := hMixOutInputRefIdeal)
    ∧ quiescent_MixOutWeight (hMixOutWeight := hMixOutWeight)
    ∧ quiescent_MixOutWeightIdeal (hMixOutWeightIdeal := hMixOutWeightIdeal)
    ∧ quiescent_MixOutWeightRefIdeal (hMixOutWeightRefIdeal := hMixOutWeightRefIdeal)
    ∧ quiescent_MergeInput (hMergeInput := hMergeInput)
    ∧ quiescent_MergeInputIdeal (hMergeInputIdeal := hMergeInputIdeal)
    ∧ quiescent_MergeInputRefIdeal (hMergeInputRefIdeal := hMergeInputRefIdeal)
    ∧ quiescent_MergeWeight (hMergeWeight := hMergeWeight)
    ∧ quiescent_MergeWeightIdeal (hMergeWeightIdeal := hMergeWeightIdeal)
    ∧ quiescent_MergeWeightRefIdeal (hMergeWeightRefIdeal := hMergeWeightRefIdeal)
    ∧ quiescent_GluWeight (hGluWeight := hGluWeight)
    ∧ quiescent_GluWeightIdeal (hGluWeightIdeal := hGluWeightIdeal)
    ∧ quiescent_GluWeightRefIdeal (hGluWeightRefIdeal := hGluWeightRefIdeal)
    ∧ quiescent_FfnGate (hFfnGate := hFfnGate)
    ∧ quiescent_FfnGateIdeal (hFfnGateIdeal := hFfnGateIdeal)
    ∧ quiescent_FfnGateRefIdeal (hFfnGateRefIdeal := hFfnGateRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixMerge (hMixMerge := hMixMerge)
    ∧ quiescent_MixMergeIdeal (hMixMergeIdeal := hMixMergeIdeal)
    ∧ quiescent_MixMergeRefIdeal (hMixMergeRefIdeal := hMixMergeRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Scan (hScan := hScan)
    ∧ quiescent_ScanIdeal (hScanIdeal := hScanIdeal)
    ∧ quiescent_ScanRefIdeal (hScanRefIdeal := hScanRefIdeal)
    ∧ quiescent_FfnAct (hFfnAct := hFfnAct)
    ∧ quiescent_FfnActIdeal (hFfnActIdeal := hFfnActIdeal)
    ∧ quiescent_FfnActRefIdeal (hFfnActRefIdeal := hFfnActRefIdeal)
    ∧ quiescent_AdamwConv (hAdamwConv := hAdamwConv)
    ∧ quiescent_AdamwConvIdeal (hAdamwConvIdeal := hAdamwConvIdeal)
    ∧ quiescent_AdamwConvRefIdeal (hAdamwConvRefIdeal := hAdamwConvRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_AdamwFfn (hAdamwFfn := hAdamwFfn)
    ∧ quiescent_AdamwFfnIdeal (hAdamwFfnIdeal := hAdamwFfnIdeal)
    ∧ quiescent_AdamwFfnRefIdeal (hAdamwFfnRefIdeal := hAdamwFfnRefIdeal)
    ∧ quiescent_AdamwIn (hAdamwIn := hAdamwIn)
    ∧ quiescent_AdamwInIdeal (hAdamwInIdeal := hAdamwInIdeal)
    ∧ quiescent_AdamwInRefIdeal (hAdamwInRefIdeal := hAdamwInRefIdeal)
    ∧ quiescent_AdamwGlu (hAdamwGlu := hAdamwGlu)
    ∧ quiescent_AdamwGluIdeal (hAdamwGluIdeal := hAdamwGluIdeal)
    ∧ quiescent_AdamwGluRefIdeal (hAdamwGluRefIdeal := hAdamwGluRefIdeal)
    ∧ quiescent_AdamwBranch (hAdamwBranch := hAdamwBranch)
    ∧ quiescent_AdamwBranchIdeal (hAdamwBranchIdeal := hAdamwBranchIdeal)
    ∧ quiescent_AdamwBranchRefIdeal (hAdamwBranchRefIdeal := hAdamwBranchRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ preserves_DownWeight_DownWeightIdeal
    ∧ algebraic_DownWeightIdeal_DownWeightRefIdeal (hDownWeightIdeal := hDownWeightIdeal) (hDownWeightRefIdeal := hDownWeightRefIdeal)
    ∧ preserves_GateUpWeight_GateUpWeightIdeal
    ∧ algebraic_GateUpWeightIdeal_GateUpWeightRefIdeal (hGateUpWeightIdeal := hGateUpWeightIdeal) (hGateUpWeightRefIdeal := hGateUpWeightRefIdeal)
    ∧ preserves_FfnInput_FfnInputIdeal
    ∧ algebraic_FfnInputIdeal_FfnInputRefIdeal (hFfnInputIdeal := hFfnInputIdeal) (hFfnInputRefIdeal := hFfnInputRefIdeal)
    ∧ preserves_InWeight_InWeightIdeal
    ∧ algebraic_InWeightIdeal_InWeightRefIdeal (hInWeightIdeal := hInWeightIdeal) (hInWeightRefIdeal := hInWeightRefIdeal)
    ∧ preserves_InInput_InInputIdeal
    ∧ algebraic_InInputIdeal_InInputRefIdeal (hInInputIdeal := hInInputIdeal) (hInInputRefIdeal := hInInputRefIdeal)
    ∧ preserves_MixOutInput_MixOutInputIdeal
    ∧ algebraic_MixOutInputIdeal_MixOutInputRefIdeal (hMixOutInputIdeal := hMixOutInputIdeal) (hMixOutInputRefIdeal := hMixOutInputRefIdeal)
    ∧ preserves_MixOutWeight_MixOutWeightIdeal
    ∧ algebraic_MixOutWeightIdeal_MixOutWeightRefIdeal (hMixOutWeightIdeal := hMixOutWeightIdeal) (hMixOutWeightRefIdeal := hMixOutWeightRefIdeal)
    ∧ preserves_MergeInput_MergeInputIdeal
    ∧ algebraic_MergeInputIdeal_MergeInputRefIdeal (hMergeInputIdeal := hMergeInputIdeal) (hMergeInputRefIdeal := hMergeInputRefIdeal)
    ∧ preserves_MergeWeight_MergeWeightIdeal
    ∧ algebraic_MergeWeightIdeal_MergeWeightRefIdeal (hMergeWeightIdeal := hMergeWeightIdeal) (hMergeWeightRefIdeal := hMergeWeightRefIdeal)
    ∧ preserves_GluWeight_GluWeightIdeal
    ∧ algebraic_GluWeightIdeal_GluWeightRefIdeal (hGluWeightIdeal := hGluWeightIdeal) (hGluWeightRefIdeal := hGluWeightRefIdeal)
    ∧ preserves_FfnGate_FfnGateIdeal
    ∧ algebraic_FfnGateIdeal_FfnGateRefIdeal (hFfnGateIdeal := hFfnGateIdeal) (hFfnGateRefIdeal := hFfnGateRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_MixMerge_MixMergeIdeal
    ∧ algebraic_MixMergeIdeal_MixMergeRefIdeal (hMixMergeIdeal := hMixMergeIdeal) (hMixMergeRefIdeal := hMixMergeRefIdeal)
    ∧ preserves_MixOut_MixOutIdeal
    ∧ algebraic_MixOutIdeal_MixOutRefIdeal (hMixOutIdeal := hMixOutIdeal) (hMixOutRefIdeal := hMixOutRefIdeal)
    ∧ preserves_Scan_ScanIdeal
    ∧ algebraic_ScanIdeal_ScanRefIdeal (hScanIdeal := hScanIdeal) (hScanRefIdeal := hScanRefIdeal)
    ∧ preserves_FfnAct_FfnActIdeal
    ∧ algebraic_FfnActIdeal_FfnActRefIdeal (hFfnActIdeal := hFfnActIdeal) (hFfnActRefIdeal := hFfnActRefIdeal)
    ∧ preserves_AdamwConv_AdamwConvIdeal
    ∧ algebraic_AdamwConvIdeal_AdamwConvRefIdeal (hAdamwConvIdeal := hAdamwConvIdeal) (hAdamwConvRefIdeal := hAdamwConvRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_AdamwFfn_AdamwFfnIdeal
    ∧ algebraic_AdamwFfnIdeal_AdamwFfnRefIdeal (hAdamwFfnIdeal := hAdamwFfnIdeal) (hAdamwFfnRefIdeal := hAdamwFfnRefIdeal)
    ∧ preserves_AdamwIn_AdamwInIdeal
    ∧ algebraic_AdamwInIdeal_AdamwInRefIdeal (hAdamwInIdeal := hAdamwInIdeal) (hAdamwInRefIdeal := hAdamwInRefIdeal)
    ∧ preserves_AdamwGlu_AdamwGluIdeal
    ∧ algebraic_AdamwGluIdeal_AdamwGluRefIdeal (hAdamwGluIdeal := hAdamwGluIdeal) (hAdamwGluRefIdeal := hAdamwGluRefIdeal)
    ∧ preserves_AdamwBranch_AdamwBranchIdeal
    ∧ algebraic_AdamwBranchIdeal_AdamwBranchRefIdeal (hAdamwBranchIdeal := hAdamwBranchIdeal) (hAdamwBranchRefIdeal := hAdamwBranchRefIdeal)
    ∧ preserves_AdamwOut_AdamwOutIdeal
    ∧ algebraic_AdamwOutIdeal_AdamwOutRefIdeal (hAdamwOutIdeal := hAdamwOutIdeal) (hAdamwOutRefIdeal := hAdamwOutRefIdeal)
-- ==== DownWeight.lean ====
abbrev S2048x5504 : Shape := ⟨2, ![2048, 5504]⟩
abbrev S2048x2048 : Shape := ⟨2, ![2048, 2048]⟩
abbrev S2048x8x688 : Shape := ⟨3, ![2048, 8, 688]⟩
abbrev S8x2048x688 : Shape := ⟨3, ![8, 2048, 688]⟩
abbrev S_ : Shape := ⟨0, ![]⟩
abbrev S8x688x2048 : Shape := ⟨3, ![8, 688, 2048]⟩
abbrev S1x2048x688 : Shape := ⟨3, ![1, 2048, 688]⟩
abbrev S2048x1024 : Shape := ⟨2, ![2048, 1024]⟩
abbrev S1x688x1024 : Shape := ⟨3, ![1, 688, 1024]⟩
abbrev S2048x688 : Shape := ⟨2, ![2048, 688]⟩
abbrev S688x1024 : Shape := ⟨2, ![688, 1024]⟩

abbrev nBuf : Space → Nat
  | .hbm => 10
  | .vmem => 6
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S2048x8x688, .f32⟩
  | .hbm, ⟨3, _⟩ => ⟨S8x2048x688, .f32⟩
  | .hbm, ⟨4, _⟩ => ⟨S8x2048x688, .bf16⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .bf16⟩
  | .hbm, ⟨9, _⟩ => ⟨S8x688x2048, .bf16⟩
  | .local _ .vmem, ⟨0, _⟩ => ⟨S1x2048x688, .bf16⟩
  | .local _ .vmem, ⟨1, _⟩ => ⟨S1x2048x688, .bf16⟩
  | .local _ .vmem, ⟨2, _⟩ => ⟨S2048x1024, .bf16⟩
  | .local _ .vmem, ⟨3, _⟩ => ⟨S2048x1024, .bf16⟩
  | .local _ .vmem, ⟨4, _⟩ => ⟨S1x688x1024, .bf16⟩
  | .local _ .vmem, ⟨5, _⟩ => ⟨S1x688x1024, .bf16⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

abbrev stage0_0 : Fin 2 → Memref sig .tc .vmem S1x2048x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true, false]
-- ==== DownWeightRefIdeal.lean ====
abbrev S2048x5504 : Shape := ⟨2, ![2048, 5504]⟩
abbrev S2048x2048 : Shape := ⟨2, ![2048, 2048]⟩
abbrev S_ : Shape := ⟨0, ![]⟩
abbrev S5504x2048 : Shape := ⟨2, ![5504, 2048]⟩
abbrev S8x688x2048 : Shape := ⟨3, ![8, 688, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S2048x2048, .f32⟩
  | .hbm, ⟨2, _⟩ => ⟨S_, .f32⟩
  | .hbm, ⟨3, _⟩ => ⟨S5504x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x5504, .f32⟩
  | .hbm, ⟨12, _⟩ => ⟨S5504x2048, .f32⟩
  | .hbm, ⟨13, _⟩ => ⟨S5504x2048, .bf16⟩
  | .hbm, ⟨14, _⟩ => ⟨S8x688x2048, .bf16⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== GateUpWeight.lean ====
abbrev S2048x2048 : Shape := ⟨2, ![2048, 2048]⟩
abbrev S2048x5504 : Shape := ⟨2, ![2048, 5504]⟩
abbrev S2048x8x688 : Shape := ⟨3, ![2048, 8, 688]⟩
abbrev S8x2048x688 : Shape := ⟨3, ![8, 2048, 688]⟩
abbrev S8x688x2048 : Shape := ⟨3, ![8, 688, 2048]⟩
abbrev S1x2048x688 : Shape := ⟨3, ![1, 2048, 688]⟩
abbrev S2048x1024 : Shape := ⟨2, ![2048, 1024]⟩
abbrev S1x688x1024 : Shape := ⟨3, ![1, 688, 1024]⟩
abbrev S2048x688 : Shape := ⟨2, ![2048, 688]⟩
abbrev S688x1024 : Shape := ⟨2, ![688, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x5504, .f32⟩
  | .hbm, ⟨3, _⟩ => ⟨S2048x8x688, .f32⟩
  | .hbm, ⟨4, _⟩ => ⟨S8x2048x688, .f32⟩
  | .hbm, ⟨5, _⟩ => ⟨S8x2048x688, .bf16⟩
  | .hbm, ⟨6, _⟩ => ⟨S2048x8x688, .f32⟩
  | .hbm, ⟨7, _⟩ => ⟨S8x2048x688, .f32⟩
  | .hbm, ⟨8, _⟩ => ⟨S8x2048x688, .bf16⟩
  | .hbm, ⟨9, _⟩ => ⟨S2048x2048, .bf16⟩
  | .hbm, ⟨10, _⟩ => ⟨S8x688x2048, .bf16⟩
  | .hbm, ⟨11, _⟩ => ⟨S8x688x2048, .bf16⟩
  | .local _ .vmem, ⟨0, _⟩ => ⟨S1x2048x688, .bf16⟩
  | .local _ .vmem, ⟨1, _⟩ => ⟨S1x2048x688, .bf16⟩
  | .local _ .vmem, ⟨2, _⟩ => ⟨S1x2048x688, .bf16⟩
  | .local _ .vmem, ⟨3, _⟩ => ⟨S1x2048x688, .bf16⟩
  | .local _ .vmem, ⟨4, _⟩ => ⟨S2048x1024, .bf16⟩
  | .local _ .vmem, ⟨5, _⟩ => ⟨S2048x1024, .bf16⟩
  | .local _ .vmem, ⟨6, _⟩ => ⟨S1x688x1024, .bf16⟩
  | .local _ .vmem, ⟨7, _⟩ => ⟨S1x688x1024, .bf16⟩
  | .local _ .vmem, ⟨8, _⟩ => ⟨S1x688x1024, .bf16⟩
  | .local _ .vmem, ⟨9, _⟩ => ⟨S1x688x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![8, 1, 2, 1], ![false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg2.toNat]

abbrev stage0_0 : Fin 2 → Memref sig .tc .vmem S1x2048x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true]

abbrev stage0_1 : Fin 2 → Memref sig .tc .vmem S1x2048x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S1x688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true, false]

abbrev stage0_4 : Fin 2 → Memref sig .tc .vmem S1x688x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true, false]
-- ==== GateUpWeightRefIdeal.lean ====
abbrev S2048x2048 : Shape := ⟨2, ![2048, 2048]⟩
abbrev S2048x5504 : Shape := ⟨2, ![2048, 5504]⟩
abbrev S_ : Shape := ⟨0, ![]⟩
abbrev S5504x2048 : Shape := ⟨2, ![5504, 2048]⟩
abbrev S8x688x2048 : Shape := ⟨3, ![8, 688, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x5504, .f32⟩
  | .hbm, ⟨3, _⟩ => ⟨S_, .f32⟩
  | .hbm, ⟨4, _⟩ => ⟨S2048x5504, .f32⟩
  | .hbm, ⟨5, _⟩ => ⟨S2048x5504, .f32⟩
  | .hbm, ⟨6, _⟩ => ⟨S2048x5504, .f32⟩
  | .hbm, ⟨7, _⟩ => ⟨S5504x2048, .f32⟩
  | .hbm, ⟨8, _⟩ => ⟨S2048x5504, .f32⟩
  | .hbm, ⟨9, _⟩ => ⟨S5504x2048, .f32⟩
  | .hbm, ⟨10, _⟩ => ⟨S2048x5504, .f32⟩
  | .hbm, ⟨11, _⟩ => ⟨S5504x2048, .f32⟩
  | .hbm, ⟨12, _⟩ => ⟨S5504x2048, .bf16⟩
  | .hbm, ⟨13, _⟩ => ⟨S8x688x2048, .bf16⟩
  | .hbm, ⟨14, _⟩ => ⟨S5504x2048, .f32⟩
  | .hbm, ⟨15, _⟩ => ⟨S5504x2048, .bf16⟩
  | .hbm, ⟨16, _⟩ => ⟨S8x688x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== FfnInput.lean ====
abbrev S2048x5504 : Shape := ⟨2, ![2048, 5504]⟩
abbrev S2048x8x688 : Shape := ⟨3, ![2048, 8, 688]⟩
abbrev S8x2048x688 : Shape := ⟨3, ![8, 2048, 688]⟩
abbrev S5504x2048 : Shape := ⟨2, ![5504, 2048]⟩
abbrev S8x688x2048 : Shape := ⟨3, ![8, 688, 2048]⟩
abbrev S2048x2048 : Shape := ⟨2, ![2048, 2048]⟩
abbrev S2x1024x688 : Shape := ⟨3, ![2, 1024, 688]⟩
abbrev S2x688x1024 : Shape := ⟨3, ![2, 688, 1024]⟩
abbrev S1024x1024 : Shape := ⟨2, ![1024, 1024]⟩
abbrev S1x1024x688 : Shape := ⟨3, ![1, 1024, 688]⟩
abbrev S1024x688 : Shape := ⟨2, ![1024, 688]⟩
abbrev S1x688x1024 : Shape := ⟨3, ![1, 688, 1024]⟩
abbrev S688x1024 : Shape := ⟨2, ![688, 1024]⟩

abbrev nBuf : Space → Nat
  | .hbm => 17
  | .vmem => 11
  | .smem => 0
  | _ => 0

abbrev bufTy : (tb : Table) → Fin (tcTables nBuf tb) → BufTy
  | .hbm, ⟨0, _⟩ => ⟨S2048x5504, .f32⟩
  | .hbm, ⟨1, _⟩ => ⟨S2048x5504, .f32⟩
  | .hbm, ⟨2, _⟩ => ⟨S2048x5504, .f32⟩
  | .hbm, ⟨3, _⟩ => ⟨S2048x5504, .f32⟩
  | .hbm, ⟨4, _⟩ => ⟨S2048x8x688, .f32⟩
  | .hbm, ⟨5, _⟩ => ⟨S8x2048x688, .f32⟩
  | .hbm, ⟨6, _⟩ => ⟨S8x2048x688, .bf16⟩
  | .hbm, ⟨7, _⟩ => ⟨S2048x8x688, .f32⟩
  | .hbm, ⟨8, _⟩ => ⟨S8x2048x688, .f32⟩
  | .hbm, ⟨9, _⟩ => ⟨S8x2048x688, .bf16⟩
  | .hbm, ⟨10, _⟩ => ⟨S5504x2048, .f32⟩
  | .hbm, ⟨11, _⟩ => ⟨S8x688x2048, .f32⟩
  | .hbm, ⟨12, _⟩ => ⟨S8x688x2048, .bf16⟩
  | .hbm, ⟨13, _⟩ => ⟨S5504x2048, .f32⟩
  | .hbm, ⟨14, _⟩ => ⟨S8x688x2048, .f32⟩
  | .hbm, ⟨15, _⟩ => ⟨S8x688x2048, .bf16⟩
  | .hbm, ⟨16, _⟩ => ⟨S2048x2048, .f32⟩
  | .local _ .vmem, ⟨0, _⟩ => ⟨S2x1024x688, .bf16⟩
  | .local _ .vmem, ⟨1, _⟩ => ⟨S2x1024x688, .bf16⟩
  | .local _ .vmem, ⟨2, _⟩ => ⟨S2x1024x688, .bf16⟩
  | .local _ .vmem, ⟨3, _⟩ => ⟨S2x1024x688, .bf16⟩
  | .local _ .vmem, ⟨4, _⟩ => ⟨S2x688x1024, .bf16⟩
  | .local _ .vmem, ⟨5, _⟩ => ⟨S2x688x1024, .bf16⟩
  | .local _ .vmem, ⟨6, _⟩ => ⟨S2x688x1024, .bf16⟩
  | .local _ .vmem, ⟨7, _⟩ => ⟨S2x688x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2x1024x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2x1024x688 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S2x688x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true, true]

abbrev stage0_3 : Fin 2 → Memref sig .tc .vmem S2x688x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]
-- ==== FfnInputRefIdeal.lean ====
abbrev S2048x5504 : Shape := ⟨2, ![2048, 5504]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x5504, .f32⟩
  | .hbm, ⟨1, _⟩ => ⟨S2048x5504, .f32⟩
  | .hbm, ⟨2, _⟩ => ⟨S2048x5504, .f32⟩
  | .hbm, ⟨3, _⟩ => ⟨S2048x5504, .f32⟩
  | .hbm, ⟨4, _⟩ => ⟨S_, .f32⟩
  | .hbm, ⟨5, _⟩ => ⟨S2048x2048, .f32⟩
  | .hbm, ⟨6, _⟩ => ⟨S2048x5504, .f32⟩
  | .hbm, ⟨7, _⟩ => ⟨S2048x5504, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== InWeight.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S2048x1024 : Shape := ⟨2, ![2048, 1024]⟩
abbrev S1x2048x1024 : Shape := ⟨3, ![1, 2048, 1024]⟩
abbrev S1x1024x1024 : Shape := ⟨3, ![1, 1024, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== InWeightRefIdeal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩
abbrev S2048x8x1024 : Shape := ⟨3, ![2048, 8, 1024]⟩
abbrev S8x2048x1024 : Shape := ⟨3, ![8, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | .hbm, ⟨7, _⟩ => ⟨S2048x8192, .bf16⟩
  | .hbm, ⟨8, _⟩ => ⟨S2048x8x1024, .bf16⟩
  | .hbm, ⟨9, _⟩ => ⟨S8x2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InInput.lean ====
abbrev S2048x8192 : Shape := ⟨2, ![2048, 8192]⟩
abbrev S2048x8x1024 : Shape := ⟨3, ![2048, 8, 1024]⟩
abbrev S8x2048x1024 : Shape := ⟨3, ![8, 2048, 1024]⟩
abbrev S2048x2048 : Shape := ⟨2, ![2048, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 9
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8x1024, .f32⟩
  | .hbm, ⟨3, _⟩ => ⟨S8x2048x1024, .f32⟩
  | .hbm, ⟨4, _⟩ => ⟨S8x2048x1024, .bf16⟩
  | .hbm, ⟨5, _⟩ => ⟨S2048x8x1024, .f32⟩
  | .hbm, ⟨6, _⟩ => ⟨S8x2048x1024, .f32⟩
  | .hbm, ⟨7, _⟩ => ⟨S8x2048x1024, .bf16⟩
  | .hbm, ⟨8, _⟩ => ⟨S2048x2048, .f32⟩
  | .local _ .vmem, ⟨0, _⟩ => ⟨S2x1024x1024, .bf16⟩
  | .local _ .vmem, ⟨1, _⟩ => ⟨S2x1024x1024, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== InInputRefIdeal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOutInput.lean ====
abbrev S2048x8192 : Shape := ⟨2, ![2048, 8192]⟩
abbrev S2048x2048 : Shape := ⟨2, ![2048, 2048]⟩
abbrev S2048x8x1024 : Shape := ⟨3, ![2048, 8, 1024]⟩
abbrev S8x2048x1024 : Shape := ⟨3, ![8, 2048, 1024]⟩
abbrev S2x2048x1024 : Shape := ⟨3, ![2, 2048, 1024]⟩
abbrev S1024x2048 : Shape := ⟨2, ![1024, 2048]⟩
abbrev S512x2048 : Shape := ⟨2, ![512, 2048]⟩
abbrev S1x1024x512 : Shape := ⟨3, ![1, 1024, 512]⟩
abbrev S1024x512 : Shape := ⟨2, ![1024, 512]⟩

abbrev nBuf : Space → Nat
  | .hbm => 15
  | .vmem => 20
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x8x1024, .f32⟩
  | .hbm, ⟨6, _⟩ => ⟨S8x2048x1024, .f32⟩
  | .hbm, ⟨7, _⟩ => ⟨S2048x2048, .bf16⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2x2048x1024, .bf16⟩
  | .hbm, ⟨14, _⟩ => ⟨S2x2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨4, ![1, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32 : BitVec 32 := 4#32
  let v17 : BitVec 32 := Scalar.addi c4_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg2 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg2 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true, false]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true, false]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true, false]
-- ==== MixOutInputRefIdeal.lean ====
abbrev S2048x8192 : Shape := ⟨2, ![2048, 8192]⟩
abbrev S2048x2048 : Shape := ⟨2, ![2048, 2048]⟩
abbrev S_ : Shape := ⟨0, ![]⟩
abbrev S2048x2x1024 : Shape := ⟨3, ![2048, 2, 1024]⟩
abbrev S2x2048x1024 : Shape := ⟨3, ![2, 2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .bf16⟩
  | .hbm, ⟨43, _⟩ => ⟨S2048x2048, .bf16⟩
  | .hbm, ⟨44, _⟩ => ⟨S2048x2048, .bf16⟩
  | .hbm, ⟨45, _⟩ => ⟨S2048x2048, .bf16⟩
  | .hbm, ⟨46, _⟩ => ⟨S2048x2x1024, .bf16⟩
  | .hbm, ⟨47, _⟩ => ⟨S2x2048x1024, .bf16⟩
  | .hbm, ⟨48, _⟩ => ⟨S2048x2x1024, .bf16⟩
  | .hbm, ⟨49, _⟩ => ⟨S2x2048x1024, .bf16⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== MixOutWeight.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]
-- ==== MixOutWeightRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MergeInput.lean ====
abbrev S2048x1024 : Shape := ⟨2, ![2048, 1024]⟩
abbrev S1024x2048 : Shape := ⟨2, ![1024, 2048]⟩
abbrev S2048x2048 : Shape := ⟨2, ![2048, 2048]⟩
abbrev S1024x8x256 : Shape := ⟨3, ![1024, 8, 256]⟩
abbrev S8x1024x256 : Shape := ⟨3, ![8, 1024, 256]⟩
abbrev S512x256 : Shape := ⟨2, ![512, 256]⟩
abbrev S1x1024x256 : Shape := ⟨3, ![1, 1024, 256]⟩
abbrev S512x1024 : Shape := ⟨2, ![512, 1024]⟩
abbrev S1024x256 : Shape := ⟨2, ![1024, 256]⟩

abbrev nBuf : Space → Nat
  | .hbm => 17
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S1024x8x256, .f32⟩
  | .hbm, ⟨7, _⟩ => ⟨S8x1024x256, .f32⟩
  | .hbm, ⟨8, _⟩ => ⟨S8x1024x256, .bf16⟩
  | .hbm, ⟨9, _⟩ => ⟨S1024x8x256, .f32⟩
  | .hbm, ⟨10, _⟩ => ⟨S8x1024x256, .f32⟩
  | .hbm, ⟨11, _⟩ => ⟨S8x1024x256, .bf16⟩
  | .hbm, ⟨12, _⟩ => ⟨S2048x2048, .bf16⟩
  | .hbm, ⟨13, _⟩ => ⟨S2048x2048, .bf16⟩
  | .hbm, ⟨14, _⟩ => ⟨S2048x1024, .bf16⟩
  | .hbm, ⟨15, _⟩ => ⟨S2048x1024, .f32⟩
  | .hbm, ⟨16, _⟩ => ⟨S2048x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![1, 4, 1, 8], ![false, false, false, false]⟩

def k0_cond3 (i : grid0.Coords) : BitVec 1 :=
  let arg3 : BitVec 32 := BitVec.ofNat 32 (i 3).val
  let c7_i32 : BitVec 32 := 7#32
  let v6 : BitVec 1 := Scalar.cmpi .eq arg3 c7_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg3.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg3.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false, false]
-- ==== MergeInputRefIdeal.lean ====
abbrev S2048x1024 : Shape := ⟨2, ![2048, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x2048, .f32⟩
  | .hbm, ⟨4, _⟩ => ⟨S2048x2048, .f32⟩
  | .hbm, ⟨5, _⟩ => ⟨S2048x2048, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x2048, .f32⟩
  | .hbm, ⟨39, _⟩ => ⟨S2048x2048, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== MergeWeight.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 10
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S2048x1024, .bf16⟩
  | .hbm, ⟨5, _⟩ => ⟨S2048x1024, .bf16⟩
  | .hbm, ⟨6, _⟩ => ⟨S2048x2048, .bf16⟩
  | .hbm, ⟨7, _⟩ => ⟨S2048x2048, .bf16⟩
  | .hbm, ⟨8, _⟩ => ⟨S8x1024x256, .bf16⟩
  | .hbm, ⟨9, _⟩ => ⟨S8x1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨4, ![8, 1, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, true]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false, false]

abbrev stage0_5 : Fin 2 → Memref sig .tc .vmem S1x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false, false]
-- ==== MergeWeightRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S1024x2048, .f32⟩
  | .hbm, ⟨12, _⟩ => ⟨S1024x2048, .bf16⟩
  | .hbm, ⟨13, _⟩ => ⟨S1024x8x256, .bf16⟩
  | .hbm, ⟨14, _⟩ => ⟨S8x1024x256, .bf16⟩
  | .hbm, ⟨15, _⟩ => ⟨S1024x2048, .bf16⟩
  | .hbm, ⟨16, _⟩ => ⟨S1024x8x256, .bf16⟩
  | .hbm, ⟨17, _⟩ => ⟨S8x1024x256, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GluWeight.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨4, ![1, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false, false]
-- ==== GluWeightRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnGate.lean ====
abbrev S2048x2048 : Shape := ⟨2, ![2048, 2048]⟩
abbrev S2048x5504 : Shape := ⟨2, ![2048, 5504]⟩
abbrev S5504x2048 : Shape := ⟨2, ![5504, 2048]⟩
abbrev S8x688x2048 : Shape := ⟨3, ![8, 688, 2048]⟩
abbrev S8x2048x688 : Shape := ⟨3, ![8, 2048, 688]⟩
abbrev S1024x2048 : Shape := ⟨2, ![1024, 2048]⟩
abbrev S1x688x2048 : Shape := ⟨3, ![1, 688, 2048]⟩
abbrev S1x1024x688 : Shape := ⟨3, ![1, 1024, 688]⟩
abbrev S688x2048 : Shape := ⟨2, ![688, 2048]⟩
abbrev S1024x688 : Shape := ⟨2, ![1024, 688]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x2048, .bf16⟩
  | .hbm, ⟨3, _⟩ => ⟨S5504x2048, .f32⟩
  | .hbm, ⟨4, _⟩ => ⟨S8x688x2048, .f32⟩
  | .hbm, ⟨5, _⟩ => ⟨S8x688x2048, .bf16⟩
  | .hbm, ⟨6, _⟩ => ⟨S8x2048x688, .bf16⟩
  | .local _ .vmem, ⟨0, _⟩ => ⟨S1024x2048, .bf16⟩
  | .local _ .vmem, ⟨1, _⟩ => ⟨S1024x2048, .bf16⟩
  | .local _ .vmem, ⟨2, _⟩ => ⟨S1x688x2048, .bf16⟩
  | .local _ .vmem, ⟨3, _⟩ => ⟨S1x688x2048, .bf16⟩
  | .local _ .vmem, ⟨4, _⟩ => ⟨S1x1024x688, .bf16⟩
  | .local _ .vmem, ⟨5, _⟩ => ⟨S1x1024x688, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x688x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1024x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== FfnGateRefIdeal.lean ====
abbrev S2048x2048 : Shape := ⟨2, ![2048, 2048]⟩
abbrev S2048x5504 : Shape := ⟨2, ![2048, 5504]⟩
abbrev S2048x8x688 : Shape := ⟨3, ![2048, 8, 688]⟩
abbrev S8x2048x688 : Shape := ⟨3, ![8, 2048, 688]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x5504, .f32⟩
  | .hbm, ⟨3, _⟩ => ⟨S2048x5504, .bf16⟩
  | .hbm, ⟨4, _⟩ => ⟨S2048x8x688, .bf16⟩
  | .hbm, ⟨5, _⟩ => ⟨S8x2048x688, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S2048x2048 : Shape := ⟨2, ![2048, 2048]⟩
abbrev S2048x5504 : Shape := ⟨2, ![2048, 5504]⟩
abbrev S5504x2048 : Shape := ⟨2, ![5504, 2048]⟩
abbrev S8x688x2048 : Shape := ⟨3, ![8, 688, 2048]⟩
abbrev S2048x8x688 : Shape := ⟨3, ![2048, 8, 688]⟩
abbrev S8x2048x688 : Shape := ⟨3, ![8, 2048, 688]⟩
abbrev S1024x2048 : Shape := ⟨2, ![1024, 2048]⟩
abbrev S1x688x2048 : Shape := ⟨3, ![1, 688, 2048]⟩
abbrev S1x1024x688 : Shape := ⟨3, ![1, 1024, 688]⟩
abbrev S688x2048 : Shape := ⟨2, ![688, 2048]⟩
abbrev S1024x688 : Shape := ⟨2, ![1024, 688]⟩

abbrev nBuf : Space → Nat
  | .hbm => 13
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x5504, .f32⟩
  | .hbm, ⟨3, _⟩ => ⟨S2048x2048, .bf16⟩
  | .hbm, ⟨4, _⟩ => ⟨S5504x2048, .f32⟩
  | .hbm, ⟨5, _⟩ => ⟨S8x688x2048, .f32⟩
  | .hbm, ⟨6, _⟩ => ⟨S8x688x2048, .bf16⟩
  | .hbm, ⟨7, _⟩ => ⟨S2048x8x688, .f32⟩
  | .hbm, ⟨8, _⟩ => ⟨S8x2048x688, .f32⟩
  | .hbm, ⟨9, _⟩ => ⟨S8x2048x688, .bf16⟩
  | .hbm, ⟨10, _⟩ => ⟨S8x2048x688, .bf16⟩
  | .hbm, ⟨11, _⟩ => ⟨S8x2048x688, .bf16⟩
  | .hbm, ⟨12, _⟩ => ⟨S8x2048x688, .bf16⟩
  | .local _ .vmem, ⟨0, _⟩ => ⟨S1024x2048, .bf16⟩
  | .local _ .vmem, ⟨1, _⟩ => ⟨S1024x2048, .bf16⟩
  | .local _ .vmem, ⟨2, _⟩ => ⟨S1x688x2048, .bf16⟩
  | .local _ .vmem, ⟨3, _⟩ => ⟨S1x688x2048, .bf16⟩
  | .local _ .vmem, ⟨4, _⟩ => ⟨S1x1024x688, .bf16⟩
  | .local _ .vmem, ⟨5, _⟩ => ⟨S1x1024x688, .bf16⟩
  | .local _ .vmem, ⟨6, _⟩ => ⟨S1x1024x688, .bf16⟩
  | .local _ .vmem, ⟨7, _⟩ => ⟨S1x1024x688, .bf16⟩
  | .local _ .vmem, ⟨8, _⟩ => ⟨S1x1024x688, .bf16⟩
  | .local _ .vmem, ⟨9, _⟩ => ⟨S1x1024x688, .bf16⟩
  | .local _ .vmem, ⟨10, _⟩ => ⟨S1x1024x688, .bf16⟩
  | .local _ .vmem, ⟨11, _⟩ => ⟨S1x1024x688, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x688x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1024x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1024x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x688 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]
-- ==== FfnUpRefIdeal.lean ====
abbrev S2048x2048 : Shape := ⟨2, ![2048, 2048]⟩
abbrev S2048x5504 : Shape := ⟨2, ![2048, 5504]⟩
abbrev S_ : Shape := ⟨0, ![]⟩
abbrev S2048x8x688 : Shape := ⟨3, ![2048, 8, 688]⟩
abbrev S8x2048x688 : Shape := ⟨3, ![8, 2048, 688]⟩

abbrev nBuf : Space → Nat
  | .hbm => 51
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S2048x5504, .f32⟩
  | .hbm, ⟨3, _⟩ => ⟨S2048x5504, .f32⟩
  | .hbm, ⟨4, _⟩ => ⟨S2048x5504, .bf16⟩
  | .hbm, ⟨5, _⟩ => ⟨S2048x5504, .f32⟩
  | .hbm, ⟨6, _⟩ => ⟨S2048x5504, .f32⟩
  | .hbm, ⟨7, _⟩ => ⟨S2048x5504, .f32⟩
  | .hbm, ⟨8, _⟩ => ⟨S_, .f32⟩
  | .hbm, ⟨9, _⟩ => ⟨S2048x5504, .f32⟩
  | .hbm, ⟨10, _⟩ => ⟨S2048x5504, .f32⟩
  | .hbm, ⟨11, _⟩ => ⟨S_, .f32⟩
  | .hbm, ⟨12, _⟩ => ⟨S2048x5504, .f32⟩
  | .hbm, ⟨13, _⟩ => ⟨S2048x5504, .f32⟩
  | .hbm, ⟨14, _⟩ => ⟨S_, .f32⟩
  | .hbm, ⟨15, _⟩ => ⟨S2048x5504, .f32⟩
  | .hbm, ⟨16, _⟩ => ⟨S2048x5504, .f32⟩
  | .hbm, ⟨17, _⟩ => ⟨S2048x5504, .f32⟩
  | .hbm, ⟨18, _⟩ => ⟨S_, .f32⟩
  | .hbm, ⟨19, _⟩ => ⟨S2048x5504, .f32⟩
  | .hbm, ⟨20, _⟩ => ⟨S2048x5504, .f32⟩
  | .hbm, ⟨21, _⟩ => ⟨S2048x5504, .f32⟩
  | .hbm, ⟨22, _⟩ => ⟨S2048x5504, .f32⟩
  | .hbm, ⟨23, _⟩ => ⟨S2048x5504, .bf16⟩
  | .hbm, ⟨24, _⟩ => ⟨S2048x8x688, .bf16⟩
  | .hbm, ⟨25, _⟩ => ⟨S8x2048x688, .bf16⟩
  | .hbm, ⟨26, _⟩ => ⟨S2048x5504, .f32⟩
  | .hbm, ⟨27, _⟩ => ⟨S2048x5504, .f32⟩
  | .hbm, ⟨28, _⟩ => ⟨S_, .f32⟩
  | .hbm, ⟨29, _⟩ => ⟨S2048x5504, .f32⟩
  | .hbm, ⟨30, _⟩ => ⟨S2048x5504, .f32⟩
  | .hbm, ⟨31, _⟩ => ⟨S_, .f32⟩
  | .hbm, ⟨32, _⟩ => ⟨S2048x5504, .f32⟩
  | .hbm, ⟨33, _⟩ => ⟨S2048x5504, .f32⟩
  | .hbm, ⟨34, _⟩ => ⟨S2048x5504, .f32⟩
  | .hbm, ⟨35, _⟩ => ⟨S2048x5504, .bf16⟩
  | .hbm, ⟨36, _⟩ => ⟨S2048x8x688, .bf16⟩
  | .hbm, ⟨37, _⟩ => ⟨S8x2048x688, .bf16⟩
  | .hbm, ⟨38, _⟩ => ⟨S2048x5504, .f32⟩
  | .hbm, ⟨39, _⟩ => ⟨S2048x5504, .f32⟩
  | .hbm, ⟨40, _⟩ => ⟨S_, .f32⟩
  | .hbm, ⟨41, _⟩ => ⟨S2048x5504, .f32⟩
  | .hbm, ⟨42, _⟩ => ⟨S2048x5504, .f32⟩
  | .hbm, ⟨43, _⟩ => ⟨S_, .f32⟩
  | .hbm, ⟨44, _⟩ => ⟨S2048x5504, .f32⟩
  | .hbm, ⟨45, _⟩ => ⟨S2048x5504, .f32⟩
  | .hbm, ⟨46, _⟩ => ⟨S2048x5504, .f32⟩
  | .hbm, ⟨47, _⟩ => ⟨S2048x5504, .f32⟩
  | .hbm, ⟨48, _⟩ => ⟨S2048x5504, .bf16⟩
  | .hbm, ⟨49, _⟩ => ⟨S2048x8x688, .bf16⟩
  | .hbm, ⟨50, _⟩ => ⟨S8x2048x688, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩

abbrev nD : Nat := 1
abbrev τ : Topo := Topo.v7x

variable {F : FTy → Type} [FloatOps F]
-- ==== FfnDown.lean ====
abbrev S2048x2048 : Shape := ⟨2, ![2048, 2048]⟩
abbrev S2048x5504 : Shape := ⟨2, ![2048, 5504]⟩
abbrev S5504x2048 : Shape := ⟨2, ![5504, 2048]⟩
abbrev S2048x8x688 : Shape := ⟨3, ![2048, 8, 688]⟩
abbrev S8x2048x688 : Shape := ⟨3, ![8, 2048, 688]⟩
abbrev S8x688x2048 : Shape := ⟨3, ![8, 688, 2048]⟩
abbrev S2x1024x688 : Shape := ⟨3, ![2, 1024, 688]⟩
abbrev S2x688x1024 : Shape := ⟨3, ![2, 688, 1024]⟩
abbrev S1024x1024 : Shape := ⟨2, ![1024, 1024]⟩
abbrev S1x1024x688 : Shape := ⟨3, ![1, 1024, 688]⟩
abbrev S1024x688 : Shape := ⟨2, ![1024, 688]⟩
abbrev S1x688x1024 : Shape := ⟨3, ![1, 688, 1024]⟩
abbrev S688x1024 : Shape := ⟨2, ![688, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S5504x2048, .f32⟩
  | .hbm, ⟨3, _⟩ => ⟨S2048x8x688, .f32⟩
  | .hbm, ⟨4, _⟩ => ⟨S8x2048x688, .f32⟩
  | .hbm, ⟨5, _⟩ => ⟨S8x2048x688, .bf16⟩
  | .hbm, ⟨6, _⟩ => ⟨S8x688x2048, .f32⟩
  | .hbm, ⟨7, _⟩ => ⟨S8x688x2048, .bf16⟩
  | .hbm, ⟨8, _⟩ => ⟨S2048x2048, .f32⟩
  | .local _ .vmem, ⟨0, _⟩ => ⟨S2x1024x688, .bf16⟩
  | .local _ .vmem, ⟨1, _⟩ => ⟨S2x1024x688, .bf16⟩
  | .local _ .vmem, ⟨2, _⟩ => ⟨S2x688x1024, .bf16⟩
  | .local _ .vmem, ⟨3, _⟩ => ⟨S2x688x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 4], ![false, false, false, false]⟩

def k0_cond3 (i : grid0.Coords) : BitVec 1 :=
  let arg3 : BitVec 32 := BitVec.ofNat 32 (i 3).val
  let c3_i32 : BitVec 32 := 3#32
  let v6 : BitVec 1 := Scalar.cmpi .eq arg3 c3_i32
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg3.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S2x1024x688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2x688x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== FfnDownRefIdeal.lean ====
abbrev S2048x2048 : Shape := ⟨2, ![2048, 2048]⟩
abbrev S2048x5504 : Shape := ⟨2, ![2048, 5504]⟩
abbrev S5504x2048 : Shape := ⟨2, ![5504, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x5504, .f32⟩
  | .hbm, ⟨2, _⟩ => ⟨S5504x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== InProj.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩
abbrev S1024x2048 : Shape := ⟨2, ![1024, 2048]⟩
abbrev S1x2048x1024 : Shape := ⟨3, ![1, 2048, 1024]⟩
abbrev S1x1024x1024 : Shape := ⟨3, ![1, 1024, 1024]⟩
abbrev S2048x1024 : Shape := ⟨2, ![2048, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S2048x8x1024, .f32⟩
  | .hbm, ⟨4, _⟩ => ⟨S8x2048x1024, .f32⟩
  | .hbm, ⟨5, _⟩ => ⟨S8x2048x1024, .bf16⟩
  | .hbm, ⟨6, _⟩ => ⟨S8x2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .f32⟩
  | .local _ .vmem, ⟨5, _⟩ => ⟨S1x1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg3.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]
-- ==== InProjRefIdeal.lean ====
abbrev S2048x2048 : Shape := ⟨2, ![2048, 2048]⟩
abbrev S2048x8192 : Shape := ⟨2, ![2048, 8192]⟩
abbrev S2048x8x1024 : Shape := ⟨3, ![2048, 8, 1024]⟩
abbrev S8x2048x1024 : Shape := ⟨3, ![8, 2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S2048x8x1024, .f32⟩
  | .hbm, ⟨4, _⟩ => ⟨S8x2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixMerge.lean ====
abbrev S2048x1024 : Shape := ⟨2, ![2048, 1024]⟩
abbrev S2048x8192 : Shape := ⟨2, ![2048, 8192]⟩
abbrev S1024x2048 : Shape := ⟨2, ![1024, 2048]⟩
abbrev S2048x8x1024 : Shape := ⟨3, ![2048, 8, 1024]⟩
abbrev S8x2048x1024 : Shape := ⟨3, ![8, 2048, 1024]⟩
abbrev S1024x8x256 : Shape := ⟨3, ![1024, 8, 256]⟩
abbrev S8x1024x256 : Shape := ⟨3, ![8, 1024, 256]⟩
abbrev S2048x2048 : Shape := ⟨2, ![2048, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 18
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S1024x2048, .f32⟩
  | .hbm, ⟨4, _⟩ => ⟨S1024x2048, .f32⟩
  | .hbm, ⟨5, _⟩ => ⟨S2048x1024, .bf16⟩
  | .hbm, ⟨6, _⟩ => ⟨S2048x1024, .bf16⟩
  | .hbm, ⟨7, _⟩ => ⟨S2048x8x1024, .f32⟩
  | .hbm, ⟨8, _⟩ => ⟨S8x2048x1024, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | .hbm, ⟨12, _⟩ => ⟨S1024x8x256, .f32⟩
  | .hbm, ⟨13, _⟩ => ⟨S8x1024x256, .f32⟩
  | .hbm, ⟨14, _⟩ => ⟨S8x1024x256, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .f32⟩
  | .local _ .vmem, ⟨9, _⟩ => ⟨S1x1024x256, .f32⟩
  | .local _ .vmem, ⟨10, _⟩ => ⟨S1x1024x256, .f32⟩
  | .local _ .vmem, ⟨11, _⟩ => ⟨S1x1024x256, .f32⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.addi c4_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  ![v17.toNat, arg1.toNat, v27.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.addi c6_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  ![v17.toNat, arg1.toNat, v27.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false, false]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false, false]
-- ==== MixMergeRefIdeal.lean ====
abbrev S2048x1024 : Shape := ⟨2, ![2048, 1024]⟩
abbrev S2048x8192 : Shape := ⟨2, ![2048, 8192]⟩
abbrev S1024x2048 : Shape := ⟨2, ![1024, 2048]⟩
abbrev S2048x2048 : Shape := ⟨2, ![2048, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x8192, .f32⟩
  | .hbm, ⟨3, _⟩ => ⟨S1024x2048, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S_, .f32⟩
  | .hbm, ⟨21, _⟩ => ⟨S2048x2048, .f32⟩
  | .hbm, ⟨22, _⟩ => ⟨S2048x2048, .f32⟩
  | .hbm, ⟨23, _⟩ => ⟨S_, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .bf16⟩
  | .hbm, ⟨29, _⟩ => ⟨S2048x2048, .bf16⟩
  | .hbm, ⟨30, _⟩ => ⟨S2048x2048, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== MixOut.lean ====
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .hbm, ⟨5, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![1, 2, 2, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true, false]
-- ==== MixOutRefIdeal.lean ====
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Scan.lean ====
abbrev S2048x32x128 : Shape := ⟨3, ![2048, 32, 128]⟩
abbrev S32x128 : Shape := ⟨2, ![32, 128]⟩
abbrev S256x32x128 : Shape := ⟨3, ![256, 32, 128]⟩
abbrev S2x32x128 : Shape := ⟨3, ![2, 32, 128]⟩
abbrev S1x32x128 : Shape := ⟨3, ![1, 32, 128]⟩

abbrev nBuf : Space → Nat
  | .hbm => 12
  | .vmem => 28
  | .smem => 0
  | _ => 0

abbrev bufTy : (tb : Table) → Fin (tcTables nBuf tb) → BufTy
  | .hbm, ⟨0, _⟩ => ⟨S2048x32x128, .f32⟩
  | .hbm, ⟨1, _⟩ => ⟨S2048x32x128, .f32⟩
  | .hbm, ⟨2, _⟩ => ⟨S32x128, .f32⟩
  | .hbm, ⟨3, _⟩ => ⟨S32x128, .f32⟩
  | .hbm, ⟨4, _⟩ => ⟨S2048x32x128, .f32⟩
  | .hbm, ⟨5, _⟩ => ⟨S2048x32x128, .f32⟩
  | .hbm, ⟨6, _⟩ => ⟨S2048x32x128, .f32⟩
  | .hbm, ⟨7, _⟩ => ⟨S2048x32x128, .f32⟩
  | .hbm, ⟨8, _⟩ => ⟨S2048x32x128, .f32⟩
  | .hbm, ⟨9, _⟩ => ⟨S2048x32x128, .f32⟩
  | .hbm, ⟨10, _⟩ => ⟨S32x128, .f32⟩
  | .hbm, ⟨11, _⟩ => ⟨S32x128, .f32⟩
  | .local _ .vmem, ⟨0, _⟩ => ⟨S256x32x128, .f32⟩
  | .local _ .vmem, ⟨1, _⟩ => ⟨S256x32x128, .f32⟩
  | .local _ .vmem, ⟨2, _⟩ => ⟨S256x32x128, .f32⟩
  | .local _ .vmem, ⟨3, _⟩ => ⟨S256x32x128, .f32⟩
  | .local _ .vmem, ⟨4, _⟩ => ⟨S32x128, .f32⟩
  | .local _ .vmem, ⟨5, _⟩ => ⟨S32x128, .f32⟩
  | .local _ .vmem, ⟨6, _⟩ => ⟨S256x32x128, .f32⟩
  | .local _ .vmem, ⟨7, _⟩ => ⟨S256x32x128, .f32⟩
  | .local _ .vmem, ⟨8, _⟩ => ⟨S256x32x128, .f32⟩
  | .local _ .vmem, ⟨9, _⟩ => ⟨S256x32x128, .f32⟩
  | .local _ .vmem, ⟨10, _⟩ => ⟨S2x32x128, .f32⟩
  | .local _ .vmem, ⟨11, _⟩ => ⟨S256x32x128, .f32⟩
  | .local _ .vmem, ⟨12, _⟩ => ⟨S256x32x128, .f32⟩
  | .local _ .vmem, ⟨13, _⟩ => ⟨S256x32x128, .f32⟩
  | .local _ .vmem, ⟨14, _⟩ => ⟨S256x32x128, .f32⟩
  | .local _ .vmem, ⟨15, _⟩ => ⟨S256x32x128, .f32⟩
  | .local _ .vmem, ⟨16, _⟩ => ⟨S256x32x128, .f32⟩
  | .local _ .vmem, ⟨17, _⟩ => ⟨S256x32x128, .f32⟩
  | .local _ .vmem, ⟨18, _⟩ => ⟨S256x32x128, .f32⟩
  | .local _ .vmem, ⟨19, _⟩ => ⟨S32x128, .f32⟩
  | .local _ .vmem, ⟨20, _⟩ => ⟨S32x128, .f32⟩
  | .local _ .vmem, ⟨21, _⟩ => ⟨S256x32x128, .f32⟩
  | .local _ .vmem, ⟨22, _⟩ => ⟨S256x32x128, .f32⟩
  | .local _ .vmem, ⟨23, _⟩ => ⟨S256x32x128, .f32⟩
  | .local _ .vmem, ⟨24, _⟩ => ⟨S256x32x128, .f32⟩
  | .local _ .vmem, ⟨25, _⟩ => ⟨S32x128, .f32⟩
  | .local _ .vmem, ⟨26, _⟩ => ⟨S32x128, .f32⟩
  | .local _ .vmem, ⟨27, _⟩ => ⟨S2x32x128, .f32⟩
  | _, _ => ⟨S2048x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_9 : BitVec 32 := 0#32
  let c256_i32 : BitVec 32 := 256#32
  let v9 : BitVec 32 := Scalar.addi c0_i32_9 c256_i32
  let c1_i32 : BitVec 32 := 1#32
  ⟨c0_i32_9, v9, c1_i32⟩
def k0_off1 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let v20 : Index := Scalar.indexCast arg8
  let c0_17 : Index := 0#32
  let c0_18 : Index := 0#32
  ![v20.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

@[reducible] def k1_t1_loop : Scf.Loop 32 :=
  let c0_i32_13 : BitVec 32 := 0#32
  let c256_i32 : BitVec 32 := 256#32
  let v13 : BitVec 32 := Scalar.addi c0_i32_13 c256_i32
  let c1_i32 : BitVec 32 := 1#32
  ⟨c0_i32_13, v13, c1_i32⟩
def k1_off1 (k1_t1 : Fin k1_t1_loop.trips) : Fin 3 → Nat :=
  let c255_i32 : BitVec 32 := 255#32
  let c0_i32_13 : BitVec 32 := 0#32
  let c1_i32 : BitVec 32 := 1#32
  let arg12 : BitVec 32 := Scf.iv c0_i32_13 c1_i32 k1_t1
  let v23 : BitVec 32 := Scalar.subi c255_i32 arg12
  let v24 : Index := Scalar.indexCast v23
  let c0_25 : Index := 0#32
  let c0_26 : Index := 0#32
  ![v24.toNat, 0, 0]
def cc1_transform_0 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_7 (i : grid1.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x32x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x32x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S32x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x32x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x32x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S32x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ScanRefIdeal.lean ====
abbrev S2048x32x128 : Shape := ⟨3, ![2048, 32, 128]⟩
abbrev S32x128 : Shape := ⟨2, ![32, 128]⟩
abbrev S_ : Shape := ⟨0, ![]⟩
abbrev S1x32x128 : Shape := ⟨3, ![1, 32, 128]⟩

abbrev nBuf : Space → Nat
  | .hbm => 143
  | .vmem => 0
  | .smem => 0
  | _ => 0

abbrev hbmTy0_0 (i : Nat) : BufTy := match i % 128 with
  | 0 => ⟨S2048x32x128, .f32⟩
  | 1 => ⟨S2048x32x128, .f32⟩
  | 2 => ⟨S32x128, .f32⟩
  | 3 => ⟨S32x128, .f32⟩
  | 4 => ⟨S2048x32x128, .f32⟩
  | 5 => ⟨S2048x32x128, .f32⟩
  | 6 => ⟨S_, .f32⟩
  | 7 => ⟨S32x128, .f32⟩
  | 8 => ⟨S_, .f32⟩
  | 9 => ⟨S2048x32x128, .f32⟩
  | 10 => ⟨S_, .f32⟩
  | 11 => ⟨S2048x32x128, .f32⟩
  | 12 => ⟨S_, .f32⟩
  | 13 => ⟨S2048x32x128, .f32⟩
  | 14 => ⟨S_, .f32⟩
  | 15 => ⟨S2048x32x128, .f32⟩
  | 16 => ⟨S_, .i32⟩
  | 17 => ⟨S2048x32x128, .f32⟩
  | 18 => ⟨S2048x32x128, .f32⟩
  | 19 => ⟨S32x128, .f32⟩
  | 20 => ⟨S32x128, .f32⟩
  | 21 => ⟨S_, .i32⟩
  | 22 => ⟨S32x128, .f32⟩
  | 23 => ⟨S32x128, .f32⟩
  | 24 => ⟨S2048x32x128, .f32⟩
  | 25 => ⟨S2048x32x128, .f32⟩
  | 26 => ⟨S2048x32x128, .f32⟩
  | 27 => ⟨S2048x32x128, .f32⟩
  | 28 => ⟨S_, .i32⟩
  | 29 => ⟨S_, .i1⟩
  | 30 => ⟨S_, .i32⟩
  | 31 => ⟨S_, .i32⟩
  | 32 => ⟨S1x32x128, .f32⟩
  | 33 => ⟨S32x128, .f32⟩
  | 34 => ⟨S_, .i32⟩
  | 35 => ⟨S_, .i32⟩
  | 36 => ⟨S1x32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S1x32x128, .f32⟩
  | 47 => ⟨S_, .i32⟩
  | 48 => ⟨S_, .i32⟩
  | 49 => ⟨S2048x32x128, .f32⟩
  | 50 => ⟨S1x32x128, .f32⟩
  | 51 => ⟨S_, .i32⟩
  | 52 => ⟨S_, .i32⟩
  | 53 => ⟨S2048x32x128, .f32⟩
  | 54 => ⟨S1x32x128, .f32⟩
  | 55 => ⟨S_, .i32⟩
  | 56 => ⟨S_, .i32⟩
  | 57 => ⟨S2048x32x128, .f32⟩
  | 58 => ⟨S1x32x128, .f32⟩
  | 59 => ⟨S_, .i32⟩
  | 60 => ⟨S_, .i32⟩
  | 61 => ⟨S2048x32x128, .f32⟩
  | 62 => ⟨S_, .i32⟩
  | 63 => ⟨S_, .i32⟩
  | 64 => ⟨S_, .f32⟩
  | 65 => ⟨S32x128, .f32⟩
  | 66 => ⟨S_, .f32⟩
  | 67 => ⟨S32x128, .f32⟩
  | 68 => ⟨S_, .f32⟩
  | 69 => ⟨S32x128, .f32⟩
  | 70 => ⟨S_, .f32⟩
  | 71 => ⟨S32x128, .f32⟩
  | 72 => ⟨S_, .f32⟩
  | 73 => ⟨S32x128, .f32⟩
  | 74 => ⟨S_, .f32⟩
  | 75 => ⟨S32x128, .f32⟩
  | 76 => ⟨S_, .f32⟩
  | 77 => ⟨S2048x32x128, .f32⟩
  | 78 => ⟨S_, .f32⟩
  | 79 => ⟨S2048x32x128, .f32⟩
  | 80 => ⟨S_, .i32⟩
  | 81 => ⟨S2048x32x128, .f32⟩
  | 82 => ⟨S2048x32x128, .f32⟩
  | 83 => ⟨S2048x32x128, .f32⟩
  | 84 => ⟨S2048x32x128, .f32⟩
  | 85 => ⟨S32x128, .f32⟩
  | 86 => ⟨S32x128, .f32⟩
  | 87 => ⟨S_, .i32⟩
  | 88 => ⟨S32x128, .f32⟩
  | 89 => ⟨S32x128, .f32⟩
  | 90 => ⟨S32x128, .f32⟩
  | 91 => ⟨S32x128, .f32⟩
  | 92 => ⟨S2048x32x128, .f32⟩
  | 93 => ⟨S2048x32x128, .f32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x32x128, .f32⟩
  | 103 => ⟨S32x128, .f32⟩
  | 104 => ⟨S_, .i32⟩
  | 105 => ⟨S_, .i32⟩
  | 106 => ⟨S1x32x128, .f32⟩
  | 107 => ⟨S32x128, .f32⟩
  | 108 => ⟨S_, .i32⟩
  | 109 => ⟨S_, .i32⟩
  | 110 => ⟨S1x32x128, .f32⟩
  | 111 => ⟨S32x128, .f32⟩
  | 112 => ⟨S_, .i32⟩
  | 113 => ⟨S_, .i32⟩
  | 114 => ⟨S1x32x128, .f32⟩
  | 115 => ⟨S32x128, .f32⟩
  | 116 => ⟨S32x128, .f32⟩
  | 117 => ⟨S32x128, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S2048x32x128, .f32⟩

abbrev hbmTy0_1 (i : Nat) : BufTy := match i % 128 with
  | 0 => ⟨S32x128, .f32⟩
  | 1 => ⟨S32x128, .f32⟩
  | 2 => ⟨S32x128, .f32⟩
  | 3 => ⟨S32x128, .f32⟩
  | 4 => ⟨S32x128, .f32⟩
  | 5 => ⟨S1x32x128, .f32⟩
  | 6 => ⟨S_, .i32⟩
  | 7 => ⟨S_, .i32⟩
  | 8 => ⟨S2048x32x128, .f32⟩
  | 9 => ⟨S1x32x128, .f32⟩
  | 10 => ⟨S_, .i32⟩
  | 11 => ⟨S_, .i32⟩
  | 12 => ⟨S2048x32x128, .f32⟩
  | 13 => ⟨S_, .i32⟩
  | 14 => ⟨S_, .i32⟩
  | _ => ⟨S2048x32x128, .f32⟩

abbrev hbmTy (i : Nat) : BufTy := match i / 128 with
  | 0 => hbmTy0_0 i
  | 1 => hbmTy0_1 i
  | _ => ⟨S2048x32x128, .f32⟩

abbrev bufTy : (tb : Table) → Fin (tcTables nBuf tb) → BufTy
  | .hbm, ⟨i, _⟩ => hbmTy i
  | _, _ => ⟨S2048x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_c : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_v5_9 : Ref sig .tc := ⟨.hbm, 26, rfl⟩
abbrev main_v5_10 : Ref sig .tc := ⟨.hbm, 27, rfl⟩
abbrev main_while0c_c_23 : Ref sig .tc := ⟨.hbm, 28, rfl⟩
abbrev main_while0c_v15 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v15 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_call2_v0 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_v25 : Ref sig .tc := ⟨.hbm, 49, rfl⟩
abbrev main_while0b_call3_v0 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_v26 : Ref sig .tc := ⟨.hbm, 53, rfl⟩
abbrev main_while0b_call4_v0 : Ref sig .tc := ⟨.hbm, 54, rfl⟩
abbrev main_while0b_call4_c : Ref sig .tc := ⟨.hbm, 55, rfl⟩
abbrev main_while0b_call4_c_0 : Ref sig .tc := ⟨.hbm, 56, rfl⟩
abbrev main_while0b_v27 : Ref sig .tc := ⟨.hbm, 57, rfl⟩
abbrev main_while0b_call5_v0 : Ref sig .tc := ⟨.hbm, 58, rfl⟩
abbrev main_while0b_call5_c : Ref sig .tc := ⟨.hbm, 59, rfl⟩
abbrev main_while0b_call5_c_0 : Ref sig .tc := ⟨.hbm, 60, rfl⟩
abbrev main_while0b_v28 : Ref sig .tc := ⟨.hbm, 61, rfl⟩
abbrev main_while0b_c_23 : Ref sig .tc := ⟨.hbm, 62, rfl⟩
abbrev main_while0b_v29 : Ref sig .tc := ⟨.hbm, 63, rfl⟩
abbrev main_cst_4 : Ref sig .tc := ⟨.hbm, 64, rfl⟩
abbrev main_v6 : Ref sig .tc := ⟨.hbm, 65, rfl⟩
abbrev main_cst_5 : Ref sig .tc := ⟨.hbm, 66, rfl⟩
abbrev main_v7 : Ref sig .tc := ⟨.hbm, 67, rfl⟩
abbrev main_cst_6 : Ref sig .tc := ⟨.hbm, 68, rfl⟩
abbrev main_v8 : Ref sig .tc := ⟨.hbm, 69, rfl⟩
abbrev main_cst_7 : Ref sig .tc := ⟨.hbm, 70, rfl⟩
abbrev main_v9 : Ref sig .tc := ⟨.hbm, 71, rfl⟩
abbrev main_cst_8 : Ref sig .tc := ⟨.hbm, 72, rfl⟩
abbrev main_v10 : Ref sig .tc := ⟨.hbm, 73, rfl⟩
abbrev main_cst_9 : Ref sig .tc := ⟨.hbm, 74, rfl⟩
abbrev main_v11 : Ref sig .tc := ⟨.hbm, 75, rfl⟩
abbrev main_cst_10 : Ref sig .tc := ⟨.hbm, 76, rfl⟩
abbrev main_v12 : Ref sig .tc := ⟨.hbm, 77, rfl⟩
abbrev main_cst_11 : Ref sig .tc := ⟨.hbm, 78, rfl⟩
abbrev main_v13 : Ref sig .tc := ⟨.hbm, 79, rfl⟩
abbrev main_c_12 : Ref sig .tc := ⟨.hbm, 80, rfl⟩
abbrev main_v14_0 : Ref sig .tc := ⟨.hbm, 81, rfl⟩
abbrev main_v14_1 : Ref sig .tc := ⟨.hbm, 82, rfl⟩
abbrev main_v14_2 : Ref sig .tc := ⟨.hbm, 83, rfl⟩
abbrev main_v14_3 : Ref sig .tc := ⟨.hbm, 84, rfl⟩
abbrev main_v14_4 : Ref sig .tc := ⟨.hbm, 85, rfl⟩
abbrev main_v14_5 : Ref sig .tc := ⟨.hbm, 86, rfl⟩
abbrev main_v14_6 : Ref sig .tc := ⟨.hbm, 87, rfl⟩
abbrev main_v14_7 : Ref sig .tc := ⟨.hbm, 88, rfl⟩
abbrev main_v14_8 : Ref sig .tc := ⟨.hbm, 89, rfl⟩
abbrev main_v14_9 : Ref sig .tc := ⟨.hbm, 90, rfl⟩
abbrev main_v14_10 : Ref sig .tc := ⟨.hbm, 91, rfl⟩
abbrev main_v14_11 : Ref sig .tc := ⟨.hbm, 92, rfl⟩
abbrev main_v14_12 : Ref sig .tc := ⟨.hbm, 93, rfl⟩
abbrev main_while1c_c_25 : Ref sig .tc := ⟨.hbm, 94, rfl⟩
abbrev main_while1c_v15 : Ref sig .tc := ⟨.hbm, 95, rfl⟩
abbrev main_while1b_c_25 : Ref sig .tc := ⟨.hbm, 96, rfl⟩
abbrev main_while1b_v15 : Ref sig .tc := ⟨.hbm, 97, rfl⟩
abbrev main_while1b_c_26 : Ref sig .tc := ⟨.hbm, 98, rfl⟩
abbrev main_while1b_v16 : Ref sig .tc := ⟨.hbm, 99, rfl⟩
abbrev main_while1b_call6_c : Ref sig .tc := ⟨.hbm, 100, rfl⟩
abbrev main_while1b_call6_c_0 : Ref sig .tc := ⟨.hbm, 101, rfl⟩
abbrev main_while1b_call6_v0 : Ref sig .tc := ⟨.hbm, 102, rfl⟩
abbrev main_while1b_v17 : Ref sig .tc := ⟨.hbm, 103, rfl⟩
abbrev main_while1b_call7_c : Ref sig .tc := ⟨.hbm, 104, rfl⟩
abbrev main_while1b_call7_c_0 : Ref sig .tc := ⟨.hbm, 105, rfl⟩
abbrev main_while1b_call7_v0 : Ref sig .tc := ⟨.hbm, 106, rfl⟩
abbrev main_while1b_v18 : Ref sig .tc := ⟨.hbm, 107, rfl⟩
abbrev main_while1b_call8_c : Ref sig .tc := ⟨.hbm, 108, rfl⟩
abbrev main_while1b_call8_c_0 : Ref sig .tc := ⟨.hbm, 109, rfl⟩
abbrev main_while1b_call8_v0 : Ref sig .tc := ⟨.hbm, 110, rfl⟩
abbrev main_while1b_v19 : Ref sig .tc := ⟨.hbm, 111, rfl⟩
abbrev main_while1b_call9_c : Ref sig .tc := ⟨.hbm, 112, rfl⟩
abbrev main_while1b_call9_c_0 : Ref sig .tc := ⟨.hbm, 113, rfl⟩
abbrev main_while1b_call9_v0 : Ref sig .tc := ⟨.hbm, 114, rfl⟩
abbrev main_while1b_v20 : Ref sig .tc := ⟨.hbm, 115, rfl⟩
abbrev main_while1b_v21 : Ref sig .tc := ⟨.hbm, 116, rfl⟩
abbrev main_while1b_v22 : Ref sig .tc := ⟨.hbm, 117, rfl⟩
abbrev main_while1b_v23 : Ref sig .tc := ⟨.hbm, 118, rfl⟩
abbrev main_while1b_v24 : Ref sig .tc := ⟨.hbm, 119, rfl⟩
abbrev main_while1b_v25 : Ref sig .tc := ⟨.hbm, 120, rfl⟩
abbrev main_while1b_v26 : Ref sig .tc := ⟨.hbm, 121, rfl⟩
abbrev main_while1b_v27 : Ref sig .tc := ⟨.hbm, 122, rfl⟩
abbrev main_while1b_v28 : Ref sig .tc := ⟨.hbm, 123, rfl⟩
abbrev main_while1b_v29 : Ref sig .tc := ⟨.hbm, 124, rfl⟩
abbrev main_while1b_v30 : Ref sig .tc := ⟨.hbm, 125, rfl⟩
abbrev main_while1b_v31 : Ref sig .tc := ⟨.hbm, 126, rfl⟩
abbrev main_while1b_v32 : Ref sig .tc := ⟨.hbm, 127, rfl⟩
abbrev main_while1b_v33 : Ref sig .tc := ⟨.hbm, 128, rfl⟩
abbrev main_while1b_v34 : Ref sig .tc := ⟨.hbm, 129, rfl⟩
abbrev main_while1b_v35 : Ref sig .tc := ⟨.hbm, 130, rfl⟩
abbrev main_while1b_v36 : Ref sig .tc := ⟨.hbm, 131, rfl⟩
abbrev main_while1b_v37 : Ref sig .tc := ⟨.hbm, 132, rfl⟩
abbrev main_while1b_call10_v0 : Ref sig .tc := ⟨.hbm, 133, rfl⟩
abbrev main_while1b_call10_c : Ref sig .tc := ⟨.hbm, 134, rfl⟩
abbrev main_while1b_call10_c_0 : Ref sig .tc := ⟨.hbm, 135, rfl⟩
abbrev main_while1b_v38 : Ref sig .tc := ⟨.hbm, 136, rfl⟩
abbrev main_while1b_call11_v0 : Ref sig .tc := ⟨.hbm, 137, rfl⟩
abbrev main_while1b_call11_c : Ref sig .tc := ⟨.hbm, 138, rfl⟩
abbrev main_while1b_call11_c_0 : Ref sig .tc := ⟨.hbm, 139, rfl⟩
abbrev main_while1b_v39 : Ref sig .tc := ⟨.hbm, 140, rfl⟩
abbrev main_while1b_c_27 : Ref sig .tc := ⟨.hbm, 141, rfl⟩
abbrev main_while1b_v40 : Ref sig .tc := ⟨.hbm, 142, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== FfnAct.lean ====
abbrev S2048x2048 : Shape := ⟨2, ![2048, 2048]⟩
abbrev S5504x2048 : Shape := ⟨2, ![5504, 2048]⟩
abbrev S2048x5504 : Shape := ⟨2, ![2048, 5504]⟩
abbrev S_ : Shape := ⟨0, ![]⟩
abbrev S8x688x2048 : Shape := ⟨3, ![8, 688, 2048]⟩
abbrev S2048x8x688 : Shape := ⟨3, ![2048, 8, 688]⟩
abbrev S8x2048x688 : Shape := ⟨3, ![8, 2048, 688]⟩
abbrev S1024x2048 : Shape := ⟨2, ![1024, 2048]⟩
abbrev S1x688x2048 : Shape := ⟨3, ![1, 688, 2048]⟩
abbrev S1x1024x688 : Shape := ⟨3, ![1, 1024, 688]⟩
abbrev S688x2048 : Shape := ⟨2, ![688, 2048]⟩
abbrev S1024x688 : Shape := ⟨2, ![1024, 688]⟩

abbrev nBuf : Space → Nat
  | .hbm => 18
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S2048x5504, .f32⟩
  | .hbm, ⟨3, _⟩ => ⟨S2048x5504, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .bf16⟩
  | .hbm, ⟨8, _⟩ => ⟨S8x688x2048, .f32⟩
  | .hbm, ⟨9, _⟩ => ⟨S8x688x2048, .bf16⟩
  | .hbm, ⟨10, _⟩ => ⟨S2048x8x688, .f32⟩
  | .hbm, ⟨11, _⟩ => ⟨S8x2048x688, .f32⟩
  | .hbm, ⟨12, _⟩ => ⟨S8x2048x688, .bf16⟩
  | .hbm, ⟨13, _⟩ => ⟨S2048x8x688, .f32⟩
  | .hbm, ⟨14, _⟩ => ⟨S8x2048x688, .f32⟩
  | .hbm, ⟨15, _⟩ => ⟨S8x2048x688, .bf16⟩
  | .hbm, ⟨16, _⟩ => ⟨S8x2048x688, .bf16⟩
  | .hbm, ⟨17, _⟩ => ⟨S8x2048x688, .bf16⟩
  | .local _ .vmem, ⟨0, _⟩ => ⟨S1024x2048, .bf16⟩
  | .local _ .vmem, ⟨1, _⟩ => ⟨S1024x2048, .bf16⟩
  | .local _ .vmem, ⟨2, _⟩ => ⟨S1x688x2048, .bf16⟩
  | .local _ .vmem, ⟨3, _⟩ => ⟨S1x688x2048, .bf16⟩
  | .local _ .vmem, ⟨4, _⟩ => ⟨S1x1024x688, .bf16⟩
  | .local _ .vmem, ⟨5, _⟩ => ⟨S1x1024x688, .bf16⟩
  | .local _ .vmem, ⟨6, _⟩ => ⟨S1x1024x688, .bf16⟩
  | .local _ .vmem, ⟨7, _⟩ => ⟨S1x1024x688, .bf16⟩
  | .local _ .vmem, ⟨8, _⟩ => ⟨S1x1024x688, .bf16⟩
  | .local _ .vmem, ⟨9, _⟩ => ⟨S1x1024x688, .bf16⟩
  | .local _ .vmem, ⟨10, _⟩ => ⟨S1x1024x688, .bf16⟩
  | .local _ .vmem, ⟨11, _⟩ => ⟨S1x1024x688, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨4, ![8, 2, 1, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, c0_i32.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 2 → Memref sig .tc .vmem S1x688x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false, true]

abbrev stage0_2 : Fin 2 → Memref sig .tc .vmem S1x1024x688 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S1x1024x688 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false, false]

abbrev stage0_4 : Fin 2 → Memref sig .tc .vmem S1x1024x688 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false, false]

abbrev stage0_5 : Fin 2 → Memref sig .tc .vmem S1x1024x688 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false, false]
-- ==== FfnActRefIdeal.lean ====
abbrev S2048x2048 : Shape := ⟨2, ![2048, 2048]⟩
abbrev S5504x2048 : Shape := ⟨2, ![5504, 2048]⟩
abbrev S2048x5504 : Shape := ⟨2, ![2048, 5504]⟩
abbrev S_ : Shape := ⟨0, ![]⟩
abbrev S2048x8x688 : Shape := ⟨3, ![2048, 8, 688]⟩
abbrev S8x2048x688 : Shape := ⟨3, ![8, 2048, 688]⟩

abbrev nBuf : Space → Nat
  | .hbm => 22
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S5504x2048, .f32⟩
  | .hbm, ⟨2, _⟩ => ⟨S2048x5504, .f32⟩
  | .hbm, ⟨3, _⟩ => ⟨S2048x5504, .f32⟩
  | .hbm, ⟨4, _⟩ => ⟨S_, .f32⟩
  | .hbm, ⟨5, _⟩ => ⟨S2048x5504, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x5504, .f32⟩
  | .hbm, ⟨14, _⟩ => ⟨S2048x5504, .f32⟩
  | .hbm, ⟨15, _⟩ => ⟨S2048x5504, .bf16⟩
  | .hbm, ⟨16, _⟩ => ⟨S2048x8x688, .bf16⟩
  | .hbm, ⟨17, _⟩ => ⟨S8x2048x688, .bf16⟩
  | .hbm, ⟨18, _⟩ => ⟨S2048x5504, .f32⟩
  | .hbm, ⟨19, _⟩ => ⟨S2048x5504, .bf16⟩
  | .hbm, ⟨20, _⟩ => ⟨S2048x8x688, .bf16⟩
  | .hbm, ⟨21, _⟩ => ⟨S8x2048x688, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== AdamwConv.lean ====
abbrev S3x128 : Shape := ⟨2, ![3, 128]⟩

abbrev nBuf : Space → Nat
  | .hbm => 8
  | .vmem => 8
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .hbm, ⟨7, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AdamwConvRefIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S8x2232x128 : Shape := ⟨3, ![8, 2232, 128]⟩
abbrev S2232x128 : Shape := ⟨2, ![2232, 128]⟩
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S2232x128, .f32⟩
  | .hbm, ⟨5, _⟩ => ⟨S2232x128, .f32⟩
  | .hbm, ⟨6, _⟩ => ⟨S2232x128, .f32⟩
  | .hbm, ⟨7, _⟩ => ⟨S2232x128, .f32⟩
  | .local _ .vmem, ⟨0, _⟩ => ⟨S8x248x128, .f32⟩
  | .local _ .vmem, ⟨1, _⟩ => ⟨S8x248x128, .f32⟩
  | .local _ .vmem, ⟨2, _⟩ => ⟨S248x128, .f32⟩
  | .local _ .vmem, ⟨3, _⟩ => ⟨S248x128, .f32⟩
  | .local _ .vmem, ⟨4, _⟩ => ⟨S248x128, .f32⟩
  | .local _ .vmem, ⟨5, _⟩ => ⟨S248x128, .f32⟩
  | .local _ .vmem, ⟨6, _⟩ => ⟨S248x128, .f32⟩
  | .local _ .vmem, ⟨7, _⟩ => ⟨S248x128, .f32⟩
  | .local _ .vmem, ⟨8, _⟩ => ⟨S248x128, .f32⟩
  | .local _ .vmem, ⟨9, _⟩ => ⟨S248x128, .f32⟩
  | .local _ .vmem, ⟨10, _⟩ => ⟨S248x128, .f32⟩
  | .local _ .vmem, ⟨11, _⟩ => ⟨S248x128, .f32⟩
  | .local _ .vmem, ⟨12, _⟩ => ⟨S248x128, .f32⟩
  | .local _ .vmem, ⟨13, _⟩ => ⟨S248x128, .f32⟩
  | .local _ .vmem, ⟨14, _⟩ => ⟨S248x128, .f32⟩
  | .local _ .vmem, ⟨15, _⟩ => ⟨S248x128, .f32⟩
  | _, _ => ⟨S8x2232x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x248x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S248x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S248x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S248x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S248x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S248x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S248x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S248x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwSmallRefIdeal.lean ====
abbrev S8x2232x128 : Shape := ⟨3, ![8, 2232, 128]⟩
abbrev S2232x128 : Shape := ⟨2, ![2232, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2232x128, .f32⟩
  | .hbm, ⟨1, _⟩ => ⟨S2232x128, .f32⟩
  | .hbm, ⟨2, _⟩ => ⟨S2232x128, .f32⟩
  | .hbm, ⟨3, _⟩ => ⟨S2232x128, .f32⟩
  | .hbm, ⟨4, _⟩ => ⟨S_, .f32⟩
  | .hbm, ⟨5, _⟩ => ⟨S2232x128, .f32⟩
  | .hbm, ⟨6, _⟩ => ⟨S_, .f32⟩
  | .hbm, ⟨7, _⟩ => ⟨S2232x128, .f32⟩
  | .hbm, ⟨8, _⟩ => ⟨S2232x128, .f32⟩
  | .hbm, ⟨9, _⟩ => ⟨S_, .f32⟩
  | .hbm, ⟨10, _⟩ => ⟨S2232x128, .f32⟩
  | .hbm, ⟨11, _⟩ => ⟨S2232x128, .f32⟩
  | .hbm, ⟨12, _⟩ => ⟨S2232x128, .f32⟩
  | .hbm, ⟨13, _⟩ => ⟨S_, .f32⟩
  | .hbm, ⟨14, _⟩ => ⟨S2232x128, .f32⟩
  | .hbm, ⟨15, _⟩ => ⟨S2232x128, .f32⟩
  | .hbm, ⟨16, _⟩ => ⟨S2232x128, .f32⟩
  | .hbm, ⟨17, _⟩ => ⟨S_, .f32⟩
  | .hbm, ⟨18, _⟩ => ⟨S2232x128, .f32⟩
  | .hbm, ⟨19, _⟩ => ⟨S2232x128, .f32⟩
  | .hbm, ⟨20, _⟩ => ⟨S2232x128, .f32⟩
  | .hbm, ⟨21, _⟩ => ⟨S_, .f32⟩
  | .hbm, ⟨22, _⟩ => ⟨S2232x128, .f32⟩
  | .hbm, ⟨23, _⟩ => ⟨S2232x128, .f32⟩
  | .hbm, ⟨24, _⟩ => ⟨S_, .f32⟩
  | .hbm, ⟨25, _⟩ => ⟨S2232x128, .f32⟩
  | .hbm, ⟨26, _⟩ => ⟨S2232x128, .f32⟩
  | .hbm, ⟨27, _⟩ => ⟨S2232x128, .f32⟩
  | .hbm, ⟨28, _⟩ => ⟨S_, .f32⟩
  | .hbm, ⟨29, _⟩ => ⟨S2232x128, .f32⟩
  | .hbm, ⟨30, _⟩ => ⟨S2232x128, .f32⟩
  | .hbm, ⟨31, _⟩ => ⟨S2232x128, .f32⟩
  | .hbm, ⟨32, _⟩ => ⟨S_, .f32⟩
  | .hbm, ⟨33, _⟩ => ⟨S2232x128, .f32⟩
  | .hbm, ⟨34, _⟩ => ⟨S2232x128, .f32⟩
  | .hbm, ⟨35, _⟩ => ⟨S2232x128, .f32⟩
  | .hbm, ⟨36, _⟩ => ⟨S_, .f32⟩
  | .hbm, ⟨37, _⟩ => ⟨S2232x128, .f32⟩
  | .hbm, ⟨38, _⟩ => ⟨S2232x128, .f32⟩
  | _, _ => ⟨S8x2232x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamwFfn.lean ====
abbrev S4x688x2048 : Shape := ⟨3, ![4, 688, 2048]⟩
abbrev S3x688x2048 : Shape := ⟨3, ![3, 688, 2048]⟩
abbrev S688x2048 : Shape := ⟨2, ![688, 2048]⟩
abbrev S_ : Shape := ⟨0, ![]⟩
abbrev S1 : Shape := ⟨1, ![1]⟩
abbrev S1x344x512 : Shape := ⟨3, ![1, 344, 512]⟩
abbrev S3x344x512 : Shape := ⟨3, ![3, 344, 512]⟩
abbrev S344x512 : Shape := ⟨2, ![344, 512]⟩

abbrev nBuf : Space → Nat
  | .hbm => 10
  | .vmem => 18
  | .smem => 1
  | _ => 0

abbrev bufTy : (tb : Table) → Fin (tcTables nBuf tb) → BufTy
  | .hbm, ⟨0, _⟩ => ⟨S4x688x2048, .bf16⟩
  | .hbm, ⟨1, _⟩ => ⟨S3x688x2048, .bf16⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S_, .i32⟩
  | .hbm, ⟨6, _⟩ => ⟨S688x2048, .f32⟩
  | .hbm, ⟨7, _⟩ => ⟨S688x2048, .f32⟩
  | .hbm, ⟨8, _⟩ => ⟨S688x2048, .f32⟩
  | .hbm, ⟨9, _⟩ => ⟨S688x2048, .f32⟩
  | .local _ .vmem, ⟨0, _⟩ => ⟨S1x344x512, .bf16⟩
  | .local _ .vmem, ⟨1, _⟩ => ⟨S1x344x512, .bf16⟩
  | .local _ .vmem, ⟨2, _⟩ => ⟨S3x344x512, .bf16⟩
  | .local _ .vmem, ⟨3, _⟩ => ⟨S3x344x512, .bf16⟩
  | .local _ .vmem, ⟨4, _⟩ => ⟨S344x512, .f32⟩
  | .local _ .vmem, ⟨5, _⟩ => ⟨S344x512, .f32⟩
  | .local _ .vmem, ⟨6, _⟩ => ⟨S344x512, .f32⟩
  | .local _ .vmem, ⟨7, _⟩ => ⟨S344x512, .f32⟩
  | .local _ .vmem, ⟨8, _⟩ => ⟨S344x512, .f32⟩
  | .local _ .vmem, ⟨9, _⟩ => ⟨S344x512, .f32⟩
  | .local _ .vmem, ⟨10, _⟩ => ⟨S344x512, .f32⟩
  | .local _ .vmem, ⟨11, _⟩ => ⟨S344x512, .f32⟩
  | .local _ .vmem, ⟨12, _⟩ => ⟨S344x512, .f32⟩
  | .local _ .vmem, ⟨13, _⟩ => ⟨S344x512, .f32⟩
  | .local _ .vmem, ⟨14, _⟩ => ⟨S344x512, .f32⟩
  | .local _ .vmem, ⟨15, _⟩ => ⟨S344x512, .f32⟩
  | .local _ .vmem, ⟨16, _⟩ => ⟨S344x512, .f32⟩
  | .local _ .vmem, ⟨17, _⟩ => ⟨S344x512, .f32⟩
  | .local _ .smem, ⟨0, _⟩ => ⟨S1, .i32⟩
  | _, _ => ⟨S4x688x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x344x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x344x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S344x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwFfnRefIdeal.lean ====
abbrev S4x688x2048 : Shape := ⟨3, ![4, 688, 2048]⟩
abbrev S3x688x2048 : Shape := ⟨3, ![3, 688, 2048]⟩
abbrev S688x2048 : Shape := ⟨2, ![688, 2048]⟩
abbrev S1x688x2048 : Shape := ⟨3, ![1, 688, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x688x2048, .bf16⟩
  | .hbm, ⟨1, _⟩ => ⟨S3x688x2048, .bf16⟩
  | .hbm, ⟨2, _⟩ => ⟨S688x2048, .f32⟩
  | .hbm, ⟨3, _⟩ => ⟨S688x2048, .f32⟩
  | .hbm, ⟨4, _⟩ => ⟨S688x2048, .f32⟩
  | .hbm, ⟨5, _⟩ => ⟨S1x688x2048, .bf16⟩
  | .hbm, ⟨6, _⟩ => ⟨S688x2048, .bf16⟩
  | .hbm, ⟨7, _⟩ => ⟨S688x2048, .f32⟩
  | .hbm, ⟨8, _⟩ => ⟨S3x688x2048, .f32⟩
  | .hbm, ⟨9, _⟩ => ⟨S_, .f32⟩
  | .hbm, ⟨10, _⟩ => ⟨S688x2048, .f32⟩
  | .hbm, ⟨11, _⟩ => ⟨S688x2048, .f32⟩
  | .hbm, ⟨12, _⟩ => ⟨S_, .f32⟩
  | .hbm, ⟨13, _⟩ => ⟨S688x2048, .f32⟩
  | .hbm, ⟨14, _⟩ => ⟨S688x2048, .f32⟩
  | .hbm, ⟨15, _⟩ => ⟨S_, .f32⟩
  | .hbm, ⟨16, _⟩ => ⟨S688x2048, .f32⟩
  | .hbm, ⟨17, _⟩ => ⟨S688x2048, .f32⟩
  | .hbm, ⟨18, _⟩ => ⟨S688x2048, .f32⟩
  | .hbm, ⟨19, _⟩ => ⟨S_, .f32⟩
  | .hbm, ⟨20, _⟩ => ⟨S688x2048, .f32⟩
  | .hbm, ⟨21, _⟩ => ⟨S688x2048, .f32⟩
  | .hbm, ⟨22, _⟩ => ⟨S688x2048, .f32⟩
  | .hbm, ⟨23, _⟩ => ⟨S_, .f32⟩
  | .hbm, ⟨24, _⟩ => ⟨S688x2048, .f32⟩
  | .hbm, ⟨25, _⟩ => ⟨S688x2048, .f32⟩
  | .hbm, ⟨26, _⟩ => ⟨S688x2048, .f32⟩
  | .hbm, ⟨27, _⟩ => ⟨S_, .f32⟩
  | .hbm, ⟨28, _⟩ => ⟨S688x2048, .f32⟩
  | .hbm, ⟨29, _⟩ => ⟨S688x2048, .f32⟩
  | .hbm, ⟨30, _⟩ => ⟨S_, .f32⟩
  | .hbm, ⟨31, _⟩ => ⟨S688x2048, .f32⟩
  | .hbm, ⟨32, _⟩ => ⟨S688x2048, .f32⟩
  | .hbm, ⟨33, _⟩ => ⟨S688x2048, .f32⟩
  | .hbm, ⟨34, _⟩ => ⟨S_, .f32⟩
  | .hbm, ⟨35, _⟩ => ⟨S688x2048, .f32⟩
  | .hbm, ⟨36, _⟩ => ⟨S688x2048, .f32⟩
  | .hbm, ⟨37, _⟩ => ⟨S688x2048, .f32⟩
  | .hbm, ⟨38, _⟩ => ⟨S_, .f32⟩
  | .hbm, ⟨39, _⟩ => ⟨S688x2048, .f32⟩
  | .hbm, ⟨40, _⟩ => ⟨S688x2048, .f32⟩
  | .hbm, ⟨41, _⟩ => ⟨S688x2048, .f32⟩
  | .hbm, ⟨42, _⟩ => ⟨S_, .f32⟩
  | .hbm, ⟨43, _⟩ => ⟨S688x2048, .f32⟩
  | .hbm, ⟨44, _⟩ => ⟨S688x2048, .f32⟩
  | _, _ => ⟨S4x688x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwIn.lean ====
abbrev S4x2048x1024 : Shape := ⟨3, ![4, 2048, 1024]⟩
abbrev S3x2048x1024 : Shape := ⟨3, ![3, 2048, 1024]⟩
abbrev S2048x1024 : Shape := ⟨2, ![2048, 1024]⟩
abbrev S_ : Shape := ⟨0, ![]⟩
abbrev S1 : Shape := ⟨1, ![1]⟩
abbrev S1x512x512 : Shape := ⟨3, ![1, 512, 512]⟩
abbrev S3x512x512 : Shape := ⟨3, ![3, 512, 512]⟩
abbrev S512x512 : Shape := ⟨2, ![512, 512]⟩

abbrev nBuf : Space → Nat
  | .hbm => 10
  | .vmem => 18
  | .smem => 1
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .i32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S1x512x512, .bf16⟩
  | .local _ .vmem, ⟨1, _⟩ => ⟨S1x512x512, .bf16⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .smem, ⟨0, _⟩ => ⟨S1, .i32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwInRefIdeal.lean ====
abbrev S4x2048x1024 : Shape := ⟨3, ![4, 2048, 1024]⟩
abbrev S3x2048x1024 : Shape := ⟨3, ![3, 2048, 1024]⟩
abbrev S2048x1024 : Shape := ⟨2, ![2048, 1024]⟩
abbrev S1x2048x1024 : Shape := ⟨3, ![1, 2048, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S3x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S1x2048x1024, .bf16⟩
  | .hbm, ⟨6, _⟩ => ⟨S2048x1024, .bf16⟩
  | .hbm, ⟨7, _⟩ => ⟨S2048x1024, .f32⟩
  | .hbm, ⟨8, _⟩ => ⟨S3x2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S2048x1024, .f32⟩
  | .hbm, ⟨44, _⟩ => ⟨S2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwGlu.lean ====
abbrev S4x128x1024 : Shape := ⟨3, ![4, 128, 1024]⟩
abbrev S3x128x1024 : Shape := ⟨3, ![3, 128, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .i32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamwGluRefIdeal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwBranch.lean ====
abbrev S4x1024x256 : Shape := ⟨3, ![4, 1024, 256]⟩
abbrev S3x1024x256 : Shape := ⟨3, ![3, 1024, 256]⟩
abbrev S1024x256 : Shape := ⟨2, ![1024, 256]⟩
abbrev S_ : Shape := ⟨0, ![]⟩
abbrev S1 : Shape := ⟨1, ![1]⟩
abbrev S1x512x256 : Shape := ⟨3, ![1, 512, 256]⟩
abbrev S3x512x256 : Shape := ⟨3, ![3, 512, 256]⟩
abbrev S512x256 : Shape := ⟨2, ![512, 256]⟩

abbrev nBuf : Space → Nat
  | .hbm => 10
  | .vmem => 18
  | .smem => 1
  | _ => 0

abbrev bufTy : (tb : Table) → Fin (tcTables nBuf tb) → BufTy
  | .hbm, ⟨0, _⟩ => ⟨S4x1024x256, .bf16⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S_, .i32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .local _ .vmem, ⟨0, _⟩ => ⟨S1x512x256, .bf16⟩
  | .local _ .vmem, ⟨1, _⟩ => ⟨S1x512x256, .bf16⟩
  | .local _ .vmem, ⟨2, _⟩ => ⟨S3x512x256, .bf16⟩
  | .local _ .vmem, ⟨3, _⟩ => ⟨S3x512x256, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .smem, ⟨0, _⟩ => ⟨S1, .i32⟩
  | _, _ => ⟨S4x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwBranchRefIdeal.lean ====
abbrev S4x1024x256 : Shape := ⟨3, ![4, 1024, 256]⟩
abbrev S3x1024x256 : Shape := ⟨3, ![3, 1024, 256]⟩
abbrev S1024x256 : Shape := ⟨2, ![1024, 256]⟩
abbrev S1x1024x256 : Shape := ⟨3, ![1, 1024, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x256, .bf16⟩
  | .hbm, ⟨1, _⟩ => ⟨S3x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1x1024x256, .bf16⟩
  | .hbm, ⟨6, _⟩ => ⟨S1024x256, .bf16⟩
  | .hbm, ⟨7, _⟩ => ⟨S1024x256, .f32⟩
  | .hbm, ⟨8, _⟩ => ⟨S3x1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S1024x256, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .f32⟩
  | .hbm, ⟨23, _⟩ => ⟨S_, .f32⟩
  | .hbm, ⟨24, _⟩ => ⟨S1024x256, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S1024x256, .f32⟩
  | .hbm, ⟨34, _⟩ => ⟨S_, .f32⟩
  | .hbm, ⟨35, _⟩ => ⟨S1024x256, .f32⟩
  | .hbm, ⟨36, _⟩ => ⟨S1024x256, .f32⟩
  | .hbm, ⟨37, _⟩ => ⟨S1024x256, .f32⟩
  | .hbm, ⟨38, _⟩ => ⟨S_, .f32⟩
  | .hbm, ⟨39, _⟩ => ⟨S1024x256, .f32⟩
  | .hbm, ⟨40, _⟩ => ⟨S1024x256, .f32⟩
  | .hbm, ⟨41, _⟩ => ⟨S1024x256, .f32⟩
  | .hbm, ⟨42, _⟩ => ⟨S_, .f32⟩
  | .hbm, ⟨43, _⟩ => ⟨S1024x256, .f32⟩
  | .hbm, ⟨44, _⟩ => ⟨S1024x256, .f32⟩
  | _, _ => ⟨S4x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamwOut.lean ====
abbrev S4x256x2048 : Shape := ⟨3, ![4, 256, 2048]⟩
abbrev S3x256x2048 : Shape := ⟨3, ![3, 256, 2048]⟩
abbrev S256x2048 : Shape := ⟨2, ![256, 2048]⟩
abbrev S_ : Shape := ⟨0, ![]⟩
abbrev S1 : Shape := ⟨1, ![1]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamwOutRefIdeal.lean ====
abbrev S4x256x2048 : Shape := ⟨3, ![4, 256, 2048]⟩
abbrev S3x256x2048 : Shape := ⟨3, ![3, 256, 2048]⟩
abbrev S256x2048 : Shape := ⟨2, ![256, 2048]⟩
abbrev S1x256x2048 : Shape := ⟨3, ![1, 256, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x2048, .bf16⟩
  | .hbm, ⟨1, _⟩ => ⟨S3x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S1x256x2048, .bf16⟩
  | .hbm, ⟨6, _⟩ => ⟨S256x2048, .bf16⟩
  | .hbm, ⟨7, _⟩ => ⟨S256x2048, .f32⟩
  | .hbm, ⟨8, _⟩ => ⟨S3x256x2048, .f32⟩
  | .hbm, ⟨9, _⟩ => ⟨S_, .f32⟩
  | .hbm, ⟨10, _⟩ => ⟨S256x2048, .f32⟩
  | .hbm, ⟨11, _⟩ => ⟨S256x2048, .f32⟩
  | .hbm, ⟨12, _⟩ => ⟨S_, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S256x2048, .f32⟩
  | .hbm, ⟨25, _⟩ => ⟨S256x2048, .f32⟩
  | .hbm, ⟨26, _⟩ => ⟨S256x2048, .f32⟩
  | .hbm, ⟨27, _⟩ => ⟨S_, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x2048, .f32⟩
  | .hbm, ⟨36, _⟩ => ⟨S256x2048, .f32⟩
  | .hbm, ⟨37, _⟩ => ⟨S256x2048, .f32⟩
  | .hbm, ⟨38, _⟩ => ⟨S_, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S_, .f32⟩
  | .hbm, ⟨43, _⟩ => ⟨S256x2048, .f32⟩
  | .hbm, ⟨44, _⟩ => ⟨S256x2048, .f32⟩
  | _, _ => ⟨S4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Proof.DownWeightValue.lean ====
module

public import proofs.«01_k».proof.Proof.Gen.DownWeightIdeal.Value
public import proofs.«01_k».proof.Proof.Gen.DownWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DownWeightIdeal.Value
open Cert.DownWeightIdeal Cert.DownWeightIdeal.Gen

variable (m : (ℓ : Loc nD τ sig) → Buf (Elt Ideal) ℓ)

/-- Which block each window holds at each grid point. -/
theorem idx : ∀ t : Fin cfg0.N, win0_0.index t = ![t.val / 2, 0, 0] ∧ win0_1.index t = ![0, t.val % 2]
    ∧ win0_2.index t = ![t.val / 2, 0, t.val % 2] :=
  (by decide +kernel : ∀ t : Fin grid0.N, _)

/-- One element of a block: the product over the tokens, of the activation and half the gradient. -/
theorem point (c : Dev nD) (t : Fin cfg0.N) (y) : k0_pay1 (iblk m c 0 t) (iblk m c 1 t) y
    = Cert.DownWeightRefIdeal.Read.val_main_v9 (F := Ideal) (m ((c : Thread nD τ).loc main_arg0)) (m ((c : Thread nD τ).loc main_arg1))
        (((cfg0.win 2).blk t).view.emb y) := by
  rw [Cert.DownWeightRefIdeal.Read.val_main_v9_apply, Cert.DownWeightRefIdeal.Read.val_main_v8_apply, Cert.DownWeightRefIdeal.Read.val_main_v7_apply, Cert.DownWeightRefIdeal.Read.val_main_v6_apply]
  pointwise [k0_pay1]
  refine (Finset.sum_congr rfl fun k _ => mul_comm _ _).trans ?_
  blk_point [iblk, V, idx t]

/-- After the run the array of window 2 is the reference's. -/
theorem final (c : Dev nD) : (dats m 0 c).arrAt 2 (cfgs 0).N
    = Cert.DownWeightRefIdeal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownWeightIdeal.Value

end
-- ==== Proof.GateUpWeightValue.lean ====
module

public import proofs.«01_k».proof.Proof.Gen.GateUpWeightIdeal.Value
public import proofs.«01_k».proof.Proof.Gen.GateUpWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GateUpWeightIdeal.Value
open Cert.GateUpWeightIdeal Cert.GateUpWeightIdeal.Gen

variable (m : (ℓ : Loc nD τ sig) → Buf (Elt Ideal) ℓ)

/-- Which block each window holds at each grid point. -/
theorem idx : ∀ t : Fin cfg0.N, win0_0.index t = ![t.val / 2, 0, 0] ∧ win0_1.index t = ![t.val / 2, 0, 0]
    ∧ win0_2.index t = ![0, t.val % 2] ∧ win0_3.index t = ![t.val / 2, 0, t.val % 2]
    ∧ win0_4.index t = ![t.val / 2, 0, t.val % 2] :=
  (by decide +kernel : ∀ t : Fin grid0.N, _)

/-- One element of the gradient of `w_gate`. -/
theorem point_gate (c : Dev nD) (t : Fin cfg0.N) (y) : k0_pay1 (iblk m c 0 t) (iblk m c 2 t) y
    = Cert.GateUpWeightRefIdeal.Read.val_main_v9 (F := Ideal) (m ((c : Thread nD τ).loc main_arg0)) (m ((c : Thread nD τ).loc main_arg1))
        (((cfg0.win 3).blk t).view.emb y) := by
  rw [Cert.GateUpWeightRefIdeal.Read.val_main_v9_apply, Cert.GateUpWeightRefIdeal.Read.val_main_v8_apply, Cert.GateUpWeightRefIdeal.Read.val_main_v7_apply, Cert.GateUpWeightRefIdeal.Read.val_main_v6_apply, Cert.GateUpWeightRefIdeal.Read.val_main_v5_apply]
  pointwise [k0_pay1]
  blk_point [iblk, V, idx t]

/-- After the run the array of window 3 is the reference's. -/
theorem final_gate (c : Dev nD) : (dats m 0 c).arrAt 3 (cfgs 0).N
    = Cert.GateUpWeightRefIdeal.Read.val_main_v9 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_gate m c t y

/-- One element of the gradient of `w_up`. -/
theorem point_up (c : Dev nD) (t : Fin cfg0.N) (y) : k0_pay2 (iblk m c 1 t) (iblk m c 2 t) y
    = Cert.GateUpWeightRefIdeal.Read.val_main_v12 (F := Ideal) (m ((c : Thread nD τ).loc main_arg0)) (m ((c : Thread nD τ).loc main_arg2))
        (((cfg0.win 4).blk t).view.emb y) := by
  rw [Cert.GateUpWeightRefIdeal.Read.val_main_v12_apply, Cert.GateUpWeightRefIdeal.Read.val_main_v11_apply, Cert.GateUpWeightRefIdeal.Read.val_main_v10_apply, Cert.GateUpWeightRefIdeal.Read.val_main_v4_apply, Cert.GateUpWeightRefIdeal.Read.val_main_v3_apply]
  pointwise [k0_pay2]
  blk_point [iblk, V, idx t]

/-- After the run the array of window 4 is the reference's. -/
theorem final_up (c : Dev nD) : (dats m 0 c).arrAt 4 (cfgs 0).N
    = Cert.GateUpWeightRefIdeal.Read.val_main_v12 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  exact point_up m c t y

end Cert.GateUpWeightIdeal.Value

end
-- ==== Proof.FfnInputValue.lean ====
/- The FFN half's gradient of its normalised input: the kernel adds, shard pair by shard pair, the two products of the gate's and the up
   projection's gradients with their weights; over the reals the sum of all of them is the two whole products. -/
module

public import proofs.«01_k».proof.Proof.Gen.FfnInputIdeal.Value
public import proofs.«01_k».proof.Proof.Gen.FfnInputRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnInputIdeal.Value
open Cert.FfnInputIdeal Cert.FfnInputIdeal.Gen

variable (m : (ℓ : Loc nD τ sig) → Buf (Elt Ideal) ℓ)

/-- Which block each window holds at each grid point. -/
theorem idx : ∀ t : Fin cfg0.N, win0_0.index t = ![t.val % 4, t.val / 8, 0] ∧ win0_1.index t = ![t.val % 4, t.val / 8, 0]
    ∧ win0_2.index t = ![t.val % 4, 0, t.val / 4 % 2] ∧ win0_3.index t = ![t.val % 4, 0, t.val / 4 % 2]
    ∧ win0_4.index t = ![t.val / 8, t.val / 4 % 2] :=
  (by decide +kernel : ∀ t : Fin grid0.N, _)

/-- One shard's product of a gradient's block and a weight's block. -/
def prod (x : FVec Ideal S2x1024x688 .bf16) (w : FVec Ideal S2x688x1024 .bf16) (s : Fin 2) (y : S1024x1024.Idx) : EReal :=
  ∑ k : Fin 688, x (ix3 s (y 0) k) * w (ix3 s k (y 1))

/-- What a grid point adds: the two shards' products, of the gate and of the up projection. -/
def part (x0 x1 : FVec Ideal S2x1024x688 .bf16) (x2 x3 : FVec Ideal S2x688x1024 .bf16) (y : S1024x1024.Idx) : EReal :=
  (∑ s : Fin 2, prod x0 x2 s y) + ∑ s : Fin 2, prod x1 x3 s y

/-- The two shards of a gradient's block, and of a weight's. -/
abbrev x0s (x : FVec Ideal S2x1024x688 .bf16) : FVec Ideal S1x1024x688 .bf16 :=
  View.ld (Val := Elt Ideal) (e' := .bf16) x (Rect.unit ![0, 0, 0] ![1, 1024, 688] inb_S2x1024x688_S1x1024x688_0_0_0)
abbrev x1s (x : FVec Ideal S2x1024x688 .bf16) : FVec Ideal S1x1024x688 .bf16 :=
  View.ld (Val := Elt Ideal) (e' := .bf16) x (Rect.unit ![1, 0, 0] ![1, 1024, 688] inb_S2x1024x688_S1x1024x688_1_0_0)
abbrev w0s (x : FVec Ideal S2x688x1024 .bf16) : FVec Ideal S1x688x1024 .bf16 :=
  View.ld (Val := Elt Ideal) (e' := .bf16) x (Rect.unit ![0, 0, 0] ![1, 688, 1024] inb_S2x688x1024_S1x688x1024_0_0_0)
abbrev w1s (x : FVec Ideal S2x688x1024 .bf16) : FVec Ideal S1x688x1024 .bf16 :=
  View.ld (Val := Elt Ideal) (e' := .bf16) x (Rect.unit ![1, 0, 0] ![1, 688, 1024] inb_S2x688x1024_S1x688x1024_1_0_0)

theorem x0s_apply (x : FVec Ideal S2x1024x688 .bf16) (a : Fin 1024) (k : Fin 688) : x0s x (ix3 0 a k) = x (ix3 0 a k) :=
  congrArg x (by funext d; fin_cases d <;> apply Fin.ext <;> exact (Rect.idx_unit_val _ _ _ _ _).trans (by simp))
theorem x1s_apply (x : FVec Ideal S2x1024x688 .bf16) (a : Fin 1024) (k : Fin 688) : x1s x (ix3 0 a k) = x (ix3 1 a k) :=
  congrArg x (by funext d; fin_cases d <;> apply Fin.ext <;> exact (Rect.idx_unit_val _ _ _ _ _).trans (by simp))
theorem w0s_apply (x : FVec Ideal S2x688x1024 .bf16) (k : Fin 688) (b : Fin 1024) : w0s x (ix3 0 k b) = x (ix3 0 k b) :=
  congrArg x (by funext d; fin_cases d <;> apply Fin.ext <;> exact (Rect.idx_unit_val _ _ _ _ _).trans (by simp))
theorem w1s_apply (x : FVec Ideal S2x688x1024 .bf16) (k : Fin 688) (b : Fin 1024) : w1s x (ix3 0 k b) = x (ix3 1 k b) :=
  congrArg x (by funext d; fin_cases d <;> apply Fin.ext <;> exact (Rect.idx_unit_val _ _ _ _ _).trans (by simp))

theorem pay1 (x0 x1 : FVec Ideal S2x1024x688 .bf16) (x2 x3 : FVec Ideal S2x688x1024 .bf16) (y : S1024x1024.Idx) :
    k0_pay1 (F := Ideal) (x0s x0)
      (w0s x2)
      (x1s x0)
      (w1s x2)
      (x0s x1)
      (w0s x3)
      (x1s x1)
      (w1s x3) y = part x0 x1 x2 x3 y := by
  unfold part prod
  rw [Fin.sum_univ_two, Fin.sum_univ_two, ← add_assoc]
  pointwise [k0_pay1]
  exact congrArg₂ (· + ·) (congrArg₂ (· + ·) (congrArg₂ (· + ·)
    (Fin.sum_fin_congr fun k => congrArg₂ (· * ·) (x0s_apply _ _ _) (w0s_apply _ _ _))
    (Fin.sum_fin_congr fun k => congrArg₂ (· * ·) (x1s_apply _ _ _) (w1s_apply _ _ _)))
    (Fin.sum_fin_congr fun k => congrArg₂ (· * ·) (x0s_apply _ _ _) (w0s_apply _ _ _)))
    (Fin.sum_fin_congr fun k => congrArg₂ (· * ·) (x1s_apply _ _ _) (w1s_apply _ _ _))

theorem pay2 (x0 x1 : FVec Ideal S2x1024x688 .bf16) (x2 x3 : FVec Ideal S2x688x1024 .bf16) (acc : FVec Ideal S1024x1024 .f32) (y : S1024x1024.Idx) :
    k0_pay2 (F := Ideal) (x0s x0)
      (w0s x2)
      (x1s x0)
      (w1s x2)
      (x0s x1)
      (w0s x3)
      (x1s x1)
      (w1s x3) acc y = acc y + part x0 x1 x2 x3 y := by
  unfold part prod
  rw [Fin.sum_univ_two, Fin.sum_univ_two, ← add_assoc (∑ k : Fin 688, _ + _)]
  pointwise [k0_pay2]
  refine congrArg (acc y + ·) ?_
  exact congrArg₂ (· + ·) (congrArg₂ (· + ·) (congrArg₂ (· + ·)
    (Fin.sum_fin_congr fun k => congrArg₂ (· * ·) (x0s_apply _ _ _) (w0s_apply _ _ _))
    (Fin.sum_fin_congr fun k => congrArg₂ (· * ·) (x1s_apply _ _ _) (w1s_apply _ _ _)))
    (Fin.sum_fin_congr fun k => congrArg₂ (· * ·) (x0s_apply _ _ _) (w0s_apply _ _ _)))
    (Fin.sum_fin_congr fun k => congrArg₂ (· * ·) (x1s_apply _ _ _) (w1s_apply _ _ _))

/-- What the scratch holds after a point: at the first of a run of four, the point's part; -/
theorem scratch_first (c : Dev nD) (t : Fin cfg0.N) (h : t.val % 4 = 0) (y) :
    (outsAt0 m c t.val t.isLt).2 y = (fun _ => (0 : EReal)) y + part (iblk m c 0 t) (iblk m c 1 t) (iblk m c 2 t) (iblk m c 3 t) y := by
  rw [outsAt0_A m c t h (by omega) (by omega)]; frame_out
  rw [zero_add]
  exact pay1 _ _ _ _ y

/-- at a later one, that added to what it held. -/
theorem scratch_next (c : Dev nD) (t : Fin cfg0.N) (h : ¬ t.val % 4 = 0) (y) :
    (outsAt0 m c t.val t.isLt).2 y = (outsAt0 m c (t.val - 1) (Nat.lt_of_le_of_lt (Nat.sub_le _ _) t.isLt)).2 y
      + part (iblk m c 0 t) (iblk m c 1 t) (iblk m c 2 t) (iblk m c 3 t) y := by
  by_cases h2 : t.val % 4 = 3
  · rw [outsAt0_C m c t h (by omega) h2]; frame_out
    refine (pay2 (iblk m c 0 t) (iblk m c 1 t) (iblk m c 2 t) (iblk m c 3 t) _ y).trans ?_
    rw [read_unread_whole]
  · rw [outsAt0_B m c t h (by omega) h2]; frame_out
    refine (pay2 (iblk m c 0 t) (iblk m c 1 t) (iblk m c 2 t) (iblk m c 3 t) _ y).trans ?_
    rw [read_unread_whole]

/-- At a run's last point the result's block is the scratch. -/
theorem block_eq (c : Dev nD) (t : Fin cfg0.N) (h : t.val % 4 = 3) : (outsAt0 m c t.val t.isLt).1 = (outsAt0 m c t.val t.isLt).2 := by
  rw [outsAt0_C m c t (by omega) (by omega) h]; frame_out

/-- One step and shard of a run at a flushing point, for the gate: the part of the whole contraction it covers. -/
theorem gate (c : Dev nD) (t : Fin cfg0.N) (h : t.val % 4 = 4 - 1) (y : S1024x1024.Idx) :
    ∑ s : Fin 4, ∑ p : Fin 2, prod (iblk m c 0 ⟨4 * (t.val / 4) + s.val, Pipeline.run_point_lt_of_flush t h s⟩)
        (iblk m c 2 ⟨4 * (t.val / 4) + s.val, Pipeline.run_point_lt_of_flush t h s⟩) p y
      = Cert.FfnInputRefIdeal.Read.val_main_v4 (F := Ideal) (m ((c : Thread nD τ).loc main_arg0)) (m ((c : Thread nD τ).loc main_arg2))
        (((cfg0.win 4).blk t).view.emb y) := by
  have ht : t.val < 16 := lt_of_lt_of_eq t.isLt N_0
  rw [Cert.FfnInputRefIdeal.Read.val_main_v4_apply]
  refine Eq.trans ?_ (Fin.sum_mul_add_fin 8 688 _)
  refine Eq.trans ?_ (Fin.sum_mul_add_fin 4 2 _)
  refine Fin.sum_fin_congr fun s => Fin.sum_fin_congr fun p => ?_
  unfold prod
  refine Fin.sum_fin_congr fun k => ?_
  blk_point [iblk, V, idx t, idx ⟨_, Pipeline.run_point_lt_of_flush t h s⟩]

theorem up (c : Dev nD) (t : Fin cfg0.N) (h : t.val % 4 = 4 - 1) (y : S1024x1024.Idx) :
    ∑ s : Fin 4, ∑ p : Fin 2, prod (iblk m c 1 ⟨4 * (t.val / 4) + s.val, Pipeline.run_point_lt_of_flush t h s⟩)
        (iblk m c 3 ⟨4 * (t.val / 4) + s.val, Pipeline.run_point_lt_of_flush t h s⟩) p y
      = Cert.FfnInputRefIdeal.Read.val_main_v3 (F := Ideal) (m ((c : Thread nD τ).loc main_arg1)) (m ((c : Thread nD τ).loc main_arg3))
        (((cfg0.win 4).blk t).view.emb y) := by
  have ht : t.val < 16 := lt_of_lt_of_eq t.isLt N_0
  rw [Cert.FfnInputRefIdeal.Read.val_main_v3_apply]
  refine Eq.trans ?_ (Fin.sum_mul_add_fin 8 688 _)
  refine Eq.trans ?_ (Fin.sum_mul_add_fin 4 2 _)
  refine Fin.sum_fin_congr fun s => Fin.sum_fin_congr fun p => ?_
  unfold prod
  refine Fin.sum_fin_congr fun k => ?_
  blk_point [iblk, V, idx t, idx ⟨_, Pipeline.run_point_lt_of_flush t h s⟩]

/-- After the run the result's array is the reference's. -/
theorem final (c : Dev nD) : (dats m 0 c).arrAt 4 (cfgs 0).N
    = Cert.FfnInputRefIdeal.Read.val_main_v5 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  have h := (flush0_4 t).mp hf
  blk_simp
  rw [after0_4, block_eq m c t h]
  refine (Pipeline.eq_sum_fin_of_reset_step_apply_of_flush (fun n h => (outsAt0 m c n h).2) 4 (fun _ => (0 : EReal))
    (fun t y => part (iblk m c 0 t) (iblk m c 1 t) (iblk m c 2 t) (iblk m c 3 t) y) (scratch_first m c) (scratch_next m c) t h y).trans ?_
  rw [zero_add, Cert.FfnInputRefIdeal.Read.val_main_v5_apply, ← gate m c t h y, ← up m c t h y]
  unfold part
  rw [Finset.sum_add_distrib]
  exact add_comm _ _

end Cert.FfnInputIdeal.Value

end
-- ==== Proof.InWeightValue.lean ====
module

public import proofs.«01_k».proof.Proof.Gen.InWeightIdeal.Value
public import proofs.«01_k».proof.Proof.Gen.InWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InWeightIdeal.Value
open Cert.InWeightIdeal Cert.InWeightIdeal.Gen

variable (m : (ℓ : Loc nD τ sig) → Buf (Elt Ideal) ℓ)

/-- Which block each window holds at each grid point. -/
theorem idx : ∀ t : Fin cfg0.N, win0_0.index t = ![0, t.val % 2] ∧ win0_1.index t = ![t.val / 2, 0, 0]
    ∧ win0_2.index t = ![t.val / 2, t.val % 2, 0] :=
  (by decide +kernel : ∀ t : Fin grid0.N, _)

/-- One element of the gradient of `w_in`. -/
theorem point (c : Dev nD) (t : Fin cfg0.N) (y) : k0_pay1 (iblk m c 0 t) (iblk m c 1 t) y
    = Cert.InWeightRefIdeal.Read.val_main_v6 (F := Ideal) (m ((c : Thread nD τ).loc main_arg0)) (m ((c : Thread nD τ).loc main_arg1))
        (((cfg0.win 2).blk t).view.emb y) := by
  rw [Cert.InWeightRefIdeal.Read.val_main_v6_apply, Cert.InWeightRefIdeal.Read.val_main_v5_apply, Cert.InWeightRefIdeal.Read.val_main_v4_apply, Cert.InWeightRefIdeal.Read.val_main_v3_apply, Cert.InWeightRefIdeal.Read.val_main_v2_apply]
  pointwise [k0_pay1]
  refine (Finset.sum_congr rfl fun k _ => mul_comm _ _).trans ?_
  blk_point [iblk, V, idx t]

/-- After the run the array of window 2 is the reference's. -/
theorem final (c : Dev nD) : (dats m 0 c).arrAt 2 (cfgs 0).N
    = Cert.InWeightRefIdeal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InWeightIdeal.Value

end
-- ==== Proof.InInputValue.lean ====
/- The input projection's gradient of its input: the kernel adds the shards' products, two at a grid point and four points to a block; over
   the reals that is the one product with the whole of `w_in`. -/
module

public import proofs.«01_k».proof.Proof.Gen.InInputIdeal.Value
public import proofs.«01_k».proof.Proof.Gen.InInputRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InInputIdeal.Value
open Cert.InInputIdeal Cert.InInputIdeal.Gen

variable (m : (ℓ : Loc nD τ sig) → Buf (Elt Ideal) ℓ)

/-- Which block each window holds at each grid point. -/
theorem idx : ∀ t : Fin cfg0.N, win0_0.index t = ![t.val % 4, t.val / 8, 0] ∧ win0_1.index t = ![t.val % 4, t.val / 4 % 2, 0]
    ∧ win0_2.index t = ![t.val / 8, t.val / 4 % 2] :=
  (by decide +kernel : ∀ t : Fin grid0.N, _)

/-- One shard's product of the gradient's block and the weight's block. -/
def prod (x w : FVec Ideal S2x1024x1024 .bf16) (s : Fin 2) (y : S1024x1024.Idx) : EReal :=
  ∑ k : Fin 1024, x (ix3 s (y 0) k) * w (ix3 s (y 1) k)

/-- The two shards of a block. -/
abbrev sh0 (x : FVec Ideal S2x1024x1024 .bf16) : FVec Ideal S1x1024x1024 .bf16 :=
  View.ld (Val := Elt Ideal) (e' := .bf16) x (Rect.unit ![0, 0, 0] ![1, 1024, 1024] inb_S2x1024x1024_S1x1024x1024_0_0_0)
abbrev sh1 (x : FVec Ideal S2x1024x1024 .bf16) : FVec Ideal S1x1024x1024 .bf16 :=
  View.ld (Val := Elt Ideal) (e' := .bf16) x (Rect.unit ![1, 0, 0] ![1, 1024, 1024] inb_S2x1024x1024_S1x1024x1024_1_0_0)

theorem sh0_apply (x : FVec Ideal S2x1024x1024 .bf16) (a k : Fin 1024) : sh0 x (ix3 0 a k) = x (ix3 0 a k) :=
  congrArg x (by funext d; fin_cases d <;> apply Fin.ext <;> exact (Rect.idx_unit_val _ _ _ _ _).trans (by simp))
theorem sh1_apply (x : FVec Ideal S2x1024x1024 .bf16) (a k : Fin 1024) : sh1 x (ix3 0 a k) = x (ix3 1 a k) :=
  congrArg x (by funext d; fin_cases d <;> apply Fin.ext <;> exact (Rect.idx_unit_val _ _ _ _ _).trans (by simp))

/-- The point's part, as the kernel adds it up: alone, and to what the scratch holds. -/
theorem pay1 (x w : FVec Ideal S2x1024x1024 .bf16) (y : S1024x1024.Idx) :
    k0_pay1 (F := Ideal) (sh0 x) (sh0 w) (sh1 x) (sh1 w) y = ∑ s : Fin 2, prod x w s y := by
  unfold prod
  rw [Fin.sum_univ_two]
  pointwise [k0_pay1]
  exact congrArg₂ (· + ·) (Fin.sum_fin_congr fun k => congrArg₂ (· * ·) (sh0_apply _ _ _) (sh0_apply _ _ _))
    (Fin.sum_fin_congr fun k => congrArg₂ (· * ·) (sh1_apply _ _ _) (sh1_apply _ _ _))

theorem pay2 (x w : FVec Ideal S2x1024x1024 .bf16) (acc : FVec Ideal S1024x1024 .f32) (y : S1024x1024.Idx) :
    k0_pay2 (F := Ideal) (sh0 x) (sh0 w) (sh1 x) (sh1 w) acc y = acc y + ∑ s : Fin 2, prod x w s y := by
  unfold prod
  rw [Fin.sum_univ_two]
  pointwise [k0_pay2]
  refine congrArg (acc y + ·) ?_
  exact congrArg₂ (· + ·) (Fin.sum_fin_congr fun k => congrArg₂ (· * ·) (sh0_apply _ _ _) (sh0_apply _ _ _))
    (Fin.sum_fin_congr fun k => congrArg₂ (· * ·) (sh1_apply _ _ _) (sh1_apply _ _ _))

/-- What the scratch holds after a point: at the first of a run of four, the point's part; -/
theorem scratch_first (c : Dev nD) (t : Fin cfg0.N) (h : t.val % 4 = 0) (y) :
    (outsAt0 m c t.val t.isLt).2 y = (fun _ => (0 : EReal)) y + ∑ s : Fin 2, prod (iblk m c 0 t) (iblk m c 1 t) s y := by
  rw [outsAt0_A m c t h (by omega) (by omega)]; frame_out
  rw [zero_add]
  exact pay1 _ _ y

/-- at a later one, that added to what it held. -/
theorem scratch_next (c : Dev nD) (t : Fin cfg0.N) (h : ¬ t.val % 4 = 0) (y) :
    (outsAt0 m c t.val t.isLt).2 y = (outsAt0 m c (t.val - 1) (Nat.lt_of_le_of_lt (Nat.sub_le _ _) t.isLt)).2 y
      + ∑ s : Fin 2, prod (iblk m c 0 t) (iblk m c 1 t) s y := by
  by_cases h2 : t.val % 4 = 3
  · rw [outsAt0_C m c t h (by omega) h2]; frame_out
    refine (pay2 (iblk m c 0 t) (iblk m c 1 t) _ y).trans ?_
    rw [read_unread_whole]
  · rw [outsAt0_B m c t h (by omega) h2]; frame_out
    refine (pay2 (iblk m c 0 t) (iblk m c 1 t) _ y).trans ?_
    rw [read_unread_whole]

/-- At a run's last point the result's block is the scratch. -/
theorem block_eq (c : Dev nD) (t : Fin cfg0.N) (h : t.val % 4 = 3) : (outsAt0 m c t.val t.isLt).1 = (outsAt0 m c t.val t.isLt).2 := by
  rw [outsAt0_C m c t (by omega) (by omega) h]; frame_out

/-- The parts of a run, added: the whole contraction. -/
theorem run_sum (c : Dev nD) (t : Fin cfg0.N) (h : t.val % 4 = 4 - 1) (y : S1024x1024.Idx) :
    ∑ s : Fin 4, ∑ p : Fin 2, prod (iblk m c 0 ⟨4 * (t.val / 4) + s.val, Pipeline.run_point_lt_of_flush t h s⟩)
        (iblk m c 1 ⟨4 * (t.val / 4) + s.val, Pipeline.run_point_lt_of_flush t h s⟩) p y
      = Cert.InInputRefIdeal.Read.val_main_v2 (F := Ideal) (m ((c : Thread nD τ).loc main_arg0)) (m ((c : Thread nD τ).loc main_arg1))
        (((cfg0.win 2).blk t).view.emb y) := by
  have ht : t.val < 16 := lt_of_lt_of_eq t.isLt N_0
  rw [Cert.InInputRefIdeal.Read.val_main_v2_apply]
  refine Eq.trans ?_ (Fin.sum_mul_add_fin 8 1024 _)
  refine Eq.trans ?_ (Fin.sum_mul_add_fin 4 2 _)
  refine Fin.sum_fin_congr fun s => Fin.sum_fin_congr fun p => ?_
  unfold prod
  refine Fin.sum_fin_congr fun k => ?_
  blk_point [iblk, V, idx t, idx ⟨_, Pipeline.run_point_lt_of_flush t h s⟩]

/-- After the run the result's array is the reference's. -/
theorem final (c : Dev nD) : (dats m 0 c).arrAt 2 (cfgs 0).N
    = Cert.InInputRefIdeal.Read.val_main_v2 (F := Ideal) (m ((c : Thread nD τ).loc main_arg0)) (m ((c : Thread nD τ).loc main_arg1)) := by
  refine (dats m 0 c).arrAt_eq_of_covers 2 _ (by decide +kernel) fun t hf y => ?_
  have h := (flush0_2 t).mp hf
  blk_simp
  rw [after0_2, block_eq m c t h]
  refine (Pipeline.eq_sum_fin_of_reset_step_apply_of_flush (fun n h => (outsAt0 m c n h).2) 4 (fun _ => (0 : EReal))
    (fun t y => ∑ s : Fin 2, prod (iblk m c 0 t) (iblk m c 1 t) s y) (scratch_first m c) (scratch_next m c) t h y).trans ?_
  rw [zero_add]
  exact run_sum m c t h y

end Cert.InInputIdeal.Value

end
-- ==== Proof.MixOutInputValue.lean ====
/- The output projection backward: one product with the weight's transpose, and from it the gradients of the two branches and of the two
   gates. -/
module

public import proofs.«01_k».proof.Proof.Gen.MixOutInputIdeal.Value
public import proofs.«01_k».proof.Proof.Gen.MixOutInputRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutInputIdeal.Value
open Cert.MixOutInputIdeal Cert.MixOutInputIdeal.Gen

variable (m : (ℓ : Loc nD τ sig) → Buf (Elt Ideal) ℓ)

/-- Which block each window holds at each grid point. -/
theorem idx : ∀ t : Fin cfg0.N, win0_0.index t = ![t.val / 4, 0]
    ∧ win0_1.index t = ![t.val % 4, 0]
    ∧ win0_2.index t = ![4 + t.val % 4 / 2, t.val / 4, t.val % 2]
    ∧ win0_3.index t = ![6 + t.val % 4 / 2, t.val / 4, t.val % 2]
    ∧ win0_4.index t = ![t.val / 4, t.val % 4]
    ∧ win0_5.index t = ![t.val / 4, t.val % 4]
    ∧ win0_6.index t = ![t.val / 4, t.val % 4]
    ∧ win0_7.index t = ![t.val / 4, t.val % 4]
    ∧ win0_8.index t = ![t.val % 4 / 2, t.val / 4, t.val % 2]
    ∧ win0_9.index t = ![t.val % 4 / 2, t.val / 4, t.val % 2] :=
  (by decide +kernel : ∀ t : Fin grid0.N, _)

/-- The logistic function, written with a quotient. -/
abbrev sg (g : EReal) : EReal := Ideal.div 1 (1 + Ideal.exp g)

/-- The gradient of a branch: the gate's value times the gradient of the sum. -/
theorem branch_eq {P P' g g' : EReal} (hp : P = P') (hg : g = g') : P * sg (0 - g) = sg (-g') * P' := by
  subst hp hg; rw [zero_sub, mul_comm]

/-- The gradient of a gate. -/
theorem gate_eq {P P' g g' z z' : EReal} (hp : P = P') (hg : g = g') (hz : z = z') :
    P * z * sg (0 - g) * (1 - sg (0 - g)) = P' * z' * (sg (-g') * (1 - sg (-g'))) := by
  subst hp hg hz; rw [zero_sub, mul_assoc (P * z)]

open Cert.MixOutInputRefIdeal.Read in
/-- One element of the SSM branch's gradient. -/
theorem point_ssm (c : Dev nD) (t : Fin cfg0.N) (y) : k0_pay1 (k0_pay9 (iblk m c 0 t) (iblk m c 1 t) (iblk m c 2 t)) y
    = val_main_v31 (F := Ideal) (m ((c : Thread nD τ).loc main_arg0)) (m ((c : Thread nD τ).loc main_arg3)) (m ((c : Thread nD τ).loc main_arg4))
        (((cfg0.win 6).blk t).view.emb y) := by
  rw [val_main_v31_apply, val_main_v28_apply, val_main_v24_apply, val_main_v7_apply, val_main_v6_apply, val_main_cst_0_apply, val_main_v5_apply, val_main_v4_apply, val_main_cst_apply, val_main_v3_apply, val_main_v2_apply, val_main_v0_apply]
  pointwise [k0_pay1, k0_pay2, k0_pay3, k0_pay4, k0_pay5, k0_pay6, k0_pay7, k0_pay8, k0_pay9, k0_pay10, k0_pay11, k0_pay12]
  refine branch_eq ?_ ?_ <;> blk_point [iblk, V, idx t]

/-- After the run the array of window 6 is the reference's. -/
theorem final_ssm (c : Dev nD) : (dats m 0 c).arrAt 6 (cfgs 0).N
    = Cert.MixOutInputRefIdeal.Read.val_main_v31 (F := Ideal) (m ((c : Thread nD τ).loc main_arg0)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_ssm m c t y

open Cert.MixOutInputRefIdeal.Read in
/-- One element of the convolution branch's gradient. -/
theorem point_conv (c : Dev nD) (t : Fin cfg0.N) (y) : k0_pay2 (k0_pay10 (iblk m c 0 t) (iblk m c 1 t) (iblk m c 3 t)) y
    = val_main_v32 (F := Ideal) (m ((c : Thread nD τ).loc main_arg0)) (m ((c : Thread nD τ).loc main_arg3)) (m ((c : Thread nD τ).loc main_arg4))
        (((cfg0.win 7).blk t).view.emb y) := by
  rw [val_main_v32_apply, val_main_v25_apply, val_main_v24_apply, val_main_v17_apply, val_main_v16_apply, val_main_cst_3_apply, val_main_v15_apply, val_main_v14_apply, val_main_cst_2_apply, val_main_v13_apply, val_main_v12_apply, val_main_v1_apply]
  pointwise [k0_pay1, k0_pay2, k0_pay3, k0_pay4, k0_pay5, k0_pay6, k0_pay7, k0_pay8, k0_pay9, k0_pay10, k0_pay11, k0_pay12]
  refine branch_eq ?_ ?_ <;> blk_point [iblk, V, idx t]

/-- After the run the array of window 7 is the reference's. -/
theorem final_conv (c : Dev nD) : (dats m 0 c).arrAt 7 (cfgs 0).N
    = Cert.MixOutInputRefIdeal.Read.val_main_v32 (F := Ideal) (m ((c : Thread nD τ).loc main_arg0)) (m ((c : Thread nD τ).loc main_arg3)) (m ((c : Thread nD τ).loc main_arg4)) := by
  refine (dats m 0 c).arrAt_eq_of_covers 7 _ (by decide +kernel) fun t _ y => ?_
  blk_simp
  rw [after0_7]; frame_out
  exact point_conv m c t y

open Cert.MixOutInputRefIdeal.Read in
/-- One element of the gradient of the SSM branch's gate. -/
theorem point_ssm_gate (c : Dev nD) (t : Fin cfg0.N) (y) : k0_pay3 (k0_pay6 (iblk m c 2 t)) (k0_pay11 (iblk m c 0 t) (iblk m c 1 t) (iblk m c 2 t) (iblk m c 4 t)) k0_pay12 y
    = val_main_v36 (F := Ideal) (m ((c : Thread nD τ).loc main_arg0)) (m ((c : Thread nD τ).loc main_arg1)) (m ((c : Thread nD τ).loc main_arg3)) (m ((c : Thread nD τ).loc main_arg4))
        (((cfg0.win 8).blk t).view.emb y) := by
  rw [val_main_v36_apply, val_main_v35_apply, val_main_v33_apply, val_main_v30_apply, val_main_v29_apply, val_main_v24_apply, val_main_v10_apply, val_main_v9_apply, val_main_v8_apply, val_main_cst_1_apply, val_main_v7_apply, val_main_v6_apply, val_main_cst_0_apply, val_main_v5_apply, val_main_v4_apply, val_main_cst_apply, val_main_v3_apply, val_main_v2_apply, val_main_v0_apply]
  pointwise [k0_pay1, k0_pay2, k0_pay3, k0_pay4, k0_pay5, k0_pay6, k0_pay7, k0_pay8, k0_pay9, k0_pay10, k0_pay11, k0_pay12]
  refine gate_eq ?_ ?_ ?_ <;> blk_point [iblk, V, idx t]

/-- After the run the array of window 8 is the reference's. -/
theorem final_ssm_gate (c : Dev nD) : (dats m 0 c).arrAt 8 (cfgs 0).N
    = Cert.MixOutInputRefIdeal.Read.val_main_v36 (F := Ideal) (m ((c : Thread nD τ).loc main_arg0)) (m ((c : Thread nD τ).loc main_arg1)) (m ((c : Thread nD τ).loc main_arg3)) (m ((c : Thread nD τ).loc main_arg4)) := by
  refine (dats m 0 c).arrAt_eq_of_covers 8 _ (by decide +kernel) fun t _ y => ?_
  blk_simp
  rw [after0_8]; frame_out
  exact point_ssm_gate m c t y

open Cert.MixOutInputRefIdeal.Read in
/-- One element of the gradient of the convolution branch's gate. -/
theorem point_conv_gate (c : Dev nD) (t : Fin cfg0.N) (y) : k0_pay4 (k0_pay5 (iblk m c 0 t) (iblk m c 1 t)) (k0_pay7 (iblk m c 3 t)) (k0_pay8 (iblk m c 5 t)) y
    = val_main_v38 (F := Ideal) (m ((c : Thread nD τ).loc main_arg0)) (m ((c : Thread nD τ).loc main_arg2)) (m ((c : Thread nD τ).loc main_arg3)) (m ((c : Thread nD τ).loc main_arg4))
        (((cfg0.win 9).blk t).view.emb y) := by
  rw [val_main_v38_apply, val_main_v37_apply, val_main_v34_apply, val_main_v27_apply, val_main_v26_apply, val_main_v24_apply, val_main_v20_apply, val_main_v19_apply, val_main_v18_apply, val_main_cst_4_apply, val_main_v17_apply, val_main_v16_apply, val_main_cst_3_apply, val_main_v15_apply, val_main_v14_apply, val_main_cst_2_apply, val_main_v13_apply, val_main_v12_apply, val_main_v1_apply]
  pointwise [k0_pay1, k0_pay2, k0_pay3, k0_pay4, k0_pay5, k0_pay6, k0_pay7, k0_pay8, k0_pay9, k0_pay10, k0_pay11, k0_pay12]
  refine gate_eq ?_ ?_ ?_ <;> blk_point [iblk, V, idx t]

/-- After the run the array of window 9 is the reference's. -/
theorem final_conv_gate (c : Dev nD) : (dats m 0 c).arrAt 9 (cfgs 0).N
    = Cert.MixOutInputRefIdeal.Read.val_main_v38 (F := Ideal) (m ((c : Thread nD τ).loc main_arg0)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; frame_out
  exact point_conv_gate m c t y

end Cert.MixOutInputIdeal.Value

end
-- ==== Proof.MixOutWeightValue.lean ====
module

public import proofs.«01_k».proof.Proof.Gen.MixOutWeightIdeal.Value
public import proofs.«01_k».proof.Proof.Gen.MixOutWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutWeightIdeal.Value
open Cert.MixOutWeightIdeal Cert.MixOutWeightIdeal.Gen

variable (m : (ℓ : Loc nD τ sig) → Buf (Elt Ideal) ℓ)

/-- Which block each window holds at each grid point. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- One element of the gradient of `w_o`. -/
theorem point (c : Dev nD) (t : Fin cfg0.N) (y) : k0_pay1 (iblk m c 0 t) (iblk m c 1 t) y
    = Cert.MixOutWeightRefIdeal.Read.val_main_v4 (F := Ideal) (m ((c : Thread nD τ).loc main_arg0)) (m ((c : Thread nD τ).loc main_arg1))
        (((cfg0.win 2).blk t).view.emb y) := by
  rw [Cert.MixOutWeightRefIdeal.Read.val_main_v4_apply, Cert.MixOutWeightRefIdeal.Read.val_main_v3_apply, Cert.MixOutWeightRefIdeal.Read.val_main_v2_apply]
  pointwise [k0_pay1]
  refine (Finset.sum_congr rfl fun k _ => mul_comm _ _).trans ?_
  blk_point [iblk, V, idx t]

/-- After the run the array of window 2 is the reference's. -/
theorem final (c : Dev nD) : (dats m 0 c).arrAt 2 (cfgs 0).N
    = Cert.MixOutWeightRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixOutWeightIdeal.Value

end
-- ==== Proof.MergeInputValue.lean ====
/- The branches' output projections backward: the kernel adds the shards' products, one at a grid point and eight points to a block, for
   both branches; at a block's last point the SSM branch's sum gives the gradients through its gate. Over the reals each sum is the one
   product with the whole weight's transpose. -/
module

public import proofs.«01_k».proof.Proof.Gen.MergeInputIdeal.Value
public import proofs.«01_k».proof.Proof.Gen.MergeInputRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeInputIdeal.Value
open Cert.MergeInputIdeal Cert.MergeInputIdeal.Gen

variable (m : (ℓ : Loc nD τ sig) → Buf (Elt Ideal) ℓ)

/-- Which block each window holds at each grid point. -/
theorem idx : ∀ t : Fin cfg0.N, win0_0.index t = ![t.val / 8, t.val % 8] ∧ win0_1.index t = ![t.val / 8, t.val % 8]
    ∧ win0_2.index t = ![t.val % 8, 0, 0] ∧ win0_3.index t = ![t.val % 8, 0, 0] ∧ win0_4.index t = ![t.val / 8, 0]
    ∧ win0_5.index t = ![t.val / 8, 0] ∧ win0_6.index t = ![t.val / 8, 0] ∧ win0_7.index t = ![t.val / 8, 0]
    ∧ win0_8.index t = ![t.val / 8, 0] :=
  (by decide +kernel : ∀ t : Fin grid0.N, _)

/-- One shard's product of the gradient's block and the weight's block. -/
def prod (x : FVec Ideal S512x256 .bf16) (w : FVec Ideal S1x1024x256 .bf16) (y : S512x1024.Idx) : EReal :=
  ∑ k : Fin 256, x (ix2 (y 0) k) * w (ix3 0 (y 1) k)

/-- The point's part, as the kernel adds it up: alone, and to what the scratch holds. -/
theorem pay1 (x : FVec Ideal S512x256 .bf16) (w : FVec Ideal S1x1024x256 .bf16) (y : S512x1024.Idx) :
    k0_pay1 (F := Ideal) x w y = prod x w y := by
  unfold prod; pointwise [k0_pay1]
theorem pay2 (x : FVec Ideal S512x256 .bf16) (w : FVec Ideal S1x1024x256 .bf16) (y : S512x1024.Idx) :
    k0_pay2 (F := Ideal) x w y = prod x w y := by
  unfold prod; pointwise [k0_pay2]
theorem pay3 (x : FVec Ideal S512x256 .bf16) (w : FVec Ideal S1x1024x256 .bf16) (acc : FVec Ideal S512x1024 .f32) (y : S512x1024.Idx) :
    k0_pay3 (F := Ideal) x w acc y = acc y + prod x w y := by
  unfold prod; pointwise [k0_pay3]
theorem pay4 (x : FVec Ideal S512x256 .bf16) (w : FVec Ideal S1x1024x256 .bf16) (acc : FVec Ideal S512x1024 .f32) (y : S512x1024.Idx) :
    k0_pay4 (F := Ideal) x w acc y = acc y + prod x w y := by
  unfold prod; pointwise [k0_pay4]

/-! ## The SSM branch's sum -/

/-- What the scratch holds after a point: at the first of a run of eight, the point's part; -/
theorem first_ssm (c : Dev nD) (t : Fin cfg0.N) (h : t.val % 8 = 0) (y) :
    (outsAt0 m c t.val t.isLt).2.2.2.1 y = (fun _ => (0 : EReal)) y + prod (iblk m c 0 t) (iblk m c 2 t) y := by
  rw [outsAt0_A m c t h (by omega) (by omega)]; frame_out
  rw [zero_add]
  exact pay1 _ _ y

/-- at a later one, that added to what it held. -/
theorem next_ssm (c : Dev nD) (t : Fin cfg0.N) (h : ¬ t.val % 8 = 0) (y) :
    (outsAt0 m c t.val t.isLt).2.2.2.1 y = (outsAt0 m c (t.val - 1) (Nat.lt_of_le_of_lt (Nat.sub_le _ _) t.isLt)).2.2.2.1 y
      + prod (iblk m c 0 t) (iblk m c 2 t) y := by
  by_cases h2 : t.val % 8 = 7
  · rw [outsAt0_C m c t h (by omega) h2]; frame_out
    refine (pay3 (iblk m c 0 t) (iblk m c 2 t) _ y).trans ?_
    rw [read_unread_whole]
  · rw [outsAt0_B m c t h (by omega) h2]; frame_out
    refine (pay3 (iblk m c 0 t) (iblk m c 2 t) _ y).trans ?_
    rw [read_unread_whole]

/-- The parts of a run, added: the whole contraction. -/
theorem total_ssm (c : Dev nD) (t : Fin cfg0.N) (h : t.val % 8 = 8 - 1) (y : S512x1024.Idx) :
    ∑ s : Fin 8, prod (iblk m c 0 ⟨8 * (t.val / 8) + s.val, Pipeline.run_point_lt_of_flush t h s⟩)
        (iblk m c 2 ⟨8 * (t.val / 8) + s.val, Pipeline.run_point_lt_of_flush t h s⟩) y
      = Cert.MergeInputRefIdeal.Read.val_main_v27 (F := Ideal) (m ((c : Thread nD τ).loc main_arg2)) (m ((c : Thread nD τ).loc main_arg4))
        (((cfg0.win 7).blk t).view.emb y) := by
  have ht : t.val < 32 := lt_of_lt_of_eq t.isLt N_0
  rw [Cert.MergeInputRefIdeal.Read.val_main_v27_apply]
  refine Eq.trans ?_ (Fin.sum_mul_add_fin 8 256 _)
  refine Fin.sum_fin_congr fun s => ?_
  unfold prod
  refine Fin.sum_fin_congr fun k => ?_
  blk_point [iblk, V, idx t, idx ⟨_, Pipeline.run_point_lt_of_flush t h s⟩]

/-- The scratch at a run's last point. -/
theorem last_ssm (c : Dev nD) (t : Fin cfg0.N) (h : t.val % 8 = 8 - 1) (y : S512x1024.Idx) :
    (outsAt0 m c t.val t.isLt).2.2.2.1 y = Cert.MergeInputRefIdeal.Read.val_main_v27 (F := Ideal) (m ((c : Thread nD τ).loc main_arg2)) (m ((c : Thread nD τ).loc main_arg4))
        (((cfg0.win 7).blk t).view.emb y) := by
  refine (Pipeline.eq_sum_fin_of_reset_step_apply_of_flush (fun n h => (outsAt0 m c n h).2.2.2.1) 8 (fun _ => (0 : EReal))
    (fun t y => prod (iblk m c 0 t) (iblk m c 2 t) y) (first_ssm m c) (next_ssm m c) t h y).trans ?_
  rw [zero_add]
  exact total_ssm m c t h y

/-! ## The convolution branch's sum -/

/-- What the scratch holds after a point: at the first of a run of eight, the point's part; -/
theorem first_conv (c : Dev nD) (t : Fin cfg0.N) (h : t.val % 8 = 0) (y) :
    (outsAt0 m c t.val t.isLt).2.2.2.2 y = (fun _ => (0 : EReal)) y + prod (iblk m c 1 t) (iblk m c 3 t) y := by
  rw [outsAt0_A m c t h (by omega) (by omega)]; frame_out
  rw [zero_add]
  exact pay2 _ _ y

/-- at a later one, that added to what it held. -/
theorem next_conv (c : Dev nD) (t : Fin cfg0.N) (h : ¬ t.val % 8 = 0) (y) :
    (outsAt0 m c t.val t.isLt).2.2.2.2 y = (outsAt0 m c (t.val - 1) (Nat.lt_of_le_of_lt (Nat.sub_le _ _) t.isLt)).2.2.2.2 y
      + prod (iblk m c 1 t) (iblk m c 3 t) y := by
  by_cases h2 : t.val % 8 = 7
  · rw [outsAt0_C m c t h (by omega) h2]; frame_out
    refine (pay4 (iblk m c 1 t) (iblk m c 3 t) _ y).trans ?_
    rw [read_unread_whole]
  · rw [outsAt0_B m c t h (by omega) h2]; frame_out
    refine (pay4 (iblk m c 1 t) (iblk m c 3 t) _ y).trans ?_
    rw [read_unread_whole]

/-- The parts of a run, added: the whole contraction. -/
theorem total_conv (c : Dev nD) (t : Fin cfg0.N) (h : t.val % 8 = 8 - 1) (y : S512x1024.Idx) :
    ∑ s : Fin 8, prod (iblk m c 1 ⟨8 * (t.val / 8) + s.val, Pipeline.run_point_lt_of_flush t h s⟩)
        (iblk m c 3 ⟨8 * (t.val / 8) + s.val, Pipeline.run_point_lt_of_flush t h s⟩) y
      = Cert.MergeInputRefIdeal.Read.val_main_v26 (F := Ideal) (m ((c : Thread nD τ).loc main_arg3)) (m ((c : Thread nD τ).loc main_arg5))
        (((cfg0.win 7).blk t).view.emb y) := by
  have ht : t.val < 32 := lt_of_lt_of_eq t.isLt N_0
  rw [Cert.MergeInputRefIdeal.Read.val_main_v26_apply]
  refine Eq.trans ?_ (Fin.sum_mul_add_fin 8 256 _)
  refine Fin.sum_fin_congr fun s => ?_
  unfold prod
  refine Fin.sum_fin_congr fun k => ?_
  blk_point [iblk, V, idx t, idx ⟨_, Pipeline.run_point_lt_of_flush t h s⟩]

/-- The scratch at a run's last point. -/
theorem last_conv (c : Dev nD) (t : Fin cfg0.N) (h : t.val % 8 = 8 - 1) (y : S512x1024.Idx) :
    (outsAt0 m c t.val t.isLt).2.2.2.2 y = Cert.MergeInputRefIdeal.Read.val_main_v26 (F := Ideal) (m ((c : Thread nD τ).loc main_arg3)) (m ((c : Thread nD τ).loc main_arg5))
        (((cfg0.win 7).blk t).view.emb y) := by
  refine (Pipeline.eq_sum_fin_of_reset_step_apply_of_flush (fun n h => (outsAt0 m c n h).2.2.2.2) 8 (fun _ => (0 : EReal))
    (fun t y => prod (iblk m c 1 t) (iblk m c 3 t) y) (first_conv m c) (next_conv m c) t h y).trans ?_
  rw [zero_add]
  exact total_conv m c t h y

/-! ## The results -/

/-- What a run's last point writes back. -/
theorem block_gate (c : Dev nD) (t : Fin cfg0.N) (h : t.val % 8 = 7) : (outsAt0 m c t.val t.isLt).1
    = k0_pay7 (F := Ideal) (outsAt0 m c t.val t.isLt).2.2.2.1 (iblk m c 4 t) (iblk m c 5 t) := by
  rw [outsAt0_C m c t (by omega) (by omega) h]; frame_out
theorem block_ssm (c : Dev nD) (t : Fin cfg0.N) (h : t.val % 8 = 7) : (outsAt0 m c t.val t.isLt).2.1
    = k0_pay6 (F := Ideal) (outsAt0 m c t.val t.isLt).2.2.2.1 (iblk m c 5 t) := by
  rw [outsAt0_C m c t (by omega) (by omega) h]; frame_out
theorem block_conv (c : Dev nD) (t : Fin cfg0.N) (h : t.val % 8 = 7) : (outsAt0 m c t.val t.isLt).2.2.1
    = (outsAt0 m c t.val t.isLt).2.2.2.2 := by
  rw [outsAt0_C m c t (by omega) (by omega) h]; frame_out

/-- The logistic function, written with a quotient. -/
abbrev sg (g : EReal) : EReal := Ideal.div 1 (1 + Ideal.exp g)

/-- The gate's gradient, whichever way the products are associated. -/
theorem gate_eq {P P' z z' q q' : EReal} (hp : P = P') (hz : z = z') (hq : q = q') :
    P * z * sg (0 - q) * (1 - sg (0 - q)) = z' * P' * (sg (-q') * (1 - sg (-q'))) := by
  subst hp hz hq; rw [zero_sub, mul_assoc (P * z), mul_comm P z]

/-- The branch's gradient. -/
theorem branch_eq {P P' q q' : EReal} (hp : P = P') (hq : q = q') : P * sg (0 - q) = P' * sg (-q') := by
  subst hp hq; rw [zero_sub]

/-- The tanh form of gelu, whichever way the products are associated. -/
theorem gelu_eq {a b d e x x' : EReal} (hx : x = x') :
    a * x * (e + Ideal.tanh (d * (x + b * x * x * x))) = x' * (a * (e + Ideal.tanh (d * (x' + b * (x' * x' * x'))))) := by
  subst hx
  rw [mul_comm a x, mul_assoc x a, mul_assoc b x x, mul_assoc b (x * x) x]

open Cert.MergeInputRefIdeal.Read in
theorem point_gate (c : Dev nD) (t : Fin cfg0.N) (acc : FVec Ideal S512x1024 .f32) (y)
    (ha : acc y = val_main_v27 (F := Ideal) (m ((c : Thread nD τ).loc main_arg2)) (m ((c : Thread nD τ).loc main_arg4)) (((cfg0.win 7).blk t).view.emb y)) :
    k0_pay7 (F := Ideal) acc (iblk m c 4 t) (iblk m c 5 t) y
    = val_main_v31 (F := Ideal) (m ((c : Thread nD τ).loc main_arg0)) (m ((c : Thread nD τ).loc main_arg1)) (m ((c : Thread nD τ).loc main_arg2)) (m ((c : Thread nD τ).loc main_arg4))
        (((cfg0.win 6).blk t).view.emb y) := by
  rw [val_main_v31_apply, val_main_v30_apply, val_main_v28_apply, val_main_v22_apply, val_main_v21_apply, val_main_v20_apply, val_main_cst_6_apply, val_main_v19_apply, val_main_v18_apply, val_main_cst_5_apply, val_main_v17_apply, val_main_v16_apply, val_main_cst_4_apply, val_main_v15_apply, val_main_v14_apply, val_main_v13_apply, val_main_v12_apply, val_main_v11_apply, val_main_cst_3_apply, val_main_v10_apply, val_main_v9_apply, val_main_cst_2_apply, val_main_v8_apply, val_main_v7_apply, val_main_v6_apply, val_main_cst_1_apply, val_main_v5_apply, val_main_v4_apply, val_main_v3_apply, val_main_cst_0_apply, val_main_v2_apply, val_main_v1_apply]
  pointwise [k0_pay7, k0_pay5]
  refine gate_eq ha (gelu_eq ?_) ?_ <;> blk_point [iblk, V, idx t]

open Cert.MergeInputRefIdeal.Read in
theorem point_ssm (c : Dev nD) (t : Fin cfg0.N) (acc : FVec Ideal S512x1024 .f32) (y)
    (ha : acc y = val_main_v27 (F := Ideal) (m ((c : Thread nD τ).loc main_arg2)) (m ((c : Thread nD τ).loc main_arg4)) (((cfg0.win 7).blk t).view.emb y)) :
    k0_pay6 (F := Ideal) acc (iblk m c 5 t) y
    = val_main_v29 (F := Ideal) (m ((c : Thread nD τ).loc main_arg1)) (m ((c : Thread nD τ).loc main_arg2)) (m ((c : Thread nD τ).loc main_arg4)) (((cfg0.win 7).blk t).view.emb y) := by
  rw [val_main_v29_apply, val_main_v19_apply, val_main_v18_apply, val_main_cst_5_apply, val_main_v17_apply, val_main_v16_apply, val_main_cst_4_apply, val_main_v15_apply, val_main_v14_apply]
  pointwise [k0_pay6, k0_pay5]
  refine branch_eq ha ?_ <;> blk_point [iblk, V, idx t]

/-- After the run the array of window 6 is the reference's, -/
theorem final_gate (c : Dev nD) : (dats m 0 c).arrAt 6 (cfgs 0).N
    = Cert.MergeInputRefIdeal.Read.val_main_v31 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  have h := (flush0_6 t).mp hf
  blk_simp
  rw [after0_6, block_gate m c t h]
  exact point_gate m c t _ y (last_ssm m c t h y)

/-- that of window 7, -/
theorem final_ssm (c : Dev nD) : (dats m 0 c).arrAt 7 (cfgs 0).N
    = Cert.MergeInputRefIdeal.Read.val_main_v29 (F := Ideal) (m ((c : Thread nD τ).loc main_arg1)) (m ((c : Thread nD τ).loc main_arg2)) (m ((c : Thread nD τ).loc main_arg4)) := by
  refine (dats m 0 c).arrAt_eq_of_covers 7 _ (by decide +kernel) fun t hf y => ?_
  have h := (flush0_7 t).mp hf
  blk_simp
  rw [after0_7, block_ssm m c t h]
  exact point_ssm m c t _ y (last_ssm m c t h y)

/-- and that of window 8. -/
theorem final_conv (c : Dev nD) : (dats m 0 c).arrAt 8 (cfgs 0).N
    = Cert.MergeInputRefIdeal.Read.val_main_v26 (F := Ideal) (m ((c : Thread nD τ).loc main_arg3)) (m ((c : Thread nD τ).loc main_arg5)) := by
  refine (dats m 0 c).arrAt_eq_of_covers 8 _ (by decide +kernel) fun t hf y => ?_
  have h := (flush0_8 t).mp hf
  blk_simp
  rw [after0_8, block_conv m c t h]
  exact last_conv m c t h y

end Cert.MergeInputIdeal.Value

end
-- ==== Proof.MergeWeightValue.lean ====
module

public import proofs.«01_k».proof.Proof.Gen.MergeWeightIdeal.Value
public import proofs.«01_k».proof.Proof.Gen.MergeWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeWeightIdeal.Value
open Cert.MergeWeightIdeal Cert.MergeWeightIdeal.Gen

variable (m : (ℓ : Loc nD τ sig) → Buf (Elt Ideal) ℓ)

/-- Which block each window holds at each grid point. -/
theorem idx : ∀ t : Fin cfg0.N, win0_0.index t = ![0, 0] ∧ win0_1.index t = ![0, 0] ∧ win0_2.index t = ![0, t.val]
    ∧ win0_3.index t = ![0, t.val] ∧ win0_4.index t = ![t.val, 0, 0] ∧ win0_5.index t = ![t.val, 0, 0] :=
  (by decide +kernel : ∀ t : Fin grid0.N, _)

/-- One element of the gradient of `ssm_w_out`. -/
theorem point_ssm (c : Dev nD) (t : Fin cfg0.N) (y) : k0_pay1 (iblk m c 0 t) (iblk m c 2 t) y
    = Cert.MergeWeightRefIdeal.Read.val_main_v9 (F := Ideal) (m ((c : Thread nD τ).loc main_arg0)) (m ((c : Thread nD τ).loc main_arg2))
        (((cfg0.win 4).blk t).view.emb y) := by
  rw [Cert.MergeWeightRefIdeal.Read.val_main_v9_apply, Cert.MergeWeightRefIdeal.Read.val_main_v8_apply, Cert.MergeWeightRefIdeal.Read.val_main_v7_apply, Cert.MergeWeightRefIdeal.Read.val_main_v6_apply, Cert.MergeWeightRefIdeal.Read.val_main_v5_apply]
  pointwise [k0_pay1]
  refine (Finset.sum_congr rfl fun k _ => mul_comm _ _).trans ?_
  blk_point [iblk, V, idx t]

/-- After the run the array of window 4 is the reference's. -/
theorem final_ssm (c : Dev nD) : (dats m 0 c).arrAt 4 (cfgs 0).N
    = Cert.MergeWeightRefIdeal.Read.val_main_v9 (F := Ideal) (m ((c : Thread nD τ).loc main_arg0)) (m ((c : Thread nD τ).loc main_arg2)) := by
  refine (dats m 0 c).arrAt_eq_of_covers 4 _ (by decide +kernel) fun t _ y => ?_
  blk_simp
  rw [after0_4]; frame_out
  exact point_ssm m c t y

/-- One element of the gradient of `conv_w_out`. -/
theorem point_conv (c : Dev nD) (t : Fin cfg0.N) (y) : k0_pay2 (iblk m c 1 t) (iblk m c 3 t) y
    = Cert.MergeWeightRefIdeal.Read.val_main_v12 (F := Ideal) (m ((c : Thread nD τ).loc main_arg1)) (m ((c : Thread nD τ).loc main_arg3))
        (((cfg0.win 5).blk t).view.emb y) := by
  rw [Cert.MergeWeightRefIdeal.Read.val_main_v12_apply, Cert.MergeWeightRefIdeal.Read.val_main_v11_apply, Cert.MergeWeightRefIdeal.Read.val_main_v10_apply, Cert.MergeWeightRefIdeal.Read.val_main_v4_apply, Cert.MergeWeightRefIdeal.Read.val_main_v3_apply]
  pointwise [k0_pay2]
  refine (Finset.sum_congr rfl fun k _ => mul_comm _ _).trans ?_
  blk_point [iblk, V, idx t]

/-- After the run the array of window 5 is the reference's. -/
theorem final_conv (c : Dev nD) : (dats m 0 c).arrAt 5 (cfgs 0).N
    = Cert.MergeWeightRefIdeal.Read.val_main_v12 (F := Ideal) (m ((c : Thread nD τ).loc main_arg1)) (m ((c : Thread nD τ).loc main_arg3)) := by
  refine (dats m 0 c).arrAt_eq_of_covers 5 _ (by decide +kernel) fun t _ y => ?_
  blk_simp
  rw [after0_5]; frame_out
  exact point_conv m c t y

end Cert.MergeWeightIdeal.Value

end
-- ==== Proof.GluWeightValue.lean ====
module

public import proofs.«01_k».proof.Proof.Gen.GluWeightIdeal.Value
public import proofs.«01_k».proof.Proof.Gen.GluWeightRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.GluWeightIdeal.Value
open Cert.GluWeightIdeal Cert.GluWeightIdeal.Gen

variable (m : (ℓ : Loc nD τ sig) → Buf (Elt Ideal) ℓ)

/-- Which block each window holds at each grid point. -/
theorem idx : ∀ t : Fin cfg0.N, win0_0.index t = ![0, t.val] ∧ win0_1.index t = ![0, 0] ∧ win0_2.index t = ![t.val, 0] :=
  (by decide +kernel : ∀ t : Fin grid0.N, _)

/-- One element of the gradient of `w_glu`. -/
theorem point (c : Dev nD) (t : Fin cfg0.N) (y) : k0_pay1 (iblk m c 0 t) (iblk m c 1 t) y
    = Cert.GluWeightRefIdeal.Read.val_main_v4 (F := Ideal) (m ((c : Thread nD τ).loc main_arg0)) (m ((c : Thread nD τ).loc main_arg1))
        (((cfg0.win 2).blk t).view.emb y) := by
  rw [Cert.GluWeightRefIdeal.Read.val_main_v4_apply, Cert.GluWeightRefIdeal.Read.val_main_v3_apply, Cert.GluWeightRefIdeal.Read.val_main_v2_apply]
  pointwise [k0_pay1]
  refine (Finset.sum_congr rfl fun k _ => mul_comm _ _).trans ?_
  blk_point [iblk, V, idx t]

/-- After the run the array of window 2 is the reference's. -/
theorem final (c : Dev nD) : (dats m 0 c).arrAt 2 (cfgs 0).N
    = Cert.GluWeightRefIdeal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluWeightIdeal.Value

end
-- ==== Proof.FfnGateValue.lean ====
module

public import proofs.«01_k».proof.Proof.Gen.FfnGateIdeal.Value
public import proofs.«01_k».proof.Proof.Gen.FfnGateRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnGateIdeal.Value
open Cert.FfnGateIdeal Cert.FfnGateIdeal.Gen

variable (m : (ℓ : Loc nD τ sig) → Buf (Elt Ideal) ℓ)

/-- Which block each window holds at each grid point. -/
theorem idx : ∀ t : Fin cfg0.N, win0_0.index t = ![t.val % 2, 0] ∧ win0_1.index t = ![t.val / 2, 0, 0]
    ∧ win0_2.index t = ![t.val / 2, t.val % 2, 0] :=
  (by decide +kernel : ∀ t : Fin grid0.N, _)

/-- One element of the gate's projection. -/
theorem point (c : Dev nD) (t : Fin cfg0.N) (y) : k0_pay1 (iblk m c 0 t) (iblk m c 1 t) y
    = Cert.FfnGateRefIdeal.Read.val_main_v3 (F := Ideal) (m ((c : Thread nD τ).loc main_arg0)) (m ((c : Thread nD τ).loc main_arg1))
        (((cfg0.win 2).blk t).view.emb y) := by
  rw [Cert.FfnGateRefIdeal.Read.val_main_v3_apply, Cert.FfnGateRefIdeal.Read.val_main_v2_apply, Cert.FfnGateRefIdeal.Read.val_main_v1_apply, Cert.FfnGateRefIdeal.Read.val_main_v0_apply]
  pointwise [k0_pay1]
  blk_point [iblk, V, idx t]

/-- After the run the array of window 2 is the reference's. -/
theorem final (c : Dev nD) : (dats m 0 c).arrAt 2 (cfgs 0).N
    = Cert.FfnGateRefIdeal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FfnGateIdeal.Value

end
-- ==== Proof.FfnUpValue.lean ====
module

public import proofs.«01_k».proof.Proof.Gen.FfnUpIdeal.Value
public import proofs.«01_k».proof.Proof.Gen.FfnUpRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnUpIdeal.Value
open Cert.FfnUpIdeal Cert.FfnUpIdeal.Gen

variable (m : (ℓ : Loc nD τ sig) → Buf (Elt Ideal) ℓ)

/-- Which block each window holds at each grid point. -/
theorem idx : ∀ t : Fin cfg0.N, win0_0.index t = ![t.val % 2, 0] ∧ win0_1.index t = ![t.val / 2, 0, 0]
    ∧ win0_2.index t = ![t.val / 2, t.val % 2, 0] ∧ win0_3.index t = ![t.val / 2, t.val % 2, 0]
    ∧ win0_4.index t = ![t.val / 2, t.val % 2, 0] ∧ win0_5.index t = ![t.val / 2, t.val % 2, 0] :=
  (by decide +kernel : ∀ t : Fin grid0.N, _)

/-- The logistic function, written with a quotient. -/
abbrev sg (g : EReal) : EReal := Ideal.div 1 (1 + Ideal.exp g)

/-- The slope's factor, whichever way its products are associated and `0 - g` is written. -/
theorem slope_eq {P P' g g' : EReal} (hp : P = P') (hg : g = g') :
    P * sg (0 - g) * (1 + g * (1 - sg (0 - g))) = sg (-g') * (1 + g' * (1 - sg (-g'))) * P' := by
  subst hp hg
  rw [zero_sub, mul_assoc, mul_comm]

/-- The gate times its logistic value. -/
theorem silu_eq {g g' : EReal} (hg : g = g') : g * sg (0 - g) = g' * sg (-g') := by
  subst hg; rw [zero_sub]

/-- The hidden activation. -/
theorem hidden_eq {P P' g g' : EReal} (hp : P = P') (hg : g = g') :
    g * sg (0 - g) * P = g' * sg (-g') * P' := by
  subst hp hg; rw [zero_sub]

open Cert.FfnUpRefIdeal.Read in
/-- One element of the saved slope times the up projection. -/
theorem point_slope (c : Dev nD) (t : Fin cfg0.N) (y) : k0_pay6 (iblk m c 0 t) (iblk m c 1 t) (iblk m c 2 t) y
    = val_main_v18 (F := Ideal) (m ((c : Thread nD τ).loc main_arg0)) (m ((c : Thread nD τ).loc main_arg1)) (m ((c : Thread nD τ).loc main_arg2)) (((cfg0.win 3).blk t).view.emb y) := by
  rw [val_main_v18_apply, val_main_v17_apply, val_main_v16_apply, val_main_v15_apply, val_main_v14_apply, val_main_v13_apply, val_main_v12_apply, val_main_cst_2_apply, val_main_v11_apply, val_main_v10_apply, val_main_v9_apply, val_main_cst_1_apply, val_main_v8_apply, val_main_v7_apply, val_main_cst_0_apply, val_main_v6_apply, val_main_v5_apply, val_main_cst_apply, val_main_v4_apply, val_main_v3_apply, val_main_v2_apply, val_main_v1_apply, val_main_v0_apply]
  pointwise [k0_pay6, k0_pay3, k0_pay4, k0_pay5, k0_pay2]
  refine slope_eq ?_ ?_ <;> blk_point [iblk, V, idx t]

open Cert.FfnUpRefIdeal.Read in
/-- One element of the gate's activation. -/
theorem point_silu (c : Dev nD) (t : Fin cfg0.N) (y) : k0_pay7 (iblk m c 2 t) y
    = val_main_v22 (F := Ideal) (m ((c : Thread nD τ).loc main_arg2)) (((cfg0.win 4).blk t).view.emb y) := by
  rw [val_main_v22_apply, val_main_v21_apply, val_main_v20_apply, val_main_v19_apply, val_main_call0_v5_apply, val_main_call0_v4_apply, val_main_call0_cst_0_apply, val_main_call0_v3_apply, val_main_call0_v2_apply, val_main_call0_cst_apply, val_main_call0_v1_apply, val_main_call0_v0_apply, val_main_v2_apply, val_main_v1_apply]
  pointwise [k0_pay7, k0_pay3, k0_pay4, k0_pay5]
  refine silu_eq ?_ <;> blk_point [iblk, V, idx t]

open Cert.FfnUpRefIdeal.Read in
/-- One element of the hidden activation. -/
theorem point_hidden (c : Dev nD) (t : Fin cfg0.N) (y) : k0_pay1 (k0_pay8 (iblk m c 0 t) (iblk m c 1 t) (iblk m c 2 t)) y
    = val_main_v27 (F := Ideal) (m ((c : Thread nD τ).loc main_arg0)) (m ((c : Thread nD τ).loc main_arg1)) (m ((c : Thread nD τ).loc main_arg2)) (((cfg0.win 5).blk t).view.emb y) := by
  rw [val_main_v27_apply, val_main_v26_apply, val_main_v25_apply, val_main_v24_apply, val_main_v23_apply, val_main_call1_v5_apply, val_main_call1_v4_apply, val_main_call1_cst_0_apply, val_main_call1_v3_apply, val_main_call1_v2_apply, val_main_call1_cst_apply, val_main_call1_v1_apply, val_main_call1_v0_apply, val_main_v2_apply, val_main_v1_apply, val_main_v0_apply]
  pointwise [k0_pay1, k0_pay8, k0_pay3, k0_pay4, k0_pay5, k0_pay2]
  refine hidden_eq ?_ ?_ <;> blk_point [iblk, V, idx t]

/-- After the run the array of window 3 is the reference's. -/
theorem final_slope (c : Dev nD) : (dats m 0 c).arrAt 3 (cfgs 0).N
    = Cert.FfnUpRefIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point_slope m c t y

/-- After the run the array of window 4 is the reference's. -/
theorem final_silu (c : Dev nD) : (dats m 0 c).arrAt 4 (cfgs 0).N
    = Cert.FfnUpRefIdeal.Read.val_main_v22 (F := Ideal) (m ((c : Thread nD τ).loc main_arg2)) := by
  refine (dats m 0 c).arrAt_eq_of_covers 4 _ (by decide +kernel) fun t _ y => ?_
  blk_simp
  rw [after0_4]; frame_out
  exact point_silu m c t y

/-- After the run the array of window 5 is the reference's. -/
theorem final_hidden (c : Dev nD) : (dats m 0 c).arrAt 5 (cfgs 0).N
    = Cert.FfnUpRefIdeal.Read.val_main_v27 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_hidden m c t y

end Cert.FfnUpIdeal.Value

end
-- ==== Proof.FfnDownValue.lean ====
/- The feed-forward layer's last product: the kernel adds the shards' products, two at a grid point and four points to a block, and at the
   block's last point half of the sum to the residual; over the reals that is the one product with the whole weight. -/
module

public import proofs.«01_k».proof.Proof.Gen.FfnDownIdeal.Value
public import proofs.«01_k».proof.Proof.Gen.FfnDownRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnDownIdeal.Value
open Cert.FfnDownIdeal Cert.FfnDownIdeal.Gen

variable (m : (ℓ : Loc nD τ sig) → Buf (Elt Ideal) ℓ)

/-- Which block each window holds at each grid point. -/
theorem idx : ∀ t : Fin cfg0.N, win0_0.index t = ![t.val % 4, t.val / 8, 0] ∧ win0_1.index t = ![t.val % 4, 0, t.val / 4 % 2]
    ∧ win0_2.index t = ![t.val / 8, t.val / 4 % 2] ∧ win0_3.index t = ![t.val / 8, t.val / 4 % 2] :=
  (by decide +kernel : ∀ t : Fin grid0.N, _)

/-- One shard's product of the activation's block and the weight's block. -/
def prod (x : FVec Ideal S2x1024x688 .bf16) (w : FVec Ideal S2x688x1024 .bf16) (s : Fin 2) (y : S1024x1024.Idx) : EReal :=
  ∑ k : Fin 688, x (ix3 s (y 0) k) * w (ix3 s k (y 1))

/-- The two shards of an activation's block, and of a weight's. -/
abbrev x0s (x : FVec Ideal S2x1024x688 .bf16) : FVec Ideal S1x1024x688 .bf16 :=
  View.ld (Val := Elt Ideal) (e' := .bf16) x (Rect.unit ![0, 0, 0] ![1, 1024, 688] inb_S2x1024x688_S1x1024x688_0_0_0)
abbrev x1s (x : FVec Ideal S2x1024x688 .bf16) : FVec Ideal S1x1024x688 .bf16 :=
  View.ld (Val := Elt Ideal) (e' := .bf16) x (Rect.unit ![1, 0, 0] ![1, 1024, 688] inb_S2x1024x688_S1x1024x688_1_0_0)
abbrev w0s (x : FVec Ideal S2x688x1024 .bf16) : FVec Ideal S1x688x1024 .bf16 :=
  View.ld (Val := Elt Ideal) (e' := .bf16) x (Rect.unit ![0, 0, 0] ![1, 688, 1024] inb_S2x688x1024_S1x688x1024_0_0_0)
abbrev w1s (x : FVec Ideal S2x688x1024 .bf16) : FVec Ideal S1x688x1024 .bf16 :=
  View.ld (Val := Elt Ideal) (e' := .bf16) x (Rect.unit ![1, 0, 0] ![1, 688, 1024] inb_S2x688x1024_S1x688x1024_1_0_0)

theorem x0s_apply (x : FVec Ideal S2x1024x688 .bf16) (a : Fin 1024) (k : Fin 688) : x0s x (ix3 0 a k) = x (ix3 0 a k) :=
  congrArg x (by funext d; fin_cases d <;> apply Fin.ext <;> exact (Rect.idx_unit_val _ _ _ _ _).trans (by simp))
theorem x1s_apply (x : FVec Ideal S2x1024x688 .bf16) (a : Fin 1024) (k : Fin 688) : x1s x (ix3 0 a k) = x (ix3 1 a k) :=
  congrArg x (by funext d; fin_cases d <;> apply Fin.ext <;> exact (Rect.idx_unit_val _ _ _ _ _).trans (by simp))
theorem w0s_apply (x : FVec Ideal S2x688x1024 .bf16) (k : Fin 688) (b : Fin 1024) : w0s x (ix3 0 k b) = x (ix3 0 k b) :=
  congrArg x (by funext d; fin_cases d <;> apply Fin.ext <;> exact (Rect.idx_unit_val _ _ _ _ _).trans (by simp))
theorem w1s_apply (x : FVec Ideal S2x688x1024 .bf16) (k : Fin 688) (b : Fin 1024) : w1s x (ix3 0 k b) = x (ix3 1 k b) :=
  congrArg x (by funext d; fin_cases d <;> apply Fin.ext <;> exact (Rect.idx_unit_val _ _ _ _ _).trans (by simp))

/-- The point's part, as the kernel adds it up: alone, and to what the scratch holds. -/
theorem pay1 (x : FVec Ideal S2x1024x688 .bf16) (w : FVec Ideal S2x688x1024 .bf16) (y : S1024x1024.Idx) :
    k0_pay1 (F := Ideal) (x0s x) (w0s w) (x1s x) (w1s w) y = ∑ s : Fin 2, prod x w s y := by
  unfold prod
  rw [Fin.sum_univ_two]
  pointwise [k0_pay1]
  exact congrArg₂ (· + ·) (Fin.sum_fin_congr fun k => congrArg₂ (· * ·) (x0s_apply _ _ _) (w0s_apply _ _ _))
    (Fin.sum_fin_congr fun k => congrArg₂ (· * ·) (x1s_apply _ _ _) (w1s_apply _ _ _))

theorem pay2 (x : FVec Ideal S2x1024x688 .bf16) (w : FVec Ideal S2x688x1024 .bf16) (acc : FVec Ideal S1024x1024 .f32) (y : S1024x1024.Idx) :
    k0_pay2 (F := Ideal) (x0s x) (w0s w) (x1s x) (w1s w) acc y = acc y + ∑ s : Fin 2, prod x w s y := by
  unfold prod
  rw [Fin.sum_univ_two]
  pointwise [k0_pay2]
  refine congrArg (acc y + ·) ?_
  exact congrArg₂ (· + ·) (Fin.sum_fin_congr fun k => congrArg₂ (· * ·) (x0s_apply _ _ _) (w0s_apply _ _ _))
    (Fin.sum_fin_congr fun k => congrArg₂ (· * ·) (x1s_apply _ _ _) (w1s_apply _ _ _))

/-- What the scratch holds after a point: at the first of a run of four, the point's part; -/
theorem scratch_first (c : Dev nD) (t : Fin cfg0.N) (h : t.val % 4 = 0) (y) :
    (outsAt0 m c t.val t.isLt).2 y = (fun _ => (0 : EReal)) y + ∑ s : Fin 2, prod (iblk m c 0 t) (iblk m c 1 t) s y := by
  rw [outsAt0_A m c t h (by omega) (by omega)]; frame_out
  rw [zero_add]
  exact pay1 _ _ y

/-- at a later one, that added to what it held. -/
theorem scratch_next (c : Dev nD) (t : Fin cfg0.N) (h : ¬ t.val % 4 = 0) (y) :
    (outsAt0 m c t.val t.isLt).2 y = (outsAt0 m c (t.val - 1) (Nat.lt_of_le_of_lt (Nat.sub_le _ _) t.isLt)).2 y
      + ∑ s : Fin 2, prod (iblk m c 0 t) (iblk m c 1 t) s y := by
  by_cases h2 : t.val % 4 = 3
  · rw [outsAt0_C m c t h (by omega) h2]; frame_out
    refine (pay2 (iblk m c 0 t) (iblk m c 1 t) _ y).trans ?_
    rw [read_unread_whole]
  · rw [outsAt0_B m c t h (by omega) h2]; frame_out
    refine (pay2 (iblk m c 0 t) (iblk m c 1 t) _ y).trans ?_
    rw [read_unread_whole]

/-- At a run's last point the result's block is the residual and half of the scratch. -/
theorem block_eq (c : Dev nD) (t : Fin cfg0.N) (h : t.val % 4 = 3) :
    (outsAt0 m c t.val t.isLt).1 = k0_pay3 (F := Ideal) (outsAt0 m c t.val t.isLt).2 (iblk m c 2 t) := by
  rw [outsAt0_C m c t (by omega) (by omega) h]; frame_out

/-- The parts of a run, added: the whole contraction. -/
theorem run_sum (c : Dev nD) (t : Fin cfg0.N) (h : t.val % 4 = 4 - 1) (y : S1024x1024.Idx) :
    ∑ s : Fin 4, ∑ p : Fin 2, prod (iblk m c 0 ⟨4 * (t.val / 4) + s.val, Pipeline.run_point_lt_of_flush t h s⟩)
        (iblk m c 1 ⟨4 * (t.val / 4) + s.val, Pipeline.run_point_lt_of_flush t h s⟩) p y
      = Cert.FfnDownRefIdeal.Read.val_main_v0 (F := Ideal) (m ((c : Thread nD τ).loc main_arg1)) (m ((c : Thread nD τ).loc main_arg2))
        (((cfg0.win 3).blk t).view.emb y) := by
  have ht : t.val < 16 := lt_of_lt_of_eq t.isLt N_0
  rw [Cert.FfnDownRefIdeal.Read.val_main_v0_apply]
  refine Eq.trans ?_ (Fin.sum_mul_add_fin 8 688 _)
  refine Eq.trans ?_ (Fin.sum_mul_add_fin 4 2 _)
  refine Fin.sum_fin_congr fun s => Fin.sum_fin_congr fun p => ?_
  unfold prod
  refine Fin.sum_fin_congr fun k => ?_
  blk_point [iblk, V, idx t, idx ⟨_, Pipeline.run_point_lt_of_flush t h s⟩]

/-- The scratch at a run's last point: the whole contraction. -/
theorem scratch_last (c : Dev nD) (t : Fin cfg0.N) (h : t.val % 4 = 4 - 1) (y : S1024x1024.Idx) :
    (outsAt0 m c t.val t.isLt).2 y = Cert.FfnDownRefIdeal.Read.val_main_v0 (F := Ideal) (m ((c : Thread nD τ).loc main_arg1)) (m ((c : Thread nD τ).loc main_arg2))
        (((cfg0.win 3).blk t).view.emb y) := by
  refine (Pipeline.eq_sum_fin_of_reset_step_apply_of_flush (fun n h => (outsAt0 m c n h).2) 4 (fun _ => (0 : EReal))
    (fun t y => ∑ s : Fin 2, prod (iblk m c 0 t) (iblk m c 1 t) s y) (scratch_first m c) (scratch_next m c) t h y).trans ?_
  rw [zero_add]
  exact run_sum m c t h y

/-- The residual and half of the sum. -/
theorem pay3 (a h : FVec Ideal S1024x1024 .f32) (y : S1024x1024.Idx) :
    k0_pay3 (F := Ideal) a h y = h y + FloatOps.ofBits (F := Ideal) .f32 0x3F000000#32 * a y := rfl

/-- The residual's block. -/
theorem side (c : Dev nD) (t : Fin cfg0.N) (y : S1024x1024.Idx) :
    (iblk m c 2 t : FVec Ideal S1024x1024 .f32) y = (m ((c : Thread nD τ).loc main_arg0)) (((cfg0.win 3).blk t).view.emb y) := by
  blk_point [iblk, V, idx t]

/-- After the run the result's array is the reference's. -/
theorem final (c : Dev nD) : (dats m 0 c).arrAt 3 (cfgs 0).N
    = Cert.FfnDownRefIdeal.Read.val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, block_eq m c t h]
  refine (pay3 _ _ y).trans ?_
  rw [scratch_last m c t h y, side m c t y]
  rfl

end Cert.FfnDownIdeal.Value

end
-- ==== Proof.InProjValue.lean ====
module

public import proofs.«01_k».proof.Proof.Gen.InProjIdeal.Value
public import proofs.«01_k».proof.Proof.Gen.InProjRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InProjIdeal.Value
open Cert.InProjIdeal Cert.InProjIdeal.Gen

variable (m : (ℓ : Loc nD τ sig) → Buf (Elt Ideal) ℓ)

/-- Which block each window holds at each grid point. -/
theorem idx : ∀ t : Fin cfg0.N, win0_0.index t = ![t.val % 2, 0] ∧ win0_1.index t = ![t.val / 2, 0, 0]
    ∧ win0_2.index t = ![t.val / 2, t.val % 2, 0] :=
  (by decide +kernel : ∀ t : Fin grid0.N, _)

/-- One element of the projection. -/
theorem point (c : Dev nD) (t : Fin cfg0.N) (y) : k0_pay1 (iblk m c 0 t) (iblk m c 1 t) y
    = Cert.InProjRefIdeal.Read.val_main_v2 (F := Ideal) (m ((c : Thread nD τ).loc main_arg0)) (m ((c : Thread nD τ).loc main_arg1))
        (((cfg0.win 2).blk t).view.emb y) := by
  rw [Cert.InProjRefIdeal.Read.val_main_v2_apply, Cert.InProjRefIdeal.Read.val_main_v1_apply, Cert.InProjRefIdeal.Read.val_main_v0_apply]
  pointwise [k0_pay1]
  blk_point [iblk, V, idx t]

/-- After the run the array of window 2 is the reference's. -/
theorem final (c : Dev nD) : (dats m 0 c).arrAt 2 (cfgs 0).N
    = Cert.InProjRefIdeal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.InProjIdeal.Value

end
-- ==== Proof.MixMergeValue.lean ====
/- The merge of the two branches: the gates (the logistic function of the input projection's last parts) times the branches' output
   projections, and those projections themselves. -/
module

public import proofs.«01_k».proof.Proof.Gen.MixMergeIdeal.Value
public import proofs.«01_k».proof.Proof.Gen.MixMergeRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixMergeIdeal.Value
open Cert.MixMergeIdeal Cert.MixMergeIdeal.Gen

variable (m : (ℓ : Loc nD τ sig) → Buf (Elt Ideal) ℓ)

/-- Which block each window holds at each grid point. -/
theorem idx : ∀ t : Fin cfg0.N, win0_0.index t = ![t.val % 2, 0]
    ∧ win0_1.index t = ![t.val % 2, 0]
    ∧ win0_2.index t = ![t.val / 2, 0, 0]
    ∧ win0_3.index t = ![t.val / 2, 0, 0]
    ∧ win0_4.index t = ![4 + t.val / 2 / 4, t.val % 2, t.val / 2 % 4]
    ∧ win0_5.index t = ![6 + t.val / 2 / 4, t.val % 2, t.val / 2 % 4]
    ∧ win0_6.index t = ![t.val % 2, t.val / 2]
    ∧ win0_7.index t = ![t.val % 2, t.val / 2]
    ∧ win0_8.index t = ![t.val % 2, t.val / 2] :=
  (by decide +kernel : ∀ t : Fin grid0.N, _)

/-- The logistic function, written with a quotient. -/
abbrev sg (g : EReal) : EReal := Ideal.div 1 (1 + Ideal.exp g)

/-- The gated sum. -/
theorem merged_eq {P P' Q Q' g g' h h' : EReal} (hp : P = P') (hq : Q = Q') (hg : g = g') (hh : h = h') :
    sg (0 - g) * P + sg (0 - h) * Q = sg (-g') * P' + sg (-h') * Q' := by
  subst hp hq hg hh; rw [zero_sub, zero_sub]

open Cert.MixMergeRefIdeal.Read in
/-- One element of the gated sum. -/
theorem point_merged (c : Dev nD) (t : Fin cfg0.N) (y) : k0_pay5 (iblk m c 0 t) (iblk m c 2 t) (iblk m c 1 t) (iblk m c 3 t) (iblk m c 4 t) (iblk m c 5 t) y
    = val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 6).blk t).view.emb y) := by
  rw [val_main_v19_apply, val_main_v18_apply, val_main_v17_apply, val_main_v16_apply, val_main_v15_apply, val_main_cst_2_apply, val_main_v14_apply, val_main_v13_apply, val_main_cst_1_apply, val_main_v12_apply, val_main_v11_apply, val_main_v10_apply, val_main_v9_apply, val_main_v8_apply, val_main_cst_0_apply, val_main_v7_apply, val_main_v6_apply, val_main_cst_apply, val_main_v5_apply, val_main_v4_apply, val_main_v3_apply, val_main_v2_apply, val_main_v1_apply, val_main_v0_apply]
  pointwise [k0_pay5, k0_pay3, k0_pay4]
  refine merged_eq ?_ ?_ ?_ ?_ <;> blk_point [iblk, V, idx t]

/-- After the run the array of window 6 is the reference's. -/
theorem final_merged (c : Dev nD) : (dats m 0 c).arrAt 6 (cfgs 0).N
    = Cert.MixMergeRefIdeal.Read.val_main_v19 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; frame_out
  exact point_merged m c t y

open Cert.MixMergeRefIdeal.Read in
/-- One element of the SSM branch's projection. -/
theorem point_ssm (c : Dev nD) (t : Fin cfg0.N) (y) : k0_pay1 (k0_pay3 (iblk m c 0 t) (iblk m c 2 t)) y
    = val_main_v20 (F := Ideal) (m ((c : Thread nD τ).loc main_arg0)) (m ((c : Thread nD τ).loc main_arg3))
        (((cfg0.win 7).blk t).view.emb y) := by
  rw [val_main_v20_apply, val_main_v2_apply]
  pointwise [k0_pay1, k0_pay3]
  blk_point [iblk, V, idx t]

/-- After the run the array of window 7 is the reference's. -/
theorem final_ssm (c : Dev nD) : (dats m 0 c).arrAt 7 (cfgs 0).N
    = Cert.MixMergeRefIdeal.Read.val_main_v20 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  exact point_ssm m c t y

open Cert.MixMergeRefIdeal.Read in
/-- One element of the convolution branch's projection. -/
theorem point_conv (c : Dev nD) (t : Fin cfg0.N) (y) : k0_pay2 (k0_pay4 (iblk m c 1 t) (iblk m c 3 t)) y
    = val_main_v21 (F := Ideal) (m ((c : Thread nD τ).loc main_arg1)) (m ((c : Thread nD τ).loc main_arg4))
        (((cfg0.win 8).blk t).view.emb y) := by
  rw [val_main_v21_apply, val_main_v3_apply]
  pointwise [k0_pay2, k0_pay4]
  blk_point [iblk, V, idx t]

/-- After the run the array of window 8 is the reference's. -/
theorem final_conv (c : Dev nD) : (dats m 0 c).arrAt 8 (cfgs 0).N
    = Cert.MixMergeRefIdeal.Read.val_main_v21 (F := Ideal) (m ((c : Thread nD τ).loc main_arg1)) (m ((c : Thread nD τ).loc main_arg4)) := by
  refine (dats m 0 c).arrAt_eq_of_covers 8 _ (by decide +kernel) fun t _ y => ?_
  blk_simp
  rw [after0_8]; frame_out
  exact point_conv m c t y

end Cert.MixMergeIdeal.Value

end
-- ==== Proof.MixOutValue.lean ====
module

public import proofs.«01_k».proof.Proof.Gen.MixOutIdeal.Value
public import proofs.«01_k».proof.Proof.Gen.MixOutRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MixOutIdeal.Value
open Cert.MixOutIdeal Cert.MixOutIdeal.Gen

variable (m : (ℓ : Loc nD τ sig) → Buf (Elt Ideal) ℓ)

/-- Which block each window holds at each grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

/-- One element of the residual plus the projection. -/
theorem point (c : Dev nD) (t : Fin cfg0.N) (y) : k0_pay1 (iblk m c 0 t) (iblk m c 1 t) (iblk m c 2 t) y
    = Cert.MixOutRefIdeal.Read.val_main_v1 (F := Ideal) (m ((c : Thread nD τ).loc main_arg0)) (m ((c : Thread nD τ).loc main_arg1)) (m ((c : Thread nD τ).loc main_arg2))
        (((cfg0.win 3).blk t).view.emb y) := by
  rw [Cert.MixOutRefIdeal.Read.val_main_v1_apply, Cert.MixOutRefIdeal.Read.val_main_v0_apply]
  pointwise [k0_pay1]
  refine congrArg₂ (· + ·) ?_ ?_ <;> blk_point [iblk, V, idx t]

/-- After the run the array of window 3 is the reference's. -/
theorem final (c : Dev nD) : (dats m 0 c).arrAt 3 (cfgs 0).N
    = Cert.MixOutRefIdeal.Read.val_main_v1 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.MixOutIdeal.Value

end
-- ==== Proof.ScanRecur.lean ====
/- The recurrence of the S5 scan and of its reverse pass, at one lane (one state row and one lane of it): sequences of numbers indexed
   by the step, over any interpretation of the floats. -/
module

public import Idealize.ShloMosaic.Lib.Pipeline.ValueKit
public import Idealize.ShloMosaic.Lib.WritesUnit
public import Idealize.ShloMosaic.Lib.ValueLayout

@[expose] public section

noncomputable section

namespace Cert.Recur

open Idealize.ShloMosaic

variable {F : FTy → Type} [FloatOps F]

/-- The number the carried state starts from. -/
def start : F .f32 := Scalar.ofBits .f32 0x00000000#32

/-- One step of the scan: the state `(re, im)` times the multiplier `(ar, ai)`, plus the input `(x, y)`. -/
def step (ar ai x y : F .f32) (s : F .f32 × F .f32) : F .f32 × F .f32 :=
  (FloatOps.addf (FloatOps.subf (FloatOps.mulf ar s.1) (FloatOps.mulf ai s.2)) x,
   FloatOps.addf (FloatOps.addf (FloatOps.mulf ar s.2) (FloatOps.mulf ai s.1)) y)

/-- The state after `k` steps over the inputs `x`, `y`. -/
def state (ar ai : F .f32) (x y : ℕ → F .f32) : ℕ → F .f32 × F .f32
  | 0 => (start, start)
  | k + 1 => step ar ai (x k) (y k) (state ar ai x y k)

/-- What the reverse pass carries: the adjoint `lam` of the state and the sums `g` of the multiplier's gradient. -/
structure Adj (F : FTy → Type) where
  lre : F .f32
  lim : F .f32
  gre : F .f32
  gim : F .f32

/-- One step of the reverse pass: the sums take the product of the adjoint and the conjugate of the state `(sr, si)`; then the adjoint,
    times the conjugate of the multiplier, takes the cotangent `(dr, di)`. -/
def back (ar ai dr di sr si : F .f32) (a : Adj F) : Adj F where
  lre := FloatOps.addf (FloatOps.addf dr (FloatOps.mulf ar a.lre)) (FloatOps.mulf ai a.lim)
  lim := FloatOps.subf (FloatOps.addf di (FloatOps.mulf ar a.lim)) (FloatOps.mulf ai a.lre)
  gre := FloatOps.addf (FloatOps.addf a.gre (FloatOps.mulf a.lre sr)) (FloatOps.mulf a.lim si)
  gim := FloatOps.subf (FloatOps.addf a.gim (FloatOps.mulf a.lim sr)) (FloatOps.mulf a.lre si)

/-- What the reverse pass carries after `k` steps; its inputs are indexed by ITS steps, the last row of the arrays first. -/
def adj (ar ai : F .f32) (dr di sr si : ℕ → F .f32) : ℕ → Adj F
  | 0 => ⟨start, start, start, start⟩
  | k + 1 => back ar ai (dr k) (di k) (sr k) (si k) (adj ar ai dr di sr si k)

/-- Rows of the arrays, lanes of a row. -/
abbrev Row : Shape := ⟨2, ![32, 128]⟩
abbrev Blk : Shape := ⟨3, ![256, 32, 128]⟩
abbrev Arr : Shape := ⟨3, ![2048, 32, 128]⟩

/-- Lane `j` of the rows of an array as a sequence. Past the last row it is constant, and never read. -/
def lane (A : Arr.Idx → F .f32) (j : Row.Idx) (k : ℕ) : F .f32 :=
  if h : k < 2048 then A (ix3 ⟨k, h⟩ (j 0) (j 1)) else start

/-- The same from the last row up. -/
def laneUp (A : Arr.Idx → F .f32) (j : Row.Idx) (k : ℕ) : F .f32 := lane A j (2047 - k)

theorem lane_of_lt (A : Arr.Idx → F .f32) (j : Row.Idx) (k : ℕ) (h : k < 2048) : lane A j k = A (ix3 ⟨k, h⟩ (j 0) (j 1)) := dif_pos h

/-- The states of the scan of `X`, `Y` by `P`, `Q` (arrays of rows): row `k` is the state after `k + 1` steps. -/
def states (P Q : Row.Idx → F .f32) (X Y : Arr.Idx → F .f32) (j : Row.Idx) (k : ℕ) : F .f32 × F .f32 :=
  state (P j) (Q j) (lane X j) (lane Y j) k

/-- What the reverse pass carries over the cotangents `U`, `V` and the states `S`, `T`. -/
def adjs (P Q : Row.Idx → F .f32) (U V S T : Arr.Idx → F .f32) (j : Row.Idx) (k : ℕ) : Adj F :=
  adj (P j) (Q j) (laneUp U j) (laneUp V j) (laneUp S j) (laneUp T j) k

end Cert.Recur
-- ==== Proof.ScanFwd.lean ====
/- The loop of the forward scan: what its 256 trips over one block of the inputs carry and leave in the two result blocks, read as the
   recurrence of ScanRecur at every lane. -/
module

public import proofs.«01_k».proof.Proof.Gen.ScanIdeal.Loops
public import proofs.«01_k».proof.Proof.ScanRecur

@[expose] public section

set_option maxRecDepth 8192

noncomputable section

namespace Cert.ScanIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ScanIdeal.Gen

variable {F : FTy → Type} [FloatOps F]

/-- One row of a block. -/
abbrev rowR (off : Fin 3 → ℕ) (inb : ∀ a, off a + S1x32x128.size a ≤ S256x32x128.size a) : Rect S256x32x128 :=
  Rect.unit (s := S256x32x128) off S1x32x128.size inb

theorem trips_eq : k0_t1_loop.trips = 256 := by decide

/-- A row of a block, read through its rectangle at one lane. -/
theorem row_read {e : EltTy} (B : S256x32x128.Idx → Elt F e) (off : Fin 3 → ℕ) (inb) (k : Fin 256) (h : off = ![k.val, 0, 0]) (a : Fin 32) (b : Fin 128) :
    View.ld B (rowR off inb) (ix3 (0 : Fin 1) a b) = B (ix3 k a b) := by
  subst h
  rw [View.ld_apply]
  congr 1
  funext d
  match d with
  | ⟨0, _⟩ => exact Fin.ext (show k.val + 1 * 0 = k.val by omega)
  | ⟨1, _⟩ => exact Fin.ext (show 0 + 1 * a.val = a.val by omega)
  | ⟨2, _⟩ => exact Fin.ext (show 0 + 1 * b.val = b.val by omega)

/-- The row that was written last reads its payload. -/
theorem row_hit {κ : Kind} {sp : Space} {e : EltTy} (v : View sig κ sp S256x32x128 e) (f : v.ty.Contents (Elt F)) (off : Fin 3 → ℕ) (inb)
    (w : S1x32x128.Idx → Elt F e) (L : List (View.Piece (Elt F) S256x32x128 e)) (k : Fin 256) (h : off = ![k.val, 0, 0]) (a : Fin 32) (b : Fin 128) :
    v.read (Elt F) (v.writes (Elt F) f (⟨rowR off inb, w⟩ :: L)) (ix3 k a b) = w (ix3 (0 : Fin 1) a b) :=
  View.read_writes_cons_unit_of_mem v f inb w L _ (ix3 (0 : Fin 1) a b) h fun d => match d with
    | ⟨0, _⟩ => (show k.val = k.val + 0 by omega)
    | ⟨1, _⟩ => (show a.val = 0 + a.val by omega)
    | ⟨2, _⟩ => (show b.val = 0 + b.val by omega)

/-- The other rows read what was there. -/
theorem row_miss {κ : Kind} {sp : Space} {e : EltTy} (v : View sig κ sp S256x32x128 e) (f : v.ty.Contents (Elt F)) (off : Fin 3 → ℕ) (inb)
    (w : S1x32x128.Idx → Elt F e) (L : List (View.Piece (Elt F) S256x32x128 e)) (k l : Fin 256) (h : off = ![k.val, 0, 0]) (hl : l.val ≠ k.val)
    (a : Fin 32) (b : Fin 128) :
    v.read (Elt F) (v.writes (Elt F) f (⟨rowR off inb, w⟩ :: L)) (ix3 l a b) = v.read (Elt F) (v.writes (Elt F) f L) (ix3 l a b) :=
  View.read_writes_cons_unit_of_not_mem v f inb w L _ h (0 : Fin 3) (show l.val < k.val ∨ k.val + 1 ≤ l.val by omega)

/-- A row read as an array of 32 by 128. -/
theorem cast_row {α : Type} (v : S1x32x128.Idx → α) (h) (a : Fin 32) (b : Fin 128) :
    shapeCast S32x128 v h (ix2 a b) = v (ix3 (0 : Fin 1) a b) := ValueIdx.shapeCast_1ab_ab_apply v h a b

/-- An array of 32 by 128 as a row. -/
theorem row_cast {α : Type} (v : S32x128.Idx → α) (h) (a : Fin 32) (b : Fin 128) :
    shapeCast S1x32x128 v h (ix3 (0 : Fin 1) a b) = v (ix2 a b) := ValueIdx.shapeCast_ab_1ab_apply v h 0 a b

theorem pay4_apply (v3 v4 : Vec F S32x128 .f32) (p q : FVec F S32x128 .f32) (v : Vec F S1x32x128 .f32) (a : Fin 32) (b : Fin 128) (y : F .f32) :
    k0_pay4 v3 v4 p q v (ix2 a b) = (Recur.step (v3 (ix2 a b)) (v4 (ix2 a b)) (v (ix3 (0 : Fin 1) a b)) y (p (ix2 a b), q (ix2 a b))).1 :=
  congrArg (FloatOps.addf (F := F) (FloatOps.subf (FloatOps.mulf (v3 (ix2 a b)) (p (ix2 a b))) (FloatOps.mulf (v4 (ix2 a b)) (q (ix2 a b)))))
    (cast_row v shapeCasts_S1x32x128_S32x128 a b)

theorem pay5_apply (v3 v4 : Vec F S32x128 .f32) (p q : FVec F S32x128 .f32) (v : Vec F S1x32x128 .f32) (a : Fin 32) (b : Fin 128) (x : F .f32) :
    k0_pay5 v3 v4 p q v (ix2 a b) = (Recur.step (v3 (ix2 a b)) (v4 (ix2 a b)) x (v (ix3 (0 : Fin 1) a b)) (p (ix2 a b), q (ix2 a b))).2 :=
  congrArg (FloatOps.addf (F := F) (FloatOps.addf (FloatOps.mulf (v3 (ix2 a b)) (q (ix2 a b))) (FloatOps.mulf (v4 (ix2 a b)) (p (ix2 a b)))))
    (cast_row v shapeCasts_S1x32x128_S32x128 a b)

section Trip

variable (𝒱 : Variants) (c : Dev nD) (bd : Option 𝒱.V) (i : grid0.Coords)
  (arg1 : Memref sig .tc .vmem S256x32x128 .f32) (harg1 : arg1.IsWhole)
  (arg2 : Memref sig .tc .vmem S256x32x128 .f32) (harg2 : arg2.IsWhole)
  (arg3 : Memref sig .tc .vmem S32x128 .f32) (harg3 : arg3.IsWhole)
  (arg4 : Memref sig .tc .vmem S32x128 .f32) (harg4 : arg4.IsWhole)
  (arg5 : Memref sig .tc .vmem S256x32x128 .f32) (harg5 : arg5.IsWhole)
  (arg6 : Memref sig .tc .vmem S256x32x128 .f32) (harg6 : arg6.IsWhole)
  (arg7 : Memref sig .tc .vmem S2x32x128 .f32) (harg7 : arg7.IsWhole)
  (v3 v4 : Vec F S32x128 .f32)
  (X1 : BufTy.Contents (Elt F) arg1.view.ty) (X2 : BufTy.Contents (Elt F) arg2.view.ty)

/-- What trip `k` yields. -/
theorem tripR_eq (k : Fin k0_t1_loop.trips) (acc : FVec F S32x128 .f32 × FVec F S32x128 .f32) :
    tripR_k0_t1 𝒱 c bd i arg1 harg1 arg2 harg2 arg3 harg3 arg4 harg4 arg5 harg5 arg6 harg6 arg7 harg7 v3 v4 X1 X2 k acc
      = (k0_pay4 v3 v4 acc.1 acc.2 (View.ld (arg1.view.read (Elt F) X1) (rowR (k0_off1 k) (k0_off1_inb k))),
         k0_pay5 v3 v4 acc.1 acc.2 (View.ld (arg2.view.read (Elt F) X2) (rowR (k0_off1 k) (k0_off1_inb k)))) := by
  unfold tripR_k0_t1 trip_k0_t1
  rfl

/-- What trip `k` writes: its row of either result block. -/
theorem tripL_eq (k : Fin k0_t1_loop.trips) (acc : FVec F S32x128 .f32 × FVec F S32x128 .f32) :
    tripL_k0_t1 𝒱 c bd i arg1 harg1 arg2 harg2 arg3 harg3 arg4 harg4 arg5 harg5 arg6 harg6 arg7 harg7 v3 v4 X1 X2 k acc
      = ([⟨rowR (k0_off1 k) (k0_off1_inb k), k0_pay6 v3 v4 acc.1 acc.2 (View.ld (arg1.view.read (Elt F) X1) (rowR (k0_off1 k) (k0_off1_inb k)))⟩],
         [⟨rowR (k0_off1 k) (k0_off1_inb k), k0_pay7 v3 v4 acc.1 acc.2 (View.ld (arg2.view.read (Elt F) X2) (rowR (k0_off1 k) (k0_off1_inb k)))⟩]) := by
  unfold tripL_k0_t1 trip_k0_t1
  rfl

/-- THE LOOP: with the carried value standing at step `n` of the recurrence at entry, it stands at step `n + k` before trip `k`, and the
    rows below `k` of the result blocks hold the states after their steps. -/
theorem st_eq (x y : S32x128.Idx → ℕ → F .f32) (n : ℕ) (init : FVec F S32x128 .f32 × FVec F S32x128 .f32)
    (hx : ∀ (k : Fin 256) a b, arg1.view.read (Elt F) X1 (ix3 k a b) = x (ix2 a b) (n + k.val))
    (hy : ∀ (k : Fin 256) a b, arg2.view.read (Elt F) X2 (ix3 k a b) = y (ix2 a b) (n + k.val))
    (hi : ∀ j, (init.1 j, init.2 j) = Recur.state (v3 j) (v4 j) (x j) (y j) n)
    (G5 : BufTy.Contents (Elt F) arg5.view.ty) (G6 : BufTy.Contents (Elt F) arg6.view.ty) (k : ℕ) (hk : k ≤ 256) :
    let st := st_k0_t1 (F := F) 𝒱 c bd i arg1 harg1 arg2 harg2 arg3 harg3 arg4 harg4 arg5 harg5 arg6 harg6 arg7 harg7 v3 v4 X1 X2 init k
    (∀ j, (st.1.1 j, st.1.2 j) = Recur.state (v3 j) (v4 j) (x j) (y j) (n + k))
      ∧ (∀ (l : Fin 256) a b, l.val < k → arg5.view.read (Elt F) (arg5.view.writes (Elt F) G5 st.2.1) (ix3 l a b)
          = (Recur.state (v3 (ix2 a b)) (v4 (ix2 a b)) (x (ix2 a b)) (y (ix2 a b)) (n + l.val + 1)).1)
      ∧ (∀ (l : Fin 256) a b, l.val < k → arg6.view.read (Elt F) (arg6.view.writes (Elt F) G6 st.2.2) (ix3 l a b)
          = (Recur.state (v3 (ix2 a b)) (v4 (ix2 a b)) (x (ix2 a b)) (y (ix2 a b)) (n + l.val + 1)).2) := by
  induction k with
  | zero => exact ⟨hi, fun l _ _ h => absurd h (Nat.not_lt_zero _), fun l _ _ h => absurd h (Nat.not_lt_zero _)⟩
  | succ k ih =>
    intro st
    obtain ⟨h1, h2, h3⟩ := ih (by omega)
    have hkt : k < k0_t1_loop.trips := by rw [trips_eq]; omega
    let K : Fin k0_t1_loop.trips := ⟨k, hkt⟩
    let K' : Fin 256 := ⟨k, by omega⟩
    have hoff : k0_off1 K = ![K'.val, 0, 0] := k0_off1_eq K
    have hst := st_k0_t1_succ (F := F) 𝒱 c bd i arg1 harg1 arg2 harg2 arg3 harg3 arg4 harg4 arg5 harg5 arg6 harg6 arg7 harg7 v3 v4 X1 X2 init K
    rw [tripR_eq, tripL_eq] at hst
    set old := st_k0_t1 (F := F) 𝒱 c bd i arg1 harg1 arg2 harg2 arg3 harg3 arg4 harg4 arg5 harg5 arg6 harg6 arg7 harg7 v3 v4 X1 X2 init K.val with hold
    have hst' : st = _ := hst
    have hs : ∀ j, Recur.state (v3 j) (v4 j) (x j) (y j) (n + (k + 1)) = Recur.step (v3 j) (v4 j) (x j (n + k)) (y j (n + k)) (old.1.1 j, old.1.2 j) := fun j => by
      rw [h1 j]; rfl
    have r1 : ∀ a b, View.ld (arg1.view.read (Elt F) X1) (rowR (k0_off1 K) (k0_off1_inb K)) (ix3 (0 : Fin 1) a b) = x (ix2 a b) (n + k) := fun a b => by
      rw [row_read _ _ _ K' hoff, hx]
    have r2 : ∀ a b, View.ld (arg2.view.read (Elt F) X2) (rowR (k0_off1 K) (k0_off1_inb K)) (ix3 (0 : Fin 1) a b) = y (ix2 a b) (n + k) := fun a b => by
      rw [row_read _ _ _ K' hoff, hy]
    have p4 : ∀ a b, k0_pay4 v3 v4 old.1.1 old.1.2 (View.ld (arg1.view.read (Elt F) X1) (rowR (k0_off1 K) (k0_off1_inb K))) (ix2 a b)
        = (Recur.state (v3 (ix2 a b)) (v4 (ix2 a b)) (x (ix2 a b)) (y (ix2 a b)) (n + (k + 1))).1 := fun a b => by
      rw [pay4_apply v3 v4 _ _ _ a b (y (ix2 a b) (n + k)), r1, hs]
    have p5 : ∀ a b, k0_pay5 v3 v4 old.1.1 old.1.2 (View.ld (arg2.view.read (Elt F) X2) (rowR (k0_off1 K) (k0_off1_inb K))) (ix2 a b)
        = (Recur.state (v3 (ix2 a b)) (v4 (ix2 a b)) (x (ix2 a b)) (y (ix2 a b)) (n + (k + 1))).2 := fun a b => by
      rw [pay5_apply v3 v4 _ _ _ a b (x (ix2 a b) (n + k)), r2, hs]
    rw [hst']
    refine ⟨fun j => ?_, fun l a b hl => ?_, fun l a b hl => ?_⟩
    · obtain ⟨a, b, rfl⟩ : ∃ a b, j = ix2 a b := ⟨j 0, j 1, eq_ix2 j⟩
      exact Prod.ext (p4 a b) (p5 a b)
    · by_cases h : l.val = k
      · obtain rfl : l = K' := Fin.ext h
        exact (row_hit _ _ _ _ _ _ K' hoff a b).trans ((row_cast _ _ a b).trans (p4 a b))
      · exact (row_miss _ _ _ _ _ _ K' l hoff h a b).trans (h2 l a b (by omega))
    · by_cases h : l.val = k
      · obtain rfl : l = K' := Fin.ext h
        exact (row_hit _ _ _ _ _ _ K' hoff a b).trans ((row_cast _ _ a b).trans (p5 a b))
      · exact (row_miss _ _ _ _ _ _ K' l hoff h a b).trans (h3 l a b (by omega))

end Trip

end Cert.ScanIdeal.Fwd
-- ==== Proof.ScanFwdBody.lean ====
/- One point of the forward scan's grid: the body on its staging blocks, from the state carried before the block to the state after it. -/
module

public import proofs.«01_k».proof.Proof.ScanFwd
public import proofs.«01_k».proof.Proof.Gen.ScanIdeal.Points

@[expose] public section

set_option maxRecDepth 8192

noncomputable section

namespace Cert.ScanIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ScanIdeal.Gen

variable {F : FTy → Type} [FloatOps F]

local notation "𝕄" => MT nD τ sig Unit (Elt F) ℕ (UR sig nD τ) ℕ

/-- The first point of the grid: the body's test of the grid coordinate. -/
abbrev first (i : grid0.Coords) : Prop :=
  Scalar.cmpi .ne (Scalar.extui (Scalar.cmpi .eq (BitVec.ofNat 32 (i 0).val) 0#32)) 0#32 = (1#1 : BitVec 1)

/-- The lane of an index of a block (or of the carried pair of rows). -/
abbrev laneOf (r : S256x32x128.Idx) : S32x128.Idx := ix2 (n0 := 32) (n1 := 128) (r 1) (r 2)
abbrev laneOf2 (r : S2x32x128.Idx) : S32x128.Idx := ix2 (n0 := 32) (n1 := 128) (r 1) (r 2)

/-- The states of one block, the recurrence standing at step `n` before it: real parts and imaginary parts. -/
def blockRe (p q : S32x128.Idx → F .f32) (x y : S32x128.Idx → ℕ → F .f32) (n : ℕ) : Vec F S256x32x128 .f32 :=
  fun r => (Recur.state (p (laneOf r)) (q (laneOf r)) (x (laneOf r)) (y (laneOf r)) (n + (r 0).val + 1)).1
def blockIm (p q : S32x128.Idx → F .f32) (x y : S32x128.Idx → ℕ → F .f32) (n : ℕ) : Vec F S256x32x128 .f32 :=
  fun r => (Recur.state (p (laneOf r)) (q (laneOf r)) (x (laneOf r)) (y (laneOf r)) (n + (r 0).val + 1)).2

/-- The scratch that carries the state: its real parts in row 0, its imaginary parts in row 1. -/
def carry (p q : S32x128.Idx → F .f32) (x y : S32x128.Idx → ℕ → F .f32) (n : ℕ) : Vec F S2x32x128 .f32 :=
  fun r => if (r 0).val = 0 then (Recur.state (p (laneOf2 r)) (q (laneOf2 r)) (x (laneOf2 r)) (y (laneOf2 r)) n).1
    else (Recur.state (p (laneOf2 r)) (q (laneOf2 r)) (x (laneOf2 r)) (y (laneOf2 r)) n).2

/-- A row of the carried pair. -/
abbrev pairR (off : Fin 3 → ℕ) (inb : ∀ a, off a + S1x32x128.size a ≤ S2x32x128.size a) : Rect S2x32x128 :=
  Rect.unit (s := S2x32x128) off S1x32x128.size inb

theorem pair_read {e : EltTy} (B : S2x32x128.Idx → Elt F e) (off : Fin 3 → ℕ) (inb) (k : Fin 2) (h : off = ![k.val, 0, 0]) (a : Fin 32) (b : Fin 128) :
    View.ld B (pairR off inb) (ix3 (0 : Fin 1) a b) = B (ix3 k a b) := by
  subst h
  rw [View.ld_apply]
  congr 1
  funext d
  match d with
  | ⟨0, _⟩ => exact Fin.ext (show k.val + 1 * 0 = k.val by omega)
  | ⟨1, _⟩ => exact Fin.ext (show 0 + 1 * a.val = a.val by omega)
  | ⟨2, _⟩ => exact Fin.ext (show 0 + 1 * b.val = b.val by omega)

theorem pair_hit {κ : Kind} {sp : Space} {e : EltTy} (v : View sig κ sp S2x32x128 e) (f : v.ty.Contents (Elt F)) (off : Fin 3 → ℕ) (inb)
    (w : S1x32x128.Idx → Elt F e) (L : List (View.Piece (Elt F) S2x32x128 e)) (k : Fin 2) (h : off = ![k.val, 0, 0]) (a : Fin 32) (b : Fin 128) :
    v.read (Elt F) (v.writes (Elt F) f (⟨pairR off inb, w⟩ :: L)) (ix3 k a b) = w (ix3 (0 : Fin 1) a b) :=
  View.read_writes_cons_unit_of_mem v f inb w L _ (ix3 (0 : Fin 1) a b) h fun d => match d with
    | ⟨0, _⟩ => (show k.val = k.val + 0 by omega)
    | ⟨1, _⟩ => (show a.val = 0 + a.val by omega)
    | ⟨2, _⟩ => (show b.val = 0 + b.val by omega)

theorem pair_miss {κ : Kind} {sp : Space} {e : EltTy} (v : View sig κ sp S2x32x128 e) (f : v.ty.Contents (Elt F)) (off : Fin 3 → ℕ) (inb)
    (w : S1x32x128.Idx → Elt F e) (L : List (View.Piece (Elt F) S2x32x128 e)) (k l : Fin 2) (h : off = ![k.val, 0, 0]) (hl : l.val ≠ k.val)
    (a : Fin 32) (b : Fin 128) :
    v.read (Elt F) (v.writes (Elt F) f (⟨pairR off inb, w⟩ :: L)) (ix3 l a b) = v.read (Elt F) (v.writes (Elt F) f L) (ix3 l a b) :=
  View.read_writes_cons_unit_of_not_mem v f inb w L _ h (0 : Fin 3) (show l.val < k.val ∨ k.val + 1 ≤ l.val by omega)

/-- Two rows stored last, row 0 then row 1: what the pair reads, whatever was stored before. -/
theorem pair_rows {κ : Kind} {sp : Space} (v : View sig κ sp S2x32x128 .f32) (f : v.ty.Contents (Elt F)) (L : List (View.Piece (Elt F) S2x32x128 .f32))
    (inb0 inb1) (s0 s1 : FVec F S32x128 .f32) (h0 h1) (r : S2x32x128.Idx) :
    v.read (Elt F) (v.writes (Elt F) f (⟨pairR ![1, 0, 0] inb1, shapeCast S1x32x128 s1 h1⟩ :: ⟨pairR ![0, 0, 0] inb0, shapeCast S1x32x128 s0 h0⟩ :: L)) r
      = if (r 0).val = 0 then s0 (laneOf2 r) else s1 (laneOf2 r) := by
  obtain ⟨e, a, b, rfl⟩ : ∃ (e : Fin 2) (a : Fin 32) (b : Fin 128), r = ix3 e a b := ⟨r 0, r 1, r 2, eq_ix3 r⟩
  match e with
  | 0 => exact (pair_miss v f _ inb1 _ _ 1 0 rfl (by decide) a b).trans ((pair_hit v f _ inb0 _ _ 0 rfl a b).trans (row_cast _ _ a b))
  | 1 => exact (pair_hit v f _ inb1 _ _ 1 rfl a b).trans (row_cast _ _ a b)

theorem zero3 : (![0, 0, 0] : Fin 3 → ℕ) = fun _ => 0 := by decide

/-- A row of the pair read after the starting number was stored all over it. -/
theorem zero_row {κ : Kind} {sp : Space} (v : View sig κ sp S2x32x128 .f32) (k : Fin 2)
    (inb : ∀ a, (![k.val, 0, 0] : Fin 3 → ℕ) a + S1x32x128.size a ≤ S2x32x128.size a) (a : Fin 32) (b : Fin 128) :
    v.readCov [(⟨Rect.unit ![0, 0, 0] S2x32x128.size inb_S2x32x128_S2x32x128_0_0_0, k0_pay1 (F := F)⟩ : View.Piece (Elt F) S2x32x128 .f32)]
      (pairR ![k.val, 0, 0] inb).toLoadRect (ix3 (0 : Fin 1) a b) = Recur.start := by
  have e := View.readCov_eq_canon_ld v [(⟨Rect.unit ![0, 0, 0] S2x32x128.size inb_S2x32x128_S2x32x128_0_0_0, k0_pay1 (F := F)⟩ : View.Piece (Elt F) S2x32x128 .f32)]
    (pairR ![k.val, 0, 0] inb) fun y => ⟨_, List.mem_singleton_self _, View.mem_set_unit_zero (S := S2x32x128) zero3 inb_S2x32x128_S2x32x128_0_0_0 y⟩
  have e2 : View.canon [(⟨Rect.unit ![0, 0, 0] S2x32x128.size inb_S2x32x128_S2x32x128_0_0_0, k0_pay1 (F := F)⟩ : View.Piece (Elt F) S2x32x128 .f32)] = k0_pay1 (F := F) :=
    View.canon_unit_zero (S := S2x32x128) zero3 _ _
  exact (congrFun (e.trans (congrArg (fun X => View.ld X (pairR ![k.val, 0, 0] inb)) e2)) _).trans rfl

section Body

variable (c : Dev nD) (i : grid0.Coords)
  (arg1 : Memref sig .tc .vmem S256x32x128 .f32) (harg1 : arg1.IsWhole)
  (arg2 : Memref sig .tc .vmem S256x32x128 .f32) (harg2 : arg2.IsWhole)
  (arg3 : Memref sig .tc .vmem S32x128 .f32) (harg3 : arg3.IsWhole)
  (arg4 : Memref sig .tc .vmem S32x128 .f32) (harg4 : arg4.IsWhole)
  (arg5 : Memref sig .tc .vmem S256x32x128 .f32) (harg5 : arg5.IsWhole)
  (arg6 : Memref sig .tc .vmem S256x32x128 .f32) (harg6 : arg6.IsWhole)
  (arg7 : Memref sig .tc .vmem S2x32x128 .f32) (harg7 : arg7.IsWhole)
  (p q : Vec F S32x128 .f32) (u v : Vec F S256x32x128 .f32)
  (x y : S32x128.Idx → ℕ → F .f32) (n : ℕ) (d5 d6 : Vec F S256x32x128 .f32) (d7 : Vec F S2x32x128 .f32)

/-- What the loop's state gives after its last trip. -/
theorem loop_post (𝒱 : Variants) (bd : Option 𝒱.V) (v3 v4 : Vec F S32x128 .f32)
    (X1 : BufTy.Contents (Elt F) arg1.view.ty) (X2 : BufTy.Contents (Elt F) arg2.view.ty)
    (x y : S32x128.Idx → ℕ → F .f32) (n : ℕ) (init : FVec F S32x128 .f32 × FVec F S32x128 .f32)
    (hx : ∀ (k : Fin 256) a b, arg1.view.read (Elt F) X1 (ix3 k a b) = x (ix2 a b) (n + k.val))
    (hy : ∀ (k : Fin 256) a b, arg2.view.read (Elt F) X2 (ix3 k a b) = y (ix2 a b) (n + k.val))
    (hi : ∀ j, (init.1 j, init.2 j) = Recur.state (v3 j) (v4 j) (x j) (y j) n)
    (G5 : BufTy.Contents (Elt F) arg5.view.ty) (G6 : BufTy.Contents (Elt F) arg6.view.ty) :
    let st := st_k0_t1 (F := F) 𝒱 c bd i arg1 harg1 arg2 harg2 arg3 harg3 arg4 harg4 arg5 harg5 arg6 harg6 arg7 harg7 v3 v4 X1 X2 init
      (Scf.trips k0_t1_loop.lb k0_t1_loop.ub k0_t1_loop.st)
    (∀ j, (st.1.1 j, st.1.2 j) = Recur.state (v3 j) (v4 j) (x j) (y j) (n + 256))
      ∧ arg5.view.read (Elt F) (arg5.view.writes (Elt F) G5 st.2.1) = blockRe v3 v4 x y n
      ∧ arg6.view.read (Elt F) (arg6.view.writes (Elt F) G6 st.2.2) = blockIm v3 v4 x y n := by
  have ht : Scf.trips k0_t1_loop.lb k0_t1_loop.ub k0_t1_loop.st = 256 := trips_eq
  rw [ht]
  obtain ⟨h1, h2, h3⟩ := st_eq 𝒱 c bd i arg1 harg1 arg2 harg2 arg3 harg3 arg4 harg4 arg5 harg5 arg6 harg6 arg7 harg7 v3 v4 X1 X2 x y n init hx hy hi G5 G6 256 le_rfl
  refine ⟨h1, funext fun r => ?_, funext fun r => ?_⟩
  · obtain ⟨l, a, b, rfl⟩ : ∃ (l : Fin 256) (a : Fin 32) (b : Fin 128), r = ix3 l a b := ⟨r 0, r 1, r 2, eq_ix3 r⟩
    exact h2 l a b l.isLt
  · obtain ⟨l, a, b, rfl⟩ : ∃ (l : Fin 256) (a : Fin 32) (b : Fin 128), r = ix3 l a b := ⟨r 0, r 1, r 2, eq_ix3 r⟩
    exact h3 l a b l.isLt

/-- The first point starts the recurrence: the scratch is filled with the starting number, then read. -/
theorem body_first (h : first i)
    (hu : ∀ (k : Fin 256) a b, u (ix3 k a b) = x (ix2 a b) (n + k.val)) (hv : ∀ (k : Fin 256) a b, v (ix3 k a b) = y (ix2 a b) (n + k.val)) (hn : n = 0) :
    iprop(owns (c : Thread nD τ) arg1 fullShare u ∗ owns (c : Thread nD τ) arg2 fullShare v ∗ owns (c : Thread nD τ) arg3 fullShare p
      ∗ owns (c : Thread nD τ) arg4 fullShare q ∗ owns (c : Thread nD τ) arg5 fullShare d5 ∗ owns (c : Thread nD τ) arg6 fullShare d6
      ∗ owns (c : Thread nD τ) arg7 fullShare d7)
    ⊢ wp (M := 𝕄) frame (wpE (defs₀ (F := F)) Variants.none c none) Set.univ
        (cc0_ssm_scan_fwd i arg1 harg1 arg2 harg2 arg3 harg3 arg4 harg4 arg5 harg5 arg6 harg6 arg7 harg7)
        (fun _ => iprop(owns (c : Thread nD τ) arg1 fullShare u ∗ owns (c : Thread nD τ) arg2 fullShare v ∗ owns (c : Thread nD τ) arg3 fullShare p
          ∗ owns (c : Thread nD τ) arg4 fullShare q ∗ owns (c : Thread nD τ) arg5 fullShare (blockRe p q x y n)
          ∗ owns (c : Thread nD τ) arg6 fullShare (blockIm p q x y n) ∗ owns (c : Thread nD τ) arg7 fullShare (carry p q x y (n + 256)))) := by
  simp only [cc0_ssm_scan_fwd_eq_skeleton]; unfold cc0_ssm_scan_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg1.eq_unread hf1; obtain rfl := harg2.eq_unread hf2; obtain rfl := harg3.eq_unread hf3; obtain rfl := harg4.eq_unread hf4
  sl_exec (disch := sl_exact h)
  sl_step
  sl_unfold_words
  have l3 : View.readAt (Elt F) arg3.view (Rect.unit ![0, 0] S32x128.size inb_S32x128_S32x128_0_0).toLoadRect (harg3.unread p) = p :=
    (congrArg (fun X => View.ld X (Rect.unit (s := S32x128) ![0, 0] S32x128.size inb_S32x128_S32x128_0_0)) hf3).trans (View.ld_unit_zero (by decide) _ _)
  have l4 : View.readAt (Elt F) arg4.view (Rect.unit ![0, 0] S32x128.size inb_S32x128_S32x128_0_0).toLoadRect (harg4.unread q) = q :=
    (congrArg (fun X => View.ld X (Rect.unit (s := S32x128) ![0, 0] S32x128.size inb_S32x128_S32x128_0_0)) hf4).trans (View.ld_unit_zero (by decide) _ _)
  rw [l3, l4]
  have hi : ∀ j : S32x128.Idx, (shapeCast S32x128 (arg7.view.readCov [(⟨Rect.unit ![0, 0, 0] S2x32x128.size inb_S2x32x128_S2x32x128_0_0_0, k0_pay1 (F := F)⟩ : View.Piece (Elt F) S2x32x128 .f32)] (pairR ![0, 0, 0] inb_S2x32x128_S1x32x128_0_0_0).toLoadRect) shapeCasts_S1x32x128_S32x128 j,
      shapeCast S32x128 (arg7.view.readCov [(⟨Rect.unit ![0, 0, 0] S2x32x128.size inb_S2x32x128_S2x32x128_0_0_0, k0_pay1 (F := F)⟩ : View.Piece (Elt F) S2x32x128 .f32)] (pairR ![1, 0, 0] inb_S2x32x128_S1x32x128_1_0_0).toLoadRect) shapeCasts_S1x32x128_S32x128 j)
      = Recur.state (p j) (q j) (x j) (y j) n := fun j => by
    obtain ⟨a, b, rfl⟩ : ∃ (a : Fin 32) (b : Fin 128), j = ix2 a b := ⟨j 0, j 1, eq_ix2 j⟩
    rw [hn]
    exact Prod.ext ((cast_row _ _ a b).trans (zero_row _ 0 _ a b)) ((cast_row _ _ a b).trans (zero_row _ 1 _ a b))
  have hl := loop_post c i arg1 harg1 arg2 harg2 arg3 harg3 arg4 harg4 arg5 harg5 arg6 harg6 arg7 harg7 Variants.none none p q (harg1.unread u) (harg2.unread v) x y n
    (k0_pay2 (arg7.view.readCov [(⟨Rect.unit ![0, 0, 0] S2x32x128.size inb_S2x32x128_S2x32x128_0_0_0, k0_pay1 (F := F)⟩ : View.Piece (Elt F) S2x32x128 .f32)] (pairR ![0, 0, 0] inb_S2x32x128_S1x32x128_0_0_0).toLoadRect),
      k0_pay3 (arg7.view.readCov [(⟨Rect.unit ![0, 0, 0] S2x32x128.size inb_S2x32x128_S2x32x128_0_0_0, k0_pay1 (F := F)⟩ : View.Piece (Elt F) S2x32x128 .f32)] (pairR ![1, 0, 0] inb_S2x32x128_S1x32x128_1_0_0).toLoadRect))
    (fun k a b => (congrFun hf1 _).trans (hu k a b)) (fun k a b => (congrFun hf2 _).trans (hv k a b)) hi f5 f6
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro; exact hl.2.1
  isplitl [H6]
  · iexists _; isplitr; swap; · iexact H6
    ipureintro; exact hl.2.2
  iexists _; isplitr; swap; · iexact H7
  ipureintro
  funext r
  refine (pair_rows arg7.view _ _ _ _ _ _ _ _ r).trans ?_
  have e := hl.1 (laneOf2 r)
  unfold carry
  exact if_congr Iff.rfl (congrArg Prod.fst e) (congrArg Prod.snd e)

/-- The other points take it up where the point before left it. -/
theorem body_next (h : ¬ first i)
    (hu : ∀ (k : Fin 256) a b, u (ix3 k a b) = x (ix2 a b) (n + k.val)) (hv : ∀ (k : Fin 256) a b, v (ix3 k a b) = y (ix2 a b) (n + k.val)) :
    iprop(owns (c : Thread nD τ) arg1 fullShare u ∗ owns (c : Thread nD τ) arg2 fullShare v ∗ owns (c : Thread nD τ) arg3 fullShare p
      ∗ owns (c : Thread nD τ) arg4 fullShare q ∗ owns (c : Thread nD τ) arg5 fullShare d5 ∗ owns (c : Thread nD τ) arg6 fullShare d6
      ∗ owns (c : Thread nD τ) arg7 fullShare (carry p q x y n))
    ⊢ wp (M := 𝕄) frame (wpE (defs₀ (F := F)) Variants.none c none) Set.univ
        (cc0_ssm_scan_fwd i arg1 harg1 arg2 harg2 arg3 harg3 arg4 harg4 arg5 harg5 arg6 harg6 arg7 harg7)
        (fun _ => iprop(owns (c : Thread nD τ) arg1 fullShare u ∗ owns (c : Thread nD τ) arg2 fullShare v ∗ owns (c : Thread nD τ) arg3 fullShare p
          ∗ owns (c : Thread nD τ) arg4 fullShare q ∗ owns (c : Thread nD τ) arg5 fullShare (blockRe p q x y n)
          ∗ owns (c : Thread nD τ) arg6 fullShare (blockIm p q x y n) ∗ owns (c : Thread nD τ) arg7 fullShare (carry p q x y (n + 256)))) := by
  simp only [cc0_ssm_scan_fwd_eq_skeleton]; unfold cc0_ssm_scan_fwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩
  obtain rfl := harg1.eq_unread hf1; obtain rfl := harg2.eq_unread hf2; obtain rfl := harg3.eq_unread hf3; obtain rfl := harg4.eq_unread hf4; obtain rfl := harg7.eq_unread hf7
  sl_exec (disch := sl_exact h)
  sl_step
  sl_unfold_words
  have l3 : View.readAt (Elt F) arg3.view (Rect.unit ![0, 0] S32x128.size inb_S32x128_S32x128_0_0).toLoadRect (harg3.unread p) = p :=
    (congrArg (fun X => View.ld X (Rect.unit (s := S32x128) ![0, 0] S32x128.size inb_S32x128_S32x128_0_0)) hf3).trans (View.ld_unit_zero (by decide) _ _)
  have l4 : View.readAt (Elt F) arg4.view (Rect.unit ![0, 0] S32x128.size inb_S32x128_S32x128_0_0).toLoadRect (harg4.unread q) = q :=
    (congrArg (fun X => View.ld X (Rect.unit (s := S32x128) ![0, 0] S32x128.size inb_S32x128_S32x128_0_0)) hf4).trans (View.ld_unit_zero (by decide) _ _)
  rw [l3, l4]
  have hi : ∀ j : S32x128.Idx, (k0_pay2 (View.readAt (Elt F) arg7.view (pairR ![0, 0, 0] inb_S2x32x128_S1x32x128_0_0_0).toLoadRect (harg7.unread (carry p q x y n))) j,
      k0_pay3 (View.readAt (Elt F) arg7.view (pairR ![1, 0, 0] inb_S2x32x128_S1x32x128_1_0_0).toLoadRect (harg7.unread (carry p q x y n))) j)
      = Recur.state (p j) (q j) (x j) (y j) n := fun j => by
    obtain ⟨a, b, rfl⟩ : ∃ (a : Fin 32) (b : Fin 128), j = ix2 a b := ⟨j 0, j 1, eq_ix2 j⟩
    exact Prod.ext ((cast_row _ _ a b).trans ((pair_read _ _ _ 0 rfl a b).trans (congrFun hf7 _)))
      ((cast_row _ _ a b).trans ((pair_read _ _ _ 1 rfl a b).trans (congrFun hf7 _)))
  have hl := loop_post c i arg1 harg1 arg2 harg2 arg3 harg3 arg4 harg4 arg5 harg5 arg6 harg6 arg7 harg7 Variants.none none p q (harg1.unread u) (harg2.unread v) x y n
    (k0_pay2 (View.readAt (Elt F) arg7.view (pairR ![0, 0, 0] inb_S2x32x128_S1x32x128_0_0_0).toLoadRect (harg7.unread (carry p q x y n))),
      k0_pay3 (View.readAt (Elt F) arg7.view (pairR ![1, 0, 0] inb_S2x32x128_S1x32x128_1_0_0).toLoadRect (harg7.unread (carry p q x y n))))
    (fun k a b => (congrFun hf1 _).trans (hu k a b)) (fun k a b => (congrFun hf2 _).trans (hv k a b)) hi f5 f6
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro; exact hl.2.1
  isplitl [H6]
  · iexists _; isplitr; swap; · iexact H6
    ipureintro; exact hl.2.2
  iexists _; isplitr; swap; · iexact H7
  ipureintro
  funext r
  refine (pair_rows arg7.view _ _ _ _ _ _ _ _ r).trans ?_
  have e := hl.1 (laneOf2 r)
  unfold carry
  exact if_congr Iff.rfl (congrArg Prod.fst e) (congrArg Prod.snd e)

end Body

end Cert.ScanIdeal.Fwd
-- ==== Proof.ScanFwdRegion.lean ====
/- The forward scan's call over its whole grid: what each point finds and leaves, and the body's triple at every point. -/
module

public import proofs.«01_k».proof.Proof.ScanFwdBody
public import proofs.«01_k».proof.Proof.Gen.ScanIdeal.Launch
public import Idealize.ShloMosaic.Lib.Pipeline.Regions

@[expose] public section

set_option maxRecDepth 8192

noncomputable section

namespace Cert.ScanIdeal.Fwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ScanIdeal.Gen

variable {F : FTy → Type} [FloatOps F]

local notation "𝕄" => MT nD τ sig Unit (Elt F) ℕ (UR sig nD τ) ℕ

section Data

variable (V : Dev nD → Valuation τ sig (Elt F))

/-- The arrays the call reads, as the recurrence takes them: the multiplier, and the inputs lane by lane. -/
abbrev P (c : Dev nD) : S32x128.Idx → F .f32 := V c (Proc.devRef .tc main_arg2)
abbrev Q (c : Dev nD) : S32x128.Idx → F .f32 := V c (Proc.devRef .tc main_arg3)
abbrev X (c : Dev nD) : S32x128.Idx → ℕ → F .f32 := Recur.lane (V c (Proc.devRef .tc main_arg0) : Recur.Arr.Idx → F .f32)
abbrev Y (c : Dev nD) : S32x128.Idx → ℕ → F .f32 := Recur.lane (V c (Proc.devRef .tc main_arg1) : Recur.Arr.Idx → F .f32)

/-- The block of input window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The scratch the call carries between points. -/
abbrev scratch : Memref sig .tc .vmem S2x32x128 .f32 := Memref.whole cc0_scratch0

/-- The scoped buffers that are neither staging buffers of the call nor its scratch, at anything. -/
def others (c : Dev nD) : sProp 𝕄 :=
  bigSepL [cc1_stg0_0, cc1_stg0_1, cc1_stg1_0, cc1_stg1_1, cc1_stg2_0, cc1_stg2_1, cc1_stg3_0, cc1_stg3_1, cc1_stg4_0, cc1_stg5_0, cc1_stg6_0, cc1_stg6_1, cc1_stg7_0, cc1_stg7_1, cc1_stg8_0, cc1_stg9_0, cc1_scratch0]
    fun b => iprop(∃ f : Buf (Elt F) ((c.tc : Thread nD τ).loc b), ((c.tc : Thread nD τ).loc b) ↦{fullShare} f)

theorem scoped_eq (c : Dev nD) :
    (Pipeline.scopedRest (Ix := Unit) (Name := ℕ) (U := UR sig nD τ) (Lvl := ℕ) (Val := Elt F) spec0 c : sProp 𝕄)
      = iprop((∃ d, owns (c : Thread nD τ) scratch fullShare d) ∗ others c) :=
  (Pipeline.scopedRest_eq_of_list spec0 c [cc0_scratch0, cc1_stg0_0, cc1_stg0_1, cc1_stg1_0, cc1_stg1_1, cc1_stg2_0, cc1_stg2_1, cc1_stg3_0, cc1_stg3_1, cc1_stg4_0, cc1_stg5_0, cc1_stg6_0, cc1_stg6_1, cc1_stg7_0, cc1_stg7_1, cc1_stg8_0, cc1_stg9_0, cc1_scratch0] (by decide) (by decide)).trans (by
    simp only [scratch, owns_whole]; rfl)

/-- What holds between points: before point `n` the scratch holds what the recurrence carries there; before the first, anything. -/
def inv (c : Dev nD) (n : ℕ) : sProp 𝕄 :=
  iprop((∃ d, ⌜n ≠ 0 → d = carry (P V c) (Q V c) (X V c) (Y V c) (256 * n)⌝ ∗ owns (c : Thread nD τ) scratch fullShare d) ∗ others c)

/-- The proof data of the call: the arrays as it finds them, each input's buffer at its block, the results' as the recurrence has them. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => iblk V c 1 t
    | ⟨2, _⟩ => iblk V c 2 t
    | ⟨3, _⟩ => iblk V c 3 t
    | ⟨4, _⟩ => Fwd.blockRe (P V c) (Q V c) (X V c) (Y V c) (256 * t.val)
    | ⟨5, _⟩ => Fwd.blockIm (P V c) (Q V c) (X V c) (Y V c) (256 * t.val)
  Φ t := inv V c t.val
  q _ := fullShare
  owed _ := 0

/-- Which block each window holds at each point. -/
theorem idx : ∀ t : Fin cfg0.N, win0_0.index t = ![t.val, 0, 0] ∧ win0_1.index t = ![t.val, 0, 0] ∧ win0_2.index t = ![0, 0] ∧ win0_3.index t = ![0, 0] ∧ win0_4.index t = ![t.val, 0, 0] ∧ win0_5.index t = ![t.val, 0, 0] :=
  (by decide +kernel : ∀ t : Fin grid0.N, _)

theorem before_0 (c : Dev nD) (t : Fin cfg0.N) (d) : (dat V c).before 0 t d = iblk V c 0 t :=
  ((dat V c).before_in_eq_fetched 0 rfl (fun _ => rfl) (fun _ _ _ => rfl) (fun _ => rfl) t d).trans rfl
theorem before_1 (c : Dev nD) (t : Fin cfg0.N) (d) : (dat V c).before 1 t d = iblk V c 1 t :=
  ((dat V c).before_in_eq_fetched 1 rfl (fun _ => rfl) (fun _ _ _ => rfl) (fun _ => rfl) t d).trans rfl
theorem before_2 (c : Dev nD) (t : Fin cfg0.N) (d) : (dat V c).before 2 t d = iblk V c 2 t :=
  ((dat V c).before_in_eq_fetched 2 rfl (fun _ => rfl) (fun _ _ _ => rfl) (fun _ => rfl) t d).trans rfl
theorem before_3 (c : Dev nD) (t : Fin cfg0.N) (d) : (dat V c).before 3 t d = iblk V c 3 t :=
  ((dat V c).before_in_eq_fetched 3 rfl (fun _ => rfl) (fun _ _ _ => rfl) (fun _ => rfl) t d).trans rfl

theorem block_0 (c : Dev nD) (t : Fin cfg0.N) (k : Fin 256) (a : Fin 32) (b : Fin 128) :
    iblk V c 0 t (ix3 k a b) = X V c (ix2 a b) (256 * t.val + k.val) := by
  have hN : t.val < 8 := lt_of_lt_of_eq t.isLt (show cfg0.N = 8 from N_0)
  refine Eq.trans ?_ (Recur.lane_of_lt _ _ _ (by have := k.isLt; omega)).symm
  blk_point [iblk, idx t]

theorem block_1 (c : Dev nD) (t : Fin cfg0.N) (k : Fin 256) (a : Fin 32) (b : Fin 128) :
    iblk V c 1 t (ix3 k a b) = Y V c (ix2 a b) (256 * t.val + k.val) := by
  have hN : t.val < 8 := lt_of_lt_of_eq t.isLt (show cfg0.N = 8 from N_0)
  refine Eq.trans ?_ (Recur.lane_of_lt _ _ _ (by have := k.isLt; omega)).symm
  blk_point [iblk, idx t]

theorem block_2 (c : Dev nD) (t : Fin cfg0.N) : iblk V c 2 t = P V c := by
  funext y
  blk_point [iblk, idx t]

theorem block_3 (c : Dev nD) (t : Fin cfg0.N) : iblk V c 3 t = Q V c := by
  funext y
  blk_point [iblk, idx t]

/-- Which point is the first. -/
theorem first_iff : ∀ t : Fin cfg0.N, first (grid0.coords t) ↔ t.val = 0 :=
  (by decide +kernel : ∀ t : Fin grid0.N, first (grid0.coords t) ↔ t.val = 0)

end Data

section Point

variable (V : Dev nD → Valuation τ sig (Elt F))

set_option maxHeartbeats 2000000 in
/-- The body at any point, from the invariant before it and the staging buffers to the invariant after it and the buffers as the proof
    data have them. -/
theorem sound (c : Dev nD) (t : Fin cfg0.N) :
    iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d)))
    ⊢ wp (M := 𝕄) frame (wpE (defs₀ (F := F)) Variants.none c none) Set.univ (bodyAt0 t) (fun _ =>
      iprop((dat V c).Φ t.succ ∗ (dat V c).owesAt () t.succ
      ∗ (dat V c).leavesExact 0 t
      ∗ (dat V c).leavesExact 1 t
      ∗ (dat V c).leavesExact 2 t
      ∗ (dat V c).leavesExact 3 t
      ∗ (dat V c).leavesExact 4 t
      ∗ (dat V c).leavesExact 5 t)) := by
  unfold bodyAt0
  rw [show (dat V c).Φ t.castSucc = inv V c t.val from rfl, show (dat V c).Φ t.succ = inv V c (t.val + 1) from rfl,
    show (dat V c).owesAt () t.succ = (dat V c).owesAt () t.castSucc from rfl]
  rw [show (dat V c).leavesExact 0 t = owns (c : Thread nD τ) (st0_0 t) fullShare (iblk V c 0 t) from rfl]
  rw [show (dat V c).leavesExact 1 t = owns (c : Thread nD τ) (st0_1 t) fullShare (iblk V c 1 t) from rfl]
  rw [show (dat V c).leavesExact 2 t = owns (c : Thread nD τ) (st0_2 t) fullShare (iblk V c 2 t) from rfl]
  rw [show (dat V c).leavesExact 3 t = owns (c : Thread nD τ) (st0_3 t) fullShare (iblk V c 3 t) from rfl]
  rw [show (dat V c).leavesExact 4 t = owns (c : Thread nD τ) (st0_4 t) fullShare (Fwd.blockRe (P V c) (Q V c) (X V c) (Y V c) (256 * t.val)) from rfl]
  rw [show (dat V c).leavesExact 5 t = owns (c : Thread nD τ) (st0_5 t) fullShare (Fwd.blockIm (P V c) (Q V c) (X V c) (Y V c) (256 * t.val)) from rfl]
  simp only [before_0, before_1, before_2, before_3, block_2, block_3]
  unfold inv
  by_cases hz : t.val = 0
  · iintro ⟨⟨⟨%ds, -, HS⟩, Hr⟩, HO, ⟨%d0, H0⟩, ⟨%d1, H1⟩, ⟨%d2, H2⟩, ⟨%d3, H3⟩, ⟨%d4, H4⟩, ⟨%d5, H5⟩⟩
    iapply (wp_wand_r _ _ _)
    isplitl [HS H0 H1 H2 H3 H4 H5]
    · iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scratch (Memref.isWhole_whole _) (P V c) (Q V c) (iblk V c 0 t) (iblk V c 1 t) (X V c) (Y V c) (256 * t.val) ((dat V c).before 4 t d4) ((dat V c).before 5 t d5) ds ((first_iff t).mpr hz) (block_0 V c t) (block_1 V c t) (by rw [hz]))
      isplitl [H0]; · iexact H0
      isplitl [H1]; · iexact H1
      isplitl [H2]; · iexact H2
      isplitl [H3]; · iexact H3
      isplitl [H4]; · iexact H4
      isplitl [H5]; · iexact H5
      iexact HS
    · iintro %r ⟨H0, H1, H2, H3, H4, H5, HS⟩
      isplitl [HS Hr]
      · isplitl [HS]
        · iexists _; isplitr; swap; · iexact HS
          ipureintro; intro _; rw [Nat.mul_add, Nat.mul_one]
        iexact Hr
      isplitl [HO]; · iexact HO
      isplitl [H0]; · iexact H0
      isplitl [H1]; · iexact H1
      isplitl [H2]; · iexact H2
      isplitl [H3]; · iexact H3
      isplitl [H4]; · iexact H4
      iexact H5
  · iintro ⟨⟨⟨%ds, %hd, HS⟩, Hr⟩, HO, ⟨%d0, H0⟩, ⟨%d1, H1⟩, ⟨%d2, H2⟩, ⟨%d3, H3⟩, ⟨%d4, H4⟩, ⟨%d5, H5⟩⟩
    rw [hd hz]
    iapply (wp_wand_r _ _ _)
    isplitl [HS H0 H1 H2 H3 H4 H5]
    · iapply (body_next c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) scratch (Memref.isWhole_whole _) (P V c) (Q V c) (iblk V c 0 t) (iblk V c 1 t) (X V c) (Y V c) (256 * t.val) ((dat V c).before 4 t d4) ((dat V c).before 5 t d5) (fun h => hz ((first_iff t).mp h)) (block_0 V c t) (block_1 V c t))
      isplitl [H0]; · iexact H0
      isplitl [H1]; · iexact H1
      isplitl [H2]; · iexact H2
      isplitl [H3]; · iexact H3
      isplitl [H4]; · iexact H4
      isplitl [H5]; · iexact H5
      iexact HS
    · iintro %r ⟨H0, H1, H2, H3, H4, H5, HS⟩
      isplitl [HS Hr]
      · isplitl [HS]
        · iexists _; isplitr; swap; · iexact HS
          ipureintro; intro _; rw [Nat.mul_add, Nat.mul_one]
        iexact Hr
      isplitl [HO]; · iexact HO
      isplitl [H0]; · iexact H0
      isplitl [H1]; · iexact H1
      isplitl [H2]; · iexact H2
      isplitl [H3]; · iexact H3
      isplitl [H4]; · iexact H4
      iexact H5

theorem defs₀_row (t : Fin cfg0.N) : defs₀ (F := F) .tc cfg0.body (cfg0.bodyArgs t (cfg0.slots t)) = bodyAt0 t := by
  unfold defs₀; rw [Defs.onTc_tc]

/-- The body at every point, as the launch takes it. -/
theorem body_obligation (c : Dev nD) : BodyObligation (dat V c) (defs₀ (F := F)) Variants.none () Set.univ := fun t => by
  rw [bigSep_W0, bigSep_W0, defs₀_row]
  exact triple_restated (sound V c t) rfl .rfl fun _ => .rfl

end Point

end Cert.ScanIdeal.Fwd
-- ==== Proof.ScanBwd.lean ====
/- The loop of the reverse scan: what its 256 trips over one block carry and leave in the two result blocks, read as the reverse
   recurrence of ScanRecur at every lane. Trip `k` takes row `255 - k` of the block. -/
module

public import proofs.«01_k».proof.Proof.Gen.ScanIdeal.Loops
public import proofs.«01_k».proof.Proof.ScanFwd

@[expose] public section

set_option maxRecDepth 8192

noncomputable section

namespace Cert.ScanIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ScanIdeal.Gen Cert.ScanIdeal.Fwd

variable {F : FTy → Type} [FloatOps F]

theorem trips_eq : k1_t1_loop.trips = 256 := by decide

section Pay

variable (v3 v4 : Vec F S32x128 .f32) (p q g h : FVec F S32x128 .f32) (x y s t : Vec F S1x32x128 .f32) (a : Fin 32) (b : Fin 128)

/-- The four numbers carried at a lane. -/
abbrev at4 (p q g h : S32x128.Idx → F .f32) (j : S32x128.Idx) : Recur.Adj F := ⟨p j, q j, g j, h j⟩

/-- What a trip yields at a lane is the reverse step there. -/
theorem pay_apply :
    at4 (k1_pay12 v3 v4 p q x) (k1_pay13 v3 v4 p q y) (k1_pay10 p q g s t) (k1_pay11 p q h s t) (ix2 a b)
      = Recur.back (v3 (ix2 a b)) (v4 (ix2 a b)) (x (ix3 (0 : Fin 1) a b)) (y (ix3 (0 : Fin 1) a b)) (s (ix3 (0 : Fin 1) a b)) (t (ix3 (0 : Fin 1) a b))
          (at4 p q g h (ix2 a b)) := by
  rw [← cast_row x shapeCasts_S1x32x128_S32x128 a b, ← cast_row y shapeCasts_S1x32x128_S32x128 a b,
    ← cast_row s shapeCasts_S1x32x128_S32x128 a b, ← cast_row t shapeCasts_S1x32x128_S32x128 a b]
  rfl

end Pay

section Trip

variable (𝒱 : Variants) (c : Dev nD) (bd : Option 𝒱.V) (i : grid1.Coords)
  (arg1 : Memref sig .tc .vmem S256x32x128 .f32) (harg1 : arg1.IsWhole)
  (arg2 : Memref sig .tc .vmem S256x32x128 .f32) (harg2 : arg2.IsWhole)
  (arg3 : Memref sig .tc .vmem S256x32x128 .f32) (harg3 : arg3.IsWhole)
  (arg4 : Memref sig .tc .vmem S256x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S256x32x128 .f32) (harg7 : arg7.IsWhole)
  (arg8 : Memref sig .tc .vmem S256x32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S2x32x128 .f32) (harg11 : arg11.IsWhole)
  (v3 v4 : Vec F S32x128 .f32)
  (X1 : BufTy.Contents (Elt F) arg1.view.ty) (X2 : BufTy.Contents (Elt F) arg2.view.ty)
  (X3 : BufTy.Contents (Elt F) arg3.view.ty) (X4 : BufTy.Contents (Elt F) arg4.view.ty)

/-- What trip `k` yields. -/
theorem tripR_eq (k : Fin k1_t1_loop.trips) (acc : FVec F S32x128 .f32 × FVec F S32x128 .f32 × FVec F S32x128 .f32 × FVec F S32x128 .f32) :
    tripR_k1_t1 𝒱 c bd i arg1 harg1 arg2 harg2 arg3 harg3 arg4 harg4 arg5 harg5 arg6 harg6 arg7 harg7 arg8 harg8 arg9 harg9 arg10 harg10 arg11 harg11 v3 v4 X1 X2 X3 X4 k acc
      = (k1_pay12 v3 v4 acc.1 acc.2.1 (View.ld (arg1.view.read (Elt F) X1) (rowR (k1_off1 k) (k1_off1_inb k))), k1_pay13 v3 v4 acc.1 acc.2.1 (View.ld (arg2.view.read (Elt F) X2) (rowR (k1_off1 k) (k1_off1_inb k))),
         k1_pay10 acc.1 acc.2.1 acc.2.2.1 (View.ld (arg3.view.read (Elt F) X3) (rowR (k1_off1 k) (k1_off1_inb k))) (View.ld (arg4.view.read (Elt F) X4) (rowR (k1_off1 k) (k1_off1_inb k))), k1_pay11 acc.1 acc.2.1 acc.2.2.2 (View.ld (arg3.view.read (Elt F) X3) (rowR (k1_off1 k) (k1_off1_inb k))) (View.ld (arg4.view.read (Elt F) X4) (rowR (k1_off1 k) (k1_off1_inb k)))) := by
  unfold tripR_k1_t1 trip_k1_t1
  rfl

/-- What trip `k` writes: its row of either result block. -/
theorem tripL_eq (k : Fin k1_t1_loop.trips) (acc : FVec F S32x128 .f32 × FVec F S32x128 .f32 × FVec F S32x128 .f32 × FVec F S32x128 .f32) :
    tripL_k1_t1 𝒱 c bd i arg1 harg1 arg2 harg2 arg3 harg3 arg4 harg4 arg5 harg5 arg6 harg6 arg7 harg7 arg8 harg8 arg9 harg9 arg10 harg10 arg11 harg11 v3 v4 X1 X2 X3 X4 k acc
      = ([⟨rowR (k1_off1 k) (k1_off1_inb k), shapeCast S1x32x128 (k1_pay12 v3 v4 acc.1 acc.2.1 (View.ld (arg1.view.read (Elt F) X1) (rowR (k1_off1 k) (k1_off1_inb k)))) shapeCasts_S32x128_S1x32x128⟩],
         [⟨rowR (k1_off1 k) (k1_off1_inb k), shapeCast S1x32x128 (k1_pay13 v3 v4 acc.1 acc.2.1 (View.ld (arg2.view.read (Elt F) X2) (rowR (k1_off1 k) (k1_off1_inb k)))) shapeCasts_S32x128_S1x32x128⟩]) := by
  unfold tripL_k1_t1 trip_k1_t1
  rfl

/-- THE LOOP: with the carried value standing at step `n` of the reverse recurrence at entry, it stands at step `n + k` before trip `k`,
    and the rows from `256 - k` up of the result blocks hold the adjoints after their steps. -/
theorem st_eq (d e s t : S32x128.Idx → ℕ → F .f32) (n : ℕ) (init : FVec F S32x128 .f32 × FVec F S32x128 .f32 × FVec F S32x128 .f32 × FVec F S32x128 .f32)
    (hd : ∀ (k : Fin 256) a b, arg1.view.read (Elt F) X1 (ix3 k a b) = d (ix2 a b) (n + (255 - k.val)))
    (he : ∀ (k : Fin 256) a b, arg2.view.read (Elt F) X2 (ix3 k a b) = e (ix2 a b) (n + (255 - k.val)))
    (hs : ∀ (k : Fin 256) a b, arg3.view.read (Elt F) X3 (ix3 k a b) = s (ix2 a b) (n + (255 - k.val)))
    (ht : ∀ (k : Fin 256) a b, arg4.view.read (Elt F) X4 (ix3 k a b) = t (ix2 a b) (n + (255 - k.val)))
    (hi : ∀ j, at4 init.1 init.2.1 init.2.2.1 init.2.2.2 j = Recur.adj (v3 j) (v4 j) (d j) (e j) (s j) (t j) n)
    (G7 : BufTy.Contents (Elt F) arg7.view.ty) (G8 : BufTy.Contents (Elt F) arg8.view.ty) (k : ℕ) (hk : k ≤ 256) :
    let st := st_k1_t1 (F := F) 𝒱 c bd i arg1 harg1 arg2 harg2 arg3 harg3 arg4 harg4 arg5 harg5 arg6 harg6 arg7 harg7 arg8 harg8 arg9 harg9 arg10 harg10 arg11 harg11 v3 v4 X1 X2 X3 X4 init k
    (∀ j, at4 st.1.1 st.1.2.1 st.1.2.2.1 st.1.2.2.2 j = Recur.adj (v3 j) (v4 j) (d j) (e j) (s j) (t j) (n + k))
      ∧ (∀ (l : Fin 256) a b, 255 < l.val + k → arg7.view.read (Elt F) (arg7.view.writes (Elt F) G7 st.2.1) (ix3 l a b)
          = (Recur.adj (v3 (ix2 a b)) (v4 (ix2 a b)) (d (ix2 a b)) (e (ix2 a b)) (s (ix2 a b)) (t (ix2 a b)) (n + (255 - l.val) + 1)).lre)
      ∧ (∀ (l : Fin 256) a b, 255 < l.val + k → arg8.view.read (Elt F) (arg8.view.writes (Elt F) G8 st.2.2) (ix3 l a b)
          = (Recur.adj (v3 (ix2 a b)) (v4 (ix2 a b)) (d (ix2 a b)) (e (ix2 a b)) (s (ix2 a b)) (t (ix2 a b)) (n + (255 - l.val) + 1)).lim) := by
  induction k with
  | zero => exact ⟨hi, fun l _ _ h => absurd h (by have := l.isLt; omega), fun l _ _ h => absurd h (by have := l.isLt; omega)⟩
  | succ k ih =>
    intro st
    obtain ⟨h1, h2, h3⟩ := ih (by omega)
    have hkt : k < k1_t1_loop.trips := by rw [trips_eq]; omega
    let K : Fin k1_t1_loop.trips := ⟨k, hkt⟩
    let K' : Fin 256 := ⟨255 - k, by omega⟩
    have hK' : n + (255 - K'.val) = n + k := by show n + (255 - (255 - k)) = n + k; omega
    have hoff : k1_off1 K = ![K'.val, 0, 0] := k1_off1_eq K
    have hst := st_k1_t1_succ (F := F) 𝒱 c bd i arg1 harg1 arg2 harg2 arg3 harg3 arg4 harg4 arg5 harg5 arg6 harg6 arg7 harg7 arg8 harg8 arg9 harg9 arg10 harg10 arg11 harg11 v3 v4 X1 X2 X3 X4 init K
    rw [tripR_eq, tripL_eq] at hst
    set old := st_k1_t1 (F := F) 𝒱 c bd i arg1 harg1 arg2 harg2 arg3 harg3 arg4 harg4 arg5 harg5 arg6 harg6 arg7 harg7 arg8 harg8 arg9 harg9 arg10 harg10 arg11 harg11 v3 v4 X1 X2 X3 X4 init K.val with hold
    have hst' : st = _ := hst
    have step : ∀ a b, at4 (k1_pay12 v3 v4 old.1.1 old.1.2.1 (View.ld (arg1.view.read (Elt F) X1) (rowR (k1_off1 K) (k1_off1_inb K)))) (k1_pay13 v3 v4 old.1.1 old.1.2.1 (View.ld (arg2.view.read (Elt F) X2) (rowR (k1_off1 K) (k1_off1_inb K))))
        (k1_pay10 old.1.1 old.1.2.1 old.1.2.2.1 (View.ld (arg3.view.read (Elt F) X3) (rowR (k1_off1 K) (k1_off1_inb K))) (View.ld (arg4.view.read (Elt F) X4) (rowR (k1_off1 K) (k1_off1_inb K)))) (k1_pay11 old.1.1 old.1.2.1 old.1.2.2.2 (View.ld (arg3.view.read (Elt F) X3) (rowR (k1_off1 K) (k1_off1_inb K))) (View.ld (arg4.view.read (Elt F) X4) (rowR (k1_off1 K) (k1_off1_inb K)))) (ix2 a b)
        = Recur.adj (v3 (ix2 a b)) (v4 (ix2 a b)) (d (ix2 a b)) (e (ix2 a b)) (s (ix2 a b)) (t (ix2 a b)) (n + (k + 1)) := fun a b => by
      rw [pay_apply, row_read _ _ _ K' hoff, row_read _ _ _ K' hoff, row_read _ _ _ K' hoff, row_read _ _ _ K' hoff, hd, he, hs, ht, hK', h1 (ix2 a b)]
      rfl
    rw [hst']
    refine ⟨fun j => ?_, fun l a b hl => ?_, fun l a b hl => ?_⟩
    · obtain ⟨a, b, rfl⟩ : ∃ a b, j = ix2 a b := ⟨j 0, j 1, eq_ix2 j⟩
      exact step a b
    · by_cases h : l.val = K'.val
      · obtain rfl : l = K' := Fin.ext h
        rw [hK']
        exact (row_hit _ _ _ _ _ _ K' hoff a b).trans ((row_cast _ _ a b).trans (congrArg Recur.Adj.lre (step a b)))
      · exact (row_miss _ _ _ _ _ _ K' l hoff h a b).trans (h2 l a b (by have h' : l.val ≠ 255 - k := h; omega))
    · by_cases h : l.val = K'.val
      · obtain rfl : l = K' := Fin.ext h
        rw [hK']
        exact (row_hit _ _ _ _ _ _ K' hoff a b).trans ((row_cast _ _ a b).trans (congrArg Recur.Adj.lim (step a b)))
      · exact (row_miss _ _ _ _ _ _ K' l hoff h a b).trans (h3 l a b (by have h' : l.val ≠ 255 - k := h; omega))

end Trip

end Cert.ScanIdeal.Bwd
-- ==== Proof.ScanBwdBody.lean ====
/- One point of the reverse scan's grid: the body on its staging blocks, from what is carried before the block to what is carried after it. -/
module

public import proofs.«01_k».proof.Proof.ScanBwd
public import proofs.«01_k».proof.Proof.ScanFwdBody

@[expose] public section

set_option maxRecDepth 8192

noncomputable section

namespace Cert.ScanIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ScanIdeal.Gen Cert.ScanIdeal.Fwd

variable {F : FTy → Type} [FloatOps F]

local notation "𝕄" => MT nD τ sig Unit (Elt F) ℕ (UR sig nD τ) ℕ

/-- The first point of the grid: the body's test of the grid coordinate. -/
abbrev first (i : grid1.Coords) : Prop :=
  Scalar.cmpi .ne (Scalar.extui (Scalar.cmpi .eq (BitVec.ofNat 32 (i 0).val) 0#32)) 0#32 = (1#1 : BitVec 1)

section Out

variable (p q : S32x128.Idx → F .f32) (d e s t : S32x128.Idx → ℕ → F .f32) (n : ℕ)

/-- The adjoints of one block, the recurrence standing at step `n` before it: real parts and imaginary parts. The last row comes first. -/
def blockRe : Vec F S256x32x128 .f32 := fun r => (Recur.adj (p (laneOf r)) (q (laneOf r)) (d (laneOf r)) (e (laneOf r)) (s (laneOf r)) (t (laneOf r)) (n + (255 - (r 0).val) + 1)).lre
def blockIm : Vec F S256x32x128 .f32 := fun r => (Recur.adj (p (laneOf r)) (q (laneOf r)) (d (laneOf r)) (e (laneOf r)) (s (laneOf r)) (t (laneOf r)) (n + (255 - (r 0).val) + 1)).lim

/-- The scratch that carries the adjoint: its real parts in row 0, its imaginary parts in row 1. -/
def carry : Vec F S2x32x128 .f32 := fun r =>
  if (r 0).val = 0 then (Recur.adj (p (laneOf2 r)) (q (laneOf2 r)) (d (laneOf2 r)) (e (laneOf2 r)) (s (laneOf2 r)) (t (laneOf2 r)) n).lre else (Recur.adj (p (laneOf2 r)) (q (laneOf2 r)) (d (laneOf2 r)) (e (laneOf2 r)) (s (laneOf2 r)) (t (laneOf2 r)) n).lim

/-- The two sums of the multiplier's gradient. -/
def sumRe : Vec F S32x128 .f32 := fun r => (Recur.adj (p r) (q r) (d r) (e r) (s r) (t r) n).gre
def sumIm : Vec F S32x128 .f32 := fun r => (Recur.adj (p r) (q r) (d r) (e r) (s r) (t r) n).gim

end Out

theorem zero2 : (![0, 0] : Fin 2 → ℕ) = fun _ => 0 := by decide

/-- A whole array of 32 by 128 read back. -/
theorem whole_read {κ : Kind} {sp : Space} (v : View sig κ sp S32x128 .f32) (f : v.ty.Contents (Elt F)) (x : Vec F S32x128 .f32) (h : v.read (Elt F) f = x) :
    View.readAt (Elt F) v (Rect.unit ![0, 0] S32x128.size inb_S32x128_S32x128_0_0).toLoadRect f = x :=
  (congrArg (fun X => View.ld X (Rect.unit (s := S32x128) ![0, 0] S32x128.size inb_S32x128_S32x128_0_0)) h).trans (View.ld_unit_zero zero2 _ _)

/-- A whole array of 32 by 128 stored last reads as stored. -/
theorem whole_hit {κ : Kind} {sp : Space} (v : View sig κ sp S32x128 .f32) (f : v.ty.Contents (Elt F)) (w : Vec F S32x128 .f32)
    (L : List (View.Piece (Elt F) S32x128 .f32)) :
    v.read (Elt F) (v.writes (Elt F) f (⟨Rect.unit ![0, 0] S32x128.size inb_S32x128_S32x128_0_0, w⟩ :: L)) = w := funext fun y =>
  View.read_writes_cons_unit_of_mem v f _ w L y y zero2 fun d => (Nat.zero_add _).symm

/-- What a load of the pair's rows, or of a sum, gives after the starting number was stored all over it. -/
theorem zero_row {κ : Kind} {sp : Space} (v : View sig κ sp S2x32x128 .f32) (k : Fin 2)
    (inb : ∀ a, (![k.val, 0, 0] : Fin 3 → ℕ) a + S1x32x128.size a ≤ S2x32x128.size a) (a : Fin 32) (b : Fin 128) :
    v.readCov [(⟨Rect.unit ![0, 0, 0] S2x32x128.size inb_S2x32x128_S2x32x128_0_0_0, k1_pay1 (F := F)⟩ : View.Piece (Elt F) S2x32x128 .f32)]
      (pairR ![k.val, 0, 0] inb).toLoadRect (ix3 (0 : Fin 1) a b) = Recur.start := Fwd.zero_row v k inb a b

theorem zero_whole {κ : Kind} {sp : Space} (v : View sig κ sp S32x128 .f32) (w : Vec F S32x128 .f32) :
    v.readCov [(⟨Rect.unit ![0, 0] S32x128.size inb_S32x128_S32x128_0_0, w⟩ : View.Piece (Elt F) S32x128 .f32)]
      (Rect.unit (s := S32x128) ![0, 0] S32x128.size inb_S32x128_S32x128_0_0).toLoadRect = w := View.readCov_unit_zero (S := S32x128) v zero2 _ w

theorem adj_ext {a b : Recur.Adj F} (h1 : a.lre = b.lre) (h2 : a.lim = b.lim) (h3 : a.gre = b.gre) (h4 : a.gim = b.gim) : a = b := by
  cases a; cases b; cases h1; cases h2; cases h3; cases h4; rfl

theorem keep_re (v : Vec F S32x128 .f32) (j : S32x128.Idx) : k1_pay6 v j = v j := congrFun (shapeCast_id v shapeCasts_S32x128_S32x128) j
theorem keep_im (v : Vec F S32x128 .f32) (j : S32x128.Idx) : k1_pay7 v j = v j := congrFun (shapeCast_id v shapeCasts_S32x128_S32x128) j

/-- What the loop starts from at the first point: the starting number everywhere. -/
theorem init_first {κ : Kind} {sp : Space} (w : View sig κ sp S2x32x128 .f32) (j : S32x128.Idx) :
    at4 (k1_pay4 (w.readCov [(⟨Rect.unit ![0, 0, 0] S2x32x128.size inb_S2x32x128_S2x32x128_0_0_0, k1_pay1 (F := F)⟩ : View.Piece (Elt F) S2x32x128 .f32)] (pairR ![0, 0, 0] inb_S2x32x128_S1x32x128_0_0_0).toLoadRect)) (k1_pay5 (w.readCov [(⟨Rect.unit ![0, 0, 0] S2x32x128.size inb_S2x32x128_S2x32x128_0_0_0, k1_pay1 (F := F)⟩ : View.Piece (Elt F) S2x32x128 .f32)] (pairR ![1, 0, 0] inb_S2x32x128_S1x32x128_1_0_0).toLoadRect))
        (k1_pay6 (k1_pay2 (F := F))) (k1_pay7 (k1_pay3 (F := F))) j = ⟨Recur.start, Recur.start, Recur.start, Recur.start⟩ := by
  obtain ⟨a, b, rfl⟩ : ∃ (a : Fin 32) (b : Fin 128), j = ix2 a b := ⟨j 0, j 1, eq_ix2 j⟩
  exact adj_ext ((cast_row _ shapeCasts_S1x32x128_S32x128 a b).trans (zero_row (F := F) w 0 inb_S2x32x128_S1x32x128_0_0_0 a b))
    ((cast_row _ shapeCasts_S1x32x128_S32x128 a b).trans (zero_row (F := F) w 1 inb_S2x32x128_S1x32x128_1_0_0 a b))
    (keep_re (k1_pay2 (F := F)) (ix2 a b)) (keep_im (k1_pay3 (F := F)) (ix2 a b))

/-- What it starts from at a later point: what the scratch and the two sums hold. -/
theorem init_next {κ : Kind} {sp : Space} (w : View sig κ sp S2x32x128 .f32) (f : w.ty.Contents (Elt F))
    (p q : S32x128.Idx → F .f32) (d e s t : S32x128.Idx → ℕ → F .f32) (n : ℕ) (hf : w.read (Elt F) f = carry p q d e s t n) (j : S32x128.Idx) :
    at4 (k1_pay4 (View.readAt (Elt F) w (pairR ![0, 0, 0] inb_S2x32x128_S1x32x128_0_0_0).toLoadRect f)) (k1_pay5 (View.readAt (Elt F) w (pairR ![1, 0, 0] inb_S2x32x128_S1x32x128_1_0_0).toLoadRect f))
        (k1_pay6 (sumRe p q d e s t n)) (k1_pay7 (sumIm p q d e s t n)) j = Recur.adj (p j) (q j) (d j) (e j) (s j) (t j) n := by
  obtain ⟨a, b, rfl⟩ : ∃ (a : Fin 32) (b : Fin 128), j = ix2 a b := ⟨j 0, j 1, eq_ix2 j⟩
  exact adj_ext ((cast_row _ shapeCasts_S1x32x128_S32x128 a b).trans ((pair_read _ _ inb_S2x32x128_S1x32x128_0_0_0 0 rfl a b).trans (congrFun hf _)))
    ((cast_row _ shapeCasts_S1x32x128_S32x128 a b).trans ((pair_read _ _ inb_S2x32x128_S1x32x128_1_0_0 1 rfl a b).trans (congrFun hf _)))
    (keep_re (sumRe p q d e s t n) (ix2 a b)) (keep_im (sumIm p q d e s t n) (ix2 a b))

section Body

variable (c : Dev nD) (i : grid1.Coords)
  (arg1 : Memref sig .tc .vmem S256x32x128 .f32) (harg1 : arg1.IsWhole)
  (arg2 : Memref sig .tc .vmem S256x32x128 .f32) (harg2 : arg2.IsWhole)
  (arg3 : Memref sig .tc .vmem S256x32x128 .f32) (harg3 : arg3.IsWhole)
  (arg4 : Memref sig .tc .vmem S256x32x128 .f32) (harg4 : arg4.IsWhole)
  (arg5 : Memref sig .tc .vmem S32x128 .f32) (harg5 : arg5.IsWhole)
  (arg6 : Memref sig .tc .vmem S32x128 .f32) (harg6 : arg6.IsWhole)
  (arg7 : Memref sig .tc .vmem S256x32x128 .f32) (harg7 : arg7.IsWhole)
  (arg8 : Memref sig .tc .vmem S256x32x128 .f32) (harg8 : arg8.IsWhole)
  (arg9 : Memref sig .tc .vmem S32x128 .f32) (harg9 : arg9.IsWhole)
  (arg10 : Memref sig .tc .vmem S32x128 .f32) (harg10 : arg10.IsWhole)
  (arg11 : Memref sig .tc .vmem S2x32x128 .f32) (harg11 : arg11.IsWhole)
  (p q : Vec F S32x128 .f32) (u v x y : Vec F S256x32x128 .f32)
  (d e s t : S32x128.Idx → ℕ → F .f32) (n : ℕ) (d7 d8 : Vec F S256x32x128 .f32) (d9 d10 : Vec F S32x128 .f32) (d11 : Vec F S2x32x128 .f32)

/-- What the loop's state gives after its last trip. -/
theorem loop_post (𝒱 : Variants) (bd : Option 𝒱.V) (v3 v4 : Vec F S32x128 .f32)
    (X1 : BufTy.Contents (Elt F) arg1.view.ty) (X2 : BufTy.Contents (Elt F) arg2.view.ty)
    (X3 : BufTy.Contents (Elt F) arg3.view.ty) (X4 : BufTy.Contents (Elt F) arg4.view.ty)
    (d e s t : S32x128.Idx → ℕ → F .f32) (n : ℕ) (init : FVec F S32x128 .f32 × FVec F S32x128 .f32 × FVec F S32x128 .f32 × FVec F S32x128 .f32)
    (hd : ∀ (k : Fin 256) a b, arg1.view.read (Elt F) X1 (ix3 k a b) = d (ix2 a b) (n + (255 - k.val)))
    (he : ∀ (k : Fin 256) a b, arg2.view.read (Elt F) X2 (ix3 k a b) = e (ix2 a b) (n + (255 - k.val)))
    (hs : ∀ (k : Fin 256) a b, arg3.view.read (Elt F) X3 (ix3 k a b) = s (ix2 a b) (n + (255 - k.val)))
    (ht : ∀ (k : Fin 256) a b, arg4.view.read (Elt F) X4 (ix3 k a b) = t (ix2 a b) (n + (255 - k.val)))
    (hi : ∀ j, at4 init.1 init.2.1 init.2.2.1 init.2.2.2 j = Recur.adj (v3 j) (v4 j) (d j) (e j) (s j) (t j) n)
    (G7 : BufTy.Contents (Elt F) arg7.view.ty) (G8 : BufTy.Contents (Elt F) arg8.view.ty) :
    let st := st_k1_t1 (F := F) 𝒱 c bd i arg1 harg1 arg2 harg2 arg3 harg3 arg4 harg4 arg5 harg5 arg6 harg6 arg7 harg7 arg8 harg8 arg9 harg9 arg10 harg10 arg11 harg11 v3 v4 X1 X2 X3 X4 init (Scf.trips k1_t1_loop.lb k1_t1_loop.ub k1_t1_loop.st)
    (∀ j, at4 st.1.1 st.1.2.1 st.1.2.2.1 st.1.2.2.2 j = Recur.adj (v3 j) (v4 j) (d j) (e j) (s j) (t j) (n + 256))
      ∧ arg7.view.read (Elt F) (arg7.view.writes (Elt F) G7 st.2.1) = blockRe v3 v4 d e s t n
      ∧ arg8.view.read (Elt F) (arg8.view.writes (Elt F) G8 st.2.2) = blockIm v3 v4 d e s t n := by
  have hT : Scf.trips k1_t1_loop.lb k1_t1_loop.ub k1_t1_loop.st = 256 := trips_eq
  rw [hT]
  obtain ⟨h1, h2, h3⟩ := st_eq 𝒱 c bd i arg1 harg1 arg2 harg2 arg3 harg3 arg4 harg4 arg5 harg5 arg6 harg6 arg7 harg7 arg8 harg8 arg9 harg9 arg10 harg10 arg11 harg11 v3 v4 X1 X2 X3 X4 d e s t n init hd he hs ht hi G7 G8 256 le_rfl
  refine ⟨h1, funext fun r => ?_, funext fun r => ?_⟩
  · obtain ⟨l, a, b, rfl⟩ : ∃ (l : Fin 256) (a : Fin 32) (b : Fin 128), r = ix3 l a b := ⟨r 0, r 1, r 2, eq_ix3 r⟩
    exact h2 l a b (by omega)
  · obtain ⟨l, a, b, rfl⟩ : ∃ (l : Fin 256) (a : Fin 32) (b : Fin 128), r = ix3 l a b := ⟨r 0, r 1, r 2, eq_ix3 r⟩
    exact h3 l a b (by omega)

set_option maxHeartbeats 1000000 in
/-- The first point starts the recurrence: the scratch and the two sums are filled with the starting number, then read. -/
theorem body_first (h : first i)
    (hu : ∀ (k : Fin 256) a b, u (ix3 k a b) = d (ix2 a b) (n + (255 - k.val))) (hv : ∀ (k : Fin 256) a b, v (ix3 k a b) = e (ix2 a b) (n + (255 - k.val)))
    (hx : ∀ (k : Fin 256) a b, x (ix3 k a b) = s (ix2 a b) (n + (255 - k.val))) (hy : ∀ (k : Fin 256) a b, y (ix3 k a b) = t (ix2 a b) (n + (255 - k.val))) (hn : n = 0) :
    iprop(owns (c : Thread nD τ) arg1 fullShare u ∗ owns (c : Thread nD τ) arg2 fullShare v ∗ owns (c : Thread nD τ) arg3 fullShare x ∗ owns (c : Thread nD τ) arg4 fullShare y
      ∗ owns (c : Thread nD τ) arg5 fullShare p ∗ owns (c : Thread nD τ) arg6 fullShare q ∗ owns (c : Thread nD τ) arg7 fullShare d7 ∗ owns (c : Thread nD τ) arg8 fullShare d8
      ∗ owns (c : Thread nD τ) arg9 fullShare d9 ∗ owns (c : Thread nD τ) arg10 fullShare d10 ∗ owns (c : Thread nD τ) arg11 fullShare d11)
    ⊢ wp (M := 𝕄) frame (wpE (defs₀ (F := F)) Variants.none c none) Set.univ (cc1_ssm_scan_bwd i arg1 harg1 arg2 harg2 arg3 harg3 arg4 harg4 arg5 harg5 arg6 harg6 arg7 harg7 arg8 harg8 arg9 harg9 arg10 harg10 arg11 harg11)
        (fun _ => iprop(owns (c : Thread nD τ) arg1 fullShare u ∗ owns (c : Thread nD τ) arg2 fullShare v ∗ owns (c : Thread nD τ) arg3 fullShare x ∗ owns (c : Thread nD τ) arg4 fullShare y
          ∗ owns (c : Thread nD τ) arg5 fullShare p ∗ owns (c : Thread nD τ) arg6 fullShare q ∗ owns (c : Thread nD τ) arg7 fullShare (blockRe p q d e s t n) ∗ owns (c : Thread nD τ) arg8 fullShare (blockIm p q d e s t n)
          ∗ owns (c : Thread nD τ) arg9 fullShare (sumRe p q d e s t (n + 256)) ∗ owns (c : Thread nD τ) arg10 fullShare (sumIm p q d e s t (n + 256)) ∗ owns (c : Thread nD τ) arg11 fullShare (carry p q d e s t (n + 256)))) := by
  simp only [cc1_ssm_scan_bwd_eq_skeleton]; unfold cc1_ssm_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6
  sl_exec (disch := sl_exact h)
  sl_step
  sl_unfold_words
  rw [whole_read arg5.view _ _ hf5, whole_read arg6.view _ _ hf6]
  rw [zero_whole, zero_whole]
  have hi : ∀ j : S32x128.Idx, at4 (k1_pay4 (arg11.view.readCov [(⟨Rect.unit ![0, 0, 0] S2x32x128.size inb_S2x32x128_S2x32x128_0_0_0, k1_pay1 (F := F)⟩ : View.Piece (Elt F) S2x32x128 .f32)] (pairR ![0, 0, 0] inb_S2x32x128_S1x32x128_0_0_0).toLoadRect)) (k1_pay5 (arg11.view.readCov [(⟨Rect.unit ![0, 0, 0] S2x32x128.size inb_S2x32x128_S2x32x128_0_0_0, k1_pay1 (F := F)⟩ : View.Piece (Elt F) S2x32x128 .f32)] (pairR ![1, 0, 0] inb_S2x32x128_S1x32x128_1_0_0).toLoadRect)) (k1_pay6 (k1_pay2 (F := F))) (k1_pay7 (k1_pay3 (F := F))) j = Recur.adj (p j) (q j) (d j) (e j) (s j) (t j) n := by
    rw [hn]; exact init_first arg11.view
  have hl := loop_post c i arg1 harg1 arg2 harg2 arg3 harg3 arg4 harg4 arg5 harg5 arg6 harg6 arg7 harg7 arg8 harg8 arg9 harg9 arg10 harg10 arg11 harg11 Variants.none none p q (harg1.unread u) (harg2.unread v) (harg3.unread x) (harg4.unread y) d e s t n
    ((k1_pay4 (arg11.view.readCov [(⟨Rect.unit ![0, 0, 0] S2x32x128.size inb_S2x32x128_S2x32x128_0_0_0, k1_pay1 (F := F)⟩ : View.Piece (Elt F) S2x32x128 .f32)] (pairR ![0, 0, 0] inb_S2x32x128_S1x32x128_0_0_0).toLoadRect)), (k1_pay5 (arg11.view.readCov [(⟨Rect.unit ![0, 0, 0] S2x32x128.size inb_S2x32x128_S2x32x128_0_0_0, k1_pay1 (F := F)⟩ : View.Piece (Elt F) S2x32x128 .f32)] (pairR ![1, 0, 0] inb_S2x32x128_S1x32x128_1_0_0).toLoadRect)), (k1_pay6 (k1_pay2 (F := F))), (k1_pay7 (k1_pay3 (F := F))))
    (fun k a b => (congrFun hf1 _).trans (hu k a b)) (fun k a b => (congrFun hf2 _).trans (hv k a b))
    (fun k a b => (congrFun hf3 _).trans (hx k a b)) (fun k a b => (congrFun hf4 _).trans (hy k a b)) hi f7 f8
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact hl.2.1
  isplitl [H8]
  · iexists _; isplitr; swap; · iexact H8
    ipureintro; exact hl.2.2
  isplitl [H9]
  · iexists _; isplitr; swap; · iexact H9
    ipureintro; exact (whole_hit _ _ _ _).trans (funext fun j => congrArg Recur.Adj.gre (hl.1 j))
  isplitl [H10]
  · iexists _; isplitr; swap; · iexact H10
    ipureintro; exact (whole_hit _ _ _ _).trans (funext fun j => congrArg Recur.Adj.gim (hl.1 j))
  iexists _; isplitr; swap; · iexact H11
  ipureintro
  funext r
  refine (pair_rows arg11.view _ _ _ _ _ _ _ _ r).trans ?_
  have e := hl.1 (laneOf2 r)
  exact if_congr Iff.rfl (congrArg Recur.Adj.lre e) (congrArg Recur.Adj.lim e)

set_option maxHeartbeats 1000000 in
/-- The other points take it up where the point before left it. -/
theorem body_next (h : ¬ first i)
    (hu : ∀ (k : Fin 256) a b, u (ix3 k a b) = d (ix2 a b) (n + (255 - k.val))) (hv : ∀ (k : Fin 256) a b, v (ix3 k a b) = e (ix2 a b) (n + (255 - k.val)))
    (hx : ∀ (k : Fin 256) a b, x (ix3 k a b) = s (ix2 a b) (n + (255 - k.val))) (hy : ∀ (k : Fin 256) a b, y (ix3 k a b) = t (ix2 a b) (n + (255 - k.val))) :
    iprop(owns (c : Thread nD τ) arg1 fullShare u ∗ owns (c : Thread nD τ) arg2 fullShare v ∗ owns (c : Thread nD τ) arg3 fullShare x ∗ owns (c : Thread nD τ) arg4 fullShare y
      ∗ owns (c : Thread nD τ) arg5 fullShare p ∗ owns (c : Thread nD τ) arg6 fullShare q ∗ owns (c : Thread nD τ) arg7 fullShare d7 ∗ owns (c : Thread nD τ) arg8 fullShare d8
      ∗ owns (c : Thread nD τ) arg9 fullShare (sumRe p q d e s t n) ∗ owns (c : Thread nD τ) arg10 fullShare (sumIm p q d e s t n) ∗ owns (c : Thread nD τ) arg11 fullShare (carry p q d e s t n))
    ⊢ wp (M := 𝕄) frame (wpE (defs₀ (F := F)) Variants.none c none) Set.univ (cc1_ssm_scan_bwd i arg1 harg1 arg2 harg2 arg3 harg3 arg4 harg4 arg5 harg5 arg6 harg6 arg7 harg7 arg8 harg8 arg9 harg9 arg10 harg10 arg11 harg11)
        (fun _ => iprop(owns (c : Thread nD τ) arg1 fullShare u ∗ owns (c : Thread nD τ) arg2 fullShare v ∗ owns (c : Thread nD τ) arg3 fullShare x ∗ owns (c : Thread nD τ) arg4 fullShare y
          ∗ owns (c : Thread nD τ) arg5 fullShare p ∗ owns (c : Thread nD τ) arg6 fullShare q ∗ owns (c : Thread nD τ) arg7 fullShare (blockRe p q d e s t n) ∗ owns (c : Thread nD τ) arg8 fullShare (blockIm p q d e s t n)
          ∗ owns (c : Thread nD τ) arg9 fullShare (sumRe p q d e s t (n + 256)) ∗ owns (c : Thread nD τ) arg10 fullShare (sumIm p q d e s t (n + 256)) ∗ owns (c : Thread nD τ) arg11 fullShare (carry p q d e s t (n + 256)))) := by
  simp only [cc1_ssm_scan_bwd_eq_skeleton]; unfold cc1_ssm_scan_bwd_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg9.eq_unread hf9; obtain rfl := harg10.eq_unread hf10; obtain rfl := harg11.eq_unread hf11
  sl_exec (disch := sl_exact h)
  sl_step
  sl_unfold_words
  rw [whole_read arg5.view _ _ hf5, whole_read arg6.view _ _ hf6]
  rw [whole_read arg9.view _ _ hf9, whole_read arg10.view _ _ hf10]
  have hi : ∀ j : S32x128.Idx, at4 (k1_pay4 (View.readAt (Elt F) arg11.view (pairR ![0, 0, 0] inb_S2x32x128_S1x32x128_0_0_0).toLoadRect (harg11.unread (carry p q d e s t n)))) (k1_pay5 (View.readAt (Elt F) arg11.view (pairR ![1, 0, 0] inb_S2x32x128_S1x32x128_1_0_0).toLoadRect (harg11.unread (carry p q d e s t n)))) (k1_pay6 (sumRe p q d e s t n)) (k1_pay7 (sumIm p q d e s t n)) j = Recur.adj (p j) (q j) (d j) (e j) (s j) (t j) n :=
    init_next arg11.view _ p q d e s t n hf11
  have hl := loop_post c i arg1 harg1 arg2 harg2 arg3 harg3 arg4 harg4 arg5 harg5 arg6 harg6 arg7 harg7 arg8 harg8 arg9 harg9 arg10 harg10 arg11 harg11 Variants.none none p q (harg1.unread u) (harg2.unread v) (harg3.unread x) (harg4.unread y) d e s t n
    ((k1_pay4 (View.readAt (Elt F) arg11.view (pairR ![0, 0, 0] inb_S2x32x128_S1x32x128_0_0_0).toLoadRect (harg11.unread (carry p q d e s t n)))), (k1_pay5 (View.readAt (Elt F) arg11.view (pairR ![1, 0, 0] inb_S2x32x128_S1x32x128_1_0_0).toLoadRect (harg11.unread (carry p q d e s t n)))), (k1_pay6 (sumRe p q d e s t n)), (k1_pay7 (sumIm p q d e s t n)))
    (fun k a b => (congrFun hf1 _).trans (hu k a b)) (fun k a b => (congrFun hf2 _).trans (hv k a b))
    (fun k a b => (congrFun hf3 _).trans (hx k a b)) (fun k a b => (congrFun hf4 _).trans (hy k a b)) hi f7 f8
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; swap; · iexact H7
    ipureintro; exact hl.2.1
  isplitl [H8]
  · iexists _; isplitr; swap; · iexact H8
    ipureintro; exact hl.2.2
  isplitl [H9]
  · iexists _; isplitr; swap; · iexact H9
    ipureintro; exact (whole_hit _ _ _ _).trans (funext fun j => congrArg Recur.Adj.gre (hl.1 j))
  isplitl [H10]
  · iexists _; isplitr; swap; · iexact H10
    ipureintro; exact (whole_hit _ _ _ _).trans (funext fun j => congrArg Recur.Adj.gim (hl.1 j))
  iexists _; isplitr; swap; · iexact H11
  ipureintro
  funext r
  refine (pair_rows arg11.view _ _ _ _ _ _ _ _ r).trans ?_
  have e := hl.1 (laneOf2 r)
  exact if_congr Iff.rfl (congrArg Recur.Adj.lre e) (congrArg Recur.Adj.lim e)

end Body

end Cert.ScanIdeal.Bwd
-- ==== Proof.ScanBwdRegion.lean ====
/- The reverse scan's call over its whole grid: what each point finds and leaves, and the body's triple at every point. -/
module

public import proofs.«01_k».proof.Proof.ScanBwdBody
public import proofs.«01_k».proof.Proof.Gen.ScanIdeal.Launch
public import Idealize.ShloMosaic.Lib.Pipeline.Regions

@[expose] public section

set_option maxRecDepth 8192

noncomputable section

namespace Cert.ScanIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.ScanIdeal.Gen

variable {F : FTy → Type} [FloatOps F]

local notation "𝕄" => MT nD τ sig Unit (Elt F) ℕ (UR sig nD τ) ℕ

section Data

variable (V : Dev nD → Valuation τ sig (Elt F))

/-- The arrays the call reads, as the recurrence takes them: the multiplier, and the cotangents and states lane by lane from the last row
    up. -/
abbrev P (c : Dev nD) : S32x128.Idx → F .f32 := V c (Proc.devRef .tc main_arg2)
abbrev Q (c : Dev nD) : S32x128.Idx → F .f32 := V c (Proc.devRef .tc main_arg3)
abbrev U (c : Dev nD) : S32x128.Idx → ℕ → F .f32 := Recur.laneUp (V c (Proc.devRef .tc main_arg4) : Recur.Arr.Idx → F .f32)
abbrev W (c : Dev nD) : S32x128.Idx → ℕ → F .f32 := Recur.laneUp (V c (Proc.devRef .tc main_arg5) : Recur.Arr.Idx → F .f32)
abbrev S (c : Dev nD) : S32x128.Idx → ℕ → F .f32 := Recur.laneUp (V c (Proc.devRef .tc main_v0_0) : Recur.Arr.Idx → F .f32)
abbrev T (c : Dev nD) : S32x128.Idx → ℕ → F .f32 := Recur.laneUp (V c (Proc.devRef .tc main_v0_1) : Recur.Arr.Idx → F .f32)

/-- The block of input window `w` at point `t`. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The scratch the call carries between points. -/
abbrev scratch : Memref sig .tc .vmem S2x32x128 .f32 := Memref.whole cc1_scratch0

/-- The scoped buffers that are neither staging buffers of the call nor its scratch, at anything. -/
def others (c : Dev nD) : sProp 𝕄 :=
  bigSepL [cc0_stg0_0, cc0_stg0_1, cc0_stg1_0, cc0_stg1_1, cc0_stg2_0, cc0_stg3_0, cc0_stg4_0, cc0_stg4_1, cc0_stg5_0, cc0_stg5_1, cc0_scratch0]
    fun b => iprop(∃ f : Buf (Elt F) ((c.tc : Thread nD τ).loc b), ((c.tc : Thread nD τ).loc b) ↦{fullShare} f)

theorem scoped_eq (c : Dev nD) :
    (Pipeline.scopedRest (Ix := Unit) (Name := ℕ) (U := UR sig nD τ) (Lvl := ℕ) (Val := Elt F) spec1 c : sProp 𝕄)
      = iprop((∃ d, owns (c : Thread nD τ) scratch fullShare d) ∗ others c) :=
  (Pipeline.scopedRest_eq_of_list spec1 c [cc1_scratch0, cc0_stg0_0, cc0_stg0_1, cc0_stg1_0, cc0_stg1_1, cc0_stg2_0, cc0_stg3_0, cc0_stg4_0, cc0_stg4_1, cc0_stg5_0, cc0_stg5_1, cc0_scratch0] (by decide) (by decide)).trans (by
    simp only [scratch, owns_whole]; rfl)

/-- What holds between points: before point `n` the scratch holds what the recurrence carries there; before the first, anything. -/
def inv (c : Dev nD) (n : ℕ) : sProp 𝕄 :=
  iprop((∃ d, ⌜n ≠ 0 → d = carry (P V c) (Q V c) (U V c) (W V c) (S V c) (T V c) (256 * n)⌝ ∗ owns (c : Thread nD τ) scratch fullShare d) ∗ others c)

/-- The proof data of the call: the arrays as it finds them, each input's buffer at its block, the results' as the recurrence has them. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => Bwd.blockRe (P V c) (Q V c) (U V c) (W V c) (S V c) (T V c) (256 * t.val)
    | ⟨7, _⟩ => Bwd.blockIm (P V c) (Q V c) (U V c) (W V c) (S V c) (T V c) (256 * t.val)
    | ⟨8, _⟩ => Bwd.sumRe (P V c) (Q V c) (U V c) (W V c) (S V c) (T V c) (256 * (t.val + 1))
    | ⟨9, _⟩ => Bwd.sumIm (P V c) (Q V c) (U V c) (W V c) (S V c) (T V c) (256 * (t.val + 1))
  Φ t := inv V c t.val
  q _ := fullShare
  owed _ := 0

/-- Which block each window holds at each point. -/
theorem idx : ∀ t : Fin cfg1.N, win1_0.index t = ![7 - t.val, 0, 0] ∧ win1_1.index t = ![7 - t.val, 0, 0] ∧ win1_2.index t = ![7 - t.val, 0, 0] ∧ win1_3.index t = ![7 - t.val, 0, 0] ∧ win1_4.index t = ![0, 0] ∧ win1_5.index t = ![0, 0] ∧ win1_6.index t = ![7 - t.val, 0, 0] ∧ win1_7.index t = ![7 - t.val, 0, 0] :=
  (by decide +kernel : ∀ t : Fin grid1.N, _)

theorem before_0 (c : Dev nD) (t : Fin cfg1.N) (d) : (dat V c).before 0 t d = iblk V c 0 t :=
  ((dat V c).before_in_eq_fetched 0 rfl (fun _ => rfl) (fun _ _ _ => rfl) (fun _ => rfl) t d).trans rfl
theorem before_1 (c : Dev nD) (t : Fin cfg1.N) (d) : (dat V c).before 1 t d = iblk V c 1 t :=
  ((dat V c).before_in_eq_fetched 1 rfl (fun _ => rfl) (fun _ _ _ => rfl) (fun _ => rfl) t d).trans rfl
theorem before_2 (c : Dev nD) (t : Fin cfg1.N) (d) : (dat V c).before 2 t d = iblk V c 2 t :=
  ((dat V c).before_in_eq_fetched 2 rfl (fun _ => rfl) (fun _ _ _ => rfl) (fun _ => rfl) t d).trans rfl
theorem before_3 (c : Dev nD) (t : Fin cfg1.N) (d) : (dat V c).before 3 t d = iblk V c 3 t :=
  ((dat V c).before_in_eq_fetched 3 rfl (fun _ => rfl) (fun _ _ _ => rfl) (fun _ => rfl) t d).trans rfl
theorem before_4 (c : Dev nD) (t : Fin cfg1.N) (d) : (dat V c).before 4 t d = iblk V c 4 t :=
  ((dat V c).before_in_eq_fetched 4 rfl (fun _ => rfl) (fun _ _ _ => rfl) (fun _ => rfl) t d).trans rfl
theorem before_5 (c : Dev nD) (t : Fin cfg1.N) (d) : (dat V c).before 5 t d = iblk V c 5 t :=
  ((dat V c).before_in_eq_fetched 5 rfl (fun _ => rfl) (fun _ _ _ => rfl) (fun _ => rfl) t d).trans rfl

theorem block_0 (c : Dev nD) (t : Fin cfg1.N) (k : Fin 256) (a : Fin 32) (b : Fin 128) :
    iblk V c 0 t (ix3 k a b) = U V c (ix2 a b) (256 * t.val + (255 - k.val)) := by
  have hN : t.val < 8 := lt_of_lt_of_eq t.isLt (show cfg1.N = 8 from N_1)
  have hk := k.isLt
  refine Eq.trans ?_ (Recur.lane_of_lt _ _ _ (by omega)).symm
  blk_point [iblk, idx t]

theorem block_1 (c : Dev nD) (t : Fin cfg1.N) (k : Fin 256) (a : Fin 32) (b : Fin 128) :
    iblk V c 1 t (ix3 k a b) = W V c (ix2 a b) (256 * t.val + (255 - k.val)) := by
  have hN : t.val < 8 := lt_of_lt_of_eq t.isLt (show cfg1.N = 8 from N_1)
  have hk := k.isLt
  refine Eq.trans ?_ (Recur.lane_of_lt _ _ _ (by omega)).symm
  blk_point [iblk, idx t]

theorem block_2 (c : Dev nD) (t : Fin cfg1.N) (k : Fin 256) (a : Fin 32) (b : Fin 128) :
    iblk V c 2 t (ix3 k a b) = S V c (ix2 a b) (256 * t.val + (255 - k.val)) := by
  have hN : t.val < 8 := lt_of_lt_of_eq t.isLt (show cfg1.N = 8 from N_1)
  have hk := k.isLt
  refine Eq.trans ?_ (Recur.lane_of_lt _ _ _ (by omega)).symm
  blk_point [iblk, idx t]

theorem block_3 (c : Dev nD) (t : Fin cfg1.N) (k : Fin 256) (a : Fin 32) (b : Fin 128) :
    iblk V c 3 t (ix3 k a b) = T V c (ix2 a b) (256 * t.val + (255 - k.val)) := by
  have hN : t.val < 8 := lt_of_lt_of_eq t.isLt (show cfg1.N = 8 from N_1)
  have hk := k.isLt
  refine Eq.trans ?_ (Recur.lane_of_lt _ _ _ (by omega)).symm
  blk_point [iblk, idx t]

theorem block_4 (c : Dev nD) (t : Fin cfg1.N) : iblk V c 4 t = P V c := by
  funext y
  blk_point [iblk, idx t]

theorem block_5 (c : Dev nD) (t : Fin cfg1.N) : iblk V c 5 t = Q V c := by
  funext y
  blk_point [iblk, idx t]

/-- A sum's buffer, at a later point, holds what the point before left in it. -/
theorem before_8 (c : Dev nD) (t : Fin cfg1.N) (ht : t.val ≠ 0) (d) : (dat V c).before 8 t d = sumRe (P V c) (Q V c) (U V c) (W V c) (S V c) (T V c) (256 * t.val) := by
  have hN : t.val < 8 := lt_of_lt_of_eq t.isLt (show cfg1.N = 8 from N_1)
  rw [(dat V c).before_out_kept 8 rfl t ht (by
    rw [Bool.eq_false_iff]; intro h; rw [flush1_8] at h; dsimp only at h; omega) (fun _ => rfl) (fun _ _ => rfl) d]
  show sumRe (P V c) (Q V c) (U V c) (W V c) (S V c) (T V c) (256 * (t.val - 1 + 1)) = _
  rw [Nat.sub_add_cancel (Nat.one_le_iff_ne_zero.mpr ht)]

/-- A sum's buffer, at a later point, holds what the point before left in it. -/
theorem before_9 (c : Dev nD) (t : Fin cfg1.N) (ht : t.val ≠ 0) (d) : (dat V c).before 9 t d = sumIm (P V c) (Q V c) (U V c) (W V c) (S V c) (T V c) (256 * t.val) := by
  have hN : t.val < 8 := lt_of_lt_of_eq t.isLt (show cfg1.N = 8 from N_1)
  rw [(dat V c).before_out_kept 9 rfl t ht (by
    rw [Bool.eq_false_iff]; intro h; rw [flush1_9] at h; dsimp only at h; omega) (fun _ => rfl) (fun _ _ => rfl) d]
  show sumIm (P V c) (Q V c) (U V c) (W V c) (S V c) (T V c) (256 * (t.val - 1 + 1)) = _
  rw [Nat.sub_add_cancel (Nat.one_le_iff_ne_zero.mpr ht)]

/-- Which point is the first. -/
theorem first_iff : ∀ t : Fin cfg1.N, first (grid1.coords t) ↔ t.val = 0 :=
  (by decide +kernel : ∀ t : Fin grid1.N, first (grid1.coords t) ↔ t.val = 0)

end Data

section Point

variable (V : Dev nD → Valuation τ sig (Elt F))

set_option maxHeartbeats 2000000 in
/-- The body at any point, from the invariant before it and the staging buffers to the invariant after it and the buffers as the proof
    data have them. -/
theorem sound (c : Dev nD) (t : Fin cfg1.N) :
    iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d))
    ∗ (∃ d, owns (c : Thread nD τ) (st1_9 t) fullShare ((dat V c).before 9 t d)))
    ⊢ wp (M := 𝕄) frame (wpE (defs₀ (F := F)) Variants.none c none) Set.univ (bodyAt1 t) (fun _ =>
      iprop((dat V c).Φ t.succ ∗ (dat V c).owesAt () t.succ
      ∗ (dat V c).leavesExact 0 t
      ∗ (dat V c).leavesExact 1 t
      ∗ (dat V c).leavesExact 2 t
      ∗ (dat V c).leavesExact 3 t
      ∗ (dat V c).leavesExact 4 t
      ∗ (dat V c).leavesExact 5 t
      ∗ (dat V c).leavesExact 6 t
      ∗ (dat V c).leavesExact 7 t
      ∗ (dat V c).leavesExact 8 t
      ∗ (dat V c).leavesExact 9 t)) := by
  unfold bodyAt1
  rw [show (dat V c).Φ t.castSucc = inv V c t.val from rfl, show (dat V c).Φ t.succ = inv V c (t.val + 1) from rfl,
    show (dat V c).owesAt () t.succ = (dat V c).owesAt () t.castSucc from rfl]
  rw [show (dat V c).leavesExact 0 t = owns (c : Thread nD τ) (st1_0 t) fullShare (iblk V c 0 t) from rfl]
  rw [show (dat V c).leavesExact 1 t = owns (c : Thread nD τ) (st1_1 t) fullShare (iblk V c 1 t) from rfl]
  rw [show (dat V c).leavesExact 2 t = owns (c : Thread nD τ) (st1_2 t) fullShare (iblk V c 2 t) from rfl]
  rw [show (dat V c).leavesExact 3 t = owns (c : Thread nD τ) (st1_3 t) fullShare (iblk V c 3 t) from rfl]
  rw [show (dat V c).leavesExact 4 t = owns (c : Thread nD τ) (st1_4 t) fullShare (iblk V c 4 t) from rfl]
  rw [show (dat V c).leavesExact 5 t = owns (c : Thread nD τ) (st1_5 t) fullShare (iblk V c 5 t) from rfl]
  rw [show (dat V c).leavesExact 6 t = owns (c : Thread nD τ) (st1_6 t) fullShare (Bwd.blockRe (P V c) (Q V c) (U V c) (W V c) (S V c) (T V c) (256 * t.val)) from rfl]
  rw [show (dat V c).leavesExact 7 t = owns (c : Thread nD τ) (st1_7 t) fullShare (Bwd.blockIm (P V c) (Q V c) (U V c) (W V c) (S V c) (T V c) (256 * t.val)) from rfl]
  rw [show (dat V c).leavesExact 8 t = owns (c : Thread nD τ) (st1_8 t) fullShare (Bwd.sumRe (P V c) (Q V c) (U V c) (W V c) (S V c) (T V c) (256 * (t.val + 1))) from rfl]
  rw [show (dat V c).leavesExact 9 t = owns (c : Thread nD τ) (st1_9 t) fullShare (Bwd.sumIm (P V c) (Q V c) (U V c) (W V c) (S V c) (T V c) (256 * (t.val + 1))) from rfl]
  simp only [before_0, before_1, before_2, before_3, before_4, before_5, block_4, block_5]
  unfold inv
  by_cases hz : t.val = 0
  · iintro ⟨⟨⟨%ds, -, HS⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (wp_wand_r _ _ _)
    isplitl [HS H0 H1 H2 H3 H4 H5 H6 H7 H8 H9]
    · iapply (body_first c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) scratch (Memref.isWhole_whole _) (P V c) (Q V c) (iblk V c 0 t) (iblk V c 1 t) (iblk V c 2 t) (iblk V c 3 t) (U V c) (W V c) (S V c) (T V c) (256 * t.val) ((dat V c).before 6 t d6) ((dat V c).before 7 t d7) ((dat V c).before 8 t d8) ((dat V c).before 9 t d9) ds ((first_iff t).mpr hz) (block_0 V c t) (block_1 V c t) (block_2 V c t) (block_3 V c t) (by rw [hz]))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    · iintro %r ⟨H0, H1, H2, H3, H4, H5, H6, H7, H8, H9, HS⟩
      isplitl [HS Hr]
      · isplitl [HS]
        · iexists _; isplitr; swap; · iexact HS
          ipureintro; intro _; rw [Nat.mul_add, Nat.mul_one]
        iexact Hr
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · iintro ⟨⟨⟨%ds, %hd, HS⟩, Hr⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    rw [hd hz]
    rw [before_8 V c t hz, before_9 V c t hz]
    iapply (wp_wand_r _ _ _)
    isplitl [HS H0 H1 H2 H3 H4 H5 H6 H7 H8 H9]
    · iapply (body_next c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) scratch (Memref.isWhole_whole _) (P V c) (Q V c) (iblk V c 0 t) (iblk V c 1 t) (iblk V c 2 t) (iblk V c 3 t) (U V c) (W V c) (S V c) (T V c) (256 * t.val) ((dat V c).before 6 t d6) ((dat V c).before 7 t d7) (fun h => hz ((first_iff t).mp h)) (block_0 V c t) (block_1 V c t) (block_2 V c t) (block_3 V c t))
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact HS
    · iintro %r ⟨H0, H1, H2, H3, H4, H5, H6, H7, H8, H9, HS⟩
      isplitl [HS Hr]
      · isplitl [HS]
        · iexists _; isplitr; swap; · iexact HS
          ipureintro; intro _; rw [Nat.mul_add, Nat.mul_one]
        iexact Hr
      isplitl [HO]; · iexact HO
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

theorem defs₀_row (t : Fin cfg1.N) : defs₀ (F := F) .tc cfg1.body (cfg1.bodyArgs t (cfg1.slots t)) = bodyAt1 t := by
  unfold defs₀; rw [Defs.onTc_tc]

/-- The body at every point, as the launch takes it. -/
theorem body_obligation (c : Dev nD) : BodyObligation (dat V c) (defs₀ (F := F)) Variants.none () Set.univ := fun t => by
  rw [bigSep_W1, bigSep_W1, defs₀_row]
  exact triple_restated (sound V c t) rfl .rfl fun _ => .rfl

end Point

end Cert.ScanIdeal.Bwd
-- ==== Proof.ScanRun.lean ====
/- The run of the scan's program: the forward call, then the reverse call over the states it left; from any memory, for any interpretation of
   the floats, every buffer at the end. -/
module

public import proofs.«01_k».proof.Proof.ScanFwdRegion
public import proofs.«01_k».proof.Proof.ScanBwdRegion
public import proofs.«01_k».proof.Proof.Gen.ScanIdeal.Regions
public import Idealize.ShloMosaic.Lib.Pipeline.FrameTail

@[expose] public section

set_option maxRecDepth 8192

noncomputable section

namespace Cert.ScanIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg RegionSeg)
open Cert.ScanIdeal.Gen hiding V0 V1 V2 segs

variable {F : FTy → Type} [FloatOps F]

local notation "𝕄" => MT nD τ sig Unit (Elt F) ℕ (UR sig nD τ) ℕ

variable (m : (ℓ : Loc nD τ sig) → Buf (Elt F) ℓ)

/-- A core's buffers at launch, after the forward call, and after the reverse call. -/
abbrev V0 (c : Dev nD) : Valuation τ sig (Elt F) := fun b => m (c, b)
def V1 (c : Dev nD) : Valuation τ sig (Elt F) := Pipeline.afterRegion (Fwd.dat (V0 m) c) (V0 m c)
def V2 (c : Dev nD) : Valuation τ sig (Elt F) := Pipeline.afterRegion (Bwd.dat (V1 m) c) (V1 m c)

/-- Both calls' proof data. -/
def dats : (p : Fin 2) → (c : Dev nD) → Dat τ (Elt F) Unit ℕ (UR sig nD τ) ℕ (cfgs p) c
  | 0 => Fwd.dat (V0 m)
  | 1 => Bwd.dat (V1 m)

/-- No wait is ordered: nothing is owed at a wait. -/
abbrev L : GSem nD τ sig → Finset Unit := fun _ => ∅
abbrev lv : GSem nD τ sig → Unit → ℕ := fun _ _ => 0

/-- What rides beside the buffers: the core owes nothing. -/
abbrev R (c : Dev nD) : sProp 𝕄 := iprop(∃ W, owes (c : Thread nD τ) (0 : CellTallies nD τ sig Unit) W)

/-- The forward scan's call as a segment of @main: entered with every buffer at `V0`, left with the call's arrays as it has them. -/
def reg0 : RegionSeg (pcfgs (F := F)) adm (dats m) () defs₀ Variants.none L lv 0 where
  win := launch0.win.to₀
  block_pos := launch0.block_pos
  stage_whole := launch0.stage_whole
  K := PEmpty
  osem k := k.elim
  ho := Pipeline.OwnSemFacts.none _
  hbody c := (Fwd.body_obligation (V0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m c) ∗ R c)
  X _ := iprop(emp)
  Y _ := iprop(emp)
  Z c := Pipeline.unscopedRest (Ix := Unit) (Name := ℕ) (U := UR sig nD τ) (Lvl := ℕ) spec0 c fun b => V0 m c (Proc.devRef .tc b)
  hentry c := by
    rw [show StableHlo.held (c : Thread nD τ) (Pipeline.ucRefs τ sig) (V0 m c) = unscopedBufs c (fun b => V0 m c (Proc.devRef .tc b))
      from (Pipeline.unscopedBufs_held (Ix := Unit) (Name := ℕ) (U := UR sig nD τ) (Lvl := ℕ) c (V0 m c)).symm]
    have hsplit := Pipeline.arrays_of_unscopedBufs (p := 0) (pcfgs (F := F)) adm (dats m) launch0.win launch0.arr_whole c
      ((dats m 0 c).share_full fun _ => rfl) (fun b => V0 m c (Proc.devRef .tc b)) (fun _ => rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Fwd.inv (V0 m) c 0 from rfl, show Pipeline.scopedRest ((pcfgs (F := F)) 0).spec c = Pipeline.scopedRest spec0 c from rfl, Fwd.scoped_eq c]
    unfold Fwd.inv
    iintro ⟨-, -, ⟨%d, Hd⟩, Hr⟩
    isplitl [Hd]
    · iexists d; isplitr; · ipureintro; exact fun h => absurd rfl h
      iexact Hd
    iexact Hr
  hout c := by
    rw [Pipeline.ownSems0_none]
    show Fwd.inv (V0 m) c cfg0.N ⊢ iprop(emp ∗ BI.emp ∗ Pipeline.scopedRest spec0 c)
    rw [Fwd.scoped_eq c]
    unfold Fwd.inv
    iintro ⟨⟨%d, -, Hd⟩, Hr⟩
    isplitr; · iempintro
    isplitr; · iempintro
    isplitl [Hd]; · iexists d; iexact Hd
    iexact Hr
  hexit c := by
    have hjoin := Pipeline.unscopedBufs_of_arrays (p := 0) (pcfgs (F := F)) adm (Ix := Unit) (Name := ℕ) (U := UR sig nD τ) (Lvl := ℕ)
      launch0.win launch0.arr_whole c (dats m) ((dats m 0 c).share_full fun _ => rfl)
      (fun b => V0 m c (Proc.devRef .tc b)) (fun b => V1 m c (Proc.devRef .tc b)) ((dats m 0 c).arrAt · cfg0.N)
      (fun w => (Pipeline.afterRegion_arr (Fwd.dat (V0 m) c) (V0 m c) launch0.win.arr_inj w).symm)
      (fun b hb => Pipeline.afterRegion_of_not_arr (Fwd.dat (V0 m) c) (V0 m c)
        fun w h => hb (h ▸ Finset.mem_image.mpr ⟨w, Finset.mem_univ _, rfl⟩))
    rw [show StableHlo.held (c : Thread nD τ) (Pipeline.ucRefs τ sig) (V1 m c) = unscopedBufs c (fun b => V1 m c (Proc.devRef .tc b))
      from (Pipeline.unscopedBufs_held (Ix := Unit) (Name := ℕ) (U := UR sig nD τ) (Lvl := ℕ) c (V1 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The reverse scan's call as a segment of @main: entered with every buffer at `V1`, left with the call's arrays as it has them. -/
def reg1 : RegionSeg (pcfgs (F := F)) adm (dats m) () defs₀ Variants.none L lv 1 where
  win := launch1.win.to₀
  block_pos := launch1.block_pos
  stage_whole := launch1.stage_whole
  K := PEmpty
  osem k := k.elim
  ho := Pipeline.OwnSemFacts.none _
  hbody c := (Bwd.body_obligation (V1 m) c).loose
  hwaits := Pipeline.hwaits_of_owed_zero _ _ _ _ L lv 1 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X _ := iprop(emp)
  Y _ := iprop(emp)
  Z c := Pipeline.unscopedRest (Ix := Unit) (Name := ℕ) (U := UR sig nD τ) (Lvl := ℕ) spec1 c fun b => V1 m c (Proc.devRef .tc b)
  hentry c := by
    rw [show StableHlo.held (c : Thread nD τ) (Pipeline.ucRefs τ sig) (V1 m c) = unscopedBufs c (fun b => V1 m c (Proc.devRef .tc b))
      from (Pipeline.unscopedBufs_held (Ix := Unit) (Name := ℕ) (U := UR sig nD τ) (Lvl := ℕ) c (V1 m c)).symm]
    have hsplit := Pipeline.arrays_of_unscopedBufs (p := 1) (pcfgs (F := F)) adm (dats m) launch1.win launch1.arr_whole c
      ((dats m 1 c).share_full fun _ => rfl) (fun b => V1 m c (Proc.devRef .tc b)) (fun _ => rfl)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 1 c).Φ 0 = Bwd.inv (V1 m) c 0 from rfl, show Pipeline.scopedRest ((pcfgs (F := F)) 1).spec c = Pipeline.scopedRest spec1 c from rfl, Bwd.scoped_eq c]
    unfold Bwd.inv
    iintro ⟨-, -, ⟨%d, Hd⟩, Hr⟩
    isplitl [Hd]
    · iexists d; isplitr; · ipureintro; exact fun h => absurd rfl h
      iexact Hd
    iexact Hr
  hout c := by
    rw [Pipeline.ownSems0_none]
    show Bwd.inv (V1 m) c cfg1.N ⊢ iprop(emp ∗ BI.emp ∗ Pipeline.scopedRest spec1 c)
    rw [Bwd.scoped_eq c]
    unfold Bwd.inv
    iintro ⟨⟨%d, -, Hd⟩, Hr⟩
    isplitr; · iempintro
    isplitr; · iempintro
    isplitl [Hd]; · iexists d; iexact Hd
    iexact Hr
  hexit c := by
    have hjoin := Pipeline.unscopedBufs_of_arrays (p := 1) (pcfgs (F := F)) adm (Ix := Unit) (Name := ℕ) (U := UR sig nD τ) (Lvl := ℕ)
      launch1.win launch1.arr_whole c (dats m) ((dats m 1 c).share_full fun _ => rfl)
      (fun b => V1 m c (Proc.devRef .tc b)) (fun b => V2 m c (Proc.devRef .tc b)) ((dats m 1 c).arrAt · cfg1.N)
      (fun w => (Pipeline.afterRegion_arr (Bwd.dat (V1 m) c) (V1 m c) launch1.win.arr_inj w).symm)
      (fun b hb => Pipeline.afterRegion_of_not_arr (Bwd.dat (V1 m) c) (V1 m c)
        fun w h => hb (h ▸ Finset.mem_image.mpr ⟨w, Finset.mem_univ _, rfl⟩))
    rw [show StableHlo.held (c : Thread nD τ) (Pipeline.ucRefs τ sig) (V2 m c) = unscopedBufs c (fun b => V2 m c (Proc.devRef .tc b))
      from (Pipeline.unscopedBufs_held (Ix := Unit) (Name := ℕ) (U := UR sig nD τ) (Lvl := ℕ) c (V2 m c)).symm]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- Every execution of @main ends, nothing faulting, with every buffer at `V2` and every semaphore at zero. -/
theorem run_main (ρ : Dev nD → PrngReg) : θ_run defs (onTc (τ := τ) (main (F := F))) ⟨m, fun _ => 0, ρ⟩ (fun r =>
    (∀ c : Dev nD, ∀ b ∈ Pipeline.ucRefs τ sig, r.2.mem ((c : Thread nD τ).1, b) = V2 m c b) ∧ r.2.sem = fun _ => 0) := by
  refine Pipeline.θ_run_regions_kit_dev_sems (pcfgs (F := F)) adm (dats m) () cellOf_inj emb₁ defs₀ Variants.none L lv m ρ main
    (fun _ => [.region (reg0 m), .region (reg1 m)])
    (fun c Q => by
      rewrite [main_chain c, Seg.run_eq_chain,
        show ([.region (reg0 m), .region (reg1 m)] : List (Seg (pcfgs (F := F)) adm (dats m) () defs₀ Variants.none L lv)).map Seg.prog = [
          Prog.lift (.customCall (Pipeline.entry 0) ()),
          Prog.lift (.customCall (Pipeline.entry 1) ()) ] from rfl]
      exact .rfl)
    (fun c => by simp only [Seg.pipes_region, Seg.pipes_nil]; decide) (O₀ := 0) (hL := fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V2 m c))
    (hch := fun c => ⟨.rfl, .rfl, .rfl⟩)
    (hinit := by
      refine Pipeline.initEach L lv fun c => ?_
      rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = V2 m c b)
    (hfin := fun c s' => by
      unfold StableHlo.held
      iintro ⟨Hh, HSI⟩
      ihave Hr := (pointsTo_read_all (Pipeline.ucRefs τ sig) (fun b => ((c : Thread nD τ).1, b)) (V2 m c) s') $$ [Hh HSI]
      · isplitl [Hh] <;> iassumption
      imodintro; iexact Hr)
    (hQ := fun _ h hz => ⟨h, funext fun g => hz g (.inr (regions_no_unscoped g.2))⟩)

end Cert.ScanIdeal.Run
-- ==== Proof.ScanOut.lean ====
/- What the two calls of the scan leave in their result arrays: the states row by row, the adjoints row by row, and the two sums of the
   multiplier's gradient. -/
module

public import proofs.«01_k».proof.Proof.ScanRun

@[expose] public section

set_option maxRecDepth 8192

noncomputable section

open Idealize.ShloMosaic Idealize.ShloMosaic.TcCoe Idealize.ShloMosaic.Tactic
open Idealize.ShloMosaic.Pipeline (Dat)

variable {F : FTy → Type} [FloatOps F]

namespace Cert.ScanIdeal.Fwd

open Cert.ScanIdeal.Gen

variable (V : Dev nD → Valuation τ sig (Elt F))

/-- Row `r 0` of the result arrays: the state after `r 0 + 1` steps. -/
def out (c : Dev nD) (r : Recur.Arr.Idx) : F .f32 × F .f32 :=
  Recur.state (P V c (ix2 (r 1) (r 2))) (Q V c (ix2 (r 1) (r 2))) (X V c (ix2 (r 1) (r 2))) (Y V c (ix2 (r 1) (r 2))) ((r 0).val + 1)

/-- The same, at an index known by its coordinates. -/
theorem out_of (c : Dev nD) (r : Recur.Arr.Idx) (k : ℕ) (a : Fin 32) (b : Fin 128) (h0 : (r 0).val = k) (h1 : (r 1).val = a.val) (h2 : (r 2).val = b.val) :
    out V c r = Recur.state (P V c (ix2 a b)) (Q V c (ix2 a b)) (X V c (ix2 a b)) (Y V c (ix2 a b)) (k + 1) := by
  have e1 : r 1 = a := Fin.ext h1
  have e2 : r 2 = b := Fin.ext h2
  unfold out
  rw [h0, e1, e2]

theorem final_re (c : Dev nD) : (dat V c).arrAt 4 cfg0.N = fun r => (out V c r).1 := by
  refine (dat V c).arrAt_eq_of_covers 4 _ (by decide +kernel) fun t _ y => ?_
  blk_simp
  have hi := (idx t).2.2.2.2.1
  have h0 := (win0_4.rect_emb_val t y (0 : Fin 3)).trans (show _ = 256 * t.val + (y (0 : Fin 3)).val by rw [hi, Nat.mul_comm]; rfl)
  have h1 := (win0_4.rect_emb_val t y (1 : Fin 3)).trans (show _ = (y (1 : Fin 3)).val by rw [hi]; exact (congrArg (· + _) (Nat.zero_mul _)).trans (Nat.zero_add _))
  have h2 := (win0_4.rect_emb_val t y (2 : Fin 3)).trans (show _ = (y (2 : Fin 3)).val by rw [hi]; exact (congrArg (· + _) (Nat.zero_mul _)).trans (Nat.zero_add _))
  exact (congrArg (fun s : F .f32 × F .f32 => s.1) (out_of V c _ _ _ _ h0 h1 h2)).symm

theorem final_im (c : Dev nD) : (dat V c).arrAt 5 cfg0.N = fun r => (out V c r).2 := by
  refine (dat V c).arrAt_eq_of_covers 5 _ (by decide +kernel) fun t _ y => ?_
  blk_simp
  have hi := (idx t).2.2.2.2.2
  have h0 := (win0_5.rect_emb_val t y (0 : Fin 3)).trans (show _ = 256 * t.val + (y (0 : Fin 3)).val by rw [hi, Nat.mul_comm]; rfl)
  have h1 := (win0_5.rect_emb_val t y (1 : Fin 3)).trans (show _ = (y (1 : Fin 3)).val by rw [hi]; exact (congrArg (· + _) (Nat.zero_mul _)).trans (Nat.zero_add _))
  have h2 := (win0_5.rect_emb_val t y (2 : Fin 3)).trans (show _ = (y (2 : Fin 3)).val by rw [hi]; exact (congrArg (· + _) (Nat.zero_mul _)).trans (Nat.zero_add _))
  exact (congrArg (fun s : F .f32 × F .f32 => s.2) (out_of V c _ _ _ _ h0 h1 h2)).symm

end Cert.ScanIdeal.Fwd

namespace Cert.ScanIdeal.Bwd

open Cert.ScanIdeal.Gen

variable (V : Dev nD → Valuation τ sig (Elt F))

/-- What the reverse pass carries at a lane after `k` steps. -/
def carried (c : Dev nD) (j : Recur.Row.Idx) (k : ℕ) : Recur.Adj F :=
  Recur.adj (P V c j) (Q V c j) (U V c j) (W V c j) (S V c j) (T V c j) k

/-- Row `r 0` of the result arrays: the adjoint after `2048 - r 0` steps. -/
def out (c : Dev nD) (r : Recur.Arr.Idx) : Recur.Adj F := carried V c (ix2 (r 1) (r 2)) (2048 - (r 0).val)

theorem out_of (c : Dev nD) (r : Recur.Arr.Idx) (k : ℕ) (a : Fin 32) (b : Fin 128) (h0 : 2048 - (r 0).val = k) (h1 : (r 1).val = a.val) (h2 : (r 2).val = b.val) :
    out V c r = carried V c (ix2 a b) k := by
  have e1 : r 1 = a := Fin.ext h1
  have e2 : r 2 = b := Fin.ext h2
  unfold out
  rw [h0, e1, e2]

theorem final_re (c : Dev nD) : (dat V c).arrAt 6 cfg1.N = fun r => (out V c r).lre := by
  refine (dat V c).arrAt_eq_of_covers 6 _ (by decide +kernel) fun t _ y => ?_
  blk_simp
  have hN : t.val < 8 := lt_of_lt_of_eq t.isLt (show cfg1.N = 8 from N_1)
  have hy : (y (0 : Fin 3)).val < 256 := (y (0 : Fin 3)).isLt
  have hi := (idx t).2.2.2.2.2.2.1
  have h0 := (win1_6.rect_emb_val t y (0 : Fin 3)).trans (show _ = 256 * (7 - t.val) + (y (0 : Fin 3)).val by rw [hi, Nat.mul_comm]; rfl)
  have h1 := (win1_6.rect_emb_val t y (1 : Fin 3)).trans (show _ = (y (1 : Fin 3)).val by rw [hi]; exact (congrArg (· + _) (Nat.zero_mul _)).trans (Nat.zero_add _))
  have h2 := (win1_6.rect_emb_val t y (2 : Fin 3)).trans (show _ = (y (2 : Fin 3)).val by rw [hi]; exact (congrArg (· + _) (Nat.zero_mul _)).trans (Nat.zero_add _))
  exact (congrArg Recur.Adj.lre (out_of V c _ (256 * t.val + (255 - (y (0 : Fin 3)).val) + 1) _ _ ((congrArg (2048 - ·) h0).trans (by omega)) h1 h2)).symm

theorem final_im (c : Dev nD) : (dat V c).arrAt 7 cfg1.N = fun r => (out V c r).lim := by
  refine (dat V c).arrAt_eq_of_covers 7 _ (by decide +kernel) fun t _ y => ?_
  blk_simp
  have hN : t.val < 8 := lt_of_lt_of_eq t.isLt (show cfg1.N = 8 from N_1)
  have hy : (y (0 : Fin 3)).val < 256 := (y (0 : Fin 3)).isLt
  have hi := (idx t).2.2.2.2.2.2.2
  have h0 := (win1_7.rect_emb_val t y (0 : Fin 3)).trans (show _ = 256 * (7 - t.val) + (y (0 : Fin 3)).val by rw [hi, Nat.mul_comm]; rfl)
  have h1 := (win1_7.rect_emb_val t y (1 : Fin 3)).trans (show _ = (y (1 : Fin 3)).val by rw [hi]; exact (congrArg (· + _) (Nat.zero_mul _)).trans (Nat.zero_add _))
  have h2 := (win1_7.rect_emb_val t y (2 : Fin 3)).trans (show _ = (y (2 : Fin 3)).val by rw [hi]; exact (congrArg (· + _) (Nat.zero_mul _)).trans (Nat.zero_add _))
  exact (congrArg Recur.Adj.lim (out_of V c _ (256 * t.val + (255 - (y (0 : Fin 3)).val) + 1) _ _ ((congrArg (2048 - ·) h0).trans (by omega)) h1 h2)).symm

theorem sum_re (c : Dev nD) : (dat V c).arrAt 8 cfg1.N = fun j => (carried V c j 2048).gre :=
  (dat V c).arrAt_eq_of_after_last 8 ⟨7, by rw [show cfg1.N = 8 from N_1]; omega⟩ (by decide +kernel) _ fun j => by
    blk_simp
    rfl

theorem sum_im (c : Dev nD) : (dat V c).arrAt 9 cfg1.N = fun j => (carried V c j 2048).gim :=
  (dat V c).arrAt_eq_of_after_last 9 ⟨7, by rw [show cfg1.N = 8 from N_1]; omega⟩ (by decide +kernel) _ fun j => by
    blk_simp
    rfl

end Cert.ScanIdeal.Bwd

namespace Cert.ScanIdeal.Run

open Cert.ScanIdeal.Gen

variable (m : (ℓ : Loc nD τ sig) → Buf (Elt F) ℓ)

/-! ## The buffers after the two calls -/

theorem V1_arg0 (c : Dev nD) : V1 m c (Proc.devRef .tc main_arg0) = m ((c : Thread nD τ).loc main_arg0) := (Pipeline.afterRegion_arr (Fwd.dat (V0 m) c) (V0 m c) launch0.win.arr_inj 0).trans ((Fwd.dat (V0 m) c).arrAt_in 0 rfl _)
theorem V1_arg1 (c : Dev nD) : V1 m c (Proc.devRef .tc main_arg1) = m ((c : Thread nD τ).loc main_arg1) := (Pipeline.afterRegion_arr (Fwd.dat (V0 m) c) (V0 m c) launch0.win.arr_inj 1).trans ((Fwd.dat (V0 m) c).arrAt_in 1 rfl _)
theorem V1_arg2 (c : Dev nD) : V1 m c (Proc.devRef .tc main_arg2) = m ((c : Thread nD τ).loc main_arg2) := (Pipeline.afterRegion_arr (Fwd.dat (V0 m) c) (V0 m c) launch0.win.arr_inj 2).trans ((Fwd.dat (V0 m) c).arrAt_in 2 rfl _)
theorem V1_arg3 (c : Dev nD) : V1 m c (Proc.devRef .tc main_arg3) = m ((c : Thread nD τ).loc main_arg3) := (Pipeline.afterRegion_arr (Fwd.dat (V0 m) c) (V0 m c) launch0.win.arr_inj 3).trans ((Fwd.dat (V0 m) c).arrAt_in 3 rfl _)
theorem V1_arg4 (c : Dev nD) : V1 m c (Proc.devRef .tc main_arg4) = m ((c : Thread nD τ).loc main_arg4) := Pipeline.afterRegion_of_not_arr (Fwd.dat (V0 m) c) (V0 m c) (b := main_arg4) (by decide)
theorem V1_arg5 (c : Dev nD) : V1 m c (Proc.devRef .tc main_arg5) = m ((c : Thread nD τ).loc main_arg5) := Pipeline.afterRegion_of_not_arr (Fwd.dat (V0 m) c) (V0 m c) (b := main_arg5) (by decide)

theorem V1_v0_0 (c : Dev nD) : V1 m c (Proc.devRef .tc main_v0_0) = fun r => (Fwd.out (V0 m) c r).1 :=
  (Pipeline.afterRegion_arr (Fwd.dat (V0 m) c) (V0 m c) launch0.win.arr_inj 4).trans (Fwd.final_re (V0 m) c)
theorem V1_v0_1 (c : Dev nD) : V1 m c (Proc.devRef .tc main_v0_1) = fun r => (Fwd.out (V0 m) c r).2 :=
  (Pipeline.afterRegion_arr (Fwd.dat (V0 m) c) (V0 m c) launch0.win.arr_inj 5).trans (Fwd.final_im (V0 m) c)

theorem V2_v1_0 (c : Dev nD) : V2 m c (Proc.devRef .tc main_v1_0) = fun r => (Bwd.out (V1 m) c r).lre :=
  (Pipeline.afterRegion_arr (Bwd.dat (V1 m) c) (V1 m c) launch1.win.arr_inj 6).trans (Bwd.final_re (V1 m) c)
theorem V2_v1_1 (c : Dev nD) : V2 m c (Proc.devRef .tc main_v1_1) = fun r => (Bwd.out (V1 m) c r).lim :=
  (Pipeline.afterRegion_arr (Bwd.dat (V1 m) c) (V1 m c) launch1.win.arr_inj 7).trans (Bwd.final_im (V1 m) c)
theorem V2_v1_2 (c : Dev nD) : V2 m c (Proc.devRef .tc main_v1_2) = fun j => (Bwd.carried (V1 m) c j 2048).gre :=
  (Pipeline.afterRegion_arr (Bwd.dat (V1 m) c) (V1 m c) launch1.win.arr_inj 8).trans (Bwd.sum_re (V1 m) c)
theorem V2_v1_3 (c : Dev nD) : V2 m c (Proc.devRef .tc main_v1_3) = fun j => (Bwd.carried (V1 m) c j 2048).gim :=
  (Pipeline.afterRegion_arr (Bwd.dat (V1 m) c) (V1 m c) launch1.win.arr_inj 9).trans (Bwd.sum_im (V1 m) c)
theorem V2_arg0 (c : Dev nD) : V2 m c (Proc.devRef .tc main_arg0) = m ((c : Thread nD τ).loc main_arg0) :=
  (Pipeline.afterRegion_of_not_arr (Bwd.dat (V1 m) c) (V1 m c) (b := main_arg0) (by decide)).trans (V1_arg0 m c)
theorem V2_arg1 (c : Dev nD) : V2 m c (Proc.devRef .tc main_arg1) = m ((c : Thread nD τ).loc main_arg1) :=
  (Pipeline.afterRegion_of_not_arr (Bwd.dat (V1 m) c) (V1 m c) (b := main_arg1) (by decide)).trans (V1_arg1 m c)
theorem V2_arg2 (c : Dev nD) : V2 m c (Proc.devRef .tc main_arg2) = m ((c : Thread nD τ).loc main_arg2) :=
  ((Pipeline.afterRegion_arr (Bwd.dat (V1 m) c) (V1 m c) launch1.win.arr_inj 4).trans ((Bwd.dat (V1 m) c).arrAt_in 4 rfl _)).trans (V1_arg2 m c)
theorem V2_arg3 (c : Dev nD) : V2 m c (Proc.devRef .tc main_arg3) = m ((c : Thread nD τ).loc main_arg3) :=
  ((Pipeline.afterRegion_arr (Bwd.dat (V1 m) c) (V1 m c) launch1.win.arr_inj 5).trans ((Bwd.dat (V1 m) c).arrAt_in 5 rfl _)).trans (V1_arg3 m c)
theorem V2_arg4 (c : Dev nD) : V2 m c (Proc.devRef .tc main_arg4) = m ((c : Thread nD τ).loc main_arg4) :=
  ((Pipeline.afterRegion_arr (Bwd.dat (V1 m) c) (V1 m c) launch1.win.arr_inj 0).trans ((Bwd.dat (V1 m) c).arrAt_in 0 rfl _)).trans (V1_arg4 m c)
theorem V2_arg5 (c : Dev nD) : V2 m c (Proc.devRef .tc main_arg5) = m ((c : Thread nD τ).loc main_arg5) :=
  ((Pipeline.afterRegion_arr (Bwd.dat (V1 m) c) (V1 m c) launch1.win.arr_inj 1).trans ((Bwd.dat (V1 m) c).arrAt_in 1 rfl _)).trans (V1_arg5 m c)

end Cert.ScanIdeal.Run

end
-- ==== Proof.ScanRefOps.lean ====
/- The operations of the scan's reference as lists: those before its first loop, between its loops, and one trip of each loop. -/
module

public import proofs.«01_k».proof.Proof.Gen.ScanRefIdeal
public import Idealize.ShloMosaic.Lib.StableHlo.RunLoop
public import Idealize.ShloMosaic.Lib.Scf.ExitTest
public import Idealize.ShloMosaic.Lib.Scf.Counter

@[expose] public section

set_option maxRecDepth 8192

noncomputable section

namespace Cert.ScanRefIdeal.Ops

open Cert.ScanRefIdeal Cert.ScanRefIdeal.Gen Idealize.ShloMosaic Idealize.ShloMosaic.TcCoe Idealize.SL.Sem Idealize.ShloMosaic.StableHlo

variable {F : FTy → Type} [FloatOps F]

/-- What fills the arrays that the loop over the states starts from. -/
abbrev before : List (HloOp τ sig (Elt F)) :=
  [ StableHlo.nullary main_cst (constant S_ .f32 0x00000000#32),
    StableHlo.unary main_cst main_v0 (broadcastInDim S32x128 ![] bcast_S_S32x128 : (⟨S_, .f32⟩ : BufTy).Contents (Elt F) → (⟨S32x128, .f32⟩ : BufTy).Contents (Elt F)),
    StableHlo.nullary main_cst_0 (constant S_ .f32 0x00000000#32),
    StableHlo.unary main_cst_0 main_v1 (broadcastInDim S2048x32x128 ![] bcast_S_S2048x32x128 : (⟨S_, .f32⟩ : BufTy).Contents (Elt F) → (⟨S2048x32x128, .f32⟩ : BufTy).Contents (Elt F)),
    StableHlo.nullary main_cst_1 (constant S_ .f32 0x00000000#32),
    StableHlo.unary main_cst_1 main_v2 (broadcastInDim S2048x32x128 ![] bcast_S_S2048x32x128 : (⟨S_, .f32⟩ : BufTy).Contents (Elt F) → (⟨S2048x32x128, .f32⟩ : BufTy).Contents (Elt F)),
    StableHlo.nullary main_cst_2 (constant S_ .f32 0x00000000#32),
    StableHlo.unary main_cst_2 main_v3 (broadcastInDim S2048x32x128 ![] bcast_S_S2048x32x128 : (⟨S_, .f32⟩ : BufTy).Contents (Elt F) → (⟨S2048x32x128, .f32⟩ : BufTy).Contents (Elt F)),
    StableHlo.nullary main_cst_3 (constant S_ .f32 0x00000000#32),
    StableHlo.unary main_cst_3 main_v4 (broadcastInDim S2048x32x128 ![] bcast_S_S2048x32x128 : (⟨S_, .f32⟩ : BufTy).Contents (Elt F) → (⟨S2048x32x128, .f32⟩ : BufTy).Contents (Elt F)),
    StableHlo.nullary main_c (constantI S_ 32 0#32),
    StableHlo.unary main_arg0 main_v5_0 id,
    StableHlo.unary main_arg1 main_v5_1 id,
    StableHlo.unary main_arg2 main_v5_2 id,
    StableHlo.unary main_arg3 main_v5_3 id,
    StableHlo.unary main_c main_v5_4 id,
    StableHlo.unary main_v0 main_v5_5 id,
    StableHlo.unary main_v0 main_v5_6 id,
    StableHlo.unary main_v1 main_v5_7 id,
    StableHlo.unary main_v2 main_v5_8 id,
    StableHlo.unary main_v3 main_v5_9 id,
    StableHlo.unary main_v4 main_v5_10 id ]

theorem before_sub : (before (F := F)).Forall fun op => op.bufs ⊆ tcRefs τ sig :=
  ⟨nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..⟩

/-- The first loop's exit test. -/
abbrev test0 : List (HloOp τ sig (Elt F)) :=
  [ StableHlo.nullary main_while0c_c_23 (constantI S_ 32 2048#32),
    StableHlo.binary main_v5_4 main_while0c_c_23 main_while0c_v15 (cmpi .slt : (⟨S_, .i32⟩ : BufTy).Contents (Elt F) → (⟨S_, .i32⟩ : BufTy).Contents (Elt F) → (⟨S_, .i1⟩ : BufTy).Contents (Elt F)) ]

theorem test0_sub : (test0 (F := F)).Forall fun op => op.bufs ⊆ tcRefs τ sig :=
  ⟨nullary_bufs_sub ..,
    binary_bufs_sub ..⟩

/-- One trip of the loop over the states. -/
abbrev trip0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v5_0 : StableHlo.TRef sig ⟨S2048x32x128, .f32⟩) ![(.of main_v5_4 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while0b_call0_v0 : StableHlo.TRef sig ⟨S1x32x128, .f32⟩) (.of main_while0b_v15 : StableHlo.TRef sig ⟨S32x128, .f32⟩) (rfl : (.f32 : EltTy) = .f32) shapeCasts_S1x32x128_S32x128,
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v5_1 : StableHlo.TRef sig ⟨S2048x32x128, .f32⟩) ![(.of main_v5_4 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while0b_call1_v0 : StableHlo.TRef sig ⟨S1x32x128, .f32⟩) (.of main_while0b_v16 : StableHlo.TRef sig ⟨S32x128, .f32⟩) (rfl : (.f32 : EltTy) = .f32) shapeCasts_S1x32x128_S32x128,
    StableHlo.binary main_v5_2 main_v5_5 main_while0b_v17 (mulf : (⟨S32x128, .f32⟩ : BufTy).Contents (Elt F) → (⟨S32x128, .f32⟩ : BufTy).Contents (Elt F) → (⟨S32x128, .f32⟩ : BufTy).Contents (Elt F)),
    StableHlo.binary main_v5_3 main_v5_6 main_while0b_v18 (mulf : (⟨S32x128, .f32⟩ : BufTy).Contents (Elt F) → (⟨S32x128, .f32⟩ : BufTy).Contents (Elt F) → (⟨S32x128, .f32⟩ : BufTy).Contents (Elt F)),
    StableHlo.binary main_while0b_v17 main_while0b_v18 main_while0b_v19 (subf : (⟨S32x128, .f32⟩ : BufTy).Contents (Elt F) → (⟨S32x128, .f32⟩ : BufTy).Contents (Elt F) → (⟨S32x128, .f32⟩ : BufTy).Contents (Elt F)),
    StableHlo.binary main_while0b_v19 main_while0b_v15 main_while0b_v20 (addf : (⟨S32x128, .f32⟩ : BufTy).Contents (Elt F) → (⟨S32x128, .f32⟩ : BufTy).Contents (Elt F) → (⟨S32x128, .f32⟩ : BufTy).Contents (Elt F)),
    StableHlo.binary main_v5_2 main_v5_6 main_while0b_v21 (mulf : (⟨S32x128, .f32⟩ : BufTy).Contents (Elt F) → (⟨S32x128, .f32⟩ : BufTy).Contents (Elt F) → (⟨S32x128, .f32⟩ : BufTy).Contents (Elt F)),
    StableHlo.binary main_v5_3 main_v5_5 main_while0b_v22 (mulf : (⟨S32x128, .f32⟩ : BufTy).Contents (Elt F) → (⟨S32x128, .f32⟩ : BufTy).Contents (Elt F) → (⟨S32x128, .f32⟩ : BufTy).Contents (Elt F)),
    StableHlo.binary main_while0b_v21 main_while0b_v22 main_while0b_v23 (addf : (⟨S32x128, .f32⟩ : BufTy).Contents (Elt F) → (⟨S32x128, .f32⟩ : BufTy).Contents (Elt F) → (⟨S32x128, .f32⟩ : BufTy).Contents (Elt F)),
    StableHlo.binary main_while0b_v23 main_while0b_v16 main_while0b_v24 (addf : (⟨S32x128, .f32⟩ : BufTy).Contents (Elt F) → (⟨S32x128, .f32⟩ : BufTy).Contents (Elt F) → (⟨S32x128, .f32⟩ : BufTy).Contents (Elt F)),
    StableHlo.TRef.unary (.of main_while0b_v20 : StableHlo.TRef sig ⟨S32x128, .f32⟩) (.of main_while0b_call2_v0 : StableHlo.TRef sig ⟨S1x32x128, .f32⟩) (broadcastInDim S1x32x128 ![1, 2] bcast_S32x128_S1x32x128_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v5_7 : StableHlo.TRef sig ⟨S2048x32x128, .f32⟩) (.of main_while0b_call2_v0 : StableHlo.TRef sig ⟨S1x32x128, .f32⟩) ![(.of main_v5_4 : StableHlo.TRef sig ⟨S_, .i32⟩), (.of main_while0b_call2_c : StableHlo.TRef sig ⟨S_, .i32⟩), (.of main_while0b_call2_c_0 : StableHlo.TRef sig ⟨S_, .i32⟩)] (.of main_while0b_v25 : StableHlo.TRef sig ⟨S2048x32x128, .f32⟩) (fun x u i => Host.dynamicUpdateSlice x u (fun k => (i k (Shape.Idx.first h_S_)).toInt) updateFits_S2048x32x128_S1x32x128),
    StableHlo.TRef.unary (.of main_while0b_v24 : StableHlo.TRef sig ⟨S32x128, .f32⟩) (.of main_while0b_call3_v0 : StableHlo.TRef sig ⟨S1x32x128, .f32⟩) (broadcastInDim S1x32x128 ![1, 2] bcast_S32x128_S1x32x128_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v5_8 : StableHlo.TRef sig ⟨S2048x32x128, .f32⟩) (.of main_while0b_call3_v0 : StableHlo.TRef sig ⟨S1x32x128, .f32⟩) ![(.of main_v5_4 : StableHlo.TRef sig ⟨S_, .i32⟩), (.of main_while0b_call3_c : StableHlo.TRef sig ⟨S_, .i32⟩), (.of main_while0b_call3_c_0 : StableHlo.TRef sig ⟨S_, .i32⟩)] (.of main_while0b_v26 : StableHlo.TRef sig ⟨S2048x32x128, .f32⟩) (fun x u i => Host.dynamicUpdateSlice x u (fun k => (i k (Shape.Idx.first h_S_)).toInt) updateFits_S2048x32x128_S1x32x128),
    StableHlo.TRef.unary (.of main_v5_5 : StableHlo.TRef sig ⟨S32x128, .f32⟩) (.of main_while0b_call4_v0 : StableHlo.TRef sig ⟨S1x32x128, .f32⟩) (broadcastInDim S1x32x128 ![1, 2] bcast_S32x128_S1x32x128_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v5_9 : StableHlo.TRef sig ⟨S2048x32x128, .f32⟩) (.of main_while0b_call4_v0 : StableHlo.TRef sig ⟨S1x32x128, .f32⟩) ![(.of main_v5_4 : StableHlo.TRef sig ⟨S_, .i32⟩), (.of main_while0b_call4_c : StableHlo.TRef sig ⟨S_, .i32⟩), (.of main_while0b_call4_c_0 : StableHlo.TRef sig ⟨S_, .i32⟩)] (.of main_while0b_v27 : StableHlo.TRef sig ⟨S2048x32x128, .f32⟩) (fun x u i => Host.dynamicUpdateSlice x u (fun k => (i k (Shape.Idx.first h_S_)).toInt) updateFits_S2048x32x128_S1x32x128),
    StableHlo.TRef.unary (.of main_v5_6 : StableHlo.TRef sig ⟨S32x128, .f32⟩) (.of main_while0b_call5_v0 : StableHlo.TRef sig ⟨S1x32x128, .f32⟩) (broadcastInDim S1x32x128 ![1, 2] bcast_S32x128_S1x32x128_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v5_10 : StableHlo.TRef sig ⟨S2048x32x128, .f32⟩) (.of main_while0b_call5_v0 : StableHlo.TRef sig ⟨S1x32x128, .f32⟩) ![(.of main_v5_4 : StableHlo.TRef sig ⟨S_, .i32⟩), (.of main_while0b_call5_c : StableHlo.TRef sig ⟨S_, .i32⟩), (.of main_while0b_call5_c_0 : StableHlo.TRef sig ⟨S_, .i32⟩)] (.of main_while0b_v28 : StableHlo.TRef sig ⟨S2048x32x128, .f32⟩) (fun x u i => Host.dynamicUpdateSlice x u (fun k => (i k (Shape.Idx.first h_S_)).toInt) updateFits_S2048x32x128_S1x32x128),
    StableHlo.nullary main_while0b_c_23 (constantI S_ 32 1#32),
    StableHlo.binary main_v5_4 main_while0b_c_23 main_while0b_v29 (addi : (⟨S_, .i32⟩ : BufTy).Contents (Elt F) → (⟨S_, .i32⟩ : BufTy).Contents (Elt F) → (⟨S_, .i32⟩ : BufTy).Contents (Elt F)),
    StableHlo.unary main_while0b_v29 main_v5_4 id,
    StableHlo.unary main_while0b_v20 main_v5_5 id,
    StableHlo.unary main_while0b_v24 main_v5_6 id,
    StableHlo.unary main_while0b_v25 main_v5_7 id,
    StableHlo.unary main_while0b_v26 main_v5_8 id,
    StableHlo.unary main_while0b_v27 main_v5_9 id,
    StableHlo.unary main_while0b_v28 main_v5_10 id ]

theorem trip0_sub : (trip0 (F := F)).Forall fun op => op.bufs ⊆ tcRefs τ sig :=
  ⟨nullary_bufs_sub ..,
    nullary_bufs_sub ..,
    unaryIndexed_bufs_sub ..,
    reshape_bufs_sub ..,
    nullary_bufs_sub ..,
    nullary_bufs_sub ..,
    unaryIndexed_bufs_sub ..,
    reshape_bufs_sub ..,
    binary_bufs_sub ..,
    binary_bufs_sub ..,
    binary_bufs_sub ..,
    binary_bufs_sub ..,
    binary_bufs_sub ..,
    binary_bufs_sub ..,
    binary_bufs_sub ..,
    binary_bufs_sub ..,
    unary_bufs_sub ..,
    nullary_bufs_sub ..,
    nullary_bufs_sub ..,
    binaryIndexed_bufs_sub ..,
    unary_bufs_sub ..,
    nullary_bufs_sub ..,
    nullary_bufs_sub ..,
    binaryIndexed_bufs_sub ..,
    unary_bufs_sub ..,
    nullary_bufs_sub ..,
    nullary_bufs_sub ..,
    binaryIndexed_bufs_sub ..,
    unary_bufs_sub ..,
    nullary_bufs_sub ..,
    nullary_bufs_sub ..,
    binaryIndexed_bufs_sub ..,
    nullary_bufs_sub ..,
    binary_bufs_sub ..,
    unary_bufs_sub ..,
    unary_bufs_sub ..,
    unary_bufs_sub ..,
    unary_bufs_sub ..,
    unary_bufs_sub ..,
    unary_bufs_sub ..,
    unary_bufs_sub ..⟩

/-- What fills the arrays that the loop over the adjoints starts from. -/
abbrev between : List (HloOp τ sig (Elt F)) :=
  [ StableHlo.nullary main_cst_4 (constant S_ .f32 0x00000000#32),
    StableHlo.unary main_cst_4 main_v6 (broadcastInDim S32x128 ![] bcast_S_S32x128 : (⟨S_, .f32⟩ : BufTy).Contents (Elt F) → (⟨S32x128, .f32⟩ : BufTy).Contents (Elt F)),
    StableHlo.nullary main_cst_5 (constant S_ .f32 0x00000000#32),
    StableHlo.unary main_cst_5 main_v7 (broadcastInDim S32x128 ![] bcast_S_S32x128 : (⟨S_, .f32⟩ : BufTy).Contents (Elt F) → (⟨S32x128, .f32⟩ : BufTy).Contents (Elt F)),
    StableHlo.nullary main_cst_6 (constant S_ .f32 0x00000000#32),
    StableHlo.unary main_cst_6 main_v8 (broadcastInDim S32x128 ![] bcast_S_S32x128 : (⟨S_, .f32⟩ : BufTy).Contents (Elt F) → (⟨S32x128, .f32⟩ : BufTy).Contents (Elt F)),
    StableHlo.nullary main_cst_7 (constant S_ .f32 0x00000000#32),
    StableHlo.unary main_cst_7 main_v9 (broadcastInDim S32x128 ![] bcast_S_S32x128 : (⟨S_, .f32⟩ : BufTy).Contents (Elt F) → (⟨S32x128, .f32⟩ : BufTy).Contents (Elt F)),
    StableHlo.nullary main_cst_8 (constant S_ .f32 0x00000000#32),
    StableHlo.unary main_cst_8 main_v10 (broadcastInDim S32x128 ![] bcast_S_S32x128 : (⟨S_, .f32⟩ : BufTy).Contents (Elt F) → (⟨S32x128, .f32⟩ : BufTy).Contents (Elt F)),
    StableHlo.nullary main_cst_9 (constant S_ .f32 0x00000000#32),
    StableHlo.unary main_cst_9 main_v11 (broadcastInDim S32x128 ![] bcast_S_S32x128 : (⟨S_, .f32⟩ : BufTy).Contents (Elt F) → (⟨S32x128, .f32⟩ : BufTy).Contents (Elt F)),
    StableHlo.nullary main_cst_10 (constant S_ .f32 0x00000000#32),
    StableHlo.unary main_cst_10 main_v12 (broadcastInDim S2048x32x128 ![] bcast_S_S2048x32x128 : (⟨S_, .f32⟩ : BufTy).Contents (Elt F) → (⟨S2048x32x128, .f32⟩ : BufTy).Contents (Elt F)),
    StableHlo.nullary main_cst_11 (constant S_ .f32 0x00000000#32),
    StableHlo.unary main_cst_11 main_v13 (broadcastInDim S2048x32x128 ![] bcast_S_S2048x32x128 : (⟨S_, .f32⟩ : BufTy).Contents (Elt F) → (⟨S2048x32x128, .f32⟩ : BufTy).Contents (Elt F)),
    StableHlo.nullary main_c_12 (constantI S_ 32 0#32),
    StableHlo.unary main_arg4 main_v14_0 id,
    StableHlo.unary main_arg5 main_v14_1 id,
    StableHlo.unary main_v5_9 main_v14_2 id,
    StableHlo.unary main_v5_10 main_v14_3 id,
    StableHlo.unary main_arg2 main_v14_4 id,
    StableHlo.unary main_arg3 main_v14_5 id,
    StableHlo.unary main_c_12 main_v14_6 id,
    StableHlo.unary main_v10 main_v14_7 id,
    StableHlo.unary main_v11 main_v14_8 id,
    StableHlo.unary main_v8 main_v14_9 id,
    StableHlo.unary main_v9 main_v14_10 id,
    StableHlo.unary main_v12 main_v14_11 id,
    StableHlo.unary main_v13 main_v14_12 id ]

theorem between_sub : (between (F := F)).Forall fun op => op.bufs ⊆ tcRefs τ sig :=
  ⟨nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    nullary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..,
    unary_bufs_sub ..⟩

/-- The second loop's exit test. -/
abbrev test1 : List (HloOp τ sig (Elt F)) :=
  [ StableHlo.nullary main_while1c_c_25 (constantI S_ 32 2048#32),
    StableHlo.binary main_v14_6 main_while1c_c_25 main_while1c_v15 (cmpi .slt : (⟨S_, .i32⟩ : BufTy).Contents (Elt F) → (⟨S_, .i32⟩ : BufTy).Contents (Elt F) → (⟨S_, .i1⟩ : BufTy).Contents (Elt F)) ]

theorem test1_sub : (test1 (F := F)).Forall fun op => op.bufs ⊆ tcRefs τ sig :=
  ⟨nullary_bufs_sub ..,
    binary_bufs_sub ..⟩

/-- One trip of the loop over the adjoints. -/
abbrev trip1 : List (HloOp τ sig (Elt F)) :=
  [ StableHlo.nullary main_while1b_c_25 (constantI S_ 32 2048#32),
    StableHlo.binary main_while1b_c_25 main_v14_6 main_while1b_v15 (subi : (⟨S_, .i32⟩ : BufTy).Contents (Elt F) → (⟨S_, .i32⟩ : BufTy).Contents (Elt F) → (⟨S_, .i32⟩ : BufTy).Contents (Elt F)),
    StableHlo.nullary main_while1b_c_26 (constantI S_ 32 1#32),
    StableHlo.binary main_while1b_v15 main_while1b_c_26 main_while1b_v16 (subi : (⟨S_, .i32⟩ : BufTy).Contents (Elt F) → (⟨S_, .i32⟩ : BufTy).Contents (Elt F) → (⟨S_, .i32⟩ : BufTy).Contents (Elt F)),
    StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v14_0 : StableHlo.TRef sig ⟨S2048x32x128, .f32⟩) ![(.of main_while1b_v16 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while1b_call6_v0 : StableHlo.TRef sig ⟨S1x32x128, .f32⟩) (.of main_while1b_v17 : StableHlo.TRef sig ⟨S32x128, .f32⟩) (rfl : (.f32 : EltTy) = .f32) shapeCasts_S1x32x128_S32x128,
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.unaryIndexed (.of main_v14_1 : StableHlo.TRef sig ⟨S2048x32x128, .f32⟩) ![(.of main_while1b_v16 : StableHlo.TRef sig ⟨S_, .i32⟩), (.of main_while1b_call7_c : StableHlo.TRef sig ⟨S_, .i32⟩), (.of main_while1b_call7_c_0 : StableHlo.TRef sig ⟨S_, .i32⟩)] (.of main_while1b_call7_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while1b_call7_v0 : StableHlo.TRef sig ⟨S1x32x128, .f32⟩) (.of main_while1b_v18 : StableHlo.TRef sig ⟨S32x128, .f32⟩) (rfl : (.f32 : EltTy) = .f32) shapeCasts_S1x32x128_S32x128,
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v14_2 : StableHlo.TRef sig ⟨S2048x32x128, .f32⟩) ![(.of main_while1b_v16 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while1b_call8_v0 : StableHlo.TRef sig ⟨S1x32x128, .f32⟩) (.of main_while1b_v19 : StableHlo.TRef sig ⟨S32x128, .f32⟩) (rfl : (.f32 : EltTy) = .f32) shapeCasts_S1x32x128_S32x128,
    StableHlo.TRef.nullary (.of main_while1b_call9_c : StableHlo.TRef sig ⟨S_, .i32⟩) (constantI S_ 32 0#32),
    StableHlo.TRef.nullary (.of main_while1b_call9_c_0 : StableHlo.TRef sig ⟨S_, .i32⟩) (constantI S_ 32 0#32),
    StableHlo.TRef.unaryIndexed (.of main_v14_3 : StableHlo.TRef sig ⟨S2048x32x128, .f32⟩) ![(.of main_while1b_v16 : StableHlo.TRef sig ⟨S_, .i32⟩), (.of main_while1b_call9_c : StableHlo.TRef sig ⟨S_, .i32⟩), (.of main_while1b_call9_c_0 : StableHlo.TRef sig ⟨S_, .i32⟩)] (.of main_while1b_call9_v0 : StableHlo.TRef sig ⟨S1x32x128, .f32⟩) (fun x i => Host.dynamicSlice S1x32x128 x (fun k => (i k (Shape.Idx.first h_S_)).toInt) sliceFits_S2048x32x128_S1x32x128),
    StableHlo.TRef.reshape (.of main_while1b_call9_v0 : StableHlo.TRef sig ⟨S1x32x128, .f32⟩) (.of main_while1b_v20 : StableHlo.TRef sig ⟨S32x128, .f32⟩) (rfl : (.f32 : EltTy) = .f32) shapeCasts_S1x32x128_S32x128,
    StableHlo.binary main_v14_9 main_while1b_v17 main_while1b_v21 (addf : (⟨S32x128, .f32⟩ : BufTy).Contents (Elt F) → (⟨S32x128, .f32⟩ : BufTy).Contents (Elt F) → (⟨S32x128, .f32⟩ : BufTy).Contents (Elt F)),
    StableHlo.binary main_v14_10 main_while1b_v18 main_while1b_v22 (addf : (⟨S32x128, .f32⟩ : BufTy).Contents (Elt F) → (⟨S32x128, .f32⟩ : BufTy).Contents (Elt F) → (⟨S32x128, .f32⟩ : BufTy).Contents (Elt F)),
    StableHlo.binary main_v14_5 main_while1b_v22 main_while1b_v23 (mulf : (⟨S32x128, .f32⟩ : BufTy).Contents (Elt F) → (⟨S32x128, .f32⟩ : BufTy).Contents (Elt F) → (⟨S32x128, .f32⟩ : BufTy).Contents (Elt F)),
    StableHlo.binary main_while1b_v22 main_while1b_v19 main_while1b_v24 (mulf : (⟨S32x128, .f32⟩ : BufTy).Contents (Elt F) → (⟨S32x128, .f32⟩ : BufTy).Contents (Elt F) → (⟨S32x128, .f32⟩ : BufTy).Contents (Elt F)),
    StableHlo.binary main_v14_8 main_while1b_v24 main_while1b_v25 (addf : (⟨S32x128, .f32⟩ : BufTy).Contents (Elt F) → (⟨S32x128, .f32⟩ : BufTy).Contents (Elt F) → (⟨S32x128, .f32⟩ : BufTy).Contents (Elt F)),
    StableHlo.binary main_v14_4 main_while1b_v22 main_while1b_v26 (mulf : (⟨S32x128, .f32⟩ : BufTy).Contents (Elt F) → (⟨S32x128, .f32⟩ : BufTy).Contents (Elt F) → (⟨S32x128, .f32⟩ : BufTy).Contents (Elt F)),
    StableHlo.binary main_while1b_v22 main_while1b_v20 main_while1b_v27 (mulf : (⟨S32x128, .f32⟩ : BufTy).Contents (Elt F) → (⟨S32x128, .f32⟩ : BufTy).Contents (Elt F) → (⟨S32x128, .f32⟩ : BufTy).Contents (Elt F)),
    StableHlo.binary main_v14_7 main_while1b_v27 main_while1b_v28 (addf : (⟨S32x128, .f32⟩ : BufTy).Contents (Elt F) → (⟨S32x128, .f32⟩ : BufTy).Contents (Elt F) → (⟨S32x128, .f32⟩ : BufTy).Contents (Elt F)),
    StableHlo.unary main_while1b_v21 main_while1b_v29 (Host.negf : (⟨S32x128, .f32⟩ : BufTy).Contents (Elt F) → (⟨S32x128, .f32⟩ : BufTy).Contents (Elt F)),
    StableHlo.binary main_v14_5 main_while1b_v29 main_while1b_v30 (mulf : (⟨S32x128, .f32⟩ : BufTy).Contents (Elt F) → (⟨S32x128, .f32⟩ : BufTy).Contents (Elt F) → (⟨S32x128, .f32⟩ : BufTy).Contents (Elt F)),
    StableHlo.binary main_while1b_v26 main_while1b_v30 main_while1b_v31 (addf : (⟨S32x128, .f32⟩ : BufTy).Contents (Elt F) → (⟨S32x128, .f32⟩ : BufTy).Contents (Elt F) → (⟨S32x128, .f32⟩ : BufTy).Contents (Elt F)),
    StableHlo.binary main_while1b_v29 main_while1b_v20 main_while1b_v32 (mulf : (⟨S32x128, .f32⟩ : BufTy).Contents (Elt F) → (⟨S32x128, .f32⟩ : BufTy).Contents (Elt F) → (⟨S32x128, .f32⟩ : BufTy).Contents (Elt F)),
    StableHlo.binary main_while1b_v25 main_while1b_v32 main_while1b_v33 (addf : (⟨S32x128, .f32⟩ : BufTy).Contents (Elt F) → (⟨S32x128, .f32⟩ : BufTy).Contents (Elt F) → (⟨S32x128, .f32⟩ : BufTy).Contents (Elt F)),
    StableHlo.binary main_v14_4 main_while1b_v21 main_while1b_v34 (mulf : (⟨S32x128, .f32⟩ : BufTy).Contents (Elt F) → (⟨S32x128, .f32⟩ : BufTy).Contents (Elt F) → (⟨S32x128, .f32⟩ : BufTy).Contents (Elt F)),
    StableHlo.binary main_while1b_v23 main_while1b_v34 main_while1b_v35 (addf : (⟨S32x128, .f32⟩ : BufTy).Contents (Elt F) → (⟨S32x128, .f32⟩ : BufTy).Contents (Elt F) → (⟨S32x128, .f32⟩ : BufTy).Contents (Elt F)),
    StableHlo.binary main_while1b_v21 main_while1b_v19 main_while1b_v36 (mulf : (⟨S32x128, .f32⟩ : BufTy).Contents (Elt F) → (⟨S32x128, .f32⟩ : BufTy).Contents (Elt F) → (⟨S32x128, .f32⟩ : BufTy).Contents (Elt F)),
    StableHlo.binary main_while1b_v28 main_while1b_v36 main_while1b_v37 (addf : (⟨S32x128, .f32⟩ : BufTy).Contents (Elt F) → (⟨S32x128, .f32⟩ : BufTy).Contents (Elt F) → (⟨S32x128, .f32⟩ : BufTy).Contents (Elt F)),
    StableHlo.TRef.unary (.of main_while1b_v21 : StableHlo.TRef sig ⟨S32x128, .f32⟩) (.of main_while1b_call10_v0 : StableHlo.TRef sig ⟨S1x32x128, .f32⟩) (broadcastInDim S1x32x128 ![1, 2] bcast_S32x128_S1x32x128_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v14_11 : StableHlo.TRef sig ⟨S2048x32x128, .f32⟩) (.of main_while1b_call10_v0 : StableHlo.TRef sig ⟨S1x32x128, .f32⟩) ![(.of main_while1b_v16 : StableHlo.TRef sig ⟨S_, .i32⟩), (.of main_while1b_call10_c : StableHlo.TRef sig ⟨S_, .i32⟩), (.of main_while1b_call10_c_0 : StableHlo.TRef sig ⟨S_, .i32⟩)] (.of main_while1b_v38 : StableHlo.TRef sig ⟨S2048x32x128, .f32⟩) (fun x u i => Host.dynamicUpdateSlice x u (fun k => (i k (Shape.Idx.first h_S_)).toInt) updateFits_S2048x32x128_S1x32x128),
    StableHlo.TRef.unary (.of main_while1b_v22 : StableHlo.TRef sig ⟨S32x128, .f32⟩) (.of main_while1b_call11_v0 : StableHlo.TRef sig ⟨S1x32x128, .f32⟩) (broadcastInDim S1x32x128 ![1, 2] bcast_S32x128_S1x32x128_1_2),
    StableHlo.TRef.nullary (.of main_while1b_call11_c : StableHlo.TRef sig ⟨S_, .i32⟩) (constantI S_ 32 0#32),
    StableHlo.TRef.nullary (.of main_while1b_call11_c_0 : StableHlo.TRef sig ⟨S_, .i32⟩) (constantI S_ 32 0#32),
    StableHlo.TRef.binaryIndexed (.of main_v14_12 : StableHlo.TRef sig ⟨S2048x32x128, .f32⟩) (.of main_while1b_call11_v0 : StableHlo.TRef sig ⟨S1x32x128, .f32⟩) ![(.of main_while1b_v16 : StableHlo.TRef sig ⟨S_, .i32⟩), (.of main_while1b_call11_c : StableHlo.TRef sig ⟨S_, .i32⟩), (.of main_while1b_call11_c_0 : StableHlo.TRef sig ⟨S_, .i32⟩)] (.of main_while1b_v39 : StableHlo.TRef sig ⟨S2048x32x128, .f32⟩) (fun x u i => Host.dynamicUpdateSlice x u (fun k => (i k (Shape.Idx.first h_S_)).toInt) updateFits_S2048x32x128_S1x32x128),
    StableHlo.nullary main_while1b_c_27 (constantI S_ 32 1#32),
    StableHlo.binary main_v14_6 main_while1b_c_27 main_while1b_v40 (addi : (⟨S_, .i32⟩ : BufTy).Contents (Elt F) → (⟨S_, .i32⟩ : BufTy).Contents (Elt F) → (⟨S_, .i32⟩ : BufTy).Contents (Elt F)),
    StableHlo.unary main_while1b_v40 main_v14_6 id,
    StableHlo.unary main_while1b_v37 main_v14_7 id,
    StableHlo.unary main_while1b_v33 main_v14_8 id,
    StableHlo.unary main_while1b_v35 main_v14_9 id,
    StableHlo.unary main_while1b_v31 main_v14_10 id,
    StableHlo.unary main_while1b_v38 main_v14_11 id,
    StableHlo.unary main_while1b_v39 main_v14_12 id ]

theorem trip1_sub : (trip1 (F := F)).Forall fun op => op.bufs ⊆ tcRefs τ sig :=
  ⟨nullary_bufs_sub ..,
    binary_bufs_sub ..,
    nullary_bufs_sub ..,
    binary_bufs_sub ..,
    nullary_bufs_sub ..,
    nullary_bufs_sub ..,
    unaryIndexed_bufs_sub ..,
    reshape_bufs_sub ..,
    nullary_bufs_sub ..,
    nullary_bufs_sub ..,
    unaryIndexed_bufs_sub ..,
    reshape_bufs_sub ..,
    nullary_bufs_sub ..,
    nullary_bufs_sub ..,
    unaryIndexed_bufs_sub ..,
    reshape_bufs_sub ..,
    nullary_bufs_sub ..,
    nullary_bufs_sub ..,
    unaryIndexed_bufs_sub ..,
    reshape_bufs_sub ..,
    binary_bufs_sub ..,
    binary_bufs_sub ..,
    binary_bufs_sub ..,
    binary_bufs_sub ..,
    binary_bufs_sub ..,
    binary_bufs_sub ..,
    binary_bufs_sub ..,
    binary_bufs_sub ..,
    unary_bufs_sub ..,
    binary_bufs_sub ..,
    binary_bufs_sub ..,
    binary_bufs_sub ..,
    binary_bufs_sub ..,
    binary_bufs_sub ..,
    binary_bufs_sub ..,
    binary_bufs_sub ..,
    binary_bufs_sub ..,
    unary_bufs_sub ..,
    nullary_bufs_sub ..,
    nullary_bufs_sub ..,
    binaryIndexed_bufs_sub ..,
    unary_bufs_sub ..,
    nullary_bufs_sub ..,
    nullary_bufs_sub ..,
    binaryIndexed_bufs_sub ..,
    nullary_bufs_sub ..,
    binary_bufs_sub ..,
    unary_bufs_sub ..,
    unary_bufs_sub ..,
    unary_bufs_sub ..,
    unary_bufs_sub ..,
    unary_bufs_sub ..,
    unary_bufs_sub ..,
    unary_bufs_sub ..⟩

/-- The program is these lists around its two loops. -/
theorem main_chain (c : Dev nD) : main (F := F) c = Pipeline.chain
    [(seq before : Prog _ PUnit), HostLoop.enter 0, (seq between : Prog _ PUnit), HostLoop.enter 1] := by
  rewrite [StableHlo.chain_seq_cons, Pipeline.chain_cons, StableHlo.chain_seq_cons]
  chain_rfl

theorem body0_chain : main_while0_body (F := F) = Pipeline.chain [(seq trip0 : Prog _ PUnit)] := by
  rewrite [StableHlo.chain_seq_cons]
  chain_rfl

theorem body1_chain : main_while1_body (F := F) = Pipeline.chain [(seq trip1 : Prog _ PUnit)] := by
  rewrite [StableHlo.chain_seq_cons]
  chain_rfl

end Cert.ScanRefIdeal.Ops
-- ==== Proof.ScanRefTrip.lean ====
/- What one trip of each of the reference's loops leaves in the arrays it carries, as functions of what they held before it. -/
module

public import proofs.«01_k».proof.Proof.ScanRefOps
public import Idealize.ShloMosaic.Lib.StableHlo.RunClose

@[expose] public section

set_option maxRecDepth 8192

noncomputable section

namespace Cert.ScanRefIdeal.Ops

open Cert.ScanRefIdeal Cert.ScanRefIdeal.Gen Idealize.ShloMosaic Idealize.ShloMosaic.TcCoe Idealize.SL.Sem Idealize.ShloMosaic.StableHlo

variable {F : FTy → Type} [FloatOps F]

/-- The types of the arrays: rows by the step, one row, a counter. -/
abbrev Rows (F : FTy → Type) [FloatOps F] : Type := (⟨S2048x32x128, .f32⟩ : BufTy).Contents (Elt F)
abbrev One (F : FTy → Type) [FloatOps F] : Type := (⟨S32x128, .f32⟩ : BufTy).Contents (Elt F)
abbrev Ctr (F : FTy → Type) [FloatOps F] : Type := (⟨S_, .i32⟩ : BufTy).Contents (Elt F)

/-- The row of `x` that the counter `i` names. -/
def take (x : Rows F) (i : Ctr F) : One F :=
  shapeCast S32x128 (Host.dynamicSlice S1x32x128 x
    (fun k => ((![i, constantI S_ 32 0#32, constantI S_ 32 0#32] : Fin 3 → Ctr F) k (Shape.Idx.first h_S_)).toInt) sliceFits_S2048x32x128_S1x32x128)
    shapeCasts_S1x32x128_S32x128

/-- `x` with the row that the counter `i` names replaced by `u`. -/
def put (x : Rows F) (u : One F) (i : Ctr F) : Rows F :=
  Host.dynamicUpdateSlice x (broadcastInDim S1x32x128 ![1, 2] bcast_S32x128_S1x32x128_1_2 u)
    (fun k => ((![i, constantI S_ 32 0#32, constantI S_ 32 0#32] : Fin 3 → Ctr F) k (Shape.Idx.first h_S_)).toInt) updateFits_S2048x32x128_S1x32x128

variable (V : Valuation τ sig (Elt F))

theorem trip0_arg0 : after (trip0 (F := F)) V (no_index (Proc.devRef .tc main_arg0)) = V (Proc.devRef .tc main_arg0) := by
  unfold trip0
  after_results_simp_entrywise

theorem trip0_arg1 : after (trip0 (F := F)) V (no_index (Proc.devRef .tc main_arg1)) = V (Proc.devRef .tc main_arg1) := by
  unfold trip0
  after_results_simp_entrywise

theorem trip0_arg2 : after (trip0 (F := F)) V (no_index (Proc.devRef .tc main_arg2)) = V (Proc.devRef .tc main_arg2) := by
  unfold trip0
  after_results_simp_entrywise

theorem trip0_arg3 : after (trip0 (F := F)) V (no_index (Proc.devRef .tc main_arg3)) = V (Proc.devRef .tc main_arg3) := by
  unfold trip0
  after_results_simp_entrywise

theorem trip0_arg4 : after (trip0 (F := F)) V (no_index (Proc.devRef .tc main_arg4)) = V (Proc.devRef .tc main_arg4) := by
  unfold trip0
  after_results_simp_entrywise

theorem trip0_arg5 : after (trip0 (F := F)) V (no_index (Proc.devRef .tc main_arg5)) = V (Proc.devRef .tc main_arg5) := by
  unfold trip0
  after_results_simp_entrywise

theorem trip0_v5_0 : after (trip0 (F := F)) V (no_index (Proc.devRef .tc main_v5_0)) = V (Proc.devRef .tc main_v5_0) := by
  unfold trip0
  after_results_simp_entrywise

theorem trip0_v5_1 : after (trip0 (F := F)) V (no_index (Proc.devRef .tc main_v5_1)) = V (Proc.devRef .tc main_v5_1) := by
  unfold trip0
  after_results_simp_entrywise

theorem trip0_v5_2 : after (trip0 (F := F)) V (no_index (Proc.devRef .tc main_v5_2)) = V (Proc.devRef .tc main_v5_2) := by
  unfold trip0
  after_results_simp_entrywise

theorem trip0_v5_3 : after (trip0 (F := F)) V (no_index (Proc.devRef .tc main_v5_3)) = V (Proc.devRef .tc main_v5_3) := by
  unfold trip0
  after_results_simp_entrywise

theorem trip0_v5_4 : after (trip0 (F := F)) V (no_index (Proc.devRef .tc main_v5_4)) = addi (V (Proc.devRef .tc main_v5_4)) (constantI S_ 32 1#32) := by
  unfold trip0
  after_results_simp_entrywise
  all_goals rfl

theorem trip0_v5_5 : after (trip0 (F := F)) V (no_index (Proc.devRef .tc main_v5_5)) = addf (subf (mulf (V (Proc.devRef .tc main_v5_2)) (V (Proc.devRef .tc main_v5_5))) (mulf (V (Proc.devRef .tc main_v5_3)) (V (Proc.devRef .tc main_v5_6)))) (take (V (Proc.devRef .tc main_v5_0)) (V (Proc.devRef .tc main_v5_4))) := by
  unfold trip0
  after_results_simp_entrywise
  all_goals rfl

theorem trip0_v5_6 : after (trip0 (F := F)) V (no_index (Proc.devRef .tc main_v5_6)) = addf (addf (mulf (V (Proc.devRef .tc main_v5_2)) (V (Proc.devRef .tc main_v5_6))) (mulf (V (Proc.devRef .tc main_v5_3)) (V (Proc.devRef .tc main_v5_5)))) (take (V (Proc.devRef .tc main_v5_1)) (V (Proc.devRef .tc main_v5_4))) := by
  unfold trip0
  after_results_simp_entrywise
  all_goals rfl

theorem trip0_v5_9 : after (trip0 (F := F)) V (no_index (Proc.devRef .tc main_v5_9)) = put (V (Proc.devRef .tc main_v5_9)) (V (Proc.devRef .tc main_v5_5)) (V (Proc.devRef .tc main_v5_4)) := by
  unfold trip0
  after_results_simp_entrywise
  all_goals rfl

theorem trip0_v5_10 : after (trip0 (F := F)) V (no_index (Proc.devRef .tc main_v5_10)) = put (V (Proc.devRef .tc main_v5_10)) (V (Proc.devRef .tc main_v5_6)) (V (Proc.devRef .tc main_v5_4)) := by
  unfold trip0
  after_results_simp_entrywise
  all_goals rfl

theorem trip1_arg0 : after (trip1 (F := F)) V (no_index (Proc.devRef .tc main_arg0)) = V (Proc.devRef .tc main_arg0) := by
  unfold trip1
  after_results_simp_entrywise

theorem trip1_arg1 : after (trip1 (F := F)) V (no_index (Proc.devRef .tc main_arg1)) = V (Proc.devRef .tc main_arg1) := by
  unfold trip1
  after_results_simp_entrywise

theorem trip1_arg2 : after (trip1 (F := F)) V (no_index (Proc.devRef .tc main_arg2)) = V (Proc.devRef .tc main_arg2) := by
  unfold trip1
  after_results_simp_entrywise

theorem trip1_arg3 : after (trip1 (F := F)) V (no_index (Proc.devRef .tc main_arg3)) = V (Proc.devRef .tc main_arg3) := by
  unfold trip1
  after_results_simp_entrywise

theorem trip1_arg4 : after (trip1 (F := F)) V (no_index (Proc.devRef .tc main_arg4)) = V (Proc.devRef .tc main_arg4) := by
  unfold trip1
  after_results_simp_entrywise

theorem trip1_arg5 : after (trip1 (F := F)) V (no_index (Proc.devRef .tc main_arg5)) = V (Proc.devRef .tc main_arg5) := by
  unfold trip1
  after_results_simp_entrywise

theorem trip1_v14_0 : after (trip1 (F := F)) V (no_index (Proc.devRef .tc main_v14_0)) = V (Proc.devRef .tc main_v14_0) := by
  unfold trip1
  after_results_simp_entrywise

theorem trip1_v14_1 : after (trip1 (F := F)) V (no_index (Proc.devRef .tc main_v14_1)) = V (Proc.devRef .tc main_v14_1) := by
  unfold trip1
  after_results_simp_entrywise

theorem trip1_v14_2 : after (trip1 (F := F)) V (no_index (Proc.devRef .tc main_v14_2)) = V (Proc.devRef .tc main_v14_2) := by
  unfold trip1
  after_results_simp_entrywise

theorem trip1_v14_3 : after (trip1 (F := F)) V (no_index (Proc.devRef .tc main_v14_3)) = V (Proc.devRef .tc main_v14_3) := by
  unfold trip1
  after_results_simp_entrywise

theorem trip1_v14_4 : after (trip1 (F := F)) V (no_index (Proc.devRef .tc main_v14_4)) = V (Proc.devRef .tc main_v14_4) := by
  unfold trip1
  after_results_simp_entrywise

theorem trip1_v14_5 : after (trip1 (F := F)) V (no_index (Proc.devRef .tc main_v14_5)) = V (Proc.devRef .tc main_v14_5) := by
  unfold trip1
  after_results_simp_entrywise

/-- The row that a trip of the second loop reads and writes: the last row first. -/
abbrev rev (i : Ctr F) : Ctr F := subi (subi (constantI S_ 32 2048#32) i) (constantI S_ 32 1#32)

theorem trip1_v14_6 : after (trip1 (F := F)) V (no_index (Proc.devRef .tc main_v14_6)) = addi (V (Proc.devRef .tc main_v14_6)) (constantI S_ 32 1#32) := by
  unfold trip1
  after_results_simp_entrywise
  all_goals rfl

theorem trip1_v14_7 : after (trip1 (F := F)) V (no_index (Proc.devRef .tc main_v14_7)) = addf (addf (V (Proc.devRef .tc main_v14_7)) (mulf (addf (V (Proc.devRef .tc main_v14_10)) (take (V (Proc.devRef .tc main_v14_1)) (rev (V (Proc.devRef .tc main_v14_6))))) (take (V (Proc.devRef .tc main_v14_3)) (rev (V (Proc.devRef .tc main_v14_6)))))) (mulf (addf (V (Proc.devRef .tc main_v14_9)) (take (V (Proc.devRef .tc main_v14_0)) (rev (V (Proc.devRef .tc main_v14_6))))) (take (V (Proc.devRef .tc main_v14_2)) (rev (V (Proc.devRef .tc main_v14_6))))) := by
  unfold trip1
  after_results_simp_entrywise
  all_goals rfl

theorem trip1_v14_8 : after (trip1 (F := F)) V (no_index (Proc.devRef .tc main_v14_8)) = addf (addf (V (Proc.devRef .tc main_v14_8)) (mulf (addf (V (Proc.devRef .tc main_v14_10)) (take (V (Proc.devRef .tc main_v14_1)) (rev (V (Proc.devRef .tc main_v14_6))))) (take (V (Proc.devRef .tc main_v14_2)) (rev (V (Proc.devRef .tc main_v14_6)))))) (mulf (Host.negf (addf (V (Proc.devRef .tc main_v14_9)) (take (V (Proc.devRef .tc main_v14_0)) (rev (V (Proc.devRef .tc main_v14_6)))))) (take (V (Proc.devRef .tc main_v14_3)) (rev (V (Proc.devRef .tc main_v14_6))))) := by
  unfold trip1
  after_results_simp_entrywise
  all_goals rfl

theorem trip1_v14_9 : after (trip1 (F := F)) V (no_index (Proc.devRef .tc main_v14_9)) = addf (mulf (V (Proc.devRef .tc main_v14_5)) (addf (V (Proc.devRef .tc main_v14_10)) (take (V (Proc.devRef .tc main_v14_1)) (rev (V (Proc.devRef .tc main_v14_6)))))) (mulf (V (Proc.devRef .tc main_v14_4)) (addf (V (Proc.devRef .tc main_v14_9)) (take (V (Proc.devRef .tc main_v14_0)) (rev (V (Proc.devRef .tc main_v14_6)))))) := by
  unfold trip1
  after_results_simp_entrywise
  all_goals rfl

theorem trip1_v14_10 : after (trip1 (F := F)) V (no_index (Proc.devRef .tc main_v14_10)) = addf (mulf (V (Proc.devRef .tc main_v14_4)) (addf (V (Proc.devRef .tc main_v14_10)) (take (V (Proc.devRef .tc main_v14_1)) (rev (V (Proc.devRef .tc main_v14_6)))))) (mulf (V (Proc.devRef .tc main_v14_5)) (Host.negf (addf (V (Proc.devRef .tc main_v14_9)) (take (V (Proc.devRef .tc main_v14_0)) (rev (V (Proc.devRef .tc main_v14_6))))))) := by
  unfold trip1
  after_results_simp_entrywise
  all_goals rfl

theorem trip1_v14_11 : after (trip1 (F := F)) V (no_index (Proc.devRef .tc main_v14_11)) = put (V (Proc.devRef .tc main_v14_11)) (addf (V (Proc.devRef .tc main_v14_9)) (take (V (Proc.devRef .tc main_v14_0)) (rev (V (Proc.devRef .tc main_v14_6))))) (rev (V (Proc.devRef .tc main_v14_6))) := by
  unfold trip1
  after_results_simp_entrywise
  chain_rfl

theorem trip1_v14_12 : after (trip1 (F := F)) V (no_index (Proc.devRef .tc main_v14_12)) = put (V (Proc.devRef .tc main_v14_12)) (addf (V (Proc.devRef .tc main_v14_10)) (take (V (Proc.devRef .tc main_v14_1)) (rev (V (Proc.devRef .tc main_v14_6))))) (rev (V (Proc.devRef .tc main_v14_6))) := by
  unfold trip1
  after_results_simp_entrywise
  chain_rfl

theorem before_arg0 : after (before (F := F)) V (no_index (Proc.devRef .tc main_arg0)) = V (Proc.devRef .tc main_arg0) := by
  unfold before
  after_results_simp_entrywise

theorem before_arg1 : after (before (F := F)) V (no_index (Proc.devRef .tc main_arg1)) = V (Proc.devRef .tc main_arg1) := by
  unfold before
  after_results_simp_entrywise

theorem before_arg2 : after (before (F := F)) V (no_index (Proc.devRef .tc main_arg2)) = V (Proc.devRef .tc main_arg2) := by
  unfold before
  after_results_simp_entrywise

theorem before_arg3 : after (before (F := F)) V (no_index (Proc.devRef .tc main_arg3)) = V (Proc.devRef .tc main_arg3) := by
  unfold before
  after_results_simp_entrywise

theorem before_arg4 : after (before (F := F)) V (no_index (Proc.devRef .tc main_arg4)) = V (Proc.devRef .tc main_arg4) := by
  unfold before
  after_results_simp_entrywise

theorem before_arg5 : after (before (F := F)) V (no_index (Proc.devRef .tc main_arg5)) = V (Proc.devRef .tc main_arg5) := by
  unfold before
  after_results_simp_entrywise

theorem before_v5_0 : after (before (F := F)) V (no_index (Proc.devRef .tc main_v5_0)) = V (Proc.devRef .tc main_arg0) := by
  unfold before
  after_results_simp_entrywise
  all_goals rfl

theorem before_v5_1 : after (before (F := F)) V (no_index (Proc.devRef .tc main_v5_1)) = V (Proc.devRef .tc main_arg1) := by
  unfold before
  after_results_simp_entrywise
  all_goals rfl

theorem before_v5_2 : after (before (F := F)) V (no_index (Proc.devRef .tc main_v5_2)) = V (Proc.devRef .tc main_arg2) := by
  unfold before
  after_results_simp_entrywise
  all_goals rfl

theorem before_v5_3 : after (before (F := F)) V (no_index (Proc.devRef .tc main_v5_3)) = V (Proc.devRef .tc main_arg3) := by
  unfold before
  after_results_simp_entrywise
  all_goals rfl

theorem before_v5_4 : after (before (F := F)) V (no_index (Proc.devRef .tc main_v5_4)) = constantI S_ 32 0#32 := by
  unfold before
  after_results_simp_entrywise
  all_goals rfl

theorem before_v5_5 : after (before (F := F)) V (no_index (Proc.devRef .tc main_v5_5)) = broadcastInDim S32x128 ![] bcast_S_S32x128 (constant S_ .f32 0x00000000#32) := by
  unfold before
  after_results_simp_entrywise
  all_goals rfl

theorem before_v5_6 : after (before (F := F)) V (no_index (Proc.devRef .tc main_v5_6)) = broadcastInDim S32x128 ![] bcast_S_S32x128 (constant S_ .f32 0x00000000#32) := by
  unfold before
  after_results_simp_entrywise
  all_goals rfl

theorem before_v5_9 : after (before (F := F)) V (no_index (Proc.devRef .tc main_v5_9)) = broadcastInDim S2048x32x128 ![] bcast_S_S2048x32x128 (constant S_ .f32 0x00000000#32) := by
  unfold before
  after_results_simp_entrywise
  all_goals rfl

theorem before_v5_10 : after (before (F := F)) V (no_index (Proc.devRef .tc main_v5_10)) = broadcastInDim S2048x32x128 ![] bcast_S_S2048x32x128 (constant S_ .f32 0x00000000#32) := by
  unfold before
  after_results_simp_entrywise
  all_goals rfl

theorem between_arg0 : after (between (F := F)) V (no_index (Proc.devRef .tc main_arg0)) = V (Proc.devRef .tc main_arg0) := by
  unfold between
  after_results_simp_entrywise

theorem between_arg1 : after (between (F := F)) V (no_index (Proc.devRef .tc main_arg1)) = V (Proc.devRef .tc main_arg1) := by
  unfold between
  after_results_simp_entrywise

theorem between_arg2 : after (between (F := F)) V (no_index (Proc.devRef .tc main_arg2)) = V (Proc.devRef .tc main_arg2) := by
  unfold between
  after_results_simp_entrywise

theorem between_arg3 : after (between (F := F)) V (no_index (Proc.devRef .tc main_arg3)) = V (Proc.devRef .tc main_arg3) := by
  unfold between
  after_results_simp_entrywise

theorem between_arg4 : after (between (F := F)) V (no_index (Proc.devRef .tc main_arg4)) = V (Proc.devRef .tc main_arg4) := by
  unfold between
  after_results_simp_entrywise

theorem between_arg5 : after (between (F := F)) V (no_index (Proc.devRef .tc main_arg5)) = V (Proc.devRef .tc main_arg5) := by
  unfold between
  after_results_simp_entrywise

theorem between_v14_0 : after (between (F := F)) V (no_index (Proc.devRef .tc main_v14_0)) = V (Proc.devRef .tc main_arg4) := by
  unfold between
  after_results_simp_entrywise
  all_goals rfl

theorem between_v14_1 : after (between (F := F)) V (no_index (Proc.devRef .tc main_v14_1)) = V (Proc.devRef .tc main_arg5) := by
  unfold between
  after_results_simp_entrywise
  all_goals rfl

theorem between_v14_2 : after (between (F := F)) V (no_index (Proc.devRef .tc main_v14_2)) = V (Proc.devRef .tc main_v5_9) := by
  unfold between
  after_results_simp_entrywise
  all_goals rfl

theorem between_v14_3 : after (between (F := F)) V (no_index (Proc.devRef .tc main_v14_3)) = V (Proc.devRef .tc main_v5_10) := by
  unfold between
  after_results_simp_entrywise
  all_goals rfl

theorem between_v14_4 : after (between (F := F)) V (no_index (Proc.devRef .tc main_v14_4)) = V (Proc.devRef .tc main_arg2) := by
  unfold between
  after_results_simp_entrywise
  all_goals rfl

theorem between_v14_5 : after (between (F := F)) V (no_index (Proc.devRef .tc main_v14_5)) = V (Proc.devRef .tc main_arg3) := by
  unfold between
  after_results_simp_entrywise
  all_goals rfl

theorem between_v14_6 : after (between (F := F)) V (no_index (Proc.devRef .tc main_v14_6)) = constantI S_ 32 0#32 := by
  unfold between
  after_results_simp_entrywise
  all_goals rfl

theorem between_v14_7 : after (between (F := F)) V (no_index (Proc.devRef .tc main_v14_7)) = broadcastInDim S32x128 ![] bcast_S_S32x128 (constant S_ .f32 0x00000000#32) := by
  unfold between
  after_results_simp_entrywise
  all_goals rfl

theorem between_v14_8 : after (between (F := F)) V (no_index (Proc.devRef .tc main_v14_8)) = broadcastInDim S32x128 ![] bcast_S_S32x128 (constant S_ .f32 0x00000000#32) := by
  unfold between
  after_results_simp_entrywise
  all_goals rfl

theorem between_v14_9 : after (between (F := F)) V (no_index (Proc.devRef .tc main_v14_9)) = broadcastInDim S32x128 ![] bcast_S_S32x128 (constant S_ .f32 0x00000000#32) := by
  unfold between
  after_results_simp_entrywise
  all_goals rfl

theorem between_v14_10 : after (between (F := F)) V (no_index (Proc.devRef .tc main_v14_10)) = broadcastInDim S32x128 ![] bcast_S_S32x128 (constant S_ .f32 0x00000000#32) := by
  unfold between
  after_results_simp_entrywise
  all_goals rfl

theorem between_v14_11 : after (between (F := F)) V (no_index (Proc.devRef .tc main_v14_11)) = broadcastInDim S2048x32x128 ![] bcast_S_S2048x32x128 (constant S_ .f32 0x00000000#32) := by
  unfold between
  after_results_simp_entrywise
  all_goals rfl

theorem between_v14_12 : after (between (F := F)) V (no_index (Proc.devRef .tc main_v14_12)) = broadcastInDim S2048x32x128 ![] bcast_S_S2048x32x128 (constant S_ .f32 0x00000000#32) := by
  unfold between
  after_results_simp_entrywise
  all_goals rfl

theorem test0_arg0 : after (test0 (F := F)) V (no_index (Proc.devRef .tc main_arg0)) = V (Proc.devRef .tc main_arg0) := by
  unfold test0
  after_results_simp_entrywise

theorem test0_arg1 : after (test0 (F := F)) V (no_index (Proc.devRef .tc main_arg1)) = V (Proc.devRef .tc main_arg1) := by
  unfold test0
  after_results_simp_entrywise

theorem test0_arg2 : after (test0 (F := F)) V (no_index (Proc.devRef .tc main_arg2)) = V (Proc.devRef .tc main_arg2) := by
  unfold test0
  after_results_simp_entrywise

theorem test0_arg3 : after (test0 (F := F)) V (no_index (Proc.devRef .tc main_arg3)) = V (Proc.devRef .tc main_arg3) := by
  unfold test0
  after_results_simp_entrywise

theorem test0_arg4 : after (test0 (F := F)) V (no_index (Proc.devRef .tc main_arg4)) = V (Proc.devRef .tc main_arg4) := by
  unfold test0
  after_results_simp_entrywise

theorem test0_arg5 : after (test0 (F := F)) V (no_index (Proc.devRef .tc main_arg5)) = V (Proc.devRef .tc main_arg5) := by
  unfold test0
  after_results_simp_entrywise

theorem test0_v5_0 : after (test0 (F := F)) V (no_index (Proc.devRef .tc main_v5_0)) = V (Proc.devRef .tc main_v5_0) := by
  unfold test0
  after_results_simp_entrywise

theorem test0_v5_1 : after (test0 (F := F)) V (no_index (Proc.devRef .tc main_v5_1)) = V (Proc.devRef .tc main_v5_1) := by
  unfold test0
  after_results_simp_entrywise

theorem test0_v5_2 : after (test0 (F := F)) V (no_index (Proc.devRef .tc main_v5_2)) = V (Proc.devRef .tc main_v5_2) := by
  unfold test0
  after_results_simp_entrywise

theorem test0_v5_3 : after (test0 (F := F)) V (no_index (Proc.devRef .tc main_v5_3)) = V (Proc.devRef .tc main_v5_3) := by
  unfold test0
  after_results_simp_entrywise

theorem test0_v5_4 : after (test0 (F := F)) V (no_index (Proc.devRef .tc main_v5_4)) = V (Proc.devRef .tc main_v5_4) := by
  unfold test0
  after_results_simp_entrywise

theorem test0_v5_5 : after (test0 (F := F)) V (no_index (Proc.devRef .tc main_v5_5)) = V (Proc.devRef .tc main_v5_5) := by
  unfold test0
  after_results_simp_entrywise

theorem test0_v5_6 : after (test0 (F := F)) V (no_index (Proc.devRef .tc main_v5_6)) = V (Proc.devRef .tc main_v5_6) := by
  unfold test0
  after_results_simp_entrywise

theorem test0_v5_9 : after (test0 (F := F)) V (no_index (Proc.devRef .tc main_v5_9)) = V (Proc.devRef .tc main_v5_9) := by
  unfold test0
  after_results_simp_entrywise

theorem test0_v5_10 : after (test0 (F := F)) V (no_index (Proc.devRef .tc main_v5_10)) = V (Proc.devRef .tc main_v5_10) := by
  unfold test0
  after_results_simp_entrywise

theorem test1_arg0 : after (test1 (F := F)) V (no_index (Proc.devRef .tc main_arg0)) = V (Proc.devRef .tc main_arg0) := by
  unfold test1
  after_results_simp_entrywise

theorem test1_arg1 : after (test1 (F := F)) V (no_index (Proc.devRef .tc main_arg1)) = V (Proc.devRef .tc main_arg1) := by
  unfold test1
  after_results_simp_entrywise

theorem test1_arg2 : after (test1 (F := F)) V (no_index (Proc.devRef .tc main_arg2)) = V (Proc.devRef .tc main_arg2) := by
  unfold test1
  after_results_simp_entrywise

theorem test1_arg3 : after (test1 (F := F)) V (no_index (Proc.devRef .tc main_arg3)) = V (Proc.devRef .tc main_arg3) := by
  unfold test1
  after_results_simp_entrywise

theorem test1_arg4 : after (test1 (F := F)) V (no_index (Proc.devRef .tc main_arg4)) = V (Proc.devRef .tc main_arg4) := by
  unfold test1
  after_results_simp_entrywise

theorem test1_arg5 : after (test1 (F := F)) V (no_index (Proc.devRef .tc main_arg5)) = V (Proc.devRef .tc main_arg5) := by
  unfold test1
  after_results_simp_entrywise

theorem test1_v14_0 : after (test1 (F := F)) V (no_index (Proc.devRef .tc main_v14_0)) = V (Proc.devRef .tc main_v14_0) := by
  unfold test1
  after_results_simp_entrywise

theorem test1_v14_1 : after (test1 (F := F)) V (no_index (Proc.devRef .tc main_v14_1)) = V (Proc.devRef .tc main_v14_1) := by
  unfold test1
  after_results_simp_entrywise

theorem test1_v14_2 : after (test1 (F := F)) V (no_index (Proc.devRef .tc main_v14_2)) = V (Proc.devRef .tc main_v14_2) := by
  unfold test1
  after_results_simp_entrywise

theorem test1_v14_3 : after (test1 (F := F)) V (no_index (Proc.devRef .tc main_v14_3)) = V (Proc.devRef .tc main_v14_3) := by
  unfold test1
  after_results_simp_entrywise

theorem test1_v14_4 : after (test1 (F := F)) V (no_index (Proc.devRef .tc main_v14_4)) = V (Proc.devRef .tc main_v14_4) := by
  unfold test1
  after_results_simp_entrywise

theorem test1_v14_5 : after (test1 (F := F)) V (no_index (Proc.devRef .tc main_v14_5)) = V (Proc.devRef .tc main_v14_5) := by
  unfold test1
  after_results_simp_entrywise

theorem test1_v14_6 : after (test1 (F := F)) V (no_index (Proc.devRef .tc main_v14_6)) = V (Proc.devRef .tc main_v14_6) := by
  unfold test1
  after_results_simp_entrywise

theorem test1_v14_7 : after (test1 (F := F)) V (no_index (Proc.devRef .tc main_v14_7)) = V (Proc.devRef .tc main_v14_7) := by
  unfold test1
  after_results_simp_entrywise

theorem test1_v14_8 : after (test1 (F := F)) V (no_index (Proc.devRef .tc main_v14_8)) = V (Proc.devRef .tc main_v14_8) := by
  unfold test1
  after_results_simp_entrywise

theorem test1_v14_9 : after (test1 (F := F)) V (no_index (Proc.devRef .tc main_v14_9)) = V (Proc.devRef .tc main_v14_9) := by
  unfold test1
  after_results_simp_entrywise

theorem test1_v14_10 : after (test1 (F := F)) V (no_index (Proc.devRef .tc main_v14_10)) = V (Proc.devRef .tc main_v14_10) := by
  unfold test1
  after_results_simp_entrywise

theorem test1_v14_11 : after (test1 (F := F)) V (no_index (Proc.devRef .tc main_v14_11)) = V (Proc.devRef .tc main_v14_11) := by
  unfold test1
  after_results_simp_entrywise

theorem test1_v14_12 : after (test1 (F := F)) V (no_index (Proc.devRef .tc main_v14_12)) = V (Proc.devRef .tc main_v14_12) := by
  unfold test1
  after_results_simp_entrywise

end Cert.ScanRefIdeal.Ops
-- ==== Proof.ScanRefRun.lean ====
/- The run of the scan's reference: the arrays that each loop starts from, its 2048 trips, and what every buffer holds at the end. -/
module

public import proofs.«01_k».proof.Proof.ScanRefTrip

@[expose] public section

set_option maxRecDepth 8192

noncomputable section

namespace Cert.ScanRefIdeal.Ops

open Cert.ScanRefIdeal Cert.ScanRefIdeal.Gen Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## The operation lists touch arrays of the program and allocate nothing -/

theorem before_plain : Plain [before (F := F)] := .cons before_sub .nil
theorem between_plain : Plain [between (F := F)] := .cons between_sub .nil
theorem trip0_plain : Plain [trip0 (F := F)] := .cons trip0_sub .nil
theorem trip1_plain : Plain [trip1 (F := F)] := .cons trip1_sub .nil

/-! ## The contents of every buffer along the run -/

variable (m : (ℓ : Loc nD τ sig) → Buf (Elt F) ℓ)

/-- At the first loop's entry, before its trip `k`; the same of the second; at the end. -/
def E0 (c : Dev nD) : Valuation τ sig (Elt F) := after before (launchContents m c)
def T0 (k : ℕ) (c : Dev nD) : Valuation τ sig (Elt F) := atTrip test0 [trip0] (E0 m) k c
def E1 (c : Dev nD) : Valuation τ sig (Elt F) := after between (after test0 (T0 m 2048 c))
def T1 (k : ℕ) (c : Dev nD) : Valuation τ sig (Elt F) := atTrip test1 [trip1] (E1 m) k c
def Z (c : Dev nD) : Valuation τ sig (Elt F) := after test1 (T1 m 2048 c)

theorem T0_zero (c : Dev nD) : T0 m 0 c = E0 m c := rfl
theorem T0_succ (k : ℕ) (c : Dev nD) : T0 m (k + 1) c = after trip0 (after test0 (T0 m k c)) := rfl
theorem T1_zero (c : Dev nD) : T1 m 0 c = E1 m c := rfl
theorem T1_succ (k : ℕ) (c : Dev nD) : T1 m (k + 1) c = after trip1 (after test1 (T1 m k c)) := rfl

/-- The counters count the trips. -/
theorem count0 (c : Dev nD) (k : ℕ) : T0 m k c (Proc.devRef .tc main_v5_4) = fun _ => Scf.iv 0#32 1#32 k := by
  induction k with
  | zero => rw [T0_zero, E0, before_v5_4, Scf.iv_zero]; rfl
  | succ k ih => rw [T0_succ, trip0_v5_4, test0_v5_4, ih, Scf.iv_succ]; rfl

theorem count1 (c : Dev nD) (k : ℕ) : T1 m k c (Proc.devRef .tc main_v14_6) = fun _ => Scf.iv 0#32 1#32 k := by
  induction k with
  | zero => rw [T1_zero, E1, between_v14_6, Scf.iv_zero]; rfl
  | succ k ih => rw [T1_succ, trip1_v14_6, test1_v14_6, ih, Scf.iv_succ]; rfl

theorem trips0 : Scf.trips (0#32) (2048#32) (1#32) = 2048 := by decide
theorem trips1 : Scf.trips (0#32) (2048#32) (1#32) = 2048 := trips0

theorem exit_test (k : ℕ) (hk : k ≤ 2048) : Iff (IntOp.cmpi .slt (Scf.iv 0#32 1#32 k) 2048#32 = 1#1) (k < 2048) := by
  have h := Scf.cmpi_slt_iv_ub_iff (lb := 0#32) (ub := 2048#32) (st := 1#32) main_while0_ok (k := k) (by rw [trips0]; exact hk)
  rw [trips0] at h
  exact h

/-! ## The exit tests -/

/-- What rides beside the buffers: the core owes nothing. -/
abbrev R (c : Dev nD) : sProp 𝕄 := iprop(∃ W, owes (c : Thread nD τ) (0 : CellTallies nD τ sig Unit) W)

set_option backward.isDefEq.respectTransparency.types false in
theorem cond0 : LoopCond (pcfgs (F := F)) defs₀ Variants.none loops (R (F := F)) main_while0_cond test0 [trip0] (E0 m) 2048 := by
  intro k hk c bd
  have hc := count0 m c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v5_4 HostLoop.idx0)
        (HloOp.result _ (T0 m k c) main_while0c_c_23 HostLoop.idx0) = 1#1) (k < 2048)
    rw [StableHlo.nullary_result_ne _ _ _ _ (by decide), StableHlo.nullary_result, hc]
    exact exit_test k hk
  isplitl [Hb]; · iexact Hb
  isplitl [Hh]; · rw [StableHlo.after_cons, StableHlo.after_cons, StableHlo.after_nil]; iexact Hh
  iexact HR

set_option backward.isDefEq.respectTransparency.types false in
theorem cond1 : LoopCond (pcfgs (F := F)) defs₀ Variants.none loops (R (F := F)) main_while1_cond test1 [trip1] (E1 m) 2048 := by
  intro k hk c bd
  have hc := count1 m c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v14_6 HostLoop.idx0)
        (HloOp.result _ (T1 m k c) main_while1c_c_25 HostLoop.idx0) = 1#1) (k < 2048)
    rw [StableHlo.nullary_result_ne _ _ _ _ (by decide), StableHlo.nullary_result, hc]
    exact exit_test k hk
  isplitl [Hb]; · iexact Hb
  isplitl [Hh]; · rw [StableHlo.after_cons, StableHlo.after_cons, StableHlo.after_nil]; iexact Hh
  iexact HR

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

/-- The program's parts: what fills the first loop's arrays, that loop, what fills the second's, that loop. -/
def segs : List (CSeg (pcfgs (F := F)) adm defs₀ Variants.none L lv loops tk) :=
  segsOf _ _ _ _ _ _ _ _ R [before] before_plain (launchContents m)
    ++ loopSeg _ _ _ _ _ _ _ _ 0 main_while0_cond main_while0_body rfl test0 [trip0] trip0_plain body0_chain 2048 (E0 m) R (cond0 m)
      :: (segsOf _ _ _ _ _ _ _ _ R [between] between_plain (fun c => after test0 (T0 m 2048 c))
        ++ [loopSeg _ _ _ _ _ _ _ _ 1 main_while1_cond main_while1_body rfl test1 [trip1] trip1_plain body1_chain 2048 (E1 m) R (cond1 m)])

theorem segs_prog : (segs m).map CSeg.prog
    = [(seq before : Prog _ PUnit), HostLoop.enter 0, (seq between : Prog _ PUnit), HostLoop.enter 1] := rfl

theorem segs_chain : CSeg.Chains (fun c => iprop(held (c : Thread nD τ) (ucRefs τ sig) (launchContents m c) ∗ R c)) (segs m)
    (fun c => iprop(iprop(held (c : Thread nD τ) (ucRefs τ sig) (Z m c)) ∗ ∃ W, owes (c : Thread nD τ) (0 : CellTallies nD τ sig Unit) W)) := by
  unfold segs
  refine CSeg.Chains.append (segsOf_chains _ _ _ _ _ _ _ _ R [before] before_plain _) ⟨fun _ => .rfl, ?_⟩
  exact CSeg.Chains.append (segsOf_chains _ _ _ _ _ _ _ _ R [between] between_plain _) ⟨fun _ => .rfl, fun _ => .rfl⟩

/-- Every execution of the reference ends, nothing faulting, with every array at `Z`. -/
theorem run_main (ρ : Dev nD → PrngReg) : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = Z m c (Proc.devRef .tc b)) :=
  Pipeline.θ_run_regions_loop_kit (Ix := Unit) (Name := ℕ) (U := Option PUnit) (Lvl := ℕ) (J := Fin 0) (P := Fin 0) (Val := Elt F)
    pcfgs adm (fun k => k.1.elim0) defs₀ Variants.none L lv loops tk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ R c))
    (Tₙ := fun c => iprop(held (c : Thread nD τ) (ucRefs τ sig) (Z m c)))
    (hch := segs_chain m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = Z m c b)
    (hfin := fun c s' => by
      unfold held
      iintro ⟨Hh, HSI⟩
      ihave Hr := (pointsTo_read_all (ucRefs τ sig) (fun b => ((c : Dev nD), b)) (fun b => Z m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ScanRefIdeal.Ops
-- ==== Proof.ScanRefVal.lean ====
/- What the reference's two loops compute, lane by lane: the first carries the state of the scan and keeps the state BEFORE every step; the
   second carries the transposed step's terms and writes the adjoint of every row. -/
module

public import Idealize.ShloMosaic.Lib.DynamicIndex
public import proofs.«01_k».proof.Proof.ScanRefRun
public import proofs.«01_k».proof.Proof.ScanRecur

@[expose] public section

set_option maxRecDepth 8192

noncomputable section

namespace Cert.ScanRefIdeal.Ops

open Cert.ScanRefIdeal Cert.ScanRefIdeal.Gen Idealize.ShloMosaic Idealize.ShloMosaic.TcCoe Idealize.ShloMosaic.StableHlo

variable {F : FTy → Type} [FloatOps F]

/-! ## Rows by the counter -/

/-- A counter that stands at `k`. -/
abbrev cnt (F : FTy → Type) [FloatOps F] (k : ℕ) : Ctr F := fun _ => BitVec.ofNat 32 k

theorem iv_eq (k : ℕ) : Scf.iv 0#32 1#32 k = BitVec.ofNat 32 k := by simp [Scf.iv]

theorem rev_cnt (k : ℕ) (h : k < 2048) : rev (F := F) (cnt F k) = cnt F (2047 - k) := by
  funext i
  show (2048#32 - BitVec.ofNat 32 k) - 1#32 = BitVec.ofNat 32 (2047 - k)
  refine BitVec.eq_of_toNat_eq ?_
  simp only [BitVec.toNat_sub, BitVec.toNat_ofNat]
  omega

theorem start_eq (k : ℕ) (h : k < 2048) (a : Fin 3) :
    ((![cnt F k, constantI S_ 32 0#32, constantI S_ 32 0#32] : Fin 3 → Ctr F) a (Shape.Idx.first h_S_)).toInt = ((![k, 0, 0] : Fin 3 → ℕ) a : ℤ) :=
  match a with
  | ⟨0, _⟩ => toInt_ofNat_of_lt (by omega)
  | ⟨1, _⟩ => rfl
  | ⟨2, _⟩ => rfl

theorem row_slices (k : ℕ) (h : k < 2048) : S2048x32x128.Slices ![k, 0, 0] S1x32x128 :=
  ⟨rfl, fun a => match a with
    | ⟨0, _⟩ => (show k + 1 ≤ 2048 by omega)
    | ⟨1, _⟩ => (show 0 + 32 ≤ 32 by omega)
    | ⟨2, _⟩ => (show 0 + 128 ≤ 128 by omega)⟩

theorem take_apply (x : Rows F) (k : ℕ) (h : k < 2048) (j : Recur.Row.Idx) : take x (cnt F k) j = Recur.lane x j k := by
  obtain ⟨a, b, rfl⟩ : ∃ a b, j = ix2 a b := ⟨j 0, j 1, eq_ix2 j⟩
  unfold take
  rw [Host.dynamicSlice_eq_extractStridedSlice S1x32x128 x _ ![k, 0, 0] _ (row_slices k h) (start_eq k h), Recur.lane_of_lt _ _ _ h]
  refine (ValueIdx.shapeCast_1ab_ab_apply _ _ a b).trans ?_
  exact extractStridedSlice_apply _ _ _ _ _ fun d => match d with
    | ⟨0, _⟩ => (show k = k + 0 by omega)
    | ⟨1, _⟩ => (show a.val = 0 + a.val by omega)
    | ⟨2, _⟩ => (show b.val = 0 + b.val by omega)

theorem put_apply (x : Rows F) (u : One F) (k : ℕ) (h : k < 2048) (r : Recur.Arr.Idx) :
    put x u (cnt F k) r = if (r 0).val = k then u (ix2 (r 1) (r 2)) else x r := by
  unfold put
  rw [Host.dynamicUpdateSlice_eq_updateSlice x _ _ _ ![k, 0, 0] (fun a => by
    rw [start_eq k h a]
    match a with
    | ⟨0, _⟩ => exact (show (min (max (k : ℤ) 0) ((2048 - 1 : ℕ) : ℤ)).toNat = k by omega)
    | ⟨1, _⟩ => rfl
    | ⟨2, _⟩ => rfl) (row_slices k h)]
  unfold updateSlice
  have h1 : (r 1).val < 32 := (r 1).isLt
  have h2 : (r 2).val < 128 := (r 2).isLt
  by_cases hr : (r 0).val = k
  · rw [if_pos hr, dif_pos (fun a => match a with
      | ⟨0, _⟩ => (show k ≤ (r 0).val ∧ (r 0).val < k + 1 by omega)
      | ⟨1, _⟩ => (show 0 ≤ (r 1).val ∧ (r 1).val < 0 + 32 by omega)
      | ⟨2, _⟩ => (show 0 ≤ (r 2).val ∧ (r 2).val < 0 + 128 by omega))]
    unfold broadcastInDim
    congr 1
    funext d
    match d with
    | ⟨0, _⟩ => rfl
    | ⟨1, _⟩ => rfl
  · rw [if_neg hr, dif_neg (fun hin => hr (by
      have := hin (0 : Fin 3)
      have h' : k ≤ (r 0).val ∧ (r 0).val < k + 1 := this
      omega))]

/-! ## The first loop -/

/-- What the second loop carries at a lane: the terms of the adjoint that come from the steps behind it, and the multiplier's sums. -/
structure Car (F : FTy → Type) where
  pre : F .f32
  pim : F .f32
  gre : F .f32
  gim : F .f32

/-- One trip of the second loop at a lane: the adjoint is what is carried plus the cotangent. -/
def move (ar ai dr di sr si : F .f32) (a : Car F) : Car F where
  pre := FloatOps.addf (FloatOps.mulf ai (FloatOps.addf a.pim di)) (FloatOps.mulf ar (FloatOps.addf a.pre dr))
  pim := FloatOps.addf (FloatOps.mulf ar (FloatOps.addf a.pim di)) (FloatOps.mulf ai (FloatOps.hostNegf (FloatOps.addf a.pre dr)))
  gre := FloatOps.addf (FloatOps.addf a.gre (FloatOps.mulf (FloatOps.addf a.pim di) si)) (FloatOps.mulf (FloatOps.addf a.pre dr) sr)
  gim := FloatOps.addf (FloatOps.addf a.gim (FloatOps.mulf (FloatOps.addf a.pim di) sr)) (FloatOps.mulf (FloatOps.hostNegf (FloatOps.addf a.pre dr)) si)

/-- What it carries after `k` trips. -/
def moved (ar ai : F .f32) (dr di sr si : ℕ → F .f32) : ℕ → Car F
  | 0 => ⟨Recur.start, Recur.start, Recur.start, Recur.start⟩
  | k + 1 => move ar ai (dr k) (di k) (sr k) (si k) (moved ar ai dr di sr si k)

variable (m : (ℓ : Loc nD τ sig) → Buf (Elt F) ℓ) (c : Dev nD)

/-- The arguments: the inputs, the multiplier, the cotangents. -/
abbrev inRe : Rows F := m ((c : Thread nD τ).loc main_arg0)
abbrev inIm : Rows F := m ((c : Thread nD τ).loc main_arg1)
abbrev mulRe : One F := m ((c : Thread nD τ).loc main_arg2)
abbrev mulIm : One F := m ((c : Thread nD τ).loc main_arg3)
abbrev ctRe : Rows F := m ((c : Thread nD τ).loc main_arg4)
abbrev ctIm : Rows F := m ((c : Thread nD τ).loc main_arg5)

/-- The state at a lane after `k` steps. -/
abbrev at0 (j : Recur.Row.Idx) (k : ℕ) : F .f32 × F .f32 := Recur.states (mulRe m c) (mulIm m c) (inRe m c) (inIm m c) j k

theorem T0_arg0 (k : ℕ) : T0 m k c (Proc.devRef .tc main_arg0) = m ((c : Thread nD τ).loc main_arg0) := by
  induction k with
  | zero => rw [T0_zero, E0, before_arg0]
  | succ k ih => rw [T0_succ, trip0_arg0, test0_arg0, ih]
theorem T0_arg1 (k : ℕ) : T0 m k c (Proc.devRef .tc main_arg1) = m ((c : Thread nD τ).loc main_arg1) := by
  induction k with
  | zero => rw [T0_zero, E0, before_arg1]
  | succ k ih => rw [T0_succ, trip0_arg1, test0_arg1, ih]
theorem T0_arg2 (k : ℕ) : T0 m k c (Proc.devRef .tc main_arg2) = m ((c : Thread nD τ).loc main_arg2) := by
  induction k with
  | zero => rw [T0_zero, E0, before_arg2]
  | succ k ih => rw [T0_succ, trip0_arg2, test0_arg2, ih]
theorem T0_arg3 (k : ℕ) : T0 m k c (Proc.devRef .tc main_arg3) = m ((c : Thread nD τ).loc main_arg3) := by
  induction k with
  | zero => rw [T0_zero, E0, before_arg3]
  | succ k ih => rw [T0_succ, trip0_arg3, test0_arg3, ih]
theorem T0_arg4 (k : ℕ) : T0 m k c (Proc.devRef .tc main_arg4) = m ((c : Thread nD τ).loc main_arg4) := by
  induction k with
  | zero => rw [T0_zero, E0, before_arg4]
  | succ k ih => rw [T0_succ, trip0_arg4, test0_arg4, ih]
theorem T0_arg5 (k : ℕ) : T0 m k c (Proc.devRef .tc main_arg5) = m ((c : Thread nD τ).loc main_arg5) := by
  induction k with
  | zero => rw [T0_zero, E0, before_arg5]
  | succ k ih => rw [T0_succ, trip0_arg5, test0_arg5, ih]
theorem T0_v5_0 (k : ℕ) : T0 m k c (Proc.devRef .tc main_v5_0) = m ((c : Thread nD τ).loc main_arg0) := by
  induction k with
  | zero => rw [T0_zero, E0, before_v5_0]
  | succ k ih => rw [T0_succ, trip0_v5_0, test0_v5_0, ih]
theorem T0_v5_1 (k : ℕ) : T0 m k c (Proc.devRef .tc main_v5_1) = m ((c : Thread nD τ).loc main_arg1) := by
  induction k with
  | zero => rw [T0_zero, E0, before_v5_1]
  | succ k ih => rw [T0_succ, trip0_v5_1, test0_v5_1, ih]
theorem T0_v5_2 (k : ℕ) : T0 m k c (Proc.devRef .tc main_v5_2) = m ((c : Thread nD τ).loc main_arg2) := by
  induction k with
  | zero => rw [T0_zero, E0, before_v5_2]
  | succ k ih => rw [T0_succ, trip0_v5_2, test0_v5_2, ih]
theorem T0_v5_3 (k : ℕ) : T0 m k c (Proc.devRef .tc main_v5_3) = m ((c : Thread nD τ).loc main_arg3) := by
  induction k with
  | zero => rw [T0_zero, E0, before_v5_3]
  | succ k ih => rw [T0_succ, trip0_v5_3, test0_v5_3, ih]

theorem T0_count (k : ℕ) : T0 m k c (Proc.devRef .tc main_v5_4) = cnt F k := by
  rw [count0, iv_eq]; rfl

/-- Before trip `k` the loop carries the state after `k` steps. -/
theorem T0_state (k : ℕ) (hk : k ≤ 2048) :
    T0 m k c (Proc.devRef .tc main_v5_5) = (fun j : Recur.Row.Idx => (at0 m c j k).1)
      ∧ T0 m k c (Proc.devRef .tc main_v5_6) = (fun j : Recur.Row.Idx => (at0 m c j k).2) := by
  induction k with
  | zero =>
    constructor
    · rw [T0_zero, E0, before_v5_5]; rfl
    · rw [T0_zero, E0, before_v5_6]; rfl
  | succ k ih =>
    obtain ⟨h1, h2⟩ := ih (by omega)
    constructor
    · rw [T0_succ, trip0_v5_5, test0_v5_0, test0_v5_2, test0_v5_3, test0_v5_4, test0_v5_5, test0_v5_6, h1, h2, T0_v5_0, T0_v5_2, T0_v5_3, T0_count]
      funext j
      exact congrArg (FloatOps.addf (F := F) _) (take_apply _ k (by omega) j)
    · rw [T0_succ, trip0_v5_6, test0_v5_1, test0_v5_2, test0_v5_3, test0_v5_4, test0_v5_5, test0_v5_6, h1, h2, T0_v5_1, T0_v5_2, T0_v5_3, T0_count]
      funext j
      exact congrArg (FloatOps.addf (F := F) _) (take_apply _ k (by omega) j)

/-- The kept states: row `r 0`, once its trip is done, is the state before that step. -/
theorem T0_kept (k : ℕ) (hk : k ≤ 2048) :
    (∀ r : Recur.Arr.Idx, (r 0).val < k → T0 m k c (Proc.devRef .tc main_v5_9) r = (at0 m c (ix2 (r 1) (r 2)) (r 0).val).1)
      ∧ (∀ r : Recur.Arr.Idx, (r 0).val < k → T0 m k c (Proc.devRef .tc main_v5_10) r = (at0 m c (ix2 (r 1) (r 2)) (r 0).val).2) := by
  induction k with
  | zero => exact ⟨fun _ h => absurd h (Nat.not_lt_zero _), fun _ h => absurd h (Nat.not_lt_zero _)⟩
  | succ k ih =>
    obtain ⟨h1, h2⟩ := ih (by omega)
    obtain ⟨s1, s2⟩ := T0_state m c k (by omega)
    constructor
    · intro r hr
      rw [T0_succ, trip0_v5_9, test0_v5_9, test0_v5_5, test0_v5_4, T0_count, s1, put_apply _ _ k (by omega)]
      by_cases h : (r 0).val = k
      · rw [if_pos h, h]
      · rw [if_neg h]; exact h1 r (by omega)
    · intro r hr
      rw [T0_succ, trip0_v5_10, test0_v5_10, test0_v5_6, test0_v5_4, T0_count, s2, put_apply _ _ k (by omega)]
      by_cases h : (r 0).val = k
      · rw [if_pos h, h]
      · rw [if_neg h]; exact h2 r (by omega)

/-- The two arrays of kept states. -/
def keptRe : Rows F := fun r : Recur.Arr.Idx => (at0 m c (ix2 (r 1) (r 2)) (r 0).val).1
def keptIm : Rows F := fun r : Recur.Arr.Idx => (at0 m c (ix2 (r 1) (r 2)) (r 0).val).2

/-! ## The second loop -/

theorem T1_arg0 (k : ℕ) : T1 m k c (Proc.devRef .tc main_arg0) = m ((c : Thread nD τ).loc main_arg0) := by
  induction k with
  | zero => rw [T1_zero, E1, between_arg0, test0_arg0, T0_arg0]
  | succ k ih => rw [T1_succ, trip1_arg0, test1_arg0, ih]
theorem T1_arg1 (k : ℕ) : T1 m k c (Proc.devRef .tc main_arg1) = m ((c : Thread nD τ).loc main_arg1) := by
  induction k with
  | zero => rw [T1_zero, E1, between_arg1, test0_arg1, T0_arg1]
  | succ k ih => rw [T1_succ, trip1_arg1, test1_arg1, ih]
theorem T1_arg2 (k : ℕ) : T1 m k c (Proc.devRef .tc main_arg2) = m ((c : Thread nD τ).loc main_arg2) := by
  induction k with
  | zero => rw [T1_zero, E1, between_arg2, test0_arg2, T0_arg2]
  | succ k ih => rw [T1_succ, trip1_arg2, test1_arg2, ih]
theorem T1_arg3 (k : ℕ) : T1 m k c (Proc.devRef .tc main_arg3) = m ((c : Thread nD τ).loc main_arg3) := by
  induction k with
  | zero => rw [T1_zero, E1, between_arg3, test0_arg3, T0_arg3]
  | succ k ih => rw [T1_succ, trip1_arg3, test1_arg3, ih]
theorem T1_arg4 (k : ℕ) : T1 m k c (Proc.devRef .tc main_arg4) = m ((c : Thread nD τ).loc main_arg4) := by
  induction k with
  | zero => rw [T1_zero, E1, between_arg4, test0_arg4, T0_arg4]
  | succ k ih => rw [T1_succ, trip1_arg4, test1_arg4, ih]
theorem T1_arg5 (k : ℕ) : T1 m k c (Proc.devRef .tc main_arg5) = m ((c : Thread nD τ).loc main_arg5) := by
  induction k with
  | zero => rw [T1_zero, E1, between_arg5, test0_arg5, T0_arg5]
  | succ k ih => rw [T1_succ, trip1_arg5, test1_arg5, ih]
theorem T1_v14_0 (k : ℕ) : T1 m k c (Proc.devRef .tc main_v14_0) = m ((c : Thread nD τ).loc main_arg4) := by
  induction k with
  | zero => rw [T1_zero, E1, between_v14_0, test0_arg4, T0_arg4]
  | succ k ih => rw [T1_succ, trip1_v14_0, test1_v14_0, ih]
theorem T1_v14_1 (k : ℕ) : T1 m k c (Proc.devRef .tc main_v14_1) = m ((c : Thread nD τ).loc main_arg5) := by
  induction k with
  | zero => rw [T1_zero, E1, between_v14_1, test0_arg5, T0_arg5]
  | succ k ih => rw [T1_succ, trip1_v14_1, test1_v14_1, ih]
theorem T1_v14_4 (k : ℕ) : T1 m k c (Proc.devRef .tc main_v14_4) = m ((c : Thread nD τ).loc main_arg2) := by
  induction k with
  | zero => rw [T1_zero, E1, between_v14_4, test0_arg2, T0_arg2]
  | succ k ih => rw [T1_succ, trip1_v14_4, test1_v14_4, ih]
theorem T1_v14_5 (k : ℕ) : T1 m k c (Proc.devRef .tc main_v14_5) = m ((c : Thread nD τ).loc main_arg3) := by
  induction k with
  | zero => rw [T1_zero, E1, between_v14_5, test0_arg3, T0_arg3]
  | succ k ih => rw [T1_succ, trip1_v14_5, test1_v14_5, ih]
theorem T1_v14_2 (k : ℕ) : T1 m k c (Proc.devRef .tc main_v14_2) = keptRe m c := by
  induction k with
  | zero =>
    rw [T1_zero, E1, between_v14_2, test0_v5_9]
    funext r
    exact (T0_kept m c 2048 le_rfl).1 r ((r 0 : Fin 2048).isLt)
  | succ k ih => rw [T1_succ, trip1_v14_2, test1_v14_2, ih]
theorem T1_v14_3 (k : ℕ) : T1 m k c (Proc.devRef .tc main_v14_3) = keptIm m c := by
  induction k with
  | zero =>
    rw [T1_zero, E1, between_v14_3, test0_v5_10]
    funext r
    exact (T0_kept m c 2048 le_rfl).2 r ((r 0 : Fin 2048).isLt)
  | succ k ih => rw [T1_succ, trip1_v14_3, test1_v14_3, ih]

theorem T1_count (k : ℕ) : T1 m k c (Proc.devRef .tc main_v14_6) = cnt F k := by
  rw [count1, iv_eq]; rfl

/-- What the second loop carries at a lane before trip `k`. -/
abbrev at1 (j : Recur.Row.Idx) (k : ℕ) : Car F :=
  moved (mulRe m c j) (mulIm m c j) (Recur.laneUp (ctRe m c) j) (Recur.laneUp (ctIm m c) j) (Recur.laneUp (keptRe m c) j) (Recur.laneUp (keptIm m c) j) k

theorem takeUp (x : Rows F) (k : ℕ) (h : k < 2048) (j : Recur.Row.Idx) : take x (cnt F (2047 - k)) j = Recur.laneUp x j k :=
  take_apply x (2047 - k) (by omega) j

/-- The adjoint of a row, real and imaginary. -/
abbrev adjRe (k : ℕ) : One F := fun j : Recur.Row.Idx => FloatOps.addf (at1 m c j k).pre (Recur.laneUp (ctRe m c) j k)
abbrev adjIm (k : ℕ) : One F := fun j : Recur.Row.Idx => FloatOps.addf (at1 m c j k).pim (Recur.laneUp (ctIm m c) j k)

theorem add_take (p : One F) (x : Rows F) (k : ℕ) (h : k < 2048) :
    addf p (take x (cnt F (2047 - k))) = (fun j : Recur.Row.Idx => FloatOps.addf (p j) (Recur.laneUp x j k)) := by
  funext j
  exact congrArg (FloatOps.addf (F := F) (p j)) (takeUp x k h j)

theorem mul_take (p : One F) (x : Rows F) (k : ℕ) (h : k < 2048) :
    mulf p (take x (cnt F (2047 - k))) = (fun j : Recur.Row.Idx => FloatOps.mulf (p j) (Recur.laneUp x j k)) := by
  funext j
  exact congrArg (FloatOps.mulf (F := F) (p j)) (takeUp x k h j)

theorem T1_carried (k : ℕ) (hk : k ≤ 2048) :
    T1 m k c (Proc.devRef .tc main_v14_9) = (fun j : Recur.Row.Idx => (at1 m c j k).pre)
      ∧ T1 m k c (Proc.devRef .tc main_v14_10) = (fun j : Recur.Row.Idx => (at1 m c j k).pim)
      ∧ T1 m k c (Proc.devRef .tc main_v14_7) = (fun j : Recur.Row.Idx => (at1 m c j k).gre)
      ∧ T1 m k c (Proc.devRef .tc main_v14_8) = (fun j : Recur.Row.Idx => (at1 m c j k).gim) := by
  induction k with
  | zero =>
    refine ⟨?_, ?_, ?_, ?_⟩
    · rw [T1_zero, E1, between_v14_9]; rfl
    · rw [T1_zero, E1, between_v14_10]; rfl
    · rw [T1_zero, E1, between_v14_7]; rfl
    · rw [T1_zero, E1, between_v14_8]; rfl
  | succ k ih =>
    have hk' : k < 2048 := by omega
    obtain ⟨h1, h2, h3, h4⟩ := ih (by omega)
    refine ⟨?_, ?_, ?_, ?_⟩
    · rw [T1_succ, trip1_v14_9, test1_v14_0, test1_v14_1, test1_v14_4, test1_v14_5, test1_v14_6, test1_v14_9, test1_v14_10, h1, h2, T1_v14_0, T1_v14_1, T1_v14_4, T1_v14_5,
        T1_count, rev_cnt k hk', add_take _ _ k hk', add_take _ _ k hk']
      rfl
    · rw [T1_succ, trip1_v14_10, test1_v14_0, test1_v14_1, test1_v14_4, test1_v14_5, test1_v14_6, test1_v14_9, test1_v14_10, h1, h2, T1_v14_0, T1_v14_1, T1_v14_4, T1_v14_5,
        T1_count, rev_cnt k hk', add_take _ _ k hk', add_take _ _ k hk']
      rfl
    · rw [T1_succ, trip1_v14_7, test1_v14_0, test1_v14_1, test1_v14_2, test1_v14_3, test1_v14_6, test1_v14_7, test1_v14_9, test1_v14_10, h1, h2, h3, T1_v14_0, T1_v14_1, T1_v14_2, T1_v14_3,
        T1_count, rev_cnt k hk', add_take _ _ k hk', add_take _ _ k hk', mul_take _ _ k hk', mul_take _ _ k hk']
      rfl
    · rw [T1_succ, trip1_v14_8, test1_v14_0, test1_v14_1, test1_v14_2, test1_v14_3, test1_v14_6, test1_v14_8, test1_v14_9, test1_v14_10, h1, h2, h4, T1_v14_0, T1_v14_1, T1_v14_2, T1_v14_3,
        T1_count, rev_cnt k hk', add_take _ _ k hk', add_take _ _ k hk', mul_take _ _ k hk', mul_take _ _ k hk']
      rfl

/-- The rows of the adjoint that are written before trip `k`. -/
theorem T1_rows (k : ℕ) (hk : k ≤ 2048) :
    (∀ r : Recur.Arr.Idx, 2048 ≤ (r 0).val + k → T1 m k c (Proc.devRef .tc main_v14_11) r = adjRe m c (2047 - (r 0).val) (ix2 (r 1) (r 2)))
      ∧ (∀ r : Recur.Arr.Idx, 2048 ≤ (r 0).val + k → T1 m k c (Proc.devRef .tc main_v14_12) r = adjIm m c (2047 - (r 0).val) (ix2 (r 1) (r 2))) := by
  induction k with
  | zero => exact ⟨fun r h => absurd h (by have : (r 0).val < 2048 := (r 0).isLt; omega), fun r h => absurd h (by have : (r 0).val < 2048 := (r 0).isLt; omega)⟩
  | succ k ih =>
    have hk' : k < 2048 := by omega
    obtain ⟨h1, h2⟩ := ih (by omega)
    obtain ⟨c1, c2, -, -⟩ := T1_carried m c k (by omega)
    constructor
    · intro r hr
      rw [T1_succ, trip1_v14_11, test1_v14_11, test1_v14_0, test1_v14_6, test1_v14_9, c1, T1_v14_0, T1_count, rev_cnt k hk', add_take _ _ k hk', put_apply _ _ (2047 - k) (by omega)]
      by_cases h : (r 0).val = 2047 - k
      · rw [if_pos h, show 2047 - (r 0).val = k by omega]
      · rw [if_neg h]; exact h1 r (by omega)
    · intro r hr
      rw [T1_succ, trip1_v14_12, test1_v14_12, test1_v14_1, test1_v14_6, test1_v14_10, c2, T1_v14_1, T1_count, rev_cnt k hk', add_take _ _ k hk', put_apply _ _ (2047 - k) (by omega)]
      by_cases h : (r 0).val = 2047 - k
      · rw [if_pos h, show 2047 - (r 0).val = k by omega]
      · rw [if_neg h]; exact h2 r (by omega)

/-! ## The arrays at the end -/

theorem Z_lamRe : Z m c (Proc.devRef .tc main_v14_11) = fun r : Recur.Arr.Idx => adjRe m c (2047 - (r 0).val) (ix2 (r 1) (r 2)) := by
  rw [Z, test1_v14_11]
  funext r
  exact (T1_rows m c 2048 le_rfl).1 r (Nat.le_add_left _ _)
theorem Z_lamIm : Z m c (Proc.devRef .tc main_v14_12) = fun r : Recur.Arr.Idx => adjIm m c (2047 - (r 0).val) (ix2 (r 1) (r 2)) := by
  rw [Z, test1_v14_12]
  funext r
  exact (T1_rows m c 2048 le_rfl).2 r (Nat.le_add_left _ _)
theorem Z_sumRe : Z m c (Proc.devRef .tc main_v14_7) = fun j : Recur.Row.Idx => (at1 m c j 2048).gre := by
  rw [Z, test1_v14_7]; exact (T1_carried m c 2048 le_rfl).2.2.1
theorem Z_sumIm : Z m c (Proc.devRef .tc main_v14_8) = fun j : Recur.Row.Idx => (at1 m c j 2048).gim := by
  rw [Z, test1_v14_8]; exact (T1_carried m c 2048 le_rfl).2.2.2
theorem Z_arg0 : Z m c (Proc.devRef .tc main_arg0) = m ((c : Thread nD τ).loc main_arg0) := by
  rw [Z, test1_arg0, T1_arg0]
theorem Z_arg1 : Z m c (Proc.devRef .tc main_arg1) = m ((c : Thread nD τ).loc main_arg1) := by
  rw [Z, test1_arg1, T1_arg1]
theorem Z_arg2 : Z m c (Proc.devRef .tc main_arg2) = m ((c : Thread nD τ).loc main_arg2) := by
  rw [Z, test1_arg2, T1_arg2]
theorem Z_arg3 : Z m c (Proc.devRef .tc main_arg3) = m ((c : Thread nD τ).loc main_arg3) := by
  rw [Z, test1_arg3, T1_arg3]
theorem Z_arg4 : Z m c (Proc.devRef .tc main_arg4) = m ((c : Thread nD τ).loc main_arg4) := by
  rw [Z, test1_arg4, T1_arg4]
theorem Z_arg5 : Z m c (Proc.devRef .tc main_arg5) = m ((c : Thread nD τ).loc main_arg5) := by
  rw [Z, test1_arg5, T1_arg5]

end Cert.ScanRefIdeal.Ops

end
-- ==== Proof.ScanValue.lean ====
/- The scan's gradient over the reals: the reverse call's adjoints and sums are those of the reference's second loop. The kernel's sums
   take the adjoint of a row with the state of the row BELOW it, one step late; the reference takes the state before the row's own step. So
   after `k + 1` steps the kernel's sums stand where the reference's stand after `k`; and the last term is none, since the scan starts at
   zero. -/
module

public import proofs.«01_k».proof.Proof.ScanOut
public import proofs.«01_k».proof.Proof.ScanRefVal

@[expose] public section

set_option maxRecDepth 8192

noncomputable section

open Idealize.ShloMosaic Idealize.ShloMosaic.TcCoe

namespace Cert.ScanEq

open Cert.ScanRefIdeal.Ops (Car move moved)

theorem start_ideal : (Recur.start : Ideal .f32) = (0 : EReal) := by
  show Ideal.ofBits .f32 0x00000000#32 = (0 : EReal)
  simp [Ideal.ofBits, Ideal.ieee]

section Step

variable (ar ai : EReal) (dr di : ℕ → EReal)

/-- The two recurrences in step: the reverse call over the states `z` at `n, n - 1, …`, the loop over the states one step before. -/
structure Same (a : Recur.Adj Ideal) (b : Car Ideal) (k : ℕ) : Prop where
  lre : a.lre = (b.pre + dr k : EReal)
  lim : a.lim = (b.pim + di k : EReal)
  gre : a.gre = b.gre
  gim : a.gim = b.gim

theorem same_zero (s t : EReal) : Same dr di (Recur.back (F := Ideal) ar ai (dr 0) (di 0) s t ⟨Recur.start, Recur.start, Recur.start, Recur.start⟩)
    ⟨Recur.start, Recur.start, Recur.start, Recur.start⟩ 0 := by
  rw [start_ideal]
  refine ⟨?_, ?_, ?_, ?_⟩
  · show (dr 0 + ar * 0 + ai * 0 : EReal) = 0 + dr 0
    rw [mul_zero, mul_zero, add_zero, add_zero, zero_add]
  · show (di 0 + ar * 0 - ai * 0 : EReal) = 0 + di 0
    rw [mul_zero, mul_zero, add_zero, sub_zero, zero_add]
  · show (0 + 0 * s + 0 * t : EReal) = 0
    rw [zero_mul, zero_mul, add_zero, add_zero]
  · show (0 + 0 * s - 0 * t : EReal) = 0
    rw [zero_mul, zero_mul, add_zero, sub_zero]

theorem same_succ (a : Recur.Adj Ideal) (b : Car Ideal) (k : ℕ) (s t : EReal) (h : Same dr di a b k) :
    Same dr di (Recur.back (F := Ideal) ar ai (dr (k + 1)) (di (k + 1)) s t a) (move (F := Ideal) ar ai (dr k) (di k) s t b) (k + 1) := by
  obtain ⟨h1, h2, h3, h4⟩ := h
  refine ⟨?_, ?_, ?_, ?_⟩
  · show (dr (k + 1) + ar * a.lre + ai * a.lim : EReal) = ai * (b.pim + di k) + ar * (b.pre + dr k) + dr (k + 1)
    rw [← h1, ← h2, add_comm _ (dr (k + 1)), add_assoc, add_comm (ar * a.lre : EReal)]
  · show (di (k + 1) + ar * a.lim - ai * a.lre : EReal) = ar * (b.pim + di k) + ai * (-(b.pre + dr k)) + di (k + 1)
    rw [← h1, ← h2, add_comm _ (di (k + 1)), ← add_assoc, mul_neg, ← sub_eq_add_neg]
  · show (a.gre + a.lre * s + a.lim * t : EReal) = b.gre + (b.pim + di k) * t + (b.pre + dr k) * s
    rw [← h1, ← h2, ← h3, add_assoc, add_comm (a.lre * s : EReal), ← add_assoc]
  · show (a.gim + a.lim * s - a.lre * t : EReal) = b.gim + (b.pim + di k) * s + (-(b.pre + dr k)) * t
    rw [← h1, ← h2, ← h4, neg_mul, ← sub_eq_add_neg]

/-- In step all the way, where the reverse call's states run one step ahead. -/
theorem same (sr si zr zi : ℕ → EReal) (n : ℕ) (hr : ∀ k, k + 1 < n → sr (k + 1) = zr k) (hi : ∀ k, k + 1 < n → si (k + 1) = zi k) (k : ℕ) (hk : k < n) :
    Same dr di (Recur.adj (F := Ideal) ar ai dr di sr si (k + 1)) (moved (F := Ideal) ar ai dr di zr zi k) k := by
  induction k with
  | zero => exact same_zero ar ai dr di _ _
  | succ k ih =>
    have h := same_succ ar ai dr di _ _ k (zr k) (zi k) (ih (by omega))
    rw [← hr k hk, ← hi k hk] at h
    show Same dr di (Recur.back (F := Ideal) ar ai (dr (k + 1)) (di (k + 1)) (sr (k + 1)) (si (k + 1)) (Recur.adj (F := Ideal) ar ai dr di sr si (k + 1)))
      (move (F := Ideal) ar ai (dr k) (di k) (zr k) (zi k) (moved (F := Ideal) ar ai dr di zr zi k)) (k + 1)
    rw [← hr k hk, ← hi k hk]
    exact h

/-- The loop's last trip adds the products with the state the scan starts from, which is zero. -/
theorem last (b : Car Ideal) (dr di zr zi : EReal) (hr : zr = 0) (hi : zi = 0) :
    (move (F := Ideal) ar ai dr di zr zi b).gre = b.gre ∧ (move (F := Ideal) ar ai dr di zr zi b).gim = b.gim := by
  subst hr hi
  constructor
  · show (b.gre + (b.pim + di) * 0 + (b.pre + dr) * 0 : EReal) = b.gre
    rw [mul_zero, mul_zero, add_zero, add_zero]
  · show (b.gim + (b.pim + di) * 0 + (-(b.pre + dr)) * 0 : EReal) = b.gim
    rw [mul_zero, mul_zero, add_zero, add_zero]

end Step

/-! ## The two programs -/

section Programs

open Cert.ScanIdeal.Run (V0 V1 V2)
open Cert.ScanRefIdeal.Ops (at0 at1 Z keptRe keptIm mulRe mulIm inRe inIm ctRe ctIm)

variable (m : (ℓ : Loc Cert.ScanIdeal.nD Cert.ScanIdeal.τ Cert.ScanIdeal.sig) → Buf (Elt Ideal) ℓ)
  (m' : (ℓ : Loc Cert.ScanRefIdeal.nD Cert.ScanRefIdeal.τ Cert.ScanRefIdeal.sig) → Buf (Elt Ideal) ℓ)
  (c : Dev Cert.ScanIdeal.nD)

/-- The memories agree on the six arguments. -/
structure Agree : Prop where
  arg0 : m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
  arg1 : m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
  arg2 : m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
  arg3 : m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
  arg4 : m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)
  arg5 : m' ((c.tc : Thread Cert.ScanRefIdeal.nD Cert.ScanRefIdeal.τ).loc Cert.ScanRefIdeal.main_arg5) = m ((c.tc : Thread Cert.ScanIdeal.nD Cert.ScanIdeal.τ).loc Cert.ScanIdeal.main_arg5)

variable {m m' c} (h : Agree m m' c)
include h

/-- The forward call's row `i` is the state after `i + 1` steps. -/
theorem row_state (j : Recur.Row.Idx) (i : ℕ) (hi : i < 2048) :
    Cert.ScanIdeal.Fwd.out (V0 m) c (ix3 ⟨i, hi⟩ (j 0) (j 1)) = at0 m' c j (i + 1) := by
  obtain ⟨a, b, rfl⟩ : ∃ a b, j = ix2 a b := ⟨j 0, j 1, eq_ix2 j⟩
  unfold at0 mulRe mulIm inRe inIm
  rw [h.arg0, h.arg1, h.arg2, h.arg3]
  rfl

theorem ahead_re (j : Recur.Row.Idx) (k : ℕ) (hk : k + 1 < 2048) :
    Recur.laneUp (V1 m c (Proc.devRef .tc Cert.ScanIdeal.main_v0_0) : Recur.Arr.Idx → Ideal .f32) j (k + 1) = Recur.laneUp (keptRe m' c) j k := by
  rw [Cert.ScanIdeal.Run.V1_v0_0]
  unfold Recur.laneUp
  rw [Recur.lane_of_lt _ _ _ (by omega), Recur.lane_of_lt _ _ _ (by omega)]
  rw [row_state h j _ (by omega), show 2047 - (k + 1) + 1 = 2047 - k by omega]
  obtain ⟨a, b, rfl⟩ : ∃ a b, j = ix2 a b := ⟨j 0, j 1, eq_ix2 j⟩
  rfl

theorem ahead_im (j : Recur.Row.Idx) (k : ℕ) (hk : k + 1 < 2048) :
    Recur.laneUp (V1 m c (Proc.devRef .tc Cert.ScanIdeal.main_v0_1) : Recur.Arr.Idx → Ideal .f32) j (k + 1) = Recur.laneUp (keptIm m' c) j k := by
  rw [Cert.ScanIdeal.Run.V1_v0_1]
  unfold Recur.laneUp
  rw [Recur.lane_of_lt _ _ _ (by omega), Recur.lane_of_lt _ _ _ (by omega)]
  rw [row_state h j _ (by omega), show 2047 - (k + 1) + 1 = 2047 - k by omega]
  obtain ⟨a, b, rfl⟩ : ∃ a b, j = ix2 a b := ⟨j 0, j 1, eq_ix2 j⟩
  rfl

/-- The two programs in step at every lane. -/
theorem carried_same (j : Recur.Row.Idx) (k : ℕ) (hk : k < 2048) :
    Same (Recur.laneUp (ctRe m' c) j) (Recur.laneUp (ctIm m' c) j) (Cert.ScanIdeal.Bwd.carried (V1 m) c j (k + 1)) (at1 m' c j k) k := by
  have e := same (mulRe m' c j) (mulIm m' c j) (Recur.laneUp (ctRe m' c) j) (Recur.laneUp (ctIm m' c) j) _ _ _ _ 2048
    (fun k hk => ahead_re h j k hk) (fun k hk => ahead_im h j k hk) k hk
  unfold Cert.ScanIdeal.Bwd.carried Cert.ScanIdeal.Bwd.P Cert.ScanIdeal.Bwd.Q Cert.ScanIdeal.Bwd.U Cert.ScanIdeal.Bwd.W
  rw [Cert.ScanIdeal.Run.V1_arg2, Cert.ScanIdeal.Run.V1_arg3, Cert.ScanIdeal.Run.V1_arg4, Cert.ScanIdeal.Run.V1_arg5, ← h.arg2, ← h.arg3, ← h.arg4, ← h.arg5]
  exact e

theorem adjoint_re : Z m' c (Proc.devRef .tc Cert.ScanRefIdeal.main_v14_11) = fun r => (Cert.ScanIdeal.Bwd.out (V1 m) c r).lre := by
  rw [Cert.ScanRefIdeal.Ops.Z_lamRe]
  funext r
  have hr : (r (0 : Fin 3)).val < 2048 := (r (0 : Fin 3)).isLt
  have e := (carried_same h (ix2 (r (1 : Fin 3)) (r (2 : Fin 3))) (2047 - (r (0 : Fin 3)).val) (by omega)).lre
  rw [show 2047 - (r (0 : Fin 3)).val + 1 = 2048 - (r (0 : Fin 3)).val by omega] at e
  exact e.symm

theorem adjoint_im : Z m' c (Proc.devRef .tc Cert.ScanRefIdeal.main_v14_12) = fun r => (Cert.ScanIdeal.Bwd.out (V1 m) c r).lim := by
  rw [Cert.ScanRefIdeal.Ops.Z_lamIm]
  funext r
  have hr : (r (0 : Fin 3)).val < 2048 := (r (0 : Fin 3)).isLt
  have e := (carried_same h (ix2 (r (1 : Fin 3)) (r (2 : Fin 3))) (2047 - (r (0 : Fin 3)).val) (by omega)).lim
  rw [show 2047 - (r (0 : Fin 3)).val + 1 = 2048 - (r (0 : Fin 3)).val by omega] at e
  exact e.symm

omit h in
/-- The states before the first step are zero. -/
theorem kept_last (m' : (ℓ : Loc Cert.ScanRefIdeal.nD Cert.ScanRefIdeal.τ Cert.ScanRefIdeal.sig) → Buf (Elt Ideal) ℓ) (c : Dev Cert.ScanRefIdeal.nD) (j : Recur.Row.Idx) :
    Recur.laneUp (keptRe m' c) j 2047 = (0 : EReal) ∧ Recur.laneUp (keptIm m' c) j 2047 = (0 : EReal) := by
  unfold Recur.laneUp
  rw [Recur.lane_of_lt _ _ _ (by omega), Recur.lane_of_lt _ _ _ (by omega)]
  exact ⟨start_ideal, start_ideal⟩

theorem sums (j : Recur.Row.Idx) : (at1 m' c j 2048).gre = (Cert.ScanIdeal.Bwd.carried (V1 m) c j 2048).gre
    ∧ (at1 m' c j 2048).gim = (Cert.ScanIdeal.Bwd.carried (V1 m) c j 2048).gim := by
  have e := carried_same h j 2047 (by omega)
  obtain ⟨z1, z2⟩ := kept_last m' c j
  obtain ⟨l1, l2⟩ := last (mulRe m' c j) (mulIm m' c j) (at1 m' c j 2047) (Recur.laneUp (ctRe m' c) j 2047) (Recur.laneUp (ctIm m' c) j 2047) _ _ z1 z2
  exact ⟨l1.trans e.gre.symm, l2.trans e.gim.symm⟩

theorem sum_re : Z m' c (Proc.devRef .tc Cert.ScanRefIdeal.main_v14_7) = fun j => (Cert.ScanIdeal.Bwd.carried (V1 m) c j 2048).gre := by
  rw [Cert.ScanRefIdeal.Ops.Z_sumRe]
  exact funext fun j => (sums h j).1

theorem sum_im : Z m' c (Proc.devRef .tc Cert.ScanRefIdeal.main_v14_8) = fun j => (Cert.ScanIdeal.Bwd.carried (V1 m) c j 2048).gim := by
  rw [Cert.ScanRefIdeal.Ops.Z_sumIm]
  exact funext fun j => (sums h j).2

end Programs

end Cert.ScanEq

end
-- ==== Proof.ScanSame.lean ====
/- The scan's program and its ideal form have the same text: their tables of bodies are equal, for any interpretation of the floats, so a run of
   the one is a run of the other. -/
module

public import proofs.«01_k».proof.Scan
public import proofs.«01_k».proof.ScanIdeal

@[expose] public section

set_option maxRecDepth 16384

open Idealize.ShloMosaic Idealize.SL.Sem

namespace Cert.ScanSame

variable {F : FTy → Type} [FloatOps F] [Cert.Scan.Facts] [Cert.ScanIdeal.Facts]

/-- The forward call's body is the same in the two programs. -/
theorem same_forward : @Cert.Scan.cc0_ssm_scan_fwd F _ _ = @Cert.ScanIdeal.cc0_ssm_scan_fwd F _ _ := rfl
/-- The reverse call's body is the same in the two programs. -/
theorem same_reverse : @Cert.Scan.cc1_ssm_scan_bwd F _ _ = @Cert.ScanIdeal.cc1_ssm_scan_bwd F _ _ := rfl

/-- The forward call, at every grid point and on every staging buffer. -/
theorem same_forward_at (t s) : Cert.Scan.defs₀ (F := F) .tc 0 (t, s) = Cert.ScanIdeal.defs₀ (F := F) .tc 0 (t, s) :=
  (congrFun (congrFun (congrFun (congrFun (congrFun (congrFun (congrFun (congrFun (congrFun (congrFun (congrFun (congrFun (congrFun (congrFun (congrFun same_forward (Cert.Scan.grid0.coords t)) (Cert.Scan.win0_0.stage (s 0)))
    (Cert.Scan.Facts₀.hstage0_0 ((s 0).cast Cert.Scan.Facts₀.nbuf0_0))) (Cert.Scan.win0_1.stage (s 1)))
    (Cert.Scan.Facts₀.hstage0_1 ((s 1).cast Cert.Scan.Facts₀.nbuf0_1))) (Cert.Scan.win0_2.stage (s 2)))
    (Cert.Scan.Facts₀.hstage0_2 ((s 2).cast Cert.Scan.Facts₀.nbuf0_2))) (Cert.Scan.win0_3.stage (s 3)))
    (Cert.Scan.Facts₀.hstage0_3 ((s 3).cast Cert.Scan.Facts₀.nbuf0_3))) (Cert.Scan.win0_4.stage (s 4)))
    (Cert.Scan.Facts₀.hstage0_4 ((s 4).cast Cert.Scan.Facts₀.nbuf0_4))) (Cert.Scan.win0_5.stage (s 5)))
    (Cert.Scan.Facts₀.hstage0_5 ((s 5).cast Cert.Scan.Facts₀.nbuf0_5))) (Memref.whole Cert.Scan.cc0_scratch0)) (Memref.isWhole_whole _))
/-- The reverse call, at every grid point and on every staging buffer. -/
theorem same_reverse_at (t s) : Cert.Scan.defs₀ (F := F) .tc 1 (t, s) = Cert.ScanIdeal.defs₀ (F := F) .tc 1 (t, s) :=
  (congrFun (congrFun (congrFun (congrFun (congrFun (congrFun (congrFun (congrFun (congrFun (congrFun (congrFun (congrFun (congrFun (congrFun (congrFun (congrFun (congrFun (congrFun (congrFun (congrFun (congrFun (congrFun (congrFun same_reverse (Cert.Scan.grid1.coords t)) (Cert.Scan.win1_0.stage (s 0)))
    (Cert.Scan.Facts₀.hstage1_0 ((s 0).cast Cert.Scan.Facts₀.nbuf1_0))) (Cert.Scan.win1_1.stage (s 1)))
    (Cert.Scan.Facts₀.hstage1_1 ((s 1).cast Cert.Scan.Facts₀.nbuf1_1))) (Cert.Scan.win1_2.stage (s 2)))
    (Cert.Scan.Facts₀.hstage1_2 ((s 2).cast Cert.Scan.Facts₀.nbuf1_2))) (Cert.Scan.win1_3.stage (s 3)))
    (Cert.Scan.Facts₀.hstage1_3 ((s 3).cast Cert.Scan.Facts₀.nbuf1_3))) (Cert.Scan.win1_4.stage (s 4)))
    (Cert.Scan.Facts₀.hstage1_4 ((s 4).cast Cert.Scan.Facts₀.nbuf1_4))) (Cert.Scan.win1_5.stage (s 5)))
    (Cert.Scan.Facts₀.hstage1_5 ((s 5).cast Cert.Scan.Facts₀.nbuf1_5))) (Cert.Scan.win1_6.stage (s 6)))
    (Cert.Scan.Facts₀.hstage1_6 ((s 6).cast Cert.Scan.Facts₀.nbuf1_6))) (Cert.Scan.win1_7.stage (s 7)))
    (Cert.Scan.Facts₀.hstage1_7 ((s 7).cast Cert.Scan.Facts₀.nbuf1_7))) (Cert.Scan.win1_8.stage (s 8)))
    (Cert.Scan.Facts₀.hstage1_8 ((s 8).cast Cert.Scan.Facts₀.nbuf1_8))) (Cert.Scan.win1_9.stage (s 9)))
    (Cert.Scan.Facts₀.hstage1_9 ((s 9).cast Cert.Scan.Facts₀.nbuf1_9))) (Memref.whole Cert.Scan.cc1_scratch0)) (Memref.isWhole_whole _))
/-- The two programs' tables of bodies are the same. -/
theorem same_bodies : Cert.Scan.defs₀ (F := F) = Cert.ScanIdeal.defs₀ (F := F) :=
  congrArg Defs.onTc (funext fun l => funext fun x => by
    revert x
    refine Fin.cases (fun x => same_forward_at x.1 x.2) (Fin.cases (fun x => same_reverse_at x.1 x.2) (fun i => i.elim0)) l)
/-- So are their tables with the pipelines. -/
theorem same_defs : Cert.Scan.defs (F := F) = Cert.ScanIdeal.defs (F := F) :=
  congrArg (Pipeline.defs Cert.Scan.pcfgs) same_bodies

end Cert.ScanSame
-- ==== Proof.FfnActValue.lean ====
/- The FFN half backward, up to the hidden layer: the gradient of the hidden activation (one product with the transpose of the down
   projection), times each of the two derivatives that the forward pass saved. -/
module

public import proofs.«01_k».proof.Proof.Gen.FfnActIdeal.Value
public import proofs.«01_k».proof.Proof.Gen.FfnActRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnActIdeal.Value
open Cert.FfnActIdeal Cert.FfnActIdeal.Gen

variable (m : (ℓ : Loc nD τ sig) → Buf (Elt Ideal) ℓ)

/-- Which block each window holds at each grid point. -/
theorem idx : ∀ t : Fin cfg0.N, win0_0.index t = ![t.val % 2, 0]
    ∧ win0_1.index t = ![t.val / 2, 0, 0]
    ∧ win0_2.index t = ![t.val / 2, t.val % 2, 0]
    ∧ win0_3.index t = ![t.val / 2, t.val % 2, 0]
    ∧ win0_4.index t = ![t.val / 2, t.val % 2, 0]
    ∧ win0_5.index t = ![t.val / 2, t.val % 2, 0] :=
  (by decide +kernel : ∀ t : Fin grid0.N, _)

/-- A product of equal factors. -/
theorem act_eq {P P' s s' : EReal} (hp : P = P') (hs : s = s') : P * s = P' * s' := by
  subst hp hs; rfl

open Cert.FfnActRefIdeal.Read in
/-- One element of the gate's gradient. -/
theorem point_gate (c : Dev nD) (t : Fin cfg0.N) (y) : k0_pay2 (iblk m c 0 t) (iblk m c 1 t) (iblk m c 2 t) y
    = val_main_v10 (F := Ideal) (m ((c : Thread nD τ).loc main_arg0)) (m ((c : Thread nD τ).loc main_arg1)) (m ((c : Thread nD τ).loc main_arg2))
        (((cfg0.win 4).blk t).view.emb y) := by
  rw [val_main_v10_apply, val_main_v9_apply, val_main_v8_apply, val_main_v7_apply, val_main_v6_apply]
  pointwise [k0_pay1, k0_pay2]
  refine act_eq ?_ ?_ <;> blk_point [iblk, V, idx t]

/-- After the run the array of window 4 is the reference's. -/
theorem final_gate (c : Dev nD) : (dats m 0 c).arrAt 4 (cfgs 0).N
    = Cert.FfnActRefIdeal.Read.val_main_v10 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_gate m c t y

open Cert.FfnActRefIdeal.Read in
/-- One element of the gradient of the up projection. -/
theorem point_up (c : Dev nD) (t : Fin cfg0.N) (y) : k0_pay3 (iblk m c 0 t) (iblk m c 1 t) (iblk m c 3 t) y
    = val_main_v14 (F := Ideal) (m ((c : Thread nD τ).loc main_arg0)) (m ((c : Thread nD τ).loc main_arg1)) (m ((c : Thread nD τ).loc main_arg3))
        (((cfg0.win 5).blk t).view.emb y) := by
  rw [val_main_v14_apply, val_main_v13_apply, val_main_v12_apply, val_main_v11_apply, val_main_v6_apply]
  pointwise [k0_pay1, k0_pay3]
  refine act_eq ?_ ?_ <;> blk_point [iblk, V, idx t]

/-- After the run the array of window 5 is the reference's. -/
theorem final_up (c : Dev nD) : (dats m 0 c).arrAt 5 (cfgs 0).N
    = Cert.FfnActRefIdeal.Read.val_main_v14 (F := Ideal) (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]; frame_out
  exact point_up m c t y

end Cert.FfnActIdeal.Value

end
-- ==== Proof.AdamwConvValue.lean ====
/- One AdamW step on an array, the call that has one block for the whole of it. -/
module

public import proofs.«01_k».proof.Proof.Gen.AdamwConvIdeal.Value
public import proofs.«01_k».proof.Proof.Gen.AdamwConvRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwConvIdeal.Value
open Cert.AdamwConvIdeal Cert.AdamwConvIdeal.Gen

variable (m : (ℓ : Loc nD τ sig) → Buf (Elt Ideal) ℓ)

/-- Which block each window holds at each grid point. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

open Cert.AdamwConvRefIdeal.Read in
/-- One element of the update. -/
theorem point_delta (c : Dev nD) (t : Fin cfg0.N) (y) : k0_pay3 (iblk m c 0 t) (iblk m c 1 t) (iblk m c 2 t) (iblk m c 3 t) y
    = val_main_v23 (F := Ideal) (m ((c : Thread nD τ).loc main_arg0)) (m ((c : Thread nD τ).loc main_arg1)) (m ((c : Thread nD τ).loc main_arg2)) (m ((c : Thread nD τ).loc main_arg3))
        (((cfg0.win 5).blk t).view.emb y) := by
  rw [val_main_v23_apply, val_main_v22_apply, val_main_cst_7_apply, val_main_v21_apply, val_main_v20_apply, val_main_v19_apply, val_main_cst_6_apply, val_main_v18_apply, val_main_v17_apply, val_main_v16_apply, val_main_cst_5_apply, val_main_v15_apply, val_main_v14_apply, val_main_v13_apply, val_main_cst_4_apply, val_main_v12_apply, val_main_v11_apply, val_main_cst_3_apply, val_main_v10_apply, val_main_v9_apply, val_main_v8_apply, val_main_cst_2_apply, val_main_v7_apply, val_main_v6_apply, val_main_v5_apply, val_main_cst_1_apply, val_main_v4_apply, val_main_v3_apply, val_main_v2_apply, val_main_cst_0_apply, val_main_v1_apply, val_main_v0_apply, val_main_cst_apply]
  pointwise [k0_pay1, k0_pay2, k0_pay3]
  blk_point [iblk, V, idx t]

/-- After the run the array of window 5 is the reference's. -/
theorem final_delta (c : Dev nD) : (dats m 0 c).arrAt 5 (cfgs 0).N
    = Cert.AdamwConvRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_delta m c t y

open Cert.AdamwConvRefIdeal.Read in
/-- One element of the first moment. -/
theorem point_m (c : Dev nD) (t : Fin cfg0.N) (y) : k0_pay1 (iblk m c 0 t) (iblk m c 2 t) y
    = val_main_v4 (F := Ideal) (m ((c : Thread nD τ).loc main_arg0)) (m ((c : Thread nD τ).loc main_arg2))
        (((cfg0.win 6).blk t).view.emb y) := by
  rw [val_main_v4_apply, val_main_v3_apply, val_main_v2_apply, val_main_cst_0_apply, val_main_v1_apply, val_main_v0_apply, val_main_cst_apply]
  pointwise [k0_pay1]
  blk_point [iblk, V, idx t]

/-- After the run the array of window 6 is the reference's. -/
theorem final_m (c : Dev nD) : (dats m 0 c).arrAt 6 (cfgs 0).N
    = Cert.AdamwConvRefIdeal.Read.val_main_v4 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  exact point_m m c t y

open Cert.AdamwConvRefIdeal.Read in
/-- One element of the second moment. -/
theorem point_v (c : Dev nD) (t : Fin cfg0.N) (y) : k0_pay2 (iblk m c 0 t) (iblk m c 3 t) y
    = val_main_v10 (F := Ideal) (m ((c : Thread nD τ).loc main_arg0)) (m ((c : Thread nD τ).loc main_arg3))
        (((cfg0.win 7).blk t).view.emb y) := by
  rw [val_main_v10_apply, val_main_v9_apply, val_main_v8_apply, val_main_cst_2_apply, val_main_v7_apply, val_main_v6_apply, val_main_v5_apply, val_main_cst_1_apply]
  pointwise [k0_pay2]
  blk_point [iblk, V, idx t]

/-- After the run the array of window 7 is the reference's. -/
theorem final_v (c : Dev nD) : (dats m 0 c).arrAt 7 (cfgs 0).N
    = Cert.AdamwConvRefIdeal.Read.val_main_v10 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  exact point_v m c t y

/-- The first array is the gradient, as given. -/
theorem final_grad (c : Dev nD) : (dats m 0 c).arrAt 4 (cfgs 0).N = m ((c : Thread nD τ).loc main_arg0) :=
  final4 m c

end Cert.AdamwConvIdeal.Value

end
-- ==== Proof.AdamwSmallValue.lean ====
/- The sum of the devices' gradients, and one AdamW step with it. -/
module

public import proofs.«01_k».proof.Proof.Gen.AdamwSmallIdeal.Value
public import proofs.«01_k».proof.Proof.Gen.AdamwSmallRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwSmallIdeal.Value
open Cert.AdamwSmallIdeal Cert.AdamwSmallIdeal.Gen

variable (m : (ℓ : Loc nD τ sig) → Buf (Elt Ideal) ℓ)

/-- Which block each window holds at each grid point. -/
theorem idx : ∀ t : Fin cfg0.N, win0_0.index t = ![0, t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- The eight devices' gradients, added one by one, are their sum. -/
theorem sum_eight {x0 x1 x2 x3 x4 x5 x6 x7 : EReal} {f : Fin 8 → EReal} (h0 : x0 = f 0) (h1 : x1 = f 1) (h2 : x2 = f 2)
    (h3 : x3 = f 3) (h4 : x4 = f 4) (h5 : x5 = f 5) (h6 : x6 = f 6) (h7 : x7 = f 7) :
    x0 + x1 + x2 + x3 + x4 + x5 + x6 + x7 = ∑ k, f k := by
  subst h0 h1 h2 h3 h4 h5 h6 h7
  rw [Fin.sum_univ_eight]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwSmallRefIdeal.Read in
/-- One element of the summed gradient. -/
theorem point_grad (c : Dev nD) (t : Fin cfg0.N) (y) : k0_pay2 (iblk m c 0 t) y
    = val_main_v0 (F := Ideal) (m ((c : Thread nD τ).loc main_arg0))
        (((cfg0.win 4).blk t).view.emb y) := by
  rw [val_main_v0_apply, val_main_cst_apply]
  pointwise [k0_pay1, k0_pay2, k0_pay3, k0_pay4, k0_pay5, k0_pay6]
  refine sum_eight ?_ ?_ ?_ ?_ ?_ ?_ ?_ ?_ <;> blk_point [iblk, V, idx t]

/-- After the run the array of window 4 is the reference's. -/
theorem final_grad (c : Dev nD) : (dats m 0 c).arrAt 4 (cfgs 0).N
    = Cert.AdamwSmallRefIdeal.Read.val_main_v0 (F := Ideal) (m ((c : Thread nD τ).loc main_arg0)) := by
  refine (dats m 0 c).arrAt_eq_of_covers 4 _ (by decide +kernel) fun t _ y => ?_
  blk_simp
  rw [after0_4]; frame_out
  exact point_grad m c t y

open Cert.AdamwSmallRefIdeal.Read in
/-- One element of the update. -/
theorem point_delta (c : Dev nD) (t : Fin cfg0.N) (y) : k0_pay1 (iblk m c 1 t) (k0_pay5 (iblk m c 0 t) (iblk m c 2 t)) (k0_pay6 (iblk m c 0 t) (iblk m c 3 t)) (Scalar.ofBits .f32 0x322BCC77#32) y
    = val_main_v24 (F := Ideal) (m ((c : Thread nD τ).loc main_arg0)) (m ((c : Thread nD τ).loc main_arg1)) (m ((c : Thread nD τ).loc main_arg2)) (m ((c : Thread nD τ).loc main_arg3))
        (((cfg0.win 5).blk t).view.emb y) := by
  rw [val_main_v24_apply, val_main_v23_apply, val_main_cst_8_apply, val_main_v22_apply, val_main_v21_apply, val_main_v20_apply, val_main_cst_7_apply, val_main_v19_apply, val_main_v18_apply, val_main_v17_apply, val_main_cst_6_apply, val_main_v16_apply, val_main_v15_apply, val_main_v14_apply, val_main_cst_5_apply, val_main_v13_apply, val_main_v12_apply, val_main_cst_4_apply, val_main_v11_apply, val_main_v10_apply, val_main_v9_apply, val_main_cst_3_apply, val_main_v8_apply, val_main_v7_apply, val_main_v6_apply, val_main_cst_2_apply, val_main_v5_apply, val_main_v4_apply, val_main_v3_apply, val_main_cst_1_apply, val_main_v2_apply, val_main_v1_apply, val_main_cst_0_apply, val_main_v0_apply, val_main_cst_apply]
  pointwise [k0_pay1, k0_pay2, k0_pay3, k0_pay4, k0_pay5, k0_pay6]
  refine update_eq (first_eq ?_ ?_) (second_eq ?_ ?_) ?_
  · blk_point [iblk, V, idx t]
  · refine sum_eight ?_ ?_ ?_ ?_ ?_ ?_ ?_ ?_ <;> blk_point [iblk, V, idx t]
  · blk_point [iblk, V, idx t]
  · refine sum_eight ?_ ?_ ?_ ?_ ?_ ?_ ?_ ?_ <;> blk_point [iblk, V, idx t]
  · blk_point [iblk, V, idx t]

/-- After the run the array of window 5 is the reference's. -/
theorem final_delta (c : Dev nD) : (dats m 0 c).arrAt 5 (cfgs 0).N
    = Cert.AdamwSmallRefIdeal.Read.val_main_v24 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point_delta m c t y

open Cert.AdamwSmallRefIdeal.Read in
/-- One element of the first moment. -/
theorem point_m (c : Dev nD) (t : Fin cfg0.N) (y) : k0_pay3 (iblk m c 0 t) (iblk m c 2 t) y
    = val_main_v5 (F := Ideal) (m ((c : Thread nD τ).loc main_arg0)) (m ((c : Thread nD τ).loc main_arg2))
        (((cfg0.win 6).blk t).view.emb y) := by
  rw [val_main_v5_apply, val_main_v4_apply, val_main_v3_apply, val_main_cst_1_apply, val_main_v2_apply, val_main_v1_apply, val_main_cst_0_apply, val_main_v0_apply, val_main_cst_apply]
  pointwise [k0_pay1, k0_pay2, k0_pay3, k0_pay4, k0_pay5, k0_pay6]
  refine first_eq ?_ ?_
  · blk_point [iblk, V, idx t]
  · refine sum_eight ?_ ?_ ?_ ?_ ?_ ?_ ?_ ?_ <;> blk_point [iblk, V, idx t]

/-- After the run the array of window 6 is the reference's. -/
theorem final_m (c : Dev nD) : (dats m 0 c).arrAt 6 (cfgs 0).N
    = Cert.AdamwSmallRefIdeal.Read.val_main_v5 (F := Ideal) (m ((c : Thread nD τ).loc main_arg0)) (m ((c : Thread nD τ).loc main_arg2)) := by
  refine (dats m 0 c).arrAt_eq_of_covers 6 _ (by decide +kernel) fun t _ y => ?_
  blk_simp
  rw [after0_6]; frame_out
  exact point_m m c t y

open Cert.AdamwSmallRefIdeal.Read in
/-- One element of the second moment. -/
theorem point_v (c : Dev nD) (t : Fin cfg0.N) (y) : k0_pay4 (iblk m c 0 t) (iblk m c 3 t) y
    = val_main_v11 (F := Ideal) (m ((c : Thread nD τ).loc main_arg0)) (m ((c : Thread nD τ).loc main_arg3))
        (((cfg0.win 7).blk t).view.emb y) := by
  rw [val_main_v11_apply, val_main_v10_apply, val_main_v9_apply, val_main_cst_3_apply, val_main_v8_apply, val_main_v7_apply, val_main_v6_apply, val_main_cst_2_apply, val_main_v0_apply, val_main_cst_apply]
  pointwise [k0_pay1, k0_pay2, k0_pay3, k0_pay4, k0_pay5, k0_pay6]
  refine second_eq ?_ ?_
  · blk_point [iblk, V, idx t]
  · refine sum_eight ?_ ?_ ?_ ?_ ?_ ?_ ?_ ?_ <;> blk_point [iblk, V, idx t]

/-- After the run the array of window 7 is the reference's. -/
theorem final_v (c : Dev nD) : (dats m 0 c).arrAt 7 (cfgs 0).N
    = Cert.AdamwSmallRefIdeal.Read.val_main_v11 (F := Ideal) (m ((c : Thread nD τ).loc main_arg0)) (m ((c : Thread nD τ).loc main_arg3)) := by
  refine (dats m 0 c).arrAt_eq_of_covers 7 _ (by decide +kernel) fun t _ y => ?_
  blk_simp
  rw [after0_7]; frame_out
  exact point_v m c t y

end Cert.AdamwSmallIdeal.Value

end
-- ==== Proof.AdamwFfnValue.lean ====
/- The last step of a split reduction of the gradient of a feed-forward weight, and one AdamW step with it. -/
module

public import proofs.«01_k».proof.Proof.Gen.AdamwFfn.Frame
public import proofs.«01_k».proof.Proof.Gen.AdamwFfnIdeal.Frame
public import proofs.«01_k».proof.Proof.Gen.AdamwFfnRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwFfn.Value
open Cert.AdamwFfn Cert.AdamwFfn.Gen

variable (m : (ℓ : Loc nD τ sig) → Buf (Elt Bits) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x344x512.size a
      ≤ S4x688x2048.size a := by
  decide +kernel

/-- Each block of the first window lies in its array. -/
theorem ok : Ok m := fun i => by
  refine ⟨fun a => ?_, .inr (Affine.block_words_dvd (of_decide_eq_true rfl) (by decide))⟩
  rw [transform_zero]
  exact block_in i a

end Cert.AdamwFfn.Value

namespace Cert.AdamwFfnIdeal.Value
open Cert.AdamwFfnIdeal Cert.AdamwFfnIdeal.Gen

variable (m : (ℓ : Loc nD τ sig) → Buf (Elt Ideal) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x344x512.size a
      ≤ S4x688x2048.size a := by
  decide +kernel

/-- Each block of the first window lies in its array. -/
theorem ok : Ok m := fun i => by
  refine ⟨fun a => ?_, .inr (Affine.block_words_dvd (of_decide_eq_true rfl) (by decide))⟩
  rw [transform_zero]
  exact block_in i a

/-- Which block a window holds at each grid point. -/
theorem idx : ∀ t : Fin grid0.N, (BitVec.ofNat 32 (grid0.coords t 0).val).toNat = t.val / 4
    ∧ (BitVec.ofNat 32 (grid0.coords t 1).val).toNat = t.val % 4 := by
  decide +kernel

/-- The first window's block at a point is rows and columns of its array. -/
theorem block0 (c : Dev nD) (t : Fin (cfgM m (ok m)).N) (y : S1x344x512.Idx) (I : S4x688x2048.Idx) (e0 : (I 0).val = 0)
    (e1 : (I 1).val = t.val / 4 * 344 + (y 1).val) (e2 : (I 2).val = t.val % 4 * 512 + (y 2).val) :
    iblk m (ok m) c 0 t y = m ((c : Thread nD τ).loc main_arg0) I := by
  show V m c main_arg0 ((((cfgM m (ok m)).win 0).rect t).emb y) = _
  rw [V_main_arg0]
  refine congrArg (m ((c : Thread nD τ).loc main_arg0)) (funext fun a => Fin.ext ?_)
  rw [Pipeline.Window.rect_emb_val _ t y a rfl]
  have h : ((cfgM m (ok m)).win 0).index t = _ := transform_zero m (grid0.coords t)
  rw [h, (idx t).1, (idx t).2]
  have hy : (y 0).val < 1 := (y 0).isLt
  match a with
  | ⟨0, _⟩ => show 0 * 1 + (y 0).val = (I 0).val; omega
  | ⟨1, _⟩ => exact e1.symm
  | ⟨2, _⟩ => exact e2.symm

/-- The second window's. -/
theorem block1 (c : Dev nD) (t : Fin (cfgM m (ok m)).N) (y : S3x344x512.Idx) (I : S3x688x2048.Idx) (e0 : (I 0).val = (y 0).val)
    (e1 : (I 1).val = t.val / 4 * 344 + (y 1).val) (e2 : (I 2).val = t.val % 4 * 512 + (y 2).val) :
    iblk m (ok m) c 1 t y = m ((c : Thread nD τ).loc main_arg1) I := by
  show V m c main_arg1 ((((cfgM m (ok m)).win 1).rect t).emb y) = _
  rw [V_main_arg1]
  refine congrArg (m ((c : Thread nD τ).loc main_arg1)) (funext fun a => Fin.ext ?_)
  rw [Pipeline.Window.rect_emb_val _ t y a rfl]
  have h : ((cfgM m (ok m)).win 1).index t = ![0, (BitVec.ofNat 32 (grid0.coords t 0).val).toNat, (BitVec.ofNat 32 (grid0.coords t 1).val).toNat] := rfl
  rw [h, (idx t).1, (idx t).2]
  match a with
  | ⟨0, _⟩ => show 0 * 3 + (y 0).val = (I 0).val; omega
  | ⟨1, _⟩ => exact e1.symm
  | ⟨2, _⟩ => exact e2.symm

/-- Window 2's. -/
theorem block2 (c : Dev nD) (t : Fin (cfgM m (ok m)).N) (y : S344x512.Idx) (I : S688x2048.Idx)
    (e0 : (I 0).val = t.val / 4 * 344 + (y 0).val) (e1 : (I 1).val = t.val % 4 * 512 + (y 1).val) :
    iblk m (ok m) c 2 t y = m ((c : Thread nD τ).loc main_arg2) I := by
  show V m c main_arg2 ((((cfgM m (ok m)).win 2).rect t).emb y) = _
  rw [V_main_arg2]
  refine congrArg (m ((c : Thread nD τ).loc main_arg2)) (funext fun a => Fin.ext ?_)
  rw [Pipeline.Window.rect_emb_val _ t y a rfl]
  have h : ((cfgM m (ok m)).win 2).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 3's. -/
theorem block3 (c : Dev nD) (t : Fin (cfgM m (ok m)).N) (y : S344x512.Idx) (I : S688x2048.Idx)
    (e0 : (I 0).val = t.val / 4 * 344 + (y 0).val) (e1 : (I 1).val = t.val % 4 * 512 + (y 1).val) :
    iblk m (ok m) c 3 t y = m ((c : Thread nD τ).loc main_arg3) I := by
  show V m c main_arg3 ((((cfgM m (ok m)).win 3).rect t).emb y) = _
  rw [V_main_arg3]
  refine congrArg (m ((c : Thread nD τ).loc main_arg3)) (funext fun a => Fin.ext ?_)
  rw [Pipeline.Window.rect_emb_val _ t y a rfl]
  have h : ((cfgM m (ok m)).win 3).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 4's. -/
theorem block4 (c : Dev nD) (t : Fin (cfgM m (ok m)).N) (y : S344x512.Idx) (I : S688x2048.Idx)
    (e0 : (I 0).val = t.val / 4 * 344 + (y 0).val) (e1 : (I 1).val = t.val % 4 * 512 + (y 1).val) :
    iblk m (ok m) c 4 t y = m ((c : Thread nD τ).loc main_arg4) I := by
  show V m c main_arg4 ((((cfgM m (ok m)).win 4).rect t).emb y) = _
  rw [V_main_arg4]
  refine congrArg (m ((c : Thread nD τ).loc main_arg4)) (funext fun a => Fin.ext ?_)
  rw [Pipeline.Window.rect_emb_val _ t y a rfl]
  have h : ((cfgM m (ok m)).win 4).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Own partial sum and the three received ones, added one by one, are their sum. -/
theorem sum_four {s s' x0 x1 x2 : EReal} {f : Fin 3 → EReal} (h : s = s') (h0 : x0 = f 0) (h1 : x1 = f 1) (h2 : x2 = f 2) :
    s + x0 + x1 + x2 = s' + ∑ k, f k := by
  subst h h0 h1 h2
  rw [Fin.sum_univ_three, add_assoc, add_assoc, add_assoc]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwFfnRefIdeal.Read in
/-- The row of the first partial sum that the reference reads. -/
theorem row_eq (I : S688x2048.Idx) : (idx_main_v0 (idx_main_v1 I) (1 : Fin 3)).val = (I 0).val := by
  have i0 : (I 0).val < 688 := (I 0).isLt
  have i1 : (I 1).val < 2048 := (I 1).isLt
  show ((I 0).val * 2048 + (I 1).val) / 2048 % 688 = (I 0).val
  omega

open Cert.AdamwFfnRefIdeal.Read in
/-- Its column. -/
theorem col_eq (I : S688x2048.Idx) : (idx_main_v0 (idx_main_v1 I) (2 : Fin 3)).val = (I 1).val := by
  have i0 : (I 0).val < 688 := (I 0).isLt
  have i1 : (I 1).val < 2048 := (I 1).isLt
  show ((I 0).val * 2048 + (I 1).val) % 2048 = (I 1).val
  omega

/-- What the body leaves in window 5's block at a point, of the blocks of its inputs. -/
theorem left5 (hO : Ok m) (c : Dev nD) (t : Fin (cfgM m hO).N) : (dats m hO 0 c).after 5 t
    = k0_pay2 (iblk m hO c 0 t) (View.ld (iblk m hO c 1 t) (Rect.unit ![0, 0, 0] ![1, 344, 512] inb_S3x344x512_S1x344x512_0_0_0)) (View.ld (iblk m hO c 1 t) (Rect.unit ![1, 0, 0] ![1, 344, 512] inb_S3x344x512_S1x344x512_1_0_0)) (View.ld (iblk m hO c 1 t) (Rect.unit ![2, 0, 0] ![1, 344, 512] inb_S3x344x512_S1x344x512_2_0_0)) := by
  rw [after0_5]; unfold outsAt0
  frame_out
  have r0 := (hs0_0 m hO t).read_unread (iblk m hO c 0 t)
  have r1 := (hs0_1 m hO t).read_unread (iblk m hO c 1 t)
  rw [r0, r1]
  rfl

/-- What the body leaves in window 6's block at a point, of the blocks of its inputs. -/
theorem left6 (hO : Ok m) (c : Dev nD) (t : Fin (cfgM m hO).N) : (dats m hO 0 c).after 6 t
    = k0_pay1 (iblk m hO c 2 t) (k0_pay5 (iblk m hO c 0 t) (View.ld (iblk m hO c 1 t) (Rect.unit ![0, 0, 0] ![1, 344, 512] inb_S3x344x512_S1x344x512_0_0_0)) (View.ld (iblk m hO c 1 t) (Rect.unit ![1, 0, 0] ![1, 344, 512] inb_S3x344x512_S1x344x512_1_0_0)) (View.ld (iblk m hO c 1 t) (Rect.unit ![2, 0, 0] ![1, 344, 512] inb_S3x344x512_S1x344x512_2_0_0)) (iblk m hO c 3 t)) (k0_pay6 (iblk m hO c 0 t) (View.ld (iblk m hO c 1 t) (Rect.unit ![0, 0, 0] ![1, 344, 512] inb_S3x344x512_S1x344x512_0_0_0)) (View.ld (iblk m hO c 1 t) (Rect.unit ![1, 0, 0] ![1, 344, 512] inb_S3x344x512_S1x344x512_1_0_0)) (View.ld (iblk m hO c 1 t) (Rect.unit ![2, 0, 0] ![1, 344, 512] inb_S3x344x512_S1x344x512_2_0_0)) (iblk m hO c 4 t)) := by
  rw [after0_6]; unfold outsAt0
  frame_out
  have r0 := (hs0_0 m hO t).read_unread (iblk m hO c 0 t)
  have r1 := (hs0_1 m hO t).read_unread (iblk m hO c 1 t)
  have r2 := (hs0_2 m hO t).read_unread (iblk m hO c 2 t)
  have r3 := (hs0_3 m hO t).read_unread (iblk m hO c 3 t)
  have r4 := (hs0_4 m hO t).read_unread (iblk m hO c 4 t)
  rw [r0, r1, r2, r3, r4]
  rfl

/-- What the body leaves in window 7's block at a point, of the blocks of its inputs. -/
theorem left7 (hO : Ok m) (c : Dev nD) (t : Fin (cfgM m hO).N) : (dats m hO 0 c).after 7 t
    = k0_pay3 (iblk m hO c 0 t) (View.ld (iblk m hO c 1 t) (Rect.unit ![0, 0, 0] ![1, 344, 512] inb_S3x344x512_S1x344x512_0_0_0)) (View.ld (iblk m hO c 1 t) (Rect.unit ![1, 0, 0] ![1, 344, 512] inb_S3x344x512_S1x344x512_1_0_0)) (View.ld (iblk m hO c 1 t) (Rect.unit ![2, 0, 0] ![1, 344, 512] inb_S3x344x512_S1x344x512_2_0_0)) (iblk m hO c 3 t) := by
  rw [after0_7]; unfold outsAt0
  frame_out
  have r0 := (hs0_0 m hO t).read_unread (iblk m hO c 0 t)
  have r1 := (hs0_1 m hO t).read_unread (iblk m hO c 1 t)
  have r3 := (hs0_3 m hO t).read_unread (iblk m hO c 3 t)
  rw [r0, r1, r3]
  rfl

/-- What the body leaves in window 8's block at a point, of the blocks of its inputs. -/
theorem left8 (hO : Ok m) (c : Dev nD) (t : Fin (cfgM m hO).N) : (dats m hO 0 c).after 8 t
    = k0_pay4 (iblk m hO c 0 t) (View.ld (iblk m hO c 1 t) (Rect.unit ![0, 0, 0] ![1, 344, 512] inb_S3x344x512_S1x344x512_0_0_0)) (View.ld (iblk m hO c 1 t) (Rect.unit ![1, 0, 0] ![1, 344, 512] inb_S3x344x512_S1x344x512_1_0_0)) (View.ld (iblk m hO c 1 t) (Rect.unit ![2, 0, 0] ![1, 344, 512] inb_S3x344x512_S1x344x512_2_0_0)) (iblk m hO c 4 t) := by
  rw [after0_8]; unfold outsAt0
  frame_out
  have r0 := (hs0_0 m hO t).read_unread (iblk m hO c 0 t)
  have r1 := (hs0_1 m hO t).read_unread (iblk m hO c 1 t)
  have r4 := (hs0_4 m hO t).read_unread (iblk m hO c 4 t)
  rw [r0, r1, r4]
  rfl

open Cert.AdamwFfnRefIdeal.Read in
/-- One element of the summed gradient, of blocks that lie at row `a` and column `b` of their arrays. -/
theorem point_grad (x0 : Vec Ideal S1x344x512 .bf16) (A0 : Vec Ideal S4x688x2048 .bf16) (x1 : Vec Ideal S3x344x512 .bf16) (A1 : Vec Ideal S3x688x2048 .bf16) (a b : ℕ)
    (h0 : ∀ (y : S1x344x512.Idx) (I : S4x688x2048.Idx), (I 0).val = 0 → (I 1).val = a + (y 1).val → (I 2).val = b + (y 2).val → x0 y = A0 I)
    (h1 : ∀ (y : S3x344x512.Idx) (I : S3x688x2048.Idx), (I 0).val = (y 0).val → (I 1).val = a + (y 1).val → (I 2).val = b + (y 2).val → x1 y = A1 I)
    (y : S344x512.Idx) (I : S688x2048.Idx) (e0 : (I 0).val = a + (y 0).val) (e1 : (I 1).val = b + (y 1).val) :
    k0_pay2 x0 (View.ld x1 (Rect.unit ![0, 0, 0] ![1, 344, 512] inb_S3x344x512_S1x344x512_0_0_0)) (View.ld x1 (Rect.unit ![1, 0, 0] ![1, 344, 512] inb_S3x344x512_S1x344x512_1_0_0)) (View.ld x1 (Rect.unit ![2, 0, 0] ![1, 344, 512] inb_S3x344x512_S1x344x512_2_0_0)) y
      = val_main_v5 (F := Ideal) A0 A1 I := by
  rw [val_main_v5_apply, val_main_v4_apply, val_main_cst_apply, val_main_v2_apply, val_main_v1_apply, val_main_v0_apply]
  pointwise [k0_pay1, k0_pay2, k0_pay3, k0_pay4, k0_pay5, k0_pay6]
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 5 is the reference's. -/
theorem final_grad (c : Dev nD) : (dats m (ok m) 0 c).arrAt 5 (cfgM m (ok m)).N
    = Cert.AdamwFfnRefIdeal.Read.val_main_v5 (F := Ideal) (m ((c : Thread nD τ).loc main_arg0)) (m ((c : Thread nD τ).loc main_arg1)) := by
  refine (dats m (ok m) 0 c).arrAt_eq_of_covers 5 _ ⟨?_, fun β => ?_⟩ fun t _ (y : S344x512.Idx) => ?_
  · exact (by decide : ∀ a : Fin 2, 0 < S344x512.size a)
  · have b0 : (β (0 : Fin 2)).val < 2 := lt_of_lt_of_eq (β (0 : Fin 2)).isLt (by show (688 + 344 - 1) / 344 = 2; rfl)
    have b1 : (β (1 : Fin 2)).val < 4 := lt_of_lt_of_eq (β (1 : Fin 2)).isLt (by show (2048 + 512 - 1) / 512 = 4; rfl)
    have hN : (β (0 : Fin 2)).val * 4 + (β (1 : Fin 2)).val < 8 := by omega
    refine ⟨(⟨(β (0 : Fin 2)).val * 4 + (β (1 : Fin 2)).val, hN⟩ : Fin 8), flush0_5 _ _, fun a => ⟨?_, .inl rfl⟩⟩
    have h := idx (⟨(β (0 : Fin 2)).val * 4 + (β (1 : Fin 2)).val, hN⟩ : Fin 8)
    match a with
    | ⟨0, _⟩ => exact h.1.trans (by show ((β (0 : Fin 2)).val * 4 + (β (1 : Fin 2)).val) / 4 = (β (0 : Fin 2)).val; omega)
    | ⟨1, _⟩ => exact h.2.trans (by show ((β (0 : Fin 2)).val * 4 + (β (1 : Fin 2)).val) % 4 = (β (1 : Fin 2)).val; omega)
  · have h0 : ((((cfgM m (ok m)).win 5).rect t).emb y (0 : Fin 2) : Nat) = t.val / 4 * 344 + (y 0).val :=
      (Pipeline.Window.rect_emb_val ((cfgM m (ok m)).win 5) t y (0 : Fin 2) rfl).trans (congrArg (· * 344 + (y 0).val) (idx t).1)
    have h1 : ((((cfgM m (ok m)).win 5).rect t).emb y (1 : Fin 2) : Nat) = t.val % 4 * 512 + (y 1).val :=
      (Pipeline.Window.rect_emb_val ((cfgM m (ok m)).win 5) t y (1 : Fin 2) rfl).trans (congrArg (· * 512 + (y 1).val) (idx t).2)
    have e := left5 m (ok m) c t
    generalize (dats m (ok m) 0 c).after 5 t = o at e ⊢
    refine Eq.trans (b := o y) rfl ?_
    refine (congrFun e y).trans ?_
    exact (point_grad _ _ _ _ (t.val / 4 * 344) (t.val % 4 * 512) (block0 m c t) (block1 m c t) y _ h0 h1)

open Cert.AdamwFfnRefIdeal.Read in
/-- One element of the update, of blocks that lie at row `a` and column `b` of their arrays. -/
theorem point_delta (x0 : Vec Ideal S1x344x512 .bf16) (A0 : Vec Ideal S4x688x2048 .bf16) (x1 : Vec Ideal S3x344x512 .bf16) (A1 : Vec Ideal S3x688x2048 .bf16) (x2 : Vec Ideal S344x512 .f32) (A2 : Vec Ideal S688x2048 .f32) (x3 : Vec Ideal S344x512 .f32) (A3 : Vec Ideal S688x2048 .f32) (x4 : Vec Ideal S344x512 .f32) (A4 : Vec Ideal S688x2048 .f32) (a b : ℕ)
    (h0 : ∀ (y : S1x344x512.Idx) (I : S4x688x2048.Idx), (I 0).val = 0 → (I 1).val = a + (y 1).val → (I 2).val = b + (y 2).val → x0 y = A0 I)
    (h1 : ∀ (y : S3x344x512.Idx) (I : S3x688x2048.Idx), (I 0).val = (y 0).val → (I 1).val = a + (y 1).val → (I 2).val = b + (y 2).val → x1 y = A1 I)
    (h2 : ∀ (y : S344x512.Idx) (I : S688x2048.Idx), (I 0).val = a + (y 0).val → (I 1).val = b + (y 1).val → x2 y = A2 I)
    (h3 : ∀ (y : S344x512.Idx) (I : S688x2048.Idx), (I 0).val = a + (y 0).val → (I 1).val = b + (y 1).val → x3 y = A3 I)
    (h4 : ∀ (y : S344x512.Idx) (I : S688x2048.Idx), (I 0).val = a + (y 0).val → (I 1).val = b + (y 1).val → x4 y = A4 I)
    (y : S344x512.Idx) (I : S688x2048.Idx) (e0 : (I 0).val = a + (y 0).val) (e1 : (I 1).val = b + (y 1).val) :
    k0_pay1 x2 (k0_pay5 x0 (View.ld x1 (Rect.unit ![0, 0, 0] ![1, 344, 512] inb_S3x344x512_S1x344x512_0_0_0)) (View.ld x1 (Rect.unit ![1, 0, 0] ![1, 344, 512] inb_S3x344x512_S1x344x512_1_0_0)) (View.ld x1 (Rect.unit ![2, 0, 0] ![1, 344, 512] inb_S3x344x512_S1x344x512_2_0_0)) x3) (k0_pay6 x0 (View.ld x1 (Rect.unit ![0, 0, 0] ![1, 344, 512] inb_S3x344x512_S1x344x512_0_0_0)) (View.ld x1 (Rect.unit ![1, 0, 0] ![1, 344, 512] inb_S3x344x512_S1x344x512_1_0_0)) (View.ld x1 (Rect.unit ![2, 0, 0] ![1, 344, 512] inb_S3x344x512_S1x344x512_2_0_0)) x4) y
      = val_main_v29 (F := Ideal) A0 A1 A2 A3 A4 I := by
  rw [val_main_v29_apply, val_main_v28_apply, val_main_cst_8_apply, val_main_v27_apply, val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_cst_4_apply, val_main_v16_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine update_eq (first_eq (h3 _ _ e0 e1) ?_) (second_eq (h4 _ _ e0 e1) ?_) (h2 _ _ e0 e1)
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1

/-- After the run the array of window 6 is the reference's. -/
theorem final_delta (c : Dev nD) : (dats m (ok m) 0 c).arrAt 6 (cfgM m (ok m)).N
    = Cert.AdamwFfnRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ ⟨?_, fun β => ?_⟩ fun t _ (y : S344x512.Idx) => ?_
  · exact (by decide : ∀ a : Fin 2, 0 < S344x512.size a)
  · have b0 : (β (0 : Fin 2)).val < 2 := lt_of_lt_of_eq (β (0 : Fin 2)).isLt (by show (688 + 344 - 1) / 344 = 2; rfl)
    have b1 : (β (1 : Fin 2)).val < 4 := lt_of_lt_of_eq (β (1 : Fin 2)).isLt (by show (2048 + 512 - 1) / 512 = 4; rfl)
    have hN : (β (0 : Fin 2)).val * 4 + (β (1 : Fin 2)).val < 8 := by omega
    refine ⟨(⟨(β (0 : Fin 2)).val * 4 + (β (1 : Fin 2)).val, hN⟩ : Fin 8), flush0_6 _ _, fun a => ⟨?_, .inl rfl⟩⟩
    have h := idx (⟨(β (0 : Fin 2)).val * 4 + (β (1 : Fin 2)).val, hN⟩ : Fin 8)
    match a with
    | ⟨0, _⟩ => exact h.1.trans (by show ((β (0 : Fin 2)).val * 4 + (β (1 : Fin 2)).val) / 4 = (β (0 : Fin 2)).val; omega)
    | ⟨1, _⟩ => exact h.2.trans (by show ((β (0 : Fin 2)).val * 4 + (β (1 : Fin 2)).val) % 4 = (β (1 : Fin 2)).val; omega)
  · have h0 : ((((cfgM m (ok m)).win 6).rect t).emb y (0 : Fin 2) : Nat) = t.val / 4 * 344 + (y 0).val :=
      (Pipeline.Window.rect_emb_val ((cfgM m (ok m)).win 6) t y (0 : Fin 2) rfl).trans (congrArg (· * 344 + (y 0).val) (idx t).1)
    have h1 : ((((cfgM m (ok m)).win 6).rect t).emb y (1 : Fin 2) : Nat) = t.val % 4 * 512 + (y 1).val :=
      (Pipeline.Window.rect_emb_val ((cfgM m (ok m)).win 6) t y (1 : Fin 2) rfl).trans (congrArg (· * 512 + (y 1).val) (idx t).2)
    have e := left6 m (ok m) c t
    generalize (dats m (ok m) 0 c).after 6 t = o at e ⊢
    refine Eq.trans (b := o y) rfl ?_
    refine (congrFun e y).trans ?_
    exact (point_delta _ _ _ _ _ _ _ _ _ _ (t.val / 4 * 344) (t.val % 4 * 512) (block0 m c t) (block1 m c t) (block2 m c t) (block3 m c t) (block4 m c t) y _ h0 h1)

open Cert.AdamwFfnRefIdeal.Read in
/-- One element of the first moment, of blocks that lie at row `a` and column `b` of their arrays. -/
theorem point_m (x0 : Vec Ideal S1x344x512 .bf16) (A0 : Vec Ideal S4x688x2048 .bf16) (x1 : Vec Ideal S3x344x512 .bf16) (A1 : Vec Ideal S3x688x2048 .bf16) (x3 : Vec Ideal S344x512 .f32) (A3 : Vec Ideal S688x2048 .f32) (a b : ℕ)
    (h0 : ∀ (y : S1x344x512.Idx) (I : S4x688x2048.Idx), (I 0).val = 0 → (I 1).val = a + (y 1).val → (I 2).val = b + (y 2).val → x0 y = A0 I)
    (h1 : ∀ (y : S3x344x512.Idx) (I : S3x688x2048.Idx), (I 0).val = (y 0).val → (I 1).val = a + (y 1).val → (I 2).val = b + (y 2).val → x1 y = A1 I)
    (h3 : ∀ (y : S344x512.Idx) (I : S688x2048.Idx), (I 0).val = a + (y 0).val → (I 1).val = b + (y 1).val → x3 y = A3 I)
    (y : S344x512.Idx) (I : S688x2048.Idx) (e0 : (I 0).val = a + (y 0).val) (e1 : (I 1).val = b + (y 1).val) :
    k0_pay3 x0 (View.ld x1 (Rect.unit ![0, 0, 0] ![1, 344, 512] inb_S3x344x512_S1x344x512_0_0_0)) (View.ld x1 (Rect.unit ![1, 0, 0] ![1, 344, 512] inb_S3x344x512_S1x344x512_1_0_0)) (View.ld x1 (Rect.unit ![2, 0, 0] ![1, 344, 512] inb_S3x344x512_S1x344x512_2_0_0)) x3 y
      = val_main_v10 (F := Ideal) A0 A1 A3 I := by
  rw [val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine first_eq (h3 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 7 is the reference's. -/
theorem final_m (c : Dev nD) : (dats m (ok m) 0 c).arrAt 7 (cfgM m (ok m)).N
    = Cert.AdamwFfnRefIdeal.Read.val_main_v10 (F := Ideal) (m ((c : Thread nD τ).loc main_arg0)) (m ((c : Thread nD τ).loc main_arg1)) (m ((c : Thread nD τ).loc main_arg3)) := by
  refine (dats m (ok m) 0 c).arrAt_eq_of_covers 7 _ ⟨?_, fun β => ?_⟩ fun t _ (y : S344x512.Idx) => ?_
  · exact (by decide : ∀ a : Fin 2, 0 < S344x512.size a)
  · have b0 : (β (0 : Fin 2)).val < 2 := lt_of_lt_of_eq (β (0 : Fin 2)).isLt (by show (688 + 344 - 1) / 344 = 2; rfl)
    have b1 : (β (1 : Fin 2)).val < 4 := lt_of_lt_of_eq (β (1 : Fin 2)).isLt (by show (2048 + 512 - 1) / 512 = 4; rfl)
    have hN : (β (0 : Fin 2)).val * 4 + (β (1 : Fin 2)).val < 8 := by omega
    refine ⟨(⟨(β (0 : Fin 2)).val * 4 + (β (1 : Fin 2)).val, hN⟩ : Fin 8), flush0_7 _ _, fun a => ⟨?_, .inl rfl⟩⟩
    have h := idx (⟨(β (0 : Fin 2)).val * 4 + (β (1 : Fin 2)).val, hN⟩ : Fin 8)
    match a with
    | ⟨0, _⟩ => exact h.1.trans (by show ((β (0 : Fin 2)).val * 4 + (β (1 : Fin 2)).val) / 4 = (β (0 : Fin 2)).val; omega)
    | ⟨1, _⟩ => exact h.2.trans (by show ((β (0 : Fin 2)).val * 4 + (β (1 : Fin 2)).val) % 4 = (β (1 : Fin 2)).val; omega)
  · have h0 : ((((cfgM m (ok m)).win 7).rect t).emb y (0 : Fin 2) : Nat) = t.val / 4 * 344 + (y 0).val :=
      (Pipeline.Window.rect_emb_val ((cfgM m (ok m)).win 7) t y (0 : Fin 2) rfl).trans (congrArg (· * 344 + (y 0).val) (idx t).1)
    have h1 : ((((cfgM m (ok m)).win 7).rect t).emb y (1 : Fin 2) : Nat) = t.val % 4 * 512 + (y 1).val :=
      (Pipeline.Window.rect_emb_val ((cfgM m (ok m)).win 7) t y (1 : Fin 2) rfl).trans (congrArg (· * 512 + (y 1).val) (idx t).2)
    have e := left7 m (ok m) c t
    generalize (dats m (ok m) 0 c).after 7 t = o at e ⊢
    refine Eq.trans (b := o y) rfl ?_
    refine (congrFun e y).trans ?_
    exact (point_m _ _ _ _ _ _ (t.val / 4 * 344) (t.val % 4 * 512) (block0 m c t) (block1 m c t) (block3 m c t) y _ h0 h1)

open Cert.AdamwFfnRefIdeal.Read in
/-- One element of the second moment, of blocks that lie at row `a` and column `b` of their arrays. -/
theorem point_v (x0 : Vec Ideal S1x344x512 .bf16) (A0 : Vec Ideal S4x688x2048 .bf16) (x1 : Vec Ideal S3x344x512 .bf16) (A1 : Vec Ideal S3x688x2048 .bf16) (x4 : Vec Ideal S344x512 .f32) (A4 : Vec Ideal S688x2048 .f32) (a b : ℕ)
    (h0 : ∀ (y : S1x344x512.Idx) (I : S4x688x2048.Idx), (I 0).val = 0 → (I 1).val = a + (y 1).val → (I 2).val = b + (y 2).val → x0 y = A0 I)
    (h1 : ∀ (y : S3x344x512.Idx) (I : S3x688x2048.Idx), (I 0).val = (y 0).val → (I 1).val = a + (y 1).val → (I 2).val = b + (y 2).val → x1 y = A1 I)
    (h4 : ∀ (y : S344x512.Idx) (I : S688x2048.Idx), (I 0).val = a + (y 0).val → (I 1).val = b + (y 1).val → x4 y = A4 I)
    (y : S344x512.Idx) (I : S688x2048.Idx) (e0 : (I 0).val = a + (y 0).val) (e1 : (I 1).val = b + (y 1).val) :
    k0_pay4 x0 (View.ld x1 (Rect.unit ![0, 0, 0] ![1, 344, 512] inb_S3x344x512_S1x344x512_0_0_0)) (View.ld x1 (Rect.unit ![1, 0, 0] ![1, 344, 512] inb_S3x344x512_S1x344x512_1_0_0)) (View.ld x1 (Rect.unit ![2, 0, 0] ![1, 344, 512] inb_S3x344x512_S1x344x512_2_0_0)) x4 y
      = val_main_v16 (F := Ideal) A0 A1 A4 I := by
  rw [val_main_v16_apply, val_main_v15_apply, val_main_v14_apply, val_main_cst_3_apply, val_main_v13_apply, val_main_v12_apply, val_main_v11_apply, val_main_cst_2_apply, val_main_v5_apply, val_main_v4_apply, val_main_cst_apply, val_main_v2_apply, val_main_v1_apply, val_main_v0_apply]
  pointwise [k0_pay1, k0_pay2, k0_pay3, k0_pay4, k0_pay5, k0_pay6]
  refine second_eq (h4 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 8 is the reference's. -/
theorem final_v (c : Dev nD) : (dats m (ok m) 0 c).arrAt 8 (cfgM m (ok m)).N
    = Cert.AdamwFfnRefIdeal.Read.val_main_v16 (F := Ideal) (m ((c : Thread nD τ).loc main_arg0)) (m ((c : Thread nD τ).loc main_arg1)) (m ((c : Thread nD τ).loc main_arg4)) := by
  refine (dats m (ok m) 0 c).arrAt_eq_of_covers 8 _ ⟨?_, fun β => ?_⟩ fun t _ (y : S344x512.Idx) => ?_
  · exact (by decide : ∀ a : Fin 2, 0 < S344x512.size a)
  · have b0 : (β (0 : Fin 2)).val < 2 := lt_of_lt_of_eq (β (0 : Fin 2)).isLt (by show (688 + 344 - 1) / 344 = 2; rfl)
    have b1 : (β (1 : Fin 2)).val < 4 := lt_of_lt_of_eq (β (1 : Fin 2)).isLt (by show (2048 + 512 - 1) / 512 = 4; rfl)
    have hN : (β (0 : Fin 2)).val * 4 + (β (1 : Fin 2)).val < 8 := by omega
    refine ⟨(⟨(β (0 : Fin 2)).val * 4 + (β (1 : Fin 2)).val, hN⟩ : Fin 8), flush0_8 _ _, fun a => ⟨?_, .inl rfl⟩⟩
    have h := idx (⟨(β (0 : Fin 2)).val * 4 + (β (1 : Fin 2)).val, hN⟩ : Fin 8)
    match a with
    | ⟨0, _⟩ => exact h.1.trans (by show ((β (0 : Fin 2)).val * 4 + (β (1 : Fin 2)).val) / 4 = (β (0 : Fin 2)).val; omega)
    | ⟨1, _⟩ => exact h.2.trans (by show ((β (0 : Fin 2)).val * 4 + (β (1 : Fin 2)).val) % 4 = (β (1 : Fin 2)).val; omega)
  · have h0 : ((((cfgM m (ok m)).win 8).rect t).emb y (0 : Fin 2) : Nat) = t.val / 4 * 344 + (y 0).val :=
      (Pipeline.Window.rect_emb_val ((cfgM m (ok m)).win 8) t y (0 : Fin 2) rfl).trans (congrArg (· * 344 + (y 0).val) (idx t).1)
    have h1 : ((((cfgM m (ok m)).win 8).rect t).emb y (1 : Fin 2) : Nat) = t.val % 4 * 512 + (y 1).val :=
      (Pipeline.Window.rect_emb_val ((cfgM m (ok m)).win 8) t y (1 : Fin 2) rfl).trans (congrArg (· * 512 + (y 1).val) (idx t).2)
    have e := left8 m (ok m) c t
    generalize (dats m (ok m) 0 c).after 8 t = o at e ⊢
    refine Eq.trans (b := o y) rfl ?_
    refine (congrFun e y).trans ?_
    exact (point_v _ _ _ _ _ _ (t.val / 4 * 344) (t.val % 4 * 512) (block0 m c t) (block1 m c t) (block4 m c t) y _ h0 h1)

/-- Every execution ends with the four result arrays at what the blocks leave, and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.AdamwFfnIdeal.Value

end
-- ==== Proof.AdamwInValue.lean ====
/- The last step of a split reduction of the gradient of the input projection, and one AdamW step with it. -/
module

public import proofs.«01_k».proof.Proof.Gen.AdamwIn.Frame
public import proofs.«01_k».proof.Proof.Gen.AdamwInIdeal.Frame
public import proofs.«01_k».proof.Proof.Gen.AdamwInRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwIn.Value
open Cert.AdamwIn Cert.AdamwIn.Gen

variable (m : (ℓ : Loc nD τ sig) → Buf (Elt Bits) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x512x512.size a
      ≤ S4x2048x1024.size a := by
  decide +kernel

/-- Each block of the first window lies in its array. -/
theorem ok : Ok m := fun i => by
  refine ⟨fun a => ?_, .inr (Affine.block_words_dvd (of_decide_eq_true rfl) (by decide))⟩
  rw [transform_zero]
  exact block_in i a

end Cert.AdamwIn.Value

namespace Cert.AdamwInIdeal.Value
open Cert.AdamwInIdeal Cert.AdamwInIdeal.Gen

variable (m : (ℓ : Loc nD τ sig) → Buf (Elt Ideal) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x512x512.size a
      ≤ S4x2048x1024.size a := by
  decide +kernel

/-- Each block of the first window lies in its array. -/
theorem ok : Ok m := fun i => by
  refine ⟨fun a => ?_, .inr (Affine.block_words_dvd (of_decide_eq_true rfl) (by decide))⟩
  rw [transform_zero]
  exact block_in i a

/-- Which block a window holds at each grid point. -/
theorem idx : ∀ t : Fin grid0.N, (BitVec.ofNat 32 (grid0.coords t 0).val).toNat = t.val / 2
    ∧ (BitVec.ofNat 32 (grid0.coords t 1).val).toNat = t.val % 2 := by
  decide +kernel

/-- The first window's block at a point is rows and columns of its array. -/
theorem block0 (c : Dev nD) (t : Fin (cfgM m (ok m)).N) (y : S1x512x512.Idx) (I : S4x2048x1024.Idx) (e0 : (I 0).val = 0)
    (e1 : (I 1).val = t.val / 2 * 512 + (y 1).val) (e2 : (I 2).val = t.val % 2 * 512 + (y 2).val) :
    iblk m (ok m) c 0 t y = m ((c : Thread nD τ).loc main_arg0) I := by
  show V m c main_arg0 ((((cfgM m (ok m)).win 0).rect t).emb y) = _
  rw [V_main_arg0]
  refine congrArg (m ((c : Thread nD τ).loc main_arg0)) (funext fun a => Fin.ext ?_)
  rw [Pipeline.Window.rect_emb_val _ t y a rfl]
  have h : ((cfgM m (ok m)).win 0).index t = _ := transform_zero m (grid0.coords t)
  rw [h, (idx t).1, (idx t).2]
  have hy : (y 0).val < 1 := (y 0).isLt
  match a with
  | ⟨0, _⟩ => show 0 * 1 + (y 0).val = (I 0).val; omega
  | ⟨1, _⟩ => exact e1.symm
  | ⟨2, _⟩ => exact e2.symm

/-- The second window's. -/
theorem block1 (c : Dev nD) (t : Fin (cfgM m (ok m)).N) (y : S3x512x512.Idx) (I : S3x2048x1024.Idx) (e0 : (I 0).val = (y 0).val)
    (e1 : (I 1).val = t.val / 2 * 512 + (y 1).val) (e2 : (I 2).val = t.val % 2 * 512 + (y 2).val) :
    iblk m (ok m) c 1 t y = m ((c : Thread nD τ).loc main_arg1) I := by
  show V m c main_arg1 ((((cfgM m (ok m)).win 1).rect t).emb y) = _
  rw [V_main_arg1]
  refine congrArg (m ((c : Thread nD τ).loc main_arg1)) (funext fun a => Fin.ext ?_)
  rw [Pipeline.Window.rect_emb_val _ t y a rfl]
  have h : ((cfgM m (ok m)).win 1).index t = ![0, (BitVec.ofNat 32 (grid0.coords t 0).val).toNat, (BitVec.ofNat 32 (grid0.coords t 1).val).toNat] := rfl
  rw [h, (idx t).1, (idx t).2]
  match a with
  | ⟨0, _⟩ => show 0 * 3 + (y 0).val = (I 0).val; omega
  | ⟨1, _⟩ => exact e1.symm
  | ⟨2, _⟩ => exact e2.symm

/-- Window 2's. -/
theorem block2 (c : Dev nD) (t : Fin (cfgM m (ok m)).N) (y : S512x512.Idx) (I : S2048x1024.Idx)
    (e0 : (I 0).val = t.val / 2 * 512 + (y 0).val) (e1 : (I 1).val = t.val % 2 * 512 + (y 1).val) :
    iblk m (ok m) c 2 t y = m ((c : Thread nD τ).loc main_arg2) I := by
  show V m c main_arg2 ((((cfgM m (ok m)).win 2).rect t).emb y) = _
  rw [V_main_arg2]
  refine congrArg (m ((c : Thread nD τ).loc main_arg2)) (funext fun a => Fin.ext ?_)
  rw [Pipeline.Window.rect_emb_val _ t y a rfl]
  have h : ((cfgM m (ok m)).win 2).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 3's. -/
theorem block3 (c : Dev nD) (t : Fin (cfgM m (ok m)).N) (y : S512x512.Idx) (I : S2048x1024.Idx)
    (e0 : (I 0).val = t.val / 2 * 512 + (y 0).val) (e1 : (I 1).val = t.val % 2 * 512 + (y 1).val) :
    iblk m (ok m) c 3 t y = m ((c : Thread nD τ).loc main_arg3) I := by
  show V m c main_arg3 ((((cfgM m (ok m)).win 3).rect t).emb y) = _
  rw [V_main_arg3]
  refine congrArg (m ((c : Thread nD τ).loc main_arg3)) (funext fun a => Fin.ext ?_)
  rw [Pipeline.Window.rect_emb_val _ t y a rfl]
  have h : ((cfgM m (ok m)).win 3).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 4's. -/
theorem block4 (c : Dev nD) (t : Fin (cfgM m (ok m)).N) (y : S512x512.Idx) (I : S2048x1024.Idx)
    (e0 : (I 0).val = t.val / 2 * 512 + (y 0).val) (e1 : (I 1).val = t.val % 2 * 512 + (y 1).val) :
    iblk m (ok m) c 4 t y = m ((c : Thread nD τ).loc main_arg4) I := by
  show V m c main_arg4 ((((cfgM m (ok m)).win 4).rect t).emb y) = _
  rw [V_main_arg4]
  refine congrArg (m ((c : Thread nD τ).loc main_arg4)) (funext fun a => Fin.ext ?_)
  rw [Pipeline.Window.rect_emb_val _ t y a rfl]
  have h : ((cfgM m (ok m)).win 4).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Own partial sum and the three received ones, added one by one, are their sum. -/
theorem sum_four {s s' x0 x1 x2 : EReal} {f : Fin 3 → EReal} (h : s = s') (h0 : x0 = f 0) (h1 : x1 = f 1) (h2 : x2 = f 2) :
    s + x0 + x1 + x2 = s' + ∑ k, f k := by
  subst h h0 h1 h2
  rw [Fin.sum_univ_three, add_assoc, add_assoc, add_assoc]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwInRefIdeal.Read in
/-- The row of the first partial sum that the reference reads. -/
theorem row_eq (I : S2048x1024.Idx) : (idx_main_v0 (idx_main_v1 I) (1 : Fin 3)).val = (I 0).val := by
  have i0 : (I 0).val < 2048 := (I 0).isLt
  have i1 : (I 1).val < 1024 := (I 1).isLt
  show ((I 0).val * 1024 + (I 1).val) / 1024 % 2048 = (I 0).val
  omega

open Cert.AdamwInRefIdeal.Read in
/-- Its column. -/
theorem col_eq (I : S2048x1024.Idx) : (idx_main_v0 (idx_main_v1 I) (2 : Fin 3)).val = (I 1).val := by
  have i0 : (I 0).val < 2048 := (I 0).isLt
  have i1 : (I 1).val < 1024 := (I 1).isLt
  show ((I 0).val * 1024 + (I 1).val) % 1024 = (I 1).val
  omega

/-- What the body leaves in window 5's block at a point, of the blocks of its inputs. -/
theorem left5 (hO : Ok m) (c : Dev nD) (t : Fin (cfgM m hO).N) : (dats m hO 0 c).after 5 t
    = k0_pay2 (iblk m hO c 0 t) (View.ld (iblk m hO c 1 t) (Rect.unit ![0, 0, 0] ![1, 512, 512] inb_S3x512x512_S1x512x512_0_0_0)) (View.ld (iblk m hO c 1 t) (Rect.unit ![1, 0, 0] ![1, 512, 512] inb_S3x512x512_S1x512x512_1_0_0)) (View.ld (iblk m hO c 1 t) (Rect.unit ![2, 0, 0] ![1, 512, 512] inb_S3x512x512_S1x512x512_2_0_0)) := by
  rw [after0_5]; unfold outsAt0
  frame_out
  have r0 := (hs0_0 m hO t).read_unread (iblk m hO c 0 t)
  have r1 := (hs0_1 m hO t).read_unread (iblk m hO c 1 t)
  rw [r0, r1]
  rfl

/-- What the body leaves in window 6's block at a point, of the blocks of its inputs. -/
theorem left6 (hO : Ok m) (c : Dev nD) (t : Fin (cfgM m hO).N) : (dats m hO 0 c).after 6 t
    = k0_pay1 (iblk m hO c 2 t) (k0_pay5 (iblk m hO c 0 t) (View.ld (iblk m hO c 1 t) (Rect.unit ![0, 0, 0] ![1, 512, 512] inb_S3x512x512_S1x512x512_0_0_0)) (View.ld (iblk m hO c 1 t) (Rect.unit ![1, 0, 0] ![1, 512, 512] inb_S3x512x512_S1x512x512_1_0_0)) (View.ld (iblk m hO c 1 t) (Rect.unit ![2, 0, 0] ![1, 512, 512] inb_S3x512x512_S1x512x512_2_0_0)) (iblk m hO c 3 t)) (k0_pay6 (iblk m hO c 0 t) (View.ld (iblk m hO c 1 t) (Rect.unit ![0, 0, 0] ![1, 512, 512] inb_S3x512x512_S1x512x512_0_0_0)) (View.ld (iblk m hO c 1 t) (Rect.unit ![1, 0, 0] ![1, 512, 512] inb_S3x512x512_S1x512x512_1_0_0)) (View.ld (iblk m hO c 1 t) (Rect.unit ![2, 0, 0] ![1, 512, 512] inb_S3x512x512_S1x512x512_2_0_0)) (iblk m hO c 4 t)) := by
  rw [after0_6]; unfold outsAt0
  frame_out
  have r0 := (hs0_0 m hO t).read_unread (iblk m hO c 0 t)
  have r1 := (hs0_1 m hO t).read_unread (iblk m hO c 1 t)
  have r2 := (hs0_2 m hO t).read_unread (iblk m hO c 2 t)
  have r3 := (hs0_3 m hO t).read_unread (iblk m hO c 3 t)
  have r4 := (hs0_4 m hO t).read_unread (iblk m hO c 4 t)
  rw [r0, r1, r2, r3, r4]
  rfl

/-- What the body leaves in window 7's block at a point, of the blocks of its inputs. -/
theorem left7 (hO : Ok m) (c : Dev nD) (t : Fin (cfgM m hO).N) : (dats m hO 0 c).after 7 t
    = k0_pay3 (iblk m hO c 0 t) (View.ld (iblk m hO c 1 t) (Rect.unit ![0, 0, 0] ![1, 512, 512] inb_S3x512x512_S1x512x512_0_0_0)) (View.ld (iblk m hO c 1 t) (Rect.unit ![1, 0, 0] ![1, 512, 512] inb_S3x512x512_S1x512x512_1_0_0)) (View.ld (iblk m hO c 1 t) (Rect.unit ![2, 0, 0] ![1, 512, 512] inb_S3x512x512_S1x512x512_2_0_0)) (iblk m hO c 3 t) := by
  rw [after0_7]; unfold outsAt0
  frame_out
  have r0 := (hs0_0 m hO t).read_unread (iblk m hO c 0 t)
  have r1 := (hs0_1 m hO t).read_unread (iblk m hO c 1 t)
  have r3 := (hs0_3 m hO t).read_unread (iblk m hO c 3 t)
  rw [r0, r1, r3]
  rfl

/-- What the body leaves in window 8's block at a point, of the blocks of its inputs. -/
theorem left8 (hO : Ok m) (c : Dev nD) (t : Fin (cfgM m hO).N) : (dats m hO 0 c).after 8 t
    = k0_pay4 (iblk m hO c 0 t) (View.ld (iblk m hO c 1 t) (Rect.unit ![0, 0, 0] ![1, 512, 512] inb_S3x512x512_S1x512x512_0_0_0)) (View.ld (iblk m hO c 1 t) (Rect.unit ![1, 0, 0] ![1, 512, 512] inb_S3x512x512_S1x512x512_1_0_0)) (View.ld (iblk m hO c 1 t) (Rect.unit ![2, 0, 0] ![1, 512, 512] inb_S3x512x512_S1x512x512_2_0_0)) (iblk m hO c 4 t) := by
  rw [after0_8]; unfold outsAt0
  frame_out
  have r0 := (hs0_0 m hO t).read_unread (iblk m hO c 0 t)
  have r1 := (hs0_1 m hO t).read_unread (iblk m hO c 1 t)
  have r4 := (hs0_4 m hO t).read_unread (iblk m hO c 4 t)
  rw [r0, r1, r4]
  rfl

open Cert.AdamwInRefIdeal.Read in
/-- One element of the summed gradient, of blocks that lie at row `a` and column `b` of their arrays. -/
theorem point_grad (x0 : Vec Ideal S1x512x512 .bf16) (A0 : Vec Ideal S4x2048x1024 .bf16) (x1 : Vec Ideal S3x512x512 .bf16) (A1 : Vec Ideal S3x2048x1024 .bf16) (a b : ℕ)
    (h0 : ∀ (y : S1x512x512.Idx) (I : S4x2048x1024.Idx), (I 0).val = 0 → (I 1).val = a + (y 1).val → (I 2).val = b + (y 2).val → x0 y = A0 I)
    (h1 : ∀ (y : S3x512x512.Idx) (I : S3x2048x1024.Idx), (I 0).val = (y 0).val → (I 1).val = a + (y 1).val → (I 2).val = b + (y 2).val → x1 y = A1 I)
    (y : S512x512.Idx) (I : S2048x1024.Idx) (e0 : (I 0).val = a + (y 0).val) (e1 : (I 1).val = b + (y 1).val) :
    k0_pay2 x0 (View.ld x1 (Rect.unit ![0, 0, 0] ![1, 512, 512] inb_S3x512x512_S1x512x512_0_0_0)) (View.ld x1 (Rect.unit ![1, 0, 0] ![1, 512, 512] inb_S3x512x512_S1x512x512_1_0_0)) (View.ld x1 (Rect.unit ![2, 0, 0] ![1, 512, 512] inb_S3x512x512_S1x512x512_2_0_0)) y
      = val_main_v5 (F := Ideal) A0 A1 I := by
  rw [val_main_v5_apply, val_main_v4_apply, val_main_cst_apply, val_main_v2_apply, val_main_v1_apply, val_main_v0_apply]
  pointwise [k0_pay1, k0_pay2, k0_pay3, k0_pay4, k0_pay5, k0_pay6]
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 5 is the reference's. -/
theorem final_grad (c : Dev nD) : (dats m (ok m) 0 c).arrAt 5 (cfgM m (ok m)).N
    = Cert.AdamwInRefIdeal.Read.val_main_v5 (F := Ideal) (m ((c : Thread nD τ).loc main_arg0)) (m ((c : Thread nD τ).loc main_arg1)) := by
  refine (dats m (ok m) 0 c).arrAt_eq_of_covers 5 _ ⟨?_, fun β => ?_⟩ fun t _ (y : S512x512.Idx) => ?_
  · exact (by decide : ∀ a : Fin 2, 0 < S512x512.size a)
  · have b0 : (β (0 : Fin 2)).val < 4 := lt_of_lt_of_eq (β (0 : Fin 2)).isLt (by show (2048 + 512 - 1) / 512 = 4; rfl)
    have b1 : (β (1 : Fin 2)).val < 2 := lt_of_lt_of_eq (β (1 : Fin 2)).isLt (by show (1024 + 512 - 1) / 512 = 2; rfl)
    have hN : (β (0 : Fin 2)).val * 2 + (β (1 : Fin 2)).val < 8 := by omega
    refine ⟨(⟨(β (0 : Fin 2)).val * 2 + (β (1 : Fin 2)).val, hN⟩ : Fin 8), flush0_5 _ _, fun a => ⟨?_, .inl rfl⟩⟩
    have h := idx (⟨(β (0 : Fin 2)).val * 2 + (β (1 : Fin 2)).val, hN⟩ : Fin 8)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 5).rect t).emb y (0 : Fin 2) : Nat) = t.val / 2 * 512 + (y 0).val :=
      (Pipeline.Window.rect_emb_val ((cfgM m (ok m)).win 5) t y (0 : Fin 2) rfl).trans (congrArg (· * 512 + (y 0).val) (idx t).1)
    have h1 : ((((cfgM m (ok m)).win 5).rect t).emb y (1 : Fin 2) : Nat) = t.val % 2 * 512 + (y 1).val :=
      (Pipeline.Window.rect_emb_val ((cfgM m (ok m)).win 5) t y (1 : Fin 2) rfl).trans (congrArg (· * 512 + (y 1).val) (idx t).2)
    have e := left5 m (ok m) c t
    generalize (dats m (ok m) 0 c).after 5 t = o at e ⊢
    refine Eq.trans (b := o y) rfl ?_
    refine (congrFun e y).trans ?_
    exact (point_grad _ _ _ _ (t.val / 2 * 512) (t.val % 2 * 512) (block0 m c t) (block1 m c t) y _ h0 h1)

open Cert.AdamwInRefIdeal.Read in
/-- One element of the update, of blocks that lie at row `a` and column `b` of their arrays. -/
theorem point_delta (x0 : Vec Ideal S1x512x512 .bf16) (A0 : Vec Ideal S4x2048x1024 .bf16) (x1 : Vec Ideal S3x512x512 .bf16) (A1 : Vec Ideal S3x2048x1024 .bf16) (x2 : Vec Ideal S512x512 .f32) (A2 : Vec Ideal S2048x1024 .f32) (x3 : Vec Ideal S512x512 .f32) (A3 : Vec Ideal S2048x1024 .f32) (x4 : Vec Ideal S512x512 .f32) (A4 : Vec Ideal S2048x1024 .f32) (a b : ℕ)
    (h0 : ∀ (y : S1x512x512.Idx) (I : S4x2048x1024.Idx), (I 0).val = 0 → (I 1).val = a + (y 1).val → (I 2).val = b + (y 2).val → x0 y = A0 I)
    (h1 : ∀ (y : S3x512x512.Idx) (I : S3x2048x1024.Idx), (I 0).val = (y 0).val → (I 1).val = a + (y 1).val → (I 2).val = b + (y 2).val → x1 y = A1 I)
    (h2 : ∀ (y : S512x512.Idx) (I : S2048x1024.Idx), (I 0).val = a + (y 0).val → (I 1).val = b + (y 1).val → x2 y = A2 I)
    (h3 : ∀ (y : S512x512.Idx) (I : S2048x1024.Idx), (I 0).val = a + (y 0).val → (I 1).val = b + (y 1).val → x3 y = A3 I)
    (h4 : ∀ (y : S512x512.Idx) (I : S2048x1024.Idx), (I 0).val = a + (y 0).val → (I 1).val = b + (y 1).val → x4 y = A4 I)
    (y : S512x512.Idx) (I : S2048x1024.Idx) (e0 : (I 0).val = a + (y 0).val) (e1 : (I 1).val = b + (y 1).val) :
    k0_pay1 x2 (k0_pay5 x0 (View.ld x1 (Rect.unit ![0, 0, 0] ![1, 512, 512] inb_S3x512x512_S1x512x512_0_0_0)) (View.ld x1 (Rect.unit ![1, 0, 0] ![1, 512, 512] inb_S3x512x512_S1x512x512_1_0_0)) (View.ld x1 (Rect.unit ![2, 0, 0] ![1, 512, 512] inb_S3x512x512_S1x512x512_2_0_0)) x3) (k0_pay6 x0 (View.ld x1 (Rect.unit ![0, 0, 0] ![1, 512, 512] inb_S3x512x512_S1x512x512_0_0_0)) (View.ld x1 (Rect.unit ![1, 0, 0] ![1, 512, 512] inb_S3x512x512_S1x512x512_1_0_0)) (View.ld x1 (Rect.unit ![2, 0, 0] ![1, 512, 512] inb_S3x512x512_S1x512x512_2_0_0)) x4) y
      = val_main_v29 (F := Ideal) A0 A1 A2 A3 A4 I := by
  rw [val_main_v29_apply, val_main_v28_apply, val_main_cst_8_apply, val_main_v27_apply, val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_cst_4_apply, val_main_v16_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine update_eq (first_eq (h3 _ _ e0 e1) ?_) (second_eq (h4 _ _ e0 e1) ?_) (h2 _ _ e0 e1)
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1

/-- After the run the array of window 6 is the reference's. -/
theorem final_delta (c : Dev nD) : (dats m (ok m) 0 c).arrAt 6 (cfgM m (ok m)).N
    = Cert.AdamwInRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ ⟨?_, fun β => ?_⟩ fun t _ (y : S512x512.Idx) => ?_
  · exact (by decide : ∀ a : Fin 2, 0 < S512x512.size a)
  · have b0 : (β (0 : Fin 2)).val < 4 := lt_of_lt_of_eq (β (0 : Fin 2)).isLt (by show (2048 + 512 - 1) / 512 = 4; rfl)
    have b1 : (β (1 : Fin 2)).val < 2 := lt_of_lt_of_eq (β (1 : Fin 2)).isLt (by show (1024 + 512 - 1) / 512 = 2; rfl)
    have hN : (β (0 : Fin 2)).val * 2 + (β (1 : Fin 2)).val < 8 := by omega
    refine ⟨(⟨(β (0 : Fin 2)).val * 2 + (β (1 : Fin 2)).val, hN⟩ : Fin 8), flush0_6 _ _, fun a => ⟨?_, .inl rfl⟩⟩
    have h := idx (⟨(β (0 : Fin 2)).val * 2 + (β (1 : Fin 2)).val, hN⟩ : Fin 8)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 6).rect t).emb y (0 : Fin 2) : Nat) = t.val / 2 * 512 + (y 0).val :=
      (Pipeline.Window.rect_emb_val ((cfgM m (ok m)).win 6) t y (0 : Fin 2) rfl).trans (congrArg (· * 512 + (y 0).val) (idx t).1)
    have h1 : ((((cfgM m (ok m)).win 6).rect t).emb y (1 : Fin 2) : Nat) = t.val % 2 * 512 + (y 1).val :=
      (Pipeline.Window.rect_emb_val ((cfgM m (ok m)).win 6) t y (1 : Fin 2) rfl).trans (congrArg (· * 512 + (y 1).val) (idx t).2)
    have e := left6 m (ok m) c t
    generalize (dats m (ok m) 0 c).after 6 t = o at e ⊢
    refine Eq.trans (b := o y) rfl ?_
    refine (congrFun e y).trans ?_
    exact (point_delta _ _ _ _ _ _ _ _ _ _ (t.val / 2 * 512) (t.val % 2 * 512) (block0 m c t) (block1 m c t) (block2 m c t) (block3 m c t) (block4 m c t) y _ h0 h1)

open Cert.AdamwInRefIdeal.Read in
/-- One element of the first moment, of blocks that lie at row `a` and column `b` of their arrays. -/
theorem point_m (x0 : Vec Ideal S1x512x512 .bf16) (A0 : Vec Ideal S4x2048x1024 .bf16) (x1 : Vec Ideal S3x512x512 .bf16) (A1 : Vec Ideal S3x2048x1024 .bf16) (x3 : Vec Ideal S512x512 .f32) (A3 : Vec Ideal S2048x1024 .f32) (a b : ℕ)
    (h0 : ∀ (y : S1x512x512.Idx) (I : S4x2048x1024.Idx), (I 0).val = 0 → (I 1).val = a + (y 1).val → (I 2).val = b + (y 2).val → x0 y = A0 I)
    (h1 : ∀ (y : S3x512x512.Idx) (I : S3x2048x1024.Idx), (I 0).val = (y 0).val → (I 1).val = a + (y 1).val → (I 2).val = b + (y 2).val → x1 y = A1 I)
    (h3 : ∀ (y : S512x512.Idx) (I : S2048x1024.Idx), (I 0).val = a + (y 0).val → (I 1).val = b + (y 1).val → x3 y = A3 I)
    (y : S512x512.Idx) (I : S2048x1024.Idx) (e0 : (I 0).val = a + (y 0).val) (e1 : (I 1).val = b + (y 1).val) :
    k0_pay3 x0 (View.ld x1 (Rect.unit ![0, 0, 0] ![1, 512, 512] inb_S3x512x512_S1x512x512_0_0_0)) (View.ld x1 (Rect.unit ![1, 0, 0] ![1, 512, 512] inb_S3x512x512_S1x512x512_1_0_0)) (View.ld x1 (Rect.unit ![2, 0, 0] ![1, 512, 512] inb_S3x512x512_S1x512x512_2_0_0)) x3 y
      = val_main_v10 (F := Ideal) A0 A1 A3 I := by
  rw [val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine first_eq (h3 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 7 is the reference's. -/
theorem final_m (c : Dev nD) : (dats m (ok m) 0 c).arrAt 7 (cfgM m (ok m)).N
    = Cert.AdamwInRefIdeal.Read.val_main_v10 (F := Ideal) (m ((c : Thread nD τ).loc main_arg0)) (m ((c : Thread nD τ).loc main_arg1)) (m ((c : Thread nD τ).loc main_arg3)) := by
  refine (dats m (ok m) 0 c).arrAt_eq_of_covers 7 _ ⟨?_, fun β => ?_⟩ fun t _ (y : S512x512.Idx) => ?_
  · exact (by decide : ∀ a : Fin 2, 0 < S512x512.size a)
  · have b0 : (β (0 : Fin 2)).val < 4 := lt_of_lt_of_eq (β (0 : Fin 2)).isLt (by show (2048 + 512 - 1) / 512 = 4; rfl)
    have b1 : (β (1 : Fin 2)).val < 2 := lt_of_lt_of_eq (β (1 : Fin 2)).isLt (by show (1024 + 512 - 1) / 512 = 2; rfl)
    have hN : (β (0 : Fin 2)).val * 2 + (β (1 : Fin 2)).val < 8 := by omega
    refine ⟨(⟨(β (0 : Fin 2)).val * 2 + (β (1 : Fin 2)).val, hN⟩ : Fin 8), flush0_7 _ _, fun a => ⟨?_, .inl rfl⟩⟩
    have h := idx (⟨(β (0 : Fin 2)).val * 2 + (β (1 : Fin 2)).val, hN⟩ : Fin 8)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 7).rect t).emb y (0 : Fin 2) : Nat) = t.val / 2 * 512 + (y 0).val :=
      (Pipeline.Window.rect_emb_val ((cfgM m (ok m)).win 7) t y (0 : Fin 2) rfl).trans (congrArg (· * 512 + (y 0).val) (idx t).1)
    have h1 : ((((cfgM m (ok m)).win 7).rect t).emb y (1 : Fin 2) : Nat) = t.val % 2 * 512 + (y 1).val :=
      (Pipeline.Window.rect_emb_val ((cfgM m (ok m)).win 7) t y (1 : Fin 2) rfl).trans (congrArg (· * 512 + (y 1).val) (idx t).2)
    have e := left7 m (ok m) c t
    generalize (dats m (ok m) 0 c).after 7 t = o at e ⊢
    refine Eq.trans (b := o y) rfl ?_
    refine (congrFun e y).trans ?_
    exact (point_m _ _ _ _ _ _ (t.val / 2 * 512) (t.val % 2 * 512) (block0 m c t) (block1 m c t) (block3 m c t) y _ h0 h1)

open Cert.AdamwInRefIdeal.Read in
/-- One element of the second moment, of blocks that lie at row `a` and column `b` of their arrays. -/
theorem point_v (x0 : Vec Ideal S1x512x512 .bf16) (A0 : Vec Ideal S4x2048x1024 .bf16) (x1 : Vec Ideal S3x512x512 .bf16) (A1 : Vec Ideal S3x2048x1024 .bf16) (x4 : Vec Ideal S512x512 .f32) (A4 : Vec Ideal S2048x1024 .f32) (a b : ℕ)
    (h0 : ∀ (y : S1x512x512.Idx) (I : S4x2048x1024.Idx), (I 0).val = 0 → (I 1).val = a + (y 1).val → (I 2).val = b + (y 2).val → x0 y = A0 I)
    (h1 : ∀ (y : S3x512x512.Idx) (I : S3x2048x1024.Idx), (I 0).val = (y 0).val → (I 1).val = a + (y 1).val → (I 2).val = b + (y 2).val → x1 y = A1 I)
    (h4 : ∀ (y : S512x512.Idx) (I : S2048x1024.Idx), (I 0).val = a + (y 0).val → (I 1).val = b + (y 1).val → x4 y = A4 I)
    (y : S512x512.Idx) (I : S2048x1024.Idx) (e0 : (I 0).val = a + (y 0).val) (e1 : (I 1).val = b + (y 1).val) :
    k0_pay4 x0 (View.ld x1 (Rect.unit ![0, 0, 0] ![1, 512, 512] inb_S3x512x512_S1x512x512_0_0_0)) (View.ld x1 (Rect.unit ![1, 0, 0] ![1, 512, 512] inb_S3x512x512_S1x512x512_1_0_0)) (View.ld x1 (Rect.unit ![2, 0, 0] ![1, 512, 512] inb_S3x512x512_S1x512x512_2_0_0)) x4 y
      = val_main_v16 (F := Ideal) A0 A1 A4 I := by
  rw [val_main_v16_apply, val_main_v15_apply, val_main_v14_apply, val_main_cst_3_apply, val_main_v13_apply, val_main_v12_apply, val_main_v11_apply, val_main_cst_2_apply, val_main_v5_apply, val_main_v4_apply, val_main_cst_apply, val_main_v2_apply, val_main_v1_apply, val_main_v0_apply]
  pointwise [k0_pay1, k0_pay2, k0_pay3, k0_pay4, k0_pay5, k0_pay6]
  refine second_eq (h4 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 8 is the reference's. -/
theorem final_v (c : Dev nD) : (dats m (ok m) 0 c).arrAt 8 (cfgM m (ok m)).N
    = Cert.AdamwInRefIdeal.Read.val_main_v16 (F := Ideal) (m ((c : Thread nD τ).loc main_arg0)) (m ((c : Thread nD τ).loc main_arg1)) (m ((c : Thread nD τ).loc main_arg4)) := by
  refine (dats m (ok m) 0 c).arrAt_eq_of_covers 8 _ ⟨?_, fun β => ?_⟩ fun t _ (y : S512x512.Idx) => ?_
  · exact (by decide : ∀ a : Fin 2, 0 < S512x512.size a)
  · have b0 : (β (0 : Fin 2)).val < 4 := lt_of_lt_of_eq (β (0 : Fin 2)).isLt (by show (2048 + 512 - 1) / 512 = 4; rfl)
    have b1 : (β (1 : Fin 2)).val < 2 := lt_of_lt_of_eq (β (1 : Fin 2)).isLt (by show (1024 + 512 - 1) / 512 = 2; rfl)
    have hN : (β (0 : Fin 2)).val * 2 + (β (1 : Fin 2)).val < 8 := by omega
    refine ⟨(⟨(β (0 : Fin 2)).val * 2 + (β (1 : Fin 2)).val, hN⟩ : Fin 8), flush0_8 _ _, fun a => ⟨?_, .inl rfl⟩⟩
    have h := idx (⟨(β (0 : Fin 2)).val * 2 + (β (1 : Fin 2)).val, hN⟩ : Fin 8)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 8).rect t).emb y (0 : Fin 2) : Nat) = t.val / 2 * 512 + (y 0).val :=
      (Pipeline.Window.rect_emb_val ((cfgM m (ok m)).win 8) t y (0 : Fin 2) rfl).trans (congrArg (· * 512 + (y 0).val) (idx t).1)
    have h1 : ((((cfgM m (ok m)).win 8).rect t).emb y (1 : Fin 2) : Nat) = t.val % 2 * 512 + (y 1).val :=
      (Pipeline.Window.rect_emb_val ((cfgM m (ok m)).win 8) t y (1 : Fin 2) rfl).trans (congrArg (· * 512 + (y 1).val) (idx t).2)
    have e := left8 m (ok m) c t
    generalize (dats m (ok m) 0 c).after 8 t = o at e ⊢
    refine Eq.trans (b := o y) rfl ?_
    refine (congrFun e y).trans ?_
    exact (point_v _ _ _ _ _ _ (t.val / 2 * 512) (t.val % 2 * 512) (block0 m c t) (block1 m c t) (block4 m c t) y _ h0 h1)

/-- Every execution ends with the four result arrays at what the blocks leave, and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.AdamwInIdeal.Value

end
-- ==== Proof.AdamwGluValue.lean ====
/- The last step of a split reduction of the gradient of the gate of the scan's output, and one AdamW step with it. -/
module

public import proofs.«01_k».proof.Proof.Gen.AdamwGlu.Frame
public import proofs.«01_k».proof.Proof.Gen.AdamwGluIdeal.Frame
public import proofs.«01_k».proof.Proof.Gen.AdamwGluRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwGlu.Value
open Cert.AdamwGlu Cert.AdamwGlu.Gen

variable (m : (ℓ : Loc nD τ sig) → Buf (Elt Bits) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x128x1024.size a
      ≤ S4x128x1024.size a := by
  decide +kernel

/-- Each block of the first window lies in its array. -/
theorem ok : Ok m := fun i => by
  refine ⟨fun a => ?_, .inr (Affine.block_words_dvd (of_decide_eq_true rfl) (by decide))⟩
  rw [transform_zero]
  exact block_in i a

end Cert.AdamwGlu.Value

namespace Cert.AdamwGluIdeal.Value
open Cert.AdamwGluIdeal Cert.AdamwGluIdeal.Gen

variable (m : (ℓ : Loc nD τ sig) → Buf (Elt Ideal) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x128x1024.size a
      ≤ S4x128x1024.size a := by
  decide +kernel

/-- Each block of the first window lies in its array. -/
theorem ok : Ok m := fun i => by
  refine ⟨fun a => ?_, .inr (Affine.block_words_dvd (of_decide_eq_true rfl) (by decide))⟩
  rw [transform_zero]
  exact block_in i a

/-- Which block a window holds at each grid point. -/
theorem idx : ∀ t : Fin grid0.N, (BitVec.ofNat 32 (grid0.coords t 0).val).toNat = t.val / 1
    ∧ (BitVec.ofNat 32 (grid0.coords t 1).val).toNat = t.val % 1 := by
  decide +kernel

/-- The first window's block at a point is rows and columns of its array. -/
theorem block0 (c : Dev nD) (t : Fin (cfgM m (ok m)).N) (y : S1x128x1024.Idx) (I : S4x128x1024.Idx) (e0 : (I 0).val = 0)
    (e1 : (I 1).val = t.val / 1 * 128 + (y 1).val) (e2 : (I 2).val = t.val % 1 * 1024 + (y 2).val) :
    iblk m (ok m) c 0 t y = m ((c : Thread nD τ).loc main_arg0) I := by
  show V m c main_arg0 ((((cfgM m (ok m)).win 0).rect t).emb y) = _
  rw [V_main_arg0]
  refine congrArg (m ((c : Thread nD τ).loc main_arg0)) (funext fun a => Fin.ext ?_)
  rw [Pipeline.Window.rect_emb_val _ t y a rfl]
  have h : ((cfgM m (ok m)).win 0).index t = _ := transform_zero m (grid0.coords t)
  rw [h, (idx t).1, (idx t).2]
  have hy : (y 0).val < 1 := (y 0).isLt
  match a with
  | ⟨0, _⟩ => show 0 * 1 + (y 0).val = (I 0).val; omega
  | ⟨1, _⟩ => exact e1.symm
  | ⟨2, _⟩ => exact e2.symm

/-- The second window's. -/
theorem block1 (c : Dev nD) (t : Fin (cfgM m (ok m)).N) (y : S3x128x1024.Idx) (I : S3x128x1024.Idx) (e0 : (I 0).val = (y 0).val)
    (e1 : (I 1).val = t.val / 1 * 128 + (y 1).val) (e2 : (I 2).val = t.val % 1 * 1024 + (y 2).val) :
    iblk m (ok m) c 1 t y = m ((c : Thread nD τ).loc main_arg1) I := by
  show V m c main_arg1 ((((cfgM m (ok m)).win 1).rect t).emb y) = _
  rw [V_main_arg1]
  refine congrArg (m ((c : Thread nD τ).loc main_arg1)) (funext fun a => Fin.ext ?_)
  rw [Pipeline.Window.rect_emb_val _ t y a rfl]
  have h : ((cfgM m (ok m)).win 1).index t = ![0, (BitVec.ofNat 32 (grid0.coords t 0).val).toNat, (BitVec.ofNat 32 (grid0.coords t 1).val).toNat] := rfl
  rw [h, (idx t).1, (idx t).2]
  match a with
  | ⟨0, _⟩ => show 0 * 3 + (y 0).val = (I 0).val; omega
  | ⟨1, _⟩ => exact e1.symm
  | ⟨2, _⟩ => exact e2.symm

/-- Window 2's. -/
theorem block2 (c : Dev nD) (t : Fin (cfgM m (ok m)).N) (y : S128x1024.Idx) (I : S128x1024.Idx)
    (e0 : (I 0).val = t.val / 1 * 128 + (y 0).val) (e1 : (I 1).val = t.val % 1 * 1024 + (y 1).val) :
    iblk m (ok m) c 2 t y = m ((c : Thread nD τ).loc main_arg2) I := by
  show V m c main_arg2 ((((cfgM m (ok m)).win 2).rect t).emb y) = _
  rw [V_main_arg2]
  refine congrArg (m ((c : Thread nD τ).loc main_arg2)) (funext fun a => Fin.ext ?_)
  rw [Pipeline.Window.rect_emb_val _ t y a rfl]
  have h : ((cfgM m (ok m)).win 2).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 3's. -/
theorem block3 (c : Dev nD) (t : Fin (cfgM m (ok m)).N) (y : S128x1024.Idx) (I : S128x1024.Idx)
    (e0 : (I 0).val = t.val / 1 * 128 + (y 0).val) (e1 : (I 1).val = t.val % 1 * 1024 + (y 1).val) :
    iblk m (ok m) c 3 t y = m ((c : Thread nD τ).loc main_arg3) I := by
  show V m c main_arg3 ((((cfgM m (ok m)).win 3).rect t).emb y) = _
  rw [V_main_arg3]
  refine congrArg (m ((c : Thread nD τ).loc main_arg3)) (funext fun a => Fin.ext ?_)
  rw [Pipeline.Window.rect_emb_val _ t y a rfl]
  have h : ((cfgM m (ok m)).win 3).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 4's. -/
theorem block4 (c : Dev nD) (t : Fin (cfgM m (ok m)).N) (y : S128x1024.Idx) (I : S128x1024.Idx)
    (e0 : (I 0).val = t.val / 1 * 128 + (y 0).val) (e1 : (I 1).val = t.val % 1 * 1024 + (y 1).val) :
    iblk m (ok m) c 4 t y = m ((c : Thread nD τ).loc main_arg4) I := by
  show V m c main_arg4 ((((cfgM m (ok m)).win 4).rect t).emb y) = _
  rw [V_main_arg4]
  refine congrArg (m ((c : Thread nD τ).loc main_arg4)) (funext fun a => Fin.ext ?_)
  rw [Pipeline.Window.rect_emb_val _ t y a rfl]
  have h : ((cfgM m (ok m)).win 4).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Own partial sum and the three received ones, added one by one, are their sum. -/
theorem sum_four {s s' x0 x1 x2 : EReal} {f : Fin 3 → EReal} (h : s = s') (h0 : x0 = f 0) (h1 : x1 = f 1) (h2 : x2 = f 2) :
    s + x0 + x1 + x2 = s' + ∑ k, f k := by
  subst h h0 h1 h2
  rw [Fin.sum_univ_three, add_assoc, add_assoc, add_assoc]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwGluRefIdeal.Read in
/-- The row of the first partial sum that the reference reads. -/
theorem row_eq (I : S128x1024.Idx) : (idx_main_v0 (idx_main_v1 I) (1 : Fin 3)).val = (I 0).val := by
  have i0 : (I 0).val < 128 := (I 0).isLt
  have i1 : (I 1).val < 1024 := (I 1).isLt
  show ((I 0).val * 1024 + (I 1).val) / 1024 % 128 = (I 0).val
  omega

open Cert.AdamwGluRefIdeal.Read in
/-- Its column. -/
theorem col_eq (I : S128x1024.Idx) : (idx_main_v0 (idx_main_v1 I) (2 : Fin 3)).val = (I 1).val := by
  have i0 : (I 0).val < 128 := (I 0).isLt
  have i1 : (I 1).val < 1024 := (I 1).isLt
  show ((I 0).val * 1024 + (I 1).val) % 1024 = (I 1).val
  omega

/-- What the body leaves in window 5's block at a point, of the blocks of its inputs. -/
theorem left5 (hO : Ok m) (c : Dev nD) (t : Fin (cfgM m hO).N) : (dats m hO 0 c).after 5 t
    = k0_pay2 (iblk m hO c 0 t) (View.ld (iblk m hO c 1 t) (Rect.unit ![0, 0, 0] ![1, 128, 1024] inb_S3x128x1024_S1x128x1024_0_0_0)) (View.ld (iblk m hO c 1 t) (Rect.unit ![1, 0, 0] ![1, 128, 1024] inb_S3x128x1024_S1x128x1024_1_0_0)) (View.ld (iblk m hO c 1 t) (Rect.unit ![2, 0, 0] ![1, 128, 1024] inb_S3x128x1024_S1x128x1024_2_0_0)) := by
  rw [after0_5]; unfold outsAt0
  frame_out
  have r0 := (hs0_0 m hO t).read_unread (iblk m hO c 0 t)
  have r1 := (hs0_1 m hO t).read_unread (iblk m hO c 1 t)
  rw [r0, r1]
  rfl

/-- What the body leaves in window 6's block at a point, of the blocks of its inputs. -/
theorem left6 (hO : Ok m) (c : Dev nD) (t : Fin (cfgM m hO).N) : (dats m hO 0 c).after 6 t
    = k0_pay1 (iblk m hO c 2 t) (k0_pay5 (iblk m hO c 0 t) (View.ld (iblk m hO c 1 t) (Rect.unit ![0, 0, 0] ![1, 128, 1024] inb_S3x128x1024_S1x128x1024_0_0_0)) (View.ld (iblk m hO c 1 t) (Rect.unit ![1, 0, 0] ![1, 128, 1024] inb_S3x128x1024_S1x128x1024_1_0_0)) (View.ld (iblk m hO c 1 t) (Rect.unit ![2, 0, 0] ![1, 128, 1024] inb_S3x128x1024_S1x128x1024_2_0_0)) (iblk m hO c 3 t)) (k0_pay6 (iblk m hO c 0 t) (View.ld (iblk m hO c 1 t) (Rect.unit ![0, 0, 0] ![1, 128, 1024] inb_S3x128x1024_S1x128x1024_0_0_0)) (View.ld (iblk m hO c 1 t) (Rect.unit ![1, 0, 0] ![1, 128, 1024] inb_S3x128x1024_S1x128x1024_1_0_0)) (View.ld (iblk m hO c 1 t) (Rect.unit ![2, 0, 0] ![1, 128, 1024] inb_S3x128x1024_S1x128x1024_2_0_0)) (iblk m hO c 4 t)) := by
  rw [after0_6]; unfold outsAt0
  frame_out
  have r0 := (hs0_0 m hO t).read_unread (iblk m hO c 0 t)
  have r1 := (hs0_1 m hO t).read_unread (iblk m hO c 1 t)
  have r2 := (hs0_2 m hO t).read_unread (iblk m hO c 2 t)
  have r3 := (hs0_3 m hO t).read_unread (iblk m hO c 3 t)
  have r4 := (hs0_4 m hO t).read_unread (iblk m hO c 4 t)
  rw [r0, r1, r2, r3, r4]
  rfl

/-- What the body leaves in window 7's block at a point, of the blocks of its inputs. -/
theorem left7 (hO : Ok m) (c : Dev nD) (t : Fin (cfgM m hO).N) : (dats m hO 0 c).after 7 t
    = k0_pay3 (iblk m hO c 0 t) (View.ld (iblk m hO c 1 t) (Rect.unit ![0, 0, 0] ![1, 128, 1024] inb_S3x128x1024_S1x128x1024_0_0_0)) (View.ld (iblk m hO c 1 t) (Rect.unit ![1, 0, 0] ![1, 128, 1024] inb_S3x128x1024_S1x128x1024_1_0_0)) (View.ld (iblk m hO c 1 t) (Rect.unit ![2, 0, 0] ![1, 128, 1024] inb_S3x128x1024_S1x128x1024_2_0_0)) (iblk m hO c 3 t) := by
  rw [after0_7]; unfold outsAt0
  frame_out
  have r0 := (hs0_0 m hO t).read_unread (iblk m hO c 0 t)
  have r1 := (hs0_1 m hO t).read_unread (iblk m hO c 1 t)
  have r3 := (hs0_3 m hO t).read_unread (iblk m hO c 3 t)
  rw [r0, r1, r3]
  rfl

/-- What the body leaves in window 8's block at a point, of the blocks of its inputs. -/
theorem left8 (hO : Ok m) (c : Dev nD) (t : Fin (cfgM m hO).N) : (dats m hO 0 c).after 8 t
    = k0_pay4 (iblk m hO c 0 t) (View.ld (iblk m hO c 1 t) (Rect.unit ![0, 0, 0] ![1, 128, 1024] inb_S3x128x1024_S1x128x1024_0_0_0)) (View.ld (iblk m hO c 1 t) (Rect.unit ![1, 0, 0] ![1, 128, 1024] inb_S3x128x1024_S1x128x1024_1_0_0)) (View.ld (iblk m hO c 1 t) (Rect.unit ![2, 0, 0] ![1, 128, 1024] inb_S3x128x1024_S1x128x1024_2_0_0)) (iblk m hO c 4 t) := by
  rw [after0_8]; unfold outsAt0
  frame_out
  have r0 := (hs0_0 m hO t).read_unread (iblk m hO c 0 t)
  have r1 := (hs0_1 m hO t).read_unread (iblk m hO c 1 t)
  have r4 := (hs0_4 m hO t).read_unread (iblk m hO c 4 t)
  rw [r0, r1, r4]
  rfl

open Cert.AdamwGluRefIdeal.Read in
/-- One element of the summed gradient, of blocks that lie at row `a` and column `b` of their arrays. -/
theorem point_grad (x0 : Vec Ideal S1x128x1024 .bf16) (A0 : Vec Ideal S4x128x1024 .bf16) (x1 : Vec Ideal S3x128x1024 .bf16) (A1 : Vec Ideal S3x128x1024 .bf16) (a b : ℕ)
    (h0 : ∀ (y : S1x128x1024.Idx) (I : S4x128x1024.Idx), (I 0).val = 0 → (I 1).val = a + (y 1).val → (I 2).val = b + (y 2).val → x0 y = A0 I)
    (h1 : ∀ (y : S3x128x1024.Idx) (I : S3x128x1024.Idx), (I 0).val = (y 0).val → (I 1).val = a + (y 1).val → (I 2).val = b + (y 2).val → x1 y = A1 I)
    (y : S128x1024.Idx) (I : S128x1024.Idx) (e0 : (I 0).val = a + (y 0).val) (e1 : (I 1).val = b + (y 1).val) :
    k0_pay2 x0 (View.ld x1 (Rect.unit ![0, 0, 0] ![1, 128, 1024] inb_S3x128x1024_S1x128x1024_0_0_0)) (View.ld x1 (Rect.unit ![1, 0, 0] ![1, 128, 1024] inb_S3x128x1024_S1x128x1024_1_0_0)) (View.ld x1 (Rect.unit ![2, 0, 0] ![1, 128, 1024] inb_S3x128x1024_S1x128x1024_2_0_0)) y
      = val_main_v5 (F := Ideal) A0 A1 I := by
  rw [val_main_v5_apply, val_main_v4_apply, val_main_cst_apply, val_main_v2_apply, val_main_v1_apply, val_main_v0_apply]
  pointwise [k0_pay1, k0_pay2, k0_pay3, k0_pay4, k0_pay5, k0_pay6]
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 5 is the reference's. -/
theorem final_grad (c : Dev nD) : (dats m (ok m) 0 c).arrAt 5 (cfgM m (ok m)).N
    = Cert.AdamwGluRefIdeal.Read.val_main_v5 (F := Ideal) (m ((c : Thread nD τ).loc main_arg0)) (m ((c : Thread nD τ).loc main_arg1)) := by
  refine (dats m (ok m) 0 c).arrAt_eq_of_covers 5 _ ⟨?_, fun β => ?_⟩ fun t _ (y : S128x1024.Idx) => ?_
  · exact (by decide : ∀ a : Fin 2, 0 < S128x1024.size a)
  · have b0 : (β (0 : Fin 2)).val < 1 := lt_of_lt_of_eq (β (0 : Fin 2)).isLt (by show (128 + 128 - 1) / 128 = 1; rfl)
    have b1 : (β (1 : Fin 2)).val < 1 := lt_of_lt_of_eq (β (1 : Fin 2)).isLt (by show (1024 + 1024 - 1) / 1024 = 1; rfl)
    have hN : (β (0 : Fin 2)).val * 1 + (β (1 : Fin 2)).val < 1 := by omega
    refine ⟨(⟨(β (0 : Fin 2)).val * 1 + (β (1 : Fin 2)).val, hN⟩ : Fin 1), flush0_5 _ _, fun a => ⟨?_, .inl rfl⟩⟩
    have h := idx (⟨(β (0 : Fin 2)).val * 1 + (β (1 : Fin 2)).val, hN⟩ : Fin 1)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 5).rect t).emb y (0 : Fin 2) : Nat) = t.val / 1 * 128 + (y 0).val :=
      (Pipeline.Window.rect_emb_val ((cfgM m (ok m)).win 5) t y (0 : Fin 2) rfl).trans (congrArg (· * 128 + (y 0).val) (idx t).1)
    have h1 : ((((cfgM m (ok m)).win 5).rect t).emb y (1 : Fin 2) : Nat) = t.val % 1 * 1024 + (y 1).val :=
      (Pipeline.Window.rect_emb_val ((cfgM m (ok m)).win 5) t y (1 : Fin 2) rfl).trans (congrArg (· * 1024 + (y 1).val) (idx t).2)
    have e := left5 m (ok m) c t
    generalize (dats m (ok m) 0 c).after 5 t = o at e ⊢
    refine Eq.trans (b := o y) rfl ?_
    refine (congrFun e y).trans ?_
    exact (point_grad _ _ _ _ (t.val / 1 * 128) (t.val % 1 * 1024) (block0 m c t) (block1 m c t) y _ h0 h1)

open Cert.AdamwGluRefIdeal.Read in
/-- One element of the update, of blocks that lie at row `a` and column `b` of their arrays. -/
theorem point_delta (x0 : Vec Ideal S1x128x1024 .bf16) (A0 : Vec Ideal S4x128x1024 .bf16) (x1 : Vec Ideal S3x128x1024 .bf16) (A1 : Vec Ideal S3x128x1024 .bf16) (x2 : Vec Ideal S128x1024 .f32) (A2 : Vec Ideal S128x1024 .f32) (x3 : Vec Ideal S128x1024 .f32) (A3 : Vec Ideal S128x1024 .f32) (x4 : Vec Ideal S128x1024 .f32) (A4 : Vec Ideal S128x1024 .f32) (a b : ℕ)
    (h0 : ∀ (y : S1x128x1024.Idx) (I : S4x128x1024.Idx), (I 0).val = 0 → (I 1).val = a + (y 1).val → (I 2).val = b + (y 2).val → x0 y = A0 I)
    (h1 : ∀ (y : S3x128x1024.Idx) (I : S3x128x1024.Idx), (I 0).val = (y 0).val → (I 1).val = a + (y 1).val → (I 2).val = b + (y 2).val → x1 y = A1 I)
    (h2 : ∀ (y : S128x1024.Idx) (I : S128x1024.Idx), (I 0).val = a + (y 0).val → (I 1).val = b + (y 1).val → x2 y = A2 I)
    (h3 : ∀ (y : S128x1024.Idx) (I : S128x1024.Idx), (I 0).val = a + (y 0).val → (I 1).val = b + (y 1).val → x3 y = A3 I)
    (h4 : ∀ (y : S128x1024.Idx) (I : S128x1024.Idx), (I 0).val = a + (y 0).val → (I 1).val = b + (y 1).val → x4 y = A4 I)
    (y : S128x1024.Idx) (I : S128x1024.Idx) (e0 : (I 0).val = a + (y 0).val) (e1 : (I 1).val = b + (y 1).val) :
    k0_pay1 x2 (k0_pay5 x0 (View.ld x1 (Rect.unit ![0, 0, 0] ![1, 128, 1024] inb_S3x128x1024_S1x128x1024_0_0_0)) (View.ld x1 (Rect.unit ![1, 0, 0] ![1, 128, 1024] inb_S3x128x1024_S1x128x1024_1_0_0)) (View.ld x1 (Rect.unit ![2, 0, 0] ![1, 128, 1024] inb_S3x128x1024_S1x128x1024_2_0_0)) x3) (k0_pay6 x0 (View.ld x1 (Rect.unit ![0, 0, 0] ![1, 128, 1024] inb_S3x128x1024_S1x128x1024_0_0_0)) (View.ld x1 (Rect.unit ![1, 0, 0] ![1, 128, 1024] inb_S3x128x1024_S1x128x1024_1_0_0)) (View.ld x1 (Rect.unit ![2, 0, 0] ![1, 128, 1024] inb_S3x128x1024_S1x128x1024_2_0_0)) x4) y
      = val_main_v29 (F := Ideal) A0 A1 A2 A3 A4 I := by
  rw [val_main_v29_apply, val_main_v28_apply, val_main_cst_8_apply, val_main_v27_apply, val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_cst_4_apply, val_main_v16_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine update_eq (first_eq (h3 _ _ e0 e1) ?_) (second_eq (h4 _ _ e0 e1) ?_) (h2 _ _ e0 e1)
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1

/-- After the run the array of window 6 is the reference's. -/
theorem final_delta (c : Dev nD) : (dats m (ok m) 0 c).arrAt 6 (cfgM m (ok m)).N
    = Cert.AdamwGluRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ ⟨?_, fun β => ?_⟩ fun t _ (y : S128x1024.Idx) => ?_
  · exact (by decide : ∀ a : Fin 2, 0 < S128x1024.size a)
  · have b0 : (β (0 : Fin 2)).val < 1 := lt_of_lt_of_eq (β (0 : Fin 2)).isLt (by show (128 + 128 - 1) / 128 = 1; rfl)
    have b1 : (β (1 : Fin 2)).val < 1 := lt_of_lt_of_eq (β (1 : Fin 2)).isLt (by show (1024 + 1024 - 1) / 1024 = 1; rfl)
    have hN : (β (0 : Fin 2)).val * 1 + (β (1 : Fin 2)).val < 1 := by omega
    refine ⟨(⟨(β (0 : Fin 2)).val * 1 + (β (1 : Fin 2)).val, hN⟩ : Fin 1), flush0_6 _ _, fun a => ⟨?_, .inl rfl⟩⟩
    have h := idx (⟨(β (0 : Fin 2)).val * 1 + (β (1 : Fin 2)).val, hN⟩ : Fin 1)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 6).rect t).emb y (0 : Fin 2) : Nat) = t.val / 1 * 128 + (y 0).val :=
      (Pipeline.Window.rect_emb_val ((cfgM m (ok m)).win 6) t y (0 : Fin 2) rfl).trans (congrArg (· * 128 + (y 0).val) (idx t).1)
    have h1 : ((((cfgM m (ok m)).win 6).rect t).emb y (1 : Fin 2) : Nat) = t.val % 1 * 1024 + (y 1).val :=
      (Pipeline.Window.rect_emb_val ((cfgM m (ok m)).win 6) t y (1 : Fin 2) rfl).trans (congrArg (· * 1024 + (y 1).val) (idx t).2)
    have e := left6 m (ok m) c t
    generalize (dats m (ok m) 0 c).after 6 t = o at e ⊢
    refine Eq.trans (b := o y) rfl ?_
    refine (congrFun e y).trans ?_
    exact (point_delta _ _ _ _ _ _ _ _ _ _ (t.val / 1 * 128) (t.val % 1 * 1024) (block0 m c t) (block1 m c t) (block2 m c t) (block3 m c t) (block4 m c t) y _ h0 h1)

open Cert.AdamwGluRefIdeal.Read in
/-- One element of the first moment, of blocks that lie at row `a` and column `b` of their arrays. -/
theorem point_m (x0 : Vec Ideal S1x128x1024 .bf16) (A0 : Vec Ideal S4x128x1024 .bf16) (x1 : Vec Ideal S3x128x1024 .bf16) (A1 : Vec Ideal S3x128x1024 .bf16) (x3 : Vec Ideal S128x1024 .f32) (A3 : Vec Ideal S128x1024 .f32) (a b : ℕ)
    (h0 : ∀ (y : S1x128x1024.Idx) (I : S4x128x1024.Idx), (I 0).val = 0 → (I 1).val = a + (y 1).val → (I 2).val = b + (y 2).val → x0 y = A0 I)
    (h1 : ∀ (y : S3x128x1024.Idx) (I : S3x128x1024.Idx), (I 0).val = (y 0).val → (I 1).val = a + (y 1).val → (I 2).val = b + (y 2).val → x1 y = A1 I)
    (h3 : ∀ (y : S128x1024.Idx) (I : S128x1024.Idx), (I 0).val = a + (y 0).val → (I 1).val = b + (y 1).val → x3 y = A3 I)
    (y : S128x1024.Idx) (I : S128x1024.Idx) (e0 : (I 0).val = a + (y 0).val) (e1 : (I 1).val = b + (y 1).val) :
    k0_pay3 x0 (View.ld x1 (Rect.unit ![0, 0, 0] ![1, 128, 1024] inb_S3x128x1024_S1x128x1024_0_0_0)) (View.ld x1 (Rect.unit ![1, 0, 0] ![1, 128, 1024] inb_S3x128x1024_S1x128x1024_1_0_0)) (View.ld x1 (Rect.unit ![2, 0, 0] ![1, 128, 1024] inb_S3x128x1024_S1x128x1024_2_0_0)) x3 y
      = val_main_v10 (F := Ideal) A0 A1 A3 I := by
  rw [val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine first_eq (h3 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 7 is the reference's. -/
theorem final_m (c : Dev nD) : (dats m (ok m) 0 c).arrAt 7 (cfgM m (ok m)).N
    = Cert.AdamwGluRefIdeal.Read.val_main_v10 (F := Ideal) (m ((c : Thread nD τ).loc main_arg0)) (m ((c : Thread nD τ).loc main_arg1)) (m ((c : Thread nD τ).loc main_arg3)) := by
  refine (dats m (ok m) 0 c).arrAt_eq_of_covers 7 _ ⟨?_, fun β => ?_⟩ fun t _ (y : S128x1024.Idx) => ?_
  · exact (by decide : ∀ a : Fin 2, 0 < S128x1024.size a)
  · have b0 : (β (0 : Fin 2)).val < 1 := lt_of_lt_of_eq (β (0 : Fin 2)).isLt (by show (128 + 128 - 1) / 128 = 1; rfl)
    have b1 : (β (1 : Fin 2)).val < 1 := lt_of_lt_of_eq (β (1 : Fin 2)).isLt (by show (1024 + 1024 - 1) / 1024 = 1; rfl)
    have hN : (β (0 : Fin 2)).val * 1 + (β (1 : Fin 2)).val < 1 := by omega
    refine ⟨(⟨(β (0 : Fin 2)).val * 1 + (β (1 : Fin 2)).val, hN⟩ : Fin 1), flush0_7 _ _, fun a => ⟨?_, .inl rfl⟩⟩
    have h := idx (⟨(β (0 : Fin 2)).val * 1 + (β (1 : Fin 2)).val, hN⟩ : Fin 1)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 7).rect t).emb y (0 : Fin 2) : Nat) = t.val / 1 * 128 + (y 0).val :=
      (Pipeline.Window.rect_emb_val ((cfgM m (ok m)).win 7) t y (0 : Fin 2) rfl).trans (congrArg (· * 128 + (y 0).val) (idx t).1)
    have h1 : ((((cfgM m (ok m)).win 7).rect t).emb y (1 : Fin 2) : Nat) = t.val % 1 * 1024 + (y 1).val :=
      (Pipeline.Window.rect_emb_val ((cfgM m (ok m)).win 7) t y (1 : Fin 2) rfl).trans (congrArg (· * 1024 + (y 1).val) (idx t).2)
    have e := left7 m (ok m) c t
    generalize (dats m (ok m) 0 c).after 7 t = o at e ⊢
    refine Eq.trans (b := o y) rfl ?_
    refine (congrFun e y).trans ?_
    exact (point_m _ _ _ _ _ _ (t.val / 1 * 128) (t.val % 1 * 1024) (block0 m c t) (block1 m c t) (block3 m c t) y _ h0 h1)

open Cert.AdamwGluRefIdeal.Read in
/-- One element of the second moment, of blocks that lie at row `a` and column `b` of their arrays. -/
theorem point_v (x0 : Vec Ideal S1x128x1024 .bf16) (A0 : Vec Ideal S4x128x1024 .bf16) (x1 : Vec Ideal S3x128x1024 .bf16) (A1 : Vec Ideal S3x128x1024 .bf16) (x4 : Vec Ideal S128x1024 .f32) (A4 : Vec Ideal S128x1024 .f32) (a b : ℕ)
    (h0 : ∀ (y : S1x128x1024.Idx) (I : S4x128x1024.Idx), (I 0).val = 0 → (I 1).val = a + (y 1).val → (I 2).val = b + (y 2).val → x0 y = A0 I)
    (h1 : ∀ (y : S3x128x1024.Idx) (I : S3x128x1024.Idx), (I 0).val = (y 0).val → (I 1).val = a + (y 1).val → (I 2).val = b + (y 2).val → x1 y = A1 I)
    (h4 : ∀ (y : S128x1024.Idx) (I : S128x1024.Idx), (I 0).val = a + (y 0).val → (I 1).val = b + (y 1).val → x4 y = A4 I)
    (y : S128x1024.Idx) (I : S128x1024.Idx) (e0 : (I 0).val = a + (y 0).val) (e1 : (I 1).val = b + (y 1).val) :
    k0_pay4 x0 (View.ld x1 (Rect.unit ![0, 0, 0] ![1, 128, 1024] inb_S3x128x1024_S1x128x1024_0_0_0)) (View.ld x1 (Rect.unit ![1, 0, 0] ![1, 128, 1024] inb_S3x128x1024_S1x128x1024_1_0_0)) (View.ld x1 (Rect.unit ![2, 0, 0] ![1, 128, 1024] inb_S3x128x1024_S1x128x1024_2_0_0)) x4 y
      = val_main_v16 (F := Ideal) A0 A1 A4 I := by
  rw [val_main_v16_apply, val_main_v15_apply, val_main_v14_apply, val_main_cst_3_apply, val_main_v13_apply, val_main_v12_apply, val_main_v11_apply, val_main_cst_2_apply, val_main_v5_apply, val_main_v4_apply, val_main_cst_apply, val_main_v2_apply, val_main_v1_apply, val_main_v0_apply]
  pointwise [k0_pay1, k0_pay2, k0_pay3, k0_pay4, k0_pay5, k0_pay6]
  refine second_eq (h4 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 8 is the reference's. -/
theorem final_v (c : Dev nD) : (dats m (ok m) 0 c).arrAt 8 (cfgM m (ok m)).N
    = Cert.AdamwGluRefIdeal.Read.val_main_v16 (F := Ideal) (m ((c : Thread nD τ).loc main_arg0)) (m ((c : Thread nD τ).loc main_arg1)) (m ((c : Thread nD τ).loc main_arg4)) := by
  refine (dats m (ok m) 0 c).arrAt_eq_of_covers 8 _ ⟨?_, fun β => ?_⟩ fun t _ (y : S128x1024.Idx) => ?_
  · exact (by decide : ∀ a : Fin 2, 0 < S128x1024.size a)
  · have b0 : (β (0 : Fin 2)).val < 1 := lt_of_lt_of_eq (β (0 : Fin 2)).isLt (by show (128 + 128 - 1) / 128 = 1; rfl)
    have b1 : (β (1 : Fin 2)).val < 1 := lt_of_lt_of_eq (β (1 : Fin 2)).isLt (by show (1024 + 1024 - 1) / 1024 = 1; rfl)
    have hN : (β (0 : Fin 2)).val * 1 + (β (1 : Fin 2)).val < 1 := by omega
    refine ⟨(⟨(β (0 : Fin 2)).val * 1 + (β (1 : Fin 2)).val, hN⟩ : Fin 1), flush0_8 _ _, fun a => ⟨?_, .inl rfl⟩⟩
    have h := idx (⟨(β (0 : Fin 2)).val * 1 + (β (1 : Fin 2)).val, hN⟩ : Fin 1)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 8).rect t).emb y (0 : Fin 2) : Nat) = t.val / 1 * 128 + (y 0).val :=
      (Pipeline.Window.rect_emb_val ((cfgM m (ok m)).win 8) t y (0 : Fin 2) rfl).trans (congrArg (· * 128 + (y 0).val) (idx t).1)
    have h1 : ((((cfgM m (ok m)).win 8).rect t).emb y (1 : Fin 2) : Nat) = t.val % 1 * 1024 + (y 1).val :=
      (Pipeline.Window.rect_emb_val ((cfgM m (ok m)).win 8) t y (1 : Fin 2) rfl).trans (congrArg (· * 1024 + (y 1).val) (idx t).2)
    have e := left8 m (ok m) c t
    generalize (dats m (ok m) 0 c).after 8 t = o at e ⊢
    refine Eq.trans (b := o y) rfl ?_
    refine (congrFun e y).trans ?_
    exact (point_v _ _ _ _ _ _ (t.val / 1 * 128) (t.val % 1 * 1024) (block0 m c t) (block1 m c t) (block4 m c t) y _ h0 h1)

/-- Every execution ends with the four result arrays at what the blocks leave, and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.AdamwGluIdeal.Value

end
-- ==== Proof.AdamwBranchValue.lean ====
/- The last step of a split reduction of the gradient of a branch's output projection, and one AdamW step with it. -/
module

public import proofs.«01_k».proof.Proof.Gen.AdamwBranch.Frame
public import proofs.«01_k».proof.Proof.Gen.AdamwBranchIdeal.Frame
public import proofs.«01_k».proof.Proof.Gen.AdamwBranchRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwBranch.Value
open Cert.AdamwBranch Cert.AdamwBranch.Gen

variable (m : (ℓ : Loc nD τ sig) → Buf (Elt Bits) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x512x256.size a
      ≤ S4x1024x256.size a := by
  decide +kernel

/-- Each block of the first window lies in its array. -/
theorem ok : Ok m := fun i => by
  refine ⟨fun a => ?_, .inr (Affine.block_words_dvd (of_decide_eq_true rfl) (by decide))⟩
  rw [transform_zero]
  exact block_in i a

end Cert.AdamwBranch.Value

namespace Cert.AdamwBranchIdeal.Value
open Cert.AdamwBranchIdeal Cert.AdamwBranchIdeal.Gen

variable (m : (ℓ : Loc nD τ sig) → Buf (Elt Ideal) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x512x256.size a
      ≤ S4x1024x256.size a := by
  decide +kernel

/-- Each block of the first window lies in its array. -/
theorem ok : Ok m := fun i => by
  refine ⟨fun a => ?_, .inr (Affine.block_words_dvd (of_decide_eq_true rfl) (by decide))⟩
  rw [transform_zero]
  exact block_in i a

/-- Which block a window holds at each grid point. -/
theorem idx : ∀ t : Fin grid0.N, (BitVec.ofNat 32 (grid0.coords t 0).val).toNat = t.val / 1
    ∧ (BitVec.ofNat 32 (grid0.coords t 1).val).toNat = t.val % 1 := by
  decide +kernel

/-- The first window's block at a point is rows and columns of its array. -/
theorem block0 (c : Dev nD) (t : Fin (cfgM m (ok m)).N) (y : S1x512x256.Idx) (I : S4x1024x256.Idx) (e0 : (I 0).val = 0)
    (e1 : (I 1).val = t.val / 1 * 512 + (y 1).val) (e2 : (I 2).val = t.val % 1 * 256 + (y 2).val) :
    iblk m (ok m) c 0 t y = m ((c : Thread nD τ).loc main_arg0) I := by
  show V m c main_arg0 ((((cfgM m (ok m)).win 0).rect t).emb y) = _
  rw [V_main_arg0]
  refine congrArg (m ((c : Thread nD τ).loc main_arg0)) (funext fun a => Fin.ext ?_)
  rw [Pipeline.Window.rect_emb_val _ t y a rfl]
  have h : ((cfgM m (ok m)).win 0).index t = _ := transform_zero m (grid0.coords t)
  rw [h, (idx t).1, (idx t).2]
  have hy : (y 0).val < 1 := (y 0).isLt
  match a with
  | ⟨0, _⟩ => show 0 * 1 + (y 0).val = (I 0).val; omega
  | ⟨1, _⟩ => exact e1.symm
  | ⟨2, _⟩ => exact e2.symm

/-- The second window's. -/
theorem block1 (c : Dev nD) (t : Fin (cfgM m (ok m)).N) (y : S3x512x256.Idx) (I : S3x1024x256.Idx) (e0 : (I 0).val = (y 0).val)
    (e1 : (I 1).val = t.val / 1 * 512 + (y 1).val) (e2 : (I 2).val = t.val % 1 * 256 + (y 2).val) :
    iblk m (ok m) c 1 t y = m ((c : Thread nD τ).loc main_arg1) I := by
  show V m c main_arg1 ((((cfgM m (ok m)).win 1).rect t).emb y) = _
  rw [V_main_arg1]
  refine congrArg (m ((c : Thread nD τ).loc main_arg1)) (funext fun a => Fin.ext ?_)
  rw [Pipeline.Window.rect_emb_val _ t y a rfl]
  have h : ((cfgM m (ok m)).win 1).index t = ![0, (BitVec.ofNat 32 (grid0.coords t 0).val).toNat, (BitVec.ofNat 32 (grid0.coords t 1).val).toNat] := rfl
  rw [h, (idx t).1, (idx t).2]
  match a with
  | ⟨0, _⟩ => show 0 * 3 + (y 0).val = (I 0).val; omega
  | ⟨1, _⟩ => exact e1.symm
  | ⟨2, _⟩ => exact e2.symm

/-- Window 2's. -/
theorem block2 (c : Dev nD) (t : Fin (cfgM m (ok m)).N) (y : S512x256.Idx) (I : S1024x256.Idx)
    (e0 : (I 0).val = t.val / 1 * 512 + (y 0).val) (e1 : (I 1).val = t.val % 1 * 256 + (y 1).val) :
    iblk m (ok m) c 2 t y = m ((c : Thread nD τ).loc main_arg2) I := by
  show V m c main_arg2 ((((cfgM m (ok m)).win 2).rect t).emb y) = _
  rw [V_main_arg2]
  refine congrArg (m ((c : Thread nD τ).loc main_arg2)) (funext fun a => Fin.ext ?_)
  rw [Pipeline.Window.rect_emb_val _ t y a rfl]
  have h : ((cfgM m (ok m)).win 2).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 3's. -/
theorem block3 (c : Dev nD) (t : Fin (cfgM m (ok m)).N) (y : S512x256.Idx) (I : S1024x256.Idx)
    (e0 : (I 0).val = t.val / 1 * 512 + (y 0).val) (e1 : (I 1).val = t.val % 1 * 256 + (y 1).val) :
    iblk m (ok m) c 3 t y = m ((c : Thread nD τ).loc main_arg3) I := by
  show V m c main_arg3 ((((cfgM m (ok m)).win 3).rect t).emb y) = _
  rw [V_main_arg3]
  refine congrArg (m ((c : Thread nD τ).loc main_arg3)) (funext fun a => Fin.ext ?_)
  rw [Pipeline.Window.rect_emb_val _ t y a rfl]
  have h : ((cfgM m (ok m)).win 3).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 4's. -/
theorem block4 (c : Dev nD) (t : Fin (cfgM m (ok m)).N) (y : S512x256.Idx) (I : S1024x256.Idx)
    (e0 : (I 0).val = t.val / 1 * 512 + (y 0).val) (e1 : (I 1).val = t.val % 1 * 256 + (y 1).val) :
    iblk m (ok m) c 4 t y = m ((c : Thread nD τ).loc main_arg4) I := by
  show V m c main_arg4 ((((cfgM m (ok m)).win 4).rect t).emb y) = _
  rw [V_main_arg4]
  refine congrArg (m ((c : Thread nD τ).loc main_arg4)) (funext fun a => Fin.ext ?_)
  rw [Pipeline.Window.rect_emb_val _ t y a rfl]
  have h : ((cfgM m (ok m)).win 4).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Own partial sum and the three received ones, added one by one, are their sum. -/
theorem sum_four {s s' x0 x1 x2 : EReal} {f : Fin 3 → EReal} (h : s = s') (h0 : x0 = f 0) (h1 : x1 = f 1) (h2 : x2 = f 2) :
    s + x0 + x1 + x2 = s' + ∑ k, f k := by
  subst h h0 h1 h2
  rw [Fin.sum_univ_three, add_assoc, add_assoc, add_assoc]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwBranchRefIdeal.Read in
/-- The row of the first partial sum that the reference reads. -/
theorem row_eq (I : S1024x256.Idx) : (idx_main_v0 (idx_main_v1 I) (1 : Fin 3)).val = (I 0).val := by
  have i0 : (I 0).val < 1024 := (I 0).isLt
  have i1 : (I 1).val < 256 := (I 1).isLt
  show ((I 0).val * 256 + (I 1).val) / 256 % 1024 = (I 0).val
  omega

open Cert.AdamwBranchRefIdeal.Read in
/-- Its column. -/
theorem col_eq (I : S1024x256.Idx) : (idx_main_v0 (idx_main_v1 I) (2 : Fin 3)).val = (I 1).val := by
  have i0 : (I 0).val < 1024 := (I 0).isLt
  have i1 : (I 1).val < 256 := (I 1).isLt
  show ((I 0).val * 256 + (I 1).val) % 256 = (I 1).val
  omega

/-- What the body leaves in window 5's block at a point, of the blocks of its inputs. -/
theorem left5 (hO : Ok m) (c : Dev nD) (t : Fin (cfgM m hO).N) : (dats m hO 0 c).after 5 t
    = k0_pay2 (iblk m hO c 0 t) (View.ld (iblk m hO c 1 t) (Rect.unit ![0, 0, 0] ![1, 512, 256] inb_S3x512x256_S1x512x256_0_0_0)) (View.ld (iblk m hO c 1 t) (Rect.unit ![1, 0, 0] ![1, 512, 256] inb_S3x512x256_S1x512x256_1_0_0)) (View.ld (iblk m hO c 1 t) (Rect.unit ![2, 0, 0] ![1, 512, 256] inb_S3x512x256_S1x512x256_2_0_0)) := by
  rw [after0_5]; unfold outsAt0
  frame_out
  have r0 := (hs0_0 m hO t).read_unread (iblk m hO c 0 t)
  have r1 := (hs0_1 m hO t).read_unread (iblk m hO c 1 t)
  rw [r0, r1]
  rfl

/-- What the body leaves in window 6's block at a point, of the blocks of its inputs. -/
theorem left6 (hO : Ok m) (c : Dev nD) (t : Fin (cfgM m hO).N) : (dats m hO 0 c).after 6 t
    = k0_pay1 (iblk m hO c 2 t) (k0_pay5 (iblk m hO c 0 t) (View.ld (iblk m hO c 1 t) (Rect.unit ![0, 0, 0] ![1, 512, 256] inb_S3x512x256_S1x512x256_0_0_0)) (View.ld (iblk m hO c 1 t) (Rect.unit ![1, 0, 0] ![1, 512, 256] inb_S3x512x256_S1x512x256_1_0_0)) (View.ld (iblk m hO c 1 t) (Rect.unit ![2, 0, 0] ![1, 512, 256] inb_S3x512x256_S1x512x256_2_0_0)) (iblk m hO c 3 t)) (k0_pay6 (iblk m hO c 0 t) (View.ld (iblk m hO c 1 t) (Rect.unit ![0, 0, 0] ![1, 512, 256] inb_S3x512x256_S1x512x256_0_0_0)) (View.ld (iblk m hO c 1 t) (Rect.unit ![1, 0, 0] ![1, 512, 256] inb_S3x512x256_S1x512x256_1_0_0)) (View.ld (iblk m hO c 1 t) (Rect.unit ![2, 0, 0] ![1, 512, 256] inb_S3x512x256_S1x512x256_2_0_0)) (iblk m hO c 4 t)) := by
  rw [after0_6]; unfold outsAt0
  frame_out
  have r0 := (hs0_0 m hO t).read_unread (iblk m hO c 0 t)
  have r1 := (hs0_1 m hO t).read_unread (iblk m hO c 1 t)
  have r2 := (hs0_2 m hO t).read_unread (iblk m hO c 2 t)
  have r3 := (hs0_3 m hO t).read_unread (iblk m hO c 3 t)
  have r4 := (hs0_4 m hO t).read_unread (iblk m hO c 4 t)
  rw [r0, r1, r2, r3, r4]
  rfl

/-- What the body leaves in window 7's block at a point, of the blocks of its inputs. -/
theorem left7 (hO : Ok m) (c : Dev nD) (t : Fin (cfgM m hO).N) : (dats m hO 0 c).after 7 t
    = k0_pay3 (iblk m hO c 0 t) (View.ld (iblk m hO c 1 t) (Rect.unit ![0, 0, 0] ![1, 512, 256] inb_S3x512x256_S1x512x256_0_0_0)) (View.ld (iblk m hO c 1 t) (Rect.unit ![1, 0, 0] ![1, 512, 256] inb_S3x512x256_S1x512x256_1_0_0)) (View.ld (iblk m hO c 1 t) (Rect.unit ![2, 0, 0] ![1, 512, 256] inb_S3x512x256_S1x512x256_2_0_0)) (iblk m hO c 3 t) := by
  rw [after0_7]; unfold outsAt0
  frame_out
  have r0 := (hs0_0 m hO t).read_unread (iblk m hO c 0 t)
  have r1 := (hs0_1 m hO t).read_unread (iblk m hO c 1 t)
  have r3 := (hs0_3 m hO t).read_unread (iblk m hO c 3 t)
  rw [r0, r1, r3]
  rfl

/-- What the body leaves in window 8's block at a point, of the blocks of its inputs. -/
theorem left8 (hO : Ok m) (c : Dev nD) (t : Fin (cfgM m hO).N) : (dats m hO 0 c).after 8 t
    = k0_pay4 (iblk m hO c 0 t) (View.ld (iblk m hO c 1 t) (Rect.unit ![0, 0, 0] ![1, 512, 256] inb_S3x512x256_S1x512x256_0_0_0)) (View.ld (iblk m hO c 1 t) (Rect.unit ![1, 0, 0] ![1, 512, 256] inb_S3x512x256_S1x512x256_1_0_0)) (View.ld (iblk m hO c 1 t) (Rect.unit ![2, 0, 0] ![1, 512, 256] inb_S3x512x256_S1x512x256_2_0_0)) (iblk m hO c 4 t) := by
  rw [after0_8]; unfold outsAt0
  frame_out
  have r0 := (hs0_0 m hO t).read_unread (iblk m hO c 0 t)
  have r1 := (hs0_1 m hO t).read_unread (iblk m hO c 1 t)
  have r4 := (hs0_4 m hO t).read_unread (iblk m hO c 4 t)
  rw [r0, r1, r4]
  rfl

open Cert.AdamwBranchRefIdeal.Read in
/-- One element of the summed gradient, of blocks that lie at row `a` and column `b` of their arrays. -/
theorem point_grad (x0 : Vec Ideal S1x512x256 .bf16) (A0 : Vec Ideal S4x1024x256 .bf16) (x1 : Vec Ideal S3x512x256 .bf16) (A1 : Vec Ideal S3x1024x256 .bf16) (a b : ℕ)
    (h0 : ∀ (y : S1x512x256.Idx) (I : S4x1024x256.Idx), (I 0).val = 0 → (I 1).val = a + (y 1).val → (I 2).val = b + (y 2).val → x0 y = A0 I)
    (h1 : ∀ (y : S3x512x256.Idx) (I : S3x1024x256.Idx), (I 0).val = (y 0).val → (I 1).val = a + (y 1).val → (I 2).val = b + (y 2).val → x1 y = A1 I)
    (y : S512x256.Idx) (I : S1024x256.Idx) (e0 : (I 0).val = a + (y 0).val) (e1 : (I 1).val = b + (y 1).val) :
    k0_pay2 x0 (View.ld x1 (Rect.unit ![0, 0, 0] ![1, 512, 256] inb_S3x512x256_S1x512x256_0_0_0)) (View.ld x1 (Rect.unit ![1, 0, 0] ![1, 512, 256] inb_S3x512x256_S1x512x256_1_0_0)) (View.ld x1 (Rect.unit ![2, 0, 0] ![1, 512, 256] inb_S3x512x256_S1x512x256_2_0_0)) y
      = val_main_v5 (F := Ideal) A0 A1 I := by
  rw [val_main_v5_apply, val_main_v4_apply, val_main_cst_apply, val_main_v2_apply, val_main_v1_apply, val_main_v0_apply]
  pointwise [k0_pay1, k0_pay2, k0_pay3, k0_pay4, k0_pay5, k0_pay6]
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 5 is the reference's. -/
theorem final_grad (c : Dev nD) : (dats m (ok m) 0 c).arrAt 5 (cfgM m (ok m)).N
    = Cert.AdamwBranchRefIdeal.Read.val_main_v5 (F := Ideal) (m ((c : Thread nD τ).loc main_arg0)) (m ((c : Thread nD τ).loc main_arg1)) := by
  refine (dats m (ok m) 0 c).arrAt_eq_of_covers 5 _ ⟨?_, fun β => ?_⟩ fun t _ (y : S512x256.Idx) => ?_
  · exact (by decide : ∀ a : Fin 2, 0 < S512x256.size a)
  · have b0 : (β (0 : Fin 2)).val < 2 := lt_of_lt_of_eq (β (0 : Fin 2)).isLt (by show (1024 + 512 - 1) / 512 = 2; rfl)
    have b1 : (β (1 : Fin 2)).val < 1 := lt_of_lt_of_eq (β (1 : Fin 2)).isLt (by show (256 + 256 - 1) / 256 = 1; rfl)
    have hN : (β (0 : Fin 2)).val * 1 + (β (1 : Fin 2)).val < 2 := by omega
    refine ⟨(⟨(β (0 : Fin 2)).val * 1 + (β (1 : Fin 2)).val, hN⟩ : Fin 2), flush0_5 _ _, fun a => ⟨?_, .inl rfl⟩⟩
    have h := idx (⟨(β (0 : Fin 2)).val * 1 + (β (1 : Fin 2)).val, hN⟩ : Fin 2)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 5).rect t).emb y (0 : Fin 2) : Nat) = t.val / 1 * 512 + (y 0).val :=
      (Pipeline.Window.rect_emb_val ((cfgM m (ok m)).win 5) t y (0 : Fin 2) rfl).trans (congrArg (· * 512 + (y 0).val) (idx t).1)
    have h1 : ((((cfgM m (ok m)).win 5).rect t).emb y (1 : Fin 2) : Nat) = t.val % 1 * 256 + (y 1).val :=
      (Pipeline.Window.rect_emb_val ((cfgM m (ok m)).win 5) t y (1 : Fin 2) rfl).trans (congrArg (· * 256 + (y 1).val) (idx t).2)
    have e := left5 m (ok m) c t
    generalize (dats m (ok m) 0 c).after 5 t = o at e ⊢
    refine Eq.trans (b := o y) rfl ?_
    refine (congrFun e y).trans ?_
    exact (point_grad _ _ _ _ (t.val / 1 * 512) (t.val % 1 * 256) (block0 m c t) (block1 m c t) y _ h0 h1)

open Cert.AdamwBranchRefIdeal.Read in
/-- One element of the update, of blocks that lie at row `a` and column `b` of their arrays. -/
theorem point_delta (x0 : Vec Ideal S1x512x256 .bf16) (A0 : Vec Ideal S4x1024x256 .bf16) (x1 : Vec Ideal S3x512x256 .bf16) (A1 : Vec Ideal S3x1024x256 .bf16) (x2 : Vec Ideal S512x256 .f32) (A2 : Vec Ideal S1024x256 .f32) (x3 : Vec Ideal S512x256 .f32) (A3 : Vec Ideal S1024x256 .f32) (x4 : Vec Ideal S512x256 .f32) (A4 : Vec Ideal S1024x256 .f32) (a b : ℕ)
    (h0 : ∀ (y : S1x512x256.Idx) (I : S4x1024x256.Idx), (I 0).val = 0 → (I 1).val = a + (y 1).val → (I 2).val = b + (y 2).val → x0 y = A0 I)
    (h1 : ∀ (y : S3x512x256.Idx) (I : S3x1024x256.Idx), (I 0).val = (y 0).val → (I 1).val = a + (y 1).val → (I 2).val = b + (y 2).val → x1 y = A1 I)
    (h2 : ∀ (y : S512x256.Idx) (I : S1024x256.Idx), (I 0).val = a + (y 0).val → (I 1).val = b + (y 1).val → x2 y = A2 I)
    (h3 : ∀ (y : S512x256.Idx) (I : S1024x256.Idx), (I 0).val = a + (y 0).val → (I 1).val = b + (y 1).val → x3 y = A3 I)
    (h4 : ∀ (y : S512x256.Idx) (I : S1024x256.Idx), (I 0).val = a + (y 0).val → (I 1).val = b + (y 1).val → x4 y = A4 I)
    (y : S512x256.Idx) (I : S1024x256.Idx) (e0 : (I 0).val = a + (y 0).val) (e1 : (I 1).val = b + (y 1).val) :
    k0_pay1 x2 (k0_pay5 x0 (View.ld x1 (Rect.unit ![0, 0, 0] ![1, 512, 256] inb_S3x512x256_S1x512x256_0_0_0)) (View.ld x1 (Rect.unit ![1, 0, 0] ![1, 512, 256] inb_S3x512x256_S1x512x256_1_0_0)) (View.ld x1 (Rect.unit ![2, 0, 0] ![1, 512, 256] inb_S3x512x256_S1x512x256_2_0_0)) x3) (k0_pay6 x0 (View.ld x1 (Rect.unit ![0, 0, 0] ![1, 512, 256] inb_S3x512x256_S1x512x256_0_0_0)) (View.ld x1 (Rect.unit ![1, 0, 0] ![1, 512, 256] inb_S3x512x256_S1x512x256_1_0_0)) (View.ld x1 (Rect.unit ![2, 0, 0] ![1, 512, 256] inb_S3x512x256_S1x512x256_2_0_0)) x4) y
      = val_main_v29 (F := Ideal) A0 A1 A2 A3 A4 I := by
  rw [val_main_v29_apply, val_main_v28_apply, val_main_cst_8_apply, val_main_v27_apply, val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_cst_4_apply, val_main_v16_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine update_eq (first_eq (h3 _ _ e0 e1) ?_) (second_eq (h4 _ _ e0 e1) ?_) (h2 _ _ e0 e1)
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1

/-- After the run the array of window 6 is the reference's. -/
theorem final_delta (c : Dev nD) : (dats m (ok m) 0 c).arrAt 6 (cfgM m (ok m)).N
    = Cert.AdamwBranchRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ ⟨?_, fun β => ?_⟩ fun t _ (y : S512x256.Idx) => ?_
  · exact (by decide : ∀ a : Fin 2, 0 < S512x256.size a)
  · have b0 : (β (0 : Fin 2)).val < 2 := lt_of_lt_of_eq (β (0 : Fin 2)).isLt (by show (1024 + 512 - 1) / 512 = 2; rfl)
    have b1 : (β (1 : Fin 2)).val < 1 := lt_of_lt_of_eq (β (1 : Fin 2)).isLt (by show (256 + 256 - 1) / 256 = 1; rfl)
    have hN : (β (0 : Fin 2)).val * 1 + (β (1 : Fin 2)).val < 2 := by omega
    refine ⟨(⟨(β (0 : Fin 2)).val * 1 + (β (1 : Fin 2)).val, hN⟩ : Fin 2), flush0_6 _ _, fun a => ⟨?_, .inl rfl⟩⟩
    have h := idx (⟨(β (0 : Fin 2)).val * 1 + (β (1 : Fin 2)).val, hN⟩ : Fin 2)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 6).rect t).emb y (0 : Fin 2) : Nat) = t.val / 1 * 512 + (y 0).val :=
      (Pipeline.Window.rect_emb_val ((cfgM m (ok m)).win 6) t y (0 : Fin 2) rfl).trans (congrArg (· * 512 + (y 0).val) (idx t).1)
    have h1 : ((((cfgM m (ok m)).win 6).rect t).emb y (1 : Fin 2) : Nat) = t.val % 1 * 256 + (y 1).val :=
      (Pipeline.Window.rect_emb_val ((cfgM m (ok m)).win 6) t y (1 : Fin 2) rfl).trans (congrArg (· * 256 + (y 1).val) (idx t).2)
    have e := left6 m (ok m) c t
    generalize (dats m (ok m) 0 c).after 6 t = o at e ⊢
    refine Eq.trans (b := o y) rfl ?_
    refine (congrFun e y).trans ?_
    exact (point_delta _ _ _ _ _ _ _ _ _ _ (t.val / 1 * 512) (t.val % 1 * 256) (block0 m c t) (block1 m c t) (block2 m c t) (block3 m c t) (block4 m c t) y _ h0 h1)

open Cert.AdamwBranchRefIdeal.Read in
/-- One element of the first moment, of blocks that lie at row `a` and column `b` of their arrays. -/
theorem point_m (x0 : Vec Ideal S1x512x256 .bf16) (A0 : Vec Ideal S4x1024x256 .bf16) (x1 : Vec Ideal S3x512x256 .bf16) (A1 : Vec Ideal S3x1024x256 .bf16) (x3 : Vec Ideal S512x256 .f32) (A3 : Vec Ideal S1024x256 .f32) (a b : ℕ)
    (h0 : ∀ (y : S1x512x256.Idx) (I : S4x1024x256.Idx), (I 0).val = 0 → (I 1).val = a + (y 1).val → (I 2).val = b + (y 2).val → x0 y = A0 I)
    (h1 : ∀ (y : S3x512x256.Idx) (I : S3x1024x256.Idx), (I 0).val = (y 0).val → (I 1).val = a + (y 1).val → (I 2).val = b + (y 2).val → x1 y = A1 I)
    (h3 : ∀ (y : S512x256.Idx) (I : S1024x256.Idx), (I 0).val = a + (y 0).val → (I 1).val = b + (y 1).val → x3 y = A3 I)
    (y : S512x256.Idx) (I : S1024x256.Idx) (e0 : (I 0).val = a + (y 0).val) (e1 : (I 1).val = b + (y 1).val) :
    k0_pay3 x0 (View.ld x1 (Rect.unit ![0, 0, 0] ![1, 512, 256] inb_S3x512x256_S1x512x256_0_0_0)) (View.ld x1 (Rect.unit ![1, 0, 0] ![1, 512, 256] inb_S3x512x256_S1x512x256_1_0_0)) (View.ld x1 (Rect.unit ![2, 0, 0] ![1, 512, 256] inb_S3x512x256_S1x512x256_2_0_0)) x3 y
      = val_main_v10 (F := Ideal) A0 A1 A3 I := by
  rw [val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine first_eq (h3 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 7 is the reference's. -/
theorem final_m (c : Dev nD) : (dats m (ok m) 0 c).arrAt 7 (cfgM m (ok m)).N
    = Cert.AdamwBranchRefIdeal.Read.val_main_v10 (F := Ideal) (m ((c : Thread nD τ).loc main_arg0)) (m ((c : Thread nD τ).loc main_arg1)) (m ((c : Thread nD τ).loc main_arg3)) := by
  refine (dats m (ok m) 0 c).arrAt_eq_of_covers 7 _ ⟨?_, fun β => ?_⟩ fun t _ (y : S512x256.Idx) => ?_
  · exact (by decide : ∀ a : Fin 2, 0 < S512x256.size a)
  · have b0 : (β (0 : Fin 2)).val < 2 := lt_of_lt_of_eq (β (0 : Fin 2)).isLt (by show (1024 + 512 - 1) / 512 = 2; rfl)
    have b1 : (β (1 : Fin 2)).val < 1 := lt_of_lt_of_eq (β (1 : Fin 2)).isLt (by show (256 + 256 - 1) / 256 = 1; rfl)
    have hN : (β (0 : Fin 2)).val * 1 + (β (1 : Fin 2)).val < 2 := by omega
    refine ⟨(⟨(β (0 : Fin 2)).val * 1 + (β (1 : Fin 2)).val, hN⟩ : Fin 2), flush0_7 _ _, fun a => ⟨?_, .inl rfl⟩⟩
    have h := idx (⟨(β (0 : Fin 2)).val * 1 + (β (1 : Fin 2)).val, hN⟩ : Fin 2)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 7).rect t).emb y (0 : Fin 2) : Nat) = t.val / 1 * 512 + (y 0).val :=
      (Pipeline.Window.rect_emb_val ((cfgM m (ok m)).win 7) t y (0 : Fin 2) rfl).trans (congrArg (· * 512 + (y 0).val) (idx t).1)
    have h1 : ((((cfgM m (ok m)).win 7).rect t).emb y (1 : Fin 2) : Nat) = t.val % 1 * 256 + (y 1).val :=
      (Pipeline.Window.rect_emb_val ((cfgM m (ok m)).win 7) t y (1 : Fin 2) rfl).trans (congrArg (· * 256 + (y 1).val) (idx t).2)
    have e := left7 m (ok m) c t
    generalize (dats m (ok m) 0 c).after 7 t = o at e ⊢
    refine Eq.trans (b := o y) rfl ?_
    refine (congrFun e y).trans ?_
    exact (point_m _ _ _ _ _ _ (t.val / 1 * 512) (t.val % 1 * 256) (block0 m c t) (block1 m c t) (block3 m c t) y _ h0 h1)

open Cert.AdamwBranchRefIdeal.Read in
/-- One element of the second moment, of blocks that lie at row `a` and column `b` of their arrays. -/
theorem point_v (x0 : Vec Ideal S1x512x256 .bf16) (A0 : Vec Ideal S4x1024x256 .bf16) (x1 : Vec Ideal S3x512x256 .bf16) (A1 : Vec Ideal S3x1024x256 .bf16) (x4 : Vec Ideal S512x256 .f32) (A4 : Vec Ideal S1024x256 .f32) (a b : ℕ)
    (h0 : ∀ (y : S1x512x256.Idx) (I : S4x1024x256.Idx), (I 0).val = 0 → (I 1).val = a + (y 1).val → (I 2).val = b + (y 2).val → x0 y = A0 I)
    (h1 : ∀ (y : S3x512x256.Idx) (I : S3x1024x256.Idx), (I 0).val = (y 0).val → (I 1).val = a + (y 1).val → (I 2).val = b + (y 2).val → x1 y = A1 I)
    (h4 : ∀ (y : S512x256.Idx) (I : S1024x256.Idx), (I 0).val = a + (y 0).val → (I 1).val = b + (y 1).val → x4 y = A4 I)
    (y : S512x256.Idx) (I : S1024x256.Idx) (e0 : (I 0).val = a + (y 0).val) (e1 : (I 1).val = b + (y 1).val) :
    k0_pay4 x0 (View.ld x1 (Rect.unit ![0, 0, 0] ![1, 512, 256] inb_S3x512x256_S1x512x256_0_0_0)) (View.ld x1 (Rect.unit ![1, 0, 0] ![1, 512, 256] inb_S3x512x256_S1x512x256_1_0_0)) (View.ld x1 (Rect.unit ![2, 0, 0] ![1, 512, 256] inb_S3x512x256_S1x512x256_2_0_0)) x4 y
      = val_main_v16 (F := Ideal) A0 A1 A4 I := by
  rw [val_main_v16_apply, val_main_v15_apply, val_main_v14_apply, val_main_cst_3_apply, val_main_v13_apply, val_main_v12_apply, val_main_v11_apply, val_main_cst_2_apply, val_main_v5_apply, val_main_v4_apply, val_main_cst_apply, val_main_v2_apply, val_main_v1_apply, val_main_v0_apply]
  pointwise [k0_pay1, k0_pay2, k0_pay3, k0_pay4, k0_pay5, k0_pay6]
  refine second_eq (h4 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 8 is the reference's. -/
theorem final_v (c : Dev nD) : (dats m (ok m) 0 c).arrAt 8 (cfgM m (ok m)).N
    = Cert.AdamwBranchRefIdeal.Read.val_main_v16 (F := Ideal) (m ((c : Thread nD τ).loc main_arg0)) (m ((c : Thread nD τ).loc main_arg1)) (m ((c : Thread nD τ).loc main_arg4)) := by
  refine (dats m (ok m) 0 c).arrAt_eq_of_covers 8 _ ⟨?_, fun β => ?_⟩ fun t _ (y : S512x256.Idx) => ?_
  · exact (by decide : ∀ a : Fin 2, 0 < S512x256.size a)
  · have b0 : (β (0 : Fin 2)).val < 2 := lt_of_lt_of_eq (β (0 : Fin 2)).isLt (by show (1024 + 512 - 1) / 512 = 2; rfl)
    have b1 : (β (1 : Fin 2)).val < 1 := lt_of_lt_of_eq (β (1 : Fin 2)).isLt (by show (256 + 256 - 1) / 256 = 1; rfl)
    have hN : (β (0 : Fin 2)).val * 1 + (β (1 : Fin 2)).val < 2 := by omega
    refine ⟨(⟨(β (0 : Fin 2)).val * 1 + (β (1 : Fin 2)).val, hN⟩ : Fin 2), flush0_8 _ _, fun a => ⟨?_, .inl rfl⟩⟩
    have h := idx (⟨(β (0 : Fin 2)).val * 1 + (β (1 : Fin 2)).val, hN⟩ : Fin 2)
    match a with
    | ⟨0, _⟩ => exact h.1.trans (by show ((β (0 : Fin 2)).val * 1 + (β (1 : Fin 2)).val) / 1 = (β (0 : Fin 2)).val; omega)
    | ⟨1, _⟩ => exact h.2.trans (by show ((β (0 : Fin 2)).val * 1 + (β (1 : Fin 2)).val) % 1 = (β (1 : Fin 2)).val; omega)
  · have h0 : ((((cfgM m (ok m)).win 8).rect t).emb y (0 : Fin 2) : Nat) = t.val / 1 * 512 + (y 0).val :=
      (Pipeline.Window.rect_emb_val ((cfgM m (ok m)).win 8) t y (0 : Fin 2) rfl).trans (congrArg (· * 512 + (y 0).val) (idx t).1)
    have h1 : ((((cfgM m (ok m)).win 8).rect t).emb y (1 : Fin 2) : Nat) = t.val % 1 * 256 + (y 1).val :=
      (Pipeline.Window.rect_emb_val ((cfgM m (ok m)).win 8) t y (1 : Fin 2) rfl).trans (congrArg (· * 256 + (y 1).val) (idx t).2)
    have e := left8 m (ok m) c t
    generalize (dats m (ok m) 0 c).after 8 t = o at e ⊢
    refine Eq.trans (b := o y) rfl ?_
    refine (congrFun e y).trans ?_
    exact (point_v _ _ _ _ _ _ (t.val / 1 * 512) (t.val % 1 * 256) (block0 m c t) (block1 m c t) (block4 m c t) y _ h0 h1)

/-- Every execution ends with the four result arrays at what the blocks leave, and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.AdamwBranchIdeal.Value

end
-- ==== Proof.AdamwOutValue.lean ====
/- The last step of a split reduction of the gradient of the output projection, and one AdamW step with it. -/
module

public import proofs.«01_k».proof.Proof.Gen.AdamwOut.Frame
public import proofs.«01_k».proof.Proof.Gen.AdamwOutIdeal.Frame
public import proofs.«01_k».proof.Proof.Gen.AdamwOutRefIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.AdamwOut.Value
open Cert.AdamwOut Cert.AdamwOut.Gen

variable (m : (ℓ : Loc nD τ sig) → Buf (Elt Bits) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x256x1024.size a
      ≤ S4x256x2048.size a := by
  decide +kernel

/-- Each block of the first window lies in its array. -/
theorem ok : Ok m := fun i => by
  refine ⟨fun a => ?_, .inr (Affine.block_words_dvd (of_decide_eq_true rfl) (by decide))⟩
  rw [transform_zero]
  exact block_in i a

end Cert.AdamwOut.Value

namespace Cert.AdamwOutIdeal.Value
open Cert.AdamwOutIdeal Cert.AdamwOutIdeal.Gen

variable (m : (ℓ : Loc nD τ sig) → Buf (Elt Ideal) ℓ)

/-- The table holds the number 0. -/
theorem tbl_zero : tbl m 0 = fun _ => 0#32 := by
  show StableHlo.after hostOps0 (fun b => m ((0 : Dev nD), b)) main_v0 = _
  unfold hostOps0
  after_results_simp
  rfl

/-- The first window's index map, the table being 0. -/
theorem transform_zero (i : grid0.Coords) : cc0_transform_0 Facts₀.inb_S1_S1_0 Facts₀.numel1_S1 (tbl m) i
    = ![0, (BitVec.ofNat 32 (i 0).val).toNat, (BitVec.ofNat 32 (i 1).val).toNat] := by
  unfold cc0_transform_0 Pipeline.Prefetch.Contents.at
  rw [tbl_zero]; rfl

/-- The block that the first window's map names lies in its array. -/
theorem block_in : ∀ (i : grid0.Coords) (a : Fin 3),
    ((![0, (BitVec.ofNat 32 (i 0).val).toNat, (BitVec.ofNat 32 (i 1).val).toNat] : Fin 3 → ℕ) a + 1) * S1x256x1024.size a
      ≤ S4x256x2048.size a := by
  decide +kernel

/-- Each block of the first window lies in its array. -/
theorem ok : Ok m := fun i => by
  refine ⟨fun a => ?_, .inr (Affine.block_words_dvd (of_decide_eq_true rfl) (by decide))⟩
  rw [transform_zero]
  exact block_in i a

/-- Which block a window holds at each grid point. -/
theorem idx : ∀ t : Fin grid0.N, (BitVec.ofNat 32 (grid0.coords t 0).val).toNat = t.val / 2
    ∧ (BitVec.ofNat 32 (grid0.coords t 1).val).toNat = t.val % 2 := by
  decide +kernel

/-- The first window's block at a point is rows and columns of its array. -/
theorem block0 (c : Dev nD) (t : Fin (cfgM m (ok m)).N) (y : S1x256x1024.Idx) (I : S4x256x2048.Idx) (e0 : (I 0).val = 0)
    (e1 : (I 1).val = t.val / 2 * 256 + (y 1).val) (e2 : (I 2).val = t.val % 2 * 1024 + (y 2).val) :
    iblk m (ok m) c 0 t y = m ((c : Thread nD τ).loc main_arg0) I := by
  show V m c main_arg0 ((((cfgM m (ok m)).win 0).rect t).emb y) = _
  rw [V_main_arg0]
  refine congrArg (m ((c : Thread nD τ).loc main_arg0)) (funext fun a => Fin.ext ?_)
  rw [Pipeline.Window.rect_emb_val _ t y a rfl]
  have h : ((cfgM m (ok m)).win 0).index t = _ := transform_zero m (grid0.coords t)
  rw [h, (idx t).1, (idx t).2]
  have hy : (y 0).val < 1 := (y 0).isLt
  match a with
  | ⟨0, _⟩ => show 0 * 1 + (y 0).val = (I 0).val; omega
  | ⟨1, _⟩ => exact e1.symm
  | ⟨2, _⟩ => exact e2.symm

/-- The second window's. -/
theorem block1 (c : Dev nD) (t : Fin (cfgM m (ok m)).N) (y : S3x256x1024.Idx) (I : S3x256x2048.Idx) (e0 : (I 0).val = (y 0).val)
    (e1 : (I 1).val = t.val / 2 * 256 + (y 1).val) (e2 : (I 2).val = t.val % 2 * 1024 + (y 2).val) :
    iblk m (ok m) c 1 t y = m ((c : Thread nD τ).loc main_arg1) I := by
  show V m c main_arg1 ((((cfgM m (ok m)).win 1).rect t).emb y) = _
  rw [V_main_arg1]
  refine congrArg (m ((c : Thread nD τ).loc main_arg1)) (funext fun a => Fin.ext ?_)
  rw [Pipeline.Window.rect_emb_val _ t y a rfl]
  have h : ((cfgM m (ok m)).win 1).index t = ![0, (BitVec.ofNat 32 (grid0.coords t 0).val).toNat, (BitVec.ofNat 32 (grid0.coords t 1).val).toNat] := rfl
  rw [h, (idx t).1, (idx t).2]
  match a with
  | ⟨0, _⟩ => show 0 * 3 + (y 0).val = (I 0).val; omega
  | ⟨1, _⟩ => exact e1.symm
  | ⟨2, _⟩ => exact e2.symm

/-- Window 2's. -/
theorem block2 (c : Dev nD) (t : Fin (cfgM m (ok m)).N) (y : S256x1024.Idx) (I : S256x2048.Idx)
    (e0 : (I 0).val = t.val / 2 * 256 + (y 0).val) (e1 : (I 1).val = t.val % 2 * 1024 + (y 1).val) :
    iblk m (ok m) c 2 t y = m ((c : Thread nD τ).loc main_arg2) I := by
  show V m c main_arg2 ((((cfgM m (ok m)).win 2).rect t).emb y) = _
  rw [V_main_arg2]
  refine congrArg (m ((c : Thread nD τ).loc main_arg2)) (funext fun a => Fin.ext ?_)
  rw [Pipeline.Window.rect_emb_val _ t y a rfl]
  have h : ((cfgM m (ok m)).win 2).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 3's. -/
theorem block3 (c : Dev nD) (t : Fin (cfgM m (ok m)).N) (y : S256x1024.Idx) (I : S256x2048.Idx)
    (e0 : (I 0).val = t.val / 2 * 256 + (y 0).val) (e1 : (I 1).val = t.val % 2 * 1024 + (y 1).val) :
    iblk m (ok m) c 3 t y = m ((c : Thread nD τ).loc main_arg3) I := by
  show V m c main_arg3 ((((cfgM m (ok m)).win 3).rect t).emb y) = _
  rw [V_main_arg3]
  refine congrArg (m ((c : Thread nD τ).loc main_arg3)) (funext fun a => Fin.ext ?_)
  rw [Pipeline.Window.rect_emb_val _ t y a rfl]
  have h : ((cfgM m (ok m)).win 3).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Window 4's. -/
theorem block4 (c : Dev nD) (t : Fin (cfgM m (ok m)).N) (y : S256x1024.Idx) (I : S256x2048.Idx)
    (e0 : (I 0).val = t.val / 2 * 256 + (y 0).val) (e1 : (I 1).val = t.val % 2 * 1024 + (y 1).val) :
    iblk m (ok m) c 4 t y = m ((c : Thread nD τ).loc main_arg4) I := by
  show V m c main_arg4 ((((cfgM m (ok m)).win 4).rect t).emb y) = _
  rw [V_main_arg4]
  refine congrArg (m ((c : Thread nD τ).loc main_arg4)) (funext fun a => Fin.ext ?_)
  rw [Pipeline.Window.rect_emb_val _ t y a rfl]
  have h : ((cfgM m (ok m)).win 4).index t = ![(BitVec.ofNat 32 (grid0.coords t 0).val).toNat, (BitVec.ofNat 32 (grid0.coords t 1).val).toNat] := rfl
  rw [h, (idx t).1, (idx t).2]
  match a with
  | ⟨0, _⟩ => exact e0.symm
  | ⟨1, _⟩ => exact e1.symm

/-- Own partial sum and the three received ones, added one by one, are their sum. -/
theorem sum_four {s s' x0 x1 x2 : EReal} {f : Fin 3 → EReal} (h : s = s') (h0 : x0 = f 0) (h1 : x1 = f 1) (h2 : x2 = f 2) :
    s + x0 + x1 + x2 = s' + ∑ k, f k := by
  subst h h0 h1 h2
  rw [Fin.sum_univ_three, add_assoc, add_assoc, add_assoc]

/-- The first moment, of equal gradients. -/
theorem first_eq {a b m m' g g' : EReal} (hm : m = m') (hg : g = g') : a * m + b * g = a * m' + b * g' := by
  subst hm hg; rfl

/-- The second moment, of equal gradients. -/
theorem second_eq {a b v v' g g' : EReal} (hv : v = v') (hg : g = g') : a * v + b * (g * g) = a * v' + b * (g' * g') := by
  subst hv hg; rfl

/-- The update, of equal moments. -/
theorem update_eq {a d e p q f' f w w' v v' : EReal} (hf : f = f') (hv : v = v') (hw : w = w') :
    a * (Ideal.div (Ideal.div f d) (Ideal.sqrt (Ideal.div v e) + p) + q * w)
      = a * (Ideal.div (Ideal.div f' d) (Ideal.sqrt (Ideal.div v' e) + p) + q * w') := by
  subst hf hv hw; rfl

open Cert.AdamwOutRefIdeal.Read in
/-- The row of the first partial sum that the reference reads. -/
theorem row_eq (I : S256x2048.Idx) : (idx_main_v0 (idx_main_v1 I) (1 : Fin 3)).val = (I 0).val := by
  have i0 : (I 0).val < 256 := (I 0).isLt
  have i1 : (I 1).val < 2048 := (I 1).isLt
  show ((I 0).val * 2048 + (I 1).val) / 2048 % 256 = (I 0).val
  omega

open Cert.AdamwOutRefIdeal.Read in
/-- Its column. -/
theorem col_eq (I : S256x2048.Idx) : (idx_main_v0 (idx_main_v1 I) (2 : Fin 3)).val = (I 1).val := by
  have i0 : (I 0).val < 256 := (I 0).isLt
  have i1 : (I 1).val < 2048 := (I 1).isLt
  show ((I 0).val * 2048 + (I 1).val) % 2048 = (I 1).val
  omega

/-- What the body leaves in window 5's block at a point, of the blocks of its inputs. -/
theorem left5 (hO : Ok m) (c : Dev nD) (t : Fin (cfgM m hO).N) : (dats m hO 0 c).after 5 t
    = k0_pay2 (iblk m hO c 0 t) (View.ld (iblk m hO c 1 t) (Rect.unit ![0, 0, 0] ![1, 256, 1024] inb_S3x256x1024_S1x256x1024_0_0_0)) (View.ld (iblk m hO c 1 t) (Rect.unit ![1, 0, 0] ![1, 256, 1024] inb_S3x256x1024_S1x256x1024_1_0_0)) (View.ld (iblk m hO c 1 t) (Rect.unit ![2, 0, 0] ![1, 256, 1024] inb_S3x256x1024_S1x256x1024_2_0_0)) := by
  rw [after0_5]; unfold outsAt0
  frame_out
  have r0 := (hs0_0 m hO t).read_unread (iblk m hO c 0 t)
  have r1 := (hs0_1 m hO t).read_unread (iblk m hO c 1 t)
  rw [r0, r1]
  rfl

/-- What the body leaves in window 6's block at a point, of the blocks of its inputs. -/
theorem left6 (hO : Ok m) (c : Dev nD) (t : Fin (cfgM m hO).N) : (dats m hO 0 c).after 6 t
    = k0_pay1 (iblk m hO c 2 t) (k0_pay5 (iblk m hO c 0 t) (View.ld (iblk m hO c 1 t) (Rect.unit ![0, 0, 0] ![1, 256, 1024] inb_S3x256x1024_S1x256x1024_0_0_0)) (View.ld (iblk m hO c 1 t) (Rect.unit ![1, 0, 0] ![1, 256, 1024] inb_S3x256x1024_S1x256x1024_1_0_0)) (View.ld (iblk m hO c 1 t) (Rect.unit ![2, 0, 0] ![1, 256, 1024] inb_S3x256x1024_S1x256x1024_2_0_0)) (iblk m hO c 3 t)) (k0_pay6 (iblk m hO c 0 t) (View.ld (iblk m hO c 1 t) (Rect.unit ![0, 0, 0] ![1, 256, 1024] inb_S3x256x1024_S1x256x1024_0_0_0)) (View.ld (iblk m hO c 1 t) (Rect.unit ![1, 0, 0] ![1, 256, 1024] inb_S3x256x1024_S1x256x1024_1_0_0)) (View.ld (iblk m hO c 1 t) (Rect.unit ![2, 0, 0] ![1, 256, 1024] inb_S3x256x1024_S1x256x1024_2_0_0)) (iblk m hO c 4 t)) := by
  rw [after0_6]; unfold outsAt0
  frame_out
  have r0 := (hs0_0 m hO t).read_unread (iblk m hO c 0 t)
  have r1 := (hs0_1 m hO t).read_unread (iblk m hO c 1 t)
  have r2 := (hs0_2 m hO t).read_unread (iblk m hO c 2 t)
  have r3 := (hs0_3 m hO t).read_unread (iblk m hO c 3 t)
  have r4 := (hs0_4 m hO t).read_unread (iblk m hO c 4 t)
  rw [r0, r1, r2, r3, r4]
  rfl

/-- What the body leaves in window 7's block at a point, of the blocks of its inputs. -/
theorem left7 (hO : Ok m) (c : Dev nD) (t : Fin (cfgM m hO).N) : (dats m hO 0 c).after 7 t
    = k0_pay3 (iblk m hO c 0 t) (View.ld (iblk m hO c 1 t) (Rect.unit ![0, 0, 0] ![1, 256, 1024] inb_S3x256x1024_S1x256x1024_0_0_0)) (View.ld (iblk m hO c 1 t) (Rect.unit ![1, 0, 0] ![1, 256, 1024] inb_S3x256x1024_S1x256x1024_1_0_0)) (View.ld (iblk m hO c 1 t) (Rect.unit ![2, 0, 0] ![1, 256, 1024] inb_S3x256x1024_S1x256x1024_2_0_0)) (iblk m hO c 3 t) := by
  rw [after0_7]; unfold outsAt0
  frame_out
  have r0 := (hs0_0 m hO t).read_unread (iblk m hO c 0 t)
  have r1 := (hs0_1 m hO t).read_unread (iblk m hO c 1 t)
  have r3 := (hs0_3 m hO t).read_unread (iblk m hO c 3 t)
  rw [r0, r1, r3]
  rfl

/-- What the body leaves in window 8's block at a point, of the blocks of its inputs. -/
theorem left8 (hO : Ok m) (c : Dev nD) (t : Fin (cfgM m hO).N) : (dats m hO 0 c).after 8 t
    = k0_pay4 (iblk m hO c 0 t) (View.ld (iblk m hO c 1 t) (Rect.unit ![0, 0, 0] ![1, 256, 1024] inb_S3x256x1024_S1x256x1024_0_0_0)) (View.ld (iblk m hO c 1 t) (Rect.unit ![1, 0, 0] ![1, 256, 1024] inb_S3x256x1024_S1x256x1024_1_0_0)) (View.ld (iblk m hO c 1 t) (Rect.unit ![2, 0, 0] ![1, 256, 1024] inb_S3x256x1024_S1x256x1024_2_0_0)) (iblk m hO c 4 t) := by
  rw [after0_8]; unfold outsAt0
  frame_out
  have r0 := (hs0_0 m hO t).read_unread (iblk m hO c 0 t)
  have r1 := (hs0_1 m hO t).read_unread (iblk m hO c 1 t)
  have r4 := (hs0_4 m hO t).read_unread (iblk m hO c 4 t)
  rw [r0, r1, r4]
  rfl

open Cert.AdamwOutRefIdeal.Read in
/-- One element of the summed gradient, of blocks that lie at row `a` and column `b` of their arrays. -/
theorem point_grad (x0 : Vec Ideal S1x256x1024 .bf16) (A0 : Vec Ideal S4x256x2048 .bf16) (x1 : Vec Ideal S3x256x1024 .bf16) (A1 : Vec Ideal S3x256x2048 .bf16) (a b : ℕ)
    (h0 : ∀ (y : S1x256x1024.Idx) (I : S4x256x2048.Idx), (I 0).val = 0 → (I 1).val = a + (y 1).val → (I 2).val = b + (y 2).val → x0 y = A0 I)
    (h1 : ∀ (y : S3x256x1024.Idx) (I : S3x256x2048.Idx), (I 0).val = (y 0).val → (I 1).val = a + (y 1).val → (I 2).val = b + (y 2).val → x1 y = A1 I)
    (y : S256x1024.Idx) (I : S256x2048.Idx) (e0 : (I 0).val = a + (y 0).val) (e1 : (I 1).val = b + (y 1).val) :
    k0_pay2 x0 (View.ld x1 (Rect.unit ![0, 0, 0] ![1, 256, 1024] inb_S3x256x1024_S1x256x1024_0_0_0)) (View.ld x1 (Rect.unit ![1, 0, 0] ![1, 256, 1024] inb_S3x256x1024_S1x256x1024_1_0_0)) (View.ld x1 (Rect.unit ![2, 0, 0] ![1, 256, 1024] inb_S3x256x1024_S1x256x1024_2_0_0)) y
      = val_main_v5 (F := Ideal) A0 A1 I := by
  rw [val_main_v5_apply, val_main_v4_apply, val_main_cst_apply, val_main_v2_apply, val_main_v1_apply, val_main_v0_apply]
  pointwise [k0_pay1, k0_pay2, k0_pay3, k0_pay4, k0_pay5, k0_pay6]
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 5 is the reference's. -/
theorem final_grad (c : Dev nD) : (dats m (ok m) 0 c).arrAt 5 (cfgM m (ok m)).N
    = Cert.AdamwOutRefIdeal.Read.val_main_v5 (F := Ideal) (m ((c : Thread nD τ).loc main_arg0)) (m ((c : Thread nD τ).loc main_arg1)) := by
  refine (dats m (ok m) 0 c).arrAt_eq_of_covers 5 _ ⟨?_, fun β => ?_⟩ fun t _ (y : S256x1024.Idx) => ?_
  · exact (by decide : ∀ a : Fin 2, 0 < S256x1024.size a)
  · have b0 : (β (0 : Fin 2)).val < 1 := lt_of_lt_of_eq (β (0 : Fin 2)).isLt (by show (256 + 256 - 1) / 256 = 1; rfl)
    have b1 : (β (1 : Fin 2)).val < 2 := lt_of_lt_of_eq (β (1 : Fin 2)).isLt (by show (2048 + 1024 - 1) / 1024 = 2; rfl)
    have hN : (β (0 : Fin 2)).val * 2 + (β (1 : Fin 2)).val < 2 := by omega
    refine ⟨(⟨(β (0 : Fin 2)).val * 2 + (β (1 : Fin 2)).val, hN⟩ : Fin 2), flush0_5 _ _, fun a => ⟨?_, .inl rfl⟩⟩
    have h := idx (⟨(β (0 : Fin 2)).val * 2 + (β (1 : Fin 2)).val, hN⟩ : Fin 2)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 5).rect t).emb y (0 : Fin 2) : Nat) = t.val / 2 * 256 + (y 0).val :=
      (Pipeline.Window.rect_emb_val ((cfgM m (ok m)).win 5) t y (0 : Fin 2) rfl).trans (congrArg (· * 256 + (y 0).val) (idx t).1)
    have h1 : ((((cfgM m (ok m)).win 5).rect t).emb y (1 : Fin 2) : Nat) = t.val % 2 * 1024 + (y 1).val :=
      (Pipeline.Window.rect_emb_val ((cfgM m (ok m)).win 5) t y (1 : Fin 2) rfl).trans (congrArg (· * 1024 + (y 1).val) (idx t).2)
    have e := left5 m (ok m) c t
    generalize (dats m (ok m) 0 c).after 5 t = o at e ⊢
    refine Eq.trans (b := o y) rfl ?_
    refine (congrFun e y).trans ?_
    exact (point_grad _ _ _ _ (t.val / 2 * 256) (t.val % 2 * 1024) (block0 m c t) (block1 m c t) y _ h0 h1)

open Cert.AdamwOutRefIdeal.Read in
/-- One element of the update, of blocks that lie at row `a` and column `b` of their arrays. -/
theorem point_delta (x0 : Vec Ideal S1x256x1024 .bf16) (A0 : Vec Ideal S4x256x2048 .bf16) (x1 : Vec Ideal S3x256x1024 .bf16) (A1 : Vec Ideal S3x256x2048 .bf16) (x2 : Vec Ideal S256x1024 .f32) (A2 : Vec Ideal S256x2048 .f32) (x3 : Vec Ideal S256x1024 .f32) (A3 : Vec Ideal S256x2048 .f32) (x4 : Vec Ideal S256x1024 .f32) (A4 : Vec Ideal S256x2048 .f32) (a b : ℕ)
    (h0 : ∀ (y : S1x256x1024.Idx) (I : S4x256x2048.Idx), (I 0).val = 0 → (I 1).val = a + (y 1).val → (I 2).val = b + (y 2).val → x0 y = A0 I)
    (h1 : ∀ (y : S3x256x1024.Idx) (I : S3x256x2048.Idx), (I 0).val = (y 0).val → (I 1).val = a + (y 1).val → (I 2).val = b + (y 2).val → x1 y = A1 I)
    (h2 : ∀ (y : S256x1024.Idx) (I : S256x2048.Idx), (I 0).val = a + (y 0).val → (I 1).val = b + (y 1).val → x2 y = A2 I)
    (h3 : ∀ (y : S256x1024.Idx) (I : S256x2048.Idx), (I 0).val = a + (y 0).val → (I 1).val = b + (y 1).val → x3 y = A3 I)
    (h4 : ∀ (y : S256x1024.Idx) (I : S256x2048.Idx), (I 0).val = a + (y 0).val → (I 1).val = b + (y 1).val → x4 y = A4 I)
    (y : S256x1024.Idx) (I : S256x2048.Idx) (e0 : (I 0).val = a + (y 0).val) (e1 : (I 1).val = b + (y 1).val) :
    k0_pay1 x2 (k0_pay5 x0 (View.ld x1 (Rect.unit ![0, 0, 0] ![1, 256, 1024] inb_S3x256x1024_S1x256x1024_0_0_0)) (View.ld x1 (Rect.unit ![1, 0, 0] ![1, 256, 1024] inb_S3x256x1024_S1x256x1024_1_0_0)) (View.ld x1 (Rect.unit ![2, 0, 0] ![1, 256, 1024] inb_S3x256x1024_S1x256x1024_2_0_0)) x3) (k0_pay6 x0 (View.ld x1 (Rect.unit ![0, 0, 0] ![1, 256, 1024] inb_S3x256x1024_S1x256x1024_0_0_0)) (View.ld x1 (Rect.unit ![1, 0, 0] ![1, 256, 1024] inb_S3x256x1024_S1x256x1024_1_0_0)) (View.ld x1 (Rect.unit ![2, 0, 0] ![1, 256, 1024] inb_S3x256x1024_S1x256x1024_2_0_0)) x4) y
      = val_main_v29 (F := Ideal) A0 A1 A2 A3 A4 I := by
  rw [val_main_v29_apply, val_main_v28_apply, val_main_cst_8_apply, val_main_v27_apply, val_main_v26_apply, val_main_v25_apply, val_main_cst_7_apply, val_main_v24_apply, val_main_v23_apply, val_main_v22_apply, val_main_cst_6_apply, val_main_v21_apply, val_main_v20_apply, val_main_v19_apply, val_main_cst_5_apply, val_main_v18_apply, val_main_v17_apply, val_main_cst_4_apply, val_main_v16_apply, val_main_v15_apply, val_main_v14_apply, val_main_cst_3_apply, val_main_v13_apply, val_main_v12_apply, val_main_v11_apply, val_main_cst_2_apply, val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine update_eq (first_eq (h3 _ _ e0 e1) ?_) (second_eq (h4 _ _ e0 e1) ?_) (h2 _ _ e0 e1)
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1
  · refine sum_four (h0 _ _ ?_ ?_ ?_) (h1 _ (idx_main_v4 I 0) rfl e0 e1) (h1 _ (idx_main_v4 I 1) rfl e0 e1) (h1 _ (idx_main_v4 I 2) rfl e0 e1)
    · rfl
    · exact (row_eq I).trans e0
    · exact (col_eq I).trans e1

/-- After the run the array of window 6 is the reference's. -/
theorem final_delta (c : Dev nD) : (dats m (ok m) 0 c).arrAt 6 (cfgM m (ok m)).N
    = Cert.AdamwOutRefIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ ⟨?_, fun β => ?_⟩ fun t _ (y : S256x1024.Idx) => ?_
  · exact (by decide : ∀ a : Fin 2, 0 < S256x1024.size a)
  · have b0 : (β (0 : Fin 2)).val < 1 := lt_of_lt_of_eq (β (0 : Fin 2)).isLt (by show (256 + 256 - 1) / 256 = 1; rfl)
    have b1 : (β (1 : Fin 2)).val < 2 := lt_of_lt_of_eq (β (1 : Fin 2)).isLt (by show (2048 + 1024 - 1) / 1024 = 2; rfl)
    have hN : (β (0 : Fin 2)).val * 2 + (β (1 : Fin 2)).val < 2 := by omega
    refine ⟨(⟨(β (0 : Fin 2)).val * 2 + (β (1 : Fin 2)).val, hN⟩ : Fin 2), flush0_6 _ _, fun a => ⟨?_, .inl rfl⟩⟩
    have h := idx (⟨(β (0 : Fin 2)).val * 2 + (β (1 : Fin 2)).val, hN⟩ : Fin 2)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 6).rect t).emb y (0 : Fin 2) : Nat) = t.val / 2 * 256 + (y 0).val :=
      (Pipeline.Window.rect_emb_val ((cfgM m (ok m)).win 6) t y (0 : Fin 2) rfl).trans (congrArg (· * 256 + (y 0).val) (idx t).1)
    have h1 : ((((cfgM m (ok m)).win 6).rect t).emb y (1 : Fin 2) : Nat) = t.val % 2 * 1024 + (y 1).val :=
      (Pipeline.Window.rect_emb_val ((cfgM m (ok m)).win 6) t y (1 : Fin 2) rfl).trans (congrArg (· * 1024 + (y 1).val) (idx t).2)
    have e := left6 m (ok m) c t
    generalize (dats m (ok m) 0 c).after 6 t = o at e ⊢
    refine Eq.trans (b := o y) rfl ?_
    refine (congrFun e y).trans ?_
    exact (point_delta _ _ _ _ _ _ _ _ _ _ (t.val / 2 * 256) (t.val % 2 * 1024) (block0 m c t) (block1 m c t) (block2 m c t) (block3 m c t) (block4 m c t) y _ h0 h1)

open Cert.AdamwOutRefIdeal.Read in
/-- One element of the first moment, of blocks that lie at row `a` and column `b` of their arrays. -/
theorem point_m (x0 : Vec Ideal S1x256x1024 .bf16) (A0 : Vec Ideal S4x256x2048 .bf16) (x1 : Vec Ideal S3x256x1024 .bf16) (A1 : Vec Ideal S3x256x2048 .bf16) (x3 : Vec Ideal S256x1024 .f32) (A3 : Vec Ideal S256x2048 .f32) (a b : ℕ)
    (h0 : ∀ (y : S1x256x1024.Idx) (I : S4x256x2048.Idx), (I 0).val = 0 → (I 1).val = a + (y 1).val → (I 2).val = b + (y 2).val → x0 y = A0 I)
    (h1 : ∀ (y : S3x256x1024.Idx) (I : S3x256x2048.Idx), (I 0).val = (y 0).val → (I 1).val = a + (y 1).val → (I 2).val = b + (y 2).val → x1 y = A1 I)
    (h3 : ∀ (y : S256x1024.Idx) (I : S256x2048.Idx), (I 0).val = a + (y 0).val → (I 1).val = b + (y 1).val → x3 y = A3 I)
    (y : S256x1024.Idx) (I : S256x2048.Idx) (e0 : (I 0).val = a + (y 0).val) (e1 : (I 1).val = b + (y 1).val) :
    k0_pay3 x0 (View.ld x1 (Rect.unit ![0, 0, 0] ![1, 256, 1024] inb_S3x256x1024_S1x256x1024_0_0_0)) (View.ld x1 (Rect.unit ![1, 0, 0] ![1, 256, 1024] inb_S3x256x1024_S1x256x1024_1_0_0)) (View.ld x1 (Rect.unit ![2, 0, 0] ![1, 256, 1024] inb_S3x256x1024_S1x256x1024_2_0_0)) x3 y
      = val_main_v10 (F := Ideal) A0 A1 A3 I := by
  rw [val_main_v10_apply, val_main_v9_apply, val_main_v8_apply, val_main_cst_1_apply, val_main_v7_apply, val_main_v6_apply, val_main_cst_0_apply, val_main_v5_apply, val_main_v4_apply, val_main_cst_apply, val_main_v2_apply, val_main_v1_apply, val_main_v0_apply]
  pointwise [k0_pay1, k0_pay2, k0_pay3, k0_pay4, k0_pay5, k0_pay6]
  refine first_eq (h3 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 7 is the reference's. -/
theorem final_m (c : Dev nD) : (dats m (ok m) 0 c).arrAt 7 (cfgM m (ok m)).N
    = Cert.AdamwOutRefIdeal.Read.val_main_v10 (F := Ideal) (m ((c : Thread nD τ).loc main_arg0)) (m ((c : Thread nD τ).loc main_arg1)) (m ((c : Thread nD τ).loc main_arg3)) := by
  refine (dats m (ok m) 0 c).arrAt_eq_of_covers 7 _ ⟨?_, fun β => ?_⟩ fun t _ (y : S256x1024.Idx) => ?_
  · exact (by decide : ∀ a : Fin 2, 0 < S256x1024.size a)
  · have b0 : (β (0 : Fin 2)).val < 1 := lt_of_lt_of_eq (β (0 : Fin 2)).isLt (by show (256 + 256 - 1) / 256 = 1; rfl)
    have b1 : (β (1 : Fin 2)).val < 2 := lt_of_lt_of_eq (β (1 : Fin 2)).isLt (by show (2048 + 1024 - 1) / 1024 = 2; rfl)
    have hN : (β (0 : Fin 2)).val * 2 + (β (1 : Fin 2)).val < 2 := by omega
    refine ⟨(⟨(β (0 : Fin 2)).val * 2 + (β (1 : Fin 2)).val, hN⟩ : Fin 2), flush0_7 _ _, fun a => ⟨?_, .inl rfl⟩⟩
    have h := idx (⟨(β (0 : Fin 2)).val * 2 + (β (1 : Fin 2)).val, hN⟩ : Fin 2)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 7).rect t).emb y (0 : Fin 2) : Nat) = t.val / 2 * 256 + (y 0).val :=
      (Pipeline.Window.rect_emb_val ((cfgM m (ok m)).win 7) t y (0 : Fin 2) rfl).trans (congrArg (· * 256 + (y 0).val) (idx t).1)
    have h1 : ((((cfgM m (ok m)).win 7).rect t).emb y (1 : Fin 2) : Nat) = t.val % 2 * 1024 + (y 1).val :=
      (Pipeline.Window.rect_emb_val ((cfgM m (ok m)).win 7) t y (1 : Fin 2) rfl).trans (congrArg (· * 1024 + (y 1).val) (idx t).2)
    have e := left7 m (ok m) c t
    generalize (dats m (ok m) 0 c).after 7 t = o at e ⊢
    refine Eq.trans (b := o y) rfl ?_
    refine (congrFun e y).trans ?_
    exact (point_m _ _ _ _ _ _ (t.val / 2 * 256) (t.val % 2 * 1024) (block0 m c t) (block1 m c t) (block3 m c t) y _ h0 h1)

open Cert.AdamwOutRefIdeal.Read in
/-- One element of the second moment, of blocks that lie at row `a` and column `b` of their arrays. -/
theorem point_v (x0 : Vec Ideal S1x256x1024 .bf16) (A0 : Vec Ideal S4x256x2048 .bf16) (x1 : Vec Ideal S3x256x1024 .bf16) (A1 : Vec Ideal S3x256x2048 .bf16) (x4 : Vec Ideal S256x1024 .f32) (A4 : Vec Ideal S256x2048 .f32) (a b : ℕ)
    (h0 : ∀ (y : S1x256x1024.Idx) (I : S4x256x2048.Idx), (I 0).val = 0 → (I 1).val = a + (y 1).val → (I 2).val = b + (y 2).val → x0 y = A0 I)
    (h1 : ∀ (y : S3x256x1024.Idx) (I : S3x256x2048.Idx), (I 0).val = (y 0).val → (I 1).val = a + (y 1).val → (I 2).val = b + (y 2).val → x1 y = A1 I)
    (h4 : ∀ (y : S256x1024.Idx) (I : S256x2048.Idx), (I 0).val = a + (y 0).val → (I 1).val = b + (y 1).val → x4 y = A4 I)
    (y : S256x1024.Idx) (I : S256x2048.Idx) (e0 : (I 0).val = a + (y 0).val) (e1 : (I 1).val = b + (y 1).val) :
    k0_pay4 x0 (View.ld x1 (Rect.unit ![0, 0, 0] ![1, 256, 1024] inb_S3x256x1024_S1x256x1024_0_0_0)) (View.ld x1 (Rect.unit ![1, 0, 0] ![1, 256, 1024] inb_S3x256x1024_S1x256x1024_1_0_0)) (View.ld x1 (Rect.unit ![2, 0, 0] ![1, 256, 1024] inb_S3x256x1024_S1x256x1024_2_0_0)) x4 y
      = val_main_v16 (F := Ideal) A0 A1 A4 I := by
  rw [val_main_v16_apply, val_main_v15_apply, val_main_v14_apply, val_main_cst_3_apply, val_main_v13_apply, val_main_v12_apply, val_main_v11_apply, val_main_cst_2_apply, val_main_v5_apply, val_main_v4_apply, val_main_cst_apply, val_main_v2_apply, val_main_v1_apply, val_main_v0_apply]
  pointwise [k0_pay1, k0_pay2, k0_pay3, k0_pay4, k0_pay5, k0_pay6]
  refine second_eq (h4 _ _ e0 e1) ?_
  refine sum_four (h0 _ _ ?_ ?_ ?_) (h1 _ (idx_main_v4 I 0) rfl e0 e1) (h1 _ (idx_main_v4 I 1) rfl e0 e1) (h1 _ (idx_main_v4 I 2) rfl e0 e1)
  · rfl
  · exact (row_eq I).trans e0
  · exact (col_eq I).trans e1

/-- After the run the array of window 8 is the reference's. -/
theorem final_v (c : Dev nD) : (dats m (ok m) 0 c).arrAt 8 (cfgM m (ok m)).N
    = Cert.AdamwOutRefIdeal.Read.val_main_v16 (F := Ideal) (m ((c : Thread nD τ).loc main_arg0)) (m ((c : Thread nD τ).loc main_arg1)) (m ((c : Thread nD τ).loc main_arg4)) := by
  refine (dats m (ok m) 0 c).arrAt_eq_of_covers 8 _ ⟨?_, fun β => ?_⟩ fun t _ (y : S256x1024.Idx) => ?_
  · exact (by decide : ∀ a : Fin 2, 0 < S256x1024.size a)
  · have b0 : (β (0 : Fin 2)).val < 1 := lt_of_lt_of_eq (β (0 : Fin 2)).isLt (by show (256 + 256 - 1) / 256 = 1; rfl)
    have b1 : (β (1 : Fin 2)).val < 2 := lt_of_lt_of_eq (β (1 : Fin 2)).isLt (by show (2048 + 1024 - 1) / 1024 = 2; rfl)
    have hN : (β (0 : Fin 2)).val * 2 + (β (1 : Fin 2)).val < 2 := by omega
    refine ⟨(⟨(β (0 : Fin 2)).val * 2 + (β (1 : Fin 2)).val, hN⟩ : Fin 2), flush0_8 _ _, fun a => ⟨?_, .inl rfl⟩⟩
    have h := idx (⟨(β (0 : Fin 2)).val * 2 + (β (1 : Fin 2)).val, hN⟩ : Fin 2)
    match a with
    | ⟨0, _⟩ => exact h.1.trans (by show ((β (0 : Fin 2)).val * 2 + (β (1 : Fin 2)).val) / 2 = (β (0 : Fin 2)).val; omega)
    | ⟨1, _⟩ => exact h.2.trans (by show ((β (0 : Fin 2)).val * 2 + (β (1 : Fin 2)).val) % 2 = (β (1 : Fin 2)).val; omega)
  · have h0 : ((((cfgM m (ok m)).win 8).rect t).emb y (0 : Fin 2) : Nat) = t.val / 2 * 256 + (y 0).val :=
      (Pipeline.Window.rect_emb_val ((cfgM m (ok m)).win 8) t y (0 : Fin 2) rfl).trans (congrArg (· * 256 + (y 0).val) (idx t).1)
    have h1 : ((((cfgM m (ok m)).win 8).rect t).emb y (1 : Fin 2) : Nat) = t.val % 2 * 1024 + (y 1).val :=
      (Pipeline.Window.rect_emb_val ((cfgM m (ok m)).win 8) t y (1 : Fin 2) rfl).trans (congrArg (· * 1024 + (y 1).val) (idx t).2)
    have e := left8 m (ok m) c t
    generalize (dats m (ok m) 0 c).after 8 t = o at e ⊢
    refine Eq.trans (b := o y) rfl ?_
    refine (congrFun e y).trans ?_
    exact (point_v _ _ _ _ _ _ (t.val / 2 * 256) (t.val % 2 * 1024) (block0 m c t) (block1 m c t) (block4 m c t) y _ h0 h1)

/-- Every execution ends with the four result arrays at what the blocks leave, and the arguments as they were. -/
theorem run_blocks (ρ : Dev nD → PrngReg) : θ_run defs (onTc (τ := τ) (main (F := Ideal))) ⟨m, fun _ => 0, ρ⟩ (fun r => ∀ c : Dev nD,
      r.2.mem ((c : Thread nD τ).loc main_v1_0) = (dats m (ok m) 0 c).arrAt 5 (cfgM m (ok m)).N
      ∧ r.2.mem ((c : Thread nD τ).loc main_v1_1) = (dats m (ok m) 0 c).arrAt 6 (cfgM m (ok m)).N
      ∧ r.2.mem ((c : Thread nD τ).loc main_v1_2) = (dats m (ok m) 0 c).arrAt 7 (cfgM m (ok m)).N
      ∧ r.2.mem ((c : Thread nD τ).loc main_v1_3) = (dats m (ok m) 0 c).arrAt 8 (cfgM m (ok m)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun r h c => ⟨(h c).1 5, (h c).1 6, (h c).1 7, (h c).1 8,
    ((h c).1 0).trans (((dats m (ok m) 0 c).arrAt_in 0 rfl _).trans ((A_eq m (ok m) c 0).trans (V_main_arg0 m c))),
    ((h c).1 1).trans (((dats m (ok m) 0 c).arrAt_in 1 rfl _).trans ((A_eq m (ok m) c 1).trans (V_main_arg1 m c))),
    ((h c).1 2).trans (((dats m (ok m) 0 c).arrAt_in 2 rfl _).trans ((A_eq m (ok m) c 2).trans (V_main_arg2 m c))),
    ((h c).1 3).trans (((dats m (ok m) 0 c).arrAt_in 3 rfl _).trans ((A_eq m (ok m) c 3).trans (V_main_arg3 m c))),
    ((h c).1 4).trans (((dats m (ok m) 0 c).arrAt_in 4 rfl _).trans ((A_eq m (ok m) c 4).trans (V_main_arg4 m c)))⟩)
    (run_main m ρ (ok m))

end Cert.AdamwOutIdeal.Value

end
-- ==== Proof.lean ====
module

public import proofs.«01_k».proof.Defs
public import proofs.«01_k».proof.Proof.DownWeightValue
public import proofs.«01_k».proof.Proof.Gen.DownWeight
public import proofs.«01_k».proof.Proof.Gen.DownWeight.Frame
public import proofs.«01_k».proof.Proof.GateUpWeightValue
public import proofs.«01_k».proof.Proof.Gen.GateUpWeight
public import proofs.«01_k».proof.Proof.Gen.GateUpWeight.Frame
public import proofs.«01_k».proof.Proof.FfnInputValue
public import proofs.«01_k».proof.Proof.Gen.FfnInput
public import proofs.«01_k».proof.Proof.Gen.FfnInput.Frame
public import proofs.«01_k».proof.Proof.InWeightValue
public import proofs.«01_k».proof.Proof.Gen.InWeight
public import proofs.«01_k».proof.Proof.Gen.InWeight.Frame
public import proofs.«01_k».proof.Proof.InInputValue
public import proofs.«01_k».proof.Proof.Gen.InInput
public import proofs.«01_k».proof.Proof.Gen.InInput.Frame
public import proofs.«01_k».proof.Proof.MixOutInputValue
public import proofs.«01_k».proof.Proof.Gen.MixOutInput
public import proofs.«01_k».proof.Proof.Gen.MixOutInput.Frame
public import proofs.«01_k».proof.Proof.MixOutWeightValue
public import proofs.«01_k».proof.Proof.Gen.MixOutWeight
public import proofs.«01_k».proof.Proof.Gen.MixOutWeight.Frame
public import proofs.«01_k».proof.Proof.MergeInputValue
public import proofs.«01_k».proof.Proof.Gen.MergeInput
public import proofs.«01_k».proof.Proof.Gen.MergeInput.Frame
public import proofs.«01_k».proof.Proof.MergeWeightValue
public import proofs.«01_k».proof.Proof.Gen.MergeWeight
public import proofs.«01_k».proof.Proof.Gen.MergeWeight.Frame
public import proofs.«01_k».proof.Proof.GluWeightValue
public import proofs.«01_k».proof.Proof.Gen.GluWeight
public import proofs.«01_k».proof.Proof.Gen.GluWeight.Frame
public import proofs.«01_k».proof.Proof.FfnGateValue
public import proofs.«01_k».proof.Proof.Gen.FfnGate
public import proofs.«01_k».proof.Proof.Gen.FfnGate.Frame
public import proofs.«01_k».proof.Proof.FfnUpValue
public import proofs.«01_k».proof.Proof.Gen.FfnUp
public import proofs.«01_k».proof.Proof.Gen.FfnUp.Frame
public import proofs.«01_k».proof.Proof.FfnDownValue
public import proofs.«01_k».proof.Proof.Gen.FfnDown
public import proofs.«01_k».proof.Proof.Gen.FfnDown.Frame
public import proofs.«01_k».proof.Proof.InProjValue
public import proofs.«01_k».proof.Proof.Gen.InProj
public import proofs.«01_k».proof.Proof.Gen.InProj.Frame
public import proofs.«01_k».proof.Proof.MixMergeValue
public import proofs.«01_k».proof.Proof.Gen.MixMerge
public import proofs.«01_k».proof.Proof.Gen.MixMerge.Frame
public import proofs.«01_k».proof.Proof.MixOutValue
public import proofs.«01_k».proof.Proof.Gen.MixOut
public import proofs.«01_k».proof.Proof.Gen.MixOut.Frame
public import proofs.«01_k».proof.Proof.ScanValue
public import proofs.«01_k».proof.Proof.ScanSame
public import proofs.«01_k».proof.Proof.Gen.Scan
public import proofs.«01_k».proof.Proof.FfnActValue
public import proofs.«01_k».proof.Proof.Gen.FfnAct
public import proofs.«01_k».proof.Proof.Gen.FfnAct.Frame
public import proofs.«01_k».proof.Proof.AdamwConvValue
public import proofs.«01_k».proof.Proof.Gen.AdamwConv
public import proofs.«01_k».proof.Proof.Gen.AdamwConv.Frame
public import proofs.«01_k».proof.Proof.AdamwSmallValue
public import proofs.«01_k».proof.Proof.Gen.AdamwSmall
public import proofs.«01_k».proof.Proof.Gen.AdamwSmall.Frame
public import proofs.«01_k».proof.Proof.AdamwFfnValue
public import proofs.«01_k».proof.Proof.Gen.AdamwFfn
public import proofs.«01_k».proof.Proof.Gen.AdamwFfn.Frame
public import proofs.«01_k».proof.Proof.AdamwInValue
public import proofs.«01_k».proof.Proof.Gen.AdamwIn
public import proofs.«01_k».proof.Proof.Gen.AdamwIn.Frame
public import proofs.«01_k».proof.Proof.AdamwGluValue
public import proofs.«01_k».proof.Proof.Gen.AdamwGlu
public import proofs.«01_k».proof.Proof.Gen.AdamwGlu.Frame
public import proofs.«01_k».proof.Proof.AdamwBranchValue
public import proofs.«01_k».proof.Proof.Gen.AdamwBranch
public import proofs.«01_k».proof.Proof.Gen.AdamwBranch.Frame
public import proofs.«01_k».proof.Proof.AdamwOutValue
public import proofs.«01_k».proof.Proof.Gen.AdamwOut
public import proofs.«01_k».proof.Proof.Gen.AdamwOut.Frame
public import Idealize.ShloMosaic.Lib.Claim
public import Idealize.ShloMosaic.Adequacy
public import Idealize.ShloMosaic.Init

@[expose] public section

set_option maxRecDepth 16384

noncomputable section

open Idealize.ShloMosaic Idealize.SL.Sem

namespace Cert.Proof

/-! ## DownWeight -/

theorem frame_DownWeightRef : Cert.quiescent_DownWeightRefIdeal := fun m g _ =>
  θ_run_mono (Cert.DownWeightRefIdeal.Value.run m g) fun r h => ⟨fun c => (h c).2, sem_eq_zero_of_no_sems (by decide) r.2⟩

theorem algebraic_DownWeight : Cert.algebraic_DownWeightIdeal_DownWeightRefIdeal := by
  pair_intro
  · run_from Cert.DownWeightIdeal.Value.run_blocks m g
  · run_from Cert.DownWeightRefIdeal.Value.run m' g'
    · exact (Cert.DownWeightRefIdeal.Read.val_main_v9_eq ..).trans (Cert.DownWeightIdeal.Value.final m c).symm

/-! ## GateUpWeight -/

theorem frame_GateUpWeightRef : Cert.quiescent_GateUpWeightRefIdeal := fun m g _ =>
  θ_run_mono (Cert.GateUpWeightRefIdeal.Value.run m g) fun r h => ⟨fun c => (h c).2.2, sem_eq_zero_of_no_sems (by decide) r.2⟩

theorem algebraic_GateUpWeight : Cert.algebraic_GateUpWeightIdeal_GateUpWeightRefIdeal := by
  pair_intro
  · run_from Cert.GateUpWeightIdeal.Value.run_blocks m g
  · run_from Cert.GateUpWeightRefIdeal.Value.run m' g'
    · exact (Cert.GateUpWeightRefIdeal.Read.val_main_v9_eq ..).trans (Cert.GateUpWeightIdeal.Value.final_gate m c).symm
    · exact (Cert.GateUpWeightRefIdeal.Read.val_main_v12_eq ..).trans (Cert.GateUpWeightIdeal.Value.final_up m c).symm

/-! ## FfnInput -/

theorem frame_FfnInputRef : Cert.quiescent_FfnInputRefIdeal := fun m g _ =>
  θ_run_mono (Cert.FfnInputRefIdeal.Value.run m g) fun r h => ⟨fun c => (h c).2, sem_eq_zero_of_no_sems (by decide) r.2⟩

theorem algebraic_FfnInput : Cert.algebraic_FfnInputIdeal_FfnInputRefIdeal := by
  pair_intro
  · run_from Cert.FfnInputIdeal.Value.run_blocks m g
  · run_from Cert.FfnInputRefIdeal.Value.run m' g'
    · exact (Cert.FfnInputRefIdeal.Read.val_main_v5_eq ..).trans (Cert.FfnInputIdeal.Value.final m c).symm

/-! ## InWeight -/

theorem frame_InWeightRef : Cert.quiescent_InWeightRefIdeal := fun m g _ =>
  θ_run_mono (Cert.InWeightRefIdeal.Value.run m g) fun r h => ⟨fun c => (h c).2, sem_eq_zero_of_no_sems (by decide) r.2⟩

theorem algebraic_InWeight : Cert.algebraic_InWeightIdeal_InWeightRefIdeal := by
  pair_intro
  · run_from Cert.InWeightIdeal.Value.run_blocks m g
  · run_from Cert.InWeightRefIdeal.Value.run m' g'
    · exact (Cert.InWeightRefIdeal.Read.val_main_v6_eq ..).trans (Cert.InWeightIdeal.Value.final m c).symm

/-! ## InInput -/

theorem frame_InInputRef : Cert.quiescent_InInputRefIdeal := fun m g _ =>
  θ_run_mono (Cert.InInputRefIdeal.Value.run m g) fun r h => ⟨fun c => (h c).2, sem_eq_zero_of_no_sems (by decide) r.2⟩

theorem algebraic_InInput : Cert.algebraic_InInputIdeal_InInputRefIdeal := by
  pair_intro
  · run_from Cert.InInputIdeal.Value.run_blocks m g
  · run_from Cert.InInputRefIdeal.Value.run m' g'
    · exact (Cert.InInputRefIdeal.Read.val_main_v2_eq ..).trans (Cert.InInputIdeal.Value.final m c).symm

/-! ## MixOutInput -/

theorem frame_MixOutInputRef : Cert.quiescent_MixOutInputRefIdeal := fun m g _ =>
  θ_run_mono (Cert.MixOutInputRefIdeal.Value.run m g) fun r h => ⟨fun c => (h c).2.2.2.2, sem_eq_zero_of_no_sems (by decide) r.2⟩

theorem algebraic_MixOutInput : Cert.algebraic_MixOutInputIdeal_MixOutInputRefIdeal := by
  pair_intro
  · run_from Cert.MixOutInputIdeal.Value.run_blocks m g
  · run_from Cert.MixOutInputRefIdeal.Value.run m' g'
    · exact (Cert.MixOutInputRefIdeal.Read.val_main_v31_eq ..).trans (Cert.MixOutInputIdeal.Value.final_ssm m c).symm
    · exact (Cert.MixOutInputRefIdeal.Read.val_main_v32_eq ..).trans (Cert.MixOutInputIdeal.Value.final_conv m c).symm
    · exact (Cert.MixOutInputRefIdeal.Read.val_main_v36_eq ..).trans (Cert.MixOutInputIdeal.Value.final_ssm_gate m c).symm
    · exact (Cert.MixOutInputRefIdeal.Read.val_main_v38_eq ..).trans (Cert.MixOutInputIdeal.Value.final_conv_gate m c).symm

/-! ## MixOutWeight -/

theorem frame_MixOutWeightRef : Cert.quiescent_MixOutWeightRefIdeal := fun m g _ =>
  θ_run_mono (Cert.MixOutWeightRefIdeal.Value.run m g) fun r h => ⟨fun c => (h c).2, sem_eq_zero_of_no_sems (by decide) r.2⟩

theorem algebraic_MixOutWeight : Cert.algebraic_MixOutWeightIdeal_MixOutWeightRefIdeal := by
  pair_intro
  · run_from Cert.MixOutWeightIdeal.Value.run_blocks m g
  · run_from Cert.MixOutWeightRefIdeal.Value.run m' g'
    · exact (Cert.MixOutWeightRefIdeal.Read.val_main_v4_eq ..).trans (Cert.MixOutWeightIdeal.Value.final m c).symm

/-! ## MergeInput -/

theorem frame_MergeInputRef : Cert.quiescent_MergeInputRefIdeal := fun m g _ =>
  θ_run_mono (Cert.MergeInputRefIdeal.Value.run m g) fun r h => ⟨fun c => (h c).2.2.2, sem_eq_zero_of_no_sems (by decide) r.2⟩

theorem algebraic_MergeInput : Cert.algebraic_MergeInputIdeal_MergeInputRefIdeal := by
  pair_intro
  · run_from Cert.MergeInputIdeal.Value.run_blocks m g
  · run_from Cert.MergeInputRefIdeal.Value.run m' g'
    · exact (Cert.MergeInputRefIdeal.Read.val_main_v31_eq ..).trans (Cert.MergeInputIdeal.Value.final_gate m c).symm
    · exact (Cert.MergeInputRefIdeal.Read.val_main_v29_eq ..).trans (Cert.MergeInputIdeal.Value.final_ssm m c).symm
    · exact (Cert.MergeInputRefIdeal.Read.val_main_v26_eq ..).trans (Cert.MergeInputIdeal.Value.final_conv m c).symm

/-! ## MergeWeight -/

theorem frame_MergeWeightRef : Cert.quiescent_MergeWeightRefIdeal := fun m g _ =>
  θ_run_mono (Cert.MergeWeightRefIdeal.Value.run m g) fun r h => ⟨fun c => (h c).2.2, sem_eq_zero_of_no_sems (by decide) r.2⟩

theorem algebraic_MergeWeight : Cert.algebraic_MergeWeightIdeal_MergeWeightRefIdeal := by
  pair_intro
  · run_from Cert.MergeWeightIdeal.Value.run_blocks m g
  · run_from Cert.MergeWeightRefIdeal.Value.run m' g'
    · exact (Cert.MergeWeightRefIdeal.Read.val_main_v9_eq ..).trans (Cert.MergeWeightIdeal.Value.final_ssm m c).symm
    · exact (Cert.MergeWeightRefIdeal.Read.val_main_v12_eq ..).trans (Cert.MergeWeightIdeal.Value.final_conv m c).symm

/-! ## GluWeight -/

theorem frame_GluWeightRef : Cert.quiescent_GluWeightRefIdeal := fun m g _ =>
  θ_run_mono (Cert.GluWeightRefIdeal.Value.run m g) fun r h => ⟨fun c => (h c).2, sem_eq_zero_of_no_sems (by decide) r.2⟩

theorem algebraic_GluWeight : Cert.algebraic_GluWeightIdeal_GluWeightRefIdeal := by
  pair_intro
  · run_from Cert.GluWeightIdeal.Value.run_blocks m g
  · run_from Cert.GluWeightRefIdeal.Value.run m' g'
    · exact (Cert.GluWeightRefIdeal.Read.val_main_v4_eq ..).trans (Cert.GluWeightIdeal.Value.final m c).symm

/-! ## FfnGate -/

theorem frame_FfnGateRef : Cert.quiescent_FfnGateRefIdeal := fun m g _ =>
  θ_run_mono (Cert.FfnGateRefIdeal.Value.run m g) fun r h => ⟨fun c => (h c).2, sem_eq_zero_of_no_sems (by decide) r.2⟩

theorem algebraic_FfnGate : Cert.algebraic_FfnGateIdeal_FfnGateRefIdeal := by
  pair_intro
  · run_from Cert.FfnGateIdeal.Value.run_blocks m g
  · run_from Cert.FfnGateRefIdeal.Value.run m' g'
    · exact (Cert.FfnGateRefIdeal.Read.val_main_v3_eq ..).trans (Cert.FfnGateIdeal.Value.final m c).symm

/-! ## FfnUp -/

theorem frame_FfnUpRef : Cert.quiescent_FfnUpRefIdeal := fun m g _ =>
  θ_run_mono (Cert.FfnUpRefIdeal.Value.run m g) fun r h => ⟨fun c => (h c).2.2.2, sem_eq_zero_of_no_sems (by decide) r.2⟩

theorem algebraic_FfnUp : Cert.algebraic_FfnUpIdeal_FfnUpRefIdeal := by
  pair_intro
  · run_from Cert.FfnUpIdeal.Value.run_blocks m g
  · run_from Cert.FfnUpRefIdeal.Value.run m' g'
    · exact (Cert.FfnUpRefIdeal.Read.val_main_v18_eq ..).trans (Cert.FfnUpIdeal.Value.final_slope m c).symm
    · exact (Cert.FfnUpRefIdeal.Read.val_main_v22_eq ..).trans (Cert.FfnUpIdeal.Value.final_silu m c).symm
    · exact (Cert.FfnUpRefIdeal.Read.val_main_v27_eq ..).trans (Cert.FfnUpIdeal.Value.final_hidden m c).symm

/-! ## FfnDown -/

theorem frame_FfnDownRef : Cert.quiescent_FfnDownRefIdeal := fun m g _ =>
  θ_run_mono (Cert.FfnDownRefIdeal.Value.run m g) fun r h => ⟨fun c => (h c).2, sem_eq_zero_of_no_sems (by decide) r.2⟩

theorem algebraic_FfnDown : Cert.algebraic_FfnDownIdeal_FfnDownRefIdeal := by
  pair_intro
  · run_from Cert.FfnDownIdeal.Value.run_blocks m g
  · run_from Cert.FfnDownRefIdeal.Value.run m' g'
    · exact (Cert.FfnDownRefIdeal.Read.val_main_v3_eq ..).trans (Cert.FfnDownIdeal.Value.final m c).symm

/-! ## InProj -/

theorem frame_InProjRef : Cert.quiescent_InProjRefIdeal := fun m g _ =>
  θ_run_mono (Cert.InProjRefIdeal.Value.run m g) fun r h => ⟨fun c => (h c).2, sem_eq_zero_of_no_sems (by decide) r.2⟩

theorem algebraic_InProj : Cert.algebraic_InProjIdeal_InProjRefIdeal := by
  pair_intro
  · run_from Cert.InProjIdeal.Value.run_blocks m g
  · run_from Cert.InProjRefIdeal.Value.run m' g'
    · exact (Cert.InProjRefIdeal.Read.val_main_v2_eq ..).trans (Cert.InProjIdeal.Value.final m c).symm

/-! ## MixMerge -/

theorem frame_MixMergeRef : Cert.quiescent_MixMergeRefIdeal := fun m g _ =>
  θ_run_mono (Cert.MixMergeRefIdeal.Value.run m g) fun r h => ⟨fun c => (h c).2.2.2, sem_eq_zero_of_no_sems (by decide) r.2⟩

theorem algebraic_MixMerge : Cert.algebraic_MixMergeIdeal_MixMergeRefIdeal := by
  pair_intro
  · run_from Cert.MixMergeIdeal.Value.run_blocks m g
  · run_from Cert.MixMergeRefIdeal.Value.run m' g'
    · exact (Cert.MixMergeRefIdeal.Read.val_main_v19_eq ..).trans (Cert.MixMergeIdeal.Value.final_merged m c).symm
    · exact (Cert.MixMergeRefIdeal.Read.val_main_v20_eq ..).trans (Cert.MixMergeIdeal.Value.final_ssm m c).symm
    · exact (Cert.MixMergeRefIdeal.Read.val_main_v21_eq ..).trans (Cert.MixMergeIdeal.Value.final_conv m c).symm

/-! ## MixOut -/

theorem frame_MixOutRef : Cert.quiescent_MixOutRefIdeal := fun m g _ =>
  θ_run_mono (Cert.MixOutRefIdeal.Value.run m g) fun r h => ⟨fun c => (h c).2, sem_eq_zero_of_no_sems (by decide) r.2⟩

theorem algebraic_MixOut : Cert.algebraic_MixOutIdeal_MixOutRefIdeal := by
  pair_intro
  · run_from Cert.MixOutIdeal.Value.run_blocks m g
  · run_from Cert.MixOutRefIdeal.Value.run m' g'
    · exact (Cert.MixOutRefIdeal.Read.val_main_v1_eq ..).trans (Cert.MixOutIdeal.Value.final m c).symm

/-! ## Scan -/

/-- The two calls leave their arguments as they were. -/
theorem args_Scan {F : FTy → Type} [FloatOps F] (m : (ℓ : Loc Cert.ScanIdeal.nD Cert.ScanIdeal.τ Cert.ScanIdeal.sig) → Buf (Elt F) ℓ)
    {r : PUnit × MemSt Cert.ScanIdeal.nD Cert.ScanIdeal.τ Cert.ScanIdeal.sig (Elt F)}
    (h : ∀ c : Dev Cert.ScanIdeal.nD, ∀ b ∈ Pipeline.ucRefs Cert.ScanIdeal.τ Cert.ScanIdeal.sig, r.2.mem ((c.tc : Thread Cert.ScanIdeal.nD Cert.ScanIdeal.τ).1, b) = Cert.ScanIdeal.Run.V2 m c b) (c : Dev Cert.ScanIdeal.nD) :
    r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5) :=
  ⟨(h c _ (Pipeline.devRef_mem_ucRefs (b := Cert.ScanIdeal.main_arg0) rfl)).trans (Cert.ScanIdeal.Run.V2_arg0 m c),
    (h c _ (Pipeline.devRef_mem_ucRefs (b := Cert.ScanIdeal.main_arg1) rfl)).trans (Cert.ScanIdeal.Run.V2_arg1 m c),
    (h c _ (Pipeline.devRef_mem_ucRefs (b := Cert.ScanIdeal.main_arg2) rfl)).trans (Cert.ScanIdeal.Run.V2_arg2 m c),
    (h c _ (Pipeline.devRef_mem_ucRefs (b := Cert.ScanIdeal.main_arg3) rfl)).trans (Cert.ScanIdeal.Run.V2_arg3 m c),
    (h c _ (Pipeline.devRef_mem_ucRefs (b := Cert.ScanIdeal.main_arg4) rfl)).trans (Cert.ScanIdeal.Run.V2_arg4 m c),
    (h c _ (Pipeline.devRef_mem_ucRefs (b := Cert.ScanIdeal.main_arg5) rfl)).trans (Cert.ScanIdeal.Run.V2_arg5 m c)⟩

theorem frame_Scan : Cert.quiescent_Scan := by
  intro m g _
  have h := (θ_run (Cert.ScanIdeal.defs (F := Bits)) _ _).mono (fun _ h => And.intro (args_Scan m h.1) h.2) (Cert.ScanIdeal.Run.run_main (F := Bits) m g)
  rw [Cert.ScanSame.same_defs]
  exact h

theorem frame_ScanIdeal : Cert.quiescent_ScanIdeal := fun m g _ =>
  (θ_run (Cert.ScanIdeal.defs (F := Ideal)) _ _).mono (fun _ h => ⟨args_Scan m h.1, h.2⟩) (Cert.ScanIdeal.Run.run_main (F := Ideal) m g)

/-- The reference leaves its arguments as they were. -/
theorem args_ScanRef (m : (ℓ : Loc Cert.ScanRefIdeal.nD Cert.ScanRefIdeal.τ Cert.ScanRefIdeal.sig) → Buf (Elt Ideal) ℓ)
    {r : PUnit × MemSt Cert.ScanRefIdeal.nD Cert.ScanRefIdeal.τ Cert.ScanRefIdeal.sig (Elt Ideal)}
    (h : ∀ (c : Dev Cert.ScanRefIdeal.nD) (b : Ref Cert.ScanRefIdeal.sig .tc), (Proc.devRef .tc b : DevRef Cert.ScanRefIdeal.τ Cert.ScanRefIdeal.sig).isScoped = false →
      r.2.mem ((c.tc : Thread Cert.ScanRefIdeal.nD Cert.ScanRefIdeal.τ).loc b) = Cert.ScanRefIdeal.Ops.Z m c (Proc.devRef .tc b)) (c : Dev Cert.ScanRefIdeal.nD) :
    r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4)
      ∧ r.2.mem ((c.tc : Thread Cert.ScanRefIdeal.nD Cert.ScanRefIdeal.τ).loc Cert.ScanRefIdeal.main_arg5) = m ((c.tc : Thread Cert.ScanRefIdeal.nD Cert.ScanRefIdeal.τ).loc Cert.ScanRefIdeal.main_arg5) :=
  ⟨(h c Cert.ScanRefIdeal.main_arg0 rfl).trans (Cert.ScanRefIdeal.Ops.Z_arg0 m c),
    (h c Cert.ScanRefIdeal.main_arg1 rfl).trans (Cert.ScanRefIdeal.Ops.Z_arg1 m c),
    (h c Cert.ScanRefIdeal.main_arg2 rfl).trans (Cert.ScanRefIdeal.Ops.Z_arg2 m c),
    (h c Cert.ScanRefIdeal.main_arg3 rfl).trans (Cert.ScanRefIdeal.Ops.Z_arg3 m c),
    (h c Cert.ScanRefIdeal.main_arg4 rfl).trans (Cert.ScanRefIdeal.Ops.Z_arg4 m c),
    (h c Cert.ScanRefIdeal.main_arg5 rfl).trans (Cert.ScanRefIdeal.Ops.Z_arg5 m c)⟩

theorem frame_ScanRef : Cert.quiescent_ScanRefIdeal := fun m g _ =>
  θ_run_mono (Cert.ScanRefIdeal.Ops.run_main (F := Ideal) m g) fun r h => ⟨args_ScanRef m h, sem_eq_zero_of_no_sems (by decide) r.2⟩

theorem algebraic_Scan : Cert.algebraic_ScanIdeal_ScanRefIdeal := by
  intro m g m' g' _ hag
  have H : ∀ c, Cert.ScanEq.Agree m m' c := fun c =>
    ⟨(hag c).1, (hag c).2.1, (hag c).2.2.1, (hag c).2.2.2.1, (hag c).2.2.2.2.1, (hag c).2.2.2.2.2⟩
  refine ⟨_, _, _, _, θ_run_mono (Cert.ScanIdeal.Run.run_main (F := Ideal) m g) fun r h c =>
    ⟨(h.1 c _ (Pipeline.devRef_mem_ucRefs (b := Cert.ScanIdeal.main_v1_0) rfl)).trans (Cert.ScanIdeal.Run.V2_v1_0 m c),
      (h.1 c _ (Pipeline.devRef_mem_ucRefs (b := Cert.ScanIdeal.main_v1_1) rfl)).trans (Cert.ScanIdeal.Run.V2_v1_1 m c),
      (h.1 c _ (Pipeline.devRef_mem_ucRefs (b := Cert.ScanIdeal.main_v1_2) rfl)).trans (Cert.ScanIdeal.Run.V2_v1_2 m c),
      (h.1 c _ (Pipeline.devRef_mem_ucRefs (b := Cert.ScanIdeal.main_v1_3) rfl)).trans (Cert.ScanIdeal.Run.V2_v1_3 m c), args_Scan m h.1 c⟩,
    θ_run_mono (Cert.ScanRefIdeal.Ops.run_main (F := Ideal) m' g') fun r h c =>
      ⟨(h c Cert.ScanRefIdeal.main_v14_11 rfl).trans (Cert.ScanEq.adjoint_re (H c)), (h c Cert.ScanRefIdeal.main_v14_12 rfl).trans (Cert.ScanEq.adjoint_im (H c)),
        (h c Cert.ScanRefIdeal.main_v14_7 rfl).trans (Cert.ScanEq.sum_re (H c)), (h c Cert.ScanRefIdeal.main_v14_8 rfl).trans (Cert.ScanEq.sum_im (H c)), args_ScanRef m' h c⟩⟩

/-! ## FfnAct -/

theorem frame_FfnActRef : Cert.quiescent_FfnActRefIdeal := fun m g _ =>
  θ_run_mono (Cert.FfnActRefIdeal.Value.run m g) fun r h => ⟨fun c => (h c).2.2, sem_eq_zero_of_no_sems (by decide) r.2⟩

theorem algebraic_FfnAct : Cert.algebraic_FfnActIdeal_FfnActRefIdeal := by
  pair_intro
  · run_from Cert.FfnActIdeal.Value.run_blocks m g
  · run_from Cert.FfnActRefIdeal.Value.run m' g'
    · exact (Cert.FfnActRefIdeal.Read.val_main_v10_eq ..).trans (Cert.FfnActIdeal.Value.final_gate m c).symm
    · exact (Cert.FfnActRefIdeal.Read.val_main_v14_eq ..).trans (Cert.FfnActIdeal.Value.final_up m c).symm

/-! ## AdamwConv -/

theorem frame_AdamwConvRef : Cert.quiescent_AdamwConvRefIdeal := fun m g _ =>
  θ_run_mono (Cert.AdamwConvRefIdeal.Value.run m g) fun r h => ⟨fun c => (h c).2.2.2.2, sem_eq_zero_of_no_sems (by decide) r.2⟩

theorem algebraic_AdamwConv : Cert.algebraic_AdamwConvIdeal_AdamwConvRefIdeal := by
  pair_intro
  · run_from Cert.AdamwConvIdeal.Value.run_blocks m g
  · run_from Cert.AdamwConvRefIdeal.Value.run m' g'
    · exact (Cert.AdamwConvIdeal.Value.final_grad m c).symm
    · exact (Cert.AdamwConvRefIdeal.Read.val_main_v23_eq ..).trans (Cert.AdamwConvIdeal.Value.final_delta m c).symm
    · exact (Cert.AdamwConvRefIdeal.Read.val_main_v4_eq ..).trans (Cert.AdamwConvIdeal.Value.final_m m c).symm
    · exact (Cert.AdamwConvRefIdeal.Read.val_main_v10_eq ..).trans (Cert.AdamwConvIdeal.Value.final_v m c).symm

/-! ## AdamwSmall -/

theorem frame_AdamwSmallRef : Cert.quiescent_AdamwSmallRefIdeal := fun m g _ =>
  θ_run_mono (Cert.AdamwSmallRefIdeal.Value.run m g) fun r h => ⟨fun c => (h c).2.2.2.2, sem_eq_zero_of_no_sems (by decide) r.2⟩

theorem algebraic_AdamwSmall : Cert.algebraic_AdamwSmallIdeal_AdamwSmallRefIdeal := by
  pair_intro
  · run_from Cert.AdamwSmallIdeal.Value.run_blocks m g
  · refine θ_run_mono (Cert.AdamwSmallRefIdeal.Value.run m' g') fun r h c => ?_
    obtain ⟨h0, h1, h2, h3⟩ := hagree c
    refine ⟨((h c).1).trans ((Cert.AdamwSmallRefIdeal.Read.val_main_v0_eq ..).trans ?_),
      ((h c).2.1).trans ((Cert.AdamwSmallRefIdeal.Read.val_main_v24_eq ..).trans ?_),
      ((h c).2.2.1).trans ((Cert.AdamwSmallRefIdeal.Read.val_main_v5_eq ..).trans ?_),
      ((h c).2.2.2.1).trans ((Cert.AdamwSmallRefIdeal.Read.val_main_v11_eq ..).trans ?_), (h c).2.2.2.2⟩
    · rw [h0]; exact (Cert.AdamwSmallIdeal.Value.final_grad m c).symm
    · rw [h0, h1, h2, h3]; exact (Cert.AdamwSmallIdeal.Value.final_delta m c).symm
    · rw [h0, h2]; exact (Cert.AdamwSmallIdeal.Value.final_m m c).symm
    · rw [h0, h3]; exact (Cert.AdamwSmallIdeal.Value.final_v m c).symm

/-! ## AdamwFfn -/

theorem frame_AdamwFfnRef : Cert.quiescent_AdamwFfnRefIdeal := fun m g _ =>
  θ_run_mono (Cert.AdamwFfnRefIdeal.Value.run m g) fun r h => ⟨fun c => (h c).2.2.2.2, sem_eq_zero_of_no_sems (by decide) r.2⟩

theorem algebraic_AdamwFfn : Cert.algebraic_AdamwFfnIdeal_AdamwFfnRefIdeal := by
  pair_intro
  · run_from Cert.AdamwFfnIdeal.Value.run_blocks m g
  · refine θ_run_mono (Cert.AdamwFfnRefIdeal.Value.run m' g') fun r h c => ?_
    obtain ⟨h0, h1, h2, h3, h4⟩ := hagree c
    refine ⟨((h c).1).trans ((Cert.AdamwFfnRefIdeal.Read.val_main_v5_eq ..).trans ?_),
      ((h c).2.1).trans ((Cert.AdamwFfnRefIdeal.Read.val_main_v29_eq ..).trans ?_),
      ((h c).2.2.1).trans ((Cert.AdamwFfnRefIdeal.Read.val_main_v10_eq ..).trans ?_),
      ((h c).2.2.2.1).trans ((Cert.AdamwFfnRefIdeal.Read.val_main_v16_eq ..).trans ?_), (h c).2.2.2.2⟩
    · rw [h0, h1]; exact (Cert.AdamwFfnIdeal.Value.final_grad m c).symm
    · rw [h0, h1, h2, h3, h4]; exact (Cert.AdamwFfnIdeal.Value.final_delta m c).symm
    · rw [h0, h1, h3]; exact (Cert.AdamwFfnIdeal.Value.final_m m c).symm
    · rw [h0, h1, h4]; exact (Cert.AdamwFfnIdeal.Value.final_v m c).symm

/-! ## AdamwIn -/

theorem frame_AdamwInRef : Cert.quiescent_AdamwInRefIdeal := fun m g _ =>
  θ_run_mono (Cert.AdamwInRefIdeal.Value.run m g) fun r h => ⟨fun c => (h c).2.2.2.2, sem_eq_zero_of_no_sems (by decide) r.2⟩

theorem algebraic_AdamwIn : Cert.algebraic_AdamwInIdeal_AdamwInRefIdeal := by
  pair_intro
  · run_from Cert.AdamwInIdeal.Value.run_blocks m g
  · refine θ_run_mono (Cert.AdamwInRefIdeal.Value.run m' g') fun r h c => ?_
    obtain ⟨h0, h1, h2, h3, h4⟩ := hagree c
    refine ⟨((h c).1).trans ((Cert.AdamwInRefIdeal.Read.val_main_v5_eq ..).trans ?_),
      ((h c).2.1).trans ((Cert.AdamwInRefIdeal.Read.val_main_v29_eq ..).trans ?_),
      ((h c).2.2.1).trans ((Cert.AdamwInRefIdeal.Read.val_main_v10_eq ..).trans ?_),
      ((h c).2.2.2.1).trans ((Cert.AdamwInRefIdeal.Read.val_main_v16_eq ..).trans ?_), (h c).2.2.2.2⟩
    · rw [h0, h1]; exact (Cert.AdamwInIdeal.Value.final_grad m c).symm
    · rw [h0, h1, h2, h3, h4]; exact (Cert.AdamwInIdeal.Value.final_delta m c).symm
    · rw [h0, h1, h3]; exact (Cert.AdamwInIdeal.Value.final_m m c).symm
    · rw [h0, h1, h4]; exact (Cert.AdamwInIdeal.Value.final_v m c).symm

/-! ## AdamwGlu -/

theorem frame_AdamwGluRef : Cert.quiescent_AdamwGluRefIdeal := fun m g _ =>
  θ_run_mono (Cert.AdamwGluRefIdeal.Value.run m g) fun r h => ⟨fun c => (h c).2.2.2.2, sem_eq_zero_of_no_sems (by decide) r.2⟩

theorem algebraic_AdamwGlu : Cert.algebraic_AdamwGluIdeal_AdamwGluRefIdeal := by
  pair_intro
  · run_from Cert.AdamwGluIdeal.Value.run_blocks m g
  · refine θ_run_mono (Cert.AdamwGluRefIdeal.Value.run m' g') fun r h c => ?_
    obtain ⟨h0, h1, h2, h3, h4⟩ := hagree c
    refine ⟨((h c).1).trans ((Cert.AdamwGluRefIdeal.Read.val_main_v5_eq ..).trans ?_),
      ((h c).2.1).trans ((Cert.AdamwGluRefIdeal.Read.val_main_v29_eq ..).trans ?_),
      ((h c).2.2.1).trans ((Cert.AdamwGluRefIdeal.Read.val_main_v10_eq ..).trans ?_),
      ((h c).2.2.2.1).trans ((Cert.AdamwGluRefIdeal.Read.val_main_v16_eq ..).trans ?_), (h c).2.2.2.2⟩
    · rw [h0, h1]; exact (Cert.AdamwGluIdeal.Value.final_grad m c).symm
    · rw [h0, h1, h2, h3, h4]; exact (Cert.AdamwGluIdeal.Value.final_delta m c).symm
    · rw [h0, h1, h3]; exact (Cert.AdamwGluIdeal.Value.final_m m c).symm
    · rw [h0, h1, h4]; exact (Cert.AdamwGluIdeal.Value.final_v m c).symm

/-! ## AdamwBranch -/

theorem frame_AdamwBranchRef : Cert.quiescent_AdamwBranchRefIdeal := fun m g _ =>
  θ_run_mono (Cert.AdamwBranchRefIdeal.Value.run m g) fun r h => ⟨fun c => (h c).2.2.2.2, sem_eq_zero_of_no_sems (by decide) r.2⟩

theorem algebraic_AdamwBranch : Cert.algebraic_AdamwBranchIdeal_AdamwBranchRefIdeal := by
  pair_intro
  · run_from Cert.AdamwBranchIdeal.Value.run_blocks m g
  · refine θ_run_mono (Cert.AdamwBranchRefIdeal.Value.run m' g') fun r h c => ?_
    obtain ⟨h0, h1, h2, h3, h4⟩ := hagree c
    refine ⟨((h c).1).trans ((Cert.AdamwBranchRefIdeal.Read.val_main_v5_eq ..).trans ?_),
      ((h c).2.1).trans ((Cert.AdamwBranchRefIdeal.Read.val_main_v29_eq ..).trans ?_),
      ((h c).2.2.1).trans ((Cert.AdamwBranchRefIdeal.Read.val_main_v10_eq ..).trans ?_),
      ((h c).2.2.2.1).trans ((Cert.AdamwBranchRefIdeal.Read.val_main_v16_eq ..).trans ?_), (h c).2.2.2.2⟩
    · rw [h0, h1]; exact (Cert.AdamwBranchIdeal.Value.final_grad m c).symm
    · rw [h0, h1, h2, h3, h4]; exact (Cert.AdamwBranchIdeal.Value.final_delta m c).symm
    · rw [h0, h1, h3]; exact (Cert.AdamwBranchIdeal.Value.final_m m c).symm
    · rw [h0, h1, h4]; exact (Cert.AdamwBranchIdeal.Value.final_v m c).symm

/-! ## AdamwOut -/

theorem frame_AdamwOutRef : Cert.quiescent_AdamwOutRefIdeal := fun m g _ =>
  θ_run_mono (Cert.AdamwOutRefIdeal.Value.run m g) fun r h => ⟨fun c => (h c).2.2.2.2, sem_eq_zero_of_no_sems (by decide) r.2⟩

theorem algebraic_AdamwOut : Cert.algebraic_AdamwOutIdeal_AdamwOutRefIdeal := by
  pair_intro
  · run_from Cert.AdamwOutIdeal.Value.run_blocks m g
  · refine θ_run_mono (Cert.AdamwOutRefIdeal.Value.run m' g') fun r h c => ?_
    obtain ⟨h0, h1, h2, h3, h4⟩ := hagree c
    refine ⟨((h c).1).trans ((Cert.AdamwOutRefIdeal.Read.val_main_v5_eq ..).trans ?_),
      ((h c).2.1).trans ((Cert.AdamwOutRefIdeal.Read.val_main_v29_eq ..).trans ?_),
      ((h c).2.2.1).trans ((Cert.AdamwOutRefIdeal.Read.val_main_v10_eq ..).trans ?_),
      ((h c).2.2.2.1).trans ((Cert.AdamwOutRefIdeal.Read.val_main_v16_eq ..).trans ?_), (h c).2.2.2.2⟩
    · rw [h0, h1]; exact (Cert.AdamwOutIdeal.Value.final_grad m c).symm
    · rw [h0, h1, h2, h3, h4]; exact (Cert.AdamwOutIdeal.Value.final_delta m c).symm
    · rw [h0, h1, h3]; exact (Cert.AdamwOutIdeal.Value.final_m m c).symm
    · rw [h0, h1, h4]; exact (Cert.AdamwOutIdeal.Value.final_v m c).symm

theorem claim : Cert.Claim :=
  ⟨Cert.DownWeight.Gen.facts, Cert.DownWeightIdeal.Gen.facts, Cert.DownWeightRefIdeal.Gen.facts,
    Cert.GateUpWeight.Gen.facts, Cert.GateUpWeightIdeal.Gen.facts, Cert.GateUpWeightRefIdeal.Gen.facts,
    Cert.FfnInput.Gen.facts, Cert.FfnInputIdeal.Gen.facts, Cert.FfnInputRefIdeal.Gen.facts,
    Cert.InWeight.Gen.facts, Cert.InWeightIdeal.Gen.facts, Cert.InWeightRefIdeal.Gen.facts,
    Cert.InInput.Gen.facts, Cert.InInputIdeal.Gen.facts, Cert.InInputRefIdeal.Gen.facts,
    Cert.MixOutInput.Gen.facts, Cert.MixOutInputIdeal.Gen.facts, Cert.MixOutInputRefIdeal.Gen.facts,
    Cert.MixOutWeight.Gen.facts, Cert.MixOutWeightIdeal.Gen.facts, Cert.MixOutWeightRefIdeal.Gen.facts,
    Cert.MergeInput.Gen.facts, Cert.MergeInputIdeal.Gen.facts, Cert.MergeInputRefIdeal.Gen.facts,
    Cert.MergeWeight.Gen.facts, Cert.MergeWeightIdeal.Gen.facts, Cert.MergeWeightRefIdeal.Gen.facts,
    Cert.GluWeight.Gen.facts, Cert.GluWeightIdeal.Gen.facts, Cert.GluWeightRefIdeal.Gen.facts,
    Cert.FfnGate.Gen.facts, Cert.FfnGateIdeal.Gen.facts, Cert.FfnGateRefIdeal.Gen.facts,
    Cert.FfnUp.Gen.facts, Cert.FfnUpIdeal.Gen.facts, Cert.FfnUpRefIdeal.Gen.facts,
    Cert.FfnDown.Gen.facts, Cert.FfnDownIdeal.Gen.facts, Cert.FfnDownRefIdeal.Gen.facts,
    Cert.InProj.Gen.facts, Cert.InProjIdeal.Gen.facts, Cert.InProjRefIdeal.Gen.facts,
    Cert.MixMerge.Gen.facts, Cert.MixMergeIdeal.Gen.facts, Cert.MixMergeRefIdeal.Gen.facts,
    Cert.MixOut.Gen.facts, Cert.MixOutIdeal.Gen.facts, Cert.MixOutRefIdeal.Gen.facts,
    Cert.Scan.Gen.facts, Cert.ScanIdeal.Gen.facts, Cert.ScanRefIdeal.Gen.facts,
    Cert.FfnAct.Gen.facts, Cert.FfnActIdeal.Gen.facts, Cert.FfnActRefIdeal.Gen.facts,
    Cert.AdamwConv.Gen.facts, Cert.AdamwConvIdeal.Gen.facts, Cert.AdamwConvRefIdeal.Gen.facts,
    Cert.AdamwSmall.Gen.facts, Cert.AdamwSmallIdeal.Gen.facts, Cert.AdamwSmallRefIdeal.Gen.facts,
    Cert.AdamwFfn.Gen.facts, Cert.AdamwFfnIdeal.Gen.facts, Cert.AdamwFfnRefIdeal.Gen.facts,
    Cert.AdamwIn.Gen.facts, Cert.AdamwInIdeal.Gen.facts, Cert.AdamwInRefIdeal.Gen.facts,
    Cert.AdamwGlu.Gen.facts, Cert.AdamwGluIdeal.Gen.facts, Cert.AdamwGluRefIdeal.Gen.facts,
    Cert.AdamwBranch.Gen.facts, Cert.AdamwBranchIdeal.Gen.facts, Cert.AdamwBranchRefIdeal.Gen.facts,
    Cert.AdamwOut.Gen.facts, Cert.AdamwOutIdeal.Gen.facts, Cert.AdamwOutRefIdeal.Gen.facts,
    fun m g _ => Cert.DownWeight.Gen.frame m g, fun m g _ => Cert.DownWeightIdeal.Gen.frame m g, frame_DownWeightRef,
    fun m g _ => Cert.GateUpWeight.Gen.frame m g, fun m g _ => Cert.GateUpWeightIdeal.Gen.frame m g, frame_GateUpWeightRef,
    fun m g _ => Cert.FfnInput.Gen.frame m g, fun m g _ => Cert.FfnInputIdeal.Gen.frame m g, frame_FfnInputRef,
    fun m g _ => Cert.InWeight.Gen.frame m g, fun m g _ => Cert.InWeightIdeal.Gen.frame m g, frame_InWeightRef,
    fun m g _ => Cert.InInput.Gen.frame m g, fun m g _ => Cert.InInputIdeal.Gen.frame m g, frame_InInputRef,
    fun m g _ => Cert.MixOutInput.Gen.frame m g, fun m g _ => Cert.MixOutInputIdeal.Gen.frame m g, frame_MixOutInputRef,
    fun m g _ => Cert.MixOutWeight.Gen.frame m g, fun m g _ => Cert.MixOutWeightIdeal.Gen.frame m g, frame_MixOutWeightRef,
    fun m g _ => Cert.MergeInput.Gen.frame m g, fun m g _ => Cert.MergeInputIdeal.Gen.frame m g, frame_MergeInputRef,
    fun m g _ => Cert.MergeWeight.Gen.frame m g, fun m g _ => Cert.MergeWeightIdeal.Gen.frame m g, frame_MergeWeightRef,
    fun m g _ => Cert.GluWeight.Gen.frame m g, fun m g _ => Cert.GluWeightIdeal.Gen.frame m g, frame_GluWeightRef,
    fun m g _ => Cert.FfnGate.Gen.frame m g, fun m g _ => Cert.FfnGateIdeal.Gen.frame m g, frame_FfnGateRef,
    fun m g _ => Cert.FfnUp.Gen.frame m g, fun m g _ => Cert.FfnUpIdeal.Gen.frame m g, frame_FfnUpRef,
    fun m g _ => Cert.FfnDown.Gen.frame m g, fun m g _ => Cert.FfnDownIdeal.Gen.frame m g, frame_FfnDownRef,
    fun m g _ => Cert.InProj.Gen.frame m g, fun m g _ => Cert.InProjIdeal.Gen.frame m g, frame_InProjRef,
    fun m g _ => Cert.MixMerge.Gen.frame m g, fun m g _ => Cert.MixMergeIdeal.Gen.frame m g, frame_MixMergeRef,
    fun m g _ => Cert.MixOut.Gen.frame m g, fun m g _ => Cert.MixOutIdeal.Gen.frame m g, frame_MixOutRef,
    frame_Scan, frame_ScanIdeal, frame_ScanRef,
    fun m g _ => Cert.FfnAct.Gen.frame m g, fun m g _ => Cert.FfnActIdeal.Gen.frame m g, frame_FfnActRef,
    fun m g _ => Cert.AdamwConv.Gen.frame m g, fun m g _ => Cert.AdamwConvIdeal.Gen.frame m g, frame_AdamwConvRef,
    fun m g _ => Cert.AdamwSmall.Gen.frame m g, fun m g _ => Cert.AdamwSmallIdeal.Gen.frame m g, frame_AdamwSmallRef,
    fun m g _ => Cert.AdamwFfn.Gen.frame m g (Cert.AdamwFfn.Value.ok m), fun m g _ => Cert.AdamwFfnIdeal.Gen.frame m g (Cert.AdamwFfnIdeal.Value.ok m), frame_AdamwFfnRef,
    fun m g _ => Cert.AdamwIn.Gen.frame m g (Cert.AdamwIn.Value.ok m), fun m g _ => Cert.AdamwInIdeal.Gen.frame m g (Cert.AdamwInIdeal.Value.ok m), frame_AdamwInRef,
    fun m g _ => Cert.AdamwGlu.Gen.frame m g (Cert.AdamwGlu.Value.ok m), fun m g _ => Cert.AdamwGluIdeal.Gen.frame m g (Cert.AdamwGluIdeal.Value.ok m), frame_AdamwGluRef,
    fun m g _ => Cert.AdamwBranch.Gen.frame m g (Cert.AdamwBranch.Value.ok m), fun m g _ => Cert.AdamwBranchIdeal.Gen.frame m g (Cert.AdamwBranchIdeal.Value.ok m), frame_AdamwBranchRef,
    fun m g _ => Cert.AdamwOut.Gen.frame m g (Cert.AdamwOut.Value.ok m), fun m g _ => Cert.AdamwOutIdeal.Gen.frame m g (Cert.AdamwOutIdeal.Value.ok m), frame_AdamwOutRef,
    trivial, algebraic_DownWeight,
    trivial, algebraic_GateUpWeight,
    trivial, algebraic_FfnInput,
    trivial, algebraic_InWeight,
    trivial, algebraic_InInput,
    trivial, algebraic_MixOutInput,
    trivial, algebraic_MixOutWeight,
    trivial, algebraic_MergeInput,
    trivial, algebraic_MergeWeight,
    trivial, algebraic_GluWeight,
    trivial, algebraic_FfnGate,
    trivial, algebraic_FfnUp,
    trivial, algebraic_FfnDown,
    trivial, algebraic_InProj,
    trivial, algebraic_MixMerge,
    trivial, algebraic_MixOut,
    trivial, algebraic_Scan,
    trivial, algebraic_FfnAct,
    trivial, algebraic_AdamwConv,
    trivial, algebraic_AdamwSmall,
    trivial, algebraic_AdamwFfn,
    trivial, algebraic_AdamwIn,
    trivial, algebraic_AdamwGlu,
    trivial, algebraic_AdamwBranch,
    trivial, algebraic_AdamwOut⟩

end Cert.Proof

end
